-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite2 [hPre_finite2 : Cert.Pre_finite2.Facts] (m : (ℓ : Loc Cert.LossIdeal.nD Cert.LossIdeal.τ Cert.LossIdeal.sig) → Buf (Elt Ideal) ℓ) : Prop :=
  ∀ c : Dev Cert.LossIdeal.nD,
    (Cert.Pre_finite2.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite2.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite2.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite2 [hPre_finite2 : Cert.Pre_finite2.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite2.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite2.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite2.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite3 [hPre_finite3 : Cert.Pre_finite3.Facts] (m : (ℓ : Loc Cert.RetIdeal.nD Cert.RetIdeal.τ Cert.RetIdeal.sig) → Buf (Elt Ideal) ℓ) : Prop :=
  ∀ c : Dev Cert.RetIdeal.nD,
    (Cert.Pre_finite3.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))).1 = (fun _ => 1#1)
    ∧ (Cert.Pre_finite3.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))).2.1 = (fun _ => 1#1)
    ∧ (Cert.Pre_finite3.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))).2.2.1 = (fun _ => 1#1)
    ∧ (Cert.Pre_finite3.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))).2.2.2.1 = (fun _ => 1#1)
    ∧ (Cert.Pre_finite3.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))).2.2.2.2.1 = (fun _ => 1#1)
    ∧ (Cert.Pre_finite3.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))).2.2.2.2.2 = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite3 [hPre_finite3 : Cert.Pre_finite3.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite3.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))).1 = (fun _ => 1#1)
    ∧ (Cert.Pre_finite3.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))).2.1 = (fun _ => 1#1)
    ∧ (Cert.Pre_finite3.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))).2.2.1 = (fun _ => 1#1)
    ∧ (Cert.Pre_finite3.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))).2.2.2.1 = (fun _ => 1#1)
    ∧ (Cert.Pre_finite3.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))).2.2.2.2.1 = (fun _ => 1#1)
    ∧ (Cert.Pre_finite3.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))).2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidIdeal_finite5 [hPre_finite5 : Cert.Pre_finite5.Facts] (m : (ℓ : Loc Cert.HidIdeal.nD Cert.HidIdeal.τ Cert.HidIdeal.sig) → Buf (Elt Ideal) ℓ) : Prop :=
  ∀ c : Dev Cert.HidIdeal.nD,
    (Cert.Pre_finite5.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3)) (m ((c.tc : Thread Cert.HidIdeal.nD Cert.HidIdeal.τ).loc Cert.HidIdeal.main_arg4)) (m ((c.tc : Thread Cert.HidIdeal.nD Cert.HidIdeal.τ).loc Cert.HidIdeal.main_arg5))).1 = (fun _ => 1#1)
    ∧ (Cert.Pre_finite5.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3)) (m ((c.tc : Thread Cert.HidIdeal.nD Cert.HidIdeal.τ).loc Cert.HidIdeal.main_arg4)) (m ((c.tc : Thread Cert.HidIdeal.nD Cert.HidIdeal.τ).loc Cert.HidIdeal.main_arg5))).2.1 = (fun _ => 1#1)
    ∧ (Cert.Pre_finite5.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3)) (m ((c.tc : Thread Cert.HidIdeal.nD Cert.HidIdeal.τ).loc Cert.HidIdeal.main_arg4)) (m ((c.tc : Thread Cert.HidIdeal.nD Cert.HidIdeal.τ).loc Cert.HidIdeal.main_arg5))).2.2.1 = (fun _ => 1#1)
    ∧ (Cert.Pre_finite5.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3)) (m ((c.tc : Thread Cert.HidIdeal.nD Cert.HidIdeal.τ).loc Cert.HidIdeal.main_arg4)) (m ((c.tc : Thread Cert.HidIdeal.nD Cert.HidIdeal.τ).loc Cert.HidIdeal.main_arg5))).2.2.2.1 = (fun _ => 1#1)
    ∧ (Cert.Pre_finite5.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3)) (m ((c.tc : Thread Cert.HidIdeal.nD Cert.HidIdeal.τ).loc Cert.HidIdeal.main_arg4)) (m ((c.tc : Thread Cert.HidIdeal.nD Cert.HidIdeal.τ).loc Cert.HidIdeal.main_arg5))).2.2.2.2 = (fun _ => 1#1)

def Pre_HidRefIdeal (m : (ℓ : Loc Cert.HidRefIdeal.nD Cert.HidRefIdeal.τ Cert.HidRefIdeal.sig) → Buf (Elt Ideal) ℓ) : Prop :=
  True

def Pre_HidRefIdeal_finite5 [hPre_finite5 : Cert.Pre_finite5.Facts] (m : (ℓ : Loc Cert.HidRefIdeal.nD Cert.HidRefIdeal.τ Cert.HidRefIdeal.sig) → Buf (Elt Ideal) ℓ) : Prop :=
  ∀ c : Dev Cert.HidRefIdeal.nD,
    (Cert.Pre_finite5.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3)) (m ((c.tc : Thread Cert.HidRefIdeal.nD Cert.HidRefIdeal.τ).loc Cert.HidRefIdeal.main_arg4)) (m ((c.tc : Thread Cert.HidRefIdeal.nD Cert.HidRefIdeal.τ).loc Cert.HidRefIdeal.main_arg5))).1 = (fun _ => 1#1)
    ∧ (Cert.Pre_finite5.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3)) (m ((c.tc : Thread Cert.HidRefIdeal.nD Cert.HidRefIdeal.τ).loc Cert.HidRefIdeal.main_arg4)) (m ((c.tc : Thread Cert.HidRefIdeal.nD Cert.HidRefIdeal.τ).loc Cert.HidRefIdeal.main_arg5))).2.1 = (fun _ => 1#1)
    ∧ (Cert.Pre_finite5.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3)) (m ((c.tc : Thread Cert.HidRefIdeal.nD Cert.HidRefIdeal.τ).loc Cert.HidRefIdeal.main_arg4)) (m ((c.tc : Thread Cert.HidRefIdeal.nD Cert.HidRefIdeal.τ).loc Cert.HidRefIdeal.main_arg5))).2.2.1 = (fun _ => 1#1)
    ∧ (Cert.Pre_finite5.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3)) (m ((c.tc : Thread Cert.HidRefIdeal.nD Cert.HidRefIdeal.τ).loc Cert.HidRefIdeal.main_arg4)) (m ((c.tc : Thread Cert.HidRefIdeal.nD Cert.HidRefIdeal.τ).loc Cert.HidRefIdeal.main_arg5))).2.2.2.1 = (fun _ => 1#1)
    ∧ (Cert.Pre_finite5.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3)) (m ((c.tc : Thread Cert.HidRefIdeal.nD Cert.HidRefIdeal.τ).loc Cert.HidRefIdeal.main_arg4)) (m ((c.tc : Thread Cert.HidRefIdeal.nD Cert.HidRefIdeal.τ).loc Cert.HidRefIdeal.main_arg5))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite6 [hPre_finite6 : Cert.Pre_finite6.Facts] (m : (ℓ : Loc Cert.FfnIdeal.nD Cert.FfnIdeal.τ Cert.FfnIdeal.sig) → Buf (Elt Ideal) ℓ) : Prop :=
  ∀ c : Dev Cert.FfnIdeal.nD,
    (Cert.Pre_finite6.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite6.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite6.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite6.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_finite6.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_finite6.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite6 [hPre_finite6 : Cert.Pre_finite6.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite6.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite6.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite6.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite6.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_finite6.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_finite6.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2 = (fun _ => 1#1)

def Pre_Prj (m : (ℓ : Loc Cert.Prj.nD Cert.Prj.τ Cert.Prj.sig) → Buf (Elt Bits) ℓ) : Prop :=
  True

def Pre_PrjIdeal (m : (ℓ : Loc Cert.PrjIdeal.nD Cert.PrjIdeal.τ Cert.PrjIdeal.sig) → Buf (Elt Ideal) ℓ) : Prop :=
  True

def Pre_PrjIdeal_finite7 [hPre_finite7 : Cert.Pre_finite7.Facts] (m : (ℓ : Loc Cert.PrjIdeal.nD Cert.PrjIdeal.τ Cert.PrjIdeal.sig) → Buf (Elt Ideal) ℓ) : Prop :=
  ∀ c : Dev Cert.PrjIdeal.nD,
    (Cert.Pre_finite7.fn (F := Ideal) (m ((c.tc : Thread Cert.PrjIdeal.nD Cert.PrjIdeal.τ).loc Cert.PrjIdeal.main_arg0)) (m ((c.tc : Thread Cert.PrjIdeal.nD Cert.PrjIdeal.τ).loc Cert.PrjIdeal.main_arg1)) (m ((c.tc : Thread Cert.PrjIdeal.nD Cert.PrjIdeal.τ).loc Cert.PrjIdeal.main_arg2)) (m ((c.tc : Thread Cert.PrjIdeal.nD Cert.PrjIdeal.τ).loc Cert.PrjIdeal.main_arg3)) (m ((c.tc : Thread Cert.PrjIdeal.nD Cert.PrjIdeal.τ).loc Cert.PrjIdeal.main_arg4)) (m ((c.tc : Thread Cert.PrjIdeal.nD Cert.PrjIdeal.τ).loc Cert.PrjIdeal.main_arg5))).1 = (fun _ => 1#1)
    ∧ (Cert.Pre_finite7.fn (F := Ideal) (m ((c.tc : Thread Cert.PrjIdeal.nD Cert.PrjIdeal.τ).loc Cert.PrjIdeal.main_arg0)) (m ((c.tc : Thread Cert.PrjIdeal.nD Cert.PrjIdeal.τ).loc Cert.PrjIdeal.main_arg1)) (m ((c.tc : Thread Cert.PrjIdeal.nD Cert.PrjIdeal.τ).loc Cert.PrjIdeal.main_arg2)) (m ((c.tc : Thread Cert.PrjIdeal.nD Cert.PrjIdeal.τ).loc Cert.PrjIdeal.main_arg3)) (m ((c.tc : Thread Cert.PrjIdeal.nD Cert.PrjIdeal.τ).loc Cert.PrjIdeal.main_arg4)) (m ((c.tc : Thread Cert.PrjIdeal.nD Cert.PrjIdeal.τ).loc Cert.PrjIdeal.main_arg5))).2.1 = (fun _ => 1#1)
    ∧ (Cert.Pre_finite7.fn (F := Ideal) (m ((c.tc : Thread Cert.PrjIdeal.nD Cert.PrjIdeal.τ).loc Cert.PrjIdeal.main_arg0)) (m ((c.tc : Thread Cert.PrjIdeal.nD Cert.PrjIdeal.τ).loc Cert.PrjIdeal.main_arg1)) (m ((c.tc : Thread Cert.PrjIdeal.nD Cert.PrjIdeal.τ).loc Cert.PrjIdeal.main_arg2)) (m ((c.tc : Thread Cert.PrjIdeal.nD Cert.PrjIdeal.τ).loc Cert.PrjIdeal.main_arg3)) (m ((c.tc : Thread Cert.PrjIdeal.nD Cert.PrjIdeal.τ).loc Cert.PrjIdeal.main_arg4)) (m ((c.tc : Thread Cert.PrjIdeal.nD Cert.PrjIdeal.τ).loc Cert.PrjIdeal.main_arg5))).2.2.1 = (fun _ => 1#1)
    ∧ (Cert.Pre_finite7.fn (F := Ideal) (m ((c.tc : Thread Cert.PrjIdeal.nD Cert.PrjIdeal.τ).loc Cert.PrjIdeal.main_arg0)) (m ((c.tc : Thread Cert.PrjIdeal.nD Cert.PrjIdeal.τ).loc Cert.PrjIdeal.main_arg1)) (m ((c.tc : Thread Cert.PrjIdeal.nD Cert.PrjIdeal.τ).loc Cert.PrjIdeal.main_arg2)) (m ((c.tc : Thread Cert.PrjIdeal.nD Cert.PrjIdeal.τ).loc Cert.PrjIdeal.main_arg3)) (m ((c.tc : Thread Cert.PrjIdeal.nD Cert.PrjIdeal.τ).loc Cert.PrjIdeal.main_arg4)) (m ((c.tc : Thread Cert.PrjIdeal.nD Cert.PrjIdeal.τ).loc Cert.PrjIdeal.main_arg5))).2.2.2 = (fun _ => 1#1)

def Pre_PrjRefIdeal (m : (ℓ : Loc Cert.PrjRefIdeal.nD Cert.PrjRefIdeal.τ Cert.PrjRefIdeal.sig) → Buf (Elt Ideal) ℓ) : Prop :=
  True

def Pre_PrjRefIdeal_finite7 [hPre_finite7 : Cert.Pre_finite7.Facts] (m : (ℓ : Loc Cert.PrjRefIdeal.nD Cert.PrjRefIdeal.τ Cert.PrjRefIdeal.sig) → Buf (Elt Ideal) ℓ) : Prop :=
  ∀ c : Dev Cert.PrjRefIdeal.nD,
    (Cert.Pre_finite7.fn (F := Ideal) (m ((c.tc : Thread Cert.PrjRefIdeal.nD Cert.PrjRefIdeal.τ).loc Cert.PrjRefIdeal.main_arg0)) (m ((c.tc : Thread Cert.PrjRefIdeal.nD Cert.PrjRefIdeal.τ).loc Cert.PrjRefIdeal.main_arg1)) (m ((c.tc : Thread Cert.PrjRefIdeal.nD Cert.PrjRefIdeal.τ).loc Cert.PrjRefIdeal.main_arg2)) (m ((c.tc : Thread Cert.PrjRefIdeal.nD Cert.PrjRefIdeal.τ).loc Cert.PrjRefIdeal.main_arg3)) (m ((c.tc : Thread Cert.PrjRefIdeal.nD Cert.PrjRefIdeal.τ).loc Cert.PrjRefIdeal.main_arg4)) (m ((c.tc : Thread Cert.PrjRefIdeal.nD Cert.PrjRefIdeal.τ).loc Cert.PrjRefIdeal.main_arg5))).1 = (fun _ => 1#1)
    ∧ (Cert.Pre_finite7.fn (F := Ideal) (m ((c.tc : Thread Cert.PrjRefIdeal.nD Cert.PrjRefIdeal.τ).loc Cert.PrjRefIdeal.main_arg0)) (m ((c.tc : Thread Cert.PrjRefIdeal.nD Cert.PrjRefIdeal.τ).loc Cert.PrjRefIdeal.main_arg1)) (m ((c.tc : Thread Cert.PrjRefIdeal.nD Cert.PrjRefIdeal.τ).loc Cert.PrjRefIdeal.main_arg2)) (m ((c.tc : Thread Cert.PrjRefIdeal.nD Cert.PrjRefIdeal.τ).loc Cert.PrjRefIdeal.main_arg3)) (m ((c.tc : Thread Cert.PrjRefIdeal.nD Cert.PrjRefIdeal.τ).loc Cert.PrjRefIdeal.main_arg4)) (m ((c.tc : Thread Cert.PrjRefIdeal.nD Cert.PrjRefIdeal.τ).loc Cert.PrjRefIdeal.main_arg5))).2.1 = (fun _ => 1#1)
    ∧ (Cert.Pre_finite7.fn (F := Ideal) (m ((c.tc : Thread Cert.PrjRefIdeal.nD Cert.PrjRefIdeal.τ).loc Cert.PrjRefIdeal.main_arg0)) (m ((c.tc : Thread Cert.PrjRefIdeal.nD Cert.PrjRefIdeal.τ).loc Cert.PrjRefIdeal.main_arg1)) (m ((c.tc : Thread Cert.PrjRefIdeal.nD Cert.PrjRefIdeal.τ).loc Cert.PrjRefIdeal.main_arg2)) (m ((c.tc : Thread Cert.PrjRefIdeal.nD Cert.PrjRefIdeal.τ).loc Cert.PrjRefIdeal.main_arg3)) (m ((c.tc : Thread Cert.PrjRefIdeal.nD Cert.PrjRefIdeal.τ).loc Cert.PrjRefIdeal.main_arg4)) (m ((c.tc : Thread Cert.PrjRefIdeal.nD Cert.PrjRefIdeal.τ).loc Cert.PrjRefIdeal.main_arg5))).2.2.1 = (fun _ => 1#1)
    ∧ (Cert.Pre_finite7.fn (F := Ideal) (m ((c.tc : Thread Cert.PrjRefIdeal.nD Cert.PrjRefIdeal.τ).loc Cert.PrjRefIdeal.main_arg0)) (m ((c.tc : Thread Cert.PrjRefIdeal.nD Cert.PrjRefIdeal.τ).loc Cert.PrjRefIdeal.main_arg1)) (m ((c.tc : Thread Cert.PrjRefIdeal.nD Cert.PrjRefIdeal.τ).loc Cert.PrjRefIdeal.main_arg2)) (m ((c.tc : Thread Cert.PrjRefIdeal.nD Cert.PrjRefIdeal.τ).loc Cert.PrjRefIdeal.main_arg3)) (m ((c.tc : Thread Cert.PrjRefIdeal.nD Cert.PrjRefIdeal.τ).loc Cert.PrjRefIdeal.main_arg4)) (m ((c.tc : Thread Cert.PrjRefIdeal.nD Cert.PrjRefIdeal.τ).loc Cert.PrjRefIdeal.main_arg5))).2.2.2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_PrjFwd (m : (ℓ : Loc Cert.PrjFwd.nD Cert.PrjFwd.τ Cert.PrjFwd.sig) → Buf (Elt Bits) ℓ) : Prop :=
  True

def Pre_PrjFwdIdeal (m : (ℓ : Loc Cert.PrjFwdIdeal.nD Cert.PrjFwdIdeal.τ Cert.PrjFwdIdeal.sig) → Buf (Elt Ideal) ℓ) : Prop :=
  True

def Pre_PrjFwdRefIdeal (m : (ℓ : Loc Cert.PrjFwdRefIdeal.nD Cert.PrjFwdRefIdeal.τ Cert.PrjFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite2 [hLossIdeal : Cert.LossIdeal.Facts] [hPre_finite2 : Cert.Pre_finite2.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite2 m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite2 [hLossRefIdeal : Cert.LossRefIdeal.Facts] [hPre_finite2 : Cert.Pre_finite2.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite2 m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4)
      ∧ r.2.mem ((c.tc : Thread Cert.Ret.nD Cert.Ret.τ).loc Cert.Ret.main_arg5) = m ((c.tc : Thread Cert.Ret.nD Cert.Ret.τ).loc Cert.Ret.main_arg5)
      ∧ r.2.mem ((c.tc : Thread Cert.Ret.nD Cert.Ret.τ).loc Cert.Ret.main_arg6) = m ((c.tc : Thread Cert.Ret.nD Cert.Ret.τ).loc Cert.Ret.main_arg6))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
      ∧ r.2.mem ((c.tc : Thread Cert.RetIdeal.nD Cert.RetIdeal.τ).loc Cert.RetIdeal.main_arg6) = m ((c.tc : Thread Cert.RetIdeal.nD Cert.RetIdeal.τ).loc Cert.RetIdeal.main_arg6))
      ∧ r.2.sem = fun _ => 0)

def quiescent_RetIdeal_pre_finite3 [hRetIdeal : Cert.RetIdeal.Facts] [hPre_finite3 : Cert.Pre_finite3.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite3 m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
      ∧ r.2.mem ((c.tc : Thread Cert.RetIdeal.nD Cert.RetIdeal.τ).loc Cert.RetIdeal.main_arg6) = m ((c.tc : Thread Cert.RetIdeal.nD Cert.RetIdeal.τ).loc Cert.RetIdeal.main_arg6))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5)
      ∧ r.2.mem ((c.tc : Thread Cert.RetRefIdeal.nD Cert.RetRefIdeal.τ).loc Cert.RetRefIdeal.main_arg6) = m ((c.tc : Thread Cert.RetRefIdeal.nD Cert.RetRefIdeal.τ).loc Cert.RetRefIdeal.main_arg6))
      ∧ r.2.sem = fun _ => 0)

def quiescent_RetRefIdeal_pre_finite3 [hRetRefIdeal : Cert.RetRefIdeal.Facts] [hPre_finite3 : Cert.Pre_finite3.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite3 m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5)
      ∧ r.2.mem ((c.tc : Thread Cert.RetRefIdeal.nD Cert.RetRefIdeal.τ).loc Cert.RetRefIdeal.main_arg6) = m ((c.tc : Thread Cert.RetRefIdeal.nD Cert.RetRefIdeal.τ).loc Cert.RetRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1)
      ∧ r.2.mem ((c.tc : Thread Cert.Hid.nD Cert.Hid.τ).loc Cert.Hid.main_arg2) = m ((c.tc : Thread Cert.Hid.nD Cert.Hid.τ).loc Cert.Hid.main_arg2)
      ∧ r.2.mem ((c.tc : Thread Cert.Hid.nD Cert.Hid.τ).loc Cert.Hid.main_arg3) = m ((c.tc : Thread Cert.Hid.nD Cert.Hid.τ).loc Cert.Hid.main_arg3)
      ∧ r.2.mem ((c.tc : Thread Cert.Hid.nD Cert.Hid.τ).loc Cert.Hid.main_arg4) = m ((c.tc : Thread Cert.Hid.nD Cert.Hid.τ).loc Cert.Hid.main_arg4)
      ∧ r.2.mem ((c.tc : Thread Cert.Hid.nD Cert.Hid.τ).loc Cert.Hid.main_arg5) = m ((c.tc : Thread Cert.Hid.nD Cert.Hid.τ).loc Cert.Hid.main_arg5))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3)
      ∧ r.2.mem ((c.tc : Thread Cert.HidIdeal.nD Cert.HidIdeal.τ).loc Cert.HidIdeal.main_arg4) = m ((c.tc : Thread Cert.HidIdeal.nD Cert.HidIdeal.τ).loc Cert.HidIdeal.main_arg4)
      ∧ r.2.mem ((c.tc : Thread Cert.HidIdeal.nD Cert.HidIdeal.τ).loc Cert.HidIdeal.main_arg5) = m ((c.tc : Thread Cert.HidIdeal.nD Cert.HidIdeal.τ).loc Cert.HidIdeal.main_arg5))
      ∧ r.2.sem = fun _ => 0)

def quiescent_HidIdeal_pre_finite5 [hHidIdeal : Cert.HidIdeal.Facts] [hPre_finite5 : Cert.Pre_finite5.Facts] : Prop :=
  ∀ (m : (ℓ : Loc Cert.HidIdeal.nD Cert.HidIdeal.τ Cert.HidIdeal.sig) → Buf (Elt Ideal) ℓ) (g : Dev Cert.HidIdeal.nD → PrngReg), Pre_HidIdeal_finite5 m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3)
      ∧ r.2.mem ((c.tc : Thread Cert.HidIdeal.nD Cert.HidIdeal.τ).loc Cert.HidIdeal.main_arg4) = m ((c.tc : Thread Cert.HidIdeal.nD Cert.HidIdeal.τ).loc Cert.HidIdeal.main_arg4)
      ∧ r.2.mem ((c.tc : Thread Cert.HidIdeal.nD Cert.HidIdeal.τ).loc Cert.HidIdeal.main_arg5) = m ((c.tc : Thread Cert.HidIdeal.nD Cert.HidIdeal.τ).loc Cert.HidIdeal.main_arg5))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3)
      ∧ r.2.mem ((c.tc : Thread Cert.HidRefIdeal.nD Cert.HidRefIdeal.τ).loc Cert.HidRefIdeal.main_arg4) = m ((c.tc : Thread Cert.HidRefIdeal.nD Cert.HidRefIdeal.τ).loc Cert.HidRefIdeal.main_arg4)
      ∧ r.2.mem ((c.tc : Thread Cert.HidRefIdeal.nD Cert.HidRefIdeal.τ).loc Cert.HidRefIdeal.main_arg5) = m ((c.tc : Thread Cert.HidRefIdeal.nD Cert.HidRefIdeal.τ).loc Cert.HidRefIdeal.main_arg5))
      ∧ r.2.sem = fun _ => 0)

def quiescent_HidRefIdeal_pre_finite5 [hHidRefIdeal : Cert.HidRefIdeal.Facts] [hPre_finite5 : Cert.Pre_finite5.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal_finite5 m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3)
      ∧ r.2.mem ((c.tc : Thread Cert.HidRefIdeal.nD Cert.HidRefIdeal.τ).loc Cert.HidRefIdeal.main_arg4) = m ((c.tc : Thread Cert.HidRefIdeal.nD Cert.HidRefIdeal.τ).loc Cert.HidRefIdeal.main_arg4)
      ∧ r.2.mem ((c.tc : Thread Cert.HidRefIdeal.nD Cert.HidRefIdeal.τ).loc Cert.HidRefIdeal.main_arg5) = m ((c.tc : Thread Cert.HidRefIdeal.nD Cert.HidRefIdeal.τ).loc Cert.HidRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite6 [hFfnIdeal : Cert.FfnIdeal.Facts] [hPre_finite6 : Cert.Pre_finite6.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite6 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite6 [hFfnRefIdeal : Cert.FfnRefIdeal.Facts] [hPre_finite6 : Cert.Pre_finite6.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite6 m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Prj [hPrj : Cert.Prj.Facts] : Prop :=
  ∀ (m : (ℓ : Loc Cert.Prj.nD Cert.Prj.τ Cert.Prj.sig) → Buf (Elt Bits) ℓ) (g : Dev Cert.Prj.nD → PrngReg), Pre_Prj m →
    θ_run (Cert.Prj.defs (F := Bits)) (onTc (τ := Cert.Prj.τ) (Cert.Prj.main (F := Bits))) ⟨m, fun _ => 0, g⟩ (fun r => (∀ c : Dev Cert.Prj.nD,
      r.2.mem ((c.tc : Thread Cert.Prj.nD Cert.Prj.τ).loc Cert.Prj.main_arg0) = m ((c.tc : Thread Cert.Prj.nD Cert.Prj.τ).loc Cert.Prj.main_arg0)
      ∧ r.2.mem ((c.tc : Thread Cert.Prj.nD Cert.Prj.τ).loc Cert.Prj.main_arg1) = m ((c.tc : Thread Cert.Prj.nD Cert.Prj.τ).loc Cert.Prj.main_arg1)
      ∧ r.2.mem ((c.tc : Thread Cert.Prj.nD Cert.Prj.τ).loc Cert.Prj.main_arg2) = m ((c.tc : Thread Cert.Prj.nD Cert.Prj.τ).loc Cert.Prj.main_arg2)
      ∧ r.2.mem ((c.tc : Thread Cert.Prj.nD Cert.Prj.τ).loc Cert.Prj.main_arg3) = m ((c.tc : Thread Cert.Prj.nD Cert.Prj.τ).loc Cert.Prj.main_arg3)
      ∧ r.2.mem ((c.tc : Thread Cert.Prj.nD Cert.Prj.τ).loc Cert.Prj.main_arg4) = m ((c.tc : Thread Cert.Prj.nD Cert.Prj.τ).loc Cert.Prj.main_arg4)
      ∧ r.2.mem ((c.tc : Thread Cert.Prj.nD Cert.Prj.τ).loc Cert.Prj.main_arg5) = m ((c.tc : Thread Cert.Prj.nD Cert.Prj.τ).loc Cert.Prj.main_arg5))
      ∧ r.2.sem = fun _ => 0)

def quiescent_PrjIdeal [hPrjIdeal : Cert.PrjIdeal.Facts] : Prop :=
  ∀ (m : (ℓ : Loc Cert.PrjIdeal.nD Cert.PrjIdeal.τ Cert.PrjIdeal.sig) → Buf (Elt Ideal) ℓ) (g : Dev Cert.PrjIdeal.nD → PrngReg), Pre_PrjIdeal m →
    θ_run (Cert.PrjIdeal.defs (F := Ideal)) (onTc (τ := Cert.PrjIdeal.τ) (Cert.PrjIdeal.main (F := Ideal))) ⟨m, fun _ => 0, g⟩ (fun r => (∀ c : Dev Cert.PrjIdeal.nD,
      r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
      ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
      ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
      ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3)
      ∧ r.2.mem ((c.tc : Thread Cert.PrjIdeal.nD Cert.PrjIdeal.τ).loc Cert.PrjIdeal.main_arg4) = m ((c.tc : Thread Cert.PrjIdeal.nD Cert.PrjIdeal.τ).loc Cert.PrjIdeal.main_arg4)
      ∧ r.2.mem ((c.tc : Thread Cert.PrjIdeal.nD Cert.PrjIdeal.τ).loc Cert.PrjIdeal.main_arg5) = m ((c.tc : Thread Cert.PrjIdeal.nD Cert.PrjIdeal.τ).loc Cert.PrjIdeal.main_arg5))
      ∧ r.2.sem = fun _ => 0)

def quiescent_PrjIdeal_pre_finite7 [hPrjIdeal : Cert.PrjIdeal.Facts] [hPre_finite7 : Cert.Pre_finite7.Facts] : Prop :=
  ∀ (m : (ℓ : Loc Cert.PrjIdeal.nD Cert.PrjIdeal.τ Cert.PrjIdeal.sig) → Buf (Elt Ideal) ℓ) (g : Dev Cert.PrjIdeal.nD → PrngReg), Pre_PrjIdeal_finite7 m →
    θ_run (Cert.PrjIdeal.defs (F := Ideal)) (onTc (τ := Cert.PrjIdeal.τ) (Cert.PrjIdeal.main (F := Ideal))) ⟨m, fun _ => 0, g⟩ (fun r => (∀ c : Dev Cert.PrjIdeal.nD,
      r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
      ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
      ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
      ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3)
      ∧ r.2.mem ((c.tc : Thread Cert.PrjIdeal.nD Cert.PrjIdeal.τ).loc Cert.PrjIdeal.main_arg4) = m ((c.tc : Thread Cert.PrjIdeal.nD Cert.PrjIdeal.τ).loc Cert.PrjIdeal.main_arg4)
      ∧ r.2.mem ((c.tc : Thread Cert.PrjIdeal.nD Cert.PrjIdeal.τ).loc Cert.PrjIdeal.main_arg5) = m ((c.tc : Thread Cert.PrjIdeal.nD Cert.PrjIdeal.τ).loc Cert.PrjIdeal.main_arg5))
      ∧ r.2.sem = fun _ => 0)

def quiescent_PrjRefIdeal [hPrjRefIdeal : Cert.PrjRefIdeal.Facts] : Prop :=
  ∀ (m : (ℓ : Loc Cert.PrjRefIdeal.nD Cert.PrjRefIdeal.τ Cert.PrjRefIdeal.sig) → Buf (Elt Ideal) ℓ) (g : Dev Cert.PrjRefIdeal.nD → PrngReg), Pre_PrjRefIdeal m →
    θ_run (Cert.PrjRefIdeal.defs (F := Ideal)) (onTc (τ := Cert.PrjRefIdeal.τ) (Cert.PrjRefIdeal.main (F := Ideal))) ⟨m, fun _ => 0, g⟩ (fun r => (∀ c : Dev Cert.PrjRefIdeal.nD,
      r.2.mem ((c.tc : Thread Cert.PrjRefIdeal.nD Cert.PrjRefIdeal.τ).loc Cert.PrjRefIdeal.main_arg0) = m ((c.tc : Thread Cert.PrjRefIdeal.nD Cert.PrjRefIdeal.τ).loc Cert.PrjRefIdeal.main_arg0)
      ∧ r.2.mem ((c.tc : Thread Cert.PrjRefIdeal.nD Cert.PrjRefIdeal.τ).loc Cert.PrjRefIdeal.main_arg1) = m ((c.tc : Thread Cert.PrjRefIdeal.nD Cert.PrjRefIdeal.τ).loc Cert.PrjRefIdeal.main_arg1)
      ∧ r.2.mem ((c.tc : Thread Cert.PrjRefIdeal.nD Cert.PrjRefIdeal.τ).loc Cert.PrjRefIdeal.main_arg2) = m ((c.tc : Thread Cert.PrjRefIdeal.nD Cert.PrjRefIdeal.τ).loc Cert.PrjRefIdeal.main_arg2)
      ∧ r.2.mem ((c.tc : Thread Cert.PrjRefIdeal.nD Cert.PrjRefIdeal.τ).loc Cert.PrjRefIdeal.main_arg3) = m ((c.tc : Thread Cert.PrjRefIdeal.nD Cert.PrjRefIdeal.τ).loc Cert.PrjRefIdeal.main_arg3)
      ∧ r.2.mem ((c.tc : Thread Cert.PrjRefIdeal.nD Cert.PrjRefIdeal.τ).loc Cert.PrjRefIdeal.main_arg4) = m ((c.tc : Thread Cert.PrjRefIdeal.nD Cert.PrjRefIdeal.τ).loc Cert.PrjRefIdeal.main_arg4)
      ∧ r.2.mem ((c.tc : Thread Cert.PrjRefIdeal.nD Cert.PrjRefIdeal.τ).loc Cert.PrjRefIdeal.main_arg5) = m ((c.tc : Thread Cert.PrjRefIdeal.nD Cert.PrjRefIdeal.τ).loc Cert.PrjRefIdeal.main_arg5))
      ∧ r.2.sem = fun _ => 0)

def quiescent_PrjRefIdeal_pre_finite7 [hPrjRefIdeal : Cert.PrjRefIdeal.Facts] [hPre_finite7 : Cert.Pre_finite7.Facts] : Prop :=
  ∀ (m : (ℓ : Loc Cert.PrjRefIdeal.nD Cert.PrjRefIdeal.τ Cert.PrjRefIdeal.sig) → Buf (Elt Ideal) ℓ) (g : Dev Cert.PrjRefIdeal.nD → PrngReg), Pre_PrjRefIdeal_finite7 m →
    θ_run (Cert.PrjRefIdeal.defs (F := Ideal)) (onTc (τ := Cert.PrjRefIdeal.τ) (Cert.PrjRefIdeal.main (F := Ideal))) ⟨m, fun _ => 0, g⟩ (fun r => (∀ c : Dev Cert.PrjRefIdeal.nD,
      r.2.mem ((c.tc : Thread Cert.PrjRefIdeal.nD Cert.PrjRefIdeal.τ).loc Cert.PrjRefIdeal.main_arg0) = m ((c.tc : Thread Cert.PrjRefIdeal.nD Cert.PrjRefIdeal.τ).loc Cert.PrjRefIdeal.main_arg0)
      ∧ r.2.mem ((c.tc : Thread Cert.PrjRefIdeal.nD Cert.PrjRefIdeal.τ).loc Cert.PrjRefIdeal.main_arg1) = m ((c.tc : Thread Cert.PrjRefIdeal.nD Cert.PrjRefIdeal.τ).loc Cert.PrjRefIdeal.main_arg1)
      ∧ r.2.mem ((c.tc : Thread Cert.PrjRefIdeal.nD Cert.PrjRefIdeal.τ).loc Cert.PrjRefIdeal.main_arg2) = m ((c.tc : Thread Cert.PrjRefIdeal.nD Cert.PrjRefIdeal.τ).loc Cert.PrjRefIdeal.main_arg2)
      ∧ r.2.mem ((c.tc : Thread Cert.PrjRefIdeal.nD Cert.PrjRefIdeal.τ).loc Cert.PrjRefIdeal.main_arg3) = m ((c.tc : Thread Cert.PrjRefIdeal.nD Cert.PrjRefIdeal.τ).loc Cert.PrjRefIdeal.main_arg3)
      ∧ r.2.mem ((c.tc : Thread Cert.PrjRefIdeal.nD Cert.PrjRefIdeal.τ).loc Cert.PrjRefIdeal.main_arg4) = m ((c.tc : Thread Cert.PrjRefIdeal.nD Cert.PrjRefIdeal.τ).loc Cert.PrjRefIdeal.main_arg4)
      ∧ r.2.mem ((c.tc : Thread Cert.PrjRefIdeal.nD Cert.PrjRefIdeal.τ).loc Cert.PrjRefIdeal.main_arg5) = m ((c.tc : Thread Cert.PrjRefIdeal.nD Cert.PrjRefIdeal.τ).loc Cert.PrjRefIdeal.main_arg5))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_PrjFwd [hPrjFwd : Cert.PrjFwd.Facts] : Prop :=
  ∀ (m : (ℓ : Loc Cert.PrjFwd.nD Cert.PrjFwd.τ Cert.PrjFwd.sig) → Buf (Elt Bits) ℓ) (g : Dev Cert.PrjFwd.nD → PrngReg), Pre_PrjFwd m →
    θ_run (Cert.PrjFwd.defs (F := Bits)) (onTc (τ := Cert.PrjFwd.τ) (Cert.PrjFwd.main (F := Bits))) ⟨m, fun _ => 0, g⟩ (fun r => (∀ c : Dev Cert.PrjFwd.nD,
      r.2.mem ((c.tc : Thread Cert.PrjFwd.nD Cert.PrjFwd.τ).loc Cert.PrjFwd.main_arg0) = m ((c.tc : Thread Cert.PrjFwd.nD Cert.PrjFwd.τ).loc Cert.PrjFwd.main_arg0)
      ∧ r.2.mem ((c.tc : Thread Cert.PrjFwd.nD Cert.PrjFwd.τ).loc Cert.PrjFwd.main_arg1) = m ((c.tc : Thread Cert.PrjFwd.nD Cert.PrjFwd.τ).loc Cert.PrjFwd.main_arg1)
      ∧ r.2.mem ((c.tc : Thread Cert.PrjFwd.nD Cert.PrjFwd.τ).loc Cert.PrjFwd.main_arg2) = m ((c.tc : Thread Cert.PrjFwd.nD Cert.PrjFwd.τ).loc Cert.PrjFwd.main_arg2)
      ∧ r.2.mem ((c.tc : Thread Cert.PrjFwd.nD Cert.PrjFwd.τ).loc Cert.PrjFwd.main_arg3) = m ((c.tc : Thread Cert.PrjFwd.nD Cert.PrjFwd.τ).loc Cert.PrjFwd.main_arg3))
      ∧ r.2.sem = fun _ => 0)

def quiescent_PrjFwdIdeal [hPrjFwdIdeal : Cert.PrjFwdIdeal.Facts] : Prop :=
  ∀ (m : (ℓ : Loc Cert.PrjFwdIdeal.nD Cert.PrjFwdIdeal.τ Cert.PrjFwdIdeal.sig) → Buf (Elt Ideal) ℓ) (g : Dev Cert.PrjFwdIdeal.nD → PrngReg), Pre_PrjFwdIdeal m →
    θ_run (Cert.PrjFwdIdeal.defs (F := Ideal)) (onTc (τ := Cert.PrjFwdIdeal.τ) (Cert.PrjFwdIdeal.main (F := Ideal))) ⟨m, fun _ => 0, g⟩ (fun r => (∀ c : Dev Cert.PrjFwdIdeal.nD,
      r.2.mem ((c.tc : Thread Cert.PrjFwdIdeal.nD Cert.PrjFwdIdeal.τ).loc Cert.PrjFwdIdeal.main_arg0) = m ((c.tc : Thread Cert.PrjFwdIdeal.nD Cert.PrjFwdIdeal.τ).loc Cert.PrjFwdIdeal.main_arg0)
      ∧ r.2.mem ((c.tc : Thread Cert.PrjFwdIdeal.nD Cert.PrjFwdIdeal.τ).loc Cert.PrjFwdIdeal.main_arg1) = m ((c.tc : Thread Cert.PrjFwdIdeal.nD Cert.PrjFwdIdeal.τ).loc Cert.PrjFwdIdeal.main_arg1)
      ∧ r.2.mem ((c.tc : Thread Cert.PrjFwdIdeal.nD Cert.PrjFwdIdeal.τ).loc Cert.PrjFwdIdeal.main_arg2) = m ((c.tc : Thread Cert.PrjFwdIdeal.nD Cert.PrjFwdIdeal.τ).loc Cert.PrjFwdIdeal.main_arg2)
      ∧ r.2.mem ((c.tc : Thread Cert.PrjFwdIdeal.nD Cert.PrjFwdIdeal.τ).loc Cert.PrjFwdIdeal.main_arg3) = m ((c.tc : Thread Cert.PrjFwdIdeal.nD Cert.PrjFwdIdeal.τ).loc Cert.PrjFwdIdeal.main_arg3))
      ∧ r.2.sem = fun _ => 0)

def quiescent_PrjFwdRefIdeal [hPrjFwdRefIdeal : Cert.PrjFwdRefIdeal.Facts] : Prop :=
  ∀ (m : (ℓ : Loc Cert.PrjFwdRefIdeal.nD Cert.PrjFwdRefIdeal.τ Cert.PrjFwdRefIdeal.sig) → Buf (Elt Ideal) ℓ) (g : Dev Cert.PrjFwdRefIdeal.nD → PrngReg), Pre_PrjFwdRefIdeal m →
    θ_run (Cert.PrjFwdRefIdeal.defs (F := Ideal)) (onTc (τ := Cert.PrjFwdRefIdeal.τ) (Cert.PrjFwdRefIdeal.main (F := Ideal))) ⟨m, fun _ => 0, g⟩ (fun r => (∀ c : Dev Cert.PrjFwdRefIdeal.nD,
      r.2.mem ((c.tc : Thread Cert.PrjFwdRefIdeal.nD Cert.PrjFwdRefIdeal.τ).loc Cert.PrjFwdRefIdeal.main_arg0) = m ((c.tc : Thread Cert.PrjFwdRefIdeal.nD Cert.PrjFwdRefIdeal.τ).loc Cert.PrjFwdRefIdeal.main_arg0)
      ∧ r.2.mem ((c.tc : Thread Cert.PrjFwdRefIdeal.nD Cert.PrjFwdRefIdeal.τ).loc Cert.PrjFwdRefIdeal.main_arg1) = m ((c.tc : Thread Cert.PrjFwdRefIdeal.nD Cert.PrjFwdRefIdeal.τ).loc Cert.PrjFwdRefIdeal.main_arg1)
      ∧ r.2.mem ((c.tc : Thread Cert.PrjFwdRefIdeal.nD Cert.PrjFwdRefIdeal.τ).loc Cert.PrjFwdRefIdeal.main_arg2) = m ((c.tc : Thread Cert.PrjFwdRefIdeal.nD Cert.PrjFwdRefIdeal.τ).loc Cert.PrjFwdRefIdeal.main_arg2)
      ∧ r.2.mem ((c.tc : Thread Cert.PrjFwdRefIdeal.nD Cert.PrjFwdRefIdeal.τ).loc Cert.PrjFwdRefIdeal.main_arg3) = m ((c.tc : Thread Cert.PrjFwdRefIdeal.nD Cert.PrjFwdRefIdeal.τ).loc Cert.PrjFwdRefIdeal.main_arg3))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)
  ∧ IdealRules.named_const.Statement Cert.KernelIdeal.κ "rsqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Loss_LossIdeal : Prop :=
  True

def algebraic_LossIdeal_LossRefIdeal_pre_finite2 [hLossIdeal : Cert.LossIdeal.Facts] [hLossRefIdeal : Cert.LossRefIdeal.Facts] [hPre_finite2 : Cert.Pre_finite2.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite2 m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ret_RetIdeal : Prop :=
  True

def algebraic_RetIdeal_RetRefIdeal_pre_finite3 [hRetIdeal : Cert.RetIdeal.Facts] [hRetRefIdeal : Cert.RetRefIdeal.Facts] [hPre_finite3 : Cert.Pre_finite3.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite3 m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)
      ∧ m' ((c.tc : Thread Cert.RetRefIdeal.nD Cert.RetRefIdeal.τ).loc Cert.RetRefIdeal.main_arg5) = m ((c.tc : Thread Cert.RetIdeal.nD Cert.RetIdeal.τ).loc Cert.RetIdeal.main_arg5)
      ∧ m' ((c.tc : Thread Cert.RetRefIdeal.nD Cert.RetRefIdeal.τ).loc Cert.RetRefIdeal.main_arg6) = m ((c.tc : Thread Cert.RetIdeal.nD Cert.RetIdeal.τ).loc Cert.RetIdeal.main_arg6)) →
    ∃ (v0 : (c : Dev Cert.RetIdeal.nD) → Buf (Elt Ideal) ((c.tc : Thread Cert.RetIdeal.nD Cert.RetIdeal.τ).loc Cert.RetIdeal.main_v217_0)) (v1 : (c : Dev Cert.RetIdeal.nD) → Buf (Elt Ideal) ((c.tc : Thread Cert.RetIdeal.nD Cert.RetIdeal.τ).loc Cert.RetIdeal.main_v217_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v217_0) = v0 c
          ∧ r.2.mem ((c.tc : Thread Cert.RetIdeal.nD Cert.RetIdeal.τ).loc Cert.RetIdeal.main_v217_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
          ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
          ∧ r.2.mem ((c.tc : Thread Cert.RetIdeal.nD Cert.RetIdeal.τ).loc Cert.RetIdeal.main_arg6) = m ((c.tc : Thread Cert.RetIdeal.nD Cert.RetIdeal.τ).loc Cert.RetIdeal.main_arg6))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v240) = v0 c
          ∧ r.2.mem ((c.tc : Thread Cert.RetRefIdeal.nD Cert.RetRefIdeal.τ).loc Cert.RetRefIdeal.main_v249) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4)
          ∧ r.2.mem ((c.tc : Thread Cert.RetRefIdeal.nD Cert.RetRefIdeal.τ).loc Cert.RetRefIdeal.main_arg5) = m' ((c.tc : Thread Cert.RetRefIdeal.nD Cert.RetRefIdeal.τ).loc Cert.RetRefIdeal.main_arg5)
          ∧ r.2.mem ((c.tc : Thread Cert.RetRefIdeal.nD Cert.RetRefIdeal.τ).loc Cert.RetRefIdeal.main_arg6) = m' ((c.tc : Thread Cert.RetRefIdeal.nD Cert.RetRefIdeal.τ).loc Cert.RetRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v19)) (v2 : (c : Dev Cert.MergeIdeal.nD) → Buf (Elt Ideal) ((c.tc : Thread Cert.MergeIdeal.nD Cert.MergeIdeal.τ).loc Cert.MergeIdeal.main_v18_1)) (v3 : (c : Dev Cert.MergeIdeal.nD) → Buf (Elt Ideal) ((c.tc : Thread Cert.MergeIdeal.nD Cert.MergeIdeal.τ).loc Cert.MergeIdeal.main_v18_2)) (v4 : (c : Dev Cert.MergeIdeal.nD) → Buf (Elt Ideal) ((c.tc : Thread Cert.MergeIdeal.nD Cert.MergeIdeal.τ).loc Cert.MergeIdeal.main_v18_3)) (v5 : (c : Dev Cert.MergeIdeal.nD) → Buf (Elt Ideal) ((c.tc : Thread Cert.MergeIdeal.nD Cert.MergeIdeal.τ).loc Cert.MergeIdeal.main_v18_4)) (v6 : (c : Dev Cert.MergeIdeal.nD) → Buf (Elt Ideal) ((c.tc : Thread Cert.MergeIdeal.nD Cert.MergeIdeal.τ).loc Cert.MergeIdeal.main_v18_5)) (v7 : (c : Dev Cert.MergeIdeal.nD) → Buf (Elt Ideal) ((c.tc : Thread Cert.MergeIdeal.nD Cert.MergeIdeal.τ).loc Cert.MergeIdeal.main_v18_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v19) = v1 c
          ∧ r.2.mem ((c.tc : Thread Cert.MergeIdeal.nD Cert.MergeIdeal.τ).loc Cert.MergeIdeal.main_v18_1) = v2 c
          ∧ r.2.mem ((c.tc : Thread Cert.MergeIdeal.nD Cert.MergeIdeal.τ).loc Cert.MergeIdeal.main_v18_2) = v3 c
          ∧ r.2.mem ((c.tc : Thread Cert.MergeIdeal.nD Cert.MergeIdeal.τ).loc Cert.MergeIdeal.main_v18_3) = v4 c
          ∧ r.2.mem ((c.tc : Thread Cert.MergeIdeal.nD Cert.MergeIdeal.τ).loc Cert.MergeIdeal.main_v18_4) = v5 c
          ∧ r.2.mem ((c.tc : Thread Cert.MergeIdeal.nD Cert.MergeIdeal.τ).loc Cert.MergeIdeal.main_v18_5) = v6 c
          ∧ r.2.mem ((c.tc : Thread Cert.MergeIdeal.nD Cert.MergeIdeal.τ).loc Cert.MergeIdeal.main_v18_6) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v45) = v1 c
          ∧ r.2.mem ((c.tc : Thread Cert.MergeRefIdeal.nD Cert.MergeRefIdeal.τ).loc Cert.MergeRefIdeal.main_v47) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v51) = v4 c
          ∧ r.2.mem ((c.tc : Thread Cert.MergeRefIdeal.nD Cert.MergeRefIdeal.τ).loc Cert.MergeRefIdeal.main_v53) = v5 c
          ∧ r.2.mem ((c.tc : Thread Cert.MergeRefIdeal.nD Cert.MergeRefIdeal.τ).loc Cert.MergeRefIdeal.main_v55) = v6 c
          ∧ r.2.mem ((c.tc : Thread Cert.MergeRefIdeal.nD Cert.MergeRefIdeal.τ).loc Cert.MergeRefIdeal.main_v57) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Hid_HidIdeal : Prop :=
  True

def algebraic_HidIdeal_HidRefIdeal_pre_finite5 [hHidIdeal : Cert.HidIdeal.Facts] [hHidRefIdeal : Cert.HidRefIdeal.Facts] [hPre_finite5 : Cert.Pre_finite5.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal_finite5 m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)
      ∧ m' ((c.tc : Thread Cert.HidRefIdeal.nD Cert.HidRefIdeal.τ).loc Cert.HidRefIdeal.main_arg2) = m ((c.tc : Thread Cert.HidIdeal.nD Cert.HidIdeal.τ).loc Cert.HidIdeal.main_arg2)
      ∧ m' ((c.tc : Thread Cert.HidRefIdeal.nD Cert.HidRefIdeal.τ).loc Cert.HidRefIdeal.main_arg3) = m ((c.tc : Thread Cert.HidIdeal.nD Cert.HidIdeal.τ).loc Cert.HidIdeal.main_arg3)
      ∧ m' ((c.tc : Thread Cert.HidRefIdeal.nD Cert.HidRefIdeal.τ).loc Cert.HidRefIdeal.main_arg4) = m ((c.tc : Thread Cert.HidIdeal.nD Cert.HidIdeal.τ).loc Cert.HidIdeal.main_arg4)
      ∧ m' ((c.tc : Thread Cert.HidRefIdeal.nD Cert.HidRefIdeal.τ).loc Cert.HidRefIdeal.main_arg5) = m ((c.tc : Thread Cert.HidIdeal.nD Cert.HidIdeal.τ).loc Cert.HidIdeal.main_arg5)) →
    ∃ (v0 : (c : Dev Cert.HidIdeal.nD) → Buf (Elt Ideal) ((c.tc : Thread Cert.HidIdeal.nD Cert.HidIdeal.τ).loc Cert.HidIdeal.main_v8_0)) (v1 : (c : Dev Cert.HidIdeal.nD) → Buf (Elt Ideal) ((c.tc : Thread Cert.HidIdeal.nD Cert.HidIdeal.τ).loc Cert.HidIdeal.main_v8_1)) (v2 : (c : Dev Cert.HidIdeal.nD) → Buf (Elt Ideal) ((c.tc : Thread Cert.HidIdeal.nD Cert.HidIdeal.τ).loc Cert.HidIdeal.main_v8_2)) (v3 : (c : Dev Cert.HidIdeal.nD) → Buf (Elt Ideal) ((c.tc : Thread Cert.HidIdeal.nD Cert.HidIdeal.τ).loc Cert.HidIdeal.main_v8_3)) (v4 : (c : Dev Cert.HidIdeal.nD) → Buf (Elt Ideal) ((c.tc : Thread Cert.HidIdeal.nD Cert.HidIdeal.τ).loc Cert.HidIdeal.main_v8_4)) (v5 : (c : Dev Cert.HidIdeal.nD) → Buf (Elt Ideal) ((c.tc : Thread Cert.HidIdeal.nD Cert.HidIdeal.τ).loc Cert.HidIdeal.main_v10_0)) (v6 : (c : Dev Cert.HidIdeal.nD) → Buf (Elt Ideal) ((c.tc : Thread Cert.HidIdeal.nD Cert.HidIdeal.τ).loc Cert.HidIdeal.main_v10_1)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v8_0) = v0 c
          ∧ r.2.mem ((c.tc : Thread Cert.HidIdeal.nD Cert.HidIdeal.τ).loc Cert.HidIdeal.main_v8_1) = v1 c
          ∧ r.2.mem ((c.tc : Thread Cert.HidIdeal.nD Cert.HidIdeal.τ).loc Cert.HidIdeal.main_v8_2) = v2 c
          ∧ r.2.mem ((c.tc : Thread Cert.HidIdeal.nD Cert.HidIdeal.τ).loc Cert.HidIdeal.main_v8_3) = v3 c
          ∧ r.2.mem ((c.tc : Thread Cert.HidIdeal.nD Cert.HidIdeal.τ).loc Cert.HidIdeal.main_v8_4) = v4 c
          ∧ r.2.mem ((c.tc : Thread Cert.HidIdeal.nD Cert.HidIdeal.τ).loc Cert.HidIdeal.main_v10_0) = v5 c
          ∧ r.2.mem ((c.tc : Thread Cert.HidIdeal.nD Cert.HidIdeal.τ).loc Cert.HidIdeal.main_v10_1) = v6 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
          ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
          ∧ r.2.mem ((c.tc : Thread Cert.HidIdeal.nD Cert.HidIdeal.τ).loc Cert.HidIdeal.main_arg3) = m ((c.tc : Thread Cert.HidIdeal.nD Cert.HidIdeal.τ).loc Cert.HidIdeal.main_arg3)
          ∧ r.2.mem ((c.tc : Thread Cert.HidIdeal.nD Cert.HidIdeal.τ).loc Cert.HidIdeal.main_arg4) = m ((c.tc : Thread Cert.HidIdeal.nD Cert.HidIdeal.τ).loc Cert.HidIdeal.main_arg4)
          ∧ r.2.mem ((c.tc : Thread Cert.HidIdeal.nD Cert.HidIdeal.τ).loc Cert.HidIdeal.main_arg5) = m ((c.tc : Thread Cert.HidIdeal.nD Cert.HidIdeal.τ).loc Cert.HidIdeal.main_arg5))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v30) = v0 c
          ∧ r.2.mem ((c.tc : Thread Cert.HidRefIdeal.nD Cert.HidRefIdeal.τ).loc Cert.HidRefIdeal.main_v31) = v1 c
          ∧ r.2.mem ((c.tc : Thread Cert.HidRefIdeal.nD Cert.HidRefIdeal.τ).loc Cert.HidRefIdeal.main_v32) = v2 c
          ∧ r.2.mem ((c.tc : Thread Cert.HidRefIdeal.nD Cert.HidRefIdeal.τ).loc Cert.HidRefIdeal.main_v33) = v3 c
          ∧ r.2.mem ((c.tc : Thread Cert.HidRefIdeal.nD Cert.HidRefIdeal.τ).loc Cert.HidRefIdeal.main_v34) = v4 c
          ∧ r.2.mem ((c.tc : Thread Cert.HidRefIdeal.nD Cert.HidRefIdeal.τ).loc Cert.HidRefIdeal.main_v35) = v5 c
          ∧ r.2.mem ((c.tc : Thread Cert.HidRefIdeal.nD Cert.HidRefIdeal.τ).loc Cert.HidRefIdeal.main_v36) = v6 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1)
          ∧ r.2.mem ((c.tc : Thread Cert.HidRefIdeal.nD Cert.HidRefIdeal.τ).loc Cert.HidRefIdeal.main_arg2) = m' ((c.tc : Thread Cert.HidRefIdeal.nD Cert.HidRefIdeal.τ).loc Cert.HidRefIdeal.main_arg2)
          ∧ r.2.mem ((c.tc : Thread Cert.HidRefIdeal.nD Cert.HidRefIdeal.τ).loc Cert.HidRefIdeal.main_arg3) = m' ((c.tc : Thread Cert.HidRefIdeal.nD Cert.HidRefIdeal.τ).loc Cert.HidRefIdeal.main_arg3)
          ∧ r.2.mem ((c.tc : Thread Cert.HidRefIdeal.nD Cert.HidRefIdeal.τ).loc Cert.HidRefIdeal.main_arg4) = m' ((c.tc : Thread Cert.HidRefIdeal.nD Cert.HidRefIdeal.τ).loc Cert.HidRefIdeal.main_arg4)
          ∧ r.2.mem ((c.tc : Thread Cert.HidRefIdeal.nD Cert.HidRefIdeal.τ).loc Cert.HidRefIdeal.main_arg5) = m' ((c.tc : Thread Cert.HidRefIdeal.nD Cert.HidRefIdeal.τ).loc Cert.HidRefIdeal.main_arg5))

def preserves_Ffn_FfnIdeal : Prop :=
  True

def algebraic_FfnIdeal_FfnRefIdeal_pre_finite6 [hFfnIdeal : Cert.FfnIdeal.Facts] [hFfnRefIdeal : Cert.FfnRefIdeal.Facts] [hPre_finite6 : Cert.Pre_finite6.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite6 m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_v45) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Prj_PrjIdeal : Prop :=
  True

def algebraic_PrjIdeal_PrjRefIdeal_pre_finite7 [hPrjIdeal : Cert.PrjIdeal.Facts] [hPrjRefIdeal : Cert.PrjRefIdeal.Facts] [hPre_finite7 : Cert.Pre_finite7.Facts] : Prop :=
  ∀ (m : (ℓ : Loc Cert.PrjIdeal.nD Cert.PrjIdeal.τ Cert.PrjIdeal.sig) → Buf (Elt Ideal) ℓ) (g : Dev Cert.PrjIdeal.nD → PrngReg)
    (m' : (ℓ : Loc Cert.PrjRefIdeal.nD Cert.PrjRefIdeal.τ Cert.PrjRefIdeal.sig) → Buf (Elt Ideal) ℓ) (g' : Dev Cert.PrjRefIdeal.nD → PrngReg), Pre_PrjIdeal_finite7 m →
    (∀ c : Dev Cert.PrjIdeal.nD,
      m' ((c.tc : Thread Cert.PrjRefIdeal.nD Cert.PrjRefIdeal.τ).loc Cert.PrjRefIdeal.main_arg0) = m ((c.tc : Thread Cert.PrjIdeal.nD Cert.PrjIdeal.τ).loc Cert.PrjIdeal.main_arg0)
      ∧ m' ((c.tc : Thread Cert.PrjRefIdeal.nD Cert.PrjRefIdeal.τ).loc Cert.PrjRefIdeal.main_arg1) = m ((c.tc : Thread Cert.PrjIdeal.nD Cert.PrjIdeal.τ).loc Cert.PrjIdeal.main_arg1)
      ∧ m' ((c.tc : Thread Cert.PrjRefIdeal.nD Cert.PrjRefIdeal.τ).loc Cert.PrjRefIdeal.main_arg2) = m ((c.tc : Thread Cert.PrjIdeal.nD Cert.PrjIdeal.τ).loc Cert.PrjIdeal.main_arg2)
      ∧ m' ((c.tc : Thread Cert.PrjRefIdeal.nD Cert.PrjRefIdeal.τ).loc Cert.PrjRefIdeal.main_arg3) = m ((c.tc : Thread Cert.PrjIdeal.nD Cert.PrjIdeal.τ).loc Cert.PrjIdeal.main_arg3)
      ∧ m' ((c.tc : Thread Cert.PrjRefIdeal.nD Cert.PrjRefIdeal.τ).loc Cert.PrjRefIdeal.main_arg4) = m ((c.tc : Thread Cert.PrjIdeal.nD Cert.PrjIdeal.τ).loc Cert.PrjIdeal.main_arg4)
      ∧ m' ((c.tc : Thread Cert.PrjRefIdeal.nD Cert.PrjRefIdeal.τ).loc Cert.PrjRefIdeal.main_arg5) = m ((c.tc : Thread Cert.PrjIdeal.nD Cert.PrjIdeal.τ).loc Cert.PrjIdeal.main_arg5)) →
    ∃ (v0 : (c : Dev Cert.PrjIdeal.nD) → Buf (Elt Ideal) ((c.tc : Thread Cert.PrjIdeal.nD Cert.PrjIdeal.τ).loc Cert.PrjIdeal.main_v33_0)) (v1 : (c : Dev Cert.PrjIdeal.nD) → Buf (Elt Ideal) ((c.tc : Thread Cert.PrjIdeal.nD Cert.PrjIdeal.τ).loc Cert.PrjIdeal.main_v33_1)) (v2 : (c : Dev Cert.PrjIdeal.nD) → Buf (Elt Ideal) ((c.tc : Thread Cert.PrjIdeal.nD Cert.PrjIdeal.τ).loc Cert.PrjIdeal.main_v33_2)) (v3 : (c : Dev Cert.PrjIdeal.nD) → Buf (Elt Ideal) ((c.tc : Thread Cert.PrjIdeal.nD Cert.PrjIdeal.τ).loc Cert.PrjIdeal.main_v33_3)),
      θ_run (Cert.PrjIdeal.defs (F := Ideal)) (onTc (τ := Cert.PrjIdeal.τ) (Cert.PrjIdeal.main (F := Ideal))) ⟨m, fun _ => 0, g⟩ (fun r => ∀ c : Dev Cert.PrjIdeal.nD,
          r.2.mem ((c.tc : Thread Cert.PrjIdeal.nD Cert.PrjIdeal.τ).loc Cert.PrjIdeal.main_v33_0) = v0 c
          ∧ r.2.mem ((c.tc : Thread Cert.PrjIdeal.nD Cert.PrjIdeal.τ).loc Cert.PrjIdeal.main_v33_1) = v1 c
          ∧ r.2.mem ((c.tc : Thread Cert.PrjIdeal.nD Cert.PrjIdeal.τ).loc Cert.PrjIdeal.main_v33_2) = v2 c
          ∧ r.2.mem ((c.tc : Thread Cert.PrjIdeal.nD Cert.PrjIdeal.τ).loc Cert.PrjIdeal.main_v33_3) = v3 c
          ∧ r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
          ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
          ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
          ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3)
          ∧ r.2.mem ((c.tc : Thread Cert.PrjIdeal.nD Cert.PrjIdeal.τ).loc Cert.PrjIdeal.main_arg4) = m ((c.tc : Thread Cert.PrjIdeal.nD Cert.PrjIdeal.τ).loc Cert.PrjIdeal.main_arg4)
          ∧ r.2.mem ((c.tc : Thread Cert.PrjIdeal.nD Cert.PrjIdeal.τ).loc Cert.PrjIdeal.main_arg5) = m ((c.tc : Thread Cert.PrjIdeal.nD Cert.PrjIdeal.τ).loc Cert.PrjIdeal.main_arg5))
      ∧ θ_run (Cert.PrjRefIdeal.defs (F := Ideal)) (onTc (τ := Cert.PrjRefIdeal.τ) (Cert.PrjRefIdeal.main (F := Ideal))) ⟨m', fun _ => 0, g'⟩ (fun r => ∀ c : Dev Cert.PrjRefIdeal.nD,
          r.2.mem ((c.tc : Thread Cert.PrjRefIdeal.nD Cert.PrjRefIdeal.τ).loc Cert.PrjRefIdeal.main_v49) = v0 c
          ∧ r.2.mem ((c.tc : Thread Cert.PrjRefIdeal.nD Cert.PrjRefIdeal.τ).loc Cert.PrjRefIdeal.main_v53) = v1 c
          ∧ r.2.mem ((c.tc : Thread Cert.PrjRefIdeal.nD Cert.PrjRefIdeal.τ).loc Cert.PrjRefIdeal.main_v50) = v2 c
          ∧ r.2.mem ((c.tc : Thread Cert.PrjRefIdeal.nD Cert.PrjRefIdeal.τ).loc Cert.PrjRefIdeal.main_v54) = v3 c
          ∧ r.2.mem ((c.tc : Thread Cert.PrjRefIdeal.nD Cert.PrjRefIdeal.τ).loc Cert.PrjRefIdeal.main_arg0) = m' ((c.tc : Thread Cert.PrjRefIdeal.nD Cert.PrjRefIdeal.τ).loc Cert.PrjRefIdeal.main_arg0)
          ∧ r.2.mem ((c.tc : Thread Cert.PrjRefIdeal.nD Cert.PrjRefIdeal.τ).loc Cert.PrjRefIdeal.main_arg1) = m' ((c.tc : Thread Cert.PrjRefIdeal.nD Cert.PrjRefIdeal.τ).loc Cert.PrjRefIdeal.main_arg1)
          ∧ r.2.mem ((c.tc : Thread Cert.PrjRefIdeal.nD Cert.PrjRefIdeal.τ).loc Cert.PrjRefIdeal.main_arg2) = m' ((c.tc : Thread Cert.PrjRefIdeal.nD Cert.PrjRefIdeal.τ).loc Cert.PrjRefIdeal.main_arg2)
          ∧ r.2.mem ((c.tc : Thread Cert.PrjRefIdeal.nD Cert.PrjRefIdeal.τ).loc Cert.PrjRefIdeal.main_arg3) = m' ((c.tc : Thread Cert.PrjRefIdeal.nD Cert.PrjRefIdeal.τ).loc Cert.PrjRefIdeal.main_arg3)
          ∧ r.2.mem ((c.tc : Thread Cert.PrjRefIdeal.nD Cert.PrjRefIdeal.τ).loc Cert.PrjRefIdeal.main_arg4) = m' ((c.tc : Thread Cert.PrjRefIdeal.nD Cert.PrjRefIdeal.τ).loc Cert.PrjRefIdeal.main_arg4)
          ∧ r.2.mem ((c.tc : Thread Cert.PrjRefIdeal.nD Cert.PrjRefIdeal.τ).loc Cert.PrjRefIdeal.main_arg5) = m' ((c.tc : Thread Cert.PrjRefIdeal.nD Cert.PrjRefIdeal.τ).loc Cert.PrjRefIdeal.main_arg5))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v30)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v30) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v56) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_PrjFwd_PrjFwdIdeal : Prop :=
  True

def algebraic_PrjFwdIdeal_PrjFwdRefIdeal [hPrjFwdIdeal : Cert.PrjFwdIdeal.Facts] [hPrjFwdRefIdeal : Cert.PrjFwdRefIdeal.Facts] : Prop :=
  ∀ (m : (ℓ : Loc Cert.PrjFwdIdeal.nD Cert.PrjFwdIdeal.τ Cert.PrjFwdIdeal.sig) → Buf (Elt Ideal) ℓ) (g : Dev Cert.PrjFwdIdeal.nD → PrngReg)
    (m' : (ℓ : Loc Cert.PrjFwdRefIdeal.nD Cert.PrjFwdRefIdeal.τ Cert.PrjFwdRefIdeal.sig) → Buf (Elt Ideal) ℓ) (g' : Dev Cert.PrjFwdRefIdeal.nD → PrngReg), Pre_PrjFwdIdeal m →
    (∀ c : Dev Cert.PrjFwdIdeal.nD,
      m' ((c.tc : Thread Cert.PrjFwdRefIdeal.nD Cert.PrjFwdRefIdeal.τ).loc Cert.PrjFwdRefIdeal.main_arg0) = m ((c.tc : Thread Cert.PrjFwdIdeal.nD Cert.PrjFwdIdeal.τ).loc Cert.PrjFwdIdeal.main_arg0)
      ∧ m' ((c.tc : Thread Cert.PrjFwdRefIdeal.nD Cert.PrjFwdRefIdeal.τ).loc Cert.PrjFwdRefIdeal.main_arg1) = m ((c.tc : Thread Cert.PrjFwdIdeal.nD Cert.PrjFwdIdeal.τ).loc Cert.PrjFwdIdeal.main_arg1)
      ∧ m' ((c.tc : Thread Cert.PrjFwdRefIdeal.nD Cert.PrjFwdRefIdeal.τ).loc Cert.PrjFwdRefIdeal.main_arg2) = m ((c.tc : Thread Cert.PrjFwdIdeal.nD Cert.PrjFwdIdeal.τ).loc Cert.PrjFwdIdeal.main_arg2)
      ∧ m' ((c.tc : Thread Cert.PrjFwdRefIdeal.nD Cert.PrjFwdRefIdeal.τ).loc Cert.PrjFwdRefIdeal.main_arg3) = m ((c.tc : Thread Cert.PrjFwdIdeal.nD Cert.PrjFwdIdeal.τ).loc Cert.PrjFwdIdeal.main_arg3)) →
    ∃ (v0 : (c : Dev Cert.PrjFwdIdeal.nD) → Buf (Elt Ideal) ((c.tc : Thread Cert.PrjFwdIdeal.nD Cert.PrjFwdIdeal.τ).loc Cert.PrjFwdIdeal.main_v24_0)) (v1 : (c : Dev Cert.PrjFwdIdeal.nD) → Buf (Elt Ideal) ((c.tc : Thread Cert.PrjFwdIdeal.nD Cert.PrjFwdIdeal.τ).loc Cert.PrjFwdIdeal.main_v24_1)),
      θ_run (Cert.PrjFwdIdeal.defs (F := Ideal)) (onTc (τ := Cert.PrjFwdIdeal.τ) (Cert.PrjFwdIdeal.main (F := Ideal))) ⟨m, fun _ => 0, g⟩ (fun r => ∀ c : Dev Cert.PrjFwdIdeal.nD,
          r.2.mem ((c.tc : Thread Cert.PrjFwdIdeal.nD Cert.PrjFwdIdeal.τ).loc Cert.PrjFwdIdeal.main_v24_0) = v0 c
          ∧ r.2.mem ((c.tc : Thread Cert.PrjFwdIdeal.nD Cert.PrjFwdIdeal.τ).loc Cert.PrjFwdIdeal.main_v24_1) = v1 c
          ∧ r.2.mem ((c.tc : Thread Cert.PrjFwdIdeal.nD Cert.PrjFwdIdeal.τ).loc Cert.PrjFwdIdeal.main_arg0) = m ((c.tc : Thread Cert.PrjFwdIdeal.nD Cert.PrjFwdIdeal.τ).loc Cert.PrjFwdIdeal.main_arg0)
          ∧ r.2.mem ((c.tc : Thread Cert.PrjFwdIdeal.nD Cert.PrjFwdIdeal.τ).loc Cert.PrjFwdIdeal.main_arg1) = m ((c.tc : Thread Cert.PrjFwdIdeal.nD Cert.PrjFwdIdeal.τ).loc Cert.PrjFwdIdeal.main_arg1)
          ∧ r.2.mem ((c.tc : Thread Cert.PrjFwdIdeal.nD Cert.PrjFwdIdeal.τ).loc Cert.PrjFwdIdeal.main_arg2) = m ((c.tc : Thread Cert.PrjFwdIdeal.nD Cert.PrjFwdIdeal.τ).loc Cert.PrjFwdIdeal.main_arg2)
          ∧ r.2.mem ((c.tc : Thread Cert.PrjFwdIdeal.nD Cert.PrjFwdIdeal.τ).loc Cert.PrjFwdIdeal.main_arg3) = m ((c.tc : Thread Cert.PrjFwdIdeal.nD Cert.PrjFwdIdeal.τ).loc Cert.PrjFwdIdeal.main_arg3))
      ∧ θ_run (Cert.PrjFwdRefIdeal.defs (F := Ideal)) (onTc (τ := Cert.PrjFwdRefIdeal.τ) (Cert.PrjFwdRefIdeal.main (F := Ideal))) ⟨m', fun _ => 0, g'⟩ (fun r => ∀ c : Dev Cert.PrjFwdRefIdeal.nD,
          r.2.mem ((c.tc : Thread Cert.PrjFwdRefIdeal.nD Cert.PrjFwdRefIdeal.τ).loc Cert.PrjFwdRefIdeal.main_v109) = v0 c
          ∧ r.2.mem ((c.tc : Thread Cert.PrjFwdRefIdeal.nD Cert.PrjFwdRefIdeal.τ).loc Cert.PrjFwdRefIdeal.main_v110) = v1 c
          ∧ r.2.mem ((c.tc : Thread Cert.PrjFwdRefIdeal.nD Cert.PrjFwdRefIdeal.τ).loc Cert.PrjFwdRefIdeal.main_arg0) = m' ((c.tc : Thread Cert.PrjFwdRefIdeal.nD Cert.PrjFwdRefIdeal.τ).loc Cert.PrjFwdRefIdeal.main_arg0)
          ∧ r.2.mem ((c.tc : Thread Cert.PrjFwdRefIdeal.nD Cert.PrjFwdRefIdeal.τ).loc Cert.PrjFwdRefIdeal.main_arg1) = m' ((c.tc : Thread Cert.PrjFwdRefIdeal.nD Cert.PrjFwdRefIdeal.τ).loc Cert.PrjFwdRefIdeal.main_arg1)
          ∧ r.2.mem ((c.tc : Thread Cert.PrjFwdRefIdeal.nD Cert.PrjFwdRefIdeal.τ).loc Cert.PrjFwdRefIdeal.main_arg2) = m' ((c.tc : Thread Cert.PrjFwdRefIdeal.nD Cert.PrjFwdRefIdeal.τ).loc Cert.PrjFwdRefIdeal.main_arg2)
          ∧ r.2.mem ((c.tc : Thread Cert.PrjFwdRefIdeal.nD Cert.PrjFwdRefIdeal.τ).loc Cert.PrjFwdRefIdeal.main_arg3) = m' ((c.tc : Thread Cert.PrjFwdRefIdeal.nD Cert.PrjFwdRefIdeal.τ).loc Cert.PrjFwdRefIdeal.main_arg3))

def Claim : Prop :=
  ∃ (hKernel : Cert.Kernel.Facts) (hKernelIdeal : Cert.KernelIdeal.Facts) (hReferenceIdeal : Cert.ReferenceIdeal.Facts) (hLoss : Cert.Loss.Facts) (hLossIdeal : Cert.LossIdeal.Facts) (hLossRefIdeal : Cert.LossRefIdeal.Facts) (hRet : Cert.Ret.Facts) (hRetIdeal : Cert.RetIdeal.Facts) (hRetRefIdeal : Cert.RetRefIdeal.Facts) (hMerge : Cert.Merge.Facts) (hMergeIdeal : Cert.MergeIdeal.Facts) (hMergeRefIdeal : Cert.MergeRefIdeal.Facts) (hHid : Cert.Hid.Facts) (hHidIdeal : Cert.HidIdeal.Facts) (hHidRefIdeal : Cert.HidRefIdeal.Facts) (hFfn : Cert.Ffn.Facts) (hFfnIdeal : Cert.FfnIdeal.Facts) (hFfnRefIdeal : Cert.FfnRefIdeal.Facts) (hPrj : Cert.Prj.Facts) (hPrjIdeal : Cert.PrjIdeal.Facts) (hPrjRefIdeal : Cert.PrjRefIdeal.Facts) (hSguFwd : Cert.SguFwd.Facts) (hSguFwdIdeal : Cert.SguFwdIdeal.Facts) (hSguFwdRefIdeal : Cert.SguFwdRefIdeal.Facts) (hPrjFwd : Cert.PrjFwd.Facts) (hPrjFwdIdeal : Cert.PrjFwdIdeal.Facts) (hPrjFwdRefIdeal : Cert.PrjFwdRefIdeal.Facts) (hPre_finite : Cert.Pre_finite.Facts) (hPre_finite2 : Cert.Pre_finite2.Facts) (hPre_finite3 : Cert.Pre_finite3.Facts) (hPre_finite5 : Cert.Pre_finite5.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Loss (hLoss := hLoss)
    ∧ quiescent_LossIdeal (hLossIdeal := hLossIdeal)
    ∧ quiescent_LossIdeal_pre_finite2 (hLossIdeal := hLossIdeal) (hPre_finite2 := hPre_finite2)
    ∧ quiescent_LossRefIdeal (hLossRefIdeal := hLossRefIdeal)
    ∧ quiescent_LossRefIdeal_pre_finite2 (hLossRefIdeal := hLossRefIdeal) (hPre_finite2 := hPre_finite2)
    ∧ quiescent_Ret (hRet := hRet)
    ∧ quiescent_RetIdeal (hRetIdeal := hRetIdeal)
    ∧ quiescent_RetIdeal_pre_finite3 (hRetIdeal := hRetIdeal) (hPre_finite3 := hPre_finite3)
    ∧ quiescent_RetRefIdeal (hRetRefIdeal := hRetRefIdeal)
    ∧ quiescent_RetRefIdeal_pre_finite3 (hRetRefIdeal := hRetRefIdeal) (hPre_finite3 := hPre_finite3)
    ∧ quiescent_Merge (hMerge := hMerge)
    ∧ quiescent_MergeIdeal (hMergeIdeal := hMergeIdeal)
    ∧ quiescent_MergeRefIdeal (hMergeRefIdeal := hMergeRefIdeal)
    ∧ quiescent_Hid (hHid := hHid)
    ∧ quiescent_HidIdeal (hHidIdeal := hHidIdeal)
    ∧ quiescent_HidIdeal_pre_finite5 (hHidIdeal := hHidIdeal) (hPre_finite5 := hPre_finite5)
    ∧ quiescent_HidRefIdeal (hHidRefIdeal := hHidRefIdeal)
    ∧ quiescent_HidRefIdeal_pre_finite5 (hHidRefIdeal := hHidRefIdeal) (hPre_finite5 := hPre_finite5)
    ∧ quiescent_Ffn (hFfn := hFfn)
    ∧ quiescent_FfnIdeal (hFfnIdeal := hFfnIdeal)
    ∧ quiescent_FfnIdeal_pre_finite6 (hFfnIdeal := hFfnIdeal) (hPre_finite6 := hPre_finite6)
    ∧ quiescent_FfnRefIdeal (hFfnRefIdeal := hFfnRefIdeal)
    ∧ quiescent_FfnRefIdeal_pre_finite6 (hFfnRefIdeal := hFfnRefIdeal) (hPre_finite6 := hPre_finite6)
    ∧ quiescent_Prj (hPrj := hPrj)
    ∧ quiescent_PrjIdeal (hPrjIdeal := hPrjIdeal)
    ∧ quiescent_PrjIdeal_pre_finite7 (hPrjIdeal := hPrjIdeal) (hPre_finite7 := hPre_finite7)
    ∧ quiescent_PrjRefIdeal (hPrjRefIdeal := hPrjRefIdeal)
    ∧ quiescent_PrjRefIdeal_pre_finite7 (hPrjRefIdeal := hPrjRefIdeal) (hPre_finite7 := hPre_finite7)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_PrjFwd (hPrjFwd := hPrjFwd)
    ∧ quiescent_PrjFwdIdeal (hPrjFwdIdeal := hPrjFwdIdeal)
    ∧ quiescent_PrjFwdRefIdeal (hPrjFwdRefIdeal := hPrjFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Loss_LossIdeal
    ∧ algebraic_LossIdeal_LossRefIdeal_pre_finite2 (hLossIdeal := hLossIdeal) (hLossRefIdeal := hLossRefIdeal) (hPre_finite2 := hPre_finite2)
    ∧ preserves_Ret_RetIdeal
    ∧ algebraic_RetIdeal_RetRefIdeal_pre_finite3 (hRetIdeal := hRetIdeal) (hRetRefIdeal := hRetRefIdeal) (hPre_finite3 := hPre_finite3)
    ∧ preserves_Merge_MergeIdeal
    ∧ algebraic_MergeIdeal_MergeRefIdeal (hMergeIdeal := hMergeIdeal) (hMergeRefIdeal := hMergeRefIdeal)
    ∧ preserves_Hid_HidIdeal
    ∧ algebraic_HidIdeal_HidRefIdeal_pre_finite5 (hHidIdeal := hHidIdeal) (hHidRefIdeal := hHidRefIdeal) (hPre_finite5 := hPre_finite5)
    ∧ preserves_Ffn_FfnIdeal
    ∧ algebraic_FfnIdeal_FfnRefIdeal_pre_finite6 (hFfnIdeal := hFfnIdeal) (hFfnRefIdeal := hFfnRefIdeal) (hPre_finite6 := hPre_finite6)
    ∧ preserves_Prj_PrjIdeal
    ∧ algebraic_PrjIdeal_PrjRefIdeal_pre_finite7 (hPrjIdeal := hPrjIdeal) (hPrjRefIdeal := hPrjRefIdeal) (hPre_finite7 := hPre_finite7)
    ∧ preserves_SguFwd_SguFwdIdeal
    ∧ algebraic_SguFwdIdeal_SguFwdRefIdeal (hSguFwdIdeal := hSguFwdIdeal) (hSguFwdRefIdeal := hSguFwdRefIdeal)
    ∧ preserves_PrjFwd_PrjFwdIdeal
    ∧ algebraic_PrjFwdIdeal_PrjFwdRefIdeal (hPrjFwdIdeal := hPrjFwdIdeal) (hPrjFwdRefIdeal := hPrjFwdRefIdeal)
-- ==== Pre_finite.lean ====
abbrev S1x4096x8192 : Shape := ⟨3, ![1, 4096, 8192]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S8x4096x1024 : Shape := ⟨3, ![8, 4096, 1024]⟩
abbrev S1x4096x2048 : Shape := ⟨3, ![1, 4096, 2048]⟩
abbrev S_ : Shape := ⟨0, ![]⟩

class Facts : Prop where
  slices_S1x4096x8192_S1x4096x2048_0_0_0 : S1x4096x8192.Slices ![0, 0, 0] S1x4096x2048
  bcast_S_S1x4096x2048 : S_.BroadcastsInDim S1x4096x2048 (![] : Fin 0 → Fin S1x4096x2048.rank)
  bcast_S_S1x1024 : S_.BroadcastsInDim S1x1024 (![] : Fin 0 → Fin S1x1024.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x4096x1024 : S_.BroadcastsInDim S1x4096x1024 (![] : Fin 0 → Fin S1x4096x1024.rank)

variable [Facts]

def fn_part1 {F : FTy → Type} [FloatOps F] (main_v3 : IVec S1x4096x2048 1) (main_v6 : IVec S1x1024 1) (main_v9 : IVec S1x1024 1) (main_v12 : IVec S1x4x128x128 1) (main_v15 : IVec S1x4x128 1) (main_v16 : FVec F S1x4096x1024 .f32) (main_v17 : FVec F S1x4096x1024 .f32) : IVec S1x4096x2048 1 × IVec S1x1024 1 × IVec S1x1024 1 × IVec S1x4x128x128 1 × IVec S1x4x128 1 × IVec S1x4096x1024 1 :=
  let main_v18 : IVec S1x4096x1024 1 := cmpf .olt main_v16 main_v17
  (main_v3, main_v6, main_v9, main_v12, main_v15, main_v18)

def fn {F : FTy → Type} [FloatOps F] (main_arg0 : FVec F S1x4096x8192 .f32) (main_arg1 : FVec F S1x1024 .f32) (main_arg2 : FVec F S1x1024 .f32) (main_arg3 : FVec F S1x4x128x128 .f32) (main_arg4 : FVec F S1x4x128 .f32) (main_arg5 : FVec F S1x4096x1024 .f32) (main_arg6 : FVec F S8x4096x1024 .bf16) : IVec S1x4096x2048 1 × IVec S1x1024 1 × IVec S1x1024 1 × IVec S1x4x128x128 1 × IVec S1x4x128 1 × IVec S1x4096x1024 1 :=
  let main_v0 : FVec F S1x4096x2048 .f32 := (extractStridedSlice S1x4096x2048 ![0, 0, 0] · slices_S1x4096x8192_S1x4096x2048_0_0_0) main_arg0
  let main_v1 : FVec F S1x4096x2048 .f32 := Host.absf main_v0
  let main_cst : FVec F S_ .f32 := constant S_ .f32 0x7F800000#32
  let main_v2 : FVec F S1x4096x2048 .f32 := broadcastInDim S1x4096x2048 ![] bcast_S_S1x4096x2048 main_cst
  let main_v3 : IVec S1x4096x2048 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x4x128x128 .f32 := Host.absf main_arg3
  let main_cst_2 : FVec F S_ .f32 := constant S_ .f32 0x7F800000#32
  let main_v11 : FVec F S1x4x128x128 .f32 := broadcastInDim S1x4x128x128 ![] bcast_S_S1x4x128x128 main_cst_2
  let main_v12 : IVec S1x4x128x128 1 := cmpf .olt main_v10 main_v11
  let main_v13 : FVec F S1x4x128 .f32 := Host.absf main_arg4
  let main_cst_3 : FVec F S_ .f32 := constant S_ .f32 0x7F800000#32
  let main_v14 : FVec F S1x4x128 .f32 := broadcastInDim S1x4x128 ![] bcast_S_S1x4x128 main_cst_3
  let main_v15 : IVec S1x4x128 1 := cmpf .olt main_v13 main_v14
  let main_v16 : FVec F S1x4096x1024 .f32 := Host.absf main_arg5
  let main_cst_4 : FVec F S_ .f32 := constant S_ .f32 0x7F800000#32
  let main_v17 : FVec F S1x4096x1024 .f32 := broadcastInDim S1x4096x1024 ![] bcast_S_S1x4096x1024 main_cst_4
  fn_part1 (F := F) main_v3 main_v6 main_v9 main_v12 main_v15 main_v16 main_v17
-- ==== Pre_finite2.lean ====
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S4096x1024 .f32) (main_arg1 : FVec F S1024 .f32) (main_arg2 : FVec F S1x4096x1024 .f32) : IVec S4096x1024 1 × IVec S1024 1 × IVec S1x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  (main_v2, main_v5, main_v8)
-- ==== Pre_finite3.lean ====
abbrev S1x4096x1024 : Shape := ⟨3, ![1, 4096, 1024]⟩
abbrev S1x2x4 : Shape := ⟨3, ![1, 2, 4]⟩
abbrev S8x4096x1024 : Shape := ⟨3, ![8, 4096, 1024]⟩
abbrev S_ : Shape := ⟨0, ![]⟩

class Facts : Prop where
  bcast_S_S1x4096x1024 : S_.BroadcastsInDim S1x4096x1024 (![] : Fin 0 → Fin S1x4096x1024.rank)
  bcast_S_S1x2x4 : S_.BroadcastsInDim S1x2x4 (![] : Fin 0 → Fin S1x2x4.rank)

variable [Facts]

def fn {F : FTy → Type} [FloatOps F] (main_arg0 : FVec F S1x4096x1024 .f32) (main_arg1 : FVec F S1x4096x1024 .f32) (main_arg2 : FVec F S1x4096x1024 .f32) (main_arg3 : FVec F S1x4096x1024 .f32) (main_arg4 : FVec F S1x2x4 .f32) (main_arg5 : FVec F S1x4096x1024 .f32) (main_arg6 : FVec F S8x4096x1024 .bf16) : IVec S1x4096x1024 1 × IVec S1x4096x1024 1 × IVec S1x4096x1024 1 × IVec S1x4096x1024 1 × IVec S1x2x4 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x2x4 .f32 := Host.absf main_arg4
  let main_cst_3 : FVec F S_ .f32 := constant S_ .f32 0x7F800000#32
  let main_v13 : FVec F S1x2x4 .f32 := broadcastInDim S1x2x4 ![] bcast_S_S1x2x4 main_cst_3
  let main_v14 : IVec S1x2x4 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_finite5.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S4096x1024 .f32) : IVec S1x1024 1 × IVec S1x1024x2816 1 × IVec S1x1024x2816 1 × IVec S1x2816x1024 1 × IVec S4096x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2816 .f32 := Host.absf main_arg2
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  let main_v6 : FVec F S1x1024x2816 .f32 := Host.absf main_arg3
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x2816x1024 .f32 := Host.absf main_arg4
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite6.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S4096x1024 .f32) (main_arg5 : FVec F S4096x2816 .f32) (main_arg6 : FVec F S4096x2816 .f32) : IVec S4096x1024 1 × IVec S1x1024 1 × IVec S1x1024x2816 1 × IVec S1x1024x2816 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S4096x2816 .f32 := Host.absf main_arg5
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  let main_v15 : FVec F S4096x2816 .f32 := Host.absf main_arg6
  let main_cst_4 : FVec F S_ .f32 := constant S_ .f32 0x7F800000#32
  let main_v16 : FVec F S4096x2816 .f32 := broadcastInDim S4096x2816 ![] bcast_S_S4096x2816 main_cst_4
  let main_v17 : IVec S4096x2816 1 := cmpf .olt main_v15 main_v16
  (main_v2, main_v5, main_v8, main_v11, main_v14, main_v17)
-- ==== Pre_finite7.lean ====
abbrev S4096x1024 : Shape := ⟨2, ![4096, 1024]⟩
abbrev S1x1024 : Shape := ⟨2, ![1, 1024]⟩
abbrev S1x1024x8192 : Shape := ⟨3, ![1, 1024, 8192]⟩
abbrev S1x8192 : Shape := ⟨2, ![1, 8192]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x8192 : S_.BroadcastsInDim S1x1024x8192 (![] : Fin 0 → Fin S1x1024x8192.rank)
  bcast_S_S4096x8192 : S_.BroadcastsInDim S4096x8192 (![] : Fin 0 → Fin S4096x8192.rank)

variable [Facts]

def fn {F : FTy → Type} [FloatOps F] (main_arg0 : FVec F S4096x1024 .f32) (main_arg1 : FVec F S1x1024 .f32) (main_arg2 : FVec F S1x1024x8192 .f32) (main_arg3 : FVec F S1x8192 .f32) (main_arg4 : FVec F S4096x1024 .f32) (main_arg5 : FVec F S4096x8192 .f32) : IVec S4096x1024 1 × IVec S1x1024 1 × IVec S1x1024x8192 1 × IVec S4096x8192 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x8192 .f32 := Host.absf main_arg2
  let main_cst_1 : FVec F S_ .f32 := constant S_ .f32 0x7F800000#32
  let main_v7 : FVec F S1x1024x8192 .f32 := broadcastInDim S1x1024x8192 ![] bcast_S_S1x1024x8192 main_cst_1
  let main_v8 : IVec S1x1024x8192 1 := cmpf .olt main_v6 main_v7
  let main_v9 : FVec F S4096x8192 .f32 := Host.absf main_arg5
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  (main_v2, main_v5, main_v8, main_v11)
-- ==== Kernel.lean ====
abbrev S1x4096x8192 : Shape := ⟨3, ![1, 4096, 8192]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S8x4096x1024 : Shape := ⟨3, ![8, 4096, 1024]⟩
abbrev S4096x1024 : Shape := ⟨2, ![4096, 1024]⟩
abbrev S4x128x128 : Shape := ⟨3, ![4, 128, 128]⟩
abbrev S4x128 : Shape := ⟨2, ![4, 128]⟩
abbrev S4x128x1 : Shape := ⟨3, ![4, 128, 1]⟩
abbrev S4x8x128 : Shape := ⟨3, ![4, 8, 128]⟩
abbrev S512x1024 : Shape := ⟨2, ![512, 1024]⟩
abbrev S2x512x1024 : Shape := ⟨3, ![2, 512, 1024]⟩
abbrev S1x512x1024 : Shape := ⟨3, ![1, 512, 1024]⟩
abbrev S512 : Shape := ⟨1, ![512]⟩
abbrev S512x1 : Shape := ⟨2, ![512, 1]⟩
abbrev S8x256 : Shape := ⟨2, ![8, 256]⟩
abbrev S1x128x128 : Shape := ⟨3, ![1, 128, 128]⟩
abbrev S128x128 : Shape := ⟨2, ![128, 128]⟩
abbrev S128x256 : Shape := ⟨2, ![128, 256]⟩
abbrev S1x128x1 : Shape := ⟨3, ![1, 128, 1]⟩
abbrev S128x1 : Shape := ⟨2, ![128, 1]⟩
abbrev S1x8x128 : Shape := ⟨3, ![1, 8, 128]⟩
abbrev S8x128 : Shape := ⟨2, ![8, 128]⟩
abbrev S1024 : Shape := ⟨1, ![1024]⟩

abbrev nBuf : Space → Nat
  | .hbm => 47
  | .vmem => 17
  | .smem => 0
  | _ => 0

abbrev bufTy : (tb : Table) → Fin (tcTables nBuf tb) → BufTy
  | .hbm, ⟨0, _⟩ => ⟨S1x4096x8192, .f32⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S1x4096x1024, .f32⟩
  | .hbm, ⟨6, _⟩ => ⟨S8x4096x1024, .bf16⟩
  | .hbm, ⟨7, _⟩ => ⟨S1x4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S4096x1024, .f32⟩
  | .hbm, ⟨21, _⟩ => ⟨S1x4096x1024, .f32⟩
  | .hbm, ⟨22, _⟩ => ⟨S4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S8x4096x1024, .f32⟩
  | .hbm, ⟨32, _⟩ => ⟨S8x4096x1024, .bf16⟩
  | .hbm, ⟨33, _⟩ => ⟨S4x128x128, .f32⟩
  | .hbm, ⟨34, _⟩ => ⟨S4x128x128, .bf16⟩
  | .hbm, ⟨35, _⟩ => ⟨S4x128x128, .f32⟩
  | .hbm, ⟨36, _⟩ => ⟨S4x128x128, .f32⟩
  | .hbm, ⟨37, _⟩ => ⟨S4x128x128, .bf16⟩
  | .hbm, ⟨38, _⟩ => ⟨S4x128, .f32⟩
  | .hbm, ⟨39, _⟩ => ⟨S4x128x1, .f32⟩
  | .hbm, ⟨40, _⟩ => ⟨S4096x1024, .f32⟩
  | .hbm, ⟨41, _⟩ => ⟨S4096x1024, .bf16⟩
  | .hbm, ⟨42, _⟩ => ⟨S8x4096x1024, .bf16⟩
  | .hbm, ⟨43, _⟩ => ⟨S4x128x128, .f32⟩
  | .hbm, ⟨44, _⟩ => ⟨S4x8x128, .f32⟩
  | .hbm, ⟨45, _⟩ => ⟨S1x1024, .f32⟩
  | .hbm, ⟨46, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1x1024, .f32⟩
  | .local _ .vmem, ⟨5, _⟩ => ⟨S1x1024, .f32⟩
  | .local _ .vmem, ⟨6, _⟩ => ⟨S4x128x128, .bf16⟩
  | .local _ .vmem, ⟨7, _⟩ => ⟨S4x128x128, .bf16⟩
  | .local _ .vmem, ⟨8, _⟩ => ⟨S4x128x1, .f32⟩
  | .local _ .vmem, ⟨9, _⟩ => ⟨S2x512x1024, .bf16⟩
  | .local _ .vmem, ⟨10, _⟩ => ⟨S2x512x1024, .bf16⟩
  | .local _ .vmem, ⟨11, _⟩ => ⟨S4x128x128, .f32⟩
  | .local _ .vmem, ⟨12, _⟩ => ⟨S4x8x128, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== ReferenceIdeal.lean ====
abbrev S1x4096x8192 : Shape := ⟨3, ![1, 4096, 8192]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S8x4096x1024 : Shape := ⟨3, ![8, 4096, 1024]⟩
abbrev S4x128x128 : Shape := ⟨3, ![4, 128, 128]⟩
abbrev S4x8x128 : Shape := ⟨3, ![4, 8, 128]⟩
abbrev S1024 : Shape := ⟨1, ![1024]⟩
abbrev S4x128 : Shape := ⟨2, ![4, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S4x1x32x256x128 : Shape := ⟨5, ![4, 1, 32, 256, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S4096 : Shape := ⟨1, ![4096]⟩
abbrev S6x4096x1024 : Shape := ⟨3, ![6, 4096, 1024]⟩
abbrev S4x1x128 : Shape := ⟨3, ![4, 1, 128]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x8192, .f32⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S1x4096x1024, .f32⟩
  | .hbm, ⟨6, _⟩ => ⟨S8x4096x1024, .bf16⟩
  | .hbm, ⟨7, _⟩ => ⟨S8x4096x1024, .bf16⟩
  | .hbm, ⟨8, _⟩ => ⟨S4x128x128, .f32⟩
  | .hbm, ⟨9, _⟩ => ⟨S4x8x128, .f32⟩
  | .hbm, ⟨10, _⟩ => ⟨S1x1024, .f32⟩
  | .hbm, ⟨11, _⟩ => ⟨S1x1024, .f32⟩
  | .local _ .vmem, ⟨0, _⟩ => ⟨S1x4096x8192, .f32⟩
  | .local _ .vmem, ⟨1, _⟩ => ⟨S1x1024, .f32⟩
  | .local _ .vmem, ⟨2, _⟩ => ⟨S1x1024, .f32⟩
  | .local _ .vmem, ⟨3, _⟩ => ⟨S1x4x128x128, .f32⟩
  | .local _ .vmem, ⟨4, _⟩ => ⟨S1x4x128, .f32⟩
  | .local _ .vmem, ⟨5, _⟩ => ⟨S1x4096x1024, .f32⟩
  | .local _ .vmem, ⟨6, _⟩ => ⟨S8x4096x1024, .bf16⟩
  | .local _ .vmem, ⟨7, _⟩ => ⟨S8x4096x1024, .bf16⟩
  | .local _ .vmem, ⟨8, _⟩ => ⟨S4x128x128, .f32⟩
  | .local _ .vmem, ⟨9, _⟩ => ⟨S4x8x128, .f32⟩
  | .local _ .vmem, ⟨10, _⟩ => ⟨S1x1024, .f32⟩
  | .local _ .vmem, ⟨11, _⟩ => ⟨S1x1024, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "rsqrt2" => some (((Real.sqrt 2)⁻¹ : ℝ) : EReal)
  | "two_rsqrtpi" => some ((2 * (Real.sqrt Real.pi)⁻¹ : ℝ) : EReal)
  | _ => none

abbrev grid0 : Pipeline.Grid := .none

abbrev stage0_0 : Fin 1 → Memref sig .tc .vmem S1x4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Loss.lean ====
abbrev S4096x1024 : Shape := ⟨2, ![4096, 1024]⟩
abbrev S1024 : Shape := ⟨1, ![1024]⟩
abbrev S1x4096x1024 : Shape := ⟨3, ![1, 4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1x1024, .f32⟩
  | .hbm, ⟨77, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Ret.lean ====
abbrev S1x4096x1024 : Shape := ⟨3, ![1, 4096, 1024]⟩
abbrev S1x2x4 : Shape := ⟨3, ![1, 2, 4]⟩
abbrev S8x4096x1024 : Shape := ⟨3, ![8, 4096, 1024]⟩
abbrev S1x4096x4x256 : Shape := ⟨4, ![1, 4096, 4, 256]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S2x4 : Shape := ⟨2, ![2, 4]⟩
abbrev S1x4x4096x256 : Shape := ⟨4, ![1, 4, 4096, 256]⟩
abbrev S4x4096x256 : Shape := ⟨3, ![4, 4096, 256]⟩
abbrev S1x4096 : Shape := ⟨2, ![1, 4096]⟩
abbrev S4096x4096 : Shape := ⟨2, ![4096, 4096]⟩
abbrev S1x4 : Shape := ⟨2, ![1, 4]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4096x4x256 : Shape := ⟨3, ![4096, 4, 256]⟩
abbrev S4096x1024 : Shape := ⟨2, ![4096, 1024]⟩
abbrev S16 : Shape := ⟨1, ![16]⟩
abbrev S16x1 : Shape := ⟨2, ![16, 1]⟩
abbrev S16x4096 : Shape := ⟨2, ![16, 4096]⟩
abbrev S1x16x4096 : Shape := ⟨3, ![1, 16, 4096]⟩
abbrev S4x16x4096 : Shape := ⟨3, ![4, 16, 4096]⟩
abbrev S4x1x4096x256 : Shape := ⟨4, ![4, 1, 4096, 256]⟩
abbrev S4x16x4096x1 : Shape := ⟨4, ![4, 16, 4096, 1]⟩
abbrev S4x16x4096x256 : Shape := ⟨4, ![4, 16, 4096, 256]⟩
abbrev S4x16x256x256 : Shape := ⟨4, ![4, 16, 256, 256]⟩
abbrev S4x2 : Shape := ⟨2, ![4, 2]⟩
abbrev S4x6 : Shape := ⟨2, ![4, 6]⟩
abbrev S4x8 : Shape := ⟨2, ![4, 8]⟩
abbrev S4x8x1 : Shape := ⟨3, ![4, 8, 1]⟩
abbrev S4x8x256 : Shape := ⟨3, ![4, 8, 256]⟩
abbrev S4x4096x1024 : Shape := ⟨3, ![4, 4096, 1024]⟩
abbrev S4x8x128 : Shape := ⟨3, ![4, 8, 128]⟩
abbrev S4096x256 : Shape := ⟨2, ![4096, 256]⟩
abbrev S1x16x256x256 : Shape := ⟨4, ![1, 16, 256, 256]⟩
abbrev S1x4096x256 : Shape := ⟨3, ![1, 4096, 256]⟩
abbrev S1x8x256 : Shape := ⟨3, ![1, 8, 256]⟩
abbrev S1x8x128 : Shape := ⟨3, ![1, 8, 128]⟩
abbrev S256x256 : Shape := ⟨2, ![256, 256]⟩
abbrev S8x256 : Shape := ⟨2, ![8, 256]⟩
abbrev S1x2x256 : Shape := ⟨3, ![1, 2, 256]⟩
abbrev S2x256 : Shape := ⟨2, ![2, 256]⟩
abbrev S1x256 : Shape := ⟨2, ![1, 256]⟩
abbrev S256 : Shape := ⟨1, ![256]⟩
abbrev S256x1 : Shape := ⟨2, ![256, 1]⟩
abbrev S1x256x256 : Shape := ⟨3, ![1, 256, 256]⟩
abbrev S1x1x256x256 : Shape := ⟨4, ![1, 1, 256, 256]⟩
abbrev S256x128 : Shape := ⟨2, ![256, 128]⟩
abbrev S8 : Shape := ⟨1, ![8]⟩
abbrev S8x1 : Shape := ⟨2, ![8, 1]⟩
abbrev S1x8x1 : Shape := ⟨3, ![1, 8, 1]⟩
abbrev S8x128 : Shape := ⟨2, ![8, 128]⟩

abbrev nBuf : Space → Nat
  | .hbm => 298
  | .vmem => 27
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1x2x4, .f32⟩
  | 5 => ⟨S1x4096x1024, .f32⟩
  | 6 => ⟨S8x4096x1024, .bf16⟩
  | 7 => ⟨S1x4096x4x256, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S4096, .f32⟩
  | 23 => ⟨S4096x1, .f32⟩
  | 24 => ⟨S1x128, .f32⟩
  | 25 => ⟨S4096x128, .f32⟩
  | 26 => ⟨S4096x128, .f32⟩
  | 27 => ⟨S4096x128, .f32⟩
  | 28 => ⟨S4096x128, .f32⟩
  | 29 => ⟨S1x4096x1x128, .f32⟩
  | 30 => ⟨S4096x128, .f32⟩
  | 31 => ⟨S1x4096x1x128, .f32⟩
  | 32 => ⟨S1x4096x4x128, .f32⟩
  | 33 => ⟨S1x4096x4x128, .f32⟩
  | 34 => ⟨S1x4096x4x128, .f32⟩
  | 35 => ⟨S1x4096x4x128, .f32⟩
  | 36 => ⟨S1x4096x4x128, .f32⟩
  | 37 => ⟨S1x4096x4x128, .f32⟩
  | 38 => ⟨S1x4096x4x128, .f32⟩
  | 39 => ⟨S1x4096x4x128, .f32⟩
  | 40 => ⟨S1x4096x4x128, .f32⟩
  | 41 => ⟨S1x4096x4x128, .f32⟩
  | 42 => ⟨S1x4096x4x128, .f32⟩
  | 43 => ⟨S1x4096x4x128, .f32⟩
  | 44 => ⟨S1x4096x4x256, .f32⟩
  | 45 => ⟨S1x4096x4x256, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S4096, .f32⟩
  | 61 => ⟨S4096x1, .f32⟩
  | 62 => ⟨S1x128, .f32⟩
  | 63 => ⟨S4096x128, .f32⟩
  | 64 => ⟨S4096x128, .f32⟩
  | 65 => ⟨S4096x128, .f32⟩
  | 66 => ⟨S4096x128, .f32⟩
  | 67 => ⟨S1x4096x1x128, .f32⟩
  | 68 => ⟨S4096x128, .f32⟩
  | 69 => ⟨S1x4096x1x128, .f32⟩
  | 70 => ⟨S1x4096x4x128, .f32⟩
  | 71 => ⟨S1x4096x4x128, .f32⟩
  | 72 => ⟨S1x4096x4x128, .f32⟩
  | 73 => ⟨S1x4096x4x128, .f32⟩
  | 74 => ⟨S1x4096x4x128, .f32⟩
  | 75 => ⟨S1x4096x4x128, .f32⟩
  | 76 => ⟨S1x4096x4x128, .f32⟩
  | 77 => ⟨S1x4096x4x128, .f32⟩
  | 78 => ⟨S1x4096x4x128, .f32⟩
  | 79 => ⟨S1x4096x4x128, .f32⟩
  | 80 => ⟨S1x4096x4x128, .f32⟩
  | 81 => ⟨S1x4096x4x128, .f32⟩
  | 82 => ⟨S1x4096x4x256, .f32⟩
  | 83 => ⟨S_, .f32⟩
  | 84 => ⟨S1x4096x4x256, .f32⟩
  | 85 => ⟨S1x4096x4x256, .f32⟩
  | 86 => ⟨S1x4096x4x256, .f32⟩
  | 87 => ⟨S2x4, .f32⟩
  | 88 => ⟨S2x4, .f32⟩
  | 89 => ⟨S_, .f32⟩
  | 90 => ⟨S2x4, .f32⟩
  | 91 => ⟨S2x4, .f32⟩
  | 92 => ⟨S2x4, .f32⟩
  | 93 => ⟨S2x4, .f32⟩
  | 94 => ⟨S2x4, .i1⟩
  | 95 => ⟨S2x4, .f32⟩
  | 96 => ⟨S2x4, .f32⟩
  | 97 => ⟨S2x4, .f32⟩
  | 98 => ⟨S2x4, .f32⟩
  | 99 => ⟨S2x4, .f32⟩
  | 100 => ⟨S2x4, .f32⟩
  | 101 => ⟨S2x4, .f32⟩
  | 102 => ⟨S2x4, .f32⟩
  | 103 => ⟨S2x4, .f32⟩
  | 104 => ⟨S1x4x4096x256, .f32⟩
  | 105 => ⟨S4x4096x256, .f32⟩
  | 106 => ⟨S1x4x4096x256, .f32⟩
  | 107 => ⟨S4x4096x256, .f32⟩
  | 108 => ⟨S1x4x4096x256, .f32⟩
  | 109 => ⟨S4x4096x256, .f32⟩
  | 110 => ⟨S4096, .f32⟩
  | 111 => ⟨S4096x1, .f32⟩
  | 112 => ⟨S1x4096, .f32⟩
  | 113 => ⟨S4096x4096, .f32⟩
  | 114 => ⟨S4096x4096, .f32⟩
  | 115 => ⟨S4096x4096, .f32⟩
  | 116 => ⟨S1x4, .f32⟩
  | 117 => ⟨S4, .f32⟩
  | 118 => ⟨S_, .f32⟩
  | 119 => ⟨S4096x4096, .f32⟩
  | 120 => ⟨S4096x4096, .i1⟩
  | 121 => ⟨S4x1x1, .f32⟩
  | 122 => ⟨S1x4096x4096, .i1⟩
  | 123 => ⟨S_, .f32⟩
  | 124 => ⟨S4096x4096, .f32⟩
  | 125 => ⟨S4096x4096, .f32⟩
  | 126 => ⟨S1x4096x4096, .f32⟩
  | 127 => ⟨S4x4096x4096, .f32⟩
  | _ => ⟨S1x4096x1024, .f32⟩

abbrev hbmTy0_1 (i : Nat) : BufTy := match i % 128 with
  | 0 => ⟨S4x4096x4096, .f32⟩
  | 1 => ⟨S4x4096x4096, .f32⟩
  | 2 => ⟨S4x4096x4096, .f32⟩
  | 3 => ⟨S_, .f32⟩
  | 4 => ⟨S_, .f32⟩
  | 5 => ⟨S4x4096x4096, .i1⟩
  | 6 => ⟨S4x4096x4096, .f32⟩
  | 7 => ⟨S4x4096x4096, .f32⟩
  | 8 => ⟨S4x4096x4096, .f32⟩
  | 9 => ⟨S4x4096x4096, .f32⟩
  | 10 => ⟨S4x4096x256, .f32⟩
  | 11 => ⟨S1x4, .f32⟩
  | 12 => ⟨S4, .f32⟩
  | 13 => ⟨S_, .f32⟩
  | 14 => ⟨S4096x4096, .f32⟩
  | 15 => ⟨S4096x4096, .i1⟩
  | 16 => ⟨S4096x4096, .f32⟩
  | 17 => ⟨S4x1x1, .f32⟩
  | 18 => ⟨S1x4096x4096, .i1⟩
  | 19 => ⟨S_, .f32⟩
  | 20 => ⟨S4096x4096, .f32⟩
  | 21 => ⟨S4096x4096, .f32⟩
  | 22 => ⟨S1x4096x4096, .f32⟩
  | 23 => ⟨S4x4096x4096, .f32⟩
  | 24 => ⟨S4x4096x4096, .f32⟩
  | 25 => ⟨S4x4096x4096, .f32⟩
  | 26 => ⟨S4x4096x4096, .f32⟩
  | 27 => ⟨S_, .f32⟩
  | 28 => ⟨S_, .f32⟩
  | 29 => ⟨S4x4096x4096, .i1⟩
  | 30 => ⟨S4x4096x4096, .f32⟩
  | 31 => ⟨S4x4096x4096, .f32⟩
  | 32 => ⟨S4x4096x4096, .f32⟩
  | 33 => ⟨S4x4096x4096, .f32⟩
  | 34 => ⟨S4x4096x256, .f32⟩
  | 35 => ⟨S4x4096x256, .f32⟩
  | 36 => ⟨S4096x4x256, .f32⟩
  | 37 => ⟨S1x4096x4x256, .f32⟩
  | 38 => ⟨S4096x1024, .f32⟩
  | 39 => ⟨S2x4, .f32⟩
  | 40 => ⟨S2x4, .f32⟩
  | 41 => ⟨S_, .f32⟩
  | 42 => ⟨S2x4, .f32⟩
  | 43 => ⟨S2x4, .f32⟩
  | 44 => ⟨S2x4, .f32⟩
  | 45 => ⟨S2x4, .f32⟩
  | 46 => ⟨S2x4, .i1⟩
  | 47 => ⟨S2x4, .f32⟩
  | 48 => ⟨S2x4, .f32⟩
  | 49 => ⟨S2x4, .f32⟩
  | 50 => ⟨S2x4, .f32⟩
  | 51 => ⟨S2x4, .f32⟩
  | 52 => ⟨S2x4, .f32⟩
  | 53 => ⟨S2x4, .f32⟩
  | 54 => ⟨S2x4, .f32⟩
  | 55 => ⟨S2x4, .f32⟩
  | 56 => ⟨S16, .f32⟩
  | 57 => ⟨S16x1, .f32⟩
  | 58 => ⟨S_, .f32⟩
  | 59 => ⟨S16x1, .f32⟩
  | 60 => ⟨S16x1, .f32⟩
  | 61 => ⟨S4096, .f32⟩
  | 62 => ⟨S1x4096, .f32⟩
  | 63 => ⟨S16x4096, .f32⟩
  | 64 => ⟨S16x4096, .f32⟩
  | 65 => ⟨S16x4096, .f32⟩
  | 66 => ⟨S1x4x4096x256, .f32⟩
  | 67 => ⟨S4x4096x256, .f32⟩
  | 68 => ⟨S1x4x4096x256, .f32⟩
  | 69 => ⟨S4x4096x256, .f32⟩
  | 70 => ⟨S1x4, .f32⟩
  | 71 => ⟨S4, .f32⟩
  | 72 => ⟨S_, .f32⟩
  | 73 => ⟨S16x4096, .f32⟩
  | 74 => ⟨S16x4096, .i1⟩
  | 75 => ⟨S_, .f32⟩
  | 76 => ⟨S16x4096, .f32⟩
  | 77 => ⟨S16x4096, .f32⟩
  | 78 => ⟨S1x16x4096, .i1⟩
  | 79 => ⟨S_, .f32⟩
  | 80 => ⟨S16x4096, .f32⟩
  | 81 => ⟨S16x4096, .f32⟩
  | 82 => ⟨S1x16x4096, .f32⟩
  | 83 => ⟨S4x1x1, .f32⟩
  | 84 => ⟨S4x16x4096, .f32⟩
  | 85 => ⟨S4x16x4096, .f32⟩
  | 86 => ⟨S4x16x4096, .f32⟩
  | 87 => ⟨S4x16x4096, .f32⟩
  | 88 => ⟨S_, .f32⟩
  | 89 => ⟨S_, .f32⟩
  | 90 => ⟨S4x16x4096, .i1⟩
  | 91 => ⟨S4x16x4096, .f32⟩
  | 92 => ⟨S4x16x4096, .f32⟩
  | 93 => ⟨S4x1x4096x256, .f32⟩
  | 94 => ⟨S4x16x4096x1, .f32⟩
  | 95 => ⟨S4x16x4096x256, .f32⟩
  | 96 => ⟨S4x16x4096x256, .f32⟩
  | 97 => ⟨S4x16x4096x256, .f32⟩
  | 98 => ⟨S4x16x256x256, .f32⟩
  | 99 => ⟨S4x16x256x256, .bf16⟩
  | 100 => ⟨S1x4, .f32⟩
  | 101 => ⟨S4, .f32⟩
  | 102 => ⟨S_, .f32⟩
  | 103 => ⟨S16x4096, .f32⟩
  | 104 => ⟨S16x4096, .i1⟩
  | 105 => ⟨S16x4096, .f32⟩
  | 106 => ⟨S_, .f32⟩
  | 107 => ⟨S16x4096, .f32⟩
  | 108 => ⟨S16x4096, .f32⟩
  | 109 => ⟨S1x16x4096, .i1⟩
  | 110 => ⟨S_, .f32⟩
  | 111 => ⟨S16x4096, .f32⟩
  | 112 => ⟨S16x4096, .f32⟩
  | 113 => ⟨S1x16x4096, .f32⟩
  | 114 => ⟨S4x1x1, .f32⟩
  | 115 => ⟨S4x16x4096, .f32⟩
  | 116 => ⟨S4x16x4096, .f32⟩
  | 117 => ⟨S4x16x4096, .f32⟩
  | 118 => ⟨S4x16x4096, .f32⟩
  | 119 => ⟨S_, .f32⟩
  | 120 => ⟨S_, .f32⟩
  | 121 => ⟨S4x16x4096, .i1⟩
  | 122 => ⟨S4x16x4096, .f32⟩
  | 123 => ⟨S4x16x4096, .f32⟩
  | 124 => ⟨S4x1x4096x256, .f32⟩
  | 125 => ⟨S4x16x4096x1, .f32⟩
  | 126 => ⟨S4x16x4096x256, .f32⟩
  | 127 => ⟨S4x16x4096x256, .f32⟩
  | _ => ⟨S1x4096x1024, .f32⟩

abbrev hbmTy0_2 (i : Nat) : BufTy := match i % 128 with
  | 0 => ⟨S4x16x4096x256, .f32⟩
  | 1 => ⟨S4x16x256x256, .f32⟩
  | 2 => ⟨S4x16x256x256, .bf16⟩
  | 3 => ⟨S2x4, .f32⟩
  | 4 => ⟨S4x2, .f32⟩
  | 5 => ⟨S_, .f32⟩
  | 6 => ⟨S4x6, .f32⟩
  | 7 => ⟨S4x8, .f32⟩
  | 8 => ⟨S4x8x1, .f32⟩
  | 9 => ⟨S4x8x256, .f32⟩
  | 10 => ⟨S_, .f32⟩
  | 11 => ⟨S4x4096x1024, .f32⟩
  | 12 => ⟨S1x4096x1024, .f32⟩
  | 13 => ⟨S1x4096x1024, .f32⟩
  | 14 => ⟨S8x4096x1024, .f32⟩
  | 15 => ⟨S8x4096x1024, .bf16⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S4096, .f32⟩
  | 31 => ⟨S4096x1, .f32⟩
  | 32 => ⟨S1x128, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S4096x1024, .f32⟩
  | 39 => ⟨S4096x1024, .bf16⟩
  | 40 => ⟨S8x4096x1024, .bf16⟩
  | 41 => ⟨S4x8x128, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S4096x256, .f32⟩
  | .local _ .vmem, ⟨3, _⟩ => ⟨S4096x256, .f32⟩
  | .local _ .vmem, ⟨4, _⟩ => ⟨S1x16x256x256, .bf16⟩
  | .local _ .vmem, ⟨5, _⟩ => ⟨S1x16x256x256, .bf16⟩
  | .local _ .vmem, ⟨6, _⟩ => ⟨S1x16x256x256, .bf16⟩
  | .local _ .vmem, ⟨7, _⟩ => ⟨S1x16x256x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S1x4096x256, .bf16⟩
  | .local _ .vmem, ⟨16, _⟩ => ⟨S4096x128, .f32⟩
  | .local _ .vmem, ⟨17, _⟩ => ⟨S4096x128, .f32⟩
  | .local _ .vmem, ⟨18, _⟩ => ⟨S1x8x256, .f32⟩
  | .local _ .vmem, ⟨19, _⟩ => ⟨S1x8x256, .f32⟩
  | .local _ .vmem, ⟨20, _⟩ => ⟨S4x4096x256, .bf16⟩
  | .local _ .vmem, ⟨21, _⟩ => ⟨S1x8x128, .f32⟩
  | .local _ .vmem, ⟨22, _⟩ => ⟨S1x8x128, .f32⟩
  | .local _ .vmem, ⟨23, _⟩ => ⟨S4096x256, .bf16⟩
  | .local _ .vmem, ⟨24, _⟩ => ⟨S256x256, .f32⟩
  | .local _ .vmem, ⟨25, _⟩ => ⟨S256x256, .f32⟩
  | .local _ .vmem, ⟨26, _⟩ => ⟨S8x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call0_v0 : Ref sig .tc := ⟨.hbm, 88, rfl⟩
abbrev main_call0_call0_cst : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_call0_v2 : Ref sig .tc := ⟨.hbm, 92, rfl⟩
abbrev main_call0_call0_v3 : Ref sig .tc := ⟨.hbm, 93, rfl⟩
abbrev main_call0_call0_v4 : Ref sig .tc := ⟨.hbm, 94, rfl⟩
abbrev main_call0_call0_v5 : Ref sig .tc := ⟨.hbm, 95, rfl⟩
abbrev main_call0_call0_v6 : Ref sig .tc := ⟨.hbm, 96, rfl⟩
abbrev main_call0_call0_v7 : Ref sig .tc := ⟨.hbm, 97, rfl⟩
abbrev main_call0_call0_v8 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_v1 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_8 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_9 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_10 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_11 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_12 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_13 : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_call3_v0 : Ref sig .tc := ⟨.hbm, 168, rfl⟩
abbrev main_call3_call0_cst : Ref sig .tc := ⟨.hbm, 169, rfl⟩
abbrev main_call3_call0_v0 : Ref sig .tc := ⟨.hbm, 170, rfl⟩
abbrev main_call3_call0_v1 : Ref sig .tc := ⟨.hbm, 171, rfl⟩
abbrev main_call3_call0_v2 : Ref sig .tc := ⟨.hbm, 172, rfl⟩
abbrev main_call3_call0_v3 : Ref sig .tc := ⟨.hbm, 173, rfl⟩
abbrev main_call3_call0_v4 : Ref sig .tc := ⟨.hbm, 174, rfl⟩
abbrev main_call3_call0_v5 : Ref sig .tc := ⟨.hbm, 175, rfl⟩
abbrev main_call3_call0_v6 : Ref sig .tc := ⟨.hbm, 176, rfl⟩
abbrev main_call3_call0_v7 : Ref sig .tc := ⟨.hbm, 177, rfl⟩
abbrev main_call3_call0_v8 : Ref sig .tc := ⟨.hbm, 178, rfl⟩
abbrev main_call3_call0_v9 : Ref sig .tc := ⟨.hbm, 179, rfl⟩
abbrev main_call3_call0_v10 : Ref sig .tc := ⟨.hbm, 180, rfl⟩
abbrev main_call3_call0_v11 : Ref sig .tc := ⟨.hbm, 181, rfl⟩
abbrev main_call3_v1 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_14 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_15 : Ref sig .tc := ⟨.hbm, 200, rfl⟩
abbrev main_v141 : Ref sig .tc := ⟨.hbm, 201, rfl⟩
abbrev main_v142 : Ref sig .tc := ⟨.hbm, 202, rfl⟩
abbrev main_cst_16 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_17 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_18 : Ref sig .tc := ⟨.hbm, 216, rfl⟩
abbrev main_call4_v0 : Ref sig .tc := ⟨.hbm, 217, rfl⟩
abbrev main_call4_v1 : Ref sig .tc := ⟨.hbm, 218, rfl⟩
abbrev main_call4_v2 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_cst_19 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_20 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_cst_21 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_22 : Ref sig .tc := ⟨.hbm, 247, rfl⟩
abbrev main_call5_v0 : Ref sig .tc := ⟨.hbm, 248, rfl⟩
abbrev main_call5_v1 : Ref sig .tc := ⟨.hbm, 249, rfl⟩
abbrev main_call5_v2 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_cst_23 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_cst_24 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_25 : Ref sig .tc := ⟨.hbm, 273, rfl⟩
abbrev main_v198 : Ref sig .tc := ⟨.hbm, 274, rfl⟩
abbrev main_v199 : Ref sig .tc := ⟨.hbm, 275, rfl⟩
abbrev main_cst_26 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_cst_27 : Ref sig .tc := ⟨.hbm, 280, rfl⟩
abbrev main_v203 : Ref sig .tc := ⟨.hbm, 281, rfl⟩
abbrev main_v204 : Ref sig .tc := ⟨.hbm, 282, rfl⟩
abbrev main_cst_28 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217_0 : Ref sig .tc := ⟨.hbm, 296, rfl⟩
abbrev main_v217_1 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v74 : BitVec 32 := Scalar.addi c0_i32 c16_i32
  let c1_i32 : BitVec 32 := 1#32
  ⟨c0_i32, v74, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32 : BitVec 32 := 256#32
  let v114 : BitVec 32 := Scalar.muli arg19 c256_i32
  v114
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c256_i32 : BitVec 32 := 256#32
  let v114 : BitVec 32 := Scalar.muli arg19 c256_i32
  let v115 : BitVec 32 := v114
  let v116 : Index := Scalar.indexCast v115
  let c0_44 : Index := 0#32
  ![v116.toNat, 0]
def k0_off2 (k0_t1 : Fin k0_t1_loop.trips) : Fin 3 → Nat :=
  let c0_48 : Index := 0#32
  let c0_i32 : BitVec 32 := 0#32
  let c1_i32 : BitVec 32 := 1#32
  let arg19 : BitVec 32 := Scf.iv c0_i32 c1_i32 k0_t1
  let c256_i32 : BitVec 32 := 256#32
  let v114 : BitVec 32 := Scalar.muli arg19 c256_i32
  let v115 : BitVec 32 := v114
  let v129 : Index := Scalar.indexCast v115
  let c0_49 : Index := 0#32
  ![0, v129.toNat, 0]
def k0_off3 (k0_t1 : Fin k0_t1_loop.trips) : Fin 3 → Nat :=
  let c3 : Index := 3#32
  let c0_i32 : BitVec 32 := 0#32
  let c1_i32 : BitVec 32 := 1#32
  let arg19 : BitVec 32 := Scf.iv c0_i32 c1_i32 k0_t1
  let c256_i32 : BitVec 32 := 256#32
  let v114 : BitVec 32 := Scalar.muli arg19 c256_i32
  let v115 : BitVec 32 := v114
  let v147 : Index := Scalar.indexCast v115
  let c0_53 : Index := 0#32
  ![3, v147.toNat, 0]
@[reducible] def k0_t2_loop : Scf.Loop 32 :=
  let c0_i32_26 : BitVec 32 := 0#32
  let c8_i32 : BitVec 32 := 8#32
  let v93 : BitVec 32 := Scalar.addi c0_i32_26 c8_i32
  let c1_i32_27 : BitVec 32 := 1#32
  ⟨c0_i32_26, v93, c1_i32_27⟩
def k0_mult2 (k0_t2 : Fin k0_t2_loop.trips) : BitVec 32 :=
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  v114
def k0_off4 (k0_t2 : Fin k0_t2_loop.trips) : Fin 3 → Nat :=
  let c0_44 : Index := 0#32
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  let v115 : BitVec 32 := v114
  let v116 : Index := Scalar.indexCast v115
  let c0_45 : Index := 0#32
  ![0, v116.toNat, 0]
def k0_off5 (k0_t2 : Fin k0_t2_loop.trips) : Fin 2 → Nat :=
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  let v115 : BitVec 32 := v114
  let v125 : Index := Scalar.indexCast v115
  let c0_50 : Index := 0#32
  ![v125.toNat, 0]
def k0_off6 (k0_t2 : Fin k0_t2_loop.trips) : Fin 4 → Nat :=
  let c0_60 : Index := 0#32
  let c0_i32_26 : BitVec 32 := 0#32
  let c1_i32_27 : BitVec 32 := 1#32
  let arg19 : BitVec 32 := Scf.iv c0_i32_26 c1_i32_27 k0_t2
  let v149 : Index := Scalar.indexCast arg19
  let c0_61 : Index := 0#32
  let c0_62 : Index := 0#32
  ![0, v149.toNat, 0, 0]
def k0_off7 (k0_t2 : Fin k0_t2_loop.trips) : Fin 2 → Nat :=
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  let v115 : BitVec 32 := v114
  let v197 : Index := Scalar.indexCast v115
  let c0_79 : Index := 0#32
  ![v197.toNat, 0]
def k0_off8 (k0_t2 : Fin k0_t2_loop.trips) : Fin 3 → Nat :=
  let c0_81 : Index := 0#32
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  let v115 : BitVec 32 := v114
  let v213 : Index := Scalar.indexCast v115
  let c0_82 : Index := 0#32
  ![0, v213.toNat, 0]
def k0_off9 (k0_t2 : Fin k0_t2_loop.trips) : Fin 3 → Nat :=
  let c1 : Index := 1#32
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  let v115 : BitVec 32 := v114
  let v218 : Index := Scalar.indexCast v115
  let c0_83 : Index := 0#32
  ![1, v218.toNat, 0]
def k0_off10 (k0_t2 : Fin k0_t2_loop.trips) : Fin 3 → Nat :=
  let c2 : Index := 2#32
  let c0_i32_26 : BitVec 32 := 0#32
  let c1_i32_27 : BitVec 32 := 1#32
  let arg19 : BitVec 32 := Scf.iv c0_i32_26 c1_i32_27 k0_t2
  let c256_i32 : BitVec 32 := 256#32
  let v114 : BitVec 32 := Scalar.muli arg19 c256_i32
  let v115 : BitVec 32 := v114
  let v223 : Index := Scalar.indexCast v115
  let c0_84 : Index := 0#32
  ![2, v223.toNat, 0]
def k0_mult3 (k0_t2 : Fin k0_t2_loop.trips) : BitVec 32 :=
  let c15_i32 : BitVec 32 := 15#32
  let c0_i32_26 : BitVec 32 := 0#32
  let c1_i32_27 : BitVec 32 := 1#32
  let arg19 : BitVec 32 := Scf.iv c0_i32_26 c1_i32_27 k0_t2
  let v247 : BitVec 32 := Scalar.subi c15_i32 arg19
  let c256_i32_96 : BitVec 32 := 256#32
  let v248 : BitVec 32 := Scalar.muli v247 c256_i32_96
  v248
def k0_off11 (k0_t2 : Fin k0_t2_loop.trips) : Fin 3 → Nat :=
  let c0_97 : Index := 0#32
  let c15_i32 : BitVec 32 := 15#32
  let c0_i32_26 : BitVec 32 := 0#32
  let c1_i32_27 : BitVec 32 := 1#32
  let arg19 : BitVec 32 := Scf.iv c0_i32_26 c1_i32_27 k0_t2
  let v247 : BitVec 32 := Scalar.subi c15_i32 arg19
  let c256_i32_96 : BitVec 32 := 256#32
  let v248 : BitVec 32 := Scalar.muli v247 c256_i32_96
  let v249 : BitVec 32 := v248
  let v250 : Index := Scalar.indexCast v249
  let c0_98 : Index := 0#32
  ![0, v250.toNat, 0]
def k0_off12 (k0_t2 : Fin k0_t2_loop.trips) : Fin 2 → Nat :=
  let c15_i32 : BitVec 32 := 15#32
  let c0_i32_26 : BitVec 32 := 0#32
  let c1_i32_27 : BitVec 32 := 1#32
  let arg19 : BitVec 32 := Scf.iv c0_i32_26 c1_i32_27 k0_t2
  let v247 : BitVec 32 := Scalar.subi c15_i32 arg19
  let c256_i32_96 : BitVec 32 := 256#32
  let v248 : BitVec 32 := Scalar.muli v247 c256_i32_96
  let v249 : BitVec 32 := v248
  let v259 : Index := Scalar.indexCast v249
  let c0_103 : Index := 0#32
  ![v259.toNat, 0]
def k0_off13 (k0_t2 : Fin k0_t2_loop.trips) : Fin 4 → Nat :=
  let c0_110 : Index := 0#32
  let c15_i32 : BitVec 32 := 15#32
  let c0_i32_26 : BitVec 32 := 0#32
  let c1_i32_27 : BitVec 32 := 1#32
  let arg19 : BitVec 32 := Scf.iv c0_i32_26 c1_i32_27 k0_t2
  let v247 : BitVec 32 := Scalar.subi c15_i32 arg19
  let v274 : Index := Scalar.indexCast v247
  let c0_111 : Index := 0#32
  let c0_112 : Index := 0#32
  ![0, v274.toNat, 0, 0]
def k0_off14 (k0_t2 : Fin k0_t2_loop.trips) : Fin 3 → Nat :=
  let c1_119 : Index := 1#32
  let c15_i32 : BitVec 32 := 15#32
  let c0_i32_26 : BitVec 32 := 0#32
  let c1_i32_27 : BitVec 32 := 1#32
  let arg19 : BitVec 32 := Scf.iv c0_i32_26 c1_i32_27 k0_t2
  let v247 : BitVec 32 := Scalar.subi c15_i32 arg19
  let c256_i32_96 : BitVec 32 := 256#32
  let v248 : BitVec 32 := Scalar.muli v247 c256_i32_96
  let v249 : BitVec 32 := v248
  let v292 : Index := Scalar.indexCast v249
  let c0_120 : Index := 0#32
  ![1, v292.toNat, 0]
def k0_off15 (k0_t2 : Fin k0_t2_loop.trips) : Fin 3 → Nat :=
  let c2_121 : Index := 2#32
  let c15_i32 : BitVec 32 := 15#32
  let c0_i32_26 : BitVec 32 := 0#32
  let c1_i32_27 : BitVec 32 := 1#32
  let arg19 : BitVec 32 := Scf.iv c0_i32_26 c1_i32_27 k0_t2
  let v247 : BitVec 32 := Scalar.subi c15_i32 arg19
  let c256_i32_96 : BitVec 32 := 256#32
  let v248 : BitVec 32 := Scalar.muli v247 c256_i32_96
  let v249 : BitVec 32 := v248
  let v297 : Index := Scalar.indexCast v249
  let c0_122 : Index := 0#32
  ![2, v297.toNat, 0]
@[reducible] def k0_t3_loop : Scf.Loop 32 :=
  let c8_i32_29 : BitVec 32 := 8#32
  let c8_i32_30 : BitVec 32 := 8#32
  let v94 : BitVec 32 := Scalar.addi c8_i32_29 c8_i32_30
  let c1_i32_31 : BitVec 32 := 1#32
  ⟨c8_i32_29, v94, c1_i32_31⟩
def k0_mult4 (k0_t3 : Fin k0_t3_loop.trips) : BitVec 32 :=
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  v114
def k0_off16 (k0_t3 : Fin k0_t3_loop.trips) : Fin 3 → Nat :=
  let c0_44 : Index := 0#32
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  let v115 : BitVec 32 := v114
  let v116 : Index := Scalar.indexCast v115
  let c0_45 : Index := 0#32
  ![0, v116.toNat, 0]
def k0_off17 (k0_t3 : Fin k0_t3_loop.trips) : Fin 2 → Nat :=
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  let v115 : BitVec 32 := v114
  let v125 : Index := Scalar.indexCast v115
  let c0_50 : Index := 0#32
  ![v125.toNat, 0]
def k0_off18 (k0_t3 : Fin k0_t3_loop.trips) : Fin 4 → Nat :=
  let c0_60 : Index := 0#32
  let c8_i32_29 : BitVec 32 := 8#32
  let c1_i32_31 : BitVec 32 := 1#32
  let arg19 : BitVec 32 := Scf.iv c8_i32_29 c1_i32_31 k0_t3
  let v149 : Index := Scalar.indexCast arg19
  let c0_61 : Index := 0#32
  let c0_62 : Index := 0#32
  ![0, v149.toNat, 0, 0]
def k0_off19 (k0_t3 : Fin k0_t3_loop.trips) : Fin 2 → Nat :=
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  let v115 : BitVec 32 := v114
  let v197 : Index := Scalar.indexCast v115
  let c0_79 : Index := 0#32
  ![v197.toNat, 0]
def k0_off20 (k0_t3 : Fin k0_t3_loop.trips) : Fin 3 → Nat :=
  let c0_81 : Index := 0#32
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  let v115 : BitVec 32 := v114
  let v213 : Index := Scalar.indexCast v115
  let c0_82 : Index := 0#32
  ![0, v213.toNat, 0]
def k0_off21 (k0_t3 : Fin k0_t3_loop.trips) : Fin 3 → Nat :=
  let c1 : Index := 1#32
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  let v115 : BitVec 32 := v114
  let v223 : Index := Scalar.indexCast v115
  let c0_85 : Index := 0#32
  ![1, v223.toNat, 0]
def k0_off22 (k0_t3 : Fin k0_t3_loop.trips) : Fin 3 → Nat :=
  let c2 : Index := 2#32
  let c8_i32_29 : BitVec 32 := 8#32
  let c1_i32_31 : BitVec 32 := 1#32
  let arg19 : BitVec 32 := Scf.iv c8_i32_29 c1_i32_31 k0_t3
  let c256_i32 : BitVec 32 := 256#32
  let v114 : BitVec 32 := Scalar.muli arg19 c256_i32
  let v115 : BitVec 32 := v114
  let v244 : Index := Scalar.indexCast v115
  let c0_89 : Index := 0#32
  ![2, v244.toNat, 0]
def k0_mult5 (k0_t3 : Fin k0_t3_loop.trips) : BitVec 32 :=
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let c256_i32_103 : BitVec 32 := 256#32
  let v275 : BitVec 32 := Scalar.muli v274 c256_i32_103
  v275
def k0_off23 (k0_t3 : Fin k0_t3_loop.trips) : Fin 3 → Nat :=
  let c0_104 : Index := 0#32
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let c256_i32_103 : BitVec 32 := 256#32
  let v275 : BitVec 32 := Scalar.muli v274 c256_i32_103
  let v276 : BitVec 32 := v275
  let v277 : Index := Scalar.indexCast v276
  let c0_105 : Index := 0#32
  ![0, v277.toNat, 0]
def k0_off24 (k0_t3 : Fin k0_t3_loop.trips) : Fin 2 → Nat :=
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let c256_i32_103 : BitVec 32 := 256#32
  let v275 : BitVec 32 := Scalar.muli v274 c256_i32_103
  let v276 : BitVec 32 := v275
  let v286 : Index := Scalar.indexCast v276
  let c0_110 : Index := 0#32
  ![v286.toNat, 0]
def k0_off25 (k0_t3 : Fin k0_t3_loop.trips) : Fin 4 → Nat :=
  let c0_117 : Index := 0#32
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let v301 : Index := Scalar.indexCast v274
  let c0_118 : Index := 0#32
  let c0_119 : Index := 0#32
  ![0, v301.toNat, 0, 0]
def k0_off26 (k0_t3 : Fin k0_t3_loop.trips) : Fin 2 → Nat :=
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let c256_i32_103 : BitVec 32 := 256#32
  let v275 : BitVec 32 := Scalar.muli v274 c256_i32_103
  let v276 : BitVec 32 := v275
  let v318 : Index := Scalar.indexCast v276
  let c0_126 : Index := 0#32
  ![v318.toNat, 0]
def k0_off27 (k0_t3 : Fin k0_t3_loop.trips) : Fin 3 → Nat :=
  let c1_128 : Index := 1#32
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let c256_i32_103 : BitVec 32 := 256#32
  let v275 : BitVec 32 := Scalar.muli v274 c256_i32_103
  let v276 : BitVec 32 := v275
  let v324 : Index := Scalar.indexCast v276
  let c0_129 : Index := 0#32
  ![1, v324.toNat, 0]
def k0_off28 (k0_t3 : Fin k0_t3_loop.trips) : Fin 3 → Nat :=
  let c2_133 : Index := 2#32
  let c15_i32 : BitVec 32 := 15#32
  let c8_i32_29 : BitVec 32 := 8#32
  let c1_i32_31 : BitVec 32 := 1#32
  let arg19 : BitVec 32 := Scf.iv c8_i32_29 c1_i32_31 k0_t3
  let v274 : BitVec 32 := Scalar.subi c15_i32 arg19
  let c256_i32_103 : BitVec 32 := 256#32
  let v275 : BitVec 32 := Scalar.muli v274 c256_i32_103
  let v276 : BitVec 32 := v275
  let v345 : Index := Scalar.indexCast v276
  let c0_134 : Index := 0#32
  ![2, v345.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat, arg0.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x4096x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RetRefIdeal.lean ====
abbrev S1x4096x1024 : Shape := ⟨3, ![1, 4096, 1024]⟩
abbrev S1x2x4 : Shape := ⟨3, ![1, 2, 4]⟩
abbrev S8x4096x1024 : Shape := ⟨3, ![8, 4096, 1024]⟩
abbrev S1x4096x4x256 : Shape := ⟨4, ![1, 4096, 4, 256]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S2x4 : Shape := ⟨2, ![2, 4]⟩
abbrev S1x4x4096x256 : Shape := ⟨4, ![1, 4, 4096, 256]⟩
abbrev S4x4096x256 : Shape := ⟨3, ![4, 4096, 256]⟩
abbrev S1x4096 : Shape := ⟨2, ![1, 4096]⟩
abbrev S4096x4096 : Shape := ⟨2, ![4096, 4096]⟩
abbrev S1x4 : Shape := ⟨2, ![1, 4]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4096x4x256 : Shape := ⟨3, ![4096, 4, 256]⟩
abbrev S1x4096x4 : Shape := ⟨3, ![1, 4096, 4]⟩
abbrev S1x4096x4x1 : Shape := ⟨4, ![1, 4096, 4, 1]⟩
abbrev S4096x4 : Shape := ⟨2, ![4096, 4]⟩
abbrev S4x256x4096 : Shape := ⟨3, ![4, 256, 4096]⟩
abbrev S4x4096x1024 : Shape := ⟨3, ![4, 4096, 1024]⟩
abbrev S4x2 : Shape := ⟨2, ![4, 2]⟩
abbrev S4x6 : Shape := ⟨2, ![4, 6]⟩
abbrev S4x8 : Shape := ⟨2, ![4, 8]⟩
abbrev S4x8x128 : Shape := ⟨3, ![4, 8, 128]⟩
abbrev S4x8x1 : Shape := ⟨3, ![4, 8, 1]⟩

abbrev nBuf : Space → Nat
  | .hbm => 370
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1x2x4, .f32⟩
  | 5 => ⟨S1x4096x1024, .f32⟩
  | 6 => ⟨S8x4096x1024, .bf16⟩
  | 7 => ⟨S1x4096x4x256, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S4096, .f32⟩
  | 23 => ⟨S4096x1, .f32⟩
  | 24 => ⟨S1x128, .f32⟩
  | 25 => ⟨S4096x128, .f32⟩
  | 26 => ⟨S4096x128, .f32⟩
  | 27 => ⟨S4096x128, .f32⟩
  | 28 => ⟨S4096x128, .f32⟩
  | 29 => ⟨S1x4096x1x128, .f32⟩
  | 30 => ⟨S4096x128, .f32⟩
  | 31 => ⟨S1x4096x1x128, .f32⟩
  | 32 => ⟨S1x4096x4x128, .f32⟩
  | 33 => ⟨S1x4096x4x128, .f32⟩
  | 34 => ⟨S1x4096x4x128, .f32⟩
  | 35 => ⟨S1x4096x4x128, .f32⟩
  | 36 => ⟨S1x4096x4x128, .f32⟩
  | 37 => ⟨S1x4096x4x128, .f32⟩
  | 38 => ⟨S1x4096x4x128, .f32⟩
  | 39 => ⟨S1x4096x4x128, .f32⟩
  | 40 => ⟨S1x4096x4x128, .f32⟩
  | 41 => ⟨S1x4096x4x128, .f32⟩
  | 42 => ⟨S1x4096x4x128, .f32⟩
  | 43 => ⟨S1x4096x4x128, .f32⟩
  | 44 => ⟨S1x4096x4x256, .f32⟩
  | 45 => ⟨S1x4096x4x256, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S4096, .f32⟩
  | 61 => ⟨S4096x1, .f32⟩
  | 62 => ⟨S1x128, .f32⟩
  | 63 => ⟨S4096x128, .f32⟩
  | 64 => ⟨S4096x128, .f32⟩
  | 65 => ⟨S4096x128, .f32⟩
  | 66 => ⟨S4096x128, .f32⟩
  | 67 => ⟨S1x4096x1x128, .f32⟩
  | 68 => ⟨S4096x128, .f32⟩
  | 69 => ⟨S1x4096x1x128, .f32⟩
  | 70 => ⟨S1x4096x4x128, .f32⟩
  | 71 => ⟨S1x4096x4x128, .f32⟩
  | 72 => ⟨S1x4096x4x128, .f32⟩
  | 73 => ⟨S1x4096x4x128, .f32⟩
  | 74 => ⟨S1x4096x4x128, .f32⟩
  | 75 => ⟨S1x4096x4x128, .f32⟩
  | 76 => ⟨S1x4096x4x128, .f32⟩
  | 77 => ⟨S1x4096x4x128, .f32⟩
  | 78 => ⟨S1x4096x4x128, .f32⟩
  | 79 => ⟨S1x4096x4x128, .f32⟩
  | 80 => ⟨S1x4096x4x128, .f32⟩
  | 81 => ⟨S1x4096x4x128, .f32⟩
  | 82 => ⟨S1x4096x4x256, .f32⟩
  | 83 => ⟨S_, .f32⟩
  | 84 => ⟨S1x4096x4x256, .f32⟩
  | 85 => ⟨S1x4096x4x256, .f32⟩
  | 86 => ⟨S1x4096x4x256, .f32⟩
  | 87 => ⟨S2x4, .f32⟩
  | 88 => ⟨S2x4, .f32⟩
  | 89 => ⟨S_, .f32⟩
  | 90 => ⟨S2x4, .f32⟩
  | 91 => ⟨S2x4, .f32⟩
  | 92 => ⟨S2x4, .f32⟩
  | 93 => ⟨S2x4, .f32⟩
  | 94 => ⟨S2x4, .i1⟩
  | 95 => ⟨S2x4, .f32⟩
  | 96 => ⟨S2x4, .f32⟩
  | 97 => ⟨S2x4, .f32⟩
  | 98 => ⟨S2x4, .f32⟩
  | 99 => ⟨S2x4, .f32⟩
  | 100 => ⟨S2x4, .f32⟩
  | 101 => ⟨S2x4, .f32⟩
  | 102 => ⟨S2x4, .f32⟩
  | 103 => ⟨S_, .f32⟩
  | 104 => ⟨S2x4, .f32⟩
  | 105 => ⟨S2x4, .i1⟩
  | 106 => ⟨S_, .f32⟩
  | 107 => ⟨S2x4, .f32⟩
  | 108 => ⟨S2x4, .f32⟩
  | 109 => ⟨S_, .f32⟩
  | 110 => ⟨S2x4, .f32⟩
  | 111 => ⟨S2x4, .i1⟩
  | 112 => ⟨S_, .f32⟩
  | 113 => ⟨S2x4, .f32⟩
  | 114 => ⟨S2x4, .f32⟩
  | 115 => ⟨S2x4, .f32⟩
  | 116 => ⟨S2x4, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S_, .f32⟩
  | 124 => ⟨S2x4, .f32⟩
  | 125 => ⟨S2x4, .i1⟩
  | 126 => ⟨S_, .f32⟩
  | 127 => ⟨S2x4, .f32⟩
  | _ => ⟨S1x4096x1024, .f32⟩

abbrev hbmTy0_1 (i : Nat) : BufTy := match i % 128 with
  | 0 => ⟨S2x4, .f32⟩
  | 1 => ⟨S2x4, .f32⟩
  | 2 => ⟨S2x4, .f32⟩
  | 3 => ⟨S2x4, .f32⟩
  | 4 => ⟨S_, .f32⟩
  | 5 => ⟨S2x4, .f32⟩
  | 6 => ⟨S2x4, .f32⟩
  | 7 => ⟨S2x4, .f32⟩
  | 8 => ⟨S1x4x4096x256, .f32⟩
  | 9 => ⟨S4x4096x256, .f32⟩
  | 10 => ⟨S1x4x4096x256, .f32⟩
  | 11 => ⟨S4x4096x256, .f32⟩
  | 12 => ⟨S1x4x4096x256, .f32⟩
  | 13 => ⟨S4x4096x256, .f32⟩
  | 14 => ⟨S4096, .f32⟩
  | 15 => ⟨S4096x1, .f32⟩
  | 16 => ⟨S1x4096, .f32⟩
  | 17 => ⟨S4096x4096, .f32⟩
  | 18 => ⟨S4096x4096, .f32⟩
  | 19 => ⟨S4096x4096, .f32⟩
  | 20 => ⟨S1x4, .f32⟩
  | 21 => ⟨S4, .f32⟩
  | 22 => ⟨S_, .f32⟩
  | 23 => ⟨S4096x4096, .f32⟩
  | 24 => ⟨S4096x4096, .i1⟩
  | 25 => ⟨S4x1x1, .f32⟩
  | 26 => ⟨S1x4096x4096, .i1⟩
  | 27 => ⟨S_, .f32⟩
  | 28 => ⟨S4096x4096, .f32⟩
  | 29 => ⟨S4096x4096, .f32⟩
  | 30 => ⟨S1x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S_, .f32⟩
  | 36 => ⟨S_, .f32⟩
  | 37 => ⟨S4x4096x4096, .i1⟩
  | 38 => ⟨S4x4096x4096, .f32⟩
  | 39 => ⟨S4x4096x4096, .f32⟩
  | 40 => ⟨S_, .f32⟩
  | 41 => ⟨S4x4096x4096, .f32⟩
  | 42 => ⟨S4x4096x4096, .f32⟩
  | 43 => ⟨S4x4096x4096, .f32⟩
  | 44 => ⟨S4x4096x256, .f32⟩
  | 45 => ⟨S1x4, .f32⟩
  | 46 => ⟨S4, .f32⟩
  | 47 => ⟨S_, .f32⟩
  | 48 => ⟨S4096x4096, .f32⟩
  | 49 => ⟨S4096x4096, .i1⟩
  | 50 => ⟨S4096x4096, .f32⟩
  | 51 => ⟨S4x1x1, .f32⟩
  | 52 => ⟨S1x4096x4096, .i1⟩
  | 53 => ⟨S_, .f32⟩
  | 54 => ⟨S4096x4096, .f32⟩
  | 55 => ⟨S4096x4096, .f32⟩
  | 56 => ⟨S1x4096x4096, .f32⟩
  | 57 => ⟨S4x4096x4096, .f32⟩
  | 58 => ⟨S4x4096x4096, .f32⟩
  | 59 => ⟨S4x4096x4096, .f32⟩
  | 60 => ⟨S4x4096x4096, .f32⟩
  | 61 => ⟨S_, .f32⟩
  | 62 => ⟨S_, .f32⟩
  | 63 => ⟨S4x4096x4096, .i1⟩
  | 64 => ⟨S4x4096x4096, .f32⟩
  | 65 => ⟨S4x4096x4096, .f32⟩
  | 66 => ⟨S_, .f32⟩
  | 67 => ⟨S4x4096x4096, .f32⟩
  | 68 => ⟨S4x4096x4096, .f32⟩
  | 69 => ⟨S4x4096x4096, .f32⟩
  | 70 => ⟨S4x4096x256, .f32⟩
  | 71 => ⟨S4x4096x256, .f32⟩
  | 72 => ⟨S4096x4x256, .f32⟩
  | 73 => ⟨S1x4096x4x256, .f32⟩
  | 74 => ⟨S1x4096x4x256, .f32⟩
  | 75 => ⟨S_, .f32⟩
  | 76 => ⟨S1x4096x4, .f32⟩
  | 77 => ⟨S1x4096x4x1, .f32⟩
  | 78 => ⟨S_, .f32⟩
  | 79 => ⟨S1x4096x4x1, .f32⟩
  | 80 => ⟨S1x4096x4x1, .f32⟩
  | 81 => ⟨S_, .f32⟩
  | 82 => ⟨S1x4096x4x1, .f32⟩
  | 83 => ⟨S1x4096x4x1, .f32⟩
  | 84 => ⟨S1x4096x4x1, .f32⟩
  | 85 => ⟨S1x4096x4x1, .f32⟩
  | 86 => ⟨S_, .f32⟩
  | 87 => ⟨S1x4096x4x1, .f32⟩
  | 88 => ⟨S1x4096x4x1, .f32⟩
  | 89 => ⟨S1x4096x4x256, .f32⟩
  | 90 => ⟨S1x4096x4x256, .f32⟩
  | 91 => ⟨S1x4096x1024, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S_, .f32⟩
  | 98 => ⟨S1x4096x1024, .f32⟩
  | 99 => ⟨S1x4096x1024, .f32⟩
  | 100 => ⟨S_, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S1x4096x4x256, .f32⟩
  | 113 => ⟨S1x4096x4x256, .f32⟩
  | 114 => ⟨S_, .f32⟩
  | 115 => ⟨S1x4096x4, .f32⟩
  | 116 => ⟨S1x4096x4x1, .f32⟩
  | 117 => ⟨S1x4096x4x256, .f32⟩
  | 118 => ⟨S1x4096x4x256, .f32⟩
  | 119 => ⟨S1x4096x4x1, .f32⟩
  | 120 => ⟨S_, .f32⟩
  | 121 => ⟨S1x4096x4x1, .f32⟩
  | 122 => ⟨S1x4096x4x1, .f32⟩
  | 123 => ⟨S_, .f32⟩
  | 124 => ⟨S4096x4, .f32⟩
  | 125 => ⟨S1x4096x4, .f32⟩
  | 126 => ⟨S1x4096x4x256, .f32⟩
  | 127 => ⟨S1x4096x4x256, .f32⟩
  | _ => ⟨S1x4096x1024, .f32⟩

abbrev hbmTy0_2 (i : Nat) : BufTy := match i % 128 with
  | 0 => ⟨S1x4096x4x256, .f32⟩
  | 1 => ⟨S1x4096x4x256, .f32⟩
  | 2 => ⟨S1x4096x4x256, .f32⟩
  | 3 => ⟨S_, .f32⟩
  | 4 => ⟨S4096x4x256, .f32⟩
  | 5 => ⟨S4x4096x256, .f32⟩
  | 6 => ⟨S4x256x4096, .f32⟩
  | 7 => ⟨S4x4096x256, .f32⟩
  | 8 => ⟨S4x4096x4096, .f32⟩
  | 9 => ⟨S4x4096x4096, .f32⟩
  | 10 => ⟨S4x4096x4096, .f32⟩
  | 11 => ⟨S4x4096x256, .f32⟩
  | 12 => ⟨S4x4096x256, .f32⟩
  | 13 => ⟨S_, .f32⟩
  | 14 => ⟨S4x4096x4096, .f32⟩
  | 15 => ⟨S4x4096x4096, .f32⟩
  | 16 => ⟨S4x4096x4096, .f32⟩
  | 17 => ⟨S4x4096x4096, .f32⟩
  | 18 => ⟨S4x4096x4096, .f32⟩
  | 19 => ⟨S_, .f32⟩
  | 20 => ⟨S4, .f32⟩
  | 21 => ⟨S4x1x1, .f32⟩
  | 22 => ⟨S_, .f32⟩
  | 23 => ⟨S4, .f32⟩
  | 24 => ⟨S1x4, .f32⟩
  | 25 => ⟨S_, .f32⟩
  | 26 => ⟨S2x4, .f32⟩
  | 27 => ⟨S4x256x4096, .f32⟩
  | 28 => ⟨S4x4096x256, .f32⟩
  | 29 => ⟨S4x4096x256, .f32⟩
  | 30 => ⟨S4x4096x4096, .f32⟩
  | 31 => ⟨S4x4096x4096, .f32⟩
  | 32 => ⟨S4x4096x4096, .f32⟩
  | 33 => ⟨S4x4096x256, .f32⟩
  | 34 => ⟨S4x4096x256, .f32⟩
  | 35 => ⟨S4x4096x256, .f32⟩
  | 36 => ⟨S4x4096x256, .f32⟩
  | 37 => ⟨S_, .f32⟩
  | 38 => ⟨S4x4096x4096, .f32⟩
  | 39 => ⟨S4x4096x4096, .f32⟩
  | 40 => ⟨S4x4096x4096, .f32⟩
  | 41 => ⟨S4x4096x4096, .f32⟩
  | 42 => ⟨S4x4096x4096, .f32⟩
  | 43 => ⟨S_, .f32⟩
  | 44 => ⟨S4, .f32⟩
  | 45 => ⟨S4x1x1, .f32⟩
  | 46 => ⟨S_, .f32⟩
  | 47 => ⟨S4, .f32⟩
  | 48 => ⟨S1x4, .f32⟩
  | 49 => ⟨S_, .f32⟩
  | 50 => ⟨S2x4, .f32⟩
  | 51 => ⟨S2x4, .f32⟩
  | 52 => ⟨S1x4x4096x256, .f32⟩
  | 53 => ⟨S1x4096x4x256, .f32⟩
  | 54 => ⟨S1x4x4096x256, .f32⟩
  | 55 => ⟨S1x4096x4x256, .f32⟩
  | 56 => ⟨S1x4x4096x256, .f32⟩
  | 57 => ⟨S1x4096x4x256, .f32⟩
  | 58 => ⟨S2x4, .f32⟩
  | 59 => ⟨S2x4, .f32⟩
  | 60 => ⟨S2x4, .f32⟩
  | 61 => ⟨S1x2x4, .f32⟩
  | 62 => ⟨S1x4096x1024, .f32⟩
  | 63 => ⟨S_, .f32⟩
  | 64 => ⟨S1x4096x4x256, .f32⟩
  | 65 => ⟨S1x4096x4x256, .f32⟩
  | 66 => ⟨S1x4096x4x128, .f32⟩
  | 67 => ⟨S1x4096x4x128, .f32⟩
  | 68 => ⟨S1x4096x4x128, .f32⟩
  | 69 => ⟨S1x4096x4x128, .f32⟩
  | 70 => ⟨S1x4096x4x128, .f32⟩
  | 71 => ⟨S1x4096x4x128, .f32⟩
  | 72 => ⟨S1x4096x4x128, .f32⟩
  | 73 => ⟨S1x4096x4x128, .f32⟩
  | 74 => ⟨S1x4096x4x128, .f32⟩
  | 75 => ⟨S1x4096x4x128, .f32⟩
  | 76 => ⟨S1x4096x4x128, .f32⟩
  | 77 => ⟨S1x4096x4x128, .f32⟩
  | 78 => ⟨S1x4096x4x128, .f32⟩
  | 79 => ⟨S1x4096x4x256, .f32⟩
  | 80 => ⟨S1x4096x1024, .f32⟩
  | 81 => ⟨S1x4096x4x128, .f32⟩
  | 82 => ⟨S1x4096x4x128, .f32⟩
  | 83 => ⟨S1x4096x4x128, .f32⟩
  | 84 => ⟨S1x4096x4x128, .f32⟩
  | 85 => ⟨S1x4096x4x128, .f32⟩
  | 86 => ⟨S1x4096x4x128, .f32⟩
  | 87 => ⟨S1x4096x4x128, .f32⟩
  | 88 => ⟨S1x4096x4x128, .f32⟩
  | 89 => ⟨S1x4096x4x128, .f32⟩
  | 90 => ⟨S1x4096x4x128, .f32⟩
  | 91 => ⟨S1x4096x4x128, .f32⟩
  | 92 => ⟨S1x4096x4x128, .f32⟩
  | 93 => ⟨S1x4096x4x128, .f32⟩
  | 94 => ⟨S1x4096x4x256, .f32⟩
  | 95 => ⟨S1x4096x1024, .f32⟩
  | 96 => ⟨S4x4096x1024, .bf16⟩
  | 97 => ⟨S4x4096x1024, .f32⟩
  | 98 => ⟨S4x4096x1024, .bf16⟩
  | 99 => ⟨S8x4096x1024, .bf16⟩
  | 100 => ⟨S2x4, .f32⟩
  | 101 => ⟨S4x2, .f32⟩
  | 102 => ⟨S_, .f32⟩
  | 103 => ⟨S4x6, .f32⟩
  | 104 => ⟨S4x8, .f32⟩
  | 105 => ⟨S4x8x128, .i32⟩
  | 106 => ⟨S4x8x128, .i32⟩
  | 107 => ⟨S4x8x128, .i1⟩
  | 108 => ⟨S4x8x1, .f32⟩
  | 109 => ⟨S_, .f32⟩
  | 110 => ⟨S_, .f32⟩
  | 111 => ⟨S4x8x128, .f32⟩
  | 112 => ⟨S4x8x128, .f32⟩
  | 113 => ⟨S4x8x128, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call0_v0 : Ref sig .tc := ⟨.hbm, 88, rfl⟩
abbrev main_call0_call0_cst : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_call0_v2 : Ref sig .tc := ⟨.hbm, 92, rfl⟩
abbrev main_call0_call0_v3 : Ref sig .tc := ⟨.hbm, 93, rfl⟩
abbrev main_call0_call0_v4 : Ref sig .tc := ⟨.hbm, 94, rfl⟩
abbrev main_call0_call0_v5 : Ref sig .tc := ⟨.hbm, 95, rfl⟩
abbrev main_call0_call0_v6 : Ref sig .tc := ⟨.hbm, 96, rfl⟩
abbrev main_call0_call0_v7 : Ref sig .tc := ⟨.hbm, 97, rfl⟩
abbrev main_call0_call0_v8 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_v1_0 : Ref sig .tc := ⟨.hbm, 102, rfl⟩
abbrev main_call0_call0_cst_0 : Ref sig .tc := ⟨.hbm, 103, rfl⟩
abbrev main_call0_call0_v13 : Ref sig .tc := ⟨.hbm, 104, rfl⟩
abbrev main_call0_call0_v14 : Ref sig .tc := ⟨.hbm, 105, rfl⟩
abbrev main_call0_call0_cst_1 : Ref sig .tc := ⟨.hbm, 106, rfl⟩
abbrev main_call0_call0_v15 : Ref sig .tc := ⟨.hbm, 107, rfl⟩
abbrev main_call0_call0_v16 : Ref sig .tc := ⟨.hbm, 108, rfl⟩
abbrev main_call0_call0_cst_2 : Ref sig .tc := ⟨.hbm, 109, rfl⟩
abbrev main_call0_call0_v17 : Ref sig .tc := ⟨.hbm, 110, rfl⟩
abbrev main_call0_call0_v18 : Ref sig .tc := ⟨.hbm, 111, rfl⟩
abbrev main_call0_call0_cst_3 : Ref sig .tc := ⟨.hbm, 112, rfl⟩
abbrev main_call0_call0_v19 : Ref sig .tc := ⟨.hbm, 113, rfl⟩
abbrev main_call0_call0_v20 : Ref sig .tc := ⟨.hbm, 114, rfl⟩
abbrev main_call0_call0_v21 : Ref sig .tc := ⟨.hbm, 115, rfl⟩
abbrev main_v72_1 : Ref sig .tc := ⟨.hbm, 116, rfl⟩
abbrev main_call0_call0_cst_4 : Ref sig .tc := ⟨.hbm, 117, rfl⟩
abbrev main_call0_call0_cst_5 : Ref sig .tc := ⟨.hbm, 118, rfl⟩
abbrev main_call0_call0_v23 : Ref sig .tc := ⟨.hbm, 119, rfl⟩
abbrev main_call0_call0_cst_6 : Ref sig .tc := ⟨.hbm, 120, rfl⟩
abbrev main_call0_call0_cst_7 : Ref sig .tc := ⟨.hbm, 121, rfl⟩
abbrev main_call0_call0_v24 : Ref sig .tc := ⟨.hbm, 122, rfl⟩
abbrev main_call0_call0_cst_8 : Ref sig .tc := ⟨.hbm, 123, rfl⟩
abbrev main_call0_call0_v25 : Ref sig .tc := ⟨.hbm, 124, rfl⟩
abbrev main_call0_call0_v26 : Ref sig .tc := ⟨.hbm, 125, rfl⟩
abbrev main_call0_call0_cst_9 : Ref sig .tc := ⟨.hbm, 126, rfl⟩
abbrev main_call0_call0_v27 : Ref sig .tc := ⟨.hbm, 127, rfl⟩
abbrev main_call0_call0_v28 : Ref sig .tc := ⟨.hbm, 128, rfl⟩
abbrev main_call0_call0_v29 : Ref sig .tc := ⟨.hbm, 129, rfl⟩
abbrev main_call0_call0_v30 : Ref sig .tc := ⟨.hbm, 130, rfl⟩
abbrev main_call0_call0_v31 : Ref sig .tc := ⟨.hbm, 131, rfl⟩
abbrev main_call0_call0_cst_10 : Ref sig .tc := ⟨.hbm, 132, rfl⟩
abbrev main_call0_call0_v32 : Ref sig .tc := ⟨.hbm, 133, rfl⟩
abbrev main_v72_2 : Ref sig .tc := ⟨.hbm, 134, rfl⟩
abbrev main_v72_0 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_8 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_9 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_10 : Ref sig .tc := ⟨.hbm, 163, rfl⟩
abbrev main_call1_v0 : Ref sig .tc := ⟨.hbm, 164, rfl⟩
abbrev main_v98_1 : Ref sig .tc := ⟨.hbm, 165, rfl⟩
abbrev main_call1_v2 : Ref sig .tc := ⟨.hbm, 166, rfl⟩
abbrev main_v98_0 : Ref sig .tc := ⟨.hbm, 167, rfl⟩
abbrev main_call1_cst : Ref sig .tc := ⟨.hbm, 168, rfl⟩
abbrev main_v98_2 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_11 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_12 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_13 : Ref sig .tc := ⟨.hbm, 189, rfl⟩
abbrev main_call2_v0 : Ref sig .tc := ⟨.hbm, 190, rfl⟩
abbrev main_v116_1 : Ref sig .tc := ⟨.hbm, 191, rfl⟩
abbrev main_call2_v2 : Ref sig .tc := ⟨.hbm, 192, rfl⟩
abbrev main_v116_0 : Ref sig .tc := ⟨.hbm, 193, rfl⟩
abbrev main_call2_cst : Ref sig .tc := ⟨.hbm, 194, rfl⟩
abbrev main_v116_2 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_cst_14 : Ref sig .tc := ⟨.hbm, 203, rfl⟩
abbrev main_v124 : Ref sig .tc := ⟨.hbm, 204, rfl⟩
abbrev main_v125 : Ref sig .tc := ⟨.hbm, 205, rfl⟩
abbrev main_cst_15 : Ref sig .tc := ⟨.hbm, 206, rfl⟩
abbrev main_v126 : Ref sig .tc := ⟨.hbm, 207, rfl⟩
abbrev main_v127 : Ref sig .tc := ⟨.hbm, 208, rfl⟩
abbrev main_cst_16 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_cst_17 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_call3_v0 : Ref sig .tc := ⟨.hbm, 220, rfl⟩
abbrev main_call3_v1 : Ref sig .tc := ⟨.hbm, 221, rfl⟩
abbrev main_call3_cst : Ref sig .tc := ⟨.hbm, 222, rfl⟩
abbrev main_call3_v2 : Ref sig .tc := ⟨.hbm, 223, rfl⟩
abbrev main_call3_v3 : Ref sig .tc := ⟨.hbm, 224, rfl⟩
abbrev main_call3_cst_0 : Ref sig .tc := ⟨.hbm, 225, rfl⟩
abbrev main_call3_v4 : Ref sig .tc := ⟨.hbm, 226, rfl⟩
abbrev main_v137_2 : Ref sig .tc := ⟨.hbm, 227, rfl⟩
abbrev main_call3_cst_1 : Ref sig .tc := ⟨.hbm, 228, rfl⟩
abbrev main_call3_v6 : Ref sig .tc := ⟨.hbm, 229, rfl⟩
abbrev main_call3_v7 : Ref sig .tc := ⟨.hbm, 230, rfl⟩
abbrev main_v137_1 : Ref sig .tc := ⟨.hbm, 231, rfl⟩
abbrev main_v137_0 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_call4_v0 : Ref sig .tc := ⟨.hbm, 236, rfl⟩
abbrev main_call4_v1 : Ref sig .tc := ⟨.hbm, 237, rfl⟩
abbrev main_call4_v2 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_cst_18 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_cst_19 : Ref sig .tc := ⟨.hbm, 248, rfl⟩
abbrev main_v149 : Ref sig .tc := ⟨.hbm, 249, rfl⟩
abbrev main_v150 : Ref sig .tc := ⟨.hbm, 250, rfl⟩
abbrev main_cst_20 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_cst_21 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_call5_cst : Ref sig .tc := ⟨.hbm, 269, rfl⟩
abbrev main_call5_v0 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_cst_22 : Ref sig .tc := ⟨.hbm, 275, rfl⟩
abbrev main_v171 : Ref sig .tc := ⟨.hbm, 276, rfl⟩
abbrev main_v172 : Ref sig .tc := ⟨.hbm, 277, rfl⟩
abbrev main_cst_23 : Ref sig .tc := ⟨.hbm, 278, rfl⟩
abbrev main_v173 : Ref sig .tc := ⟨.hbm, 279, rfl⟩
abbrev main_v174 : Ref sig .tc := ⟨.hbm, 280, rfl⟩
abbrev main_cst_24 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_call6_cst : Ref sig .tc := ⟨.hbm, 293, rfl⟩
abbrev main_call6_v0 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_cst_25 : Ref sig .tc := ⟨.hbm, 299, rfl⟩
abbrev main_v190 : Ref sig .tc := ⟨.hbm, 300, rfl⟩
abbrev main_v191 : Ref sig .tc := ⟨.hbm, 301, rfl⟩
abbrev main_cst_26 : Ref sig .tc := ⟨.hbm, 302, rfl⟩
abbrev main_v192 : Ref sig .tc := ⟨.hbm, 303, rfl⟩
abbrev main_v193 : Ref sig .tc := ⟨.hbm, 304, rfl⟩
abbrev main_cst_27 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_call7_v0 : Ref sig .tc := ⟨.hbm, 314, rfl⟩
abbrev main_call7_v1 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_cst_28 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_cst_29 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_cst_30 : Ref sig .tc := ⟨.hbm, 365, rfl⟩
abbrev main_call8_v0 : Ref sig .tc := ⟨.hbm, 366, rfl⟩
abbrev main_call8_v1 : Ref sig .tc := ⟨.hbm, 367, rfl⟩
abbrev main_call8_v2 : Ref sig .tc := ⟨.hbm, 368, rfl⟩
abbrev main_v249 : Ref sig .tc := ⟨.hbm, 369, rfl⟩

abbrev nD : Nat := 1
abbrev τ : Topo := Topo.v7x

variable {F : FTy → Type} [FloatOps F]
-- ==== Merge.lean ====
abbrev S1x4096x1024 : Shape := ⟨3, ![1, 4096, 1024]⟩
abbrev S1x1024x1024 : Shape := ⟨3, ![1, 1024, 1024]⟩
abbrev S2x4096x1024 : Shape := ⟨3, ![2, 4096, 1024]⟩
abbrev S_ : Shape := ⟨0, ![]⟩
abbrev S4x4096x1024 : Shape := ⟨3, ![4, 4096, 1024]⟩
abbrev S8x4096x1024 : Shape := ⟨3, ![8, 4096, 1024]⟩
abbrev S1024x1024 : Shape := ⟨2, ![1024, 1024]⟩
abbrev S4096x1024 : Shape := ⟨2, ![4096, 1024]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 39
  | .vmem => 42
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x4096x1024, .f32⟩
  | .hbm, ⟨8, _⟩ => ⟨S1x4096x1024, .f32⟩
  | .hbm, ⟨9, _⟩ => ⟨S2x4096x1024, .f32⟩
  | .hbm, ⟨10, _⟩ => ⟨S_, .f32⟩
  | .hbm, ⟨11, _⟩ => ⟨S2x4096x1024, .f32⟩
  | .hbm, ⟨12, _⟩ => ⟨S_, .f32⟩
  | .hbm, ⟨13, _⟩ => ⟨S4x4096x1024, .f32⟩
  | .hbm, ⟨14, _⟩ => ⟨S8x4096x1024, .f32⟩
  | .hbm, ⟨15, _⟩ => ⟨S8x4096x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .f32⟩
  | .hbm, ⟨31, _⟩ => ⟨S8x4096x1024, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x1024, .bf16⟩
  | .hbm, ⟨37, _⟩ => ⟨S4096x1024, .bf16⟩
  | .hbm, ⟨38, _⟩ => ⟨S2x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S2x512x1024, .bf16⟩
  | .local _ .vmem, ⟨24, _⟩ => ⟨S2x512x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S2x512x1024, .bf16⟩
  | .local _ .vmem, ⟨29, _⟩ => ⟨S2x512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2x512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== MergeRefIdeal.lean ====
abbrev S1x4096x1024 : Shape := ⟨3, ![1, 4096, 1024]⟩
abbrev S1x1024x1024 : Shape := ⟨3, ![1, 1024, 1024]⟩
abbrev S1024x1024 : Shape := ⟨2, ![1024, 1024]⟩
abbrev S_ : Shape := ⟨0, ![]⟩
abbrev S4096x1024 : Shape := ⟨2, ![4096, 1024]⟩
abbrev S2x4096x1024 : Shape := ⟨3, ![2, 4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x4096x1024, .f32⟩
  | .hbm, ⟨8, _⟩ => ⟨S1x4096x1024, .f32⟩
  | .hbm, ⟨9, _⟩ => ⟨S1024x1024, .f32⟩
  | .hbm, ⟨10, _⟩ => ⟨S1x4096x1024, .f32⟩
  | .hbm, ⟨11, _⟩ => ⟨S1024x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1024x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1024x1024, .f32⟩
  | .hbm, ⟨50, _⟩ => ⟨S1x4096x1024, .f32⟩
  | .hbm, ⟨51, _⟩ => ⟨S1x4096x1024, .f32⟩
  | .hbm, ⟨52, _⟩ => ⟨S1024x1024, .f32⟩
  | .hbm, ⟨53, _⟩ => ⟨S1x4096x1024, .f32⟩
  | .hbm, ⟨54, _⟩ => ⟨S1x4096x1024, .f32⟩
  | .hbm, ⟨55, _⟩ => ⟨S1024x1024, .f32⟩
  | .hbm, ⟨56, _⟩ => ⟨S1x4096x1024, .f32⟩
  | .hbm, ⟨57, _⟩ => ⟨S1x4096x1024, .f32⟩
  | .hbm, ⟨58, _⟩ => ⟨S4096x1024, .f32⟩
  | .hbm, ⟨59, _⟩ => ⟨S2x4096x1024, .f32⟩
  | .hbm, ⟨60, _⟩ => ⟨S2x4096x1024, .bf16⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .bf16⟩
  | .hbm, ⟨65, _⟩ => ⟨S4096x1024, .f32⟩
  | .hbm, ⟨66, _⟩ => ⟨S4096x1024, .bf16⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Hid.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 22
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S4096x1024, .f32⟩
  | .hbm, ⟨15, _⟩ => ⟨S4096x2816, .bf16⟩
  | .hbm, ⟨16, _⟩ => ⟨S4096x2816, .bf16⟩
  | .hbm, ⟨17, _⟩ => ⟨S4096x2816, .bf16⟩
  | .hbm, ⟨18, _⟩ => ⟨S4096x1024, .bf16⟩
  | .hbm, ⟨19, _⟩ => ⟨S4096x1024, .bf16⟩
  | .hbm, ⟨20, _⟩ => ⟨S4096x2816, .bf16⟩
  | .hbm, ⟨21, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S2816x1024, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== HidRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S4096x2816, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S2816x1024, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S2816x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x2816, .bf16⟩
  | .hbm, ⟨57, _⟩ => ⟨S4096x2816, .bf16⟩
  | .hbm, ⟨58, _⟩ => ⟨S4096x2816, .bf16⟩
  | .hbm, ⟨59, _⟩ => ⟨S4096x1024, .bf16⟩
  | .hbm, ⟨60, _⟩ => ⟨S4096x2816, .bf16⟩
  | .hbm, ⟨61, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S4096x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Prj.lean ====
abbrev S4096x1024 : Shape := ⟨2, ![4096, 1024]⟩
abbrev S1x1024 : Shape := ⟨2, ![1, 1024]⟩
abbrev S1x1024x8192 : Shape := ⟨3, ![1, 1024, 8192]⟩
abbrev S1x8192 : Shape := ⟨2, ![1, 8192]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S1x4096x1024 : Shape := ⟨3, ![1, 4096, 1024]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S8192x1024 : Shape := ⟨2, ![8192, 1024]⟩
abbrev S8x1x1024 : Shape := ⟨3, ![8, 1, 1024]⟩
abbrev S8x512x1024 : Shape := ⟨3, ![8, 512, 1024]⟩
abbrev S512x1024 : Shape := ⟨2, ![512, 1024]⟩
abbrev S1x512x1024 : Shape := ⟨3, ![1, 512, 1024]⟩
abbrev S1x1x1024 : Shape := ⟨3, ![1, 1, 1024]⟩
abbrev S1024 : Shape := ⟨1, ![1024]⟩
abbrev S1024x1024 : Shape := ⟨2, ![1024, 1024]⟩
abbrev S512 : Shape := ⟨1, ![512]⟩
abbrev S512x1 : Shape := ⟨2, ![512, 1]⟩

abbrev nBuf : Space → Nat
  | .hbm => 43
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8192, .f32⟩
  | .hbm, ⟨3, _⟩ => ⟨S1x8192, .f32⟩
  | .hbm, ⟨4, _⟩ => ⟨S4096x1024, .f32⟩
  | .hbm, ⟨5, _⟩ => ⟨S4096x8192, .f32⟩
  | .hbm, ⟨6, _⟩ => ⟨S4096x8x1024, .f32⟩
  | .hbm, ⟨7, _⟩ => ⟨S8x4096x1024, .f32⟩
  | .hbm, ⟨8, _⟩ => ⟨S1x4096x1024, .f32⟩
  | .hbm, ⟨9, _⟩ => ⟨S4096x1024, .f32⟩
  | .hbm, ⟨10, _⟩ => ⟨S1x4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1x4096x1024, .f32⟩
  | .hbm, ⟨19, _⟩ => ⟨S4096x1024, .f32⟩
  | .hbm, ⟨20, _⟩ => ⟨S1x4096x1024, .f32⟩
  | .hbm, ⟨21, _⟩ => ⟨S4096x1024, .f32⟩
  | .hbm, ⟨22, _⟩ => ⟨S1x4096x1024, .f32⟩
  | .hbm, ⟨23, _⟩ => ⟨S4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S8x4096x1024, .f32⟩
  | .hbm, ⟨33, _⟩ => ⟨S8x4096x1024, .bf16⟩
  | .hbm, ⟨34, _⟩ => ⟨S1024x8192, .f32⟩
  | .hbm, ⟨35, _⟩ => ⟨S1024x8x1024, .f32⟩
  | .hbm, ⟨36, _⟩ => ⟨S8x1024x1024, .f32⟩
  | .hbm, ⟨37, _⟩ => ⟨S8192x1024, .f32⟩
  | .hbm, ⟨38, _⟩ => ⟨S8192x1024, .bf16⟩
  | .hbm, ⟨39, _⟩ => ⟨S4096x1024, .f32⟩
  | .hbm, ⟨40, _⟩ => ⟨S4096x1024, .bf16⟩
  | .hbm, ⟨41, _⟩ => ⟨S1x1024, .f32⟩
  | .hbm, ⟨42, _⟩ => ⟨S8x1x1024, .f32⟩
  | .local _ .vmem, ⟨0, _⟩ => ⟨S8x512x1024, .bf16⟩
  | .local _ .vmem, ⟨1, _⟩ => ⟨S8x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8192x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrjRefIdeal.lean ====
abbrev S4096x1024 : Shape := ⟨2, ![4096, 1024]⟩
abbrev S1x1024 : Shape := ⟨2, ![1, 1024]⟩
abbrev S1x1024x8192 : Shape := ⟨3, ![1, 1024, 8192]⟩
abbrev S1x8192 : Shape := ⟨2, ![1, 8192]⟩
abbrev S4096x8192 : Shape := ⟨2, ![4096, 8192]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8192 : Shape := ⟨2, ![1024, 8192]⟩
abbrev S8192 : Shape := ⟨1, ![8192]⟩
abbrev S8x1x1024 : Shape := ⟨3, ![8, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8192, .f32⟩
  | .hbm, ⟨3, _⟩ => ⟨S1x8192, .f32⟩
  | .hbm, ⟨4, _⟩ => ⟨S4096x1024, .f32⟩
  | .hbm, ⟨5, _⟩ => ⟨S4096x8192, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x8192, .f32⟩
  | .hbm, ⟨28, _⟩ => ⟨S4096x8192, .f32⟩
  | .hbm, ⟨29, _⟩ => ⟨S8192, .f32⟩
  | .hbm, ⟨30, _⟩ => ⟨S1x8192, .f32⟩
  | .hbm, ⟨31, _⟩ => ⟨S4096x8192, .f32⟩
  | .hbm, ⟨32, _⟩ => ⟨S4096x8192, .f32⟩
  | .hbm, ⟨33, _⟩ => ⟨S4096x8192, .f32⟩
  | .hbm, ⟨34, _⟩ => ⟨S_, .f32⟩
  | .hbm, ⟨35, _⟩ => ⟨S8192, .f32⟩
  | .hbm, ⟨36, _⟩ => ⟨S1x8192, .f32⟩
  | .hbm, ⟨37, _⟩ => ⟨S_, .f32⟩
  | .hbm, ⟨38, _⟩ => ⟨S8192, .f32⟩
  | .hbm, ⟨39, _⟩ => ⟨S1x8192, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S8x1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== SguFwd.lean ====
abbrev S1x4096x8192 : Shape := ⟨3, ![1, 4096, 8192]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S4096x1024 : Shape := ⟨2, ![4096, 1024]⟩
abbrev S8x4096x1024 : Shape := ⟨3, ![8, 4096, 1024]⟩
abbrev S4x128x128 : Shape := ⟨3, ![4, 128, 128]⟩
abbrev S4x128 : Shape := ⟨2, ![4, 128]⟩
abbrev S4x128x1 : Shape := ⟨3, ![4, 128, 1]⟩
abbrev S2x512x1024 : Shape := ⟨3, ![2, 512, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 36
  | .vmem => 8
  | .smem => 0
  | _ => 0

abbrev bufTy : (tb : Table) → Fin (tcTables nBuf tb) → BufTy
  | .hbm, ⟨0, _⟩ => ⟨S1x4096x8192, .f32⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S1x4096x1024, .f32⟩
  | .hbm, ⟨6, _⟩ => ⟨S4096x1024, .f32⟩
  | .hbm, ⟨7, _⟩ => ⟨S1x4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S8x4096x1024, .f32⟩
  | .hbm, ⟨30, _⟩ => ⟨S8x4096x1024, .bf16⟩
  | .hbm, ⟨31, _⟩ => ⟨S4x128x128, .f32⟩
  | .hbm, ⟨32, _⟩ => ⟨S4x128x128, .bf16⟩
  | .hbm, ⟨33, _⟩ => ⟨S4x128, .f32⟩
  | .hbm, ⟨34, _⟩ => ⟨S4x128x1, .f32⟩
  | .hbm, ⟨35, _⟩ => ⟨S4096x1024, .bf16⟩
  | .local _ .vmem, ⟨0, _⟩ => ⟨S2x512x1024, .bf16⟩
  | .local _ .vmem, ⟨1, _⟩ => ⟨S2x512x1024, .bf16⟩
  | .local _ .vmem, ⟨2, _⟩ => ⟨S1x1024, .f32⟩
  | .local _ .vmem, ⟨3, _⟩ => ⟨S1x1024, .f32⟩
  | .local _ .vmem, ⟨4, _⟩ => ⟨S4x128x128, .bf16⟩
  | .local _ .vmem, ⟨5, _⟩ => ⟨S4x128x1, .f32⟩
  | .local _ .vmem, ⟨6, _⟩ => ⟨S512x1024, .bf16⟩
  | .local _ .vmem, ⟨7, _⟩ => ⟨S512x1024, .bf16⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdRefIdeal.lean ====
abbrev S1x4096x8192 : Shape := ⟨3, ![1, 4096, 8192]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S_ : Shape := ⟨0, ![]⟩
abbrev S1024 : Shape := ⟨1, ![1024]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S4x1x32x256x128 : Shape := ⟨5, ![4, 1, 32, 256, 128]⟩
abbrev S128x4 : Shape := ⟨2, ![128, 4]⟩
abbrev S1x1x128x4x1 : Shape := ⟨5, ![1, 1, 128, 4, 1]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S_, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1024, .f32⟩
  | .hbm, ⟨30, _⟩ => ⟨S1024, .f32⟩
  | .hbm, ⟨31, _⟩ => ⟨S4x128x128, .f32⟩
  | .hbm, ⟨32, _⟩ => ⟨S4x128, .f32⟩
  | .hbm, ⟨33, _⟩ => ⟨S_, .f32⟩
  | .hbm, ⟨34, _⟩ => ⟨S1x4096, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S_, .f32⟩
  | .hbm, ⟨43, _⟩ => ⟨S1x4096, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S1x4096x1024, .f32⟩
  | .hbm, ⟨49, _⟩ => ⟨S1x4096x1024, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S1x4096x1, .f32⟩
  | .hbm, ⟨54, _⟩ => ⟨S1x4096x1024, .f32⟩
  | .hbm, ⟨55, _⟩ => ⟨S1x4096x1024, .f32⟩
  | .hbm, ⟨56, _⟩ => ⟨S1x1x1024, .f32⟩
  | .hbm, ⟨57, _⟩ => ⟨S1x4096x1024, .f32⟩
  | .hbm, ⟨58, _⟩ => ⟨S1x4096x1024, .f32⟩
  | .hbm, ⟨59, _⟩ => ⟨S1x1x1024, .f32⟩
  | .hbm, ⟨60, _⟩ => ⟨S1x4096x1024, .f32⟩
  | .hbm, ⟨61, _⟩ => ⟨S1x4096x1024, .f32⟩
  | .hbm, ⟨62, _⟩ => ⟨S1x32x128x4x256, .f32⟩
  | .hbm, ⟨63, _⟩ => ⟨S4x1x32x256x128, .f32⟩
  | .hbm, ⟨64, _⟩ => ⟨S1x32x128x4x256, .f32⟩
  | .hbm, ⟨65, _⟩ => ⟨S128x4, .f32⟩
  | .hbm, ⟨66, _⟩ => ⟨S1x1x128x4x1, .f32⟩
  | .hbm, ⟨67, _⟩ => ⟨S1x32x128x4x256, .f32⟩
  | .hbm, ⟨68, _⟩ => ⟨S1x32x128x4x256, .f32⟩
  | .hbm, ⟨69, _⟩ => ⟨S1x4096x1024, .f32⟩
  | .hbm, ⟨70, _⟩ => ⟨S1x4096x1024, .f32⟩
  | .hbm, ⟨71, _⟩ => ⟨S4096x1024, .f32⟩
  | .hbm, ⟨72, _⟩ => ⟨S4096x1024, .bf16⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== PrjFwd.lean ====
abbrev S4096x1024 : Shape := ⟨2, ![4096, 1024]⟩
abbrev S1x1024 : Shape := ⟨2, ![1, 1024]⟩
abbrev S1x1024x8192 : Shape := ⟨3, ![1, 1024, 8192]⟩
abbrev S1x8192 : Shape := ⟨2, ![1, 8192]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S8192x1024 : Shape := ⟨2, ![8192, 1024]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S8x1x1024 : Shape := ⟨3, ![8, 1, 1024]⟩
abbrev S8x4096x1024 : Shape := ⟨3, ![8, 4096, 1024]⟩
abbrev S512x1024 : Shape := ⟨2, ![512, 1024]⟩
abbrev S512x128 : Shape := ⟨2, ![512, 128]⟩
abbrev S8x512x1024 : Shape := ⟨3, ![8, 512, 1024]⟩
abbrev S512 : Shape := ⟨1, ![512]⟩
abbrev S512x1 : Shape := ⟨2, ![512, 1]⟩
abbrev S1024x1024 : Shape := ⟨2, ![1024, 1024]⟩
abbrev S1x1x1024 : Shape := ⟨3, ![1, 1, 1024]⟩
abbrev S1x512x1024 : Shape := ⟨3, ![1, 512, 1024]⟩
abbrev S512x256 : Shape := ⟨2, ![512, 256]⟩
abbrev S1x512x256 : Shape := ⟨3, ![1, 512, 256]⟩

abbrev nBuf : Space → Nat
  | .hbm => 34
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8192, .f32⟩
  | .hbm, ⟨3, _⟩ => ⟨S1x8192, .f32⟩
  | .hbm, ⟨4, _⟩ => ⟨S1024x8192, .f32⟩
  | .hbm, ⟨5, _⟩ => ⟨S1024x8x1024, .f32⟩
  | .hbm, ⟨6, _⟩ => ⟨S8x1024x1024, .f32⟩
  | .hbm, ⟨7, _⟩ => ⟨S8192x1024, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S4096, .f32⟩
  | .hbm, ⟨23, _⟩ => ⟨S4096x1, .f32⟩
  | .hbm, ⟨24, _⟩ => ⟨S1x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S8192x1024, .bf16⟩
  | .hbm, ⟨31, _⟩ => ⟨S8x1x1024, .f32⟩
  | .hbm, ⟨32, _⟩ => ⟨S8x4096x1024, .bf16⟩
  | .hbm, ⟨33, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8192x1024, .bf16⟩
  | .local _ .vmem, ⟨4, _⟩ => ⟨S8x1x1024, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S8x512x1024, .bf16⟩
  | .local _ .vmem, ⟨10, _⟩ => ⟨S8x512x1024, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrjFwdRefIdeal.lean ====
abbrev S4096x1024 : Shape := ⟨2, ![4096, 1024]⟩
abbrev S1x1024 : Shape := ⟨2, ![1, 1024]⟩
abbrev S1x1024x8192 : Shape := ⟨3, ![1, 1024, 8192]⟩
abbrev S1x8192 : Shape := ⟨2, ![1, 8192]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8192 : Shape := ⟨2, ![1024, 8192]⟩
abbrev S4096x8192 : Shape := ⟨2, ![4096, 8192]⟩
abbrev S8192 : Shape := ⟨1, ![8192]⟩
abbrev S1x4096x4x256 : Shape := ⟨4, ![1, 4096, 4, 256]⟩
abbrev S128 : Shape := ⟨1, ![128]⟩
abbrev S1x128 : Shape := ⟨2, ![1, 128]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S1x4096x1024 : Shape := ⟨3, ![1, 4096, 1024]⟩
abbrev S8x4096x1024 : Shape := ⟨3, ![8, 4096, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x8192, .f32⟩
  | .hbm, ⟨3, _⟩ => ⟨S1x8192, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x8192, .f32⟩
  | .hbm, ⟨22, _⟩ => ⟨S4096x8192, .f32⟩
  | .hbm, ⟨23, _⟩ => ⟨S8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x4096x4x256, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S4096, .f32⟩
  | .hbm, ⟨51, _⟩ => ⟨S4096x1, .f32⟩
  | .hbm, ⟨52, _⟩ => ⟨S1x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x128, .f32⟩
  | .hbm, ⟨57, _⟩ => ⟨S1x4096x1x128, .f32⟩
  | .hbm, ⟨58, _⟩ => ⟨S4096x128, .f32⟩
  | .hbm, ⟨59, _⟩ => ⟨S1x4096x1x128, .f32⟩
  | .hbm, ⟨60, _⟩ => ⟨S1x4096x4x128, .f32⟩
  | .hbm, ⟨61, _⟩ => ⟨S1x4096x4x128, .f32⟩
  | .hbm, ⟨62, _⟩ => ⟨S1x4096x4x128, .f32⟩
  | .hbm, ⟨63, _⟩ => ⟨S1x4096x4x128, .f32⟩
  | .hbm, ⟨64, _⟩ => ⟨S1x4096x4x128, .f32⟩
  | .hbm, ⟨65, _⟩ => ⟨S1x4096x4x128, .f32⟩
  | .hbm, ⟨66, _⟩ => ⟨S1x4096x4x128, .f32⟩
  | .hbm, ⟨67, _⟩ => ⟨S1x4096x4x128, .f32⟩
  | .hbm, ⟨68, _⟩ => ⟨S1x4096x4x128, .f32⟩
  | .hbm, ⟨69, _⟩ => ⟨S1x4096x4x128, .f32⟩
  | .hbm, ⟨70, _⟩ => ⟨S1x4096x4x128, .f32⟩
  | .hbm, ⟨71, _⟩ => ⟨S1x4096x4x128, .f32⟩
  | .hbm, ⟨72, _⟩ => ⟨S1x4096x4x256, .f32⟩
  | .hbm, ⟨73, _⟩ => ⟨S1x4096x4x256, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S4096, .f32⟩
  | .hbm, ⟨89, _⟩ => ⟨S4096x1, .f32⟩
  | .hbm, ⟨90, _⟩ => ⟨S1x128, .f32⟩
  | .hbm, ⟨91, _⟩ => ⟨S4096x128, .f32⟩
  | .hbm, ⟨92, _⟩ => ⟨S4096x128, .f32⟩
  | .hbm, ⟨93, _⟩ => ⟨S4096x128, .f32⟩
  | .hbm, ⟨94, _⟩ => ⟨S4096x128, .f32⟩
  | .hbm, ⟨95, _⟩ => ⟨S1x4096x1x128, .f32⟩
  | .hbm, ⟨96, _⟩ => ⟨S4096x128, .f32⟩
  | .hbm, ⟨97, _⟩ => ⟨S1x4096x1x128, .f32⟩
  | .hbm, ⟨98, _⟩ => ⟨S1x4096x4x128, .f32⟩
  | .hbm, ⟨99, _⟩ => ⟨S1x4096x4x128, .f32⟩
  | .hbm, ⟨100, _⟩ => ⟨S1x4096x4x128, .f32⟩
  | .hbm, ⟨101, _⟩ => ⟨S1x4096x4x128, .f32⟩
  | .hbm, ⟨102, _⟩ => ⟨S1x4096x4x128, .f32⟩
  | .hbm, ⟨103, _⟩ => ⟨S1x4096x4x128, .f32⟩
  | .hbm, ⟨104, _⟩ => ⟨S1x4096x4x128, .f32⟩
  | .hbm, ⟨105, _⟩ => ⟨S1x4096x4x128, .f32⟩
  | .hbm, ⟨106, _⟩ => ⟨S1x4096x4x128, .f32⟩
  | .hbm, ⟨107, _⟩ => ⟨S1x4096x4x128, .f32⟩
  | .hbm, ⟨108, _⟩ => ⟨S1x4096x4x128, .f32⟩
  | .hbm, ⟨109, _⟩ => ⟨S1x4096x4x128, .f32⟩
  | .hbm, ⟨110, _⟩ => ⟨S1x4096x4x256, .f32⟩
  | .hbm, ⟨111, _⟩ => ⟨S_, .f32⟩
  | .hbm, ⟨112, _⟩ => ⟨S1x4096x4x256, .f32⟩
  | .hbm, ⟨113, _⟩ => ⟨S1x4096x4x256, .f32⟩
  | .hbm, ⟨114, _⟩ => ⟨S4096x1024, .f32⟩
  | .hbm, ⟨115, _⟩ => ⟨S4096x1024, .f32⟩
  | .hbm, ⟨116, _⟩ => ⟨S1x4096x1024, .f32⟩
  | .hbm, ⟨117, _⟩ => ⟨S1x4096x1024, .f32⟩
  | .hbm, ⟨118, _⟩ => ⟨S1x4096x1024, .f32⟩
  | .hbm, ⟨119, _⟩ => ⟨S1x4096x1024, .f32⟩
  | .hbm, ⟨120, _⟩ => ⟨S1x4096x1024, .f32⟩
  | .hbm, ⟨121, _⟩ => ⟨S1x4096x1024, .f32⟩
  | .hbm, ⟨122, _⟩ => ⟨S1x4096x1024, .f32⟩
  | .hbm, ⟨123, _⟩ => ⟨S1x4096x1024, .f32⟩
  | .hbm, ⟨124, _⟩ => ⟨S8x4096x1024, .f32⟩
  | .hbm, ⟨125, _⟩ => ⟨S8x4096x1024, .bf16⟩
  | .hbm, ⟨126, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_10 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩

abbrev nD : Nat := 1
abbrev τ : Topo := Topo.v7x

variable {F : FTy → Type} [FloatOps F]
-- ==== Proof.SguFrame.lean ====
/-
  The spatial gating unit's frames that are not generated, and its named constants.
-/
module

public import proofs.«01_k».proof.Defs
public import proofs.«01_k».proof.Proof.Gen.KernelIdeal.Value

@[expose] public section

set_option maxRecDepth 16384

noncomputable section

namespace Cert.SguFrame

open Idealize.ShloMosaic Idealize.ShloMosaic.TcCoe Idealize.SL.Sem

/-- The kernel's named constants are these reals. -/
theorem preserves : Cert.preserves_Kernel_KernelIdeal :=
  ⟨IdealRules.named_const.statement Cert.KernelIdeal.κ "rsqrt2" .f32 0x3F3504F3#32 (((Real.sqrt 2)⁻¹ : ℝ) : EReal) rfl,
    IdealRules.named_const.statement Cert.KernelIdeal.κ "rsqrt2pi" .f32 0x3ECC422A#32 (((Real.sqrt (2 * Real.pi))⁻¹ : ℝ) : EReal) rfl⟩

end Cert.SguFrame

end
-- ==== Proof.Reals.lean ====
/-
  Extended reals that are real numbers: how the operations of a program read when every operand is finite. The value
  claims assume finite arguments, so every array is the image of an array of reals, and each operation of both programs
  is then the operation on the reals. Also the literals of the two programs as real numbers.
-/
module

public import Idealize.ShloMosaic.Lib.Pointwise

@[expose] public section

noncomputable section

namespace Cert.Reals

open Idealize.ShloMosaic

/-- A finite sum of reals, taken among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Division by a real that is not zero. -/
theorem div_real {y : ℝ} (hy : y ≠ 0) (x : ℝ) : Ideal.div (x : EReal) (y : EReal) = ((x / y : ℝ) : EReal) := by
  rw [Ideal.div_coe hy, ← EReal.coe_mul, mul_one_div]

/-- Division by the row length. -/
theorem div_1024 (x : ℝ) : Ideal.div (x : EReal) ((1024 : ℝ) : EReal) = ((x / 1024 : ℝ) : EReal) :=
  div_real (by norm_num) x

/-- The reciprocal square root of a positive real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- The constant the norms add under the root. -/
def eps : ℝ := 8796093 / 2 ^ 43

theorem eps_pos : 0 < eps := by unfold eps; norm_num

theorem lit_eps : Ideal.ofBits .f32 897988541#32 = ((eps : ℝ) : EReal) := by
  unfold eps; simp [Ideal.ofBits, Ideal.ieee, -EReal.coe_mul]; norm_num
theorem lit_1024 : Ideal.ofBits .f32 1149239296#32 = ((1024 : ℝ) : EReal) := by
  simp [Ideal.ofBits, Ideal.ieee, -EReal.coe_mul]; norm_num
theorem lit_inv_1024 : Ideal.ofBits .f32 981467136#32 = ((1 / 1024 : ℝ) : EReal) := by
  simp [Ideal.ofBits, Ideal.ieee, -EReal.coe_mul]; norm_num
theorem lit_half : Ideal.ofBits .f32 1056964608#32 = ((1 / 2 : ℝ) : EReal) := by
  simp [Ideal.ofBits, Ideal.ieee, -EReal.coe_mul]; norm_num
theorem lit_neg_half : Ideal.ofBits .f32 3204448256#32 = ((-1 / 2 : ℝ) : EReal) := by
  simp [Ideal.ofBits, Ideal.ieee, -EReal.coe_mul]; norm_num
theorem lit_one : Ideal.ofBits .f32 1065353216#32 = ((1 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_inf : Ideal.ofBits .f32 2139095040#32 = ⊤ := by
  simp [Ideal.ofBits, Ideal.ieee]

/-- An array whose absolute values are below infinity is an array of reals. -/
theorem exists_real {ι : Type} {x : ι → EReal} (h : ∀ i, max (x i) (-x i) < ⊤) :
    ∃ X : ι → ℝ, x = fun i => (X i : EReal) := by
  refine ⟨fun i => (x i).toReal, funext fun i => (EReal.coe_toReal ?_ ?_).symm⟩
  · intro e; have := h i; rw [e] at this; simp at this
  · intro e; have := h i; rw [e] at this; simp at this

/-- The mean of the squares of a row, with the constant under the root. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg _) (by norm_num)) eps_pos

/-- The reciprocal root mean square of a row. -/
def rms (x : Fin 1024 → ℝ) : ℝ := (Real.sqrt (meanSq x))⁻¹

theorem rsqrt_meanSq (x : Fin 1024 → ℝ) : Ideal.rsqrt ((meanSq x : ℝ) : EReal) = ((rms x : ℝ) : EReal) :=
  rsqrt_pos (meanSq_pos x)

/-- The reciprocal root of a row's mean of squares, as a program writes the row's mean. -/
theorem rsqrt_row (x : Fin 1024 → ℝ) :
    Ideal.rsqrt (((∑ k, x k * x k) / 1024 + eps : ℝ) : EReal) = ((rms x : ℝ) : EReal) := rsqrt_meanSq x

/-- The square of the reciprocal root, over the row's mean square: the cube. -/
theorem rms_div (x : Fin 1024 → ℝ) : rms x / meanSq x = rms x * rms x * rms x := by
  have h := Real.mul_self_sqrt (meanSq_pos x).le
  have hr : rms x * rms x = (meanSq x)⁻¹ := by unfold rms; rw [← mul_inv, h]
  rw [hr, div_eq_mul_inv, mul_comm]

end Cert.Reals

end
-- ==== Proof.SguMath.lean ====
/-
  The spatial gating unit on the reals. Rows and lanes are counted by naturals: a row is one position of the sequence
  (chunks of 128 rows), a lane one of the 1024 columns (four groups of 256). Here are the forward values the gradients
  use, the gradients as the step writes them, and the two identities that carry the derivative of the forward lines to
  them: of the gaussian error unit, and of the norm with mean.
-/
module

public import proofs.«01_k».proof.Proof.Reals

@[expose] public section

noncomputable section

namespace Cert.SguMath

open Cert.Reals Idealize.ShloMosaic

/-- The error function on the reals. -/
def erfR (x : ℝ) : ℝ := (Ideal.erf (x : EReal)).toReal

theorem erf_real (x : ℝ) : Ideal.erf (x : EReal) = ((erfR x : ℝ) : EReal) := by
  unfold erfR; rw [Ideal.erf_coe, EReal.toReal_coe]

/-- The reciprocal of the root of two. -/
def c2 : ℝ := (Real.sqrt 2)⁻¹

/-- The reciprocal of the root of two pi: the density of the gaussian at zero. -/
def c2pi : ℝ := (Real.sqrt (2 * Real.pi))⁻¹

/-- The distribution of the gaussian. -/
def cdf (x : ℝ) : ℝ := 1 / 2 * (1 + erfR (x * c2))

/-- The gaussian error unit. -/
def gelu (x : ℝ) : ℝ := x * cdf x

/-- Its derivative. -/
def gelu' (x : ℝ) : ℝ := cdf x + x * Real.exp (-1 / 2 * x * x) * c2pi

/-- The mean of a row. -/
def mean (f : ℕ → ℝ) : ℝ := (∑ k : Fin 1024, f k) / 1024

/-- The arguments: the two projected halves, the gradient of the unit's output, the norm's weight and bias, the mixing
    matrix and the bias of each group. -/
structure Sgu where
  pu : ℕ → ℕ → ℝ
  pv : ℕ → ℕ → ℝ
  ct : ℕ → ℕ → ℝ
  gn : ℕ → ℝ
  bn : ℕ → ℝ
  w : ℕ → ℕ → ℕ → ℝ
  b : ℕ → ℕ → ℝ

namespace Sgu

variable (D : Sgu)

/-- The gate half behind its activation. -/
def va (R l : ℕ) : ℝ := gelu (D.pv R l)

/-- The content half behind its activation. -/
def ua (R l : ℕ) : ℝ := gelu (D.pu R l)

/-- A gate row less its mean. -/
def xc (R l : ℕ) : ℝ := D.va R l - mean (D.va R)

/-- The reciprocal deviation of a gate row. -/
def rstd (R : ℕ) : ℝ := rms fun k => D.xc R k

/-- The normed gate row. -/
def vhat (R l : ℕ) : ℝ := D.xc R l * D.rstd R

/-- The normed gate row, weighted. -/
def vn (R l : ℕ) : ℝ := D.vhat R l * D.gn l + D.bn l

/-- The gate: the rows of a chunk mixed, and the bias. -/
def gate (R l : ℕ) : ℝ := (∑ k : Fin 128, D.w (l / 256) (R % 128) k * D.vn (R / 128 * 128 + k) l) + D.b (l / 256) (R % 128)

/-- The gradient of the gate. -/
def ds (R l : ℕ) : ℝ := D.ct R l * D.ua R l

/-- The gradient of the content half. -/
def du (R l : ℕ) : ℝ := D.ct R l * D.gate R l * gelu' (D.pu R l)

/-- The gradient of the weighted normed row: the chunk's rows mixed back. -/
def dvn (R l : ℕ) : ℝ := ∑ k : Fin 128, D.w (l / 256) k (R % 128) * D.ds (R / 128 * 128 + k) l

/-- The gradient of the normed row. -/
def dvh (R l : ℕ) : ℝ := D.dvn R l * D.gn l

/-- The gradient of the gate half. -/
def dv (R l : ℕ) : ℝ :=
  D.rstd R * (D.dvh R l - mean (D.dvh R) - D.vhat R l * mean (fun k => D.dvh R k * D.vhat R k)) * gelu' (D.pv R l)

/-- The gradients of the norm's weight and bias. -/
def dgn (l : ℕ) : ℝ := ∑ R : Fin 4096, D.dvn R l * D.vhat R l
def dbn (l : ℕ) : ℝ := ∑ R : Fin 4096, D.dvn R l

/-- The part of the chunk that starts at row `r` in the mixing matrix's gradient of the group that starts at lane `b`, and
    in the bias's. -/
def dwsPart (r b i j : ℕ) : ℝ := ∑ k : Fin 256, D.ds (r + i) (b + k) * D.vn (r + j) (b + k)
def dbsPart (r b i : ℕ) : ℝ := ∑ k : Fin 256, D.ds (r + i) (b + k)

/-- Four chunks' parts: those of one block. -/
def dwsFour (o b i j : ℕ) : ℝ :=
  D.dwsPart o b i j + D.dwsPart (o + 128) b i j + D.dwsPart (o + 256) b i j + D.dwsPart (o + 384) b i j
def dbsFour (o b i : ℕ) : ℝ := D.dbsPart o b i + D.dbsPart (o + 128) b i + D.dbsPart (o + 256) b i + D.dbsPart (o + 384) b i

/-- The gradients of the mixing matrix and of the bias. -/
def dws (g i j : ℕ) : ℝ := ∑ n : Fin 32, D.dwsPart (n * 128) (256 * g) i j
def dbs (g i : ℕ) : ℝ := ∑ n : Fin 32, D.dbsPart (n * 128) (256 * g) i

/-- A sum over the 32 chunks is a sum over the eight blocks of the four chunks of each. -/
theorem sum_chunks (f : ℕ → ℝ) :
    ∑ t : Fin 8, (f (t * 512) + f (t * 512 + 128) + f (t * 512 + 256) + f (t * 512 + 384)) = ∑ n : Fin 32, f (n * 128) := by
  simp only [Fin.sum_univ_succ, Fin.sum_univ_zero, Fin.val_zero, Fin.val_succ, Nat.reduceAdd, Nat.reduceMul, Nat.zero_add, Nat.zero_mul]
  ring

/-- A row less its mean sums to nothing. -/
theorem sum_xc (R : ℕ) : ∑ k : Fin 1024, D.xc R k = 0 := by
  unfold xc mean
  rw [Finset.sum_sub_distrib, Finset.sum_const, Finset.card_univ, Fintype.card_fin, nsmul_eq_mul]
  push_cast
  ring

/-- The derivative of the norm with mean, as the forward lines give it: `p` the gradient through the reciprocal deviation
    before the sum over the row, `e` the gradient of a row less its mean; the mean gives back the row's mean of `e`. -/
theorem norm_grad (R l : ℕ) (p : ℝ) (e : ℕ → ℝ)
    (hp : p = (∑ k : Fin 1024, D.xc R k * D.dvh R k) * (-1 / 2 * (D.rstd R / meanSq fun k : Fin 1024 => D.xc R k)) / 1024)
    (he : ∀ k, e k = D.dvh R k * D.rstd R + p * (2 * D.xc R k)) :
    e l - (∑ k : Fin 1024, e k) / 1024
      = D.rstd R * (D.dvh R l - mean (D.dvh R) - D.vhat R l * mean (fun k => D.dvh R k * D.vhat R k)) := by
  have h1 : ∑ k : Fin 1024, e k = (∑ k : Fin 1024, D.dvh R k) * D.rstd R := by
    simp only [he]
    rw [Finset.sum_add_distrib, ← Finset.sum_mul, ← Finset.mul_sum, ← Finset.mul_sum, sum_xc]
    ring
  have h2 : (∑ k : Fin 1024, D.dvh R k * D.vhat R k) = (∑ k : Fin 1024, D.xc R k * D.dvh R k) * D.rstd R := by
    rw [Finset.sum_mul]; exact Finset.sum_congr rfl fun k _ => by unfold vhat; ring
  have h3 : D.rstd R / (meanSq fun k : Fin 1024 => D.xc R k) = D.rstd R * D.rstd R * D.rstd R := rms_div _
  unfold mean
  rw [h1, h2, he, hp, h3]
  unfold vhat
  ring

end Sgu

/-- The derivative of the unit, as the forward lines give it: through the error function and through the factor. -/
theorem gelu_grad (x g : ℝ) :
    2 * (Real.sqrt Real.pi)⁻¹ * (1 / 2 * x * g) * Real.exp (-(x * c2 * (x * c2))) * c2 + 1 / 2 * (g * (1 + erfR (x * c2)))
      = g * gelu' x := by
  have h : c2 * c2 = 1 / 2 := by
    unfold c2; rw [← mul_inv, Real.mul_self_sqrt (by norm_num)]; norm_num
  have h2 : (Real.sqrt Real.pi)⁻¹ * c2 = c2pi := by
    unfold c2 c2pi; rw [← mul_inv, ← Real.sqrt_mul Real.pi_pos.le, mul_comm Real.pi 2]
  have h3 : -(x * c2 * (x * c2)) = -1 / 2 * x * x := by
    rw [show x * c2 * (x * c2) = c2 * c2 * (x * x) by ring, h]; ring
  rw [h3]
  unfold gelu' cdf
  rw [← h2]
  ring

end Cert.SguMath

end
-- ==== Proof.SguPay.lean ====
/-
  The gating unit's payloads on a block of rows of reals: the block that starts at row `o` holds the rows `o + r` of the
  whole arrays, and each payload is the block of the function of `SguMath` at those rows.
-/
module

public import proofs.«01_k».proof.Proof.Gen.KernelIdeal.Skeleton
public import proofs.«01_k».proof.Proof.SguMath
public import Idealize.ShloMosaic.Lib.Pipeline.ValueKit

@[expose] public section

set_option maxRecDepth 16384

noncomputable section

namespace Cert.SguPay

open Cert.KernelIdeal Cert.KernelIdeal.Gen Idealize.ShloMosaic Cert.Reals Cert.SguMath

/-- The named constants' values. -/
theorem named_c2 : Named.named (F := Ideal) (φ := .f32) κ "rsqrt2" 0x3F3504F3#32 = ((c2 : ℝ) : EReal) := rfl
theorem named_c2pi : Named.named (F := Ideal) (φ := .f32) κ "rsqrt2pi" 0x3ECC422A#32 = ((c2pi : ℝ) : EReal) := rfl

/-- The rows `o …` of an array. -/
def blk (o : ℕ) (f : ℕ → ℕ → ℝ) : S512x1024.Idx → EReal := fun y => ((f (o + (y 0).val) (y 1).val : ℝ) : EReal)

/-- The same under a unit axis. -/
def blk1 (o : ℕ) (f : ℕ → ℕ → ℝ) : S1x512x1024.Idx → EReal := fun y => ((f (o + (y 1).val) (y 2).val : ℝ) : EReal)

/-- One number per row. -/
def col (o : ℕ) (f : ℕ → ℝ) : S512x1.Idx → EReal := fun y => ((f (o + (y 0).val) : ℝ) : EReal)

/-- A row of weights. -/
def row (f : ℕ → ℝ) : S1x1024.Idx → EReal := fun y => ((f (y 1).val : ℝ) : EReal)

/-- One group's matrix, and one group's bias. -/
def mat1 (f : ℕ → ℕ → ℝ) : S1x128x128.Idx → EReal := fun y => ((f (y 1).val (y 2).val : ℝ) : EReal)
def col1 (f : ℕ → ℝ) : S1x128x1.Idx → EReal := fun y => ((f (y 1).val : ℝ) : EReal)

variable (o : ℕ) (D : Sgu)

theorem pay9_eq : k0_pay9 (F := Ideal) (blk1 o D.pu) = blk o D.ua := by
  funext y
  obtain ⟨r, l, rfl⟩ : ∃ r l, y = ix2 r l := ⟨_, _, eq_ix2 y⟩
  pointwise [k0_pay9, k0_pay8, k0_pay6]
  simp only [blk, blk1, named_c2, erf_real, lit_one, lit_half, ← EReal.coe_mul, ← EReal.coe_add]
  rfl

theorem pay10_eq (f : ℕ → ℕ → ℝ) : k0_pay10 (F := Ideal) (blk1 o f) = blk o fun R l => gelu' (f R l) := by
  funext y
  obtain ⟨r, l, rfl⟩ : ∃ r l, y = ix2 r l := ⟨_, _, eq_ix2 y⟩
  pointwise [k0_pay10, k0_pay8, k0_pay6]
  simp only [blk, blk1, named_c2, named_c2pi, erf_real, lit_one, lit_half, lit_neg_half, Ideal.exp_coe, ← EReal.coe_mul, ← EReal.coe_add]
  rfl

theorem pay12_eq : k0_pay12 (F := Ideal) (blk1 o D.pv) = blk o D.va := by
  funext y
  obtain ⟨r, l, rfl⟩ : ∃ r l, y = ix2 r l := ⟨_, _, eq_ix2 y⟩
  pointwise [k0_pay12, k0_pay11, k0_pay7]
  simp only [blk, blk1, named_c2, erf_real, lit_one, lit_half, ← EReal.coe_mul, ← EReal.coe_add]
  rfl

theorem pay14_eq (f : ℕ → ℕ → ℝ) :
    k0_pay14 (F := Ideal) (k0_pay11 (blk1 o f)) (k0_pay13 (blk1 o f)) = blk o fun R l => gelu' (f R l) := pay10_eq o f

/-- A row's reciprocal deviation. -/
theorem pay16_eq : k0_pay16 (F := Ideal) (blk o D.va) = col o D.rstd := by
  funext y
  obtain ⟨r, l, rfl⟩ : ∃ r l, y = ix2 r l := ⟨_, _, eq_ix2 y⟩
  pointwise [k0_pay16, k0_pay15]
  simp only [blk, lit_1024, lit_eps, ← EReal.coe_mul, ← coe_sum, div_1024, ← EReal.coe_add, ← EReal.coe_sub, rsqrt_row]
  rfl

theorem pay15_eq : k0_pay15 (F := Ideal) (blk o D.va) = blk o D.xc := by
  funext y
  obtain ⟨r, l, rfl⟩ : ∃ r l, y = ix2 r l := ⟨_, _, eq_ix2 y⟩
  pointwise [k0_pay15]
  simp only [blk, lit_1024, ← coe_sum, div_1024, ← EReal.coe_sub]
  rfl

theorem pay17_eq : k0_pay17 (F := Ideal) (blk o D.va) = blk o D.vhat := by
  funext y
  obtain ⟨r, l, rfl⟩ : ∃ r l, y = ix2 r l := ⟨_, _, eq_ix2 y⟩
  pointwise [k0_pay17]
  rw [pay15_eq, pay16_eq]
  simp only [blk, col, ← EReal.coe_mul]
  rfl

theorem pay18_eq : k0_pay18 (F := Ideal) (blk o D.va) (row D.gn) (row D.bn) = blk o D.vn := by
  funext y
  obtain ⟨r, l, rfl⟩ : ∃ r l, y = ix2 r l := ⟨_, _, eq_ix2 y⟩
  pointwise [k0_pay18]
  rw [pay17_eq]
  simp only [blk, row, ← EReal.coe_mul, ← EReal.coe_add]
  rfl

theorem pay19_eq (f : ℕ → ℕ → ℝ) : k0_pay19 (F := Ideal) (blk o f) = blk o f := by
  funext y
  obtain ⟨r, l, rfl⟩ : ∃ r l, y = ix2 r l := ⟨_, _, eq_ix2 y⟩
  pointwise [k0_pay19]

theorem pay20_eq : k0_pay20 (F := Ideal) (blk o D.ua) (blk o D.ct) = blk o D.ds := by
  funext y
  obtain ⟨r, l, rfl⟩ : ∃ r l, y = ix2 r l := ⟨_, _, eq_ix2 y⟩
  pointwise [k0_pay20]
  rw [pay19_eq]
  simp only [blk, ← EReal.coe_mul]
  rfl

theorem pay117_eq : k0_pay117 (F := Ideal) (blk o fun R l => gelu' (D.pu R l)) (blk o D.ct) (blk o D.gate) = blk1 o D.du := by
  funext y
  obtain ⟨u, r, l, rfl⟩ : ∃ u r l, y = ix3 u r l := ⟨_, _, _, eq_ix3 y⟩
  pointwise [k0_pay117]
  simp only [blk, ← EReal.coe_mul]
  rfl

theorem pay120_eq : k0_pay120 (F := Ideal) (row D.gn) = blk o fun _ l => D.gn l := by
  funext y
  obtain ⟨r, l, rfl⟩ : ∃ r l, y = ix2 r l := ⟨_, _, eq_ix2 y⟩
  pointwise [k0_pay120]
  rfl

theorem pay1_eq :
    k0_pay1 (F := Ideal) (blk o fun R l => gelu' (D.pv R l)) (col o D.rstd) (blk o D.vhat) (blk o D.dvn) (blk o fun _ l => D.gn l)
      = blk1 o D.dv := by
  funext y
  obtain ⟨u, r, l, rfl⟩ : ∃ u r l, y = ix3 u r l := ⟨_, _, _, eq_ix3 y⟩
  pointwise [k0_pay1]
  simp only [blk, col, lit_1024, ← EReal.coe_mul, ← coe_sum, div_1024, ← EReal.coe_sub]
  rfl

/-- One point's part of the norm weight's gradient. -/
theorem pay118_at (a : S1x1024.Idx → EReal) (y : S1x1024.Idx) :
    k0_pay118 (F := Ideal) (blk o D.vhat) (blk o D.dvn) a y
      = a y + ((∑ r : Fin 512, D.dvn (o + r) (y 1).val * D.vhat (o + r) (y 1).val : ℝ) : EReal) := by
  obtain ⟨r, l, rfl⟩ : ∃ r l, y = ix2 r l := ⟨_, _, eq_ix2 y⟩
  obtain rfl : r = 0 := Subsingleton.elim _ _
  pointwise [k0_pay118]
  simp only [blk, ← EReal.coe_mul, ← coe_sum]
  rfl

/-- One point's part of the norm bias's gradient. -/
theorem pay119_at (a : S1x1024.Idx → EReal) (y : S1x1024.Idx) :
    k0_pay119 (F := Ideal) (blk o D.dvn) a y = a y + ((∑ r : Fin 512, D.dvn (o + r) (y 1).val : ℝ) : EReal) := by
  obtain ⟨r, l, rfl⟩ : ∃ r l, y = ix2 r l := ⟨_, _, eq_ix2 y⟩
  obtain rfl : r = 0 := Subsingleton.elim _ _
  pointwise [k0_pay119]
  simp only [blk, ← coe_sum]
  rfl

/-- A chunk's lanes of one group mixed by the group's matrix. -/
theorem mix_at (f d : ℕ → ℕ → ℝ) (a b : ℕ) (hs : Shape.Slices S512x1024 ![a, b] S128x256) (x : S128x256.Idx) :
    matmul (F := Ideal) (φ₁ := .bf16) (φ₂ := .bf16) dot_S128x128_S128x256_S128x256_1_0_0_1_n_n none
        (shapeCast S128x128 (mat1 f) shapeCasts_S1x128x128_S128x128)
        (extractStridedSlice S128x256 ![a, b] (blk o d) hs) (constant S128x256 .f32 0x00000000#32) x
      = ((∑ k : Fin 128, f (x 0).val k * d (o + (a + k)) (b + (x 1).val) : ℝ) : EReal) := by
  obtain ⟨r, l, rfl⟩ : ∃ r l, x = ix2 r l := ⟨_, _, eq_ix2 x⟩
  pointwise []
  simp only [blk, mat1, ← EReal.coe_mul, ← coe_sum]
  rfl

end Cert.SguPay

end
-- ==== Proof.SguBlocks.lean ====
/-
  The gating unit's kernel: the blocks its eight points read, on finite arguments.
-/
module

public import proofs.«01_k».proof.Proof.SguPay
public import proofs.«01_k».proof.Proof.Gen.KernelIdeal.Value
public import Idealize.ShloMosaic.Lib.StableHlo.ReadAt

@[expose] public section

set_option maxRecDepth 16384

noncomputable section

namespace Cert.SguBlocks

open Cert.KernelIdeal Cert.KernelIdeal.Gen Idealize.ShloMosaic Idealize.ShloMosaic.TcCoe Cert.Reals Cert.SguMath Cert.SguPay

/-- A memory whose arguments on device `c` are the unit's, wherever the kernel reads them. -/
structure At (D : Sgu) (m : (ℓ : Loc nD τ sig) → Buf (Elt Ideal) ℓ) (c : Dev nD) : Prop where
  pu : ∀ (r : Fin 4096) (l : Fin 1024), m ((c.tc : Thread nD τ).loc main_arg0) (ix3 0 r ⟨l.val, by omega⟩) = ((D.pu r l : ℝ) : EReal)
  pv : ∀ (r : Fin 4096) (l : Fin 1024), m ((c.tc : Thread nD τ).loc main_arg0) (ix3 0 r ⟨1024 + l.val, by omega⟩) = ((D.pv r l : ℝ) : EReal)
  gn : ∀ l : Fin 1024, m ((c.tc : Thread nD τ).loc main_arg1) (ix2 0 l) = ((D.gn l : ℝ) : EReal)
  bn : ∀ l : Fin 1024, m ((c.tc : Thread nD τ).loc main_arg2) (ix2 0 l) = ((D.bn l : ℝ) : EReal)
  w : ∀ (g : Fin 4) (i j : Fin 128), m ((c.tc : Thread nD τ).loc main_arg3) (ix4 0 g i j) = ((D.w g i j : ℝ) : EReal)
  b : ∀ (g : Fin 4) (i : Fin 128), m ((c.tc : Thread nD τ).loc main_arg4) (ix3 0 g i) = ((D.b g i : ℝ) : EReal)
  ct : ∀ (r : Fin 4096) (l : Fin 1024), m ((c.tc : Thread nD τ).loc main_arg5) (ix3 0 r l) = ((D.ct r l : ℝ) : EReal)

variable (m : (ℓ : Loc nD τ sig) → Buf (Elt Ideal) ℓ) (c : Dev nD) (D : Sgu) (hD : At D m c)

theorem idx0 : ∀ t : Fin grid0.N, win0_0.index t = ![t.val, 0] := by decide +kernel
theorem idx1 : ∀ t : Fin grid0.N, win0_1.index t = ![0, t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![0, 0, 0] := by decide +kernel
theorem idx7 : ∀ t : Fin grid0.N, win0_7.index t = ![0, t.val, 0] := by decide +kernel

/-- Row `r` of point `t`'s block, among all the rows. -/
abbrev rowOf (t : Fin cfg0.N) (r : Fin 512) : Fin 4096 := ⟨t.val * 512 + r.val, by have := t.isLt; have : cfg0.N = 8 := rfl; omega⟩

include hD in
theorem blk_ct (t : Fin cfg0.N) : iblk m c 0 t = blk (t.val * 512) D.ct := by
  funext i
  have e : iblk m c 0 t i = m ((c.tc : Thread nD τ).loc main_arg5) (ix3 0 (rowOf t (i 0)) (i 1)) := by
    blk_ext! [iblk, V, idx0 t]
  exact e.trans (hD.ct _ _)

/-- The first two slots of the stacked projection are its first two segments. -/
theorem slot0 (r : Fin 4096) (l : Fin 1024) :
    V m c main_v25 (ix3 0 r l : S8x4096x1024.Idx) = m ((c.tc : Thread nD τ).loc main_arg0) (ix3 0 r ⟨l.val, by omega⟩) := by
  unfold V
  after_reads_at
  after_reads_at

theorem slot1 (r : Fin 4096) (l : Fin 1024) :
    V m c main_v25 (ix3 1 r l : S8x4096x1024.Idx) = m ((c.tc : Thread nD τ).loc main_arg0) (ix3 0 r ⟨1024 + l.val, by omega⟩) := by
  unfold V
  after_reads_at
  after_reads_at

include hD in
theorem ld_pu (t : Fin cfg0.N) :
    View.ld (iblk m c 1 t) (Rect.unit ![0, 0, 0] ![1, 512, 1024] inb_S2x512x1024_S1x512x1024_0_0_0) = blk1 (t.val * 512) D.pu := by
  funext (y : S1x512x1024.Idx)
  obtain ⟨u, r, l, rfl⟩ : ∃ u r l, y = ix3 u r l := ⟨_, _, _, eq_ix3 y⟩
  obtain rfl : u = 0 := Subsingleton.elim _ _
  have e : iblk m c 1 t (ix3 0 r l : S2x512x1024.Idx) = V m c main_v25 (ix3 0 (rowOf t r) l : S8x4096x1024.Idx) := by
    blk_ext [iblk, idx1 t]
  refine (View.ld_unit_apply_of _ _ _ _ _ (ix3 0 r l : S2x512x1024.Idx) ?_).trans ?_
  · exact Fin.forall_fin_succ.2 ⟨rfl, Fin.forall_fin_two.2 ⟨(Nat.zero_add _).symm, (Nat.zero_add _).symm⟩⟩
  · rw [e, slot0, hD.pu]; rfl

include hD in
theorem ld_pv (t : Fin cfg0.N) :
    View.ld (iblk m c 1 t) (Rect.unit ![1, 0, 0] ![1, 512, 1024] inb_S2x512x1024_S1x512x1024_1_0_0) = blk1 (t.val * 512) D.pv := by
  funext (y : S1x512x1024.Idx)
  obtain ⟨u, r, l, rfl⟩ : ∃ u r l, y = ix3 u r l := ⟨_, _, _, eq_ix3 y⟩
  obtain rfl : u = 0 := Subsingleton.elim _ _
  have e : iblk m c 1 t (ix3 1 r l : S2x512x1024.Idx) = V m c main_v25 (ix3 1 (rowOf t r) l : S8x4096x1024.Idx) := by
    blk_ext [iblk, idx1 t]
  refine (View.ld_unit_apply_of _ _ _ _ _ (ix3 1 r l : S2x512x1024.Idx) ?_).trans ?_
  · exact Fin.forall_fin_succ.2 ⟨rfl, Fin.forall_fin_two.2 ⟨(Nat.zero_add _).symm, (Nat.zero_add _).symm⟩⟩
  · rw [e, slot1, hD.pv]; rfl

include hD in
theorem blk_gn (t : Fin cfg0.N) : iblk m c 2 t = row D.gn := by
  funext i
  have e : iblk m c 2 t i = m ((c.tc : Thread nD τ).loc main_arg1) (ix2 0 (i 1)) := by
    blk_ext! [iblk, V, idx2 t]
  exact e.trans (hD.gn _)

include hD in
theorem blk_bn (t : Fin cfg0.N) : iblk m c 3 t = row D.bn := by
  funext i
  have e : iblk m c 3 t i = m ((c.tc : Thread nD τ).loc main_arg2) (ix2 0 (i 1)) := by
    blk_ext! [iblk, V, idx3 t]
  exact e.trans (hD.bn _)

include hD in
theorem blk_w (t : Fin cfg0.N) (y : S4x128x128.Idx) : iblk m c 4 t y = ((D.w (y 0).val (y 1).val (y 2).val : ℝ) : EReal) := by
  have e : iblk m c 4 t y = m ((c.tc : Thread nD τ).loc main_arg3) (ix4 0 (y 0) (y 1) (y 2)) := by
    blk_ext! [iblk, V, idx4 t]
  exact e.trans (hD.w _ _ _)

include hD in
theorem blk_wt (t : Fin cfg0.N) (y : S4x128x128.Idx) : iblk m c 5 t y = ((D.w (y 0).val (y 2).val (y 1).val : ℝ) : EReal) := by
  have e : iblk m c 5 t y = m ((c.tc : Thread nD τ).loc main_arg3) (ix4 0 (y 0) (y 2) (y 1)) := by
    blk_ext! [iblk, V, idx5 t]
  exact e.trans (hD.w _ _ _)

include hD in
theorem blk_b (t : Fin cfg0.N) (y : S4x128x1.Idx) : iblk m c 6 t y = ((D.b (y 0).val (y 1).val : ℝ) : EReal) := by
  have e : iblk m c 6 t y = m ((c.tc : Thread nD τ).loc main_arg4) (ix3 0 (y 0) (y 1)) := by
    blk_ext! [iblk, V, idx6 t]
  exact e.trans (hD.b _ _)

include hD in
/-- One group's mixing matrix, loaded. -/
theorem ld_w (t : Fin cfg0.N) (g : ℕ) (hg : g < 4) (inb) :
    View.ld (iblk m c 4 t) (Rect.unit ![g, 0, 0] ![1, 128, 128] inb) = mat1 fun i j => D.w g i j := by
  funext (y : S1x128x128.Idx)
  obtain ⟨u, i, j, rfl⟩ : ∃ u i j, y = ix3 u i j := ⟨_, _, _, eq_ix3 y⟩
  obtain rfl : u = 0 := Subsingleton.elim _ _
  refine (View.ld_unit_apply_of _ _ _ _ _ (ix3 ⟨g, hg⟩ i j : S4x128x128.Idx) ?_).trans (blk_w m c D hD t _)
  exact Fin.forall_fin_succ.2 ⟨rfl, Fin.forall_fin_two.2 ⟨(Nat.zero_add _).symm, (Nat.zero_add _).symm⟩⟩

include hD in
/-- The same, transposed. -/
theorem ld_wt (t : Fin cfg0.N) (g : ℕ) (hg : g < 4) (inb) :
    View.ld (iblk m c 5 t) (Rect.unit ![g, 0, 0] ![1, 128, 128] inb) = mat1 fun i j => D.w g j i := by
  funext (y : S1x128x128.Idx)
  obtain ⟨u, i, j, rfl⟩ : ∃ u i j, y = ix3 u i j := ⟨_, _, _, eq_ix3 y⟩
  obtain rfl : u = 0 := Subsingleton.elim _ _
  refine (View.ld_unit_apply_of _ _ _ _ _ (ix3 ⟨g, hg⟩ i j : S4x128x128.Idx) ?_).trans (blk_wt m c D hD t _)
  exact Fin.forall_fin_succ.2 ⟨rfl, Fin.forall_fin_two.2 ⟨(Nat.zero_add _).symm, (Nat.zero_add _).symm⟩⟩

include hD in
/-- One group's bias, loaded. -/
theorem ld_b (t : Fin cfg0.N) (g : ℕ) (hg : g < 4) (inb) :
    View.ld (iblk m c 6 t) (Rect.unit ![g, 0, 0] ![1, 128, 1] inb) = col1 fun i => D.b g i := by
  funext (y : S1x128x1.Idx)
  obtain ⟨u, i, j, rfl⟩ : ∃ u i j, y = ix3 u i j := ⟨_, _, _, eq_ix3 y⟩
  obtain rfl : u = 0 := Subsingleton.elim _ _
  refine (View.ld_unit_apply_of _ _ _ _ _ (ix3 ⟨g, hg⟩ i j : S4x128x1.Idx) ?_).trans (blk_b m c D hD t _)
  exact Fin.forall_fin_succ.2 ⟨rfl, Fin.forall_fin_two.2 ⟨(Nat.zero_add _).symm, (Nat.zero_add _).symm⟩⟩

end Cert.SguBlocks

end
-- ==== Proof.SguPoint.lean ====
/-
  The gating unit's kernel at one grid point: what its body leaves in the five output blocks, on finite arguments. The
  body writes the gate and the mixed-back gradient tile by tile into two scratches and loads them whole; the matrix and
  bias gradients are read, added to and written once per chunk of the block.
-/
module

public import proofs.«01_k».proof.Proof.SguBlocks
public import Idealize.ShloMosaic.Lib.Pipeline.ReadBack

@[expose] public section

set_option maxRecDepth 16384

noncomputable section

namespace Cert.SguPoint

open Cert.KernelIdeal Cert.KernelIdeal.Gen Idealize.ShloMosaic Idealize.ShloMosaic.TcCoe Cert.Reals Cert.SguMath Cert.SguPay Cert.SguBlocks

variable (m : (ℓ : Loc nD τ sig) → Buf (Elt Ideal) ℓ) (c : Dev nD)  (D : Sgu) (hD : At D m c)
/-- A block's tile of the mixed-back gradient. -/
theorem tile_dvn (o : ℕ) (ho : o % 128 = 0) (a b g : ℕ) (ha : a % 128 = 0) (hg : b = 256 * g) (hs : Shape.Slices S512x1024 ![a, b] S128x256)
    (x : S128x256.Idx) (y : S512x1024.Idx) (h0 : (y 0).val = a + (x 0).val) (h1 : (y 1).val = b + (x 1).val) :
    matmul (F := Ideal) (φ₁ := .bf16) (φ₂ := .bf16) dot_S128x128_S128x256_S128x256_1_0_0_1_n_n none
        (shapeCast S128x128 (mat1 fun i j => D.w g j i) shapeCasts_S1x128x128_S128x128)
        (extractStridedSlice S128x256 ![a, b] (blk o D.ds) hs) (constant S128x256 .f32 0x00000000#32) x = blk o D.dvn y := by
  obtain ⟨R, l, rfl⟩ : ∃ R l, y = ix2 R l := ⟨_, _, eq_ix2 y⟩
  obtain ⟨p, q, rfl⟩ : ∃ p q, x = ix2 p q := ⟨_, _, eq_ix2 x⟩
  rw [mix_at]
  change (R : ℕ) = a + (p : ℕ) at h0
  change (l : ℕ) = b + (q : ℕ) at h1
  have hp := p.isLt
  have hq := q.isLt
  change ((∑ k : Fin 128, D.w g k p * D.ds (o + (a + k)) (b + q) : ℝ) : EReal)
    = ((∑ k : Fin 128, D.w (l / 256) k ((o + R) % 128) * D.ds ((o + R) / 128 * 128 + k) l : ℝ) : EReal)
  rw [h0, h1, show (b + (q : ℕ)) / 256 = g by omega, show (o + (a + (p : ℕ))) % 128 = p by omega,
    show (o + (a + (p : ℕ))) / 128 * 128 = o + a by omega]
  simp only [Nat.add_assoc]

/-- A scratch loaded whole. -/
theorem readCov_whole {sig : RefSig} {κ : Kind} {sp : Space} (v : View sig κ sp S512x1024 .f32) (L : List (View.Piece (Elt Ideal) S512x1024 .f32)) (inb)
    (g : S512x1024.Idx → EReal) (h : ∀ y, View.canon L y = g y) :
    v.readCov L (Rect.unit ![0, 0] ![512, 1024] inb).toLoadRect = g := by
  rw [View.readCov_eq_canon']
  funext y
  rw [← h]
  exact congrArg _ (funext fun a => Fin.ext (by rw [Rect.idx_unit_val]; match a with | 0 => exact Nat.zero_add _ | 1 => exact Nat.zero_add _))

/-- A block's tile of the gate. -/
theorem tile_gate (o : ℕ) (ho : o % 128 = 0) (a b g : ℕ) (ha : a % 128 = 0) (hg : b = 256 * g) (hs : Shape.Slices S512x1024 ![a, b] S128x256)
    (x : S128x256.Idx) (y : S512x1024.Idx) (h0 : (y 0).val = a + (x 0).val) (h1 : (y 1).val = b + (x 1).val) :
    addf (F := Ideal) (φ := .f32) (matmul (F := Ideal) (φ₁ := .bf16) (φ₂ := .bf16) dot_S128x128_S128x256_S128x256_1_0_0_1_n_n none
          (shapeCast S128x128 (mat1 fun i j => D.w g i j) shapeCasts_S1x128x128_S128x128)
          (extractStridedSlice S128x256 ![a, b] (blk o D.vn) hs) (constant S128x256 .f32 0x00000000#32))
        (broadcastTo S128x256 (shapeCast S128x1 (col1 fun i => D.b g i) shapeCasts_S1x128x1_S128x1) broadcasts_S128x1_S128x256) x
      = blk o D.gate y := by
  obtain ⟨R, l, rfl⟩ : ∃ R l, y = ix2 R l := ⟨_, _, eq_ix2 y⟩
  obtain ⟨p, q, rfl⟩ : ∃ p q, x = ix2 p q := ⟨_, _, eq_ix2 x⟩
  rw [addf_apply, mix_at]
  pointwise [col1]
  change (R : ℕ) = a + (p : ℕ) at h0
  change (l : ℕ) = b + (q : ℕ) at h1
  have hp := p.isLt
  have hq := q.isLt
  rw [← EReal.coe_add]
  change (((∑ k : Fin 128, D.w g p k * D.vn (o + (a + k)) (b + q)) + D.b g p : ℝ) : EReal)
    = (((∑ k : Fin 128, D.w (l / 256) ((o + R) % 128) k * D.vn ((o + R) / 128 * 128 + k) l) + D.b (l / 256) ((o + R) % 128) : ℝ) : EReal)
  rw [h0, h1, show (b + (q : ℕ)) / 256 = g by omega, show (o + (a + (p : ℕ))) % 128 = p by omega,
    show (o + (a + (p : ℕ))) / 128 * 128 = o + a by omega]
  simp only [Nat.add_assoc]

/-- One chunk's addition to a group's matrix gradient. -/
theorem step_dws (o a b : ℕ) (hs hs' : Shape.Slices S512x1024 ![a, b] S128x256) (p : S1x128x128.Idx → EReal) (i j : Fin 128) :
    shapeCast S1x128x128 (addf (F := Ideal) (φ := .f32) (shapeCast S128x128 p shapeCasts_S1x128x128_S128x128)
        (matmul (F := Ideal) (φ₁ := .bf16) (φ₂ := .bf16) dot_S128x256_S128x256_S128x128_1_1_0_0_n_n none
          (extractStridedSlice S128x256 ![a, b] (blk o D.ds) hs) (extractStridedSlice S128x256 ![a, b] (blk o D.vn) hs')
          (constant S128x128 .f32 0x00000000#32))) shapeCasts_S128x128_S1x128x128 (ix3 0 i j)
      = p (ix3 0 i j) + ((D.dwsPart (o + a) b i j : ℝ) : EReal) := by
  pointwise [blk]
  simp only [← EReal.coe_mul, ← coe_sum]
  unfold Sgu.dwsPart
  simp only [Nat.add_assoc]

/-- One chunk's addition to a group's bias gradient, in each of the eight equal rows. -/
theorem step_dbs (o a b : ℕ) (hs : Shape.Slices S512x1024 ![a, b] S128x256) (p : S1x8x128.Idx → EReal) (u : Fin 8) (j : Fin 128) :
    shapeCast S1x8x128 (addf (F := Ideal) (φ := .f32) (shapeCast S8x128 p shapeCasts_S1x8x128_S8x128)
        (matmul (F := Ideal) (φ₁ := .bf16) (φ₂ := .bf16) dot_S8x256_S128x256_S8x128_1_1_0_0_n_n none
          (broadcast S8x256 (Scalar.ofBits (F := Ideal) .bf16 0x3F80#16)) (extractStridedSlice S128x256 ![a, b] (blk o D.ds) hs)
          (constant S8x128 .f32 0x00000000#32))) shapeCasts_S8x128_S1x8x128 (ix3 0 u j)
      = p (ix3 0 u j) + ((D.dbsPart (o + a) b j : ℝ) : EReal) := by
  pointwise [blk]
  simp only [← EReal.coe_mul, ← coe_sum]
  unfold Sgu.dbsPart
  simp only [Nat.add_assoc]

/-- One group's plane of an array of four planes: its indices, and where they lie. -/
theorem plane_idx (n : ℕ) (x : (⟨3, ![1, n, 128]⟩ : Shape).Idx) : ∃ (i : Fin n) (j : Fin 128), x = ix3 0 i j :=
  ⟨x 1, x 2, (eq_ix3 x).trans (congrArg (fun u : Fin 1 => ix3 u (x 1) (x 2)) (Subsingleton.elim _ _))⟩

theorem plane_emb (n g : ℕ) (hg : g < 4) (inb) (u : Fin 1) (i : Fin n) (j : Fin 128) :
    (Rect.unit (s := ⟨3, ![4, n, 128]⟩) ![g, 0, 0] ![1, n, 128] inb).emb (ix3 u i j) = ix3 ⟨g, hg⟩ i j := by
  obtain rfl : u = 0 := Subsingleton.elim _ _
  funext a
  refine Fin.ext ((Rect.idx_unit_val _ _ inb _ a).trans ?_)
  match a with
  | 0 => rfl
  | 1 => exact Nat.zero_add _
  | 2 => exact Nat.zero_add _

theorem plane_mem (n g : ℕ) (hg : g < 4) (inb) (i : Fin n) (j : Fin 128) :
    (ix3 ⟨g, hg⟩ i j : (⟨3, ![4, n, 128]⟩ : Shape).Idx) ∈ (Rect.unit (s := ⟨3, ![4, n, 128]⟩) ![g, 0, 0] ![1, n, 128] inb).set := by
  rw [← plane_emb n g hg inb 0 i j]
  exact LoadRect.idx_mem _ _

theorem plane_ld (n g : ℕ) (hg : g < 4) (inb) (X : (⟨3, ![4, n, 128]⟩ : Shape).Idx → EReal) (i : Fin n) (j : Fin 128) :
    View.ld (Val := Elt Ideal) (e' := .f32) X (Rect.unit (s := ⟨3, ![4, n, 128]⟩) ![g, 0, 0] ![1, n, 128] inb) (ix3 0 i j : (⟨3, ![1, n, 128]⟩ : Shape).Idx) = X (ix3 ⟨g, hg⟩ i j) :=
  congrArg X (plane_emb n g hg inb 0 i j)

theorem add_four (x : EReal) (a b c d : ℝ) : x + a + b + c + d = x + ((a + b + c + d : ℝ) : EReal) := by
  rw [EReal.coe_add, EReal.coe_add, EReal.coe_add, add_assoc, add_assoc, add_assoc, add_assoc, add_assoc]

/-- The last four writes, one per group, cover the array. -/
theorem canon_planes (n : ℕ) (i0 i1 i2 i3) (p0 p1 p2 p3 : (⟨3, ![1, n, 128]⟩ : Shape).Idx → EReal) (L : List (View.Piece (Elt Ideal) ⟨3, ![4, n, 128]⟩ .f32))
    (G : (⟨3, ![4, n, 128]⟩ : Shape).Idx → EReal)
    (h3 : ∀ i j, p3 (ix3 0 i j) = G (ix3 3 i j)) (h2 : ∀ i j, p2 (ix3 0 i j) = G (ix3 2 i j))
    (h1 : ∀ i j, p1 (ix3 0 i j) = G (ix3 1 i j)) (h0 : ∀ i j, p0 (ix3 0 i j) = G (ix3 0 i j)) (y : (⟨3, ![4, n, 128]⟩ : Shape).Idx) :
    View.canon (⟨Rect.unit ![3, 0, 0] ![1, n, 128] i3, p3⟩ :: ⟨Rect.unit ![2, 0, 0] ![1, n, 128] i2, p2⟩
      :: ⟨Rect.unit ![1, 0, 0] ![1, n, 128] i1, p1⟩ :: ⟨Rect.unit ![0, 0, 0] ![1, n, 128] i0, p0⟩ :: L) y = G y := by
  refine View.canon_append_of_pieces G L [⟨Rect.unit ![3, 0, 0] ![1, n, 128] i3, p3⟩, ⟨Rect.unit ![2, 0, 0] ![1, n, 128] i2, p2⟩,
    ⟨Rect.unit ![1, 0, 0] ![1, n, 128] i1, p1⟩, ⟨Rect.unit ![0, 0, 0] ![1, n, 128] i0, p0⟩] (fun p hp => ?_) y ?_
  · simp only [List.mem_cons, List.not_mem_nil, or_false] at hp
    rcases hp with rfl | rfl | rfl | rfl <;> intro x <;> obtain ⟨i, j, rfl⟩ := plane_idx n x
    · exact (h3 i j).trans (congrArg G (plane_emb n 3 (by decide) i3 0 i j).symm)
    · exact (h2 i j).trans (congrArg G (plane_emb n 2 (by decide) i2 0 i j).symm)
    · exact (h1 i j).trans (congrArg G (plane_emb n 1 (by decide) i1 0 i j).symm)
    · exact (h0 i j).trans (congrArg G (plane_emb n 0 (by decide) i0 0 i j).symm)
  · obtain ⟨g, i, j, rfl⟩ : ∃ g i j, y = ix3 g i j := ⟨_, _, _, eq_ix3 y⟩
    match g with
    | 3 => exact ⟨_, .head _, plane_mem n 3 _ i3 i j⟩
    | 2 => exact ⟨_, .tail _ (.head _), plane_mem n 2 _ i2 i j⟩
    | 1 => exact ⟨_, .tail _ (.tail _ (.head _)), plane_mem n 1 _ i1 i j⟩
    | 0 => exact ⟨_, .tail _ (.tail _ (.tail _ (.head _))), plane_mem n 0 _ i0 i j⟩

/-- The two slots written last cover the pair of them. -/
theorem canon_slots (i1 i0) (p1 p0 : S1x512x1024.Idx → EReal) (L : List (View.Piece (Elt Ideal) S2x512x1024 .bf16)) (G : S2x512x1024.Idx → EReal)
    (h1 : ∀ r l, p1 (ix3 0 r l) = G (ix3 1 r l)) (h0 : ∀ r l, p0 (ix3 0 r l) = G (ix3 0 r l)) (y : S2x512x1024.Idx) :
    View.canon (⟨Rect.unit ![1, 0, 0] ![1, 512, 1024] i1, p1⟩ :: ⟨Rect.unit ![0, 0, 0] ![1, 512, 1024] i0, p0⟩ :: L) y = G y := by
  have emb (s : ℕ) (hs : s < 2) (inb) (r : Fin 512) (l : Fin 1024) :
      (Rect.unit (s := S2x512x1024) ![s, 0, 0] ![1, 512, 1024] inb).emb (ix3 0 r l) = ix3 ⟨s, hs⟩ r l := by
    funext a
    refine Fin.ext ((Rect.idx_unit_val _ _ inb _ a).trans ?_)
    match a with
    | 0 => rfl
    | 1 => exact Nat.zero_add _
    | 2 => exact Nat.zero_add _
  refine View.canon_append_of_pieces G L [⟨Rect.unit ![1, 0, 0] ![1, 512, 1024] i1, p1⟩, ⟨Rect.unit ![0, 0, 0] ![1, 512, 1024] i0, p0⟩]
    (fun p hp => ?_) y ?_
  · simp only [List.mem_cons, List.not_mem_nil, or_false] at hp
    rcases hp with rfl | rfl <;> intro x <;> obtain ⟨u, r, l, rfl⟩ : ∃ u r l, x = ix3 u r l := ⟨_, _, _, eq_ix3 x⟩ <;>
      obtain rfl : u = 0 := Subsingleton.elim _ _
    · exact (h1 r l).trans (congrArg G (emb 1 (by decide) i1 r l).symm)
    · exact (h0 r l).trans (congrArg G (emb 0 (by decide) i0 r l).symm)
  · obtain ⟨g, r, l, rfl⟩ : ∃ g r l, y = ix3 g r l := ⟨_, _, _, eq_ix3 y⟩
    match g with
    | 1 => exact ⟨_, .head _, emb 1 (by decide) i1 r l ▸ LoadRect.idx_mem _ _⟩
    | 0 => exact ⟨_, .tail _ (.head _), emb 0 (by decide) i0 r l ▸ LoadRect.idx_mem _ _⟩

/-- The two slots of one point: the gradients of the two halves' columns. -/
def slotsG (o : ℕ) (y : S2x512x1024.Idx) : EReal :=
  ((if (y 0).val = 0 then D.du (o + (y 1).val) (y 2).val else D.dv (o + (y 1).val) (y 2).val : ℝ) : EReal)

include hD in
theorem dws_B (t : Fin cfg0.N) (h : ¬ t.val % 8 = 0) (y : S4x128x128.Idx) : (outsAt0 m c t.val t.isLt).2.1 y =
    (outsAt0 m c (t.val - 1) (by omega)).2.1 y + ((D.dwsFour (t.val * 512) (256 * (y 0).val) (y 1).val (y 2).val : ℝ) : EReal) := by
  rw [outsAt0_B m c t h]
  frame_out
  simp (disch := decide) only [↓ View.readCov_skip, ↓ View.readCov_cons_toLoadRect]
  simp only [ld_pu m c D hD, ld_pv m c D hD, blk_ct m c D hD, blk_gn m c D hD, blk_bn m c D hD, pay9_eq, pay12_eq, pay18_eq, pay20_eq]
  refine canon_planes 128 _ _ _ _ _ _ _ _ _ (fun y => (outsAt0 m c (t.val - 1) (by omega)).2.1 y
    + ((D.dwsFour (t.val * 512) (256 * (y 0).val) (y 1).val (y 2).val : ℝ) : EReal)) ?_ ?_ ?_ ?_ y
  all_goals
    intro i j
    open_payloads
    simp only [step_dws]
    exact (add_four _ _ _ _ _).trans (congrArg₂ (· + ·) (plane_ld 128 _ (by decide) _ _ i j) rfl)

include hD in
theorem dws_A (t : Fin cfg0.N) (h : t.val % 8 = 0) (y : S4x128x128.Idx) : (outsAt0 m c t.val t.isLt).2.1 y =
    0 + ((D.dwsFour (t.val * 512) (256 * (y 0).val) (y 1).val (y 2).val : ℝ) : EReal) := by
  rw [outsAt0_A m c t h]
  frame_out
  simp (disch := decide) only [↓ View.readCov_skip, ↓ View.readCov_cons_toLoadRect, ↓ View.readCov_fill]
  simp only [ld_pu m c D hD, ld_pv m c D hD, blk_ct m c D hD, blk_gn m c D hD, blk_bn m c D hD, pay9_eq, pay12_eq, pay18_eq, pay20_eq]
  refine canon_planes 128 _ _ _ _ _ _ _ _ _ (fun y => 0
    + ((D.dwsFour (t.val * 512) (256 * (y 0).val) (y 1).val (y 2).val : ℝ) : EReal)) ?_ ?_ ?_ ?_ y
  all_goals
    intro i j
    open_payloads
    simp only [step_dws]
    refine (add_four _ _ _ _ _).trans (congrArg₂ (· + ·) ?_ rfl)
    exact Ideal.ofBits_zero_f32

include hD in
theorem dbs_B (t : Fin cfg0.N) (h : ¬ t.val % 8 = 0) (y : S4x8x128.Idx) : (outsAt0 m c t.val t.isLt).2.2.1 y =
    (outsAt0 m c (t.val - 1) (by omega)).2.2.1 y + ((D.dbsFour (t.val * 512) (256 * (y 0).val) (y 2).val : ℝ) : EReal) := by
  rw [outsAt0_B m c t h]
  frame_out
  simp (disch := decide) only [↓ View.readCov_skip, ↓ View.readCov_cons_toLoadRect]
  simp only [ld_pu m c D hD, ld_pv m c D hD, blk_ct m c D hD, blk_gn m c D hD, blk_bn m c D hD, pay9_eq, pay12_eq, pay18_eq, pay20_eq]
  refine canon_planes 8 _ _ _ _ _ _ _ _ _ (fun y => (outsAt0 m c (t.val - 1) (by omega)).2.2.1 y
    + ((D.dbsFour (t.val * 512) (256 * (y 0).val) (y 2).val : ℝ) : EReal)) ?_ ?_ ?_ ?_ y
  all_goals
    intro i j
    open_payloads
    simp only [step_dbs]
    exact (add_four _ _ _ _ _).trans (congrArg₂ (· + ·) (plane_ld 8 _ (by decide) _ _ i j) rfl)

include hD in
theorem dgn_B (t : Fin cfg0.N) (h : ¬ t.val % 8 = 0) (y : S1x1024.Idx) : (outsAt0 m c t.val t.isLt).2.2.2.1 y =
    (outsAt0 m c (t.val - 1) (by omega)).2.2.2.1 y + ((∑ r : Fin 512, D.dvn (t.val * 512 + r) (y 1).val * D.vhat (t.val * 512 + r) (y 1).val : ℝ) : EReal) := by
  rw [outsAt0_B m c t h]
  frame_out
  simp (disch := decide) only [ld_pu m c D hD, ld_pv m c D hD, blk_ct m c D hD, blk_gn m c D hD, blk_bn m c D hD, ld_w m c D hD, ld_wt m c D hD, ld_b m c D hD,
    pay9_eq, pay12_eq, pay17_eq, pay18_eq, pay19_eq, pay20_eq]
  refine (congrArg (fun z => k0_pay118 (F := Ideal) _ z _ y) ?_).trans (pay118_at _ D _ y)
  · refine readCov_whole _ _ _ _ fun z => ?_
    canon_tiles x h
    all_goals (open_payloads; rw [shapeCast_self]; refine tile_dvn D _ ?_ _ _ _ ?_ ?_ _ _ _ ?_ ?_ <;> omega)

include hD in
theorem dbn_B (t : Fin cfg0.N) (h : ¬ t.val % 8 = 0) (y : S1x1024.Idx) : (outsAt0 m c t.val t.isLt).2.2.2.2 y =
    (outsAt0 m c (t.val - 1) (by omega)).2.2.2.2 y + ((∑ r : Fin 512, D.dvn (t.val * 512 + r) (y 1).val : ℝ) : EReal) := by
  rw [outsAt0_B m c t h]
  frame_out
  simp (disch := decide) only [ld_pu m c D hD, ld_pv m c D hD, blk_ct m c D hD, blk_gn m c D hD, blk_bn m c D hD, ld_w m c D hD, ld_wt m c D hD, ld_b m c D hD,
    pay9_eq, pay12_eq, pay17_eq, pay18_eq, pay19_eq, pay20_eq]
  refine (congrArg (fun z => k0_pay119 (F := Ideal) z _ y) ?_).trans (pay119_at _ D _ y)
  · refine readCov_whole _ _ _ _ fun z => ?_
    canon_tiles x h
    all_goals (open_payloads; rw [shapeCast_self]; refine tile_dvn D _ ?_ _ _ _ ?_ ?_ _ _ _ ?_ ?_ <;> omega)

include hD in
theorem dbs_A (t : Fin cfg0.N) (h : t.val % 8 = 0) (y : S4x8x128.Idx) : (outsAt0 m c t.val t.isLt).2.2.1 y =
    0 + ((D.dbsFour (t.val * 512) (256 * (y 0).val) (y 2).val : ℝ) : EReal) := by
  rw [outsAt0_A m c t h]
  frame_out
  simp (disch := decide) only [↓ View.readCov_skip, ↓ View.readCov_cons_toLoadRect, ↓ View.readCov_fill]
  simp only [ld_pu m c D hD, ld_pv m c D hD, blk_ct m c D hD, blk_gn m c D hD, blk_bn m c D hD, pay9_eq, pay12_eq, pay18_eq, pay20_eq]
  refine canon_planes 8 _ _ _ _ _ _ _ _ _ (fun y => 0
    + ((D.dbsFour (t.val * 512) (256 * (y 0).val) (y 2).val : ℝ) : EReal)) ?_ ?_ ?_ ?_ y
  all_goals
    intro i j
    open_payloads
    simp only [step_dbs]
    refine (add_four _ _ _ _ _).trans (congrArg₂ (· + ·) ?_ rfl)
    exact Ideal.ofBits_zero_f32

include hD in
theorem dgn_A (t : Fin cfg0.N) (h : t.val % 8 = 0) (y : S1x1024.Idx) : (outsAt0 m c t.val t.isLt).2.2.2.1 y =
    0 + ((∑ r : Fin 512, D.dvn (t.val * 512 + r) (y 1).val * D.vhat (t.val * 512 + r) (y 1).val : ℝ) : EReal) := by
  rw [outsAt0_A m c t h]
  frame_out
  simp (disch := decide) only [ld_pu m c D hD, ld_pv m c D hD, blk_ct m c D hD, blk_gn m c D hD, blk_bn m c D hD, ld_w m c D hD, ld_wt m c D hD, ld_b m c D hD,
    pay9_eq, pay12_eq, pay17_eq, pay18_eq, pay19_eq, pay20_eq]
  refine (congrArg (fun z => k0_pay118 (F := Ideal) _ z _ y) ?_).trans ((pay118_at (t.val * 512) D _ y).trans (congrArg₂ (· + ·) ?_ rfl))
  · refine readCov_whole _ _ _ _ fun z => ?_
    canon_tiles x h
    all_goals (open_payloads; rw [shapeCast_self]; refine tile_dvn D _ ?_ _ _ _ ?_ ?_ _ _ _ ?_ ?_ <;> omega)
  · exact Ideal.ofBits_zero_f32

include hD in
theorem dbn_A (t : Fin cfg0.N) (h : t.val % 8 = 0) (y : S1x1024.Idx) : (outsAt0 m c t.val t.isLt).2.2.2.2 y =
    0 + ((∑ r : Fin 512, D.dvn (t.val * 512 + r) (y 1).val : ℝ) : EReal) := by
  rw [outsAt0_A m c t h]
  frame_out
  simp (disch := decide) only [ld_pu m c D hD, ld_pv m c D hD, blk_ct m c D hD, blk_gn m c D hD, blk_bn m c D hD, ld_w m c D hD, ld_wt m c D hD, ld_b m c D hD,
    pay9_eq, pay12_eq, pay17_eq, pay18_eq, pay19_eq, pay20_eq]
  refine (congrArg (fun z => k0_pay119 (F := Ideal) z _ y) ?_).trans ((pay119_at (t.val * 512) D _ y).trans (congrArg₂ (· + ·) ?_ rfl))
  · refine readCov_whole _ _ _ _ fun z => ?_
    canon_tiles x h
    all_goals (open_payloads; rw [shapeCast_self]; refine tile_dvn D _ ?_ _ _ _ ?_ ?_ _ _ _ ?_ ?_ <;> omega)
  · exact Ideal.ofBits_zero_f32

include hD in
theorem dp_B (t : Fin cfg0.N) (h : ¬ t.val % 8 = 0) (y : S2x512x1024.Idx) : (outsAt0 m c t.val t.isLt).1 y = slotsG D (t.val * 512) y := by
  rw [outsAt0_B m c t h]
  frame_out
  simp (disch := decide) only [ld_pu m c D hD, ld_pv m c D hD, blk_ct m c D hD, blk_gn m c D hD, blk_bn m c D hD, ld_w m c D hD, ld_wt m c D hD, ld_b m c D hD,
    k0_pay22, pay9_eq, pay12_eq, pay17_eq, pay18_eq, pay19_eq, pay20_eq, pay14_eq, pay15_eq, pay16_eq, pay10_eq, pay120_eq]
  refine canon_slots _ _ _ _ _ (slotsG D (t.val * 512)) (fun r l => ?_) (fun r l => ?_) y
  · refine (congrArg (fun z => k0_pay1 (F := Ideal) _ _ _ z _ (ix3 0 r l)) ?_).trans (congrFun (pay1_eq (t.val * 512) D) _)
    refine readCov_whole _ _ _ _ fun z => ?_
    canon_tiles x h
    all_goals (open_payloads; rw [shapeCast_self]; refine tile_dvn D _ ?_ _ _ _ ?_ ?_ _ _ _ ?_ ?_ <;> omega)
  · refine (congrArg (fun z => k0_pay117 (F := Ideal) _ _ z (ix3 0 r l)) ?_).trans (congrFun (pay117_eq (t.val * 512) D) _)
    refine readCov_whole _ _ _ _ fun z => ?_
    canon_tiles x h
    all_goals (open_payloads; rw [shapeCast_self]; refine tile_gate D _ ?_ _ _ _ ?_ ?_ _ _ _ ?_ ?_ <;> omega)

include hD in
theorem dp_A (t : Fin cfg0.N) (h : t.val % 8 = 0) (y : S2x512x1024.Idx) : (outsAt0 m c t.val t.isLt).1 y = slotsG D (t.val * 512) y := by
  rw [outsAt0_A m c t h]
  frame_out
  simp (disch := decide) only [ld_pu m c D hD, ld_pv m c D hD, blk_ct m c D hD, blk_gn m c D hD, blk_bn m c D hD, ld_w m c D hD, ld_wt m c D hD, ld_b m c D hD,
    k0_pay22, pay9_eq, pay12_eq, pay17_eq, pay18_eq, pay19_eq, pay20_eq, pay14_eq, pay15_eq, pay16_eq, pay10_eq, pay120_eq]
  refine canon_slots _ _ _ _ _ (slotsG D (t.val * 512)) (fun r l => ?_) (fun r l => ?_) y
  · refine (congrArg (fun z => k0_pay1 (F := Ideal) _ _ _ z _ (ix3 0 r l)) ?_).trans (congrFun (pay1_eq (t.val * 512) D) _)
    refine readCov_whole _ _ _ _ fun z => ?_
    canon_tiles x h
    all_goals (open_payloads; rw [shapeCast_self]; refine tile_dvn D _ ?_ _ _ _ ?_ ?_ _ _ _ ?_ ?_ <;> omega)
  · refine (congrArg (fun z => k0_pay117 (F := Ideal) _ _ z (ix3 0 r l)) ?_).trans (congrFun (pay117_eq (t.val * 512) D) _)
    refine readCov_whole _ _ _ _ fun z => ?_
    canon_tiles x h
    all_goals (open_payloads; rw [shapeCast_self]; refine tile_gate D _ ?_ _ _ _ ?_ ?_ _ _ _ ?_ ?_ <;> omega)

end Cert.SguPoint

end
-- ==== Proof.SguValue.lean ====
/-
  The gating unit's kernel: its five result arrays after the run, on finite arguments. The first two slots of the stacked
  gradient are tiled by the points' blocks, the other six keep what the argument held; the four weight gradients are
  accumulated over the points and written back after the last.
-/
module

public import proofs.«01_k».proof.Proof.SguPoint

@[expose] public section

set_option maxRecDepth 16384

noncomputable section

namespace Cert.SguValue

open Cert.KernelIdeal Cert.KernelIdeal.Gen Idealize.ShloMosaic Idealize.ShloMosaic.TcCoe Cert.Reals Cert.SguMath Cert.SguPay Cert.SguBlocks Cert.SguPoint

variable (m : (ℓ : Loc nD τ sig) → Buf (Elt Ideal) ℓ) (c : Dev nD) (D : Sgu) (hD : At D m c)

theorem emb7_0 (t : Fin cfg0.N) (y : S2x512x1024.Idx) : ((win0_7.blk t).view.emb y 0).val = (y 0).val := by blk_simp [idx7 t]
theorem emb7_1 (t : Fin cfg0.N) (y : S2x512x1024.Idx) : ((win0_7.blk t).view.emb y 1).val = t.val * 512 + (y 1).val := by blk_simp [idx7 t]
theorem emb7_2 (t : Fin cfg0.N) (y : S2x512x1024.Idx) : ((win0_7.blk t).view.emb y 2).val = (y 2).val := by blk_simp [idx7 t]

include hD in
theorem after7 (t : Fin cfg0.N) (y : S2x512x1024.Idx) : (outsAt0 m c t.val t.isLt).1 y = slotsG D (t.val * 512) y := by
  by_cases h : t.val % 8 = 0
  · exact dp_A m c D hD t h y
  · exact dp_B m c D hD t h y

/-- The stacked gradient: the two halves' columns, then the other slots as they came. -/
def stacked (i : S8x4096x1024.Idx) : EReal :=
  ((if (i 0).val = 0 then D.du (i 1).val (i 2).val else D.dv (i 1).val (i 2).val : ℝ) : EReal)

include hD in
theorem out7 : (dats m 0 c).arrAt 7 cfg0.N
    = fun i : S8x4096x1024.Idx => if (i 0).val / 2 = 0 then stacked D i else m ((c.tc : Thread nD τ).loc main_arg6) i := by
  have e : (dats m 0 c).A 7 = m ((c.tc : Thread nD τ).loc main_arg6) := by
    funext (i : S8x4096x1024.Idx)
    change V m c main_v35_0 i = _
    unfold V
    after_reads_at
    rfl
  rw [← e]
  refine (dats m 0 c).arrAt_eq_of_coversWhere 7 (stacked D) (fun β => β (0 : Fin _) = 0) (by decide +kernel) (fun t hf y => ?_) (fun j => Iff.rfl)
  blk_simp
  change (outsAt0 m c t.val t.isLt).1 y = _
  refine (after7 m c D hD t y).trans ?_
  change slotsG D (t.val * 512) y = stacked D ((win0_7.blk t).view.emb y)
  unfold stacked slotsG
  rw [emb7_0, emb7_1, emb7_2]

/-- What the accumulators' staging buffers hold after point `t`. -/
theorem stage8 (t : Fin cfg0.N) : (dats m 0 c).after 8 t = (outsAt0 m c t.val t.isLt).2.1 := rfl
theorem stage9 (t : Fin cfg0.N) : (dats m 0 c).after 9 t = (outsAt0 m c t.val t.isLt).2.2.1 := rfl
theorem stage10 (t : Fin cfg0.N) : (dats m 0 c).after 10 t = (outsAt0 m c t.val t.isLt).2.2.2.1 := rfl
theorem stage11 (t : Fin cfg0.N) : (dats m 0 c).after 11 t = (outsAt0 m c t.val t.isLt).2.2.2.2 := rfl

/-- The eight points' rows are all the rows. -/
theorem sum_rows (f : ℕ → ℝ) : ∑ t : Fin cfg0.N, ∑ r : Fin 512, f (t.val * 512 + r.val) = ∑ R : Fin 4096, f R :=
  Fin.sum_mul_add_fin 8 512 fun R => f R

include hD in
theorem acc8 (j : S4x128x128.Idx) : (outsAt0 m c t0_7.val t0_7.isLt).2.1 j
    = 0 + ∑ t : Fin cfg0.N, ((D.dwsFour (t.val * 512) (256 * (j 0).val) (j 1).val (j 2).val : ℝ) : EReal) :=
  Pipeline.eq_sum_fin_of_reset_step_apply_last (fun n h => (outsAt0 m c n h).2.1) 8 (fun _ => 0)
    (fun t j => ((D.dwsFour (t.val * 512) (256 * (j 0).val) (j 1).val (j 2).val : ℝ) : EReal))
    (fun t h j => dws_A m c D hD t h j) (fun t h j => dws_B m c D hD t h j) (by decide) t0_7 rfl j

include hD in
theorem acc9 (j : S4x8x128.Idx) : (outsAt0 m c t0_7.val t0_7.isLt).2.2.1 j
    = 0 + ∑ t : Fin cfg0.N, ((D.dbsFour (t.val * 512) (256 * (j 0).val) (j 2).val : ℝ) : EReal) :=
  Pipeline.eq_sum_fin_of_reset_step_apply_last (fun n h => (outsAt0 m c n h).2.2.1) 8 (fun _ => 0)
    (fun t j => ((D.dbsFour (t.val * 512) (256 * (j 0).val) (j 2).val : ℝ) : EReal))
    (fun t h j => dbs_A m c D hD t h j) (fun t h j => dbs_B m c D hD t h j) (by decide) t0_7 rfl j

include hD in
theorem acc10 (j : S1x1024.Idx) : (outsAt0 m c t0_7.val t0_7.isLt).2.2.2.1 j
    = 0 + ∑ t : Fin cfg0.N, ((∑ r : Fin 512, D.dvn (t.val * 512 + r) (j 1).val * D.vhat (t.val * 512 + r) (j 1).val : ℝ) : EReal) :=
  Pipeline.eq_sum_fin_of_reset_step_apply_last (fun n h => (outsAt0 m c n h).2.2.2.1) 8 (fun _ => 0)
    (fun t j => ((∑ r : Fin 512, D.dvn (t.val * 512 + r) (j 1).val * D.vhat (t.val * 512 + r) (j 1).val : ℝ) : EReal))
    (fun t h j => dgn_A m c D hD t h j) (fun t h j => dgn_B m c D hD t h j) (by decide) t0_7 rfl j

include hD in
theorem acc11 (j : S1x1024.Idx) : (outsAt0 m c t0_7.val t0_7.isLt).2.2.2.2 j
    = 0 + ∑ t : Fin cfg0.N, ((∑ r : Fin 512, D.dvn (t.val * 512 + r) (j 1).val : ℝ) : EReal) :=
  Pipeline.eq_sum_fin_of_reset_step_apply_last (fun n h => (outsAt0 m c n h).2.2.2.2) 8 (fun _ => 0)
    (fun t j => ((∑ r : Fin 512, D.dvn (t.val * 512 + r) (j 1).val : ℝ) : EReal))
    (fun t h j => dbn_A m c D hD t h j) (fun t h j => dbn_B m c D hD t h j) (by decide) t0_7 rfl j

include hD in
/-- The mixing matrix's gradient. -/
theorem out8 : (dats m 0 c).arrAt 8 cfg0.N = fun i : S4x128x128.Idx => ((D.dws (i 0).val (i 1).val (i 2).val : ℝ) : EReal) := by
  refine (dats m 0 c).arrAt_eq_of_after_last 8 t0_7 (by decide +kernel) _ fun j => ?_
  blk_simp
  rw [stage8, acc8 m c D hD, ← coe_sum, zero_add]
  exact congrArg _ (Sgu.sum_chunks fun r => D.dwsPart r (256 * (j 0).val) (j 1).val (j 2).val)

include hD in
/-- The mixing bias's gradient, in eight equal rows. -/
theorem out9 : (dats m 0 c).arrAt 9 cfg0.N = fun i : S4x8x128.Idx => ((D.dbs (i 0).val (i 2).val : ℝ) : EReal) := by
  refine (dats m 0 c).arrAt_eq_of_after_last 9 t0_7 (by decide +kernel) _ fun j => ?_
  blk_simp
  rw [stage9, acc9 m c D hD, ← coe_sum, zero_add]
  exact congrArg _ (Sgu.sum_chunks fun r => D.dbsPart r (256 * (j 0).val) (j 2).val)

include hD in
/-- The norm weight's gradient. -/
theorem out10 : (dats m 0 c).arrAt 10 cfg0.N = fun i : S1x1024.Idx => ((D.dgn (i 1).val : ℝ) : EReal) := by
  refine (dats m 0 c).arrAt_eq_of_after_last 10 t0_7 (by decide +kernel) _ fun j => ?_
  blk_simp
  rw [stage10, acc10 m c D hD, ← coe_sum, zero_add]
  exact congrArg _ (sum_rows fun R => D.dvn R (j 1).val * D.vhat R (j 1).val)

include hD in
/-- The norm bias's gradient. -/
theorem out11 : (dats m 0 c).arrAt 11 cfg0.N = fun i : S1x1024.Idx => ((D.dbn (i 1).val : ℝ) : EReal) := by
  refine (dats m 0 c).arrAt_eq_of_after_last 11 t0_7 (by decide +kernel) _ fun j => ?_
  blk_simp
  rw [stage11, acc11 m c D hD, ← coe_sum, zero_add]
  exact congrArg _ (sum_rows fun R => D.dvn R (j 1).val)

end Cert.SguValue

end
-- ==== Proof.SguRef.lean ====
/-
  The reference of the gating unit on finite arguments: the derivative of its forward lines, value by value.
-/
module

public import proofs.«01_k».proof.Proof.SguMath
public import proofs.«01_k».proof.Proof.Gen.ReferenceIdeal.Value

@[expose] public section

set_option maxRecDepth 16384

noncomputable section

namespace Cert.SguRef

open Cert.ReferenceIdeal Cert.ReferenceIdeal.Gen Idealize.ShloMosaic Idealize.ShloMosaic.TcCoe Cert.Reals Cert.SguMath

/-- Arrays of reals, by row and lane. -/
def full (f : ℕ → ℕ → ℝ) : S1x4096x1024.Idx → EReal := fun y => ((f (y 1).val (y 2).val : ℝ) : EReal)
def rcol (f : ℕ → ℝ) : S1x4096x1.Idx → EReal := fun y => ((f (y 1).val : ℝ) : EReal)
def row (f : ℕ → ℝ) : S1x1024.Idx → EReal := fun y => ((f (y 1).val : ℝ) : EReal)
def vec (f : ℕ → ℝ) : S1024.Idx → EReal := fun y => ((f (y 0).val : ℝ) : EReal)
def vec3 (f : ℕ → ℝ) : S1x1x1024.Idx → EReal := fun y => ((f (y 2).val : ℝ) : EReal)
def mats (f : ℕ → ℕ → ℕ → ℝ) : S4x128x128.Idx → EReal := fun y => ((f (y 0).val (y 1).val (y 2).val : ℝ) : EReal)
def cols (f : ℕ → ℕ → ℝ) : S4x128.Idx → EReal := fun y => ((f (y 0).val (y 1).val : ℝ) : EReal)
/-- The rows cut into chunks and the lanes into groups, and the same with the chunk's rows last. -/
def chunks (f : ℕ → ℕ → ℝ) : S1x32x128x4x256.Idx → EReal :=
  fun y => ((f ((y 1).val * 128 + (y 2).val) ((y 3).val * 256 + (y 4).val) : ℝ) : EReal)
def chunksT (f : ℕ → ℕ → ℝ) : S4x1x32x256x128.Idx → EReal :=
  fun y => ((f ((y 2).val * 128 + (y 4).val) ((y 0).val * 256 + (y 3).val) : ℝ) : EReal)

variable (D : Sgu) (f : ℕ → ℕ → ℝ)

theorem named_c2 : Named.named (F := Ideal) (φ := .f32) κ "rsqrt2" 0x3F3504F3#32 = ((c2 : ℝ) : EReal) := rfl
theorem named_two_rsqrtpi : Named.named (F := Ideal) (φ := .f32) κ "two_rsqrtpi" 0x3F906EBB#32 = ((2 * (Real.sqrt Real.pi)⁻¹ : ℝ) : EReal) := rfl

theorem full_ext {a : S1x4096x1024.Idx → EReal} {g : ℕ → ℕ → ℝ} (h : ∀ (r : Fin 4096) (l : Fin 1024), a (ix3 0 r l) = ((g r l : ℝ) : EReal)) :
    a = full g := by
  funext y
  obtain ⟨u, r, l, rfl⟩ : ∃ u r l, y = ix3 u r l := ⟨_, _, _, eq_ix3 y⟩
  obtain rfl : u = 0 := Subsingleton.elim _ _
  exact h r l

theorem rcol_ext {a : S1x4096x1.Idx → EReal} {g : ℕ → ℝ} (h : ∀ (r : Fin 4096), a (ix3 0 r 0) = ((g r : ℝ) : EReal)) : a = rcol g := by
  funext y
  obtain ⟨u, r, v, rfl⟩ : ∃ u r v, y = ix3 u r v := ⟨_, _, _, eq_ix3 y⟩
  obtain rfl : u = 0 := Subsingleton.elim _ _
  obtain rfl : v = 0 := Subsingleton.elim _ _
  exact h r

theorem pay1_eq : k0_pay1 (F := Ideal) (full f) = full fun R l => 1 / 2 * f R l :=
  full_ext fun r l => by pointwise [k0_pay1]; simp only [full, lit_half, ← EReal.coe_mul]; rfl

theorem pay2_eq : k0_pay2 (F := Ideal) (full f) = full fun R l => f R l * c2 :=
  full_ext fun r l => by pointwise [k0_pay2]; simp only [full, named_c2, ← EReal.coe_mul]; rfl

theorem pay3_eq : k0_pay3 (F := Ideal) (full f) = full fun R l => Real.exp (-(f R l * c2 * (f R l * c2))) :=
  full_ext fun r l => by
    pointwise [k0_pay3, pay2_eq]
    simp only [full, ← EReal.coe_mul, zero_sub, ← EReal.coe_neg, Ideal.exp_coe]
    rfl

theorem pay4_eq : k0_pay4 (F := Ideal) (full f) = full fun R l => 1 + erfR (f R l * c2) :=
  full_ext fun r l => by
    pointwise [k0_pay4, pay2_eq]
    simp only [full, lit_one, erf_real, ← EReal.coe_add]
    rfl

theorem pay5_eq : k0_pay5 (F := Ideal) (full f) = full fun R l => gelu (f R l) :=
  full_ext fun r l => by
    pointwise [k0_pay5, pay1_eq, pay4_eq]
    simp only [full, ← EReal.coe_mul]
    refine congrArg _ ?_
    unfold gelu cdf
    change 1 / 2 * f r l * (1 + erfR (f r l * c2)) = _
    ring

theorem pay15_eq : k0_pay15 (F := Ideal) (full f) = rcol fun R => mean (f R) :=
  rcol_ext fun r => by
    pointwise [k0_pay15]
    simp only [full, lit_1024, ← coe_sum, div_1024]
    rfl

theorem pay16_eq : k0_pay16 (F := Ideal) (full D.va) = full D.xc :=
  full_ext fun r l => by
    pointwise [k0_pay16, pay15_eq]
    simp only [full, rcol, ← EReal.coe_sub]
    rfl

theorem pay17_eq : k0_pay17 (F := Ideal) (full D.va) = full fun R l => 2 * D.xc R l :=
  full_ext fun r l => by
    pointwise [k0_pay17, pay16_eq]
    simp only [full, lit_two, ← EReal.coe_mul]
    rfl

theorem pay18_eq : k0_pay18 (F := Ideal) (full D.va) = full D.xc := pay16_eq D

theorem pay19_eq : k0_pay19 (F := Ideal) (full D.va) = rcol fun R => meanSq fun k : Fin 1024 => D.xc R k :=
  rcol_ext fun r => by
    pointwise [k0_pay19, pay16_eq]
    simp only [full, lit_1024, lit_eps, ← EReal.coe_mul, ← coe_sum, div_1024, ← EReal.coe_add]
    rfl

theorem pay20_eq : k0_pay20 (F := Ideal) (full D.va) = rcol D.rstd :=
  rcol_ext fun r => by
    pointwise [k0_pay20, pay19_eq]
    exact rsqrt_meanSq _

theorem pay21_eq : k0_pay21 (F := Ideal) (full D.va) = rcol fun R => -1 / 2 * (D.rstd R / meanSq fun k : Fin 1024 => D.xc R k) :=
  rcol_ext fun r => by
    pointwise [k0_pay21, pay20_eq, pay19_eq]
    simp only [rcol, lit_neg_half, div_real (meanSq_pos _).ne', ← EReal.coe_mul]
    rfl

theorem pay22_eq : k0_pay22 (F := Ideal) (full D.va) = full D.vhat :=
  full_ext fun r l => by
    pointwise [k0_pay22, pay20_eq, pay18_eq]
    simp only [full, rcol, ← EReal.coe_mul]
    rfl

theorem pay11_eq (g : ℕ → ℝ) : k0_pay11 (F := Ideal) (row g) = vec g := by
  funext y
  obtain ⟨l, rfl⟩ : ∃ l, y = ix1 l := ⟨_, eq_ix1 y⟩
  pointwise [k0_pay11]
  rfl

theorem pay23_eq (g : ℕ → ℝ) : k0_pay23 (F := Ideal) (vec g) = vec3 g := by
  funext y
  obtain ⟨u, v, l, rfl⟩ : ∃ u v l, y = ix3 u v l := ⟨_, _, _, eq_ix3 y⟩
  pointwise [k0_pay23]
  rfl

theorem ix5_ext {a b : S1x32x128x4x256.Idx → EReal} (h : ∀ (n : Fin 32) (k : Fin 128) (g : Fin 4) (q : Fin 256), a (ix5 0 n k g q) = b (ix5 0 n k g q)) : a = b := by
  funext y
  obtain ⟨u, n, k, g, q, rfl⟩ : ∃ u n k g q, y = ix5 u n k g q := ⟨_, _, _, _, _, eq_ix5 y⟩
  obtain rfl : u = 0 := Subsingleton.elim _ _
  exact h n k g q

/-- Cutting an array into chunks and groups, and putting it together again. -/
theorem cut_eq : shapeCast (α := EReal) S1x32x128x4x256 (full f) shapeCasts_S1x4096x1024_S1x32x128x4x256 = chunks f :=
  ix5_ext fun n k g q => by
    pointwise
    rfl

theorem uncut_eq : shapeCast (α := EReal) S1x4096x1024 (chunks f) shapeCasts_S1x32x128x4x256_S1x4096x1024 = full f :=
  full_ext fun r l => by
    pointwise
    exact congrArg _ (congrArg₂ f (show r.val / 128 * 128 + r.val % 128 = r.val by omega) (show l.val / 256 * 256 + l.val % 256 = l.val by omega))

theorem chunksT_ext {a b : S4x1x32x256x128.Idx → EReal} (h : ∀ (g : Fin 4) (n : Fin 32) (q : Fin 256) (k : Fin 128), a (ix5 g 0 n q k) = b (ix5 g 0 n q k)) :
    a = b := by
  funext y
  obtain ⟨g, u, n, q, k, rfl⟩ : ∃ u n k g q, y = ix5 u n k g q := ⟨_, _, _, _, _, eq_ix5 y⟩
  obtain rfl : u = 0 := Subsingleton.elim _ _
  exact h g n q k

/-- The mixing product and its derivative in the rows. -/
theorem mix_eq (w : ℕ → ℕ → ℕ → ℝ) :
    matmul (F := Ideal) (φ₁ := .f32) (φ₂ := .f32) dot_S1x32x128x4x256_S4x128x128_S4x1x32x256x128_2_2_014_1_3_0 none (chunks f) (mats w)
        (constant S4x1x32x256x128 .f32 0x00000000#32)
      = chunksT fun R l => ∑ k : Fin 128, w (l / 256) (R % 128) k * f (R / 128 * 128 + k) l :=
  chunksT_ext fun g n q k => by
    pointwise
    simp only [chunks, mats, ← EReal.coe_mul, ← coe_sum]
    refine congrArg _ (Finset.sum_congr rfl fun x _ => (mul_comm _ _).trans ?_)
    change w g k x * f (n * 128 + x) (g * 256 + q) = w ((g * 256 + q) / 256) ((n * 128 + k) % 128) x * f ((n * 128 + k) / 128 * 128 + x) (g * 256 + q)
    rw [show (g.val * 256 + q.val) / 256 = g.val by omega, show (n.val * 128 + k.val) % 128 = k.val by omega,
      show (n.val * 128 + k.val) / 128 = n.val by omega]

theorem mixBack_eq (w : ℕ → ℕ → ℕ → ℝ) :
    matmul (F := Ideal) (φ₁ := .f32) (φ₂ := .f32) dot_S4x1x32x256x128_S4x128x128_S4x1x32x256x128_4_1_123_2_0_0 none (chunksT f) (mats w)
        (constant S4x1x32x256x128 .f32 0x00000000#32)
      = chunksT fun R l => ∑ k : Fin 128, w (l / 256) k (R % 128) * f (R / 128 * 128 + k) l :=
  chunksT_ext fun g n q k => by
    pointwise
    simp only [chunksT, mats, ← EReal.coe_mul, ← coe_sum]
    refine congrArg _ (Finset.sum_congr rfl fun x _ => (mul_comm _ _).trans ?_)
    change w g x k * f (n * 128 + x) (g * 256 + q) = w ((g * 256 + q) / 256) x ((n * 128 + k) % 128) * f ((n * 128 + k) / 128 * 128 + x) (g * 256 + q)
    rw [show (g.val * 256 + q.val) / 256 = g.val by omega, show (n.val * 128 + k.val) % 128 = k.val by omega,
      show (n.val * 128 + k.val) / 128 = n.val by omega]

/-- The product that contracts over the chunks and the lanes of a group. -/
abbrev dotW := dot_S4x1x32x256x128_S1x32x128x4x256_S4x128x128_123_014_4_2_0_3

def contrW : Fin 32 × Fin 256 ≃ dotW.contr.Idx where
  toFun x := fun p : Fin 3 => match p with
    | 0 => (0 : Fin 1)
    | 1 => x.1
    | 2 => x.2
  invFun kk := (kk (1 : Fin 3), kk (2 : Fin 3))
  left_inv _ := rfl
  right_inv kk := by
    funext (p : Fin 3)
    match p with
    | 0 => exact Subsingleton.elim (α := Fin 1) _ _
    | 1 => rfl
    | 2 => rfl

theorem outer_eq (h : ℕ → ℕ → ℝ) :
    matmul (F := Ideal) (φ₁ := .f32) (φ₂ := .f32) dotW none (chunksT f) (chunks h) (constant S4x128x128 .f32 0x00000000#32)
      = mats fun g i j => ∑ n : Fin 32, ∑ k : Fin 256, f (n * 128 + i) (256 * g + k) * h (n * 128 + j) (256 * g + k) := by
  funext y
  obtain ⟨g, i, j, rfl⟩ : ∃ g i j, y = ix3 g i j := ⟨_, _, _, eq_ix3 y⟩
  refine (Ideal.matmul_constant_zero_apply dotW none _ _ _).trans ?_
  rw [← contrW.sum_comp, Fintype.sum_prod_type]
  simp only [mats, coe_sum, EReal.coe_mul]
  refine Finset.sum_congr rfl fun n _ => Finset.sum_congr rfl fun k _ => ?_
  rw [mul_comm 256]
  rfl

theorem pay24_eq : k0_pay24 (F := Ideal) (full D.va) (vec D.gn) (vec D.bn) = chunks D.vn := by
  unfold k0_pay24
  refine (congrArg (fun a => shapeCast S1x32x128x4x256 a shapeCasts_S1x4096x1024_S1x32x128x4x256) (full_ext (g := D.vn) fun r l => ?_)).trans (cut_eq _)
  pointwise [pay22_eq, pay23_eq]
  simp only [full, vec3, vec, ← EReal.coe_mul, ← EReal.coe_add]
  rfl

theorem pay26_eq : k0_pay26 (F := Ideal) (full D.ua) (full D.ct) = chunks D.ds := by
  unfold k0_pay26
  refine (congrArg (fun a => shapeCast S1x32x128x4x256 a shapeCasts_S1x4096x1024_S1x32x128x4x256) (full_ext (g := D.ds) fun r l => ?_)).trans (cut_eq _)
  pointwise
  simp only [full, ← EReal.coe_mul]
  exact congrArg _ (mul_comm _ _)

theorem pay28_eq : k0_pay28 (F := Ideal) (full D.ua) (full D.ct) = chunksT D.ds :=
  chunksT_ext fun g n q k => by pointwise [k0_pay28, pay26_eq]; rfl

theorem pay29_eq : k0_pay29 (F := Ideal) (full D.ua) (full D.va) (vec D.gn) (vec D.bn) (full D.ct) = mats D.dws := by
  unfold k0_pay29
  rw [pay28_eq, pay24_eq]
  exact outer_eq _ _

theorem pay30_eq : k0_pay30 (F := Ideal) (mats D.w) (chunksT D.ds) = full D.dvn := by
  unfold k0_pay30
  refine (congrArg (fun a => shapeCast S1x4096x1024 a shapeCasts_S1x32x128x4x256_S1x4096x1024) (ix5_ext (b := chunks D.dvn) fun n k g q => ?_)).trans (uncut_eq _)
  rw [mixBack_eq]
  pointwise
  rfl

theorem pay25_eq : k0_pay25 (F := Ideal) (full D.va) (vec D.gn) (vec D.bn) (mats D.w) (cols D.b) (full D.ct) = full fun R l => D.ct R l * D.gate R l := by
  refine full_ext fun r l => ?_
  unfold k0_pay25
  rw [pay24_eq, mix_eq]
  pointwise
  simp only [full, chunksT, cols, ← EReal.coe_add, ← EReal.coe_mul]
  refine congrArg (fun x : ℝ => ((D.ct r l * x : ℝ) : EReal)) (congrArg (· + D.b (l / 256) (r % 128)) ?_)
  change (fun R l => ∑ k : Fin 128, D.w (l / 256) (R % 128) k * D.vn (R / 128 * 128 + k) l) (r.val / 128 * 128 + r.val % 128) (l.val / 256 * 256 + l.val % 256) = _
  rw [show r.val / 128 * 128 + r.val % 128 = r.val by omega, show l.val / 256 * 256 + l.val % 256 = l.val by omega]

/-- A sum over several axes, by the elements that reduce to an index. -/
theorem reduce_fiber {s t : Shape} {axes : List (Fin s.rank)} (h : s.Reduces axes t) (j : t.Idx) {ι : Type*} [Fintype ι] (g : ι → s.Idx)
    (hg : Function.Injective g) (hp : ∀ i, h.drop i = j ↔ ∃ k, g k = i) (x : s.Idx → EReal) : Ideal.reduceAdd h x j = ∑ k, x (g k) :=
  Finset.sum_filter_eq_sum_of_fiber _ g hg hp x

theorem sum_units (h : S1x4096x1.Reduces [0, 2] S4096) (x : S1x4096x1.Idx → EReal) (r : Fin 4096) :
    Ideal.reduceAdd h x (ix1 r) = x (ix3 0 r 0) := by
  refine (reduce_fiber h (ix1 r) (fun _ : Unit => ix3 0 r 0) (fun _ _ _ => rfl) (fun i => ⟨fun e => ⟨(), ?_⟩, ?_⟩) x).trans (by simp)
  · obtain ⟨u, q, v, rfl⟩ : ∃ u q v, i = ix3 u q v := ⟨_, _, _, eq_ix3 i⟩
    obtain rfl : u = 0 := Subsingleton.elim _ _
    obtain rfl : v = 0 := Subsingleton.elim _ _
    have : q = r := congrFun e 0
    rw [this]
  · rintro ⟨_, rfl⟩
    funext a
    match a with
    | 0 => rfl

theorem sum_units_lane (h : S1x1x1024.Reduces [0, 1] S1024) (x : S1x1x1024.Idx → EReal) (l : Fin 1024) :
    Ideal.reduceAdd h x (ix1 l) = x (ix3 0 0 l) := by
  refine (reduce_fiber h (ix1 l) (fun _ : Unit => ix3 0 0 l) (fun _ _ _ => rfl) (fun i => ⟨fun e => ⟨(), ?_⟩, ?_⟩) x).trans (by simp)
  · obtain ⟨u, v, q, rfl⟩ : ∃ u v q, i = ix3 u v q := ⟨_, _, _, eq_ix3 i⟩
    obtain rfl : u = 0 := Subsingleton.elim _ _
    obtain rfl : v = 0 := Subsingleton.elim _ _
    have : q = l := congrFun e 0
    rw [this]
  · rintro ⟨_, rfl⟩
    funext a
    match a with
    | 0 => rfl

theorem sum_units_grid (h : S1x1x128x4x1.Reduces [0, 1, 4] S128x4) (x : S1x1x128x4x1.Idx → EReal) (i : Fin 128) (g : Fin 4) :
    Ideal.reduceAdd h x (ix2 i g) = x (ix5 0 0 i g 0) := by
  refine (reduce_fiber h (ix2 i g) (fun _ : Unit => ix5 0 0 i g 0) (fun _ _ _ => rfl) (fun y => ⟨fun e => ⟨(), ?_⟩, ?_⟩) x).trans (by simp)
  · obtain ⟨u, v, p, q, w, rfl⟩ : ∃ u v p q w, y = ix5 u v p q w := ⟨_, _, _, _, _, eq_ix5 y⟩
    obtain rfl : u = 0 := Subsingleton.elim _ _
    obtain rfl : v = 0 := Subsingleton.elim _ _
    obtain rfl : w = 0 := Subsingleton.elim _ _
    have h0 : p = i := congrFun e 0
    have h1 : q = g := congrFun e 1
    rw [h0, h1]
  · rintro ⟨_, rfl⟩
    funext a
    match a with
    | 0 => rfl
    | 1 => rfl

theorem sum_chunks_lanes (h : S1x32x128x4x256.Reduces [1, 4] S1x128x4) (x : S1x32x128x4x256.Idx → EReal) (i : Fin 128) (g : Fin 4) :
    Ideal.reduceAdd h x (ix3 0 i g) = ∑ n : Fin 32, ∑ k : Fin 256, x (ix5 0 n i g k) := by
  refine (reduce_fiber h (ix3 0 i g) (fun y : Fin 32 × Fin 256 => ix5 0 y.1 i g y.2) (fun a b e => Prod.ext (congrFun e 1) (congrFun e 4))
    (fun y => ⟨fun e => ?_, ?_⟩) x).trans (Fintype.sum_prod_type _)
  · obtain ⟨u, n, p, q, k, rfl⟩ : ∃ u v p q w, y = ix5 u v p q w := ⟨_, _, _, _, _, eq_ix5 y⟩
    obtain rfl : u = 0 := Subsingleton.elim _ _
    have h0 : p = i := congrFun e 1
    have h1 : q = g := congrFun e 2
    exact ⟨(n, k), by rw [h0, h1]⟩
  · rintro ⟨_, rfl⟩
    funext a
    match a with
    | 0 => rfl
    | 1 => rfl
    | 2 => rfl

theorem pay27_eq : k0_pay27 (F := Ideal) (full D.ua) (full D.ct) = cols D.dbs := by
  funext y
  obtain ⟨g, i, rfl⟩ : ∃ g i, y = ix2 g i := ⟨_, _, eq_ix2 y⟩
  unfold k0_pay27
  rw [pay26_eq]
  pointwise [sum_units_grid, sum_chunks_lanes]
  simp only [chunks, ← coe_sum]
  refine congrArg _ (Finset.sum_congr rfl fun n _ => Finset.sum_congr rfl fun k _ => ?_)
  rw [mul_comm 256]
  rfl

theorem pay31_eq : k0_pay31 (F := Ideal) (mats D.w) (full fun R l => 2 * D.xc R l) (full D.xc) (rcol D.rstd)
    (rcol fun R => -1 / 2 * (D.rstd R / meanSq fun k : Fin 1024 => D.xc R k)) (vec3 D.gn) (chunksT D.ds) = full fun R l =>
       D.rstd R * (D.dvh R l - mean (D.dvh R) - D.vhat R l * mean (fun k => D.dvh R k * D.vhat R k)) := by
  refine full_ext fun r l => ?_
  pointwise [k0_pay31, pay30_eq, sum_units]
  simp only [full, vec3, rcol, zero_sub, lit_1024, ← EReal.coe_mul, ← EReal.coe_neg, ← coe_sum, div_1024, ← EReal.coe_add, ← EReal.coe_sub]
  refine congrArg _ (Eq.trans ?_ (D.norm_grad r l _ _ rfl fun _ => rfl))
  simp only [Finset.sum_add_distrib, Finset.sum_neg_distrib]
  unfold Sgu.dvh
  change D.dvn r l * D.gn l * D.rstd r + _ / 1024 * _ + _ / 1024 = _
  rw [sub_eq_add_neg, ← neg_div, neg_add]
  rfl

theorem pay34_eq : k0_pay34 (F := Ideal) (mats D.w) (chunksT D.ds) = row D.dbn := by
  funext y
  obtain ⟨u, l, rfl⟩ : ∃ g i, y = ix2 g i := ⟨_, _, eq_ix2 y⟩
  pointwise [k0_pay34, pay30_eq, sum_units_lane]
  exact (coe_sum Finset.univ fun k : Fin 4096 => D.dvn k l).symm

theorem pay35_eq : k0_pay35 (F := Ideal) (mats D.w) (full D.vhat) (chunksT D.ds) = row D.dgn := by
  funext y
  obtain ⟨u, l, rfl⟩ : ∃ g i, y = ix2 g i := ⟨_, _, eq_ix2 y⟩
  pointwise [k0_pay35, pay30_eq, sum_units_lane]
  simp only [full, ← EReal.coe_mul, ← coe_sum]
  exact congrArg _ (Finset.sum_congr rfl fun k _ => mul_comm _ _)

theorem pay13_eq (x : S1x4x128x128.Idx → EReal) (w : ℕ → ℕ → ℕ → ℝ) (h : ∀ (g : Fin 4) (i j : Fin 128), x (ix4 0 g i j) = ((w g i j : ℝ) : EReal)) :
    k0_pay13 (F := Ideal) x = mats w := by
  funext y
  obtain ⟨g, i, j, rfl⟩ : ∃ u v l, y = ix3 u v l := ⟨_, _, _, eq_ix3 y⟩
  pointwise [k0_pay13]
  exact h g i j

theorem pay14_eq (x : S1x4x128.Idx → EReal) (b : ℕ → ℕ → ℝ) (h : ∀ (g : Fin 4) (i : Fin 128), x (ix3 0 g i) = ((b g i : ℝ) : EReal)) :
    k0_pay14 (F := Ideal) x = cols b := by
  funext y
  obtain ⟨g, i, rfl⟩ : ∃ u v, y = ix2 u v := ⟨_, _, eq_ix2 y⟩
  pointwise [k0_pay14]
  exact h g i

theorem pay37_eq : k0_pay37 (F := Ideal) (k0_pay33 (mats D.dws)) = mats D.dws := by
  funext y
  obtain ⟨g, i, j, rfl⟩ : ∃ u v l, y = ix3 u v l := ⟨_, _, _, eq_ix3 y⟩
  pointwise [k0_pay37, k0_pay33]

theorem pay38_eq : k0_pay38 (F := Ideal) (k0_pay32 (cols D.dbs)) = fun i : S4x8x128.Idx => ((D.dbs (i 0).val (i 2).val : ℝ) : EReal) := by
  funext y
  obtain ⟨g, i, j, rfl⟩ : ∃ u v l, y = ix3 u v l := ⟨_, _, _, eq_ix3 y⟩
  pointwise [k0_pay38, k0_pay32]
  rfl

/-- The gradient of the gate half before its unit. -/
def dva (R l : ℕ) : ℝ := D.rstd R * (D.dvh R l - mean (D.dvh R) - D.vhat R l * mean (fun k => D.dvh R k * D.vhat R k))

/-- The stacked gradient: the two halves' blocks, and the other six blocks of what was there. -/
theorem pay36_eq (x : S6x4096x1024.Idx → EReal) (u : Fin 8) (r : Fin 4096) (l : Fin 1024) :
    k0_pay36 (F := Ideal) (k0_pay1 (full D.pu)) (k0_pay3 (full D.pu)) (k0_pay4 (full D.pu)) (k0_pay6 (full D.pv)) (k0_pay8 (full D.pv))
        (k0_pay9 (full D.pv)) (full fun R l => D.ct R l * D.gate R l) (full (dva D)) x (ix3 u r l)
      = if h : u.val < 2 then ((if u.val = 0 then D.du r l else D.dv r l : ℝ) : EReal) else x (ix3 ⟨u.val - 2, by omega⟩ r l) := by
  change k0_pay36 (F := Ideal) (k0_pay1 (full D.pu)) (k0_pay3 (full D.pu)) (k0_pay4 (full D.pu)) (k0_pay1 (full D.pv)) (k0_pay3 (full D.pv))
    (k0_pay4 (full D.pv)) _ _ x (ix3 u r l) = _
  rw [pay1_eq, pay3_eq, pay4_eq, pay1_eq, pay3_eq, pay4_eq]
  pointwise [k0_pay36]
  by_cases h0 : u.val = 0
  · rw [dif_pos (show u.val < 1 by omega), dif_pos (show u.val < 2 by omega), if_pos h0]
    simp only [full, named_two_rsqrtpi, named_c2, lit_half, ← EReal.coe_mul, ← EReal.coe_add]
    exact congrArg _ (gelu_grad (D.pu r l) (D.ct r l * D.gate r l))
  · rw [dif_neg (show ¬u.val < 1 by omega)]
    by_cases h1 : u.val = 1
    · rw [dif_pos (show u.val - 1 < 1 by omega), dif_pos (show u.val < 2 by omega), if_neg h0]
      simp only [full, named_two_rsqrtpi, named_c2, lit_half, ← EReal.coe_mul, ← EReal.coe_add]
      exact congrArg _ (gelu_grad (D.pv r l) (dva D r l))
    · rw [dif_neg (show ¬u.val - 1 < 1 by omega), dif_neg (show ¬u.val < 2 by omega)]
      rfl

variable (a0 : Vec Ideal S1x4096x8192 .f32) (a1 a2 : Vec Ideal S1x1024 .f32) (a3 : Vec Ideal S1x4x128x128 .f32) (a4 : Vec Ideal S1x4x128 .f32)
  (a5 : Vec Ideal S1x4096x1024 .f32) (a6 : Vec Ideal S8x4096x1024 .bf16)

/-- The argument arrays hold the reals of `D`. -/
structure Holds : Prop where
  pu : ∀ (r : Fin 4096) (l : Fin 1024), a0 (ix3 0 r ⟨l.val, by omega⟩) = ((D.pu r l : ℝ) : EReal)
  pv : ∀ (r : Fin 4096) (l : Fin 1024), a0 (ix3 0 r ⟨1024 + l.val, by omega⟩) = ((D.pv r l : ℝ) : EReal)
  gn : ∀ l : Fin 1024, a1 (ix2 0 l) = ((D.gn l : ℝ) : EReal)
  bn : ∀ l : Fin 1024, a2 (ix2 0 l) = ((D.bn l : ℝ) : EReal)
  w : ∀ (g : Fin 4) (i j : Fin 128), a3 (ix4 0 g i j) = ((D.w g i j : ℝ) : EReal)
  b : ∀ (g : Fin 4) (i : Fin 128), a4 (ix3 0 g i) = ((D.b g i : ℝ) : EReal)
  ct : ∀ (r : Fin 4096) (l : Fin 1024), a5 (ix3 0 r l) = ((D.ct r l : ℝ) : EReal)

variable (h : Holds D a0 a1 a2 a3 a4 a5)

theorem row_ext {a : S1x1024.Idx → EReal} {g : ℕ → ℝ} (h : ∀ l : Fin 1024, a (ix2 0 l) = ((g l : ℝ) : EReal)) : a = row g := by
  funext y
  obtain ⟨u, l, rfl⟩ : ∃ u l, y = ix2 u l := ⟨_, _, eq_ix2 y⟩
  obtain rfl : u = 0 := Subsingleton.elim _ _
  exact h l

include h in
theorem ld_pu : View.ld a0 r0_0 = full D.pu := full_ext fun r l => by
  refine (congrArg a0 (funext fun d => Fin.ext ?_)).trans (h.pu r l)
  match d with
  | 0 => rfl
  | 1 => exact (by omega : 0 + 1 * r.val = r.val)
  | 2 => exact (by omega : 0 + 1 * l.val = l.val)

include h in
theorem ld_pv : View.ld a0 r0_1 = full D.pv := full_ext fun r l => by
  refine (congrArg a0 (funext fun d => Fin.ext ?_)).trans (h.pv r l)
  match d with
  | 0 => rfl
  | 1 => exact (by omega : 0 + 1 * r.val = r.val)
  | 2 => exact (by omega : 1024 + 1 * l.val = 1024 + l.val)

include h in
theorem a1_eq : a1 = row D.gn := row_ext h.gn

include h in
theorem a2_eq : a2 = row D.bn := row_ext h.bn

include h in
theorem a5_eq : a5 = full D.ct := full_ext h.ct

theorem off2 : (![0, 0] : Fin 2 → ℕ) = fun _ => 0 := by decide
theorem off3 : (![0, 0, 0] : Fin 3 → ℕ) = fun _ => 0 := by decide
theorem off4 : (![0, 0, 0, 0] : Fin 4 → ℕ) = fun _ => 0 := by decide

theorem ld_rest (u : Fin 8) (hu : ¬u.val < 2) (r : Fin 4096) (l : Fin 1024) : View.ld a6 r0_6 (ix3 ⟨u.val - 2, by omega⟩ r l) = a6 (ix3 u r l) := by
  refine congrArg a6 (funext fun d => Fin.ext ?_)
  match d with
  | 0 => exact (by omega : 2 + 1 * (u.val - 2) = u.val)
  | 1 => exact (by omega : 0 + 1 * r.val = r.val)
  | 2 => exact (by omega : 0 + 1 * l.val = l.val)

include h in
theorem v17_eq : k0_pay39 a0 a1 a2 a3 a4 a5 a6 = full D.ua := by unfold k0_pay39; rw [ld_pu D a0 a1 a2 a3 a4 a5 h, pay5_eq]; rfl

include h in
theorem v29_eq : k0_pay40 a0 a1 a2 a3 a4 a5 a6 = full D.va := by
  unfold k0_pay40; rw [ld_pv D a0 a1 a2 a3 a4 a5 h]; exact pay5_eq _

include h in
theorem v30_eq : k0_pay41 a0 a1 a2 a3 a4 a5 a6 = vec D.gn := by unfold k0_pay41; rw [View.ld_unit_zero off2, a1_eq D a0 a1 a2 a3 a4 a5 h, pay11_eq]

include h in
theorem v31_eq : k0_pay42 a0 a1 a2 a3 a4 a5 a6 = vec D.bn := by
  unfold k0_pay42; rw [View.ld_unit_zero off2, a2_eq D a0 a1 a2 a3 a4 a5 h]; exact pay11_eq _

include h in
theorem v32_eq : k0_pay43 a0 a1 a2 a3 a4 a5 a6 = mats D.w := by
  unfold k0_pay43; rw [View.ld_unit_zero off4]; exact pay13_eq _ _ h.w

include h in
theorem v79_eq : k0_pay44 a0 a1 a2 a3 a4 a5 a6 = chunksT D.ds := by
  unfold k0_pay44; rw [v17_eq D a0 a1 a2 a3 a4 a5 a6 h, View.ld_unit_zero off3, a5_eq D a0 a1 a2 a3 a4 a5 h, pay28_eq]

include h in
theorem dp_eq : Value.G7 a0 a1 a2 a3 a4 a5 a6 = fun i : S8x4096x1024.Idx =>
    if (i 0).val / 2 = 0 then ((if (i 0).val = 0 then D.du (i 1).val (i 2).val else D.dv (i 1).val (i 2).val : ℝ) : EReal) else a6 i := by
  funext i
  obtain ⟨u, r, l, rfl⟩ : ∃ u v l, i = ix3 u v l := ⟨_, _, _, eq_ix3 i⟩
  unfold Value.G7
  rw [v29_eq D a0 a1 a2 a3 a4 a5 a6 h, v30_eq D a0 a1 a2 a3 a4 a5 a6 h, v31_eq D a0 a1 a2 a3 a4 a5 a6 h, v32_eq D a0 a1 a2 a3 a4 a5 a6 h,
    v79_eq D a0 a1 a2 a3 a4 a5 a6 h, ld_pu D a0 a1 a2 a3 a4 a5 h, ld_pv D a0 a1 a2 a3 a4 a5 h, pay14_eq _ _ h.b,
    a5_eq D a0 a1 a2 a3 a4 a5 h, pay25_eq, pay17_eq, pay18_eq, pay20_eq, pay21_eq, pay23_eq, pay31_eq]
  refine (pay36_eq D _ u r l).trans ?_
  change _ = if u.val / 2 = 0 then ((if u.val = 0 then D.du r l else D.dv r l : ℝ) : EReal) else a6 (ix3 u r l)
  by_cases hu : u.val < 2
  · exact (dif_pos hu).trans (if_pos (show u.val / 2 = 0 by omega)).symm
  · exact (dif_neg hu).trans ((ld_rest a6 u hu r l).trans (if_neg (show ¬u.val / 2 = 0 by omega)).symm)

include h in
theorem dws_eq : Value.G8 a0 a1 a2 a3 a4 a5 a6 = fun i : S4x128x128.Idx => ((D.dws (i 0).val (i 1).val (i 2).val : ℝ) : EReal) := by
  unfold Value.G8
  rw [v17_eq D a0 a1 a2 a3 a4 a5 a6 h, v29_eq D a0 a1 a2 a3 a4 a5 a6 h, v30_eq D a0 a1 a2 a3 a4 a5 a6 h, v31_eq D a0 a1 a2 a3 a4 a5 a6 h,
    a5_eq D a0 a1 a2 a3 a4 a5 h, pay29_eq, pay37_eq]
  rfl

include h in
theorem dbs_eq : Value.G9 a0 a1 a2 a3 a4 a5 a6 = fun i : S4x8x128.Idx => ((D.dbs (i 0).val (i 2).val : ℝ) : EReal) := by
  unfold Value.G9
  rw [v17_eq D a0 a1 a2 a3 a4 a5 a6 h, a5_eq D a0 a1 a2 a3 a4 a5 h, pay27_eq, pay38_eq]

include h in
theorem dgn_eq : Value.G10 a0 a1 a2 a3 a4 a5 a6 = fun i : S1x1024.Idx => ((D.dgn (i 1).val : ℝ) : EReal) := by
  unfold Value.G10
  rw [v29_eq D a0 a1 a2 a3 a4 a5 a6 h, v32_eq D a0 a1 a2 a3 a4 a5 a6 h, v79_eq D a0 a1 a2 a3 a4 a5 a6 h, pay22_eq, pay35_eq]
  rfl

include h in
theorem dbn_eq : Value.G11 a0 a1 a2 a3 a4 a5 a6 = fun i : S1x1024.Idx => ((D.dbn (i 1).val : ℝ) : EReal) := by
  unfold Value.G11
  rw [v32_eq D a0 a1 a2 a3 a4 a5 a6 h, v79_eq D a0 a1 a2 a3 a4 a5 a6 h, pay34_eq]
  rfl

end Cert.SguRef

end
-- ==== Proof.SguClaim.lean ====
/-
  The gating unit's claims: the reference's frame, and the value claim that joins the kernel's five arrays to the
  reference's.
-/
module

public import proofs.«01_k».proof.Defs
public import proofs.«01_k».proof.Proof.SguValue
public import proofs.«01_k».proof.Proof.SguRef
public import Idealize.ShloMosaic.Lib.Pointwise.Select
public import Idealize.ShloMosaic.Lib.Claim

@[expose] public section

set_option maxRecDepth 16384

noncomputable section

namespace Cert.SguClaim

open Idealize.ShloMosaic Idealize.ShloMosaic.TcCoe Idealize.SL.Sem Cert.Reals Cert.SguMath

/-- The predicate's shape relations. -/
theorem preFacts : Cert.Pre_finite.Facts := ⟨by decide, by decide, by decide, by decide, by decide, by decide⟩

instance : Cert.Pre_finite.Facts := preFacts

/-- An array of reals read at naturals. -/
def at1 {n : ℕ} (f : Fin n → ℝ) (i : ℕ) : ℝ := if h : i < n then f ⟨i, h⟩ else 0
def at2 {n k : ℕ} (f : Fin n → Fin k → ℝ) (i j : ℕ) : ℝ := if h : i < n then at1 (f ⟨i, h⟩) j else 0
def at3 {n k l : ℕ} (f : Fin n → Fin k → Fin l → ℝ) (i j p : ℕ) : ℝ := if h : i < n then at2 (f ⟨i, h⟩) j p else 0

theorem at1_val {n : ℕ} (f : Fin n → ℝ) (i : Fin n) : at1 f i = f i := dif_pos i.isLt
theorem at2_val {n k : ℕ} (f : Fin n → Fin k → ℝ) (i : Fin n) (j : Fin k) : at2 f i j = f i j := (dif_pos i.isLt).trans (at1_val _ j)
theorem at3_val {n k l : ℕ} (f : Fin n → Fin k → Fin l → ℝ) (i : Fin n) (j : Fin k) (p : Fin l) : at3 f i j p = f i j p :=
  (dif_pos i.isLt).trans (at2_val _ j p)

/-- Finite arguments are arrays of reals. -/
theorem exists_args (m : (ℓ : Loc Cert.KernelIdeal.nD Cert.KernelIdeal.τ Cert.KernelIdeal.sig) → Buf (Elt Ideal) ℓ)
    (h : Cert.Pre_KernelIdeal_finite m) (c : Dev Cert.KernelIdeal.nD) : ∃ D : Sgu, Cert.SguBlocks.At D m c := by
  obtain ⟨h0, h1, h2, h3, h4, h5⟩ := h c
  have r0 := exists_real (x := extractStridedSlice Cert.Pre_finite.S1x4096x2048 ![0, 0, 0]
      (m ((c.tc : Thread Cert.KernelIdeal.nD Cert.KernelIdeal.τ).loc Cert.KernelIdeal.main_arg0))
      Cert.Pre_finite.Facts.slices_S1x4096x8192_S1x4096x2048_0_0_0) fun i => by
    have := congrFun h0 i
    rw [← lit_inf]
    exact (Ideal.cmp_olt_eq_one _ _).mp this
  have r1 := exists_real (x := m ((c.tc : Thread Cert.KernelIdeal.nD Cert.KernelIdeal.τ).loc Cert.KernelIdeal.main_arg1)) fun i => by
    have := congrFun h1 i
    rw [← lit_inf]
    exact (Ideal.cmp_olt_eq_one _ _).mp this
  have r2 := exists_real (x := m ((c.tc : Thread Cert.KernelIdeal.nD Cert.KernelIdeal.τ).loc Cert.KernelIdeal.main_arg2)) fun i => by
    have := congrFun h2 i
    rw [← lit_inf]
    exact (Ideal.cmp_olt_eq_one _ _).mp this
  have r3 := exists_real (x := m ((c.tc : Thread Cert.KernelIdeal.nD Cert.KernelIdeal.τ).loc Cert.KernelIdeal.main_arg3)) fun i => by
    have := congrFun h3 i
    rw [← lit_inf]
    exact (Ideal.cmp_olt_eq_one _ _).mp this
  have r4 := exists_real (x := m ((c.tc : Thread Cert.KernelIdeal.nD Cert.KernelIdeal.τ).loc Cert.KernelIdeal.main_arg4)) fun i => by
    have := congrFun h4 i
    rw [← lit_inf]
    exact (Ideal.cmp_olt_eq_one _ _).mp this
  have r5 := exists_real (x := m ((c.tc : Thread Cert.KernelIdeal.nD Cert.KernelIdeal.τ).loc Cert.KernelIdeal.main_arg5)) fun i => by
    have := congrFun h5 i
    rw [← lit_inf]
    exact (Ideal.cmp_olt_eq_one _ _).mp this
  obtain ⟨P, hP⟩ := r0
  obtain ⟨N, hN⟩ := r1
  obtain ⟨B, hB⟩ := r2
  obtain ⟨W, hW⟩ := r3
  obtain ⟨C, hC⟩ := r4
  obtain ⟨T, hT⟩ := r5
  have hP' (r : Fin 4096) (l : Fin 2048) : m ((c.tc : Thread Cert.KernelIdeal.nD Cert.KernelIdeal.τ).loc Cert.KernelIdeal.main_arg0)
      (ix3 0 r ⟨l.val, by omega⟩) = ((P (ix3 0 r l) : ℝ) : EReal) := by
    have := congrFun hP (ix3 0 r l)
    pointwise at this
    exact this
  refine ⟨⟨at2 fun (r : Fin 4096) (l : Fin 1024) => P (ix3 0 r ⟨l.val, by omega⟩),
    at2 fun (r : Fin 4096) (l : Fin 1024) => P (ix3 0 r ⟨1024 + l.val, by omega⟩),
    at2 fun r l => T (ix3 0 r l), at1 fun l => N (ix2 0 l), at1 fun l => B (ix2 0 l), at3 fun g i j => W (ix4 0 g i j), at2 fun g i => C (ix3 0 g i)⟩,
    fun r l => ?_, fun r l => ?_, fun l => ?_, fun l => ?_, fun g i j => ?_, fun g i => ?_, fun r l => ?_⟩
  · refine (hP' r ⟨l.val, by omega⟩).trans ?_
    dsimp only
    rw [at2_val]
  · refine (hP' r ⟨1024 + l.val, by omega⟩).trans ?_
    dsimp only
    rw [at2_val]
  · refine (congrFun hN _).trans ?_
    dsimp only
    rw [at1_val]
  · refine (congrFun hB _).trans ?_
    dsimp only
    rw [at1_val]
  · refine (congrFun hW _).trans ?_
    dsimp only
    rw [at3_val]
  · refine (congrFun hC _).trans ?_
    dsimp only
    rw [at2_val]
  · refine (congrFun hT _).trans ?_
    dsimp only
    rw [at2_val]

/-- The kernel's arrays are the reference's. -/
theorem algebraic : Cert.algebraic_KernelIdeal_ReferenceIdeal_pre_finite := by
  intro m g m' g' hpre hagree
  choose D hD using exists_args m hpre
  refine ⟨_, _, _, _, _, Cert.KernelIdeal.Value.run_blocks m g, ?_⟩
  refine (θ_run Cert.ReferenceIdeal.defs _ _).mono (fun r h c => ?_) (Cert.ReferenceIdeal.Value.run m' g')
  obtain ⟨h7, h8, h9, h10, h11, hk⟩ := h c
  obtain ⟨e0, e1, e2, e3, e4, e5, e6⟩ := hagree c
  rw [e0, e1, e2, e3, e4, e5, e6] at h7 h8 h9 h10 h11
  have H : SguRef.Holds (D c) _ _ _ _ _ _ := ⟨(hD c).pu, (hD c).pv, (hD c).gn, (hD c).bn, (hD c).w, (hD c).b, (hD c).ct⟩
  exact ⟨h7.trans ((SguRef.dp_eq (D c) _ _ _ _ _ _ _ H).trans (SguValue.out7 m c (D c) (hD c)).symm),
    h8.trans ((SguRef.dws_eq (D c) _ _ _ _ _ _ _ H).trans (SguValue.out8 m c (D c) (hD c)).symm),
    h9.trans ((SguRef.dbs_eq (D c) _ _ _ _ _ _ _ H).trans (SguValue.out9 m c (D c) (hD c)).symm),
    h10.trans ((SguRef.dgn_eq (D c) _ _ _ _ _ _ _ H).trans (SguValue.out10 m c (D c) (hD c)).symm),
    h11.trans ((SguRef.dbn_eq (D c) _ _ _ _ _ _ _ H).trans (SguValue.out11 m c (D c) (hD c)).symm), hk⟩

end Cert.SguClaim

end
-- ==== Proof.LossMath.lean ====
/-
  The loss head on one row of reals: the row's residual, its part of the loss, its part of the norm weight's gradient,
  and the gradient of the row. The kernel's payloads and the reference's lines are both read as these.
-/
module

public import proofs.«01_k».proof.Proof.Reals

@[expose] public section

noncomputable section

namespace Cert.LossMath

open Cert.Reals

variable (x n t : Fin 1024 → ℝ)

/-- The residual: the normed row times the weight, less the target. -/
def resid (l : Fin 1024) : ℝ := x l * rms x * n l - t l

/-- The gradient of the normed row. -/
def gradHat (l : Fin 1024) : ℝ := resid x n t l * (1 / 1024) * n l

/-- The gradient of the row, as the step writes it. -/
def gradRow (l : Fin 1024) : ℝ :=
  rms x * (gradHat x n t l - x l * rms x * ((∑ k, gradHat x n t k * (x k * rms x)) / 1024))

/-- The row's part of the norm weight's gradient. -/
def gradWeight (l : Fin 1024) : ℝ := resid x n t l * (1 / 1024) * (x l * rms x)

/-- The row's part of the loss. -/
def lossPart : ℝ := ∑ k, resid x n t k * resid x n t k

/-- The gradient of the row, as the derivative of the forward lines gives it: through the product with the reciprocal
    root, and through the mean of squares once from each factor. -/
theorem gradRow_eq (l : Fin 1024) :
    (1 / 2 / 1024 * (2 * resid x n t l) * n l) * rms x
      + x l * ((∑ k, x k * (1 / 2 / 1024 * (2 * resid x n t k) * n k)) * (-1 / 2 * (rms x / meanSq x)) / 1024)
      + ((∑ k, x k * (1 / 2 / 1024 * (2 * resid x n t k) * n k)) * (-1 / 2 * (rms x / meanSq x)) / 1024) * x l
      = gradRow x n t l := by
  have hs : (∑ k, gradHat x n t k * (x k * rms x))
      = (∑ k, x k * (1 / 2 / 1024 * (2 * resid x n t k) * n k)) * rms x := by
    rw [Finset.sum_mul]; exact Finset.sum_congr rfl fun k _ => by unfold gradHat; ring
  unfold gradRow
  rw [hs, rms_div]
  unfold gradHat
  ring

end Cert.LossMath

end
-- ==== Proof.LossPay.lean ====
/-
  The loss head's stored blocks read at an index, on blocks of reals: each is a row function of `LossMath`.
-/
module

public import proofs.«01_k».proof.Proof.Gen.LossIdeal.Value
public import proofs.«01_k».proof.Proof.LossMath
public import Idealize.ShloMosaic.Lib.Pipeline.ValueKit

@[expose] public section

set_option maxRecDepth 16384

noncomputable section

namespace Cert.LossPay

open Cert.LossIdeal Cert.LossIdeal.Gen Idealize.ShloMosaic Cert.Reals Cert.LossMath

variable (x t : S512x1024.Idx → ℝ) (n : S1x1024.Idx → ℝ)

/-- The gradient block. -/
theorem pay10_real (r : Fin 512) (l : Fin 1024) :
    k0_pay10 (F := Ideal) (fun i => (n i : EReal)) (fun i => (x i : EReal)) (fun i => (t i : EReal)) (ix2 r l)
      = ((gradRow (fun k => x (ix2 r k)) (fun k => n (ix2 0 k)) (fun k => t (ix2 r k)) l : ℝ) : EReal) := by
  pointwise [k0_pay10, k0_pay9, k0_pay8, k0_pay7, k0_pay6, k0_pay5]
  simp only [lit_1024, lit_inv_1024, lit_eps, ← EReal.coe_mul, ← coe_sum, div_1024, ← EReal.coe_add, ← EReal.coe_sub, rsqrt_row]
  congr 1

/-- The gradient block in the narrow float, halved. -/
theorem pay12_real (r : Fin 512) (l : Fin 1024) :
    k0_pay12 (F := Ideal) (fun i => (n i : EReal)) (fun i => (x i : EReal)) (fun i => (t i : EReal)) (ix2 r l)
      = ((1 / 2 * gradRow (fun k => x (ix2 r k)) (fun k => n (ix2 0 k)) (fun k => t (ix2 r k)) l : ℝ) : EReal) := by
  pointwise [k0_pay12]
  rw [pay10_real, lit_half, ← EReal.coe_mul]

/-- The block's part of the weight gradient: a sum over its rows. -/
theorem pay11_real (l : Fin 1024) :
    k0_pay11 (F := Ideal) (fun i => (n i : EReal)) (fun i => (x i : EReal)) (fun i => (t i : EReal)) (ix2 0 l)
      = ((∑ r, gradWeight (fun k => x (ix2 r k)) (fun k => n (ix2 0 k)) (fun k => t (ix2 r k)) l : ℝ) : EReal) := by
  pointwise [k0_pay11, k0_pay9, k0_pay8, k0_pay7, k0_pay6, k0_pay5]
  simp only [lit_1024, lit_inv_1024, lit_eps, ← EReal.coe_mul, ← coe_sum, div_1024, ← EReal.coe_add, ← EReal.coe_sub, rsqrt_row]
  congr 1

/-- `pay10_real` at any index. -/
theorem pay10_at (y : S512x1024.Idx) :
    k0_pay10 (F := Ideal) (fun i => (n i : EReal)) (fun i => (x i : EReal)) (fun i => (t i : EReal)) y
      = ((gradRow (fun k => x (ix2 (y 0) k)) (fun k => n (ix2 0 k)) (fun k => t (ix2 (y 0) k)) (y 1) : ℝ) : EReal) := by
  obtain ⟨r, l, rfl⟩ : ∃ r l, y = ix2 r l := ⟨_, _, eq_ix2 y⟩
  exact pay10_real x t n r l

/-- `pay12_real` at any index. -/
theorem pay12_at (y : S512x1024.Idx) :
    k0_pay12 (F := Ideal) (fun i => (n i : EReal)) (fun i => (x i : EReal)) (fun i => (t i : EReal)) y
      = ((1 / 2 * gradRow (fun k => x (ix2 (y 0) k)) (fun k => n (ix2 0 k)) (fun k => t (ix2 (y 0) k)) (y 1) : ℝ) : EReal) := by
  obtain ⟨r, l, rfl⟩ : ∃ r l, y = ix2 r l := ⟨_, _, eq_ix2 y⟩
  exact pay12_real x t n r l

/-- One point's addition to the weight gradient. -/
theorem pay3_at (a : S1x1024.Idx → EReal) (y : S1x1024.Idx) :
    k0_pay3 (F := Ideal) (k0_pay11 (fun i => (n i : EReal)) (fun i => (x i : EReal)) (fun i => (t i : EReal))) a y
      = a y + ((∑ r, gradWeight (fun k => x (ix2 r k)) (fun k => n (ix2 0 k)) (fun k => t (ix2 r k)) (y 1) : ℝ) : EReal) := by
  obtain ⟨r, l, rfl⟩ : ∃ r l, y = ix2 r l := ⟨_, _, eq_ix2 y⟩
  obtain rfl : r = 0 := Subsingleton.elim _ _
  have h := pay11_real x t n l
  pointwise [k0_pay3]
  rw [h]

/-- One point's addition to the loss. -/
theorem pay4_real (a : S8x128.Idx → EReal) (p : Fin 8) (q : Fin 128) :
    k0_pay4 (F := Ideal) (k0_pay8 (fun i => (n i : EReal)) (fun i => (x i : EReal)) (fun i => (t i : EReal))) a (ix2 p q)
      = a (ix2 p q) + ((1 / 2 * (∑ r, lossPart (fun k => x (ix2 r k)) (fun k => n (ix2 0 k)) (fun k => t (ix2 r k))) * (1 / 1024) : ℝ) : EReal) := by
  pointwise [k0_pay4, k0_pay8, k0_pay7, k0_pay6, k0_pay5]
  simp only [lit_1024, lit_inv_1024, lit_half, lit_eps, ← EReal.coe_mul, ← coe_sum, div_1024, ← EReal.coe_add, ← EReal.coe_sub, rsqrt_row]
  congr 1

/-- `pay4_real` at any index. -/
theorem pay4_at (a : S8x128.Idx → EReal) (y : S8x128.Idx) :
    k0_pay4 (F := Ideal) (k0_pay8 (fun i => (n i : EReal)) (fun i => (x i : EReal)) (fun i => (t i : EReal))) a y
      = a y + ((1 / 2 * (∑ r, lossPart (fun k => x (ix2 r k)) (fun k => n (ix2 0 k)) (fun k => t (ix2 r k))) * (1 / 1024) : ℝ) : EReal) := by
  obtain ⟨p, q, rfl⟩ : ∃ p q, y = ix2 p q := ⟨_, _, eq_ix2 y⟩
  exact pay4_real x t n a p q

/-- The accumulators start at zero. -/
theorem pay1_at (y : S1x1024.Idx) : k0_pay1 (F := Ideal) y = 0 := by
  obtain ⟨p, q, rfl⟩ : ∃ p q, y = ix2 p q := ⟨_, _, eq_ix2 y⟩
  pointwise [k0_pay1]

theorem pay2_at (y : S8x128.Idx) : k0_pay2 (F := Ideal) y = 0 := by
  obtain ⟨p, q, rfl⟩ : ∃ p q, y = ix2 p q := ⟨_, _, eq_ix2 y⟩
  pointwise [k0_pay2]

end Cert.LossPay

end
-- ==== Proof.LossValue.lean ====
/-
  The loss head's kernel: its four result arrays after the run, on finite arguments. The gradient's blocks tile the
  array; the weight gradient and the loss are accumulated over the eight points and written back after the last.
-/
module

public import proofs.«01_k».proof.Proof.LossPay

@[expose] public section

set_option maxRecDepth 16384

noncomputable section

namespace Cert.LossValue

open Cert.LossIdeal Cert.LossIdeal.Gen Idealize.ShloMosaic Idealize.ShloMosaic.TcCoe Cert.Reals Cert.LossMath Cert.LossPay

/-- The rows of the three arguments, as arrays of reals. -/
structure Args where
  x : S4096x1024.Idx → ℝ
  n : S1024.Idx → ℝ
  t : S1x4096x1024.Idx → ℝ

/-- A memory whose arguments are these arrays on device `c`. -/
def Args.At (A : Args) (m : (ℓ : Loc nD τ sig) → Buf (Elt Ideal) ℓ) (c : Dev nD) : Prop :=
  m ((c.tc : Thread nD τ).loc main_arg0) = (fun i => (A.x i : EReal))
  ∧ m ((c.tc : Thread nD τ).loc main_arg1) = (fun i => (A.n i : EReal))
  ∧ m ((c.tc : Thread nD τ).loc main_arg2) = (fun i => (A.t i : EReal))

variable (m : (ℓ : Loc nD τ sig) → Buf (Elt Ideal) ℓ) (c : Dev nD) (A : Args) (hA : A.At m c)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel

/-- Row `r` of point `t`'s block, among all the rows. -/
abbrev row (t : Fin cfg0.N) (r : Fin 512) : Fin 4096 := ⟨t.val * 512 + r.val, by have := t.isLt; have : cfg0.N = 8 := rfl; omega⟩

def Args.bx (t : Fin cfg0.N) : S512x1024.Idx → ℝ := fun i => A.x (ix2 (row t (i 0)) (i 1))
def Args.bn : S1x1024.Idx → ℝ := fun i => A.n (ix1 (i 1))
def Args.bt (t : Fin cfg0.N) : S512x1024.Idx → ℝ := fun i => A.t (ix3 0 (row t (i 0)) (i 1))

include hA in
theorem blk0 (t : Fin cfg0.N) : iblk m c 0 t = (fun i => (A.bx t i : EReal)) := by
  funext i
  have e : iblk m c 0 t i = m ((c.tc : Thread nD τ).loc main_arg0) (ix2 (row t (i 0)) (i 1)) := by
    blk_ext [iblk, V, idx0 t]
  rw [e, hA.1]; rfl

include hA in
theorem blk1 (t : Fin cfg0.N) : iblk m c 1 t = (fun i => (A.bn i : EReal)) := by
  funext i
  have e : iblk m c 1 t i = m ((c.tc : Thread nD τ).loc main_arg1) (ix1 (i 1)) := by
    blk_ext! [iblk, V, idx1 t]
  rw [e, hA.2.1]; rfl

include hA in
theorem blk2 (t : Fin cfg0.N) : iblk m c 2 t = (fun i => (A.bt t i : EReal)) := by
  funext i
  have e : iblk m c 2 t i = m ((c.tc : Thread nD τ).loc main_arg2) (ix3 0 (row t (i 0)) (i 1)) := by
    blk_ext! [iblk, V, idx2 t]
  rw [e, hA.2.2]; rfl

/-- Row `r` of the arguments. -/
abbrev Args.rowX (r : Fin 4096) : Fin 1024 → ℝ := fun k => A.x (ix2 r k)
abbrev Args.rowN : Fin 1024 → ℝ := fun k => A.n (ix1 k)
abbrev Args.rowT (r : Fin 4096) : Fin 1024 → ℝ := fun k => A.t (ix3 0 r k)

/-- Where point `t`'s blocks of the two gradients lie. -/
theorem emb3_0 (t : Fin cfg0.N) (y : S512x1024.Idx) : (win0_3.blk t).view.emb y 0 = row t (y 0) :=
  Fin.ext (by blk_simp [idx3 t])
theorem emb3_1 (t : Fin cfg0.N) (y : S512x1024.Idx) : (win0_3.blk t).view.emb y 1 = y 1 :=
  Fin.ext (by blk_simp [idx3 t])
theorem emb4_0 (t : Fin cfg0.N) (y : S512x1024.Idx) : (win0_4.blk t).view.emb y 0 = row t (y 0) :=
  Fin.ext (by blk_simp [idx4 t])
theorem emb4_1 (t : Fin cfg0.N) (y : S512x1024.Idx) : (win0_4.blk t).view.emb y 1 = y 1 :=
  Fin.ext (by blk_simp [idx4 t])

/-- What point `t` stores in the gradient's block. -/
theorem after3 (t : Fin cfg0.N) : (outsAt0 m c t.val t.isLt).1 = k0_pay10 (iblk m c 1 t) (iblk m c 0 t) (iblk m c 2 t) := by
  by_cases h : t.val % 8 = 0
  · rw [outsAt0_A m c t h]; frame_out
  · rw [outsAt0_B m c t h]; frame_out

theorem after4 (t : Fin cfg0.N) : (outsAt0 m c t.val t.isLt).2.1 = k0_pay12 (iblk m c 1 t) (iblk m c 0 t) (iblk m c 2 t) := by
  by_cases h : t.val % 8 = 0
  · rw [outsAt0_A m c t h]; frame_out
  · rw [outsAt0_B m c t h]; frame_out

include hA in
/-- The gradient. -/
theorem out3 : (dats m 0 c).arrAt 3 cfg0.N
    = fun i : S4096x1024.Idx => ((gradRow (A.rowX (i 0)) A.rowN (A.rowT (i 0)) (i 1) : ℝ) : EReal) := by
  refine (dats m 0 c).arrAt_eq_of_covers 3 _ (by decide +kernel) fun t hf y => ?_
  blk_simp
  change (outsAt0 m c t.val t.isLt).1 y = _
  rw [after3, blk0 m c A hA, blk1 m c A hA, blk2 m c A hA]
  refine (pay10_at _ _ _ _).trans ?_
  rw [emb3_0, emb3_1]
  rfl

include hA in
/-- The gradient in the narrow float, halved. -/
theorem out4 : (dats m 0 c).arrAt 4 cfg0.N
    = fun i : S4096x1024.Idx => ((1 / 2 * gradRow (A.rowX (i 0)) A.rowN (A.rowT (i 0)) (i 1) : ℝ) : EReal) := by
  refine (dats m 0 c).arrAt_eq_of_covers 4 _ (by decide +kernel) fun t hf y => ?_
  blk_simp
  change (outsAt0 m c t.val t.isLt).2.1 y = _
  rw [after4, blk0 m c A hA, blk1 m c A hA, blk2 m c A hA]
  refine (pay12_at _ _ _ _).trans ?_
  rw [emb4_0, emb4_1]
  rfl

/-- What the accumulators' staging buffers hold after point `t`. -/
theorem stage5 (t : Fin cfg0.N) : (dats m 0 c).after 5 t = (outsAt0 m c t.val t.isLt).2.2.1 := rfl
theorem stage6 (t : Fin cfg0.N) : (dats m 0 c).after 6 t = (outsAt0 m c t.val t.isLt).2.2.2 := rfl

/-- The eight points' rows are all the rows. -/
theorem sum_rows (g : Fin 4096 → ℝ) : ∑ t : Fin cfg0.N, ∑ r : Fin 512, g (row t r) = ∑ r, g r :=
  Fin.sum_mul_add_fin 8 512 g

include hA in
/-- The weight's gradient, as it is summed over the points. -/
theorem acc5 (j : S1x1024.Idx) : (outsAt0 m c t0_7.val t0_7.isLt).2.2.1 j
    = 0 + ∑ t : Fin cfg0.N, ((∑ r, gradWeight (A.rowX (row t r)) A.rowN (A.rowT (row t r)) (j 1) : ℝ) : EReal) := by
  refine Pipeline.eq_sum_fin_of_reset_step_apply_last (fun n h => (outsAt0 m c n h).2.2.1) 8 (fun _ => 0)
    (fun t j => ((∑ r, gradWeight (A.rowX (row t r)) A.rowN (A.rowT (row t r)) (j 1) : ℝ) : EReal))
    (fun t h j => ?_) (fun t h j => ?_) (by decide) t0_7 rfl j
  · rw [outsAt0_A m c t h]; frame_out
    rw [blk0 m c A hA, blk1 m c A hA, blk2 m c A hA, pay3_at, pay1_at]; rfl
  · rw [outsAt0_B m c t h]; frame_out
    rw [blk0 m c A hA, blk1 m c A hA, blk2 m c A hA, pay3_at]; rfl

include hA in
/-- The loss, as it is summed over the points. -/
theorem acc6 (j : S8x128.Idx) : (outsAt0 m c t0_7.val t0_7.isLt).2.2.2 j
    = 0 + ∑ t : Fin cfg0.N, ((1 / 2 * (∑ r, lossPart (A.rowX (row t r)) A.rowN (A.rowT (row t r))) * (1 / 1024) : ℝ) : EReal) := by
  refine Pipeline.eq_sum_fin_of_reset_step_apply_last (fun n h => (outsAt0 m c n h).2.2.2) 8 (fun _ => 0)
    (fun t _ => ((1 / 2 * (∑ r, lossPart (A.rowX (row t r)) A.rowN (A.rowT (row t r))) * (1 / 1024) : ℝ) : EReal))
    (fun t h j => ?_) (fun t h j => ?_) (by decide) t0_7 rfl j
  · rw [outsAt0_A m c t h]; frame_out
    rw [blk0 m c A hA, blk1 m c A hA, blk2 m c A hA, pay4_at, pay2_at]; rfl
  · rw [outsAt0_B m c t h]; frame_out
    rw [blk0 m c A hA, blk1 m c A hA, blk2 m c A hA, pay4_at]; rfl

include hA in
/-- The weight's gradient. -/
theorem out5 : (dats m 0 c).arrAt 5 cfg0.N
    = fun i : S1x1024.Idx => ((∑ r, gradWeight (A.rowX r) A.rowN (A.rowT r) (i 1) : ℝ) : EReal) := by
  refine (dats m 0 c).arrAt_eq_of_after_last 5 t0_7 (by decide +kernel) _ fun j => ?_
  blk_simp
  rw [stage5, acc5 m c A hA, ← coe_sum, zero_add]
  exact congrArg _ (sum_rows fun r => gradWeight (A.rowX r) A.rowN (A.rowT r) (j 1))

include hA in
/-- The loss, in every lane. -/
theorem out6 : (dats m 0 c).arrAt 6 cfg0.N
    = fun _ : S8x128.Idx => ((1 / 2 * (∑ r, lossPart (A.rowX r) A.rowN (A.rowT r)) / 1024 : ℝ) : EReal) := by
  refine (dats m 0 c).arrAt_eq_of_after_last 6 t0_7 (by decide +kernel) _ fun j => ?_
  blk_simp
  rw [stage6, acc6 m c A hA, ← coe_sum, zero_add, ← sum_rows fun r => lossPart (A.rowX r) A.rowN (A.rowT r), ← Finset.sum_mul, ← Finset.mul_sum,
    mul_one_div]

end Cert.LossValue

end
-- ==== Proof.LossRef.lean ====
/-
  The reference's results for the loss head on arrays of reals: each is a row function of `LossMath`.
-/
module

public import proofs.«01_k».proof.Proof.Gen.LossRefIdeal.Read
public import proofs.«01_k».proof.Proof.LossMath
public import Idealize.ShloMosaic.Lib.Pipeline.ValueKit

@[expose] public section

set_option maxRecDepth 16384

noncomputable section

namespace Cert.LossRef

open Cert.LossRefIdeal Cert.LossRefIdeal.Read Idealize.ShloMosaic Cert.Reals Cert.LossMath

variable (x : S4096x1024.Idx → ℝ) (n : S1024.Idx → ℝ) (t : S1x4096x1024.Idx → ℝ)

theorem v6_real (r : Fin 4096) (u : Fin 1) :
    val_main_v6 (F := Ideal) (fun i => (x i : EReal)) (ix2 r u) = ((meanSq (fun k => x (ix2 r k)) : ℝ) : EReal) := by
  pointwise [val_main_v6, val_main_v5, val_main_v4, val_main_v3, val_main_v2, val_main_v1, val_main_v0, val_main_cst, val_main_cst_0, val_main_cst_1]
  simp only [lit_1024, lit_eps, ← EReal.coe_mul, ← coe_sum, div_1024, ← EReal.coe_add]
  congr 1

theorem v7_real (r : Fin 4096) (u : Fin 1) :
    val_main_v7 (F := Ideal) (fun i => (x i : EReal)) (ix2 r u) = ((rms (fun k => x (ix2 r k)) : ℝ) : EReal) := by
  pointwise [val_main_v7]
  rw [v6_real, rsqrt_meanSq]

/-- The derivative of the reciprocal root. -/
theorem v10_real (r : Fin 4096) (u : Fin 1) :
    val_main_v10 (F := Ideal) (fun i => (x i : EReal)) (ix2 r u)
      = ((-1 / 2 * (rms (fun k => x (ix2 r k)) / meanSq (fun k => x (ix2 r k))) : ℝ) : EReal) := by
  pointwise [val_main_v10, val_main_v9, val_main_v8, val_main_cst_2]
  rw [v7_real, v6_real, div_real (meanSq_pos _).ne', lit_neg_half, ← EReal.coe_mul]

theorem v12_real (r : Fin 4096) (l : Fin 1024) :
    val_main_v12 (F := Ideal) (fun i => (x i : EReal)) (ix2 r l)
      = ((x (ix2 r l) * rms (fun k => x (ix2 r k)) : ℝ) : EReal) := by
  pointwise [val_main_v12, val_main_v11]
  rw [v7_real, ← EReal.coe_mul]

theorem v17_real (r : Fin 4096) (l : Fin 1024) :
    val_main_v17 (F := Ideal) (fun i => (x i : EReal)) (fun i => (n i : EReal)) (fun i => (t i : EReal)) (ix2 r l)
      = ((resid (fun k => x (ix2 r k)) (fun k => n (ix1 k)) (fun k => t (ix3 0 r k)) l : ℝ) : EReal) := by
  pointwise [val_main_v17, val_main_v16, val_main_v15, val_main_v14, val_main_v13]
  simp only [v12_real, ← EReal.coe_mul, ← EReal.coe_sub]
  congr 1

/-- The gradient of the normed row. -/
theorem v31_real (r : Fin 4096) (l : Fin 1024) :
    val_main_v31 (F := Ideal) (fun i => (x i : EReal)) (fun i => (n i : EReal)) (fun i => (t i : EReal)) (ix2 r l)
      = ((1 / 2 / 1024 * (2 * resid (fun k => x (ix2 r k)) (fun k => n (ix1 k)) (fun k => t (ix3 0 r k)) l) : ℝ) : EReal) := by
  pointwise [val_main_v31, val_main_v30, val_main_v29, val_main_v28, val_main_v27, val_main_v26, val_main_v20, val_main_v19,
    val_main_cst_3, val_main_cst_8, val_main_cst_9, val_main_cst_10]
  simp only [v17_real, lit_half, lit_one, lit_two, lit_1024, ← EReal.coe_mul, div_1024, mul_one]

theorem v36_real (r : Fin 4096) (l : Fin 1024) :
    val_main_v36 (F := Ideal) (fun i => (x i : EReal)) (fun i => (n i : EReal)) (fun i => (t i : EReal)) (ix2 r l)
      = ((1 / 2 / 1024 * (2 * resid (fun k => x (ix2 r k)) (fun k => n (ix1 k)) (fun k => t (ix3 0 r k)) l) * n (ix1 l) : ℝ) : EReal) := by
  pointwise [val_main_v36, val_main_v35, val_main_v13]
  simp only [v31_real, ← EReal.coe_mul]

/-- The gradient of the row. -/
theorem v51_real (r : Fin 4096) (l : Fin 1024) :
    val_main_v51 (F := Ideal) (fun i => (x i : EReal)) (fun i => (n i : EReal)) (fun i => (t i : EReal)) (ix2 r l)
      = ((gradRow (fun k => x (ix2 r k)) (fun k => n (ix1 k)) (fun k => t (ix3 0 r k)) l : ℝ) : EReal) := by
  pointwise [val_main_v51, val_main_v50, val_main_v49, val_main_v48, val_main_v47, val_main_v46, val_main_v45, val_main_v44,
    val_main_v43, val_main_v42, val_main_v41, val_main_v40, val_main_v39, val_main_v38,
    val_main_cst_13, val_main_cst_14, val_main_cst_15]
  simp only [v36_real, v10_real, v7_real, lit_1024, ← EReal.coe_mul, ← coe_sum, div_1024, ← EReal.coe_add, Fin.sum_univ_one]
  rw [← gradRow_eq]

/-- The gradient in the narrow float, halved. -/
theorem v54_real (r : Fin 4096) (l : Fin 1024) :
    val_main_v54 (F := Ideal) (fun i => (x i : EReal)) (fun i => (n i : EReal)) (fun i => (t i : EReal)) (ix2 r l)
      = ((1 / 2 * gradRow (fun k => x (ix2 r k)) (fun k => n (ix1 k)) (fun k => t (ix3 0 r k)) l : ℝ) : EReal) := by
  pointwise [val_main_v54, val_main_v53, val_main_v52, val_main_cst_16]
  rw [v51_real, lit_half, ← EReal.coe_mul]

/-- The gradient of the norm's weight. -/
theorem v55_real (u : Fin 1) (l : Fin 1024) :
    val_main_v55 (F := Ideal) (fun i => (x i : EReal)) (fun i => (n i : EReal)) (fun i => (t i : EReal)) (ix2 u l)
      = ((∑ r : Fin 4096, gradWeight (fun k => x (ix2 r k)) (fun k => n (ix1 k)) (fun k => t (ix3 0 r k)) l : ℝ) : EReal) := by
  pointwise [val_main_v55, val_main_v37, val_main_v34, val_main_v33, val_main_v32, val_main_cst_11, val_main_cst_12]
  simp only [v31_real, v12_real, ← EReal.coe_mul, ← coe_sum, ← EReal.coe_add, Fin.sum_univ_one]
  congr 1
  refine Finset.sum_congr rfl fun r _ => ?_
  unfold gradWeight
  ring

/-- The loss. -/
theorem v56_real (a : Fin 8) (b : Fin 128) :
    val_main_v56 (F := Ideal) (fun i => (x i : EReal)) (fun i => (n i : EReal)) (fun i => (t i : EReal)) (ix2 a b)
      = ((1 / 2 * (∑ r : Fin 4096, lossPart (fun k => x (ix2 r k)) (fun k => n (ix1 k)) (fun k => t (ix3 0 r k))) / 1024 : ℝ) : EReal) := by
  pointwise [val_main_v56, val_main_v25, val_main_v24, val_main_v23, val_main_v22, val_main_v21, val_main_v18,
    val_main_cst_4, val_main_cst_5, val_main_cst_6, val_main_cst_7]
  simp only [v17_real, lit_1024, lit_half, ← EReal.coe_mul, ← coe_sum, div_1024, ← EReal.coe_add]
  congr 1
  rw [← Finset.sum_div, mul_div_assoc]
  rfl

end Cert.LossRef

end
-- ==== Proof.LossClaim.lean ====
/-
  The loss head's claims: the frames, and the value claim that joins the kernel's four arrays to the reference's.
-/
module

public import proofs.«01_k».proof.Defs
public import proofs.«01_k».proof.Proof.LossValue
public import proofs.«01_k».proof.Proof.LossRef
public import Idealize.ShloMosaic.Lib.Pointwise.Select
public import Idealize.ShloMosaic.Lib.Claim
public import Idealize.ShloMosaic.Lib.Quiescent

@[expose] public section

set_option maxRecDepth 16384

noncomputable section

namespace Cert.LossClaim

open Idealize.ShloMosaic Idealize.ShloMosaic.TcCoe Idealize.SL.Sem Cert.Reals Cert.LossMath

/-- The predicate's shape relations. -/
theorem preFacts : Cert.Pre_finite2.Facts := ⟨by decide, by decide, by decide⟩

instance : Cert.Pre_finite2.Facts := preFacts

/-- The reference leaves its arguments and the counters. -/
theorem frame_ref : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

/-- Finite arguments are arrays of reals. -/
theorem exists_args (m : (ℓ : Loc Cert.LossIdeal.nD Cert.LossIdeal.τ Cert.LossIdeal.sig) → Buf (Elt Ideal) ℓ)
    (h : Cert.Pre_LossIdeal_finite2 m) (c : Dev Cert.LossIdeal.nD) : ∃ A : Cert.LossValue.Args, A.At m c := by
  obtain ⟨h0, h1, h2⟩ := h c
  have r0 := exists_real (x := m ((c.tc : Thread Cert.LossIdeal.nD Cert.LossIdeal.τ).loc Cert.LossIdeal.main_arg0)) fun i => by
    have := congrFun h0 i
    rw [← lit_inf]
    exact (Ideal.cmp_olt_eq_one _ _).mp this
  have r1 := exists_real (x := m ((c.tc : Thread Cert.LossIdeal.nD Cert.LossIdeal.τ).loc Cert.LossIdeal.main_arg1)) fun i => by
    have := congrFun h1 i
    rw [← lit_inf]
    exact (Ideal.cmp_olt_eq_one _ _).mp this
  have r2 := exists_real (x := m ((c.tc : Thread Cert.LossIdeal.nD Cert.LossIdeal.τ).loc Cert.LossIdeal.main_arg2)) fun i => by
    have := congrFun h2 i
    rw [← lit_inf]
    exact (Ideal.cmp_olt_eq_one _ _).mp this
  obtain ⟨X, hX⟩ := r0
  obtain ⟨N, hN⟩ := r1
  obtain ⟨T, hT⟩ := r2
  exact ⟨⟨X, N, T⟩, hX, hN, hT⟩

/-- The kernel's arrays are the reference's. -/
theorem algebraic : Cert.algebraic_LossIdeal_LossRefIdeal_pre_finite2 := by
  intro m g m' g' hpre hagree
  choose A hA using exists_args m hpre
  refine ⟨_, _, _, _, Cert.LossIdeal.Value.run_blocks m g, ?_⟩
  refine (θ_run Cert.LossRefIdeal.defs _ _).mono (fun r h c => ?_) (Cert.LossRefIdeal.Value.run m' g')
  obtain ⟨h51, h54, h55, h56, hk⟩ := h c
  obtain ⟨a0, a1, a2⟩ := hagree c
  have A0 := a0.trans (hA c).1
  have A1 := a1.trans (hA c).2.1
  have A2 := a2.trans (hA c).2.2
  refine ⟨?_, ?_, ?_, ?_, hk⟩
  · rw [h51, LossValue.out3 m c (A c) (hA c), Cert.LossRefIdeal.Read.val_main_v51_eq, A0, A1, A2]
    funext i
    obtain ⟨p, q, rfl⟩ : ∃ p q, i = ix2 p q := ⟨_, _, eq_ix2 i⟩
    exact LossRef.v51_real _ _ _ p q
  · rw [h54, LossValue.out4 m c (A c) (hA c), Cert.LossRefIdeal.Read.val_main_v54_eq, A0, A1, A2]
    funext i
    obtain ⟨p, q, rfl⟩ : ∃ p q, i = ix2 p q := ⟨_, _, eq_ix2 i⟩
    exact LossRef.v54_real _ _ _ p q
  · refine h55.trans ((Cert.LossRefIdeal.Read.val_main_v55_eq _ _ _).trans ?_)
    rw [LossValue.out5 m c (A c) (hA c), A0, A1, A2]
    funext i
    obtain ⟨p, q, rfl⟩ : ∃ p q, i = ix2 p q := ⟨_, _, eq_ix2 i⟩
    exact LossRef.v55_real _ _ _ p q
  · refine h56.trans ((Cert.LossRefIdeal.Read.val_main_v56_eq _ _ _).trans ?_)
    rw [LossValue.out6 m c (A c) (hA c), A0, A1, A2]
    funext i
    obtain ⟨p, q, rfl⟩ : ∃ p q, i = ix2 p q := ⟨_, _, eq_ix2 i⟩
    exact LossRef.v56_real _ _ _ p q

end Cert.LossClaim

end
-- ==== Proof.RetStep.lean ====
/-
  The retention gradient's body as pure functions of one head's blocks: what each of the sixteen chunks adds to
  the two carried states and to the decay gradients, and what it stores of the gradients of q, k, v and the gate.
  The forward walk visits chunk `n` as its `n`-th step, the backward walk chunk `15 - j` as its `j`-th; a chunk's
  k and v gradients are stored by whichever walk reaches it first and completed by the other.
-/
module

public import proofs.«01_k».proof.Proof.Gen.RetIdeal.Frame
public import proofs.«01_k».proof.Proof.Gen.RetIdeal.Loops
public import Idealize.ShloMosaic.Lib.VecWindow

@[expose] public section

set_option maxRecDepth 16384

noncomputable section

namespace Cert.RetStep

open Idealize.ShloMosaic Idealize.ShloMosaic.TcCoe
open Cert.RetIdeal Cert.RetIdeal.Gen

variable {F : FTy → Type} [FloatOps F]

/-- One head's blocks as the body finds them: the gradient of the gated output, the output before its norm, the
    two directions' saved states, q, k, v and the gate, the rotation's tables, and the decay logits. -/
structure Blk (F : FTy → Type) where
  x1 : Vec F S4096x256 .bf16
  x2 : Vec F S4096x256 .f32
  x3 : Vec F S1x16x256x256 .bf16
  x4 : Vec F S1x16x256x256 .bf16
  x5 : Vec F S1x4096x256 .bf16
  x6 : Vec F S1x4096x256 .bf16
  x7 : Vec F S1x4096x256 .bf16
  x8 : Vec F S1x4096x256 .bf16
  x10 : Vec F S4096x128 .f32
  x11 : Vec F S4096x128 .f32
  x12 : Vec F S1x8x256 .f32

/-- Chunk `n` of a [4096, 256] block. -/
theorem rows_in (n : Fin 16) : ∀ a, (![256 * n.val, 0] : Fin 2 → ℕ) a + (![256, 256] : Fin 2 → ℕ) a ≤ S4096x256.size a := by
  intro a; have := n.isLt; fin_cases a <;> simp <;> omega
/-- Chunk `n` of a [4096, 128] block. -/
theorem half_in (n : Fin 16) : ∀ a, (![256 * n.val, 0] : Fin 2 → ℕ) a + (![256, 128] : Fin 2 → ℕ) a ≤ S4096x128.size a := by
  intro a; have := n.isLt; fin_cases a <;> simp <;> omega
/-- Chunk `n` of a [1, 4096, 256] block. -/
theorem chunk_in (n : Fin 16) : ∀ a, (![0, 256 * n.val, 0] : Fin 3 → ℕ) a + (![1, 256, 256] : Fin 3 → ℕ) a ≤ S1x4096x256.size a := by
  intro a; have := n.isLt; fin_cases a <;> simp <;> omega
/-- Chunk `n` of the saved states. -/
theorem state_in (n : Fin 16) : ∀ a, (![0, n.val, 0, 0] : Fin 4 → ℕ) a + (![1, 1, 256, 256] : Fin 4 → ℕ) a ≤ S1x16x256x256.size a := by
  intro a; have := n.isLt; fin_cases a <;> simp <;> omega
/-- Chunk `n` of slot `s` of the stored gradients. -/
theorem slot_in (s : Fin 4) (n : Fin 16) : ∀ a, (![s.val, 256 * n.val, 0] : Fin 3 → ℕ) a + (![1, 256, 256] : Fin 3 → ℕ) a ≤ S4x4096x256.size a := by
  intro a; have := n.isLt; have := s.isLt; fin_cases a <;> simp <;> omega
theorem two_in : ∀ a, (![0, 0, 0] : Fin 3 → ℕ) a + (![1, 2, 256] : Fin 3 → ℕ) a ≤ S1x8x256.size a := by
  intro a; fin_cases a <;> simp
theorem lane_in : ∀ a, (![0, 0, 0] : Fin 3 → ℕ) a + (![1, 8, 1] : Fin 3 → ℕ) a ≤ S1x8x256.size a := by
  intro a; fin_cases a <;> simp
theorem row0_in : ∀ a, (![0, 0] : Fin 2 → ℕ) a + (![1, 256] : Fin 2 → ℕ) a ≤ S8x256.size a := by
  intro a; fin_cases a <;> simp
theorem row1_in : ∀ a, (![1, 0] : Fin 2 → ℕ) a + (![1, 256] : Fin 2 → ℕ) a ≤ S8x256.size a := by
  intro a; fin_cases a <;> simp

namespace Blk

variable (B : Blk F)

def dr (n : Fin 16) : Vec F S256x256 .bf16 := VecWindow.window B.x1 ![256 * n.val, 0] ![256, 256] (rows_in n)
def R (n : Fin 16) : Vec F S256x256 .f32 := VecWindow.window B.x2 ![256 * n.val, 0] ![256, 256] (rows_in n)
def sf (n : Fin 16) : Vec F S1x1x256x256 .bf16 := VecWindow.window B.x3 ![0, n.val, 0, 0] ![1, 1, 256, 256] (state_in n)
def sb (n : Fin 16) : Vec F S1x1x256x256 .bf16 := VecWindow.window B.x4 ![0, n.val, 0, 0] ![1, 1, 256, 256] (state_in n)
def q (n : Fin 16) : Vec F S1x256x256 .bf16 := VecWindow.window B.x5 ![0, 256 * n.val, 0] ![1, 256, 256] (chunk_in n)
def k (n : Fin 16) : Vec F S1x256x256 .bf16 := VecWindow.window B.x6 ![0, 256 * n.val, 0] ![1, 256, 256] (chunk_in n)
def v (n : Fin 16) : Vec F S1x256x256 .bf16 := VecWindow.window B.x7 ![0, 256 * n.val, 0] ![1, 256, 256] (chunk_in n)
def g (n : Fin 16) : Vec F S1x256x256 .bf16 := VecWindow.window B.x8 ![0, 256 * n.val, 0] ![1, 256, 256] (chunk_in n)
def co (n : Fin 16) : Vec F S256x128 .f32 := VecWindow.window B.x10 ![256 * n.val, 0] ![256, 128] (half_in n)
def si (n : Fin 16) : Vec F S256x128 .f32 := VecWindow.window B.x11 ![256 * n.val, 0] ![256, 128] (half_in n)
def dl : Vec F S1x2x256 .f32 := VecWindow.window B.x12 ![0, 0, 0] ![1, 2, 256] two_in
def dl0 : Vec F S1x8x1 .f32 := VecWindow.window B.x12 ![0, 0, 0] ![1, 8, 1] lane_in

/-- The decay tables: the two directions' log decays, the positions' differences and which are not negative, the
    decay within a chunk and its transpose, the positions, and the decays to and from a chunk's ends. -/
def lgf : FVec F S1x256 .f32 := k0_pay99 B.dl
def lgb : FVec F S1x256 .f32 := k0_pay100 B.dl
def dmat : FVec F S256x256 .f32 := k0_pay103 B.dl
def dmatT : FVec F S256x256 .f32 := k0_pay104 B.dl
def fq : FVec F S256x256 .f32 := k0_pay106 B.lgf
def fk : FVec F S256x256 .f32 := k0_pay107 B.lgf
def bq : FVec F S256x256 .f32 := k0_pay108 B.lgb
def bk : FVec F S256x256 .f32 := k0_pay109 B.lgb
def lamf : FVec F S1x256 .f32 := k0_pay110 B.lgf
def lamb : FVec F S1x256 .f32 := k0_pay111 B.lgb

/-- The gate's gradient, chunk `n`. -/
def dg (n : Fin 16) : Vec F S1x256x256 .bf16 := k0_pay16 (B.R n) (B.g n) (B.dr n)
/-- The gradient of the output before its norm, chunk `n`. -/
def dR (n : Fin 16) : Vec F S256x256 .bf16 :=
  k0_pay112 (k0_pay11 (B.R n)) (k0_pay12 (B.R n)) (k0_pay17 (B.g n) (B.dr n)) (k0_pay18 (B.R n) (B.g n) (B.dr n))

/-- The backward direction's carried gradient state before the forward walk's step `n`. -/
def gb : ℕ → Vec F S256x256 .f32
  | 0 => (k0_pay113 (F := F))
  | n + 1 => k0_pay50 B.lamb (B.dR (Fin.ofNat 16 n)) (k0_pay35 B.bq (k0_pay22 (B.q (Fin.ofNat 16 n)))) (gb n)
/-- The forward direction's carried gradient state before the backward walk's step `j`. -/
def gf : ℕ → Vec F S256x256 .f32
  | 0 => (k0_pay114 (F := F))
  | j + 1 => k0_pay7 B.fq B.lamf (k0_pay51 (B.q (Fin.ofNat 16 (15 - j)))) (B.dR (Fin.ofNat 16 (15 - j))) (gf j)

def dq (n : Fin 16) : Vec F S1x256x256 .bf16 :=
  k0_pay44 (k0_pay37 B.fq B.bq (B.dR n) (k0_pay28 B.dmat (B.k n) (B.v n) (B.dR n)) (k0_pay31 (B.sf n)) (B.sb n)) (B.co n) (B.si n)

/-- The forward walk's part of chunk `n`'s k gradient, and of its v gradient. -/
def kA (n : Fin 16) : FVec F S256x256 .f32 := k0_pay41 B.bk (k0_pay21 (B.v n)) (k0_pay29 B.dmatT (B.q n) (B.v n) (B.dR n)) (B.gb n.val)
def vA (n : Fin 16) : FVec F S256x256 .f32 := k0_pay42 B.bk (k0_pay23 (B.k n)) (k0_pay30 B.dmatT (B.q n) (B.k n) (B.dR n)) (B.gb n.val)

/-- What the first walk to reach chunk `n` stores. -/
def kA0 (n : Fin 16) : Vec F S1x256x256 .bf16 := k0_pay45 (B.kA n)
def vA0 (n : Fin 16) : Vec F S1x256x256 .bf16 := k0_pay46 (B.vA n)
def kD0 (n : Fin 16) : Vec F S1x256x256 .bf16 := k0_pay5 B.fk (k0_pay54 (B.v n) (B.gf (15 - n.val)))
def vD0 (n : Fin 16) : Vec F S1x256x256 .bf16 := k0_pay6 (k0_pay52 (B.gf (15 - n.val))) (k0_pay53 B.fk (B.k n))

/-- What stands there once the other walk has completed it. -/
def kF (n : Fin 16) : Vec F S1x256x256 .bf16 :=
  if n.val < 8 then k0_pay95 (k0_pay93 B.fk (B.v n) (B.gf (15 - n.val))) (B.co n) (B.si n) (B.kA0 n)
  else k0_pay83 (B.kA n) (B.co n) (B.si n) (B.kD0 n)
def vF (n : Fin 16) : Vec F S1x256x256 .bf16 :=
  if n.val < 8 then k0_pay96 (k0_pay94 B.fk (B.k n) (B.gf (15 - n.val))) (B.vA0 n)
  else k0_pay84 (B.vA n) (B.vD0 n)

/-- The decay gradients' rows: the forward direction's takes a part from each walk, the backward direction's from
    the forward walk. -/
def row0A (n : Fin 16) (r : Vec F S1x256 .f32) : Vec F S1x256 .f32 :=
  k0_pay47 (k0_pay26 (k0_pay2 (k0_pay101 (F := F)) (k0_pay102 (F := F)) B.dmat) (B.q n) (B.k n) (B.v n) (B.dR n))
    (k0_pay34 (k0_pay105 (F := F)) B.fq (B.dR n) (k0_pay22 (B.q n)) (k0_pay31 (B.sf n))) r
def row0D (n : Fin 16) (r : Vec F S1x256 .f32) : Vec F S1x256 .f32 :=
  k0_pay4 (B.gf (15 - n.val)) (k0_pay55 (k0_pay105 (F := F)) B.fk (B.k n) (B.v n) (B.gf (15 - n.val))) (k0_pay56 B.lamf) (B.sf n) r
def row1A (n : Fin 16) (r : Vec F S1x256 .f32) : Vec F S1x256 .f32 :=
  k0_pay49 (k0_pay48 (k0_pay27 (k0_pay3 (k0_pay101 (F := F)) (k0_pay102 (F := F)) B.dmat) (B.q n) (B.k n) (B.v n) (B.dR n))
    (k0_pay43 (k0_pay105 (F := F)) B.bq B.bk B.lamb (k0_pay21 (B.v n)) (B.dR n) (k0_pay22 (B.q n)) (k0_pay23 (B.k n)) (B.sb n) (B.gb n.val)) r)

def row0 : ℕ → Vec F S1x256 .f32
  | 0 => VecWindow.window (k0_pay115 (F := F)) ![0, 0] ![1, 256] row0_in
  | n + 1 => B.row0D (Fin.ofNat 16 (15 - n)) (B.row0A (Fin.ofNat 16 n) (row0 n))
def row1 : ℕ → Vec F S1x256 .f32
  | 0 => VecWindow.window (k0_pay115 (F := F)) ![1, 0] ![1, 256] row1_in
  | n + 1 => B.row1A (Fin.ofNat 16 n) (row1 n)

/-- The eight rows of decay gradients before step `n`: two in use, the others as cleared. -/
def acc (n : ℕ) : Vec F S8x256 .f32 := VecWindow.put (VecWindow.put (k0_pay115 (F := F)) ![1, 0] ![1, 256] (B.row1 n)) ![0, 0] ![1, 256] (B.row0 n)

/-- The two loops' bodies write the same terms. -/
theorem gb_late (n : Fin 16) (s : Vec F S256x256 .f32) :
    k0_pay87 B.lamb (B.dR n) (k0_pay73 B.bq (k0_pay60 (B.q n))) s = k0_pay50 B.lamb (B.dR n) (k0_pay35 B.bq (k0_pay22 (B.q n))) s := rfl
theorem gf_late (n : Fin 16) (s : Vec F S256x256 .f32) :
    k0_pay8 (k0_pay97 B.fq B.lamf (k0_pay88 (B.q n)) (B.dR n) s) = k0_pay7 B.fq B.lamf (k0_pay51 (B.q n)) (B.dR n) s := rfl
theorem dq_late (n : Fin 16) :
    k0_pay82 (k0_pay75 B.fq B.bq (B.dR n) (k0_pay66 B.dmat (B.k n) (B.v n) (B.dR n)) (k0_pay69 (B.sf n)) (B.sb n)) (B.co n) (B.si n) = B.dq n := rfl
theorem kA_late (n : Fin 16) : k0_pay79 B.bk (k0_pay59 (B.v n)) (k0_pay67 B.dmatT (B.q n) (B.v n) (B.dR n)) (B.gb n.val) = B.kA n := rfl
theorem vA_late (n : Fin 16) : k0_pay80 B.bk (k0_pay61 (B.k n)) (k0_pay68 B.dmatT (B.q n) (B.k n) (B.dR n)) (B.gb n.val) = B.vA n := rfl
theorem row0A_late (n : Fin 16) (r : Vec F S1x256 .f32) :
    k0_pay85 (k0_pay64 (k0_pay2 (k0_pay101 (F := F)) (k0_pay102 (F := F)) B.dmat) (B.q n) (B.k n) (B.v n) (B.dR n))
      (k0_pay72 (k0_pay105 (F := F)) B.fq (B.dR n) (k0_pay60 (B.q n)) (k0_pay69 (B.sf n))) r = B.row0A n r := rfl
theorem row0D_late (n : Fin 16) (r : Vec F S1x256 .f32) :
    k0_pay92 (k0_pay105 (F := F)) B.fk B.lamf (B.k n) (B.v n) (B.gf (15 - n.val)) (B.sf n) r = B.row0D n r := rfl
theorem row1A_late (n : Fin 16) (r : Vec F S1x256 .f32) :
    k0_pay86 (k0_pay65 (k0_pay3 (k0_pay101 (F := F)) (k0_pay102 (F := F)) B.dmat) (B.q n) (B.k n) (B.v n) (B.dR n))
      (k0_pay81 (k0_pay105 (F := F)) B.bq B.bk B.lamb (k0_pay59 (B.v n)) (B.dR n) (k0_pay60 (B.q n)) (k0_pay61 (B.k n)) (B.sb n) (B.gb n.val)) r = B.row1A n r := rfl

end Blk

/-! ## Chunks of the stored gradients -/

/-- Chunk `n` of slot `s`. -/
def W (s : Fin 4) (n : Fin 16) (d : Vec F S4x4096x256 .bf16) : Vec F S1x256x256 .bf16 :=
  VecWindow.window d ![s.val, 256 * n.val, 0] ![1, 256, 256] (slot_in s n)

/-- The stored gradients with chunk `n` of slot `s` set. -/
def setW (d : Vec F S4x4096x256 .bf16) (s : Fin 4) (n : Fin 16) (w : Vec F S1x256x256 .bf16) : Vec F S4x4096x256 .bf16 :=
  VecWindow.put d ![s.val, 256 * n.val, 0] ![1, 256, 256] w

theorem W_set (s s' : Fin 4) (n n' : Fin 16) (d : Vec F S4x4096x256 .bf16) (w : Vec F S1x256x256 .bf16) :
    W s n (setW d s' n' w) = if s = s' ∧ n = n' then w else W s n d := by
  split
  · next h => obtain ⟨rfl, rfl⟩ := h; exact VecWindow.window_put_same _ _ _ _ _
  · next h =>
    by_cases hs : s = s'
    · have hn : n.val ≠ n'.val := fun e => h ⟨hs, Fin.ext e⟩
      refine VecWindow.window_put_of_disjoint _ _ _ _ _ _ _ 1 ?_
      show 256 * n.val + 256 ≤ 256 * n'.val ∨ 256 * n'.val + 256 ≤ 256 * n.val
      omega
    · have hs : s.val ≠ s'.val := fun e => hs (Fin.ext e)
      refine VecWindow.window_put_of_disjoint _ _ _ _ _ _ _ 0 ?_
      show s.val + 1 ≤ s'.val ∨ s'.val + 1 ≤ s.val
      omega

/-- The stored gradients are their chunks. -/
theorem ext_W {d d' : Vec F S4x4096x256 .bf16} (h : ∀ s n, W s n d = W s n d') : d = d' := by
  funext y
  have h0 : (y 0).val < 4 := (y 0).isLt
  have h1 : (y 1).val < 4096 := (y 1).isLt
  have h2 : (y 2).val < 256 := (y 2).isLt
  have e : y = (Rect.unit (s := S4x4096x256) ![(y 0).val, 256 * ((y 1).val / 256), 0] ![1, 256, 256]
      (slot_in ⟨(y 0).val, h0⟩ ⟨(y 1).val / 256, by omega⟩)).emb
      (fun a : Fin 3 => match a with
        | 0 => (⟨0, by decide⟩ : Fin 1) | 1 => (⟨(y 1).val % 256, Nat.mod_lt _ (by decide)⟩ : Fin 256) | 2 => (⟨(y 2).val, h2⟩ : Fin 256)) := by
    refine funext fun a => Fin.ext ?_
    match a with
    | 0 => rfl
    | 1 => show (y 1).val = 256 * ((y 1).val / 256) + 1 * ((y 1).val % 256); omega
    | 2 => show (y 2).val = 0 + 1 * (y 2).val; omega
  have := congrFun (h ⟨(y 0).val, h0⟩ ⟨(y 1).val / 256, by omega⟩) (fun a : Fin 3 => match a with
        | 0 => (⟨0, by decide⟩ : Fin 1) | 1 => (⟨(y 1).val % 256, Nat.mod_lt _ (by decide)⟩ : Fin 256) | 2 => (⟨(y 2).val, h2⟩ : Fin 256))
  rw [e]
  exact this

/-- What the stored gradients hold after `K` steps of both walks. -/
structure Inv (B : Blk F) (K : ℕ) (d : Vec F S4x4096x256 .bf16) : Prop where
  g : ∀ n, W 3 n d = B.dg n
  q : ∀ n : Fin 16, n.val < K → W 0 n d = B.dq n
  kA : ∀ n : Fin 16, n.val < K → n.val + K < 16 → W 1 n d = B.kA0 n
  kD : ∀ n : Fin 16, K ≤ n.val → 16 ≤ n.val + K → W 1 n d = B.kD0 n
  kF : ∀ n : Fin 16, n.val < K → 16 ≤ n.val + K → W 1 n d = B.kF n
  vA : ∀ n : Fin 16, n.val < K → n.val + K < 16 → W 2 n d = B.vA0 n
  vD : ∀ n : Fin 16, K ≤ n.val → 16 ≤ n.val + K → W 2 n d = B.vD0 n
  vF : ∀ n : Fin 16, n.val < K → 16 ≤ n.val + K → W 2 n d = B.vF n

/-- A step of the first eight: nothing it stores is read. -/
theorem Inv.early {B : Blk F} {K : ℕ} {d : Vec F S4x4096x256 .bf16} (h : Inv B K d) (hK : K < 8) (n n' : Fin 16) (hn : n.val = K)
    (hn' : n'.val = 15 - K) :
    Inv B (K + 1) (setW (setW (setW (setW (setW d 0 n (B.dq n)) 1 n (B.kA0 n)) 2 n (B.vA0 n)) 1 n' (B.kD0 n')) 2 n' (B.vD0 n')) := by
  constructor
  all_goals simp only [W_set]
  · intro m; simpa using h.g m
  · intro m hm
    by_cases e : m = n
    · simp [e]
    · simpa [e] using h.q m (by have := fun h => e (Fin.ext h); omega)
  · intro m h1 h2
    have e' : m ≠ n' := fun e => by subst e; omega
    by_cases e : m = n
    · simp [e, e ▸ e']
    · simpa [e, e'] using h.kA m (by have := fun h => e (Fin.ext h); omega) (by omega)
  · intro m h1 h2
    have e : m ≠ n := fun e => by subst e; omega
    by_cases e' : m = n'
    · simp [e']
    · simpa [e, e'] using h.kD m (by omega) (by have := fun h => e' (Fin.ext h); omega)
  · intro m h1 h2; omega
  · intro m h1 h2
    have e' : m ≠ n' := fun e => by subst e; omega
    by_cases e : m = n
    · simp [e, e ▸ e']
    · simpa [e, e'] using h.vA m (by have := fun h => e (Fin.ext h); omega) (by omega)
  · intro m h1 h2
    have e : m ≠ n := fun e => by subst e; omega
    by_cases e' : m = n'
    · simp [e']
    · simpa [e, e'] using h.vD m (by omega) (by have := fun h => e' (Fin.ext h); omega)
  · intro m h1 h2; omega

/-- A step of the last eight: each walk completes what the other stored. -/
theorem Inv.late {B : Blk F} {K : ℕ} {d : Vec F S4x4096x256 .bf16} (h : Inv B K d) (hK : 8 ≤ K) (hK' : K < 16) (n n' : Fin 16)
    (hn : n.val = K) (hn' : n'.val = 15 - K) :
    Inv B (K + 1) (setW (setW (setW (setW (setW d 0 n (B.dq n)) 1 n (B.kF n)) 2 n (B.vF n)) 1 n' (B.kF n')) 2 n' (B.vF n')) := by
  constructor
  all_goals simp only [W_set]
  · intro m; simpa using h.g m
  · intro m hm
    by_cases e : m = n
    · simp [e]
    · simpa [e] using h.q m (by have := fun h => e (Fin.ext h); omega)
  · intro m h1 h2
    have e' : m ≠ n' := fun e => by subst e; omega
    have e : m ≠ n := fun e => by subst e; omega
    simpa [e, e'] using h.kA m (by omega) (by omega)
  · intro m h1 h2
    have e' : m ≠ n' := fun e => by subst e; omega
    have e : m ≠ n := fun e => by subst e; omega
    simpa [e, e'] using h.kD m (by omega) (by omega)
  · intro m h1 h2
    by_cases e : m = n
    · simp only [e, true_and, reduceIte, and_true]; split <;> simp_all
    · by_cases e' : m = n'
      · simp [e']
      · simpa [e, e'] using h.kF m (by have := fun h => e (Fin.ext h); omega) (by have := fun h => e' (Fin.ext h); omega)
  · intro m h1 h2
    have e' : m ≠ n' := fun e => by subst e; omega
    have e : m ≠ n := fun e => by subst e; omega
    simpa [e, e'] using h.vA m (by omega) (by omega)
  · intro m h1 h2
    have e' : m ≠ n' := fun e => by subst e; omega
    have e : m ≠ n := fun e => by subst e; omega
    simpa [e, e'] using h.vD m (by omega) (by omega)
  · intro m h1 h2
    by_cases e : m = n
    · simp only [e, true_and, reduceIte, and_true]; split <;> simp_all
    · by_cases e' : m = n'
      · simp [e']
      · simpa [e, e'] using h.vF m (by have := fun h => e (Fin.ext h); omega) (by have := fun h => e' (Fin.ext h); omega)

/-- After all sixteen steps the stored gradients do not depend on what was there before. -/
theorem Inv.unique {B : Blk F} {d d' : Vec F S4x4096x256 .bf16} (h : Inv B 16 d) (h' : Inv B 16 d') : d = d' := by
  refine ext_W fun s n => ?_
  have hn := n.isLt
  match s with
  | 0 => exact (h.q n hn).trans (h'.q n hn).symm
  | 1 => exact (h.kF n hn (by omega)).trans (h'.kF n hn (by omega)).symm
  | 2 => exact (h.vF n hn (by omega)).trans (h'.vF n hn (by omega)).symm
  | 3 => exact (h.g n).trans (h'.g n).symm

/-- The rows of decay gradients after a step's three stores. -/
theorem acc_step (B : Blk F) (n : ℕ) (a : Vec F S1x256 .f32) :
    VecWindow.put (VecWindow.put (VecWindow.put (B.acc n) ![0, 0] ![1, 256] a) ![1, 0] ![1, 256] (B.row1 (n + 1))) ![0, 0] ![1, 256] (B.row0 (n + 1))
      = B.acc (n + 1) := by
  funext y
  unfold Blk.acc VecWindow.put
  split
  · rfl
  · split
    · rfl
    · rfl

end Cert.RetStep

end
-- ==== Proof.RetRun.lean ====
/-
  The retention gradient's loops over the staged buffers: after its trips each written buffer reads as the pure
  functions of `RetStep` say, whatever the stored gradients' buffer held before.
-/
module

public import proofs.«01_k».proof.Proof.RetStep

@[expose] public section

set_option maxRecDepth 16384

noncomputable section

namespace Cert.RetStep

open Idealize.ShloMosaic Idealize.ShloMosaic.TcCoe
open Cert.RetIdeal Cert.RetIdeal.Gen

variable {F : FTy → Type} [FloatOps F]

/-- The body's staged buffers and scratch, each whole. -/
structure Bufs where
  a1 : Memref sig .tc .vmem S4096x256 .bf16
  h1 : a1.IsWhole
  a2 : Memref sig .tc .vmem S4096x256 .f32
  h2 : a2.IsWhole
  a3 : Memref sig .tc .vmem S1x16x256x256 .bf16
  h3 : a3.IsWhole
  a4 : Memref sig .tc .vmem S1x16x256x256 .bf16
  h4 : a4.IsWhole
  a5 : Memref sig .tc .vmem S1x4096x256 .bf16
  h5 : a5.IsWhole
  a6 : Memref sig .tc .vmem S1x4096x256 .bf16
  h6 : a6.IsWhole
  a7 : Memref sig .tc .vmem S1x4096x256 .bf16
  h7 : a7.IsWhole
  a8 : Memref sig .tc .vmem S1x4096x256 .bf16
  h8 : a8.IsWhole
  a10 : Memref sig .tc .vmem S4096x128 .f32
  h10 : a10.IsWhole
  a11 : Memref sig .tc .vmem S4096x128 .f32
  h11 : a11.IsWhole
  a12 : Memref sig .tc .vmem S1x8x256 .f32
  h12 : a12.IsWhole
  a13 : Memref sig .tc .vmem S4x4096x256 .bf16
  h13 : a13.IsWhole
  a14 : Memref sig .tc .vmem S1x8x128 .f32
  h14 : a14.IsWhole
  a15 : Memref sig .tc .vmem S4096x256 .bf16
  h15 : a15.IsWhole
  a16 : Memref sig .tc .vmem S256x256 .f32
  h16 : a16.IsWhole
  a17 : Memref sig .tc .vmem S256x256 .f32
  h17 : a17.IsWhole
  a18 : Memref sig .tc .vmem S8x256 .f32
  h18 : a18.IsWhole

variable (M : Bufs) (c : Dev nD) (i : grid0.Coords) (B : Blk F)

abbrev Stored := M.a13.view.ty.Contents (Elt F)

/-- The pieces trip `k` of each loop stores, and those stored before it. -/
abbrev trip1 (k : Fin k0_t1_loop.trips) := tripL_k0_t1 (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 B.lgf B.lgb (M.h1.unread B.x1) (M.h2.unread B.x2) (M.h8.unread B.x8) k
abbrev sofar1 (k : ℕ) := pb_k0_t1 (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 B.lgf B.lgb (M.h1.unread B.x1) (M.h2.unread B.x2) (M.h8.unread B.x8) k
abbrev trip2 (X15 : M.a15.view.ty.Contents (Elt F)) (k : Fin k0_t2_loop.trips) (f13 : M.a13.view.ty.Contents (Elt F)) (f16 : M.a16.view.ty.Contents (Elt F))
    (f17 : M.a17.view.ty.Contents (Elt F)) (f18 : M.a18.view.ty.Contents (Elt F)) :=
  tripL_k0_t2 (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 (k0_pay101 (F := F)) (k0_pay102 (F := F)) B.dmat B.dmatT (k0_pay105 (F := F)) B.fq B.fk B.bq B.bk B.lamf B.lamb (M.h3.unread B.x3) (M.h4.unread B.x4) (M.h5.unread B.x5) (M.h6.unread B.x6) (M.h7.unread B.x7) (M.h10.unread B.x10) (M.h11.unread B.x11) X15 k f13 f16 f17 f18
abbrev sofar2 (X15 : M.a15.view.ty.Contents (Elt F)) (f13 : M.a13.view.ty.Contents (Elt F)) (f16 : M.a16.view.ty.Contents (Elt F))
    (f17 : M.a17.view.ty.Contents (Elt F)) (f18 : M.a18.view.ty.Contents (Elt F)) (k : ℕ) :=
  pb_k0_t2 (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 (k0_pay101 (F := F)) (k0_pay102 (F := F)) B.dmat B.dmatT (k0_pay105 (F := F)) B.fq B.fk B.bq B.bk B.lamf B.lamb (M.h3.unread B.x3) (M.h4.unread B.x4) (M.h5.unread B.x5) (M.h6.unread B.x6) (M.h7.unread B.x7) (M.h10.unread B.x10) (M.h11.unread B.x11) X15 f13 f16 f17 f18 k
abbrev trip3 (X15 : M.a15.view.ty.Contents (Elt F)) (k : Fin k0_t3_loop.trips) (f13 : M.a13.view.ty.Contents (Elt F)) (f16 : M.a16.view.ty.Contents (Elt F))
    (f17 : M.a17.view.ty.Contents (Elt F)) (f18 : M.a18.view.ty.Contents (Elt F)) :=
  tripL_k0_t3 (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 (k0_pay101 (F := F)) (k0_pay102 (F := F)) B.dmat B.dmatT (k0_pay105 (F := F)) B.fq B.fk B.bq B.bk B.lamf B.lamb (M.h3.unread B.x3) (M.h4.unread B.x4) (M.h5.unread B.x5) (M.h6.unread B.x6) (M.h7.unread B.x7) (M.h10.unread B.x10) (M.h11.unread B.x11) X15 k f13 f16 f17 f18
abbrev sofar3 (X15 : M.a15.view.ty.Contents (Elt F)) (f13 : M.a13.view.ty.Contents (Elt F)) (f16 : M.a16.view.ty.Contents (Elt F))
    (f17 : M.a17.view.ty.Contents (Elt F)) (f18 : M.a18.view.ty.Contents (Elt F)) (k : ℕ) :=
  pb_k0_t3 (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 (k0_pay101 (F := F)) (k0_pay102 (F := F)) B.dmat B.dmatT (k0_pay105 (F := F)) B.fq B.fk B.bq B.bk B.lamf B.lamb (M.h3.unread B.x3) (M.h4.unread B.x4) (M.h5.unread B.x5) (M.h6.unread B.x6) (M.h7.unread B.x7) (M.h10.unread B.x10) (M.h11.unread B.x11) X15 f13 f16 f17 f18 k

/-! ## Where each trip reads and stores -/

theorem off1 (k : Fin k0_t1_loop.trips) (n : Fin 16) (h : n.val = k.val) : k0_off1 k = ![256 * n.val, 0] := by
  rw [h]; exact (by decide +kernel : ∀ k, k0_off1 k = ![256 * k.val, 0]) k
theorem off2 (k : Fin k0_t1_loop.trips) (n : Fin 16) (h : n.val = k.val) : k0_off2 k = ![0, 256 * n.val, 0] := by
  rw [h]; exact (by decide +kernel : ∀ k, k0_off2 k = ![0, 256 * k.val, 0]) k
theorem off3 (k : Fin k0_t1_loop.trips) (n : Fin 16) (h : n.val = k.val) : k0_off3 k = ![(3 : Fin 4).val, 256 * n.val, 0] := by
  rw [h]; exact (by decide +kernel : ∀ k, k0_off3 k = ![(3 : Fin 4).val, 256 * k.val, 0]) k

section Early
variable (k : Fin k0_t2_loop.trips) (n : Fin 16)
theorem off4 (h : n.val = k.val) : k0_off4 k = ![0, 256 * n.val, 0] := by
  rw [h]; exact (by decide +kernel : ∀ k, k0_off4 k = ![0, 256 * k.val, 0]) k
theorem off5 (h : n.val = k.val) : k0_off5 k = ![256 * n.val, 0] := by
  rw [h]; exact (by decide +kernel : ∀ k, k0_off5 k = ![256 * k.val, 0]) k
theorem off6 (h : n.val = k.val) : k0_off6 k = ![0, n.val, 0, 0] := by
  rw [h]; exact (by decide +kernel : ∀ k, k0_off6 k = ![0, k.val, 0, 0]) k
theorem off7 (h : n.val = k.val) : k0_off7 k = ![256 * n.val, 0] := by
  rw [h]; exact (by decide +kernel : ∀ k, k0_off7 k = ![256 * k.val, 0]) k
theorem off8 (h : n.val = k.val) : k0_off8 k = ![(0 : Fin 4).val, 256 * n.val, 0] := by
  rw [h]; exact (by decide +kernel : ∀ k, k0_off8 k = ![(0 : Fin 4).val, 256 * k.val, 0]) k
theorem off9 (h : n.val = k.val) : k0_off9 k = ![(1 : Fin 4).val, 256 * n.val, 0] := by
  rw [h]; exact (by decide +kernel : ∀ k, k0_off9 k = ![(1 : Fin 4).val, 256 * k.val, 0]) k
theorem off10 (h : n.val = k.val) : k0_off10 k = ![(2 : Fin 4).val, 256 * n.val, 0] := by
  rw [h]; exact (by decide +kernel : ∀ k, k0_off10 k = ![(2 : Fin 4).val, 256 * k.val, 0]) k
theorem off11 (h : n.val = 15 - k.val) : k0_off11 k = ![0, 256 * n.val, 0] := by
  rw [h]; exact (by decide +kernel : ∀ k, k0_off11 k = ![0, 256 * (15 - k.val), 0]) k
theorem off12 (h : n.val = 15 - k.val) : k0_off12 k = ![256 * n.val, 0] := by
  rw [h]; exact (by decide +kernel : ∀ k, k0_off12 k = ![256 * (15 - k.val), 0]) k
theorem off13 (h : n.val = 15 - k.val) : k0_off13 k = ![0, n.val, 0, 0] := by
  rw [h]; exact (by decide +kernel : ∀ k, k0_off13 k = ![0, 15 - k.val, 0, 0]) k
theorem off14 (h : n.val = 15 - k.val) : k0_off14 k = ![(1 : Fin 4).val, 256 * n.val, 0] := by
  rw [h]; exact (by decide +kernel : ∀ k, k0_off14 k = ![(1 : Fin 4).val, 256 * (15 - k.val), 0]) k
theorem off15 (h : n.val = 15 - k.val) : k0_off15 k = ![(2 : Fin 4).val, 256 * n.val, 0] := by
  rw [h]; exact (by decide +kernel : ∀ k, k0_off15 k = ![(2 : Fin 4).val, 256 * (15 - k.val), 0]) k
end Early

section Late
variable (k : Fin k0_t3_loop.trips) (n : Fin 16)
theorem off16 (h : n.val = 8 + k.val) : k0_off16 k = ![0, 256 * n.val, 0] := by
  rw [h]; exact (by decide +kernel : ∀ k, k0_off16 k = ![0, 256 * (8 + k.val), 0]) k
theorem off17 (h : n.val = 8 + k.val) : k0_off17 k = ![256 * n.val, 0] := by
  rw [h]; exact (by decide +kernel : ∀ k, k0_off17 k = ![256 * (8 + k.val), 0]) k
theorem off18 (h : n.val = 8 + k.val) : k0_off18 k = ![0, n.val, 0, 0] := by
  rw [h]; exact (by decide +kernel : ∀ k, k0_off18 k = ![0, 8 + k.val, 0, 0]) k
theorem off19 (h : n.val = 8 + k.val) : k0_off19 k = ![256 * n.val, 0] := by
  rw [h]; exact (by decide +kernel : ∀ k, k0_off19 k = ![256 * (8 + k.val), 0]) k
theorem off20 (h : n.val = 8 + k.val) : k0_off20 k = ![(0 : Fin 4).val, 256 * n.val, 0] := by
  rw [h]; exact (by decide +kernel : ∀ k, k0_off20 k = ![(0 : Fin 4).val, 256 * (8 + k.val), 0]) k
theorem off21 (h : n.val = 8 + k.val) : k0_off21 k = ![(1 : Fin 4).val, 256 * n.val, 0] := by
  rw [h]; exact (by decide +kernel : ∀ k, k0_off21 k = ![(1 : Fin 4).val, 256 * (8 + k.val), 0]) k
theorem off22 (h : n.val = 8 + k.val) : k0_off22 k = ![(2 : Fin 4).val, 256 * n.val, 0] := by
  rw [h]; exact (by decide +kernel : ∀ k, k0_off22 k = ![(2 : Fin 4).val, 256 * (8 + k.val), 0]) k
theorem off23 (h : n.val = 7 - k.val) : k0_off23 k = ![0, 256 * n.val, 0] := by
  rw [h]; exact (by decide +kernel : ∀ k, k0_off23 k = ![0, 256 * (7 - k.val), 0]) k
theorem off24 (h : n.val = 7 - k.val) : k0_off24 k = ![256 * n.val, 0] := by
  rw [h]; exact (by decide +kernel : ∀ k, k0_off24 k = ![256 * (7 - k.val), 0]) k
theorem off25 (h : n.val = 7 - k.val) : k0_off25 k = ![0, n.val, 0, 0] := by
  rw [h]; exact (by decide +kernel : ∀ k, k0_off25 k = ![0, 7 - k.val, 0, 0]) k
theorem off26 (h : n.val = 7 - k.val) : k0_off26 k = ![256 * n.val, 0] := by
  rw [h]; exact (by decide +kernel : ∀ k, k0_off26 k = ![256 * (7 - k.val), 0]) k
theorem off27 (h : n.val = 7 - k.val) : k0_off27 k = ![(1 : Fin 4).val, 256 * n.val, 0] := by
  rw [h]; exact (by decide +kernel : ∀ k, k0_off27 k = ![(1 : Fin 4).val, 256 * (7 - k.val), 0]) k
theorem off28 (h : n.val = 7 - k.val) : k0_off28 k = ![(2 : Fin 4).val, 256 * n.val, 0] := by
  rw [h]; exact (by decide +kernel : ∀ k, k0_off28 k = ![(2 : Fin 4).val, 256 * (7 - k.val), 0]) k
end Late

/-! ## The first loop: the gate and the norm -/

theorem trip1_g (k : Fin k0_t1_loop.trips) (n : Fin 16) (hn : n.val = k.val) (f : M.a13.view.ty.Contents (Elt F)) (L : List (View.Piece (Elt F) S4x4096x256 .bf16)) :
    M.a13.view.read (Elt F) (M.a13.view.writes (Elt F) f ((trip1 M c i B k).1 ++ L))
      = setW (M.a13.view.read (Elt F) (M.a13.view.writes (Elt F) f L)) 3 n (B.dg n) := by
  unfold trip1 tripL_k0_t1 trip_k0_t1
  dsimp only
  rw [List.singleton_append, View.read_writes_cons_put _ _ _ _ _ (off3 k n hn)]
  rw [View.readAt_unit _ _ _ (off1 k n hn) (rows_in n), View.readAt_unit _ _ _ (off2 k n hn) (chunk_in n),
    View.readAt_unit _ _ _ (off1 k n hn) (rows_in n), M.h1.read_unread, M.h2.read_unread, M.h8.read_unread]
  rfl

theorem trip1_R (k : Fin k0_t1_loop.trips) (n : Fin 16) (hn : n.val = k.val) (f : M.a15.view.ty.Contents (Elt F)) (L : List (View.Piece (Elt F) S4096x256 .bf16)) :
    M.a15.view.read (Elt F) (M.a15.view.writes (Elt F) f ((trip1 M c i B k).2 ++ L))
      = VecWindow.put (M.a15.view.read (Elt F) (M.a15.view.writes (Elt F) f L)) ![256 * n.val, 0] ![256, 256] (B.dR n) := by
  unfold trip1 tripL_k0_t1 trip_k0_t1
  dsimp only
  rw [List.singleton_append, View.read_writes_cons_put _ _ _ _ _ (off1 k n hn)]
  unfold trip_k0_t1.sl.r trip_k0_t1.sl.r_1 trip_k0_t1.sl.r_2 trip_k0_t1.sl.r_3
  rw [View.readAt_unit _ _ _ (off1 k n hn) (rows_in n), View.readAt_unit _ _ _ (off2 k n hn) (chunk_in n),
    View.readAt_unit _ _ _ (off1 k n hn) (rows_in n), M.h1.read_unread, M.h2.read_unread, M.h8.read_unread]
  rfl

/-- The first loop's trips: the gate's gradient stored and the gradient of the output before its norm kept. -/
theorem loop1 (G : M.a13.view.ty.Contents (Elt F)) (G15 : M.a15.view.ty.Contents (Elt F)) (k : ℕ) (hk : k ≤ 16) :
    (∀ n : Fin 16, n.val < k → W 3 n (M.a13.view.read (Elt F) (M.a13.view.writes (Elt F) G (sofar1 M c i B k).1)) = B.dg n)
    ∧ ∀ n : Fin 16, n.val < k → VecWindow.window (M.a15.view.read (Elt F) (M.a15.view.writes (Elt F) G15 (sofar1 M c i B k).2))
        ![256 * n.val, 0] ![256, 256] (rows_in n) = B.dR n := by
  induction k with
  | zero => exact ⟨fun n h => absurd h (Nat.not_lt_zero _), fun n h => absurd h (Nat.not_lt_zero _)⟩
  | succ k ih =>
    have ih := ih (by omega)
    have hs := pb_k0_t1_succ (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 B.lgf B.lgb (M.h1.unread B.x1) (M.h2.unread B.x2) (M.h8.unread B.x8) ⟨k, hk⟩
    unfold sofar1
    rw [hs]
    constructor
    · intro n hn
      rw [trip1_g M c i B ⟨k, hk⟩ ⟨k, hk⟩ rfl, W_set]
      split
      · next h => rw [h.2]
      · next h => exact ih.1 n (by have : n.val ≠ k := fun e => h ⟨rfl, Fin.ext e⟩; omega)
    · intro n hn
      rw [trip1_R M c i B ⟨k, hk⟩ ⟨k, hk⟩ rfl]
      by_cases h : n.val = k
      · obtain rfl : n = ⟨k, hk⟩ := Fin.ext h
        exact VecWindow.window_put_same _ _ _ _ _
      · refine (VecWindow.window_put_of_disjoint _ _ _ _ _ _ _ 0 ?_).trans (ih.2 n (by omega))
        show 256 * n.val + 256 ≤ 256 * k ∨ 256 * k + 256 ≤ 256 * n.val
        omega

/-! ## What the trips' loads read -/

section Loads
variable {M B} {X15 : M.a15.view.ty.Contents (Elt F)}
  (hX : ∀ n : Fin 16, VecWindow.window (M.a15.view.read (Elt F) X15) ![256 * n.val, 0] ![256, 256] (rows_in n) = B.dR n)
  {f16 : M.a16.view.ty.Contents (Elt F)} {f17 : M.a17.view.ty.Contents (Elt F)} {f18 : M.a18.view.ty.Contents (Elt F)}

theorem ld3 {off : Fin 4 → ℕ} (n : Fin 16) (h : off = ![0, n.val, 0, 0]) (inb) :
    M.a3.view.readAt (Elt F) (Rect.unit off ![1, 1, 256, 256] inb).toLoadRect (M.h3.unread B.x3) = B.sf n := by
  rw [View.readAt_unit _ _ inb h (state_in n), M.h3.read_unread]; rfl
theorem ld4 {off : Fin 4 → ℕ} (n : Fin 16) (h : off = ![0, n.val, 0, 0]) (inb) :
    M.a4.view.readAt (Elt F) (Rect.unit off ![1, 1, 256, 256] inb).toLoadRect (M.h4.unread B.x4) = B.sb n := by
  rw [View.readAt_unit _ _ inb h (state_in n), M.h4.read_unread]; rfl
theorem ld5 {off : Fin 3 → ℕ} (n : Fin 16) (h : off = ![0, 256 * n.val, 0]) (inb) :
    M.a5.view.readAt (Elt F) (Rect.unit off ![1, 256, 256] inb).toLoadRect (M.h5.unread B.x5) = B.q n := by
  rw [View.readAt_unit _ _ inb h (chunk_in n), M.h5.read_unread]; rfl
theorem ld6 {off : Fin 3 → ℕ} (n : Fin 16) (h : off = ![0, 256 * n.val, 0]) (inb) :
    M.a6.view.readAt (Elt F) (Rect.unit off ![1, 256, 256] inb).toLoadRect (M.h6.unread B.x6) = B.k n := by
  rw [View.readAt_unit _ _ inb h (chunk_in n), M.h6.read_unread]; rfl
theorem ld7 {off : Fin 3 → ℕ} (n : Fin 16) (h : off = ![0, 256 * n.val, 0]) (inb) :
    M.a7.view.readAt (Elt F) (Rect.unit off ![1, 256, 256] inb).toLoadRect (M.h7.unread B.x7) = B.v n := by
  rw [View.readAt_unit _ _ inb h (chunk_in n), M.h7.read_unread]; rfl
theorem ld10 {off : Fin 2 → ℕ} (n : Fin 16) (h : off = ![256 * n.val, 0]) (inb) :
    M.a10.view.readAt (Elt F) (Rect.unit off ![256, 128] inb).toLoadRect (M.h10.unread B.x10) = B.co n := by
  rw [View.readAt_unit _ _ inb h (half_in n), M.h10.read_unread]; rfl
theorem ld11 {off : Fin 2 → ℕ} (n : Fin 16) (h : off = ![256 * n.val, 0]) (inb) :
    M.a11.view.readAt (Elt F) (Rect.unit off ![256, 128] inb).toLoadRect (M.h11.unread B.x11) = B.si n := by
  rw [View.readAt_unit _ _ inb h (half_in n), M.h11.read_unread]; rfl
include hX in
theorem ld15 {off : Fin 2 → ℕ} (n : Fin 16) (h : off = ![256 * n.val, 0]) (inb) :
    M.a15.view.readAt (Elt F) (Rect.unit off ![256, 256] inb).toLoadRect X15 = B.dR n := by
  rw [View.readAt_unit _ _ inb h (rows_in n), hX]
theorem ld16 {x : Vec F S256x256 .f32} (h : M.a16.view.read (Elt F) f16 = x) (inb) :
    M.a16.view.readAt (Elt F) (Rect.unit ![0, 0] ![256, 256] inb).toLoadRect f16 = x :=
  (View.readAt_full _ _ _).trans h
theorem ld17 {x : Vec F S256x256 .f32} (h : M.a17.view.read (Elt F) f17 = x) (inb) :
    M.a17.view.readAt (Elt F) (Rect.unit ![0, 0] ![256, 256] inb).toLoadRect f17 = x :=
  (View.readAt_full _ _ _).trans h

theorem acc_row0 (B : Blk F) (n : ℕ) : VecWindow.window (B.acc n) ![0, 0] ![1, 256] row0_in = B.row0 n := VecWindow.window_put_same _ _ _ _ _
theorem acc_row1 (B : Blk F) (n : ℕ) : VecWindow.window (B.acc n) ![1, 0] ![1, 256] row1_in = B.row1 n :=
  (VecWindow.window_put_of_disjoint _ _ _ _ _ _ _ 0 (by decide)).trans (VecWindow.window_put_same _ _ _ _ _)

theorem ld18_0 {n : ℕ} (h : M.a18.view.read (Elt F) f18 = B.acc n) (inb) :
    M.a18.view.readAt (Elt F) (Rect.unit ![0, 0] ![1, 256] inb).toLoadRect f18 = B.row0 n := by
  rw [View.readAt_unit _ _ inb rfl row0_in, h, acc_row0]
theorem ld18_1 {n : ℕ} (h : M.a18.view.read (Elt F) f18 = B.acc n) (inb) :
    M.a18.view.readAt (Elt F) (Rect.unit ![1, 0] ![1, 256] inb).toLoadRect f18 = B.row1 n := by
  rw [View.readAt_unit _ _ inb rfl row1_in, h, acc_row1]
theorem ld18_cov (a b : Vec F S1x256 .f32) (inb inb' inb'') :
    M.a18.view.readCov (Val := Elt F) [⟨Rect.unit ![1, 0] ![1, 256] inb, b⟩, ⟨Rect.unit ![0, 0] ![1, 256] inb', a⟩] (Rect.unit ![0, 0] ![1, 256] inb'').toLoadRect = a := by
  unfold View.readCov
  rw [View.readAt_unit _ _ inb'' rfl row0_in, View.read_writes_cons_put _ _ _ _ _ rfl, View.read_writes_cons_put _ _ _ _ _ rfl]
  refine (VecWindow.window_put_of_disjoint _ _ _ _ _ _ _ 0 (by decide)).trans (VecWindow.window_put_same _ _ _ _ _)
end Loads

/-! ## The second loop: the first eight steps of the two walks -/

section Early2
variable {M B} {X15 : M.a15.view.ty.Contents (Elt F)}
  (hX : ∀ n : Fin 16, VecWindow.window (M.a15.view.read (Elt F) X15) ![256 * n.val, 0] ![256, 256] (rows_in n) = B.dR n)
  (k : Fin k0_t2_loop.trips) (n n' : Fin 16) (hn : n.val = k.val) (hn' : n'.val = 15 - k.val)
  (f13 : M.a13.view.ty.Contents (Elt F)) {f16 : M.a16.view.ty.Contents (Elt F)} {f17 : M.a17.view.ty.Contents (Elt F)} {f18 : M.a18.view.ty.Contents (Elt F)}
  (h16 : M.a16.view.read (Elt F) f16 = B.gb n.val) (h17 : M.a17.view.read (Elt F) f17 = B.gf (15 - n'.val))

include hX hn hn' h16 h17 in
theorem trip2_d (f : M.a13.view.ty.Contents (Elt F)) (L : List (View.Piece (Elt F) S4x4096x256 .bf16)) :
    M.a13.view.read (Elt F) (M.a13.view.writes (Elt F) f ((trip2 M c i B X15 k f13 f16 f17 f18).1 ++ L))
      = setW (setW (setW (setW (setW (M.a13.view.read (Elt F) (M.a13.view.writes (Elt F) f L)) 0 n (B.dq n)) 1 n (B.kA0 n)) 2 n (B.vA0 n))
          1 n' (B.kD0 n')) 2 n' (B.vD0 n') := by
  unfold trip2 tripL_k0_t2 trip_k0_t2
  dsimp only
  simp only [List.cons_append, List.nil_append]
  rw [View.read_writes_cons_put _ _ _ _ _ (off15 k n' hn'), View.read_writes_cons_put _ _ _ _ _ (off14 k n' hn'),
    View.read_writes_cons_put _ _ _ _ _ (off10 k n hn), View.read_writes_cons_put _ _ _ _ _ (off9 k n hn),
    View.read_writes_cons_put _ _ _ _ _ (off8 k n hn)]
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.v283, trip_k0_t2.sl.v233, trip_k0_t2.sl.HW_arg18_2]
  simp only [ld5 n (off4 k n hn), ld6 n (off4 k n hn), ld7 n (off4 k n hn), ld15 hX n (off5 k n hn), ld3 n (off6 k n hn), ld4 n (off6 k n hn), ld10 n (off7 k n hn), ld11 n (off7 k n hn), ld5 n' (off11 k n' hn'), ld15 hX n' (off12 k n' hn'), ld6 n' (off11 k n' hn'), ld7 n' (off11 k n' hn'), ld3 n' (off13 k n' hn'), ld16 h16, ld17 h17]
  rfl

include hX hn h16 in
theorem trip2_gb (f : M.a16.view.ty.Contents (Elt F)) (L : List (View.Piece (Elt F) S256x256 .f32)) :
    M.a16.view.read (Elt F) (M.a16.view.writes (Elt F) f ((trip2 M c i B X15 k f13 f16 f17 f18).2.1 ++ L)) = B.gb (n.val + 1) := by
  have e : (Fin.ofNat 16 n.val) = n := Fin.ext (Nat.mod_eq_of_lt n.isLt)
  unfold trip2 tripL_k0_t2 trip_k0_t2
  dsimp only
  simp only [List.cons_append, List.nil_append]
  refine (View.read_writes_full _ _ _ _ _).trans ?_
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.v283, trip_k0_t2.sl.v233, trip_k0_t2.sl.HW_arg18_2]
  simp only [ld5 n (off4 k n hn), ld6 n (off4 k n hn), ld7 n (off4 k n hn), ld15 hX n (off5 k n hn), ld16 h16, Blk.gb, e]

include hX hn' h17 in
theorem trip2_gf (f : M.a17.view.ty.Contents (Elt F)) (L : List (View.Piece (Elt F) S256x256 .f32)) :
    M.a17.view.read (Elt F) (M.a17.view.writes (Elt F) f ((trip2 M c i B X15 k f13 f16 f17 f18).2.2.1 ++ L)) = B.gf (15 - n'.val + 1) := by
  have e : (Fin.ofNat 16 (15 - (15 - n'.val))) = n' := Fin.ext (by show (15 - (15 - n'.val)) % 16 = n'.val; omega)
  unfold trip2 tripL_k0_t2 trip_k0_t2
  dsimp only
  simp only [List.cons_append, List.nil_append]
  refine (View.read_writes_full _ _ _ _ _).trans ?_
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.v283, trip_k0_t2.sl.v233, trip_k0_t2.sl.HW_arg18_2]
  simp only [ld5 n' (off11 k n' hn'), ld15 hX n' (off12 k n' hn'), ld17 h17, Blk.gf, e]

include hX hn hn' h16 h17 in
theorem trip2_acc (h18 : M.a18.view.read (Elt F) f18 = B.acc n.val) (f : M.a18.view.ty.Contents (Elt F)) (L : List (View.Piece (Elt F) S8x256 .f32))
    (hL : M.a18.view.read (Elt F) (M.a18.view.writes (Elt F) f L) = B.acc n.val) :
    M.a18.view.read (Elt F) (M.a18.view.writes (Elt F) f ((trip2 M c i B X15 k f13 f16 f17 f18).2.2.2 ++ L)) = B.acc (n.val + 1) := by
  have e : (Fin.ofNat 16 n.val) = n := Fin.ext (Nat.mod_eq_of_lt n.isLt)
  have e' : (Fin.ofNat 16 (15 - n.val)) = n' := Fin.ext (by show (15 - n.val) % 16 = n'.val; omega)
  have hs := acc_step B n.val (B.row0A n (B.row0 n.val))
  rw [Blk.row0, Blk.row1, e, e'] at hs
  unfold trip2 tripL_k0_t2 trip_k0_t2
  dsimp only
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.v283, trip_k0_t2.sl.v233, trip_k0_t2.sl.HW_arg18_2]
  simp only [List.cons_append, List.nil_append]
  rw [View.read_writes_cons_put _ _ _ _ _ rfl, View.read_writes_cons_put _ _ _ _ _ rfl, View.read_writes_cons_put _ _ _ _ _ rfl, hL]
  simp only [ld18_cov, ld5 n (off4 k n hn), ld6 n (off4 k n hn), ld7 n (off4 k n hn), ld15 hX n (off5 k n hn), ld3 n (off6 k n hn), ld4 n (off6 k n hn), ld10 n (off7 k n hn), ld11 n (off7 k n hn), ld5 n' (off11 k n' hn'), ld15 hX n' (off12 k n' hn'), ld6 n' (off11 k n' hn'), ld7 n' (off11 k n' hn'), ld3 n' (off13 k n' hn'), ld16 h16, ld17 h17, ld18_0 h18, ld18_1 h18]
  exact hs
end Early2

/-! ## The third loop: the last eight steps, each completing what the other walk stored -/

section Late3
variable {M B}

theorem ld13 {off : Fin 3 → ℕ} (s : Fin 4) (n : Fin 16) (h : off = ![s.val, 256 * n.val, 0]) (inb) (f : M.a13.view.ty.Contents (Elt F)) :
    M.a13.view.readAt (Elt F) (Rect.unit off ![1, 256, 256] inb).toLoadRect f = W s n (M.a13.view.read (Elt F) f) :=
  View.readAt_unit _ _ inb h (slot_in s n)
theorem st13 {off : Fin 3 → ℕ} (s : Fin 4) (n : Fin 16) (h : off = ![s.val, 256 * n.val, 0]) (inb) (f : M.a13.view.ty.Contents (Elt F))
    (w : Vec F S1x256x256 .bf16) (L : List (View.Piece (Elt F) S4x4096x256 .bf16)) :
    M.a13.view.read (Elt F) (M.a13.view.writes (Elt F) f (⟨Rect.unit off ![1, 256, 256] inb, w⟩ :: L))
      = setW (M.a13.view.read (Elt F) (M.a13.view.writes (Elt F) f L)) s n w :=
  View.read_writes_cons_put _ _ _ _ _ h
theorem st13_nil (f : M.a13.view.ty.Contents (Elt F)) : M.a13.view.writes (Elt F) f [] = f := rfl

variable {X15 : M.a15.view.ty.Contents (Elt F)}
  (hX : ∀ n : Fin 16, VecWindow.window (M.a15.view.read (Elt F) X15) ![256 * n.val, 0] ![256, 256] (rows_in n) = B.dR n)
  (k : Fin k0_t3_loop.trips) (n n' : Fin 16) (hn : n.val = 8 + k.val) (hn' : n'.val = 7 - k.val)
  (f13 : M.a13.view.ty.Contents (Elt F)) {f16 : M.a16.view.ty.Contents (Elt F)} {f17 : M.a17.view.ty.Contents (Elt F)} {f18 : M.a18.view.ty.Contents (Elt F)}
  (h16 : M.a16.view.read (Elt F) f16 = B.gb n.val) (h17 : M.a17.view.read (Elt F) f17 = B.gf (15 - n'.val))

include hX hn hn' h16 h17 in
theorem trip3_d (hkD : W 1 n (M.a13.view.read (Elt F) f13) = B.kD0 n) (hvD : W 2 n (M.a13.view.read (Elt F) f13) = B.vD0 n)
    (hkA : W 1 n' (M.a13.view.read (Elt F) f13) = B.kA0 n') (hvA : W 2 n' (M.a13.view.read (Elt F) f13) = B.vA0 n')
    (f : M.a13.view.ty.Contents (Elt F)) (L : List (View.Piece (Elt F) S4x4096x256 .bf16)) :
    M.a13.view.read (Elt F) (M.a13.view.writes (Elt F) f ((trip3 M c i B X15 k f13 f16 f17 f18).1 ++ L))
      = setW (setW (setW (setW (setW (M.a13.view.read (Elt F) (M.a13.view.writes (Elt F) f L)) 0 n (B.dq n)) 1 n (B.kF n)) 2 n (B.vF n))
          1 n' (B.kF n')) 2 n' (B.vF n') := by
  have hk : k.val < 8 := k.isLt
  have ne : n' ≠ n := fun e => by subst e; omega
  have eF : B.kF n = k0_pay83 (B.kA n) (B.co n) (B.si n) (B.kD0 n) := by unfold Blk.kF; rw [if_neg (by omega)]
  have evF : B.vF n = k0_pay84 (B.vA n) (B.vD0 n) := by unfold Blk.vF; rw [if_neg (by omega)]
  have eF' : B.kF n' = k0_pay95 (k0_pay93 B.fk (B.v n') (B.gf (15 - n'.val))) (B.co n') (B.si n') (B.kA0 n') := by
    unfold Blk.kF; rw [if_pos (by omega)]
  have evF' : B.vF n' = k0_pay96 (k0_pay94 B.fk (B.k n') (B.gf (15 - n'.val))) (B.vA0 n') := by unfold Blk.vF; rw [if_pos (by omega)]
  rw [eF, evF, eF', evF']
  unfold trip3 tripL_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.v310, trip_k0_t3.sl.v260, trip_k0_t3.sl.v245, trip_k0_t3.sl.v224, trip_k0_t3.sl.HW_arg13_3, trip_k0_t3.sl.HW_arg13_4, trip_k0_t3.sl.HW_arg18_2]
  simp only [List.cons_append, List.nil_append]
  simp only [ld5 n (off16 k n hn), ld6 n (off16 k n hn), ld7 n (off16 k n hn), ld15 hX n (off17 k n hn), ld3 n (off18 k n hn), ld4 n (off18 k n hn), ld10 n (off19 k n hn), ld11 n (off19 k n hn), ld13 1 n (off21 k n hn), ld13 2 n (off22 k n hn), ld5 n' (off23 k n' hn'), ld15 hX n' (off24 k n' hn'), ld6 n' (off23 k n' hn'), ld7 n' (off23 k n' hn'), ld3 n' (off25 k n' hn'), ld10 n' (off26 k n' hn'), ld11 n' (off26 k n' hn'), ld13 1 n' (off27 k n' hn'), ld13 2 n' (off28 k n' hn'), ld16 h16, ld17 h17, st13 0 n (off20 k n hn), st13 1 n (off21 k n hn), st13 2 n (off22 k n hn), st13 1 n' (off27 k n' hn'), st13 2 n' (off28 k n' hn'), st13_nil, W_set, ne, hkD, hvD, hkA, hvA, and_false, and_true, Fin.reduceEq, reduceIte]
  rfl

include hX hn h16 in
theorem trip3_gb (f : M.a16.view.ty.Contents (Elt F)) (L : List (View.Piece (Elt F) S256x256 .f32)) :
    M.a16.view.read (Elt F) (M.a16.view.writes (Elt F) f ((trip3 M c i B X15 k f13 f16 f17 f18).2.1 ++ L)) = B.gb (n.val + 1) := by
  have e : (Fin.ofNat 16 n.val) = n := Fin.ext (Nat.mod_eq_of_lt n.isLt)
  unfold trip3 tripL_k0_t3 trip_k0_t3
  dsimp only
  simp only [List.cons_append, List.nil_append]
  refine (View.read_writes_full _ _ _ _ _).trans ?_
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.v310, trip_k0_t3.sl.v260, trip_k0_t3.sl.v245, trip_k0_t3.sl.v224, trip_k0_t3.sl.HW_arg13_3, trip_k0_t3.sl.HW_arg13_4, trip_k0_t3.sl.HW_arg18_2]
  simp only [ld5 n (off16 k n hn), ld6 n (off16 k n hn), ld7 n (off16 k n hn), ld15 hX n (off17 k n hn), ld16 h16, Blk.gb, e]
  rfl

include hX hn' h17 in
theorem trip3_gf (f : M.a17.view.ty.Contents (Elt F)) (L : List (View.Piece (Elt F) S256x256 .f32)) :
    M.a17.view.read (Elt F) (M.a17.view.writes (Elt F) f ((trip3 M c i B X15 k f13 f16 f17 f18).2.2.1 ++ L)) = B.gf (15 - n'.val + 1) := by
  have e : (Fin.ofNat 16 (15 - (15 - n'.val))) = n' := Fin.ext (by show (15 - (15 - n'.val)) % 16 = n'.val; omega)
  unfold trip3 tripL_k0_t3 trip_k0_t3
  dsimp only
  simp only [List.cons_append, List.nil_append]
  refine (View.read_writes_full _ _ _ _ _).trans ?_
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.v310, trip_k0_t3.sl.v260, trip_k0_t3.sl.v245, trip_k0_t3.sl.v224, trip_k0_t3.sl.HW_arg13_3, trip_k0_t3.sl.HW_arg13_4, trip_k0_t3.sl.HW_arg18_2]
  simp only [ld5 n' (off23 k n' hn'), ld15 hX n' (off24 k n' hn'), ld17 h17, Blk.gf, e]
  rfl

include hX hn hn' h16 h17 in
theorem trip3_acc (h18 : M.a18.view.read (Elt F) f18 = B.acc n.val) (f : M.a18.view.ty.Contents (Elt F)) (L : List (View.Piece (Elt F) S8x256 .f32))
    (hL : M.a18.view.read (Elt F) (M.a18.view.writes (Elt F) f L) = B.acc n.val) :
    M.a18.view.read (Elt F) (M.a18.view.writes (Elt F) f ((trip3 M c i B X15 k f13 f16 f17 f18).2.2.2 ++ L)) = B.acc (n.val + 1) := by
  have hk : k.val < 8 := k.isLt
  have e : (Fin.ofNat 16 n.val) = n := Fin.ext (Nat.mod_eq_of_lt n.isLt)
  have e' : (Fin.ofNat 16 (15 - n.val)) = n' := Fin.ext (by show (15 - n.val) % 16 = n'.val; omega)
  have hs := acc_step B n.val (B.row0A n (B.row0 n.val))
  rw [Blk.row0, Blk.row1, e, e'] at hs
  unfold trip3 tripL_k0_t3 trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.v310, trip_k0_t3.sl.v260, trip_k0_t3.sl.v245, trip_k0_t3.sl.v224, trip_k0_t3.sl.HW_arg13_3, trip_k0_t3.sl.HW_arg13_4, trip_k0_t3.sl.HW_arg18_2]
  simp only [List.cons_append, List.nil_append]
  rw [View.read_writes_cons_put _ _ _ _ _ rfl, View.read_writes_cons_put _ _ _ _ _ rfl, View.read_writes_cons_put _ _ _ _ _ rfl, hL]
  simp only [ld18_cov, ld5 n (off16 k n hn), ld6 n (off16 k n hn), ld7 n (off16 k n hn), ld15 hX n (off17 k n hn), ld3 n (off18 k n hn), ld4 n (off18 k n hn), ld10 n (off19 k n hn), ld11 n (off19 k n hn), ld13 1 n (off21 k n hn), ld13 2 n (off22 k n hn), ld5 n' (off23 k n' hn'), ld15 hX n' (off24 k n' hn'), ld6 n' (off23 k n' hn'), ld7 n' (off23 k n' hn'), ld3 n' (off25 k n' hn'), ld10 n' (off26 k n' hn'), ld11 n' (off26 k n' hn'), ld13 1 n' (off27 k n' hn'), ld13 2 n' (off28 k n' hn'), ld16 h16, ld17 h17, ld18_0 h18, ld18_1 h18]
  exact hs
end Late3

/-! ## The two loops, whole -/

section Loops
variable {M B} {X15 : M.a15.view.ty.Contents (Elt F)}
  (hX : ∀ n : Fin 16, VecWindow.window (M.a15.view.read (Elt F) X15) ![256 * n.val, 0] ![256, 256] (rows_in n) = B.dR n)
  (G13 : M.a13.view.ty.Contents (Elt F)) (G16 : M.a16.view.ty.Contents (Elt F)) (G17 : M.a17.view.ty.Contents (Elt F)) (G18 : M.a18.view.ty.Contents (Elt F))

include hX in
theorem loop2 (h13 : Inv B 0 (M.a13.view.read (Elt F) G13)) (h16 : M.a16.view.read (Elt F) G16 = B.gb 0) (h17 : M.a17.view.read (Elt F) G17 = B.gf 0)
    (h18 : M.a18.view.read (Elt F) G18 = B.acc 0) (k : ℕ) (hk : k ≤ 8) :
    Inv B k (M.a13.view.read (Elt F) (M.a13.view.writes (Elt F) G13 (sofar2 M c i B X15 G13 G16 G17 G18 k).1))
    ∧ M.a16.view.read (Elt F) (M.a16.view.writes (Elt F) G16 (sofar2 M c i B X15 G13 G16 G17 G18 k).2.1) = B.gb k
    ∧ M.a17.view.read (Elt F) (M.a17.view.writes (Elt F) G17 (sofar2 M c i B X15 G13 G16 G17 G18 k).2.2.1) = B.gf k
    ∧ M.a18.view.read (Elt F) (M.a18.view.writes (Elt F) G18 (sofar2 M c i B X15 G13 G16 G17 G18 k).2.2.2) = B.acc k := by
  induction k with
  | zero => exact ⟨h13, h16, h17, h18⟩
  | succ k ih =>
    obtain ⟨i13, i16, i17, i18⟩ := ih (by omega)
    have hs := pb_k0_t2_succ (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 (k0_pay101 (F := F)) (k0_pay102 (F := F)) B.dmat B.dmatT (k0_pay105 (F := F)) B.fq B.fk B.bq B.bk B.lamf B.lamb (M.h3.unread B.x3) (M.h4.unread B.x4) (M.h5.unread B.x5) (M.h6.unread B.x6) (M.h7.unread B.x7) (M.h10.unread B.x10) (M.h11.unread B.x11) X15 G13 G16 G17 G18 ⟨k, hk⟩
    have e17 : 15 - (15 - k) = k := by omega
    unfold sofar2
    rw [hs]
    refine ⟨?_, ?_, ?_, ?_⟩
    · rw [trip2_d c i hX ⟨k, hk⟩ ⟨k, by omega⟩ ⟨15 - k, by omega⟩ rfl rfl _ i16 (i17.trans (by rw [e17]))]
      exact i13.early hk _ _ rfl rfl
    · exact trip2_gb c i hX ⟨k, hk⟩ ⟨k, by omega⟩ rfl _ i16 _ _
    · exact (trip2_gf c i hX ⟨k, hk⟩ ⟨15 - k, by omega⟩ rfl _ (i17.trans (by rw [e17])) _ _).trans (by rw [e17])
    · exact trip2_acc c i hX ⟨k, hk⟩ ⟨k, by omega⟩ ⟨15 - k, by omega⟩ rfl rfl _ i16 (i17.trans (by rw [e17])) i18 _ _ i18

include hX in
theorem loop3 (h13 : Inv B 8 (M.a13.view.read (Elt F) G13)) (h16 : M.a16.view.read (Elt F) G16 = B.gb 8) (h17 : M.a17.view.read (Elt F) G17 = B.gf 8)
    (h18 : M.a18.view.read (Elt F) G18 = B.acc 8) (k : ℕ) (hk : k ≤ 8) :
    Inv B (8 + k) (M.a13.view.read (Elt F) (M.a13.view.writes (Elt F) G13 (sofar3 M c i B X15 G13 G16 G17 G18 k).1))
    ∧ M.a16.view.read (Elt F) (M.a16.view.writes (Elt F) G16 (sofar3 M c i B X15 G13 G16 G17 G18 k).2.1) = B.gb (8 + k)
    ∧ M.a17.view.read (Elt F) (M.a17.view.writes (Elt F) G17 (sofar3 M c i B X15 G13 G16 G17 G18 k).2.2.1) = B.gf (8 + k)
    ∧ M.a18.view.read (Elt F) (M.a18.view.writes (Elt F) G18 (sofar3 M c i B X15 G13 G16 G17 G18 k).2.2.2) = B.acc (8 + k) := by
  induction k with
  | zero => exact ⟨h13, h16, h17, h18⟩
  | succ k ih =>
    obtain ⟨i13, i16, i17, i18⟩ := ih (by omega)
    have hs := pb_k0_t3_succ (F := F) Variants.none c none i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18 (k0_pay101 (F := F)) (k0_pay102 (F := F)) B.dmat B.dmatT (k0_pay105 (F := F)) B.fq B.fk B.bq B.bk B.lamf B.lamb (M.h3.unread B.x3) (M.h4.unread B.x4) (M.h5.unread B.x5) (M.h6.unread B.x6) (M.h7.unread B.x7) (M.h10.unread B.x10) (M.h11.unread B.x11) X15 G13 G16 G17 G18 ⟨k, hk⟩
    have e17 : 15 - (7 - k) = 8 + k := by omega
    unfold sofar3
    rw [hs]
    refine ⟨?_, ?_, ?_, ?_⟩
    · rw [trip3_d c i hX ⟨k, hk⟩ ⟨8 + k, by omega⟩ ⟨7 - k, by omega⟩ rfl rfl _ i16 (i17.trans (by rw [e17]))
        (i13.kD _ (by show 8 + k ≤ 8 + k; omega) (by show 16 ≤ 8 + k + (8 + k); omega)) (i13.vD _ (by show 8 + k ≤ 8 + k; omega) (by show 16 ≤ 8 + k + (8 + k); omega))
        (i13.kA _ (by show 7 - k < 8 + k; omega) (by show 7 - k + (8 + k) < 16; omega)) (i13.vA _ (by show 7 - k < 8 + k; omega) (by show 7 - k + (8 + k) < 16; omega))]
      exact i13.late (by omega) (by omega) _ _ rfl (by show 7 - k = 15 - (8 + k); omega)
    · exact trip3_gb c i hX ⟨k, hk⟩ ⟨8 + k, by omega⟩ rfl _ i16 _ _
    · exact (trip3_gf c i hX ⟨k, hk⟩ ⟨7 - k, by omega⟩ rfl _ (i17.trans (by rw [e17])) _ _).trans (by rw [e17]; rfl)
    · exact trip3_acc c i hX ⟨k, hk⟩ ⟨8 + k, by omega⟩ ⟨7 - k, by omega⟩ rfl rfl _ i16 (i17.trans (by rw [e17])) i18 _ _ i18
end Loops

end Cert.RetStep

end
-- ==== Proof.RetBody.lean ====
/-
  The retention gradient's body, run over any staged buffers: whatever the buffers it writes held before, it leaves the
  four stored gradients at `Blk.dp` and the decay's at `Blk.dd`.
-/
module

public import proofs.«01_k».proof.Proof.Gen.RetIdeal.Frame
public import Idealize.ShloMosaic.Lib.Pointwise.Index
public import proofs.«01_k».proof.Proof.RetRun

@[expose] public section

set_option maxRecDepth 16384

noncomputable section

namespace Cert.RetStep

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Blk
variable (B : Blk F)

/-- Chunk `n` of slot `s` of what the body leaves: the q, k, v and gate gradients. -/
def dpAt (s : Fin 4) (n : Fin 16) : Vec F S1x256x256 .bf16 :=
  match s with
  | 0 => B.dq n
  | 1 => B.kF n
  | 2 => B.vF n
  | 3 => B.dg n

/-- The four stored gradients of one head. -/
def dp : Vec F S4x4096x256 .bf16 := fun y =>
  have h1 : (y 1).val < 4096 := (y 1).isLt
  B.dpAt ⟨(y 0).val, (y 0).isLt⟩ ⟨(y 1).val / 256, by omega⟩
    (ix3 (n0 := 1) (n1 := 256) (n2 := 256) 0 ⟨(y 1).val % 256, Nat.mod_lt _ (by decide)⟩ ⟨(y 2).val, (y 2).isLt⟩)

/-- The head's row of the decay gradients. -/
def dd (i : grid0.Coords) : Vec F S1x8x128 .f32 := k0_pay9 (BitVec.ofNat 32 (i 0).val) (B.acc 16) B.dl0

theorem W_dp (s : Fin 4) (n : Fin 16) : W s n B.dp = B.dpAt s n := by
  funext y
  have hy0 : (y 0).val < 1 := (y 0).isLt
  have hy1 : (y 1).val < 256 := (y 1).isLt
  have hs : (⟨s.val + 1 * (y 0).val, by omega⟩ : Fin 4) = s := Fin.ext (by show s.val + 1 * (y 0).val = s.val; omega)
  have hn : (⟨(256 * n.val + 1 * (y 1).val) / 256, by omega⟩ : Fin 16) = n :=
    Fin.ext (by show (256 * n.val + 1 * (y 1).val) / 256 = n.val; omega)
  have hi : ix3 (n0 := 1) (n1 := 256) (n2 := 256) 0 ⟨(256 * n.val + 1 * (y 1).val) % 256, Nat.mod_lt _ (by decide)⟩
      ⟨0 + 1 * (y 2).val, by have : (y 2).val < 256 := (y 2).isLt; omega⟩ = y := by
    refine funext fun a => Fin.ext ?_
    match a with
    | 0 => show 0 = (y 0).val; omega
    | 1 => show (256 * n.val + 1 * (y 1).val) % 256 = (y 1).val; omega
    | 2 => show 0 + 1 * (y 2).val = (y 2).val; omega
  show B.dpAt ⟨s.val + 1 * (y 0).val, _⟩ ⟨(256 * n.val + 1 * (y 1).val) / 256, _⟩ _ = _
  rw [hs, hn]
  exact congrArg _ hi
end Blk

theorem Inv.eq_dp {B : Blk F} {d : Vec F S4x4096x256 .bf16} (h : Inv B 16 d) : d = B.dp := by
  refine ext_W fun s n => ?_
  rw [B.W_dp]
  have hn := n.isLt
  match s with
  | 0 => exact h.q n hn
  | 1 => exact h.kF n hn (by omega)
  | 2 => exact h.vF n hn (by omega)
  | 3 => exact h.g n

/-- Putting a window's own values back changes nothing. -/
theorem put_window_self {s : Shape} {α : Type} (x : s.Idx → α) (off size : Fin s.rank → ℕ) (inb : ∀ a, off a + size a ≤ s.size a) :
    VecWindow.put x off size (VecWindow.window x off size inb) = x := by
  funext y
  unfold VecWindow.put
  split
  · next h =>
    refine congrArg x (funext fun a => Fin.ext ?_)
    show off a + 1 * ((y a).val - off a) = (y a).val
    have := (h a).1
    omega
  · rfl

section Final
variable (M : Bufs) (c : Dev nD) (i : grid0.Coords) (B : Blk F)
  (f13 : M.a13.view.ty.Contents (Elt F)) (f15 : M.a15.view.ty.Contents (Elt F))
  (H16 : List (View.Piece (Elt F) S256x256 .f32)) (H17 : List (View.Piece (Elt F) S256x256 .f32)) (H18 : List (View.Piece (Elt F) S8x256 .f32))

/-- The buffers after the first loop, and what the second and third store. -/
abbrev X15 := M.a15.view.writes (Elt F) f15 (sofar1 M c i B 16).2
abbrev D1 := M.a13.view.writes (Elt F) f13 (sofar1 M c i B 16).1
abbrev P2 := sofar2 M c i B (X15 M c i B f15) (D1 M c i B f13) (M.a16.view.writes (Elt F) M.a16.view.junk H16) (M.a17.view.writes (Elt F) M.a17.view.junk H17)
  (M.a18.view.writes (Elt F) M.a18.view.junk H18) 8
abbrev P3 := sofar3 M c i B (X15 M c i B f15) (M.a13.view.writes (Elt F) f13 ((P2 M c i B f13 f15 H16 H17 H18).1 ++ (sofar1 M c i B 16).1))
  (M.a16.view.writes (Elt F) M.a16.view.junk ((P2 M c i B f13 f15 H16 H17 H18).2.1 ++ H16))
  (M.a17.view.writes (Elt F) M.a17.view.junk ((P2 M c i B f13 f15 H16 H17 H18).2.2.1 ++ H17))
  (M.a18.view.writes (Elt F) M.a18.view.junk ((P2 M c i B f13 f15 H16 H17 H18).2.2.2 ++ H18)) 8

variable {H16 H17 H18}
  (e16 : M.a16.view.read (Elt F) (M.a16.view.writes (Elt F) M.a16.view.junk H16) = B.gb 0)
  (e17 : M.a17.view.read (Elt F) (M.a17.view.writes (Elt F) M.a17.view.junk H17) = B.gf 0)
  (e18 : M.a18.view.read (Elt F) (M.a18.view.writes (Elt F) M.a18.view.junk H18) = B.acc 0)

include e16 e17 e18 in
theorem final :
    M.a13.view.read (Elt F) (M.a13.view.writes (Elt F) f13 ((P3 M c i B f13 f15 H16 H17 H18).1 ++ ((P2 M c i B f13 f15 H16 H17 H18).1 ++ (sofar1 M c i B 16).1))) = B.dp
    ∧ M.a18.view.read (Elt F) (M.a18.view.writes (Elt F) M.a18.view.junk ((P3 M c i B f13 f15 H16 H17 H18).2.2.2 ++ ((P2 M c i B f13 f15 H16 H17 H18).2.2.2 ++ H18))) = B.acc 16 := by
  have l1 := loop1 M c i B f13 f15 16 le_rfl
  have hX := fun n : Fin 16 => l1.2 n n.isLt
  have h0 : Inv B 0 (M.a13.view.read (Elt F) (D1 M c i B f13)) :=
    { g := fun n => l1.1 n n.isLt
      q := fun n h => absurd h (Nat.not_lt_zero _)
      kA := fun n h => absurd h (Nat.not_lt_zero _)
      kD := fun n _ h => absurd h (by omega)
      kF := fun n h => absurd h (Nat.not_lt_zero _)
      vA := fun n h => absurd h (Nat.not_lt_zero _)
      vD := fun n _ h => absurd h (by omega)
      vF := fun n h => absurd h (Nat.not_lt_zero _) }
  have l2 := loop2 c i hX (D1 M c i B f13) _ _ _ h0 e16 e17 e18 8 le_rfl
  have l3 := loop3 c i hX (M.a13.view.writes (Elt F) f13 ((P2 M c i B f13 f15 H16 H17 H18).1 ++ (sofar1 M c i B 16).1))
    (M.a16.view.writes (Elt F) M.a16.view.junk ((P2 M c i B f13 f15 H16 H17 H18).2.1 ++ H16))
    (M.a17.view.writes (Elt F) M.a17.view.junk ((P2 M c i B f13 f15 H16 H17 H18).2.2.1 ++ H17))
    (M.a18.view.writes (Elt F) M.a18.view.junk ((P2 M c i B f13 f15 H16 H17 H18).2.2.2 ++ H18))
    (by rw [View.writes_append]; exact l2.1) (by rw [View.writes_append]; exact l2.2.1) (by rw [View.writes_append]; exact l2.2.2.1)
    (by rw [View.writes_append]; exact l2.2.2.2) 8 le_rfl
  constructor
  · rw [View.writes_append]; exact l3.1.eq_dp
  · rw [View.writes_append]; exact l3.2.2.2
end Final

set_option maxHeartbeats 4000000 in
/-- The body's triple. -/
theorem bodyRun (M : Bufs) (c : Dev nD) (i : grid0.Coords) (B : Blk F) (E : Set ℕ) (K : PUnit → sProp 𝕄) :
    iprop(owns (c : Thread nD τ) M.a1 fullShare B.x1 ∗ owns (c : Thread nD τ) M.a2 fullShare B.x2 ∗ owns (c : Thread nD τ) M.a3 fullShare B.x3 ∗ owns (c : Thread nD τ) M.a4 fullShare B.x4 ∗ owns (c : Thread nD τ) M.a5 fullShare B.x5 ∗ owns (c : Thread nD τ) M.a6 fullShare B.x6 ∗ owns (c : Thread nD τ) M.a7 fullShare B.x7 ∗ owns (c : Thread nD τ) M.a8 fullShare B.x8 ∗ owns (c : Thread nD τ) M.a10 fullShare B.x10 ∗ owns (c : Thread nD τ) M.a11 fullShare B.x11 ∗ owns (c : Thread nD τ) M.a12 fullShare B.x12 ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d) ∗ (∃ d, owns (c : Thread nD τ) M.a17 fullShare d) ∗ (∃ d, owns (c : Thread nD τ) M.a18 fullShare d) ∗ ((owns (c : Thread nD τ) M.a1 fullShare B.x1 ∗ owns (c : Thread nD τ) M.a2 fullShare B.x2 ∗ owns (c : Thread nD τ) M.a3 fullShare B.x3 ∗ owns (c : Thread nD τ) M.a4 fullShare B.x4 ∗ owns (c : Thread nD τ) M.a5 fullShare B.x5 ∗ owns (c : Thread nD τ) M.a6 fullShare B.x6 ∗ owns (c : Thread nD τ) M.a7 fullShare B.x7 ∗ owns (c : Thread nD τ) M.a8 fullShare B.x8 ∗ owns (c : Thread nD τ) M.a10 fullShare B.x10 ∗ owns (c : Thread nD τ) M.a11 fullShare B.x11 ∗ owns (c : Thread nD τ) M.a12 fullShare B.x12 ∗ owns (c : Thread nD τ) M.a13 fullShare B.dp ∗ owns (c : Thread nD τ) M.a14 fullShare (B.dd i) ∗ (∃ d, owns (c : Thread nD τ) M.a15 fullShare d) ∗ (∃ d, owns (c : Thread nD τ) M.a16 fullShare d) ∗ (∃ d, owns (c : Thread nD τ) M.a17 fullShare d) ∗ (∃ d, owns (c : Thread nD τ) M.a18 fullShare d)) -∗ K ⟨⟩))
      ⊢ wp frame (wpE (defs₀ (F := F)) Variants.none c none) E (cc0_ret_bwd i M.a1 M.h1 M.a2 M.h2 M.a3 M.h3 M.a4 M.h4 M.a5 M.h5 M.a6 M.h6 M.a7 M.h7 M.a8 M.h8 (Memref.whole main_arg6) (Memref.isWhole_whole _) M.a10 M.h10 M.a11 M.h11 M.a12 M.h12 M.a13 M.h13 M.a14 M.h14 M.a15 M.h15 M.a16 M.h16 M.a17 M.h17 M.a18 M.h18) K := by
  simp only [cc0_ret_bwd_eq_skeleton]; unfold cc0_ret_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h10.eq_unread hf10; obtain rfl := M.h11.eq_unread hf11; obtain rfl := M.h12.eq_unread hf12
  sl_exec
  sl_step
  have ldl : ∀ inb, M.a12.view.readAt (Elt F) (Rect.unit ![0, 0, 0] ![1, 2, 256] inb).toLoadRect (M.h12.unread B.x12) = B.dl := fun inb => by
    rw [View.readAt_unit _ _ inb rfl two_in, M.h12.read_unread]; rfl
  have ldl0 : ∀ inb, M.a12.view.readAt (Elt F) (Rect.unit ![0, 0, 0] ![1, 8, 1] inb).toLoadRect (M.h12.unread B.x12) = B.dl0 := fun inb => by
    rw [View.readAt_unit _ _ inb rfl lane_in, M.h12.read_unread]; rfl
  have er : bodyRun.sl.r M c B = B.lgf := by unfold bodyRun.sl.r; rw [ldl]; rfl
  have er1 : bodyRun.sl.r_1 M c B = B.lgb := by unfold bodyRun.sl.r_1; rw [ldl]; rfl
  have er2 : bodyRun.sl.r_2 M c B = B.dmat := by unfold bodyRun.sl.r_2; rw [ldl]; rfl
  have er3 : bodyRun.sl.r_3 M c B = B.dmatT := by unfold bodyRun.sl.r_3; rw [ldl]; rfl
  have er4 : bodyRun.sl.r_4 M c B = B.fq := by unfold bodyRun.sl.r_4; rw [er]; rfl
  have er5 : bodyRun.sl.r_5 M c B = B.fk := by unfold bodyRun.sl.r_5; rw [er]; rfl
  have er6 : bodyRun.sl.r_6 M c B = B.bq := by unfold bodyRun.sl.r_6; rw [er1]; rfl
  have er7 : bodyRun.sl.r_7 M c B = B.bk := by unfold bodyRun.sl.r_7; rw [er1]; rfl
  have er8 : bodyRun.sl.r_8 M c B = B.lamf := by unfold bodyRun.sl.r_8; rw [er]; rfl
  have er9 : bodyRun.sl.r_9 M c B = B.lamb := by unfold bodyRun.sl.r_9; rw [er1]; rfl
  have e16 : M.a16.view.read (Elt F) (M.a16.view.writes (Elt F) M.a16.view.junk bodyRun.sl.H16_1) = B.gb 0 := View.read_writes_full _ _ _ _ _
  have e17 : M.a17.view.read (Elt F) (M.a17.view.writes (Elt F) M.a17.view.junk bodyRun.sl.H17_1) = B.gf 0 := View.read_writes_full _ _ _ _ _
  have e18 : M.a18.view.read (Elt F) (M.a18.view.writes (Elt F) M.a18.view.junk bodyRun.sl.H18_1) = B.acc 0 := by
    unfold Blk.acc Blk.row0 Blk.row1
    rw [put_window_self _ _ _ row1_in, put_window_self _ _ _ row0_in]
    exact View.read_writes_full _ _ _ _ _
  have hf := final M c i B f13 f15 e16 e17 e18
  have ev95 : bodyRun.sl.v95 M c i B f13 f15 = B.acc 16 := by
    unfold bodyRun.sl.v95 View.readCov
    refine (View.readAt_full _ _ _).trans ?_
    simp only [er, er1, er2, er3, er4, er5, er6, er7, er8, er9]
    exact hf.2
  have ev98 : bodyRun.sl.v98 M c B = B.dl0 := by unfold bodyRun.sl.v98; exact ldl0 _
  iapply Hk
  isplitl [H1]
  · iexists _; isplitr
    swap; · iexact H1
    ipureintro; exact M.h1.read_unread B.x1
  isplitl [H2]
  · iexists _; isplitr
    swap; · iexact H2
    ipureintro; exact M.h2.read_unread B.x2
  isplitl [H3]
  · iexists _; isplitr
    swap; · iexact H3
    ipureintro; exact M.h3.read_unread B.x3
  isplitl [H4]
  · iexists _; isplitr
    swap; · iexact H4
    ipureintro; exact M.h4.read_unread B.x4
  isplitl [H5]
  · iexists _; isplitr
    swap; · iexact H5
    ipureintro; exact M.h5.read_unread B.x5
  isplitl [H6]
  · iexists _; isplitr
    swap; · iexact H6
    ipureintro; exact M.h6.read_unread B.x6
  isplitl [H7]
  · iexists _; isplitr
    swap; · iexact H7
    ipureintro; exact M.h7.read_unread B.x7
  isplitl [H8]
  · iexists _; isplitr
    swap; · iexact H8
    ipureintro; exact M.h8.read_unread B.x8
  isplitl [H10]
  · iexists _; isplitr
    swap; · iexact H10
    ipureintro; exact M.h10.read_unread B.x10
  isplitl [H11]
  · iexists _; isplitr
    swap; · iexact H11
    ipureintro; exact M.h11.read_unread B.x11
  isplitl [H12]
  · iexists _; isplitr
    swap; · iexact H12
    ipureintro; exact M.h12.read_unread B.x12
  isplitl [H13]
  · iexists _; isplitr
    swap; · iexact H13
    ipureintro
    simp only [er, er1, er2, er3, er4, er5, er6, er7, er8, er9]
    exact hf.1
  isplitl [H14]
  · iexists _; isplitr
    swap; · iexact H14
    ipureintro
    refine (View.read_writes_full _ _ _ _ _).trans ?_
    rw [ev95, ev98]; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  iexists _; iexists _; isplitr
  swap; · iexact H18
  ipureintro; rfl

end Cert.RetStep

end
-- ==== Proof.RetFrame.lean ====
/-
  The retention gradient's run: the body's triple at every grid point, the launch, and with it the frame and each result
  array after the run.
-/
module

public import proofs.«01_k».proof.Proof.RetBody
public import Idealize.ShloMosaic.Lib.Pipeline.Value
public import Idealize.ShloMosaic.Lib.StableHlo.Run
public import Idealize.ShloMosaic.Lib.Claim

@[expose] public section

set_option maxRecDepth 16384

noncomputable section

namespace Cert.RetStep

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body reads at point `t`. -/
def blkAt (c : Dev nD) (t : Fin cfg0.N) : Blk F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x10 := iblk m c 8 t
  x11 := iblk m c 9 t
  x12 := iblk m c 10 t

/-- The staged buffers and scratch at point `t`. -/
def bufsAt (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _

/-- The proof data: the arrays as the region finds them, each input's buffer left at its block, the results' at what the
    body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (blkAt m c t).dp
    | ⟨12, _⟩ => (blkAt m c t).dd (grid0.coords t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = (blkAt m c t).dp := by dsimp only [dats]
theorem after_12 (c : Dev nD) (t : Fin cfg0.N) : (dats m 0 c).after 12 t = (blkAt m c t).dd (grid0.coords t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  rw [show (dats m 0 c).Φ t.castSucc = Pipeline.ΦA spec0 c from rfl, scratch_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyRun (bufsAt t) c (grid0.coords t) (blkAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [S0]; · iexact S0
  isplitl [S1]; · iexact S1
  isplitl [S2]; · iexact S2
  isplitl [S3]; · iexact S3
  iintro ⟨H0, H1, H2, H3, H4, H5, H6, H7, H8, H9, H10, H11, H12, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch's implicit arguments are found by unifying its conclusion with this one, through plain definitions
set_option backward.isDefEq.respectTransparency.types false in
/-- The launch: every array of the pipeline as the proof data say, every other buffer as the region found it, every counter zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

/-- The run with both result arrays named, the arguments unchanged. -/
theorem run_blocks : θ_run defs (onTc (τ := τ) (main (F := F))) ⟨m, fun _ => 0, ρ⟩ fun r => ∀ c : Dev nD,
      r.2.mem ((c : Thread nD τ).loc main_v217_0) = (dats m 0 c).arrAt 11 cfg0.N
      ∧ r.2.mem ((c : Thread nD τ).loc main_v217_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h.1 c).1 11, (h.1 c).1 12, h.2 c⟩)
    (θ_run_and (run_main m ρ) (unchanged m ρ))

end Cert.RetStep

end
-- ==== Proof.RetMath.lean ====
/-
  The retention gradient of one head on reals. First what the chunked kernel computes: the decay tables, the norm and
  gate's part, the two carried gradient states, and each chunk's parts of the gradients of q, k, v and the log decays.
-/
module

public import proofs.«01_k».proof.Proof.Reals

@[expose] public section

noncomputable section

namespace Cert.RetMath

/-- The logarithm of the logistic function, as a program writes it. -/
def logsig (x : ℝ) : ℝ := -(max (-x) 0 + Real.log (1 + Real.exp (-|x|)))

/-- The logistic function. -/
def sigm (x : ℝ) : ℝ := (1 + Real.exp (-x))⁻¹

/-- The mean of the squares of one head's row, with the constant under the root, and the reciprocal root. -/
def msq (x : ℕ → ℝ) : ℝ := (∑ e : Fin 256, x e * x e) / 256 + Reals.eps

theorem msq_pos (x : ℕ → ℝ) : 0 < msq x :=
  add_pos_of_nonneg_of_pos (div_nonneg (Finset.sum_nonneg fun k _ => mul_self_nonneg _) (by norm_num)) Reals.eps_pos

def rstd (x : ℕ → ℝ) : ℝ := (Real.sqrt (msq x))⁻¹

/-- One head: by row and lane the gradient of the gated output, the output before its norm, q, k, v and the gate; the
    rotation's tables; by chunk the two saved states; and the decay logits. -/
structure Head where
  dr : ℕ → ℕ → ℝ
  R : ℕ → ℕ → ℝ
  q : ℕ → ℕ → ℝ
  k : ℕ → ℕ → ℝ
  v : ℕ → ℕ → ℝ
  g : ℕ → ℕ → ℝ
  co : ℕ → ℕ → ℝ
  si : ℕ → ℕ → ℝ
  sf : ℕ → ℕ → ℕ → ℝ
  sb : ℕ → ℕ → ℕ → ℝ
  L : ℕ → ℝ

namespace Head

variable (D : Head)

/-- The two directions' log decays. -/
def a : ℝ := logsig (D.L 0)
def b : ℝ := logsig (D.L 1)

/-- The decay from position `j` to position `i` of one chunk, and the decays to and from the chunk's ends. -/
def dec (i j : ℕ) : ℝ := if j ≤ i then Real.exp (((i : ℝ) - j) * D.a) else Real.exp (-((i : ℝ) - j) * D.b)
def fq (i : ℕ) : ℝ := Real.exp (((i : ℝ) + 1) * D.a)
def fk (i : ℕ) : ℝ := Real.exp ((255 - (i : ℝ)) * D.a)
def bq (i : ℕ) : ℝ := Real.exp ((256 - (i : ℝ)) * D.b)
def bk (i : ℕ) : ℝ := Real.exp ((i : ℝ) * D.b)
def lamf : ℝ := Real.exp (256 * D.a)
def lamb : ℝ := Real.exp (256 * D.b)

/-- The gate's gradient, and the gradient of the output before its norm. -/
def rn (t d : ℕ) : ℝ := D.R t d * rstd (D.R t)
def dg (t d : ℕ) : ℝ := D.dr t d * D.rn t d * (sigm (D.g t d) * (1 + D.g t d * (1 - sigm (D.g t d))))
def drn (t d : ℕ) : ℝ := D.dr t d * D.g t d * sigm (D.g t d)
def dR (t d : ℕ) : ℝ := rstd (D.R t) * (D.drn t d - D.rn t d * ((∑ e : Fin 256, D.drn t e * D.rn t e) / 256))

/-- The carried gradient states, by lane of q and lane of v. -/
def gb : ℕ → ℕ → ℕ → ℝ
  | 0 => fun _ _ => 0
  | n + 1 => fun d e => gb n d e * D.lamb + ∑ i : Fin 256, D.q (256 * n + i) d * D.bq i * D.dR (256 * n + i) e
def gf : ℕ → ℕ → ℕ → ℝ
  | 0 => fun _ _ => 0
  | j + 1 => fun d e => gf j d e * D.lamf + ∑ i : Fin 256, D.q (256 * (15 - j) + i) d * D.fq i * D.dR (256 * (15 - j) + i) e

/-- A product of two rows. -/
def dot (x y : ℕ → ℝ) : ℝ := ∑ e : Fin 256, x e * y e

def dqC (n i d : ℕ) : ℝ :=
  (∑ j : Fin 256, dot (D.dR (256 * n + i)) (D.v (256 * n + j)) * D.dec i j * D.k (256 * n + j) d)
    + dot (D.dR (256 * n + i)) (D.sf n d) * D.fq i + dot (D.dR (256 * n + i)) (D.sb n d) * D.bq i

/-- The forward walk's parts of the k and v gradients, and the backward walk's. -/
def kA (n i d : ℕ) : ℝ :=
  (∑ j : Fin 256, dot (D.v (256 * n + i)) (D.dR (256 * n + j)) * D.dec j i * D.q (256 * n + j) d) + dot (D.v (256 * n + i)) (D.gb n d) * D.bk i
def vA (n i e : ℕ) : ℝ :=
  (∑ j : Fin 256, dot (D.k (256 * n + i)) (D.q (256 * n + j)) * D.dec j i * D.dR (256 * n + j) e)
    + ∑ d : Fin 256, D.k (256 * n + i) d * D.bk i * D.gb n d e
def kD (n i d : ℕ) : ℝ := dot (D.v (256 * n + i)) (D.gf (15 - n) d) * D.fk i
def vD (n i e : ℕ) : ℝ := ∑ d : Fin 256, D.k (256 * n + i) d * D.fk i * D.gf (15 - n) d e

/-- The rotation undone on row `t`. -/
def unrot (t : ℕ) (x : ℕ → ℝ) (d : ℕ) : ℝ :=
  if d < 128 then x d * D.co t d + x (d + 128) * D.si t d else x d * D.co t (d - 128) - x (d - 128) * D.si t (d - 128)

/-- A chunk's parts of the log decays' gradients, by lane. -/
def prod (n i j : ℕ) : ℝ := dot (D.q (256 * n + i)) (D.k (256 * n + j)) * dot (D.dR (256 * n + i)) (D.v (256 * n + j))
def spanf (i j : ℕ) : ℝ := if j ≤ i then D.dec i j * |(i : ℝ) - j| else 0
def spanb (i j : ℕ) : ℝ := if j ≤ i then 0 else D.dec i j * |(i : ℝ) - j|
def row0A (n l : ℕ) : ℝ :=
  (∑ i : Fin 256, D.q (256 * n + i) l * D.fq i * dot (D.dR (256 * n + i)) (D.sf n l) * ((i : ℝ) + 1)) + ∑ i : Fin 256, D.prod n i l * D.spanf i l
def row0D (n l : ℕ) : ℝ :=
  (∑ i : Fin 256, D.k (256 * n + i) l * D.fk i * dot (D.v (256 * n + i)) (D.gf (15 - n) l) * (255 - (i : ℝ)))
    + 256 * D.lamf * ∑ d : Fin 256, D.gf (15 - n) d l * D.sf n d l
def row1A (n l : ℕ) : ℝ :=
  ((∑ i : Fin 256, D.q (256 * n + i) l * D.bq i * dot (D.dR (256 * n + i)) (D.sb n l) * (256 - (i : ℝ)))
      + (∑ i : Fin 256, D.k (256 * n + i) l * D.bk i * dot (D.v (256 * n + i)) (D.gb n l) * (i : ℝ))
      + 256 * D.lamb * ∑ d : Fin 256, D.gb n d l * D.sb n d l)
    + ∑ i : Fin 256, D.prod n i l * D.spanb i l

def row0 : ℕ → ℕ → ℝ
  | 0 => fun _ => 0
  | n + 1 => fun l => row0 n l + D.row0A n l + D.row0D (15 - n) l
def row1 : ℕ → ℕ → ℝ
  | 0 => fun _ => 0
  | n + 1 => fun l => row1 n l + D.row1A n l

end Head

end Cert.RetMath

end
-- ==== Proof.RetPay.lean ====
/-
  The retention gradient's payloads on reals: each on blocks of reals is the block of the reals' function of `RetMath`.
-/
module

public import proofs.«01_k».proof.Proof.Gen.RetIdeal.Skeleton
public import proofs.«01_k».proof.Proof.RetMath
public import Idealize.ShloMosaic.Lib.Pipeline.ValueKit
public import Idealize.ShloMosaic.Lib.Pointwise.Select

@[expose] public section

set_option maxRecDepth 16384

noncomputable section

namespace Cert.RetPay

open Cert.RetIdeal Cert.RetIdeal.Gen Idealize.ShloMosaic Cert.Reals Cert.RetMath Cert.RetMath.Head

theorem lit_zero : Ideal.ofBits .f32 0#32 = ((0 : ℝ) : EReal) := by simp [Ideal.ofBits, Ideal.ieee]
theorem lit_255 : Ideal.ofBits .f32 1132396544#32 = ((255 : ℝ) : EReal) := by
  simp [Ideal.ofBits, Ideal.ieee, -EReal.coe_mul]; norm_num
theorem lit_256 : Ideal.ofBits .f32 1132462080#32 = ((256 : ℝ) : EReal) := by
  simp [Ideal.ofBits, Ideal.ieee, -EReal.coe_mul]; norm_num
theorem lit_sixteenth : Ideal.ofBits .f32 1031798784#32 = ((1 / 16 : ℝ) : EReal) := by
  simp [Ideal.ofBits, Ideal.ieee, -EReal.coe_mul]; norm_num
theorem div_256 (x : ℝ) : Ideal.div (x : EReal) ((256 : ℝ) : EReal) = ((x / 256 : ℝ) : EReal) :=
  div_real (by norm_num) x
theorem max_coe (x y : ℝ) : max (x : EReal) (y : EReal) = ((max x y : ℝ) : EReal) :=
  (Monotone.map_max (fun _ _ h => EReal.coe_le_coe_iff.mpr h)).symm
theorem log1p_exp (x : ℝ) : Ideal.log1p ((Real.exp x : ℝ) : EReal) = ((Real.log (1 + Real.exp x) : ℝ) : EReal) := by
  unfold Ideal.log1p
  rw [← EReal.coe_one, ← EReal.coe_add, Ideal.log_coe, if_neg (not_le.mpr (by positivity))]

/-- Blocks of reals by row and lane: a chunk, a chunk under one and under two unit axes, a row, a column, a half chunk,
    the logits' rows. -/
def sqr (f : ℕ → ℕ → ℝ) : S256x256.Idx → EReal := fun y => ((f (y 0).val (y 1).val : ℝ) : EReal)
def sq3 (f : ℕ → ℕ → ℝ) : S1x256x256.Idx → EReal := fun y => ((f (y 1).val (y 2).val : ℝ) : EReal)
def sq4 (f : ℕ → ℕ → ℝ) : S1x1x256x256.Idx → EReal := fun y => ((f (y 2).val (y 3).val : ℝ) : EReal)
def row (f : ℕ → ℝ) : S1x256.Idx → EReal := fun y => ((f (y 1).val : ℝ) : EReal)
def col (f : ℕ → ℝ) : S256x1.Idx → EReal := fun y => ((f (y 0).val : ℝ) : EReal)
def half (f : ℕ → ℕ → ℝ) : S256x128.Idx → EReal := fun y => ((f (y 0).val (y 1).val : ℝ) : EReal)
def two (L : ℕ → ℝ) : S1x2x256.Idx → EReal := fun y => ((L (y 1).val : ℝ) : EReal)

theorem sq_ext {x : S256x256.Idx → EReal} {f : ℕ → ℕ → ℝ} (h : ∀ i j : Fin 256, x (ix2 i j) = ((f i j : ℝ) : EReal)) : x = sqr f := by
  funext y
  obtain ⟨i, j, rfl⟩ : ∃ i j, y = ix2 i j := ⟨_, _, eq_ix2 y⟩
  exact h i j
theorem sq3_ext {x : S1x256x256.Idx → EReal} {f : ℕ → ℕ → ℝ} (h : ∀ i j : Fin 256, x (ix3 0 i j) = ((f i j : ℝ) : EReal)) : x = sq3 f := by
  funext y
  obtain ⟨u, i, j, rfl⟩ : ∃ u i j, y = ix3 u i j := ⟨_, _, _, eq_ix3 y⟩
  obtain rfl : u = 0 := Subsingleton.elim _ _
  exact h i j
theorem row_ext {x : S1x256.Idx → EReal} {f : ℕ → ℝ} (h : ∀ j : Fin 256, x (ix2 0 j) = ((f j : ℝ) : EReal)) : x = row f := by
  funext y
  obtain ⟨u, j, rfl⟩ : ∃ u j, y = ix2 u j := ⟨_, _, eq_ix2 y⟩
  obtain rfl : u = 0 := Subsingleton.elim _ _
  exact h j
theorem col_ext {x : S256x1.Idx → EReal} {f : ℕ → ℝ} (h : ∀ i : Fin 256, x (ix2 i 0) = ((f i : ℝ) : EReal)) : x = col f := by
  funext y
  obtain ⟨i, u, rfl⟩ : ∃ i u, y = ix2 i u := ⟨_, _, eq_ix2 y⟩
  obtain rfl : u = 0 := Subsingleton.elim _ _
  exact h i

variable (L : ℕ → ℝ) (a b : ℝ)

theorem pay98_at (r : Fin 2) (l : Fin 256) : k0_pay98 (F := Ideal) (two L) (ix2 r l) = ((logsig (L r) : ℝ) : EReal) := by
  pointwise [k0_pay98]
  rw [if_neg (not_not.mpr rfl)]
  simp only [two, Ideal.absf_def, ← EReal.coe_zero, ← EReal.coe_sub, ← EReal.coe_neg, max_coe, Ideal.exp_coe, log1p_exp, ← EReal.coe_add]
  change ((0 - (max (0 - L r) 0 + Real.log (1 + Real.exp (0 - max (0 - L r) (-(0 - L r))))) : ℝ) : EReal) = _
  simp only [logsig, zero_sub, ← abs_eq_max_neg, abs_neg]

theorem pay99_eq : k0_pay99 (F := Ideal) (two L) = row fun _ => logsig (L 0) :=
  row_ext fun j => by pointwise [k0_pay99]; exact pay98_at L 0 j
theorem pay100_eq : k0_pay100 (F := Ideal) (two L) = row fun _ => logsig (L 1) :=
  row_ext fun j => by pointwise [k0_pay100]; exact pay98_at L 1 j

/-- The difference of two positions of a chunk, as a word. -/
theorem sub_word (i j : Fin 256) : ((BitVec.ofNat 32 i.val - BitVec.ofNat 32 j.val).toInt : ℝ) = (i.val : ℝ) - j.val := by
  have h : (BitVec.ofNat 32 i.val - BitVec.ofNat 32 j.val).toInt = (i.val : ℤ) - j.val := by
    have hi := i.isLt
    have hj := j.isLt
    rw [BitVec.toInt_sub, BitVec.toInt_ofNat', BitVec.toInt_ofNat']
    simp only [Int.bmod_def]
    omega
  rw [h]; push_cast; rfl
theorem pos_word (i : Fin 256) : ((BitVec.ofNat 32 i.val).toInt : ℝ) = (i.val : ℝ) := by
  have h : (BitVec.ofNat 32 i.val).toInt = (i.val : ℤ) := by
    have hi := i.isLt
    rw [BitVec.toInt_ofNat']
    simp only [Int.bmod_def]
    omega
  rw [h]; push_cast; rfl

theorem pay101_eq : k0_pay101 (F := Ideal) = sqr fun i j => (i : ℝ) - j :=
  sq_ext fun i j => by
    pointwise [k0_pay101]
    exact congrArg (fun r : ℝ => (r : EReal)) (sub_word i j)
theorem pay105_eq : k0_pay105 (F := Ideal) = sqr fun i _ => (i : ℝ) :=
  sq_ext fun i j => by
    pointwise [k0_pay105]
    exact congrArg (fun r : ℝ => (r : EReal)) (pos_word i)

theorem nonneg_iff (i j : ℕ) : (((0 : ℝ) : EReal) ≤ (((i : ℝ) - j : ℝ) : EReal)) ↔ j ≤ i := by
  rw [EReal.coe_le_coe_iff, sub_nonneg, Nat.cast_le]
theorem nonpos_iff (i j : ℕ) : ((((i : ℝ) - j : ℝ) : EReal) ≤ ((0 : ℝ) : EReal)) ↔ i ≤ j := by
  rw [EReal.coe_le_coe_iff, sub_nonpos, Nat.cast_le]

/-- The bit of a decided statement selects by the statement. -/
theorem sel_ite {p : Prop} [Decidable p] (x y : EReal) : (if (if p then 1#1 else 0#1) = 1#1 then x else y) = if p then x else y := by
  split <;> simp_all

theorem pay103_eq : k0_pay103 (F := Ideal) (two L)
    = sqr fun i j => if j ≤ i then Real.exp (((i : ℝ) - j) * logsig (L 0)) else Real.exp (-((i : ℝ) - j) * logsig (L 1)) :=
  sq_ext fun i j => by
    pointwise [k0_pay103, k0_pay102, pay101_eq, pay99_eq, pay100_eq]
    simp only [sqr, row, ← EReal.coe_zero, ← EReal.coe_sub, ← EReal.coe_mul, Ideal.exp_coe, zero_sub]
    change (if (((i.val : ℝ) - j.val : ℝ) : EReal) ≥ ((0 : ℝ) : EReal) then _ else _) = _
    simp only [ge_iff_le, nonneg_iff]
    split <;> rfl
theorem pay104_eq : k0_pay104 (F := Ideal) (two L)
    = sqr fun i j => if i ≤ j then Real.exp (((j : ℝ) - i) * logsig (L 0)) else Real.exp (-((j : ℝ) - i) * logsig (L 1)) :=
  sq_ext fun i j => by
    pointwise [k0_pay104, pay101_eq, pay99_eq, pay100_eq]
    simp only [sqr, row, ← EReal.coe_zero, ← EReal.coe_sub, ← EReal.coe_mul, Ideal.exp_coe, zero_sub]
    change (if (((i.val : ℝ) - j.val : ℝ) : EReal) ≤ ((0 : ℝ) : EReal) then ((Real.exp (-((i.val : ℝ) - j.val) * logsig (L 0)) : ℝ) : EReal)
      else ((Real.exp (((i.val : ℝ) - j.val) * logsig (L 1)) : ℝ) : EReal)) = _
    simp only [nonpos_iff, neg_sub]
    split <;> rfl
theorem pay106_eq : k0_pay106 (F := Ideal) (row fun _ => a)
    = sqr fun i _ => Real.exp (((i : ℝ) + 1) * a) :=
  sq_ext fun i j => by
    pointwise [k0_pay106, pay105_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay107_eq : k0_pay107 (F := Ideal) (row fun _ => a)
    = sqr fun i _ => Real.exp ((255 - (i : ℝ)) * a) :=
  sq_ext fun i j => by
    pointwise [k0_pay107, pay105_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay108_eq : k0_pay108 (F := Ideal) (row fun _ => b)
    = sqr fun i _ => Real.exp ((256 - (i : ℝ)) * b) :=
  sq_ext fun i j => by
    pointwise [k0_pay108, pay105_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay109_eq : k0_pay109 (F := Ideal) (row fun _ => b)
    = sqr fun i _ => Real.exp ((i : ℝ) * b) :=
  sq_ext fun i j => by
    pointwise [k0_pay109, pay105_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay110_eq : k0_pay110 (F := Ideal) (row fun _ => a)
    = row fun _ => Real.exp (256 * a) :=
  row_ext fun j => by
    pointwise [k0_pay110]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
theorem pay111_eq : k0_pay111 (F := Ideal) (row fun _ => b)
    = row fun _ => Real.exp (256 * b) :=
  row_ext fun j => by
    pointwise [k0_pay111]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
/-- The reciprocal root of a row's mean of squares, as the program writes it. -/
theorem rsqrt_msq (x : ℕ → ℝ) : Ideal.rsqrt (((∑ e : Fin 256, x e * x e) / 256 + eps : ℝ) : EReal) = ((rstd x : ℝ) : EReal) :=
  rsqrt_pos (msq_pos x)
theorem pay11_eq (R : ℕ → ℕ → ℝ) : k0_pay11 (F := Ideal) (sqr R)
    = col fun i => rstd (R i) :=
  col_ext fun i => by
    pointwise [k0_pay11, k0_pay10]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    exact rsqrt_msq _
theorem pay12_eq (R : ℕ → ℕ → ℝ) : k0_pay12 (F := Ideal) (sqr R)
    = sqr fun i d => R i d * rstd (R i) :=
  sq_ext fun i d => by
    pointwise [k0_pay12, k0_pay10, pay11_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay16_eq (R g dr : ℕ → ℕ → ℝ) : k0_pay16 (F := Ideal) (sqr R) (sq3 g) (sqr dr)
    = sq3 fun i d => dr i d * (R i d * rstd (R i)) * (sigm (g i d) * (1 + g i d * (1 - sigm (g i d)))) :=
  sq3_ext fun i d => by
    pointwise [k0_pay16, k0_pay13, k0_pay14, k0_pay15, pay12_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay17_eq (g dr : ℕ → ℕ → ℝ) : k0_pay17 (F := Ideal) (sq3 g) (sqr dr)
    = sqr fun i d => dr i d * g i d * sigm (g i d) :=
  sq_ext fun i d => by
    pointwise [k0_pay17, k0_pay13, k0_pay14, k0_pay15]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay18_eq (R g dr : ℕ → ℕ → ℝ) : k0_pay18 (F := Ideal) (sqr R) (sq3 g) (sqr dr)
    = col fun i => (∑ e : Fin 256, dr i e * g i e * sigm (g i e) * (R i e * rstd (R i))) / 256 :=
  col_ext fun i => by
    pointwise [k0_pay18, pay17_eq, pay12_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay112_eq (r w : ℕ → ℝ) (x y : ℕ → ℕ → ℝ) : k0_pay112 (F := Ideal) (col r) (sqr x) (sqr y) (col w)
    = sqr fun i d => r i * (y i d - x i d * w i) :=
  sq_ext fun i d => by
    pointwise [k0_pay112]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay113_eq : k0_pay113 (F := Ideal)
    = sqr fun _ _ => 0 :=
  sq_ext fun i d => by
    pointwise [k0_pay113]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
theorem pay114_eq : k0_pay114 (F := Ideal)
    = sqr fun _ _ => 0 :=
  sq_ext fun i d => by
    pointwise [k0_pay114]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
theorem pay50_eq (dR x s : ℕ → ℕ → ℝ) : k0_pay50 (F := Ideal) (row fun _ => a) (sqr dR) (sqr x) (sqr s)
    = sqr fun d e => s d e * a + ∑ i : Fin 256, x i d * dR i e :=
  sq_ext fun d e => by
    pointwise [k0_pay50]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay35_eq (x y : ℕ → ℕ → ℝ) : k0_pay35 (F := Ideal) (sqr x) (sqr y)
    = sqr fun i d => y i d * x i d :=
  sq_ext fun i d => by
    pointwise [k0_pay35]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay22_eq (x : ℕ → ℕ → ℝ) : k0_pay22 (F := Ideal) (sq3 x)
    = sqr x :=
  sq_ext fun i d => by
    pointwise [k0_pay22, k0_pay19, k0_pay20]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay23_eq (x : ℕ → ℕ → ℝ) : k0_pay23 (F := Ideal) (sq3 x)
    = sqr x :=
  sq_ext fun i d => by
    pointwise [k0_pay23, k0_pay19, k0_pay20]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay19_eq (x : ℕ → ℕ → ℝ) : k0_pay19 (F := Ideal) (sq3 x)
    = sqr x :=
  sq_ext fun i d => by
    pointwise [k0_pay19]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay20_eq (x : ℕ → ℕ → ℝ) : k0_pay20 (F := Ideal) (sq3 x)
    = sqr x :=
  sq_ext fun i d => by
    pointwise [k0_pay20]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay21_eq (x : ℕ → ℕ → ℝ) : k0_pay21 (F := Ideal) (sq3 x)
    = sqr x :=
  sq_ext fun i d => by
    pointwise [k0_pay21]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay51_eq (x : ℕ → ℕ → ℝ) : k0_pay51 (F := Ideal) (sq3 x)
    = sqr x :=
  sq_ext fun i d => by
    pointwise [k0_pay51]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay31_eq (x : ℕ → ℕ → ℝ) : k0_pay31 (F := Ideal) (sq4 x)
    = sqr x :=
  sq_ext fun i d => by
    pointwise [k0_pay31]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay32_eq (x : ℕ → ℕ → ℝ) : k0_pay32 (F := Ideal) (sq4 x)
    = sqr x :=
  sq_ext fun i d => by
    pointwise [k0_pay32]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay38_eq (x : ℕ → ℕ → ℝ) : k0_pay38 (F := Ideal) (sqr x)
    = sqr x :=
  sq_ext fun i d => by
    pointwise [k0_pay38]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay52_eq (x : ℕ → ℕ → ℝ) : k0_pay52 (F := Ideal) (sqr x)
    = sqr x :=
  sq_ext fun i d => by
    pointwise [k0_pay52]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay7_eq (fq q dR s : ℕ → ℕ → ℝ) : k0_pay7 (F := Ideal) (sqr fq) (row fun _ => a) (sqr q) (sqr dR) (sqr s)
    = sqr fun d e => s d e * a + ∑ i : Fin 256, q i d * fq i d * dR i e :=
  sq_ext fun d e => by
    pointwise [k0_pay7]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay24_eq (v dR : ℕ → ℕ → ℝ) : k0_pay24 (F := Ideal) (sq3 v) (sqr dR)
    = sqr fun i j => dot (dR i) (v j) :=
  sq_ext fun i j => by
    pointwise [k0_pay24, pay21_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay25_eq (q k v dR : ℕ → ℕ → ℝ) : k0_pay25 (F := Ideal) (sq3 q) (sq3 k) (sq3 v) (sqr dR)
    = sqr fun i j => dot (q i) (k j) * dot (dR i) (v j) :=
  sq_ext fun i j => by
    pointwise [k0_pay25, pay24_eq, pay19_eq, pay20_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay28_eq (v k dR dm : ℕ → ℕ → ℝ) : k0_pay28 (F := Ideal) (sqr dm) (sq3 k) (sq3 v) (sqr dR)
    = sqr fun i d => ∑ j : Fin 256, dot (dR i) (v j) * dm i j * k j d :=
  sq_ext fun i d => by
    pointwise [k0_pay28, pay24_eq, pay20_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay33_eq (dR s : ℕ → ℕ → ℝ) : k0_pay33 (F := Ideal) (sqr dR) (sqr s)
    = sqr fun i d => dot (dR i) (s d) :=
  sq_ext fun i d => by
    pointwise [k0_pay33]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay36_eq (dR s : ℕ → ℕ → ℝ) : k0_pay36 (F := Ideal) (sqr dR) (sq4 s)
    = sqr fun i d => dot (dR i) (s d) :=
  sq_ext fun i d => by
    pointwise [k0_pay36, pay32_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay37_eq (fq bq dR x sf sb : ℕ → ℕ → ℝ) : k0_pay37 (F := Ideal) (sqr fq) (sqr bq) (sqr dR) (sqr x) (sqr sf) (sq4 sb)
    = sqr fun i d => x i d + dot (dR i) (sf d) * fq i d + dot (dR i) (sb d) * bq i d :=
  sq_ext fun i d => by
    pointwise [k0_pay37, pay33_eq, pay36_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay29_eq (dm q v dR : ℕ → ℕ → ℝ) : k0_pay29 (F := Ideal) (sqr dm) (sq3 q) (sq3 v) (sqr dR)
    = sqr fun i d => ∑ j : Fin 256, dot (v i) (dR j) * dm i j * q j d :=
  sq_ext fun i d => by
    pointwise [k0_pay29, pay21_eq, pay19_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay30_eq (dm q k dR : ℕ → ℕ → ℝ) : k0_pay30 (F := Ideal) (sqr dm) (sq3 q) (sq3 k) (sqr dR)
    = sqr fun i e => ∑ j : Fin 256, dot (k i) (q j) * dm i j * dR j e :=
  sq_ext fun i e => by
    pointwise [k0_pay30, pay20_eq, pay19_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay39_eq (x y : ℕ → ℕ → ℝ) : k0_pay39 (F := Ideal) (sqr x) (sqr y)
    = sqr fun i d => y i d * x i d :=
  sq_ext fun i d => by
    pointwise [k0_pay39]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay40_eq (v s : ℕ → ℕ → ℝ) : k0_pay40 (F := Ideal) (sqr v) (sqr s)
    = sqr fun i d => dot (v i) (s d) :=
  sq_ext fun i d => by
    pointwise [k0_pay40, pay38_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay41_eq (bk v x s : ℕ → ℕ → ℝ) : k0_pay41 (F := Ideal) (sqr bk) (sqr v) (sqr x) (sqr s)
    = sqr fun i d => x i d + dot (v i) (s d) * bk i d :=
  sq_ext fun i d => by
    pointwise [k0_pay41, pay40_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay42_eq (bk k x s : ℕ → ℕ → ℝ) : k0_pay42 (F := Ideal) (sqr bk) (sqr k) (sqr x) (sqr s)
    = sqr fun i e => x i e + ∑ d : Fin 256, k i d * bk i d * s d e :=
  sq_ext fun i e => by
    pointwise [k0_pay42, pay39_eq, pay38_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay45_eq (x : ℕ → ℕ → ℝ) : k0_pay45 (F := Ideal) (sqr x)
    = sq3 x :=
  sq3_ext fun i d => by
    pointwise [k0_pay45]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay46_eq (x : ℕ → ℕ → ℝ) : k0_pay46 (F := Ideal) (sqr x)
    = sq3 x :=
  sq3_ext fun i d => by
    pointwise [k0_pay46]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay53_eq (fk k : ℕ → ℕ → ℝ) : k0_pay53 (F := Ideal) (sqr fk) (sq3 k)
    = sqr fun i d => k i d * fk i d :=
  sq_ext fun i d => by
    pointwise [k0_pay53]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay54_eq (v s : ℕ → ℕ → ℝ) : k0_pay54 (F := Ideal) (sq3 v) (sqr s)
    = sqr fun i d => dot (v i) (s d) :=
  sq_ext fun i d => by
    pointwise [k0_pay54, pay52_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay5_eq (fk x : ℕ → ℕ → ℝ) : k0_pay5 (F := Ideal) (sqr fk) (sqr x)
    = sq3 fun i d => x i d * fk i d :=
  sq3_ext fun i d => by
    pointwise [k0_pay5]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay6_eq (s x : ℕ → ℕ → ℝ) : k0_pay6 (F := Ideal) (sqr s) (sqr x)
    = sq3 fun i e => ∑ d : Fin 256, x i d * s d e :=
  sq3_ext fun i e => by
    pointwise [k0_pay6]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay93_eq (fk v s : ℕ → ℕ → ℝ) : k0_pay93 (F := Ideal) (sqr fk) (sq3 v) (sqr s)
    = sqr fun i d => dot (v i) (s d) * fk i d :=
  sq_ext fun i d => by
    pointwise [k0_pay93, k0_pay91, k0_pay89]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay94_eq (fk k s : ℕ → ℕ → ℝ) : k0_pay94 (F := Ideal) (sqr fk) (sq3 k) (sqr s)
    = sqr fun i e => ∑ d : Fin 256, k i d * fk i d * s d e :=
  sq_ext fun i e => by
    pointwise [k0_pay94, k0_pay90, k0_pay89]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay84_eq (x y : ℕ → ℕ → ℝ) : k0_pay84 (F := Ideal) (sqr x) (sq3 y)
    = sq3 fun i d => y i d + x i d :=
  sq3_ext fun i d => by
    pointwise [k0_pay84]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay96_eq (x y : ℕ → ℕ → ℝ) : k0_pay96 (F := Ideal) (sqr x) (sq3 y)
    = sq3 fun i d => y i d + x i d :=
  sq3_ext fun i d => by
    pointwise [k0_pay96]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay26_eq (w q k v dR : ℕ → ℕ → ℝ) : k0_pay26 (F := Ideal) (sqr w) (sq3 q) (sq3 k) (sq3 v) (sqr dR)
    = row fun l => ∑ i : Fin 256, dot (q i) (k l) * dot (dR i) (v l) * w i l :=
  row_ext fun l => by
    pointwise [k0_pay26, pay25_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay27_eq (w q k v dR : ℕ → ℕ → ℝ) : k0_pay27 (F := Ideal) (sqr w) (sq3 q) (sq3 k) (sq3 v) (sqr dR)
    = row fun l => ∑ i : Fin 256, dot (q i) (k l) * dot (dR i) (v l) * w i l :=
  row_ext fun l => by
    pointwise [k0_pay27, pay25_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay34_eq (p fq dR q s : ℕ → ℕ → ℝ) : k0_pay34 (F := Ideal) (sqr p) (sqr fq) (sqr dR) (sqr q) (sqr s)
    = row fun l => ∑ i : Fin 256, q i l * fq i l * dot (dR i) (s l) * (p i l + 1) :=
  row_ext fun l => by
    pointwise [k0_pay34, pay33_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay43_eq (p bq bk v dR q k sb s : ℕ → ℕ → ℝ) : k0_pay43 (F := Ideal) (sqr p) (sqr bq) (sqr bk) (row fun _ => a) (sqr v) (sqr dR) (sqr q) (sqr k) (sq4 sb) (sqr s)
    = row fun l => (∑ i : Fin 256, q i l * bq i l * dot (dR i) (sb l) * (256 - p i l)) + (∑ i : Fin 256, k i l * bk i l * dot (v i) (s l) * p i l)
      + 256 * a * ∑ d : Fin 256, s d l * sb d l :=
  row_ext fun l => by
    pointwise [k0_pay43, pay35_eq, pay36_eq, pay39_eq, pay40_eq, pay32_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay47_eq (x y r : ℕ → ℝ) : k0_pay47 (F := Ideal) (row x) (row y) (row r)
    = row fun l => r l + (y l + x l) :=
  row_ext fun l => by
    pointwise [k0_pay47]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay48_eq (x y r : ℕ → ℝ) : k0_pay48 (F := Ideal) (row x) (row y) (row r)
    = row fun l => r l + (y l + x l) :=
  row_ext fun l => by
    pointwise [k0_pay48]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay49_eq (x : ℕ → ℝ) : k0_pay49 (F := Ideal) (row x)
    = row x :=
  row_ext fun l => by
    pointwise [k0_pay49]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay55_eq (p fk k v s : ℕ → ℕ → ℝ) : k0_pay55 (F := Ideal) (sqr p) (sqr fk) (sq3 k) (sq3 v) (sqr s)
    = row fun l => ∑ i : Fin 256, k i l * fk i l * dot (v i) (s l) * (255 - p i l) :=
  row_ext fun l => by
    pointwise [k0_pay55, pay53_eq, pay54_eq]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay56_eq : k0_pay56 (F := Ideal) (row fun _ => a)
    = row fun _ => 256 * a :=
  row_ext fun l => by
    pointwise [k0_pay56]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
theorem pay4_eq (s sf : ℕ → ℕ → ℝ) (x r : ℕ → ℝ) : k0_pay4 (F := Ideal) (sqr s) (row x) (row fun _ => a) (sq4 sf) (row r)
    = row fun l => r l + (x l + a * ∑ d : Fin 256, s d l * sf d l) :=
  row_ext fun l => by
    pointwise [k0_pay4]
    simp only [sqr, sq3, sq4, row, col, half, lit_256, lit_255, lit_eps, lit_sixteenth, ← EReal.coe_zero, ← EReal.coe_one, ← EReal.coe_mul, ← EReal.coe_add,
      ← EReal.coe_sub, ← coe_sum, div_256, Ideal.exp_coe, Ideal.logistic_coe]
    rfl
theorem pay1_eq (w dm : ℕ → ℕ → ℝ) : k0_pay1 (F := Ideal) (sqr w) (sqr dm) = sqr fun i j => dm i j * |w i j| :=
  sq_ext fun i j => by
    pointwise [k0_pay1]
    simp only [sqr, Ideal.absf_def]
    change ((dm i j : ℝ) : EReal) * max ((w i j : ℝ) : EReal) ((-(w i j) : ℝ) : EReal) = _
    rw [max_coe, ← abs_eq_max_neg, ← EReal.coe_mul]
theorem pay2_eq (dm : ℕ → ℕ → ℝ) : k0_pay2 (F := Ideal) (k0_pay101 (F := Ideal)) (k0_pay102 (F := Ideal)) (sqr dm)
    = sqr fun i j => if j ≤ i then dm i j * |(i : ℝ) - j| else 0 :=
  sq_ext fun i j => by
    pointwise [k0_pay2, k0_pay102, pay101_eq, pay1_eq]
    simp only [sqr, ← EReal.coe_zero]
    change (if (((i.val : ℝ) - j.val : ℝ) : EReal) ≥ ((0 : ℝ) : EReal) then _ else _) = _
    simp only [ge_iff_le, nonneg_iff]
    split <;> rfl
theorem pay3_eq (dm : ℕ → ℕ → ℝ) : k0_pay3 (F := Ideal) (k0_pay101 (F := Ideal)) (k0_pay102 (F := Ideal)) (sqr dm)
    = sqr fun i j => if j ≤ i then 0 else dm i j * |(i : ℝ) - j| :=
  sq_ext fun i j => by
    pointwise [k0_pay3, k0_pay102, pay101_eq, pay1_eq]
    simp only [sqr, ← EReal.coe_zero]
    change (if (((i.val : ℝ) - j.val : ℝ) : EReal) ≥ ((0 : ℝ) : EReal) then _ else _) = _
    simp only [ge_iff_le, nonneg_iff]
    split <;> rfl

/-- The rotation undone, by the tables' rows of one chunk. -/
def unr (co si x : ℕ → ℕ → ℝ) (i d : ℕ) : ℝ :=
  if d < 128 then x i d * co i d + x i (d + 128) * si i d else x i d * co i (d - 128) - x i (d - 128) * si i (d - 128)

theorem pay44_eq (x co si : ℕ → ℕ → ℝ) : k0_pay44 (F := Ideal) (sqr x) (half co) (half si) = sq3 (unr co si x) :=
  sq3_ext fun i d => by
    pointwise [k0_pay44]
    unfold unr
    split
    · next h =>
      simp only [sqr, half, Nat.add_comm d.val 128, ← EReal.coe_mul, ← EReal.coe_add]
      rfl
    · next h =>
      have e : 128 + (d.val - 128) = d.val := by omega
      simp only [sqr, half, e, ← EReal.coe_mul, ← EReal.coe_sub]
      rfl
theorem pay83_eq (x y co si : ℕ → ℕ → ℝ) : k0_pay83 (F := Ideal) (sqr x) (half co) (half si) (sq3 y) = sq3 fun i d => unr co si (fun i d => y i d + x i d) i d * (1 / 16) :=
  sq3_ext fun i d => by
    pointwise [k0_pay83]
    unfold unr
    split
    · next h =>
      simp only [sqr, sq3, half, lit_sixteenth, Nat.add_comm d.val 128, ← EReal.coe_mul, ← EReal.coe_add]
      rfl
    · next h =>
      have e : 128 + (d.val - 128) = d.val := by omega
      simp only [sqr, sq3, half, lit_sixteenth, e, ← EReal.coe_mul, ← EReal.coe_sub, ← EReal.coe_add]
      rfl
theorem pay95_eq (x y co si : ℕ → ℕ → ℝ) : k0_pay95 (F := Ideal) (sqr x) (half co) (half si) (sq3 y) = sq3 fun i d => unr co si (fun i d => y i d + x i d) i d * (1 / 16) :=
  pay83_eq x y co si

/-- One lane of the decay gradients' block holds the sum over the lanes, through the logistic. -/
theorem pay9_at (h : Fin 4) (x : ℕ → ℕ → ℝ) (L : ℕ → ℝ) (dl : Vec Ideal S1x8x1 .f32) (hL : ∀ i : Fin 8, dl (ix3 0 i 0) = ((L i : ℝ) : EReal))
    (i : Fin 8) (l : Fin 128) :
    k0_pay9 (F := Ideal) (BitVec.ofNat 32 h.val) (fun y => ((x (y 0).val (y 1).val : ℝ) : EReal)) dl (ix3 0 i l)
      = ((if l.val = h.val then (∑ d : Fin 256, x i d) * sigm (-(L i)) else 0 : ℝ) : EReal) := by
  pointwise [k0_pay9]
  have e : (BitVec.ofNat 32 l.val = BitVec.ofNat 32 h.val) ↔ l.val = h.val := by
    have hl := l.isLt
    have hh := h.isLt
    rw [← BitVec.toNat_inj, BitVec.toNat_ofNat, BitVec.toNat_ofNat, Nat.mod_eq_of_lt (by omega), Nat.mod_eq_of_lt (by omega)]
  rw [hL, ← EReal.coe_zero, ← EReal.coe_sub, Ideal.logistic_coe, ← coe_sum, ← EReal.coe_mul, zero_sub]
  by_cases hlh : l.val = h.val
  · rw [if_pos hlh, hlh]
    simp only [IntOp.cmpi, Scalar.select]
    simp [sigm]
  · rw [if_neg hlh]
    simp only [IntOp.cmpi, Scalar.select]
    have : (BitVec.ofNat 32 l.val == BitVec.ofNat 32 h.val) = false := by simpa using fun he => hlh (e.mp he)
    simp [this]

end Cert.RetPay

end
-- ==== Proof.RetSum.lean ====
/-
  The chunked gradients of the retention are its plain sums: carried and saved states are decayed sums over the rows
  before or after a chunk, each gradient is one sum over all rows under the decay between two positions, and the spans a
  pair of rows has in the chunks between them add up to their distance.
-/
module

public import proofs.«01_k».proof.Proof.RetMath

@[expose] public section

noncomputable section

namespace Cert.RetMath

open Finset

/-- A chunk's rows as an interval. -/
theorem chunk_sum (n : ℕ) (F f : ℕ → ℝ) (h : ∀ i, i < 256 → F i = f (256 * n + i)) : ∑ i : Fin 256, F i = ∑ s ∈ Ico (256 * n) (256 * n + 256), f s := by
  rw [sum_Ico_eq_sum_range, Nat.add_sub_cancel_left, ← Fin.sum_univ_eq_sum_range]
  exact sum_congr rfl fun i _ => h i i.isLt

/-- All rows: those before chunk `n`, the chunk's, and those after it. -/
theorem three (n : ℕ) (hn : n < 16) (f : ℕ → ℝ) :
    ∑ s ∈ Ico 0 4096, f s = ∑ s ∈ Ico 0 (256 * n), f s + (∑ s ∈ Ico (256 * n) (256 * n + 256), f s + ∑ s ∈ Ico (256 * n + 256) 4096, f s) := by
  rw [sum_Ico_consecutive f (by omega) (by omega), sum_Ico_consecutive f (by omega) (by omega)]

namespace Head

variable (D : Head)

/-- The decay between two positions, either way. -/
def W (t s : ℕ) : ℝ := if s ≤ t then Real.exp (((t : ℝ) - s) * D.a) else Real.exp (((s : ℝ) - t) * D.b)

/-- The saved states are the decayed sums of k and v over the rows before and after a chunk. -/
structure Saved : Prop where
  sf : ∀ n, n < 16 → D.sf n = fun d e => ∑ s ∈ Ico 0 (256 * n), Real.exp (((256 * n : ℕ) - 1 - (s : ℝ)) * D.a) * (D.k s d * D.v s e)
  sb : ∀ n, n < 16 → D.sb n = fun d e => ∑ s ∈ Ico (256 * n + 256) 4096, Real.exp (((s : ℝ) - (256 * n + 256 : ℕ)) * D.b) * (D.k s d * D.v s e)

theorem dec_eq (n i j : ℕ) : D.dec i j = D.W (256 * n + i) (256 * n + j) := by
  unfold dec W
  by_cases h : j ≤ i
  · rw [if_pos h, if_pos (by omega)]
    push_cast; congr 2; ring
  · rw [if_neg h, if_neg (by omega)]
    push_cast; congr 2; ring

theorem exp_mul (x y a : ℝ) : Real.exp (x * a) * Real.exp (y * a) = Real.exp ((x + y) * a) := by rw [← Real.exp_add, add_mul]

/-- Row `s` of the decay against position `t`: from before, and from after. -/
theorem W_le {t s : ℕ} (h : s ≤ t) {x y : ℝ} (e : x + y = (t : ℝ) - s) : Real.exp (x * D.a) * Real.exp (y * D.a) = D.W t s := by
  rw [exp_mul, e, W, if_pos h]
theorem W_lt {t s : ℕ} (h : t < s) {x y : ℝ} (e : x + y = (s : ℝ) - t) : Real.exp (x * D.b) * Real.exp (y * D.b) = D.W t s := by
  rw [exp_mul, e, W, if_neg (by omega)]

theorem gb_sum (n : ℕ) : D.gb n = fun d e => ∑ t ∈ Ico 0 (256 * n), Real.exp (((256 * n : ℕ) - (t : ℝ)) * D.b) * (D.q t d * D.dR t e) := by
  induction n with
  | zero => rfl
  | succ n ih =>
    funext d e
    rw [gb, ih, show 256 * (n + 1) = 256 * n + 256 by ring, ← sum_Ico_consecutive _ (Nat.zero_le (256 * n)) (by omega)]
    dsimp only
    congr 1
    · rw [sum_mul]
      refine sum_congr rfl fun t _ => ?_
      rw [lamb, mul_right_comm, exp_mul]
      push_cast; congr 2; ring
    · refine chunk_sum n (fun i => D.q (256 * n + i) d * D.bq i * D.dR (256 * n + i) e) _ fun i _ => ?_
      rw [bq, mul_right_comm, mul_comm]
      push_cast; congr 2; congr 1; ring

theorem gf_sum (j : ℕ) (hj : j ≤ 16) :
    D.gf j = fun d e => ∑ t ∈ Ico (256 * (16 - j)) 4096, Real.exp (((t : ℝ) - (256 * (16 - j) : ℕ) + 1) * D.a) * (D.q t d * D.dR t e) := by
  induction j with
  | zero => rfl
  | succ j ih =>
    funext d e
    rw [gf, ih (by omega), show 16 - j = 15 - j + 1 by omega, show 16 - (j + 1) = 15 - j by omega, show 256 * (15 - j + 1) = 256 * (15 - j) + 256 by ring,
      ← sum_Ico_consecutive _ (Nat.le_add_right (256 * (15 - j)) 256) (by omega)]
    refine (add_comm _ _).trans ?_
    dsimp only
    congr 1
    · refine chunk_sum (15 - j) (fun i => D.q (256 * (15 - j) + i) d * D.fq i * D.dR (256 * (15 - j) + i) e) _ fun i _ => ?_
      rw [fq, mul_right_comm, mul_comm]
      push_cast; congr 2; congr 1; ring
    · rw [sum_mul]
      refine sum_congr rfl fun t _ => ?_
      rw [lamf, mul_right_comm, exp_mul]
      push_cast; congr 2; ring

theorem gf_after (n : ℕ) (hn : n < 16) :
    D.gf (15 - n) = fun d e => ∑ t ∈ Ico (256 * n + 256) 4096, Real.exp (((t : ℝ) - (256 * n + 256 : ℕ) + 1) * D.a) * (D.q t d * D.dR t e) := by
  rw [gf_sum _ _ (by omega), show 16 - (15 - n) = n + 1 by omega, show 256 * (n + 1) = 256 * n + 256 by ring]

theorem dot_comm (x y : ℕ → ℝ) : dot x y = dot y x := sum_congr rfl fun _ _ => mul_comm _ _

/-- A row against a state that is a weighted sum of products of rows. -/
theorem dot_state (x : ℕ → ℝ) (S : Finset ℕ) (w k : ℕ → ℝ) (v : ℕ → ℕ → ℝ) (c : ℝ) :
    dot x (fun e => ∑ s ∈ S, w s * (k s * v s e)) * c = ∑ s ∈ S, dot x (v s) * (w s * c) * k s := by
  unfold dot
  simp only [mul_sum, sum_mul]
  rw [sum_comm]
  exact sum_congr rfl fun s _ => sum_congr rfl fun e _ => by ring
theorem dot_state' (x : ℕ → ℝ) (S : Finset ℕ) (w v : ℕ → ℝ) (k : ℕ → ℕ → ℝ) (c : ℝ) :
    ∑ d : Fin 256, x d * c * (∑ s ∈ S, w s * (k s d * v s)) = ∑ s ∈ S, dot x (k s) * (w s * c) * v s := by
  unfold dot
  simp only [mul_sum, sum_mul]
  rw [sum_comm]
  exact sum_congr rfl fun s _ => sum_congr rfl fun e _ => by ring
theorem row_state (y x : ℕ → ℝ) (S : Finset ℕ) (w : ℕ → ℝ) (k v : ℕ → ℕ → ℝ) (f c : ℝ) :
    ∑ l : Fin 256, y l * f * dot x (fun e => ∑ s ∈ S, w s * (k s l * v s e)) * c = ∑ s ∈ S, dot y (k s) * dot x (v s) * (w s * f) * c := by
  have h (l : Fin 256) : y l * f * dot x (fun e => ∑ s ∈ S, w s * (k s l * v s e)) * c = ∑ s ∈ S, y l * k s l * (dot x (v s) * (w s * f) * c) := by
    rw [show ∀ z : ℝ, y l * f * z * c = z * (y l * f * c) from fun z => by ring, dot_state]
    exact sum_congr rfl fun s _ => by ring
  simp only [h]
  rw [sum_comm]
  refine sum_congr rfl fun s _ => ?_
  rw [← sum_mul, show ∑ l : Fin 256, y l * k s l = dot y (k s) from rfl]
  ring
theorem state_state (S T : Finset ℕ) (w u : ℕ → ℝ) (q p k v : ℕ → ℕ → ℝ) :
    ∑ l : Fin 256, ∑ d : Fin 256, (∑ t ∈ T, u t * (q t d * p t l)) * (∑ s ∈ S, w s * (k s d * v s l))
      = ∑ t ∈ T, ∑ s ∈ S, dot (q t) (k s) * dot (p t) (v s) * (u t * w s) := by
  have h (l : Fin 256) : ∑ d : Fin 256, (∑ t ∈ T, u t * (q t d * p t l)) * (∑ s ∈ S, w s * (k s d * v s l))
      = ∑ t ∈ T, ∑ s ∈ S, dot (q t) (k s) * (p t l * v s l) * (u t * w s) := by
    simp only [sum_mul_sum]
    rw [sum_comm]
    refine sum_congr rfl fun t _ => ?_
    rw [sum_comm]
    refine sum_congr rfl fun s _ => ?_
    unfold dot
    rw [sum_mul, sum_mul]
    exact sum_congr rfl fun d _ => by ring
  simp only [h]
  rw [sum_comm]
  refine sum_congr rfl fun t _ => ?_
  rw [sum_comm]
  refine sum_congr rfl fun s _ => ?_
  simp only [dot, ← sum_mul, ← mul_sum]

/-- The three gradients as sums over all rows. -/
def dqG (t d : ℕ) : ℝ := ∑ s ∈ Ico 0 4096, dot (D.dR t) (D.v s) * D.W t s * D.k s d
def dkG (s d : ℕ) : ℝ := ∑ t ∈ Ico 0 4096, dot (D.v s) (D.dR t) * D.W t s * D.q t d
def dvG (s e : ℕ) : ℝ := ∑ t ∈ Ico 0 4096, dot (D.k s) (D.q t) * D.W t s * D.dR t e

variable {D}

theorem dq_eq (hs : D.Saved) (n i d : ℕ) (hn : n < 16) (hi : i < 256) : D.dqC n i d = D.dqG (256 * n + i) d := by
  unfold dqC dqG
  rw [three n hn, hs.sf n hn, hs.sb n hn, dot_state, dot_state, add_comm (∑ s ∈ Ico 0 _, _), add_assoc, add_assoc, add_comm (∑ s ∈ Ico _ 4096, _)]
  refine congrArg₂ (· + ·) ?_ (congrArg₂ (· + ·) (sum_congr rfl fun s h => ?_) (sum_congr rfl fun s h => ?_))
  · refine chunk_sum n (fun j => dot (D.dR (256 * n + i)) (D.v (256 * n + j)) * D.dec i j * D.k (256 * n + j) d) _ fun j _ => ?_
    rw [D.dec_eq n]
  · have := mem_Ico.mp h
    rw [fq, D.W_le (t := 256 * n + i) (s := s) (by omega)]
    push_cast; ring
  · have := mem_Ico.mp h
    rw [bq, D.W_lt (t := 256 * n + i) (s := s) (by omega)]
    push_cast; ring

theorem dk_eq (n i d : ℕ) (hn : n < 16) (hi : i < 256) : D.kA n i d + D.kD n i d = D.dkG (256 * n + i) d := by
  unfold kA kD dkG
  rw [three n hn, D.gb_sum, D.gf_after n hn, dot_state, dot_state, add_comm (∑ i : Fin 256, _), add_assoc]
  refine congrArg₂ (· + ·) (sum_congr rfl fun s h => ?_) (congrArg₂ (· + ·) ?_ (sum_congr rfl fun s h => ?_))
  · have := mem_Ico.mp h
    rw [bk, D.W_lt (t := s) (s := 256 * n + i) (by omega)]
    push_cast; ring
  · refine chunk_sum n (fun j => dot (D.v (256 * n + i)) (D.dR (256 * n + j)) * D.dec j i * D.q (256 * n + j) d) _ fun j _ => ?_
    rw [D.dec_eq n]
  · have := mem_Ico.mp h
    rw [fk, D.W_le (t := s) (s := 256 * n + i) (by omega)]
    push_cast; ring

theorem dv_eq (n i d : ℕ) (hn : n < 16) (hi : i < 256) : D.vA n i d + D.vD n i d = D.dvG (256 * n + i) d := by
  unfold vA vD dvG
  rw [three n hn, D.gb_sum, D.gf_after n hn, dot_state', dot_state', add_comm (∑ i : Fin 256, _), add_assoc]
  refine congrArg₂ (· + ·) (sum_congr rfl fun s h => ?_) (congrArg₂ (· + ·) ?_ (sum_congr rfl fun s h => ?_))
  · have := mem_Ico.mp h
    rw [bk, D.W_lt (t := s) (s := 256 * n + i) (by omega)]
    push_cast; ring
  · refine chunk_sum n (fun j => dot (D.k (256 * n + i)) (D.q (256 * n + j)) * D.dec j i * D.dR (256 * n + j) d) _ fun j _ => ?_
    rw [D.dec_eq n]
  · have := mem_Ico.mp h
    rw [fk, D.W_le (t := s) (s := 256 * n + i) (by omega)]
    push_cast; ring

/-! ## The decays' gradients -/

/-- The part of the rows from `lo` to `hi` that lies in chunk `n`; over the chunks these add up. -/
def span (lo hi n : ℕ) : ℕ := min hi (256 * n + 256) - max lo (256 * n)

theorem span_sum (lo hi : ℕ) (m : ℕ) : ∑ n ∈ range m, span lo hi n = min hi (256 * m) - lo := by
  induction m with
  | zero => simp
  | succ m ih => rw [sum_range_succ, ih, span]; omega

theorem spans (P : ℕ → ℕ → ℝ) (lo hi : ℕ → ℕ → ℕ) (hh : ∀ t s, t < 4096 → s < 4096 → hi t s ≤ 4096) :
    ∑ n ∈ range 16, ∑ t ∈ Ico 0 4096, ∑ s ∈ Ico 0 4096, P t s * (span (lo t s) (hi t s) n : ℕ)
      = ∑ t ∈ Ico 0 4096, ∑ s ∈ Ico 0 4096, P t s * ((hi t s - lo t s : ℕ) : ℝ) := by
  rw [sum_comm]
  refine sum_congr rfl fun t ht => ?_
  rw [sum_comm]
  refine sum_congr rfl fun s hs => ?_
  have := mem_Ico.mp ht
  have := mem_Ico.mp hs
  rw [← mul_sum, ← Nat.cast_sum, span_sum, Nat.min_eq_left (hh t s (by omega) (by omega))]

/-- One pair's product of scores, and of its decay. -/
def P (D : Head) (t s : ℕ) : ℝ := dot (D.q t) (D.k s) * dot (D.dR t) (D.v s) * D.W t s

/-- The forward direction's decay gradient, and the backward one's. -/
def dlf (D : Head) : ℝ := ∑ t ∈ Ico 0 4096, ∑ s ∈ Ico 0 4096, D.P t s * ((t - s : ℕ) : ℝ)
def dlb (D : Head) : ℝ := ∑ t ∈ Ico 0 4096, ∑ s ∈ Ico 0 4096, D.P t s * ((s - t : ℕ) : ℝ)

/-- All pairs by where each row stands to chunk `n`. -/
theorem nine (n : ℕ) (hn : n < 16) (f : ℕ → ℕ → ℝ) :
    ∑ t ∈ Ico 0 4096, ∑ s ∈ Ico 0 4096, f t s
      = (∑ t ∈ Ico 0 (256 * n), (∑ s ∈ Ico 0 (256 * n), f t s + (∑ s ∈ Ico (256 * n) (256 * n + 256), f t s + ∑ s ∈ Ico (256 * n + 256) 4096, f t s)))
        + ((∑ t ∈ Ico (256 * n) (256 * n + 256), (∑ s ∈ Ico 0 (256 * n), f t s + (∑ s ∈ Ico (256 * n) (256 * n + 256), f t s + ∑ s ∈ Ico (256 * n + 256) 4096, f t s)))
          + ∑ t ∈ Ico (256 * n + 256) 4096, (∑ s ∈ Ico 0 (256 * n), f t s + (∑ s ∈ Ico (256 * n) (256 * n + 256), f t s + ∑ s ∈ Ico (256 * n + 256) 4096, f t s))) := by
  rw [three n hn]
  simp only [fun t => three n hn (f t)]

/-- A region no pair of which has a span in the chunk. -/
theorem none_of (D : Head) (S T : Finset ℕ) (lo hi : ℕ → ℕ → ℕ) (n : ℕ) (h : ∀ t ∈ T, ∀ s ∈ S, span (lo t s) (hi t s) n = 0) (t : ℕ) (ht : t ∈ T) :
    ∑ s ∈ S, D.P t s * (span (lo t s) (hi t s) n : ℕ) = 0 :=
  sum_eq_zero fun s hs => by rw [h t ht s hs, Nat.cast_zero, mul_zero]

/-- A chunk's rows against a carried or saved state, over the lanes. -/
theorem row_chunk (n : ℕ) (S : Finset ℕ) (w : ℕ → ℝ) (y x k v : ℕ → ℕ → ℝ) (f c : ℕ → ℝ) (g : ℕ → ℕ → ℝ)
    (h : ∀ i, i < 256 → ∀ s ∈ S, dot (y (256 * n + i)) (k s) * dot (x (256 * n + i)) (v s) * (w s * f i) * c i = g (256 * n + i) s) :
    ∑ l : Fin 256, ∑ i : Fin 256, y (256 * n + i) l * f i * dot (x (256 * n + i)) (fun e => ∑ s ∈ S, w s * (k s l * v s e)) * c i
      = ∑ t ∈ Ico (256 * n) (256 * n + 256), ∑ s ∈ S, g t s := by
  rw [sum_comm]
  exact chunk_sum n (fun i => ∑ l : Fin 256, y (256 * n + i) l * f i * dot (x (256 * n + i)) (fun e => ∑ s ∈ S, w s * (k s l * v s e)) * c i) _
    fun i hi => (row_state _ _ _ _ _ _ _ _).trans (sum_congr rfl fun s hs => h i hi s hs)

/-- A chunk's rows against each other. -/
theorem pair_chunk (n : ℕ) (F g : ℕ → ℕ → ℝ) (h : ∀ i, i < 256 → ∀ j, j < 256 → F i j = g (256 * n + i) (256 * n + j)) :
    ∑ l : Fin 256, ∑ i : Fin 256, F i l = ∑ t ∈ Ico (256 * n) (256 * n + 256), ∑ s ∈ Ico (256 * n) (256 * n + 256), g t s := by
  rw [sum_comm]
  exact chunk_sum n (fun i => ∑ j : Fin 256, F i j) _ fun i hi => chunk_sum n (F i) _ fun j hj => h i hi j hj

theorem row0A_sum (hs : D.Saved) (n : ℕ) (hn : n < 16) :
    ∑ l : Fin 256, D.row0A n l
      = ∑ t ∈ Ico (256 * n) (256 * n + 256), (∑ s ∈ Ico 0 (256 * n), D.P t s * (span (s + 1) (t + 1) n : ℕ)
          + ∑ s ∈ Ico (256 * n) (256 * n + 256), D.P t s * (span (s + 1) (t + 1) n : ℕ)) := by
  have h1 := row_chunk n (Ico 0 (256 * n)) (fun s => Real.exp (((256 * n : ℕ) - 1 - (s : ℝ)) * D.a)) D.q D.dR D.k D.v D.fq (fun i => (i : ℝ) + 1)
    (fun t s => D.P t s * (span (s + 1) (t + 1) n : ℕ)) fun i hi s h => by
      have h := mem_Ico.mp h
      rw [fq, D.W_le (t := 256 * n + i) (s := s) (by omega) (by push_cast; ring), P, show span (s + 1) (256 * n + i + 1) n = i + 1 by unfold span; omega]
      push_cast; ring
  have h2 := pair_chunk n (fun i j => D.prod n i j * D.spanf i j) (fun t s => D.P t s * (span (s + 1) (t + 1) n : ℕ)) fun i hi j hj => by
    rw [spanf, prod, D.dec_eq n, P]
    split
    · next h =>
      rw [show span (256 * n + j + 1) (256 * n + i + 1) n = i - j by unfold span; omega, abs_of_nonneg (sub_nonneg.mpr (Nat.cast_le.mpr h)), Nat.cast_sub h]
      ring
    · next h =>
      rw [show span (256 * n + j + 1) (256 * n + i + 1) n = 0 by unfold span; omega]
      simp
  simp only [row0A, hs.sf n hn]
  rw [sum_add_distrib, sum_add_distrib, ← h1, ← h2]

theorem row0D_sum (hs : D.Saved) (n : ℕ) (hn : n < 16) :
    ∑ l : Fin 256, D.row0D n l
      = ∑ t ∈ Ico (256 * n + 256) 4096, (∑ s ∈ Ico 0 (256 * n), D.P t s * (span (s + 1) (t + 1) n : ℕ)
          + ∑ s ∈ Ico (256 * n) (256 * n + 256), D.P t s * (span (s + 1) (t + 1) n : ℕ)) := by
  have h1 := row_chunk n (Ico (256 * n + 256) 4096) (fun t => Real.exp (((t : ℝ) - (256 * n + 256 : ℕ) + 1) * D.a)) D.k D.v D.q D.dR D.fk (fun i => 255 - (i : ℝ))
    (fun s t => D.P t s * (span (s + 1) (t + 1) n : ℕ)) fun i hi t h => by
      have h := mem_Ico.mp h
      rw [fk, D.W_le (t := t) (s := 256 * n + i) (by omega) (by push_cast; ring), P, show span (256 * n + i + 1) (t + 1) n = 255 - i by unfold span; omega,
        Nat.cast_sub (by omega), dot_comm (D.k _), dot_comm (D.v _)]
      push_cast; ring
  have h2 : 256 * D.lamf * (∑ l : Fin 256, ∑ d : Fin 256, D.gf (15 - n) d l * D.sf n d l)
      = ∑ t ∈ Ico (256 * n + 256) 4096, ∑ s ∈ Ico 0 (256 * n), D.P t s * (span (s + 1) (t + 1) n : ℕ) := by
    rw [D.gf_after n hn, hs.sf n hn, state_state, mul_sum]
    refine sum_congr rfl fun t ht => ?_
    rw [mul_sum]
    refine sum_congr rfl fun s h => ?_
    have h := mem_Ico.mp h
    have ht := mem_Ico.mp ht
    have e : D.lamf * (Real.exp (((t : ℝ) - (256 * n + 256 : ℕ) + 1) * D.a) * Real.exp (((256 * n : ℕ) - 1 - (s : ℝ)) * D.a)) = D.W t s := by
      rw [exp_mul, lamf]
      exact D.W_le (by omega) (by push_cast; ring)
    rw [P, ← e, show span (s + 1) (t + 1) n = 256 by unfold span; omega]
    push_cast; ring
  simp only [row0D]
  rw [sum_add_distrib, ← mul_sum, h2, sum_add_distrib, add_comm]
  refine congrArg₂ (· + ·) rfl ?_
  rw [sum_comm (s := Ico (256 * n + 256) 4096), ← h1, D.gf_after n hn]

theorem row0_step (hs : D.Saved) (n : ℕ) (hn : n < 16) :
    ∑ l : Fin 256, D.row0A n l + ∑ l : Fin 256, D.row0D n l = ∑ t ∈ Ico 0 4096, ∑ s ∈ Ico 0 4096, D.P t s * (span (s + 1) (t + 1) n : ℕ) := by
  have hz {S T : Finset ℕ} (h : ∀ t ∈ T, ∀ s ∈ S, span (s + 1) (t + 1) n = 0) (t : ℕ) (ht : t ∈ T) := none_of D S T (fun _ s => s + 1) (fun t _ => t + 1) n h t ht
  rw [row0A_sum hs n hn, row0D_sum hs n hn, nine n hn]
  refine Eq.symm ((congrArg₂ (· + ·) (sum_eq_zero fun t ht => ?_) (congrArg₂ (· + ·) (sum_congr rfl fun t ht => ?_) (sum_congr rfl fun t ht => ?_))).trans (zero_add _))
  · have ht' := mem_Ico.mp ht
    rw [hz (T := {t}) (fun t ht s _ => by rw [mem_singleton] at ht; unfold span; omega) t (mem_singleton_self t),
      hz (T := {t}) (fun t ht s _ => by rw [mem_singleton] at ht; unfold span; omega) t (mem_singleton_self t),
      hz (T := {t}) (fun t ht s _ => by rw [mem_singleton] at ht; unfold span; omega) t (mem_singleton_self t), add_zero, add_zero]
  · have ht' := mem_Ico.mp ht
    rw [hz (T := {t}) (S := Ico (256 * n + 256) 4096) (fun t ht s hs => by rw [mem_singleton] at ht; have := mem_Ico.mp hs; unfold span; omega) t (mem_singleton_self t), add_zero]
  · rw [hz (T := {t}) (S := Ico (256 * n + 256) 4096) (fun t ht s hs => by rw [mem_singleton] at ht; have := mem_Ico.mp hs; unfold span; omega) t (mem_singleton_self t), add_zero]

theorem row0_sum (hs : D.Saved) : ∑ l : Fin 256, D.row0 16 l = D.dlf := by
  have h (n : ℕ) : ∑ l : Fin 256, D.row0 n l = ∑ m ∈ range n, (∑ l : Fin 256, D.row0A m l + ∑ l : Fin 256, D.row0D (15 - m) l) := by
    induction n with
    | zero => simp [row0]
    | succ n ih => rw [sum_range_succ, ← ih]; simp only [row0, sum_add_distrib]; ring
  rw [h, sum_add_distrib, sum_range_reflect (fun m => ∑ l : Fin 256, D.row0D m l) 16, ← sum_add_distrib]
  refine (sum_congr rfl fun n hn => row0_step hs n (mem_range.mp hn)).trans ((spans D.P (fun _ s => s + 1) (fun t _ => t + 1) fun t s ht _ => by omega).trans ?_)
  simp only [dlf, Nat.add_sub_add_right]

theorem row1_step (hs : D.Saved) (n : ℕ) (hn : n < 16) :
    ∑ l : Fin 256, D.row1A n l = ∑ t ∈ Ico 0 4096, ∑ s ∈ Ico 0 4096, D.P t s * (span t s n : ℕ) := by
  have hz {S T : Finset ℕ} (h : ∀ t ∈ T, ∀ s ∈ S, span t s n = 0) (t : ℕ) (ht : t ∈ T) := none_of D S T (fun t _ => t) (fun _ s => s) n h t ht
  have e : ∑ t ∈ Ico 0 4096, ∑ s ∈ Ico 0 4096, D.P t s * (span t s n : ℕ)
      = ((∑ t ∈ Ico (256 * n) (256 * n + 256), ∑ s ∈ Ico (256 * n + 256) 4096, D.P t s * (span t s n : ℕ)
          + ∑ t ∈ Ico 0 (256 * n), ∑ s ∈ Ico (256 * n) (256 * n + 256), D.P t s * (span t s n : ℕ))
          + ∑ t ∈ Ico 0 (256 * n), ∑ s ∈ Ico (256 * n + 256) 4096, D.P t s * (span t s n : ℕ))
        + ∑ t ∈ Ico (256 * n) (256 * n + 256), ∑ s ∈ Ico (256 * n) (256 * n + 256), D.P t s * (span t s n : ℕ) := by
    rw [nine n hn]
    simp only [sum_add_distrib]
    have z1 : ∑ t ∈ Ico 0 (256 * n), ∑ s ∈ Ico 0 (256 * n), D.P t s * (span t s n : ℕ) = 0 :=
      sum_eq_zero fun t ht => hz (T := Ico 0 (256 * n)) (fun t ht s hs => by have := mem_Ico.mp hs; unfold span; omega) t ht
    have z2 : ∑ t ∈ Ico (256 * n) (256 * n + 256), ∑ s ∈ Ico 0 (256 * n), D.P t s * (span t s n : ℕ) = 0 :=
      sum_eq_zero fun t ht => hz (T := Ico (256 * n) (256 * n + 256)) (fun t ht s hs => by have := mem_Ico.mp hs; unfold span; omega) t ht
    have z3 (S : Finset ℕ) : ∑ t ∈ Ico (256 * n + 256) 4096, ∑ s ∈ S, D.P t s * (span t s n : ℕ) = 0 :=
      sum_eq_zero fun t ht => hz (T := Ico (256 * n + 256) 4096) (fun t ht s hs => by have := mem_Ico.mp ht; unfold span; omega) t ht
    rw [z1, z2, z3, z3, z3]
    ring
  have h1 := row_chunk n (Ico (256 * n + 256) 4096) (fun s => Real.exp (((s : ℝ) - (256 * n + 256 : ℕ)) * D.b)) D.q D.dR D.k D.v D.bq (fun i => 256 - (i : ℝ))
    (fun t s => D.P t s * (span t s n : ℕ)) fun i hi s h => by
      have h := mem_Ico.mp h
      rw [bq, D.W_lt (t := 256 * n + i) (s := s) (by omega) (by push_cast; ring), P, show span (256 * n + i) s n = 256 - i by unfold span; omega, Nat.cast_sub (by omega)]
      push_cast; ring
  have h2 := row_chunk n (Ico 0 (256 * n)) (fun t => Real.exp (((256 * n : ℕ) - (t : ℝ)) * D.b)) D.k D.v D.q D.dR D.bk (fun i => (i : ℝ))
    (fun s t => D.P t s * (span t s n : ℕ)) fun i hi t h => by
      have h := mem_Ico.mp h
      rw [bk, D.W_lt (t := t) (s := 256 * n + i) (by omega) (by push_cast; ring), P, show span t (256 * n + i) n = i by unfold span; omega, dot_comm (D.k _), dot_comm (D.v _)]
  have h3 : 256 * D.lamb * (∑ l : Fin 256, ∑ d : Fin 256, D.gb n d l * D.sb n d l)
      = ∑ t ∈ Ico 0 (256 * n), ∑ s ∈ Ico (256 * n + 256) 4096, D.P t s * (span t s n : ℕ) := by
    rw [D.gb_sum, hs.sb n hn, state_state, mul_sum]
    refine sum_congr rfl fun t ht => ?_
    rw [mul_sum]
    refine sum_congr rfl fun s h => ?_
    have h := mem_Ico.mp h
    have ht := mem_Ico.mp ht
    have e : D.lamb * (Real.exp (((256 * n : ℕ) - (t : ℝ)) * D.b) * Real.exp (((s : ℝ) - (256 * n + 256 : ℕ)) * D.b)) = D.W t s := by
      rw [exp_mul, lamb]
      exact D.W_lt (by omega) (by push_cast; ring)
    rw [P, ← e, show span t s n = 256 by unfold span; omega]
    push_cast; ring
  have h4 := pair_chunk n (fun i j => D.prod n i j * D.spanb i j) (fun t s => D.P t s * (span t s n : ℕ)) fun i hi j hj => by
    rw [spanb, prod, D.dec_eq n, P]
    split
    · next h =>
      rw [show span (256 * n + i) (256 * n + j) n = 0 by unfold span; omega]
      simp
    · next h =>
      have h : i ≤ j := by omega
      rw [show span (256 * n + i) (256 * n + j) n = j - i by unfold span; omega, abs_of_nonpos (sub_nonpos.mpr (Nat.cast_le.mpr h)), Nat.cast_sub h]
      ring
  rw [e, ← h1, sum_comm (s := Ico 0 (256 * n)) (t := Ico (256 * n) (256 * n + 256)), ← h2, ← h3, ← h4]
  simp only [row1A]
  rw [sum_add_distrib, sum_add_distrib, sum_add_distrib, ← mul_sum, D.gb_sum, hs.sb n hn]

theorem row1_sum (hs : D.Saved) : ∑ l : Fin 256, D.row1 16 l = D.dlb := by
  have h (n : ℕ) : ∑ l : Fin 256, D.row1 n l = ∑ m ∈ range n, ∑ l : Fin 256, D.row1A m l := by
    induction n with
    | zero => simp [row1]
    | succ n ih => rw [sum_range_succ, ← ih]; simp only [row1, sum_add_distrib]
  rw [h]
  exact (sum_congr rfl fun n hn => row1_step hs n (mem_range.mp hn)).trans (spans D.P (fun t _ => t) (fun _ s => s) fun t s _ hs => by omega)

end Head

end Cert.RetMath

end
-- ==== Proof.RetRef.lean ====
/-
  The reference for the retention's gradients on arrays of reals: its rotated q and k, decays, scores, outputs and each
  gradient.
-/
module

public import proofs.«01_k».proof.Proof.Gen.RetRefIdeal.Read
public import proofs.«01_k».proof.Proof.RetPay
public import proofs.«01_k».proof.Proof.RetSum

@[expose] public section

set_option maxRecDepth 16384

noncomputable section

namespace Cert.RetRef

open Cert.RetRefIdeal Cert.RetRefIdeal.Read Idealize.ShloMosaic Cert.Reals Cert.RetMath Cert.RetMath.Head
open Cert.RetPay (lit_zero lit_255 lit_256 lit_sixteenth div_256 max_coe log1p_exp nonneg_iff nonpos_iff rsqrt_msq)

/-- Arrays of reals: an argument by row and column, the logits, an array by row, head and lane, one by head, row and
    lane, one over pairs of rows, and one over pairs of rows for each head. -/
def mat (A : ℕ → ℕ → ℝ) : S1x4096x1024.Idx → EReal := fun y => ((A (y 1).val (y 2).val : ℝ) : EReal)
def lgt (L : ℕ → ℕ → ℝ) : S1x2x4.Idx → EReal := fun y => ((L (y 1).val (y 2).val : ℝ) : EReal)
def two4 (L : ℕ → ℕ → ℝ) : S2x4.Idx → EReal := fun y => ((L (y 0).val (y 1).val : ℝ) : EReal)
def arr (f : ℕ → ℕ → ℕ → ℝ) : S1x4096x4x256.Idx → EReal := fun y => ((f (y 1).val (y 2).val (y 3).val : ℝ) : EReal)
def head (f : ℕ → ℕ → ℕ → ℝ) : S4x4096x256.Idx → EReal := fun y => ((f (y 1).val (y 0).val (y 2).val : ℝ) : EReal)
def pair (f : ℕ → ℕ → ℝ) : S4096x4096.Idx → EReal := fun y => ((f (y 0).val (y 1).val : ℝ) : EReal)
def pairs (f : ℕ → ℕ → ℕ → ℝ) : S4x4096x4096.Idx → EReal := fun y => ((f (y 0).val (y 1).val (y 2).val : ℝ) : EReal)
def tab (f : ℕ → ℕ → ℝ) : S4096x128.Idx → EReal := fun y => ((f (y 0).val (y 1).val : ℝ) : EReal)
def one4 (f : ℕ → ℕ → ℝ) : S1x4096x4x1.Idx → EReal := fun y => ((f (y 1).val (y 2).val : ℝ) : EReal)

theorem mat_ext {x : S1x4096x1024.Idx → EReal} {f : ℕ → ℕ → ℝ} (h : ∀ (t : Fin 4096) (c : Fin 1024), x (ix3 0 t c) = ((f t c : ℝ) : EReal)) : x = mat f := by
  funext y
  obtain ⟨u, t, c, rfl⟩ : ∃ u t c, y = ix3 u t c := ⟨_, _, _, eq_ix3 y⟩
  obtain rfl : u = 0 := Subsingleton.elim _ _
  exact h t c
theorem two4_ext {x : S2x4.Idx → EReal} {f : ℕ → ℕ → ℝ} (h : ∀ (r : Fin 2) (c : Fin 4), x (ix2 r c) = ((f r c : ℝ) : EReal)) : x = two4 f := by
  funext y
  obtain ⟨r, c, rfl⟩ : ∃ r c, y = ix2 r c := ⟨_, _, eq_ix2 y⟩
  exact h r c
theorem tab_ext {x : S4096x128.Idx → EReal} {f : ℕ → ℕ → ℝ} (h : ∀ (r : Fin 4096) (c : Fin 128), x (ix2 r c) = ((f r c : ℝ) : EReal)) : x = tab f := by
  funext y
  obtain ⟨r, c, rfl⟩ : ∃ r c, y = ix2 r c := ⟨_, _, eq_ix2 y⟩
  exact h r c
theorem pair_ext {x : S4096x4096.Idx → EReal} {f : ℕ → ℕ → ℝ} (h : ∀ r c : Fin 4096, x (ix2 r c) = ((f r c : ℝ) : EReal)) : x = pair f := by
  funext y
  obtain ⟨r, c, rfl⟩ : ∃ r c, y = ix2 r c := ⟨_, _, eq_ix2 y⟩
  exact h r c
theorem arr_ext {x : S1x4096x4x256.Idx → EReal} {f : ℕ → ℕ → ℕ → ℝ}
    (h : ∀ (t : Fin 4096) (g : Fin 4) (d : Fin 256), x (ix4 0 t g d) = ((f t g d : ℝ) : EReal)) : x = arr f := by
  funext y
  obtain ⟨u, t, g, d, rfl⟩ : ∃ u t g d, y = ix4 u t g d := ⟨_, _, _, _, eq_ix4 y⟩
  obtain rfl : u = 0 := Subsingleton.elim _ _
  exact h t g d
theorem one4_ext {x : S1x4096x4x1.Idx → EReal} {f : ℕ → ℕ → ℝ}
    (h : ∀ (t : Fin 4096) (g : Fin 4), x (ix4 0 t g 0) = ((f t g : ℝ) : EReal)) : x = one4 f := by
  funext y
  obtain ⟨u, t, g, d, rfl⟩ : ∃ u t g d, y = ix4 u t g d := ⟨_, _, _, _, eq_ix4 y⟩
  obtain rfl : u = 0 := Subsingleton.elim _ _
  obtain rfl : d = 0 := Subsingleton.elim _ _
  exact h t g
theorem head_ext {x : S4x4096x256.Idx → EReal} {f : ℕ → ℕ → ℕ → ℝ}
    (h : ∀ (g : Fin 4) (t : Fin 4096) (d : Fin 256), x (ix3 g t d) = ((f t g d : ℝ) : EReal)) : x = head f := by
  funext y
  obtain ⟨g, t, d, rfl⟩ : ∃ g t d, y = ix3 g t d := ⟨_, _, _, eq_ix3 y⟩
  exact h g t d
theorem pairs_ext {x : S4x4096x4096.Idx → EReal} {f : ℕ → ℕ → ℕ → ℝ}
    (h : ∀ (g : Fin 4) (t s : Fin 4096), x (ix3 g t s) = ((f g t s : ℝ) : EReal)) : x = pairs f := by
  funext y
  obtain ⟨g, t, d, rfl⟩ : ∃ g t d, y = ix3 g t d := ⟨_, _, _, eq_ix3 y⟩
  exact h g t d

theorem lit_10000 : Ideal.ofBits .f32 1176256512#32 = ((10000 : ℝ) : EReal) := by
  simp [Ideal.ofBits, Ideal.ieee, -EReal.coe_mul]; norm_num

/-- A position as a word. -/
theorem pos_word (n : ℕ) (h : n < 4096) : FloatOps.sitofp (F := Ideal) .f32 (BitVec.ofNat 32 n) = ((n : ℝ) : EReal) := by
  have e : (BitVec.ofNat 32 n).toInt = (n : ℤ) := by
    rw [BitVec.toInt_ofNat']
    simp only [Int.bmod_def]
    omega
  show (((BitVec.ofNat 32 n).toInt : ℝ) : EReal) = _
  rw [e]; push_cast; rfl

/-- The rotation's angle of position `t` and lane `j` of a half. -/
def ang (t j : ℕ) : ℝ := t * (10000 : ℝ) ^ (-(2 * (j : ℝ)) / 256)

theorem v16_eq : val_main_v16 (F := Ideal) = tab ang :=
  tab_ext fun t j => by
    pointwise [val_main_v16, val_main_v15, val_main_v14, val_main_v13, val_main_v12, val_main_v11, val_main_v10, val_main_v9, val_main_v8, val_main_v7, val_main_v6,
      val_main_v5, val_main_v4, val_main_v3, val_main_v2, val_main_v1, val_main_cst, val_main_cst_0, val_main_cst_1, val_main_cst_2]
    simp only [pos_word t.val t.isLt, pos_word j.val (by omega), lit_two, lit_256, lit_10000, ← EReal.coe_mul, ← EReal.coe_neg, div_256, Ideal.pow_coe_coe]
    rfl

/-- A row rotated, by head and lane. -/
def rot (A : ℕ → ℕ → ℝ) (t h d : ℕ) : ℝ :=
  if d < 128 then A t (h * 256 + d) * Real.cos (ang t d) - A t (h * 256 + (128 + d)) * Real.sin (ang t d)
  else A t (h * 256 + d) * Real.cos (ang t (d - 128)) + A t (h * 256 + (d - 128)) * Real.sin (ang t (d - 128))

theorem v33_eq (A : ℕ → ℕ → ℝ) : val_main_v33 (F := Ideal) (mat A) = arr (rot A) :=
  arr_ext fun t h d => by
    pointwise [val_main_v33, val_main_v32, val_main_v31, val_main_v30, val_main_v29, val_main_v28, val_main_v27, val_main_v26, val_main_v25, val_main_v24, val_main_v23,
      val_main_v22, val_main_v21, val_main_v20, val_main_v19, val_main_v18, val_main_v17, val_main_v0, v16_eq]
    unfold rot
    split
    · simp only [mat, tab, Ideal.cos_coe, Ideal.sin_coe, ← EReal.coe_mul, ← EReal.coe_sub]
      rfl
    · next hd =>
      have e : 128 + (d.val - 128) = d.val := by omega
      simp only [mat, tab, e, Ideal.cos_coe, Ideal.sin_coe, ← EReal.coe_mul, ← EReal.coe_add]
      rfl

/-- The logits, the other rows cleared. -/
def logit (L : ℕ → ℕ → ℝ) (r h : ℕ) : ℝ := if r < 2 then L r h else 0

/-- The softplus of the logit's negation. -/
theorem softplus_eq (L : ℕ → ℕ → ℝ) : val_main_call0_v1_0 (F := Ideal) (lgt L) = two4 fun r h => max (-(logit L r h)) 0 + Real.log (1 + Real.exp (-|-(logit L r h)|)) :=
  two4_ext fun r h => by
    pointwise [val_main_call0_v1_0, val_main_call0_call0_v11, val_main_call0_call0_v10, val_main_call0_call0_v9, val_main_call0_call0_v8, val_main_call0_call0_v7,
      val_main_call0_call0_v6, val_main_call0_call0_v5, val_main_call0_call0_v4, val_main_call0_call0_v3, val_main_call0_call0_v2, val_main_call0_call0_v1, val_main_call0_call0_v0,
      val_main_call0_call0_cst, val_main_call0_v0, val_main_v71]
    rw [if_neg (not_not.mpr rfl), logit, if_pos r.isLt]
    simp only [lgt, Ideal.absf_def, ← EReal.coe_zero, ← EReal.coe_neg, max_coe, Ideal.exp_coe, log1p_exp, ← EReal.coe_add]
    change ((max (-L r h) 0 + Real.log (1 + Real.exp (-max (-L r h) (-(-L r h)))) : ℝ) : EReal) = _
    simp only [← abs_eq_max_neg]
theorem v72_eq (L : ℕ → ℕ → ℝ) : val_main_v72_0 (F := Ideal) (lgt L) = two4 fun r h => logsig (logit L r h) :=
  two4_ext fun r h => by
    pointwise [val_main_v72_0, softplus_eq]
    simp only [two4, ← EReal.coe_neg, logsig, abs_neg]
    rfl

theorem neg_iff (t s : ℕ) : (((t : ℝ) - s : ℝ) : EReal) < ((0 : ℝ) : EReal) ↔ t < s := by
  rw [EReal.coe_lt_coe_iff, sub_neg, Nat.cast_lt]

/-- The problem's arguments as reals. -/
structure Args where
  q : ℕ → ℕ → ℝ
  k : ℕ → ℕ → ℝ
  v : ℕ → ℕ → ℝ
  g : ℕ → ℕ → ℝ
  L : ℕ → ℕ → ℝ
  ct : ℕ → ℕ → ℝ

namespace Args

variable (A : Args)

/-- The two directions' decays from one position to another. -/
def wf (h t s : ℕ) : ℝ := if s ≤ t then Real.exp (max ((t : ℝ) - s) 0 * logsig (logit A.L 0 h)) else 0
def wb (h t s : ℕ) : ℝ := if t < s then Real.exp (max (-((t : ℝ) - s)) 0 * logsig (logit A.L 1 h)) else 0

def hq (h t d : ℕ) : ℝ := rot A.q t h d
def hk (h t d : ℕ) : ℝ := rot A.k t h d * (1 / 16)
def hv (h t d : ℕ) : ℝ := A.v t (h * 256 + d)

/-- The decays to and from a chunk's ends over all rows. -/
def kf (h n s : ℕ) : ℝ := if s < 256 * n then Real.exp (((256 * n : ℕ) - 1 - (s : ℝ)) * logsig (logit A.L 0 h)) else 0
def kb (h n s : ℕ) : ℝ := if 256 * n + 256 ≤ s then Real.exp (((s : ℝ) - (256 * n + 256 : ℕ)) * logsig (logit A.L 1 h)) else 0

/-- One head of the problem. -/
def hd (h : ℕ) : Head where
  dr := fun t d => A.ct t (h * 256 + d)
  R := fun t e => (∑ s : Fin 4096, dot (A.hq h t) (A.hk h s) * A.wf h t s * A.hv h s e) + ∑ s : Fin 4096, dot (A.hq h t) (A.hk h s) * A.wb h t s * A.hv h s e
  q := A.hq h
  k := A.hk h
  v := A.hv h
  g := fun t d => A.g t (h * 256 + d)
  co := fun t j => Real.cos (ang t j)
  si := fun t j => Real.sin (ang t j)
  sf := fun n d e => ∑ s : Fin 4096, A.hk h s d * A.kf h n s * A.hv h s e
  sb := fun n d e => ∑ s : Fin 4096, A.hk h s d * A.kb h n s * A.hv h s e
  L := fun r => logit A.L r h

end Args

variable (A : Args)

theorem v74_eq : val_main_v74 (F := Ideal) (mat A.q) = head fun t h d => (A.hd h).q t d :=
  head_ext fun h t d => by pointwise [val_main_v74, val_main_v73, v33_eq]; rfl
theorem v69_eq : val_main_v69 (F := Ideal) (mat A.k) = arr fun t h d => (A.hd h).k t d :=
  arr_ext fun t h d => by
    pointwise [val_main_v69, val_main_v68, val_main_cst_7, show val_main_v67 (F := Ideal) = val_main_v33 (F := Ideal) from rfl, v33_eq]
    simp only [arr, lit_sixteenth, ← EReal.coe_mul]
    rfl
theorem v76_eq : val_main_v76 (F := Ideal) (mat A.k) = head fun t h d => (A.hd h).k t d :=
  head_ext fun h t d => by pointwise [val_main_v76, val_main_v75, v69_eq]; rfl
theorem v78_eq : val_main_v78 (F := Ideal) (mat A.v) = head fun t h d => (A.hd h).v t d :=
  head_ext fun h t d => by pointwise [val_main_v78, val_main_v77, val_main_v70]; rfl

theorem v84_eq : val_main_v84 (F := Ideal) = pair fun t s => (t : ℝ) - s :=
  pair_ext fun t s => by
    pointwise [val_main_v84, val_main_v83, val_main_v82, val_main_v81, val_main_v80, val_main_v79]
    rw [pos_word t.val t.isLt, pos_word s.val s.isLt, ← EReal.coe_sub]
theorem v92_eq : val_main_v92 (F := Ideal) = pair fun t s => max ((t : ℝ) - s) 0 :=
  pair_ext fun t s => by
    pointwise [val_main_v92, val_main_v91, val_main_cst_9, v84_eq]
    simp only [pair, ← EReal.coe_zero, max_coe]
    rfl
theorem v110_eq : val_main_v110 (F := Ideal) = pair fun t s => max (-((t : ℝ) - s)) 0 :=
  pair_ext fun t s => by
    pointwise [val_main_v110, val_main_v109, val_main_v106, val_main_cst_12, v84_eq]
    simp only [pair, ← EReal.coe_zero, ← EReal.coe_neg, max_coe]
    rfl
theorem v97_eq : val_main_v97 (F := Ideal) (lgt A.L) = pairs fun h t s => Real.exp (max ((t : ℝ) - s) 0 * (A.hd h).a) :=
  pairs_ext fun h t s => by
    pointwise [val_main_v97, val_main_v96, val_main_v95, val_main_v94, val_main_v93, val_main_v89, val_main_v86, val_main_v85, v92_eq, v72_eq]
    simp only [pair, two4, ← EReal.coe_mul, Ideal.exp_coe]
    rfl
theorem v115_eq : val_main_v115 (F := Ideal) (lgt A.L) = pairs fun h t s => Real.exp (max (-((t : ℝ) - s)) 0 * (A.hd h).b) :=
  pairs_ext fun h t s => by
    pointwise [val_main_v115, val_main_v114, val_main_v113, val_main_v112, val_main_v111, val_main_v107, val_main_v103, val_main_v102, v110_eq, v72_eq]
    simp only [pair, two4, ← EReal.coe_mul, Ideal.exp_coe]
    rfl
theorem v98_eq : val_main_v98_0 (F := Ideal) (lgt A.L) = pairs A.wf :=
  pairs_ext fun h t s => by
    pointwise [val_main_v98_0, val_main_v98_1, val_main_call1_v2, val_main_call1_v0, val_main_cst_10, val_main_v90, val_main_v88, val_main_v87, val_main_cst_8, v84_eq, v97_eq]
    rw [show id (constant (F := Ideal) S_ .f32 0#32) ix0 = ((0 : ℝ) : EReal) from lit_zero, ← EReal.coe_zero]
    change (if (0 : ℝ) ≤ (((t.val : ℝ) - s.val : ℝ) : EReal) then _ else _) = _
    simp only [nonneg_iff, Args.wf]
    split <;> rfl
theorem v116_eq : val_main_v116_0 (F := Ideal) (lgt A.L) = pairs A.wb :=
  pairs_ext fun h t s => by
    pointwise [val_main_v116_0, val_main_v116_1, val_main_call2_v2, val_main_call2_v0, val_main_cst_13, val_main_v108, val_main_v105, val_main_v104, val_main_cst_11, v84_eq, v115_eq]
    rw [show id (constant (F := Ideal) S_ .f32 0#32) ix0 = ((0 : ℝ) : EReal) from lit_zero, ← EReal.coe_zero]
    change (if (((t.val : ℝ) - s.val : ℝ) : EReal) < (0 : ℝ) then _ else _) = _
    simp only [neg_iff, Args.wb]
    split <;> rfl
theorem v99_eq : val_main_v99 (F := Ideal) (mat A.q) (mat A.k) = pairs fun h t s => dot ((A.hd h).q t) ((A.hd h).k s) :=
  pairs_ext fun h t s => by
    pointwise [val_main_v99, v74_eq, v76_eq]
    simp only [head, ← EReal.coe_mul, ← coe_sum]
    rfl
theorem v117_eq : val_main_v117 (F := Ideal) (mat A.q) (mat A.k) = pairs fun h t s => dot ((A.hd h).q t) ((A.hd h).k s) := v99_eq A
theorem v101_eq : val_main_v101 (F := Ideal) (mat A.q) (mat A.k) (mat A.v) (lgt A.L)
    = head fun t h e => ∑ s : Fin 4096, dot ((A.hd h).q t) ((A.hd h).k s) * A.wf h t s * (A.hd h).v s e :=
  head_ext fun h t e => by
    pointwise [val_main_v101, val_main_v100, v99_eq, v98_eq, v78_eq]
    simp only [head, pairs, ← EReal.coe_mul, ← coe_sum]
    rfl
theorem v119_eq : val_main_v119 (F := Ideal) (mat A.q) (mat A.k) (mat A.v) (lgt A.L)
    = head fun t h e => ∑ s : Fin 4096, dot ((A.hd h).q t) ((A.hd h).k s) * A.wb h t s * (A.hd h).v s e :=
  head_ext fun h t e => by
    pointwise [val_main_v119, val_main_v118, v117_eq, v116_eq, v78_eq]
    simp only [head, pairs, ← EReal.coe_mul, ← coe_sum]
    rfl
theorem v122_eq : val_main_v122 (F := Ideal) (mat A.q) (mat A.k) (mat A.v) (lgt A.L) = arr fun t h e => (A.hd h).R t e :=
  arr_ext fun t h e => by
    pointwise [val_main_v122, val_main_v121, val_main_v120, v101_eq, v119_eq]
    simp only [head, ← EReal.coe_add]
    rfl

/-! ## The norm and the gate -/

theorem v129_eq : val_main_v129 (F := Ideal) (mat A.q) (mat A.k) (mat A.v) (lgt A.L) = one4 fun t h => msq ((A.hd h).R t) :=
  one4_ext fun t h => by
    pointwise [val_main_v129, val_main_v128, val_main_v127, val_main_v126, val_main_v125, val_main_v124, val_main_v123, val_main_cst_14, val_main_cst_15, val_main_cst_16, v122_eq]
    simp only [arr, lit_256, lit_eps, ← EReal.coe_mul, ← coe_sum, div_256, ← EReal.coe_add]
    rfl
theorem v130_eq : val_main_v130 (F := Ideal) (mat A.q) (mat A.k) (mat A.v) (lgt A.L) = one4 fun t h => rstd ((A.hd h).R t) :=
  one4_ext fun t h => by
    pointwise [val_main_v130, v129_eq]
    exact rsqrt_msq _
theorem v133_eq : val_main_v133 (F := Ideal) (mat A.q) (mat A.k) (mat A.v) (lgt A.L)
    = one4 fun t h => -1 / 2 * (rstd ((A.hd h).R t) / msq ((A.hd h).R t)) :=
  one4_ext fun t h => by
    pointwise [val_main_v133, val_main_v132, val_main_v131, val_main_cst_17, v129_eq, v130_eq]
    simp only [one4]
    rw [div_real (msq_pos _).ne', lit_neg_half, ← EReal.coe_mul]
    rfl
theorem v136_eq : val_main_v136 (F := Ideal) (mat A.q) (mat A.k) (mat A.v) (lgt A.L) = mat fun t c => (A.hd (c / 256)).rn t (c % 256) :=
  mat_ext fun t c => by
    pointwise [val_main_v136, val_main_v135, val_main_v134, v122_eq, v130_eq]
    simp only [arr, one4, ← EReal.coe_mul]
    rfl
theorem v137_2_eq (G : ℕ → ℕ → ℝ) : val_main_v137_2 (F := Ideal) (mat G) = mat fun t c => sigm (G t c) :=
  mat_ext fun t c => by
    pointwise [val_main_v137_2, val_main_call3_v4, val_main_call3_v3, val_main_call3_v2, val_main_call3_v1, val_main_call3_v0, val_main_call3_cst, val_main_call3_cst_0]
    simp only [mat, ← EReal.coe_one, ← EReal.coe_neg, Ideal.exp_coe, ← EReal.coe_add]
    rw [div_real (by positivity), one_div]
    rfl
theorem v137_1_eq (G : ℕ → ℕ → ℝ) : val_main_v137_1 (F := Ideal) (mat G) = mat fun t c => sigm (G t c) * (1 - sigm (G t c)) :=
  mat_ext fun t c => by
    pointwise [val_main_v137_1, val_main_call3_v7, val_main_call3_v6, val_main_call3_cst_1, v137_2_eq]
    simp only [mat, ← EReal.coe_one, ← EReal.coe_sub, ← EReal.coe_mul]
    rfl
theorem v141_eq : val_main_v141 (F := Ideal) (mat A.q) (mat A.k) (mat A.v) (mat A.g) (lgt A.L) (mat A.ct) = mat fun t c => (A.hd (c / 256)).dg t (c % 256) :=
  mat_ext fun t c => by
    pointwise [val_main_v141, val_main_call4_v2, val_main_call4_v1, val_main_call4_v0, val_main_v139, v136_eq, v137_1_eq, v137_2_eq]
    simp only [mat, ← EReal.coe_mul, ← EReal.coe_add]
    have e : c.val / 256 * 256 + c.val % 256 = c.val := Nat.div_add_mod' _ _
    change (((A.hd (c.val / 256)).rn t.val (c.val % 256) * A.ct t.val c.val * sigm (A.g t.val c.val)
      + A.g t.val c.val * ((A.hd (c.val / 256)).rn t.val (c.val % 256) * A.ct t.val c.val) * (sigm (A.g t.val c.val) * (1 - sigm (A.g t.val c.val))) : ℝ) : EReal)
      = ((A.ct t.val (c.val / 256 * 256 + c.val % 256) * (A.hd (c.val / 256)).rn t.val (c.val % 256) * (sigm (A.g t.val (c.val / 256 * 256 + c.val % 256))
        * (1 + A.g t.val (c.val / 256 * 256 + c.val % 256) * (1 - sigm (A.g t.val (c.val / 256 * 256 + c.val % 256))))) : ℝ) : EReal)
    rw [e]
    congr 1
    ring
theorem v142_eq : val_main_v142 (F := Ideal) (mat A.g) (mat A.ct) = arr fun t h d => (A.hd h).drn t d :=
  arr_ext fun t h d => by
    pointwise [val_main_v142, val_main_v140, val_main_v137_0, v137_2_eq]
    simp only [mat, ← EReal.coe_mul, ← mul_assoc]
    rfl
/-- Twice the derivative through the mean of squares. -/
def zmean (D : Head) (t : ℕ) : ℝ := (∑ e : Fin 256, D.R t e * D.drn t e) * (-1 / 2 * (rstd (D.R t) / msq (D.R t))) / 256
theorem v150_eq : val_main_v150 (F := Ideal) (mat A.q) (mat A.k) (mat A.v) (mat A.g) (lgt A.L) (mat A.ct) = one4 fun t h => zmean (A.hd h) t :=
  one4_ext fun t h => by
    pointwise [val_main_v150, val_main_v149, val_main_v148, val_main_v145, val_main_v144, val_main_v143, val_main_cst_18, val_main_cst_19, v122_eq, v142_eq, v133_eq]
    simp only [arr, one4, lit_256, ← EReal.coe_mul, ← coe_sum, div_256]
    rfl
/-- A sum over two axes of extent one is the element. -/
theorem reduce_ones (w : S1x4096x4x1.ReducesTo [0, 3] S4096x4) (x : S1x4096x4x1.Idx → EReal) (t : Fin 4096) (h : Fin 4) :
    Ideal.hostReduceAdd w x 0 (ix2 t h) = x (ix4 0 t h 0) := by
  unfold Ideal.hostReduceAdd
  rw [zero_add, show Finset.univ.filter (fun i => w.drop i = ix2 t h) = {ix4 0 t h 0} from ?_, Finset.sum_singleton]
  ext i
  rw [Finset.mem_filter, Finset.mem_singleton, and_iff_right (Finset.mem_univ i)]
  have e1 (i : S1x4096x4x1.Idx) : (w.drop i 0).val = (i 1).val := w.drop_apply_val_of_eq i 0 1 (by decide)
  have e2 (i : S1x4096x4x1.Idx) : (w.drop i 1).val = (i 2).val := w.drop_apply_val_of_eq i 1 2 (by decide)
  constructor
  · intro e
    have f1 : (i 1).val = t.val := (e1 i).symm.trans (congrArg (fun z => (z 0).val) e)
    have f2 : (i 2).val = h.val := (e2 i).symm.trans (congrArg (fun z => (z 1).val) e)
    rw [eq_ix4 i]
    have f0 : i 0 = (0 : Fin 1) := Subsingleton.elim (α := Fin 1) _ _
    have f3 : i 3 = (0 : Fin 1) := Subsingleton.elim (α := Fin 1) _ _
    rw [f0, f3, show i 1 = t from Fin.ext f1, show i 2 = h from Fin.ext f2]
  · rintro rfl
    rw [eq_ix2 (w.drop (ix4 0 t h 0)), show w.drop (ix4 0 t h 0) 0 = t from Fin.ext (e1 _), show w.drop (ix4 0 t h 0) 1 = h from Fin.ext (e2 _)]
theorem v153_eq : val_main_v153 (F := Ideal) (mat A.q) (mat A.k) (mat A.v) (mat A.g) (lgt A.L) (mat A.ct) = arr fun t h _ => zmean (A.hd h) t :=
  arr_ext fun t h d => by
    pointwise [val_main_v153, val_main_v152, val_main_v151, val_main_cst_20, v150_eq]
    exact reduce_ones _ _ t h
theorem dR_eq (D : Head) (t d : ℕ) : D.drn t d * rstd (D.R t) + D.R t d * zmean D t + zmean D t * D.R t d = D.dR t d := by
  have hm := msq_pos (D.R t)
  have hs : rstd (D.R t) * rstd (D.R t) * msq (D.R t) = 1 := by
    unfold rstd
    rw [← mul_inv, Real.mul_self_sqrt hm.le, inv_mul_cancel₀ hm.ne']
  have e : ∑ e : Fin 256, D.drn t e * D.rn t e = rstd (D.R t) * ∑ e : Fin 256, D.R t e * D.drn t e := by
    rw [Finset.mul_sum]
    exact Finset.sum_congr rfl fun e _ => by unfold rn; ring
  have hr : rstd (D.R t) / msq (D.R t) = rstd (D.R t) * (rstd (D.R t) * rstd (D.R t)) := by
    rw [div_eq_iff hm.ne', mul_assoc, hs, mul_one]
  unfold zmean dR
  rw [e, hr, rn]
  ring
theorem v159_eq : val_main_v159 (F := Ideal) (mat A.q) (mat A.k) (mat A.v) (mat A.g) (lgt A.L) (mat A.ct) = head fun t h d => (A.hd h).dR t d :=
  head_ext fun h t d => by
    pointwise [val_main_v159, val_main_v158, val_main_v157, val_main_v156, val_main_v155, val_main_v154, val_main_v147, val_main_v146, val_main_cst_21, v122_eq, v130_eq, v142_eq, v153_eq]
    simp only [arr, one4, ← EReal.coe_mul, ← EReal.coe_add]
    rw [Fin.sum_univ_one]
    exact congrArg _ (dR_eq (A.hd h) t d)
theorem v162_eq : val_main_v162 (F := Ideal) (mat A.q) (mat A.k) (mat A.v) (mat A.g) (lgt A.L) (mat A.ct) = pairs fun h t s => dot ((A.hd h).dR t) ((A.hd h).v s) :=
  pairs_ext fun h t s => by
    pointwise [val_main_v162, v159_eq, v78_eq]
    simp only [head, ← EReal.coe_mul, ← coe_sum]
    rfl

theorem W_eq (h t s : ℕ) : A.wf h t s + A.wb h t s = (A.hd h).W t s := by
  unfold Args.wf Args.wb Head.W
  by_cases hs : s ≤ t
  · rw [if_pos hs, if_neg (by omega), if_pos hs, add_zero, max_eq_left (sub_nonneg.mpr (Nat.cast_le.mpr hs))]; rfl
  · rw [if_neg hs, if_pos (by omega), if_neg hs, zero_add, neg_sub, max_eq_left (sub_nonneg.mpr (Nat.cast_le.mpr (by omega)))]; rfl
theorem rows_sum (f : ℕ → ℝ) : ∑ s ∈ Finset.Ico 0 4096, f s = ∑ s : Fin 4096, f s := by
  rw [← Finset.range_eq_Ico, Fin.sum_univ_eq_sum_range]

theorem v178_eq : val_main_v178 (F := Ideal) (mat A.q) (mat A.k) (mat A.v) (mat A.g) (lgt A.L) (mat A.ct) = head fun s h e => (A.hd h).dvG s e :=
  head_ext fun h s e => by
    pointwise [val_main_v178, val_main_v177, val_main_v176, val_main_v161, val_main_v160, val_main_v118, val_main_v100, v159_eq, v99_eq, v117_eq, v98_eq, v116_eq]
    simp only [head, pairs, ← EReal.coe_mul, ← coe_sum, ← EReal.coe_add]
    refine congrArg _ ?_
    rw [← Finset.sum_add_distrib, dvG, rows_sum]
    refine Finset.sum_congr rfl fun t _ => ?_
    rw [← W_eq, dot_comm ((A.hd h).k s)]
    change _ = dot ((A.hd h).q t) ((A.hd h).k s) * (A.wf h t s + A.wb h t s) * (A.hd h).dR t e
    change (A.hd h).dR t e * (dot ((A.hd h).q t) ((A.hd h).k s) * A.wb h t s) + (A.hd h).dR t e * (dot ((A.hd h).q t) ((A.hd h).k s) * A.wf h t s) = _
    ring
theorem v183_eq : val_main_v183 (F := Ideal) (mat A.q) (mat A.k) (mat A.v) (mat A.g) (lgt A.L) (mat A.ct) = head fun s h d => (A.hd h).dkG s d :=
  head_ext fun h s d => by
    pointwise [val_main_v183, val_main_v182, val_main_v181, val_main_v165, val_main_v164, show val_main_v179 (F := Ideal) = val_main_v162 (F := Ideal) from rfl, v162_eq, v98_eq, v116_eq, v74_eq]
    simp only [head, pairs, ← EReal.coe_mul, ← coe_sum, ← EReal.coe_add]
    refine congrArg _ ?_
    rw [← Finset.sum_add_distrib, dkG, rows_sum]
    refine Finset.sum_congr rfl fun t _ => ?_
    rw [← W_eq, dot_comm ((A.hd h).v s)]
    change dot ((A.hd h).dR t) ((A.hd h).v s) * A.wb h t s * (A.hd h).q t d + dot ((A.hd h).dR t) ((A.hd h).v s) * A.wf h t s * (A.hd h).q t d = _
    ring
theorem v185_eq : val_main_v185 (F := Ideal) (mat A.q) (mat A.k) (mat A.v) (mat A.g) (lgt A.L) (mat A.ct) = head fun t h d => (A.hd h).dqG t d :=
  head_ext fun h t d => by
    pointwise [val_main_v185, val_main_v184, val_main_v181, val_main_v166, val_main_v164, show val_main_v179 (F := Ideal) = val_main_v162 (F := Ideal) from rfl, v162_eq, v98_eq, v116_eq, v76_eq]
    simp only [head, pairs, ← EReal.coe_mul, ← coe_sum, ← EReal.coe_add]
    refine congrArg _ ?_
    rw [← Finset.sum_add_distrib, dqG, rows_sum]
    refine Finset.sum_congr rfl fun s _ => ?_
    rw [← W_eq]
    change dot ((A.hd h).dR t) ((A.hd h).v s) * A.wb h t s * (A.hd h).k s d + dot ((A.hd h).dR t) ((A.hd h).v s) * A.wf h t s * (A.hd h).k s d = _
    ring
theorem v170_eq : val_main_v170 (F := Ideal) (mat A.q) (mat A.k) (mat A.v) (mat A.g) (lgt A.L) (mat A.ct) = pairs fun h t s => (A.hd h).P t s * ((s - t : ℕ) : ℝ) :=
  pairs_ext fun h t s => by
    pointwise [val_main_v170, val_main_v169, val_main_v168, val_main_v167, val_main_call5_v0, val_main_call5_cst, val_main_v163, val_main_v111, val_main_v116_1, val_main_v108,
      val_main_v105, val_main_v104, val_main_cst_11, v84_eq, v110_eq, v115_eq, v117_eq, v162_eq]
    change ((max (-((t.val : ℝ) - s.val)) 0 : ℝ) : EReal) * ((if (((t.val : ℝ) - s.val : ℝ) : EReal) < 0 then
      ((dot ((A.hd h).q t) ((A.hd h).k s) : ℝ) : EReal) * ((dot ((A.hd h).dR t) ((A.hd h).v s) : ℝ) : EReal) else 0)
      * ((Real.exp (max (-((t.val : ℝ) - s.val)) 0 * (A.hd h).b) : ℝ) : EReal)) = _
    rw [← EReal.coe_zero]
    simp only [neg_iff, P, W]
    by_cases h0 : t.val < s.val
    · rw [if_pos h0, if_neg (by omega), Nat.cast_sub h0.le, neg_sub, max_eq_left (sub_nonneg.mpr (Nat.cast_le.mpr h0.le))]
      simp only [← EReal.coe_mul]
      refine congrArg _ ?_
      ring
    · rw [if_neg h0, Nat.sub_eq_zero_of_le (by omega)]
      simp only [← EReal.coe_mul]
      simp
theorem v189_eq : val_main_v189 (F := Ideal) (mat A.q) (mat A.k) (mat A.v) (mat A.g) (lgt A.L) (mat A.ct) = pairs fun h t s => (A.hd h).P t s * ((t - s : ℕ) : ℝ) :=
  pairs_ext fun h t s => by
    pointwise [val_main_v189, val_main_v188, val_main_v187, val_main_v186, val_main_call6_v0, val_main_call6_cst, val_main_v180, val_main_v93, val_main_v98_1, val_main_v90,
      val_main_v88, val_main_v87, val_main_cst_8, v84_eq, v92_eq, v97_eq, v99_eq, show val_main_v179 (F := Ideal) = val_main_v162 (F := Ideal) from rfl, v162_eq]
    change ((max ((t.val : ℝ) - s.val) 0 : ℝ) : EReal) * ((if 0 ≤ (((t.val : ℝ) - s.val : ℝ) : EReal) then
      ((dot ((A.hd h).q t) ((A.hd h).k s) : ℝ) : EReal) * ((dot ((A.hd h).dR t) ((A.hd h).v s) : ℝ) : EReal) else 0)
      * ((Real.exp (max ((t.val : ℝ) - s.val) 0 * (A.hd h).a) : ℝ) : EReal)) = _
    rw [← EReal.coe_zero]
    simp only [nonneg_iff, P, W]
    by_cases h0 : s.val ≤ t.val
    · rw [if_pos h0, if_pos h0, Nat.cast_sub h0, max_eq_left (sub_nonneg.mpr (Nat.cast_le.mpr h0))]
      simp only [← EReal.coe_mul]
      refine congrArg _ ?_
      ring
    · rw [if_neg h0, Nat.sub_eq_zero_of_le (by omega)]
      simp only [← EReal.coe_mul]
      simp
theorem v195_eq : val_main_v195 (F := Ideal) (mat A.q) (mat A.k) (mat A.v) (mat A.g) (lgt A.L) (mat A.ct)
    = two4 fun r h => if r = 0 then (A.hd h).dlf else (A.hd h).dlb :=
  two4_ext fun r h => by
    pointwise [val_main_v195, val_main_v194, val_main_v193, val_main_v192, val_main_v191, val_main_v190, val_main_v175, val_main_v174, val_main_v173, val_main_v172, val_main_v171,
      v170_eq, v189_eq]
    have z22 : val_main_cst_22 (F := Ideal) (Shape.Idx.first Gen.h_S_) = 0 := Ideal.ofBits_zero_f32
    have z23 : val_main_cst_23 (F := Ideal) (Shape.Idx.first Gen.h_S_) = 0 := Ideal.ofBits_zero_f32
    have z24 : val_main_cst_24 (F := Ideal) (Shape.Idx.first Gen.h_S_) = 0 := Ideal.ofBits_zero_f32
    have z25 : val_main_cst_25 (F := Ideal) (Shape.Idx.first Gen.h_S_) = 0 := Ideal.ofBits_zero_f32
    have z26 : val_main_cst_26 (F := Ideal) (Shape.Idx.first Gen.h_S_) = 0 := Ideal.ofBits_zero_f32
    have z27 : val_main_cst_27 (F := Ideal) (Shape.Idx.first Gen.h_S_) = 0 := Ideal.ofBits_zero_f32
    simp only [z22, z23, z24, z25, z26, z27, zero_add, Fin.sum_univ_one, pairs, ← coe_sum]
    have f (p : ℕ → ℕ → ℝ) : ∑ t : Fin 4096, ∑ s : Fin 4096, p t s = ∑ t ∈ Finset.Ico 0 4096, ∑ s ∈ Finset.Ico 0 4096, p t s := by
      rw [rows_sum]
      exact Finset.sum_congr rfl fun t _ => (rows_sum _).symm
    match r with
    | 0 =>
      rw [dif_neg (by simp), dif_pos (by simp), zero_add, if_pos (by simp)]
      exact congrArg _ (f fun t s => (A.hd h).P t s * ((t - s : ℕ) : ℝ))
    | 1 =>
      rw [dif_pos (by simp), dif_neg (by simp), add_zero, if_neg (by simp)]
      exact congrArg _ (f fun t s => (A.hd h).P t s * ((s - t : ℕ) : ℝ))

/-- The log-sigmoid's derivative, in the form of the derivative of the logarithm of a sum of exponentials. -/
theorem exp_sub_log (x : ℝ) : Real.exp (x - (max x 0 + Real.log (1 + Real.exp (-|x|)))) = sigm x := by
  have h (y : ℝ) : 0 < 1 + Real.exp y := by positivity
  rw [Real.exp_sub, Real.exp_add, Real.exp_log (h _), sigm]
  rcases le_total 0 x with h0 | h0
  · rw [max_eq_left h0, abs_of_nonneg h0, div_mul_eq_div_div, div_self (Real.exp_pos x).ne', one_div]
  · rw [max_eq_right h0, abs_of_nonpos h0, neg_neg, Real.exp_zero, one_mul, Real.exp_neg, div_eq_iff (h _).ne']
    field_simp
    ring
theorem v72_1_eq (L : ℕ → ℕ → ℝ) : val_main_v72_1 (F := Ideal) (lgt L) = two4 fun r h => sigm (-(logit L r h)) :=
  two4_ext fun r h => by
    pointwise [val_main_v72_1, val_main_call0_call0_v21, val_main_call0_call0_v20, val_main_call0_call0_v19, val_main_call0_call0_v18, val_main_call0_call0_v17,
      val_main_call0_call0_v16, val_main_call0_call0_v15, val_main_call0_call0_v14, val_main_call0_call0_v13, val_main_call0_v0, val_main_v71, softplus_eq]
    have i0 : val_main_call0_call0_cst_0 (F := Ideal) ix0 = ⊤ := lit_inf
    have i2 : val_main_call0_call0_cst_2 (F := Ideal) ix0 = ⊤ := lit_inf
    simp only [i0, i2, lgt, two4, ← EReal.coe_neg, EReal.coe_ne_top, if_false, ← EReal.coe_sub, Ideal.exp_coe]
    refine congrArg _ ?_
    change Real.exp (-(L r h) - (max (-(logit L r h)) 0 + Real.log (1 + Real.exp (-|-(logit L r h)|)))) = sigm (-(logit L r h))
    rw [show logit L r h = L r h from if_pos r.isLt]
    exact exp_sub_log (-(L r h))
theorem v202_eq : val_main_v202 (F := Ideal) (mat A.q) (mat A.k) (mat A.v) (mat A.g) (lgt A.L) (mat A.ct)
    = two4 fun r h => (if r = 0 then (A.hd h).dlf else (A.hd h).dlb) * sigm (-(logit A.L r h)) :=
  two4_ext fun r h => by
    pointwise [val_main_v202, val_main_call7_v1, val_main_call7_v0, v195_eq, v72_1_eq]
    simp only [two4, ← EReal.coe_neg, ← EReal.coe_mul, neg_mul, neg_neg]
    rfl

/-! ## The results -/

/-- The four gradients of a head: of q and k before their rotation, of v, of the gate. -/
def gp (D : Head) (s t d : ℕ) : ℝ :=
  match s with
  | 0 => D.unrot t (D.dqG t) d
  | 1 => D.unrot t (D.dkG t) d * (1 / 16)
  | 2 => D.dvG t d
  | _ => D.dg t d

theorem v204_eq : val_main_v204 (F := Ideal) (mat A.q) (mat A.k) (mat A.v) (mat A.g) (lgt A.L) (mat A.ct) = mat fun t c => gp (A.hd (c / 256)) 2 t (c % 256) :=
  mat_ext fun t c => by
    pointwise [val_main_v204, val_main_v197, val_main_v196, v178_eq]
    rfl
theorem v220_eq : val_main_v220 (F := Ideal) (mat A.q) (mat A.k) (mat A.v) (mat A.g) (lgt A.L) (mat A.ct) = arr fun t h d => gp (A.hd h) 1 t d :=
  arr_ext fun t h d => by
    pointwise [val_main_v220, val_main_v219, val_main_v218, val_main_v217, val_main_v216, val_main_v215, val_main_v214, val_main_v213, val_main_v212, val_main_v211, val_main_v210,
      val_main_v209, val_main_v208, val_main_v207, val_main_v206, val_main_v205, val_main_cst_28, val_main_v199, val_main_v198, v183_eq, val_main_v54, val_main_v53, val_main_v52, val_main_v51,
      show val_main_v50 (F := Ideal) = tab ang from v16_eq]
    simp only [head, tab, lit_sixteenth, Ideal.cos_coe, Ideal.sin_coe, ← EReal.coe_neg, ← EReal.coe_mul, ← EReal.coe_add, gp, Head.unrot]
    split
    · refine congrArg _ ?_
      change (A.hd h).dkG t (128 + d) * (1 / 16) * Real.sin (ang t d) + (A.hd h).dkG t d * (1 / 16) * Real.cos (ang t d)
        = ((A.hd h).dkG t d * Real.cos (ang t d) + (A.hd h).dkG t (d + 128) * Real.sin (ang t d)) * (1 / 16)
      rw [Nat.add_comm 128]
      ring
    · refine congrArg _ ?_
      change (A.hd h).dkG t (128 + (d - 128)) * (1 / 16) * Real.cos (ang t (d - 128)) + -((A.hd h).dkG t (d - 128) * (1 / 16)) * Real.sin (ang t (d - 128))
        = ((A.hd h).dkG t d * Real.cos (ang t (d - 128)) - (A.hd h).dkG t (d - 128) * Real.sin (ang t (d - 128))) * (1 / 16)
      rw [show 128 + (d.val - 128) = d.val by omega]
      ring
theorem v221_eq : val_main_v221 (F := Ideal) (mat A.q) (mat A.k) (mat A.v) (mat A.g) (lgt A.L) (mat A.ct) = mat fun t c => gp (A.hd (c / 256)) 1 t (c % 256) :=
  mat_ext fun t c => by
    pointwise [val_main_v221, v220_eq]
    rfl
theorem v235_eq : val_main_v235 (F := Ideal) (mat A.q) (mat A.k) (mat A.v) (mat A.g) (lgt A.L) (mat A.ct) = arr fun t h d => gp (A.hd h) 0 t d :=
  arr_ext fun t h d => by
    pointwise [val_main_v235, val_main_v234, val_main_v233, val_main_v232, val_main_v231, val_main_v230, val_main_v229, val_main_v228, val_main_v227, val_main_v226, val_main_v225,
      val_main_v224, val_main_v223, val_main_v222, val_main_v201, val_main_v200, v185_eq, val_main_v20, val_main_v19, val_main_v18, val_main_v17, v16_eq]
    simp only [head, tab, Ideal.cos_coe, Ideal.sin_coe, ← EReal.coe_neg, ← EReal.coe_mul, ← EReal.coe_add, gp, Head.unrot]
    split
    · refine congrArg _ ?_
      change (A.hd h).dqG t (128 + d) * Real.sin (ang t d) + (A.hd h).dqG t d * Real.cos (ang t d)
        = (A.hd h).dqG t d * Real.cos (ang t d) + (A.hd h).dqG t (d + 128) * Real.sin (ang t d)
      rw [Nat.add_comm 128]
      ring
    · refine congrArg _ ?_
      change (A.hd h).dqG t (128 + (d - 128)) * Real.cos (ang t (d - 128)) + -((A.hd h).dqG t (d - 128)) * Real.sin (ang t (d - 128))
        = (A.hd h).dqG t d * Real.cos (ang t (d - 128)) - (A.hd h).dqG t (d - 128) * Real.sin (ang t (d - 128))
      rw [show 128 + (d.val - 128) = d.val by omega]
      ring
theorem v236_eq : val_main_v236 (F := Ideal) (mat A.q) (mat A.k) (mat A.v) (mat A.g) (lgt A.L) (mat A.ct) = mat fun t c => gp (A.hd (c / 256)) 0 t (c % 256) :=
  mat_ext fun t c => by
    pointwise [val_main_v236, v235_eq]
    rfl
/-- The packed gradients: slots 0 to 3 as they were, slots 4 to 7 those of q, k, v and the gate. -/
theorem dp_at (x : (⟨S8x4096x1024, .bf16⟩ : BufTy).Contents (Elt Ideal)) (s : Fin 8) (t : Fin 4096) (c : Fin 1024) :
    val_main_v240 (F := Ideal) (mat A.q) (mat A.k) (mat A.v) (mat A.g) (lgt A.L) (mat A.ct) x (ix3 s t c)
      = if s.val < 4 then x (ix3 s t c) else ((gp (A.hd (c.val / 256)) (s.val - 4) t.val (c.val % 256) : ℝ) : EReal) := by
  pointwise [val_main_v240, val_main_v239, val_main_v238, val_main_v237, v236_eq, v221_eq, v204_eq, v141_eq]
  match s with
  | 0 | 1 | 2 | 3 => rfl
  | 4 | 5 | 6 | 7 => rfl
theorem cmpi_eq_word (l h : ℕ) (hl : l < 2 ^ 32) (hh : h < 2 ^ 32) :
    IntOp.cmpi CmpIPredicate.eq (BitVec.ofNat 32 l) (BitVec.ofNat 32 h) = if l = h then 1#1 else 0#1 := by
  have e : (BitVec.ofNat 32 l = BitVec.ofNat 32 h) ↔ l = h := by
    rw [← BitVec.toNat_inj, BitVec.toNat_ofNat, BitVec.toNat_ofNat, Nat.mod_eq_of_lt hl, Nat.mod_eq_of_lt hh]
  by_cases z : l = h
  · rw [if_pos z, z]; simp [IntOp.cmpi]
  · rw [if_neg z]
    show BitVec.ofBool (BitVec.ofNat 32 l == BitVec.ofNat 32 h) = 0#1
    rw [beq_eq_false_iff_ne.mpr (mt e.mp z)]; rfl
/-- The decay logits' gradients: row r of head h in lane h. -/
theorem dd_at (h : Fin 4) (r : Fin 8) (l : Fin 128) :
    val_main_v249 (F := Ideal) (mat A.q) (mat A.k) (mat A.v) (mat A.g) (lgt A.L) (mat A.ct) (ix3 h r l)
      = ((if l.val = h.val ∧ r.val < 2 then (if r.val = 0 then (A.hd h).dlf else (A.hd h).dlb) * sigm (-(logit A.L r h)) else 0 : ℝ) : EReal) := by
  pointwise [val_main_v249, val_main_call8_v2, val_main_call8_v1, val_main_call8_v0, val_main_cst_30, val_main_v248, val_main_v247, val_main_v246, val_main_v245, val_main_v244,
    val_main_v243, val_main_cst_29, val_main_v242, val_main_v241, val_main_v203, v202_eq]
  rw [cmpi_eq_word l.val h.val (by omega) (by omega), show id (constant (F := Ideal) S_ .f32 0#32) ix0 = ((0 : ℝ) : EReal) from lit_zero]
  by_cases e : l.val = h.val
  · rw [if_pos e]
    by_cases e2 : r.val < 2
    · rw [dif_pos e2, if_pos ⟨e, e2⟩]; rfl
    · rw [dif_neg e2, if_neg fun z => e2 z.2]; rfl
  · rw [if_neg e, if_neg fun z => e z.1]; rfl
end Cert.RetRef

end
-- ==== Proof.RetVal.lean ====
/-
  One head's results on reals: on blocks of reals the kernel's chunk parts, carried states and decay rows are those of
  `RetMath`, and so are the stored gradients and the decay gradients' block.
-/
module

public import proofs.«01_k».proof.Proof.RetPay
public import proofs.«01_k».proof.Proof.RetBody

@[expose] public section

set_option maxRecDepth 16384

noncomputable section

namespace Cert.RetMath.Head

open Cert.RetIdeal Cert.RetIdeal.Gen Idealize.ShloMosaic Cert.RetStep Cert.RetPay

variable (D : Head)

/-- One head's numbers as the body's blocks. -/
def blk : Blk Ideal where
  x1 := fun y => ((D.dr (y 0).val (y 1).val : ℝ) : EReal)
  x2 := fun y => ((D.R (y 0).val (y 1).val : ℝ) : EReal)
  x3 := fun y => ((D.sf (y 1).val (y 2).val (y 3).val : ℝ) : EReal)
  x4 := fun y => ((D.sb (y 1).val (y 2).val (y 3).val : ℝ) : EReal)
  x5 := fun y => ((D.q (y 1).val (y 2).val : ℝ) : EReal)
  x6 := fun y => ((D.k (y 1).val (y 2).val : ℝ) : EReal)
  x7 := fun y => ((D.v (y 1).val (y 2).val : ℝ) : EReal)
  x8 := fun y => ((D.g (y 1).val (y 2).val : ℝ) : EReal)
  x10 := fun y => ((D.co (y 0).val (y 1).val : ℝ) : EReal)
  x11 := fun y => ((D.si (y 0).val (y 1).val : ℝ) : EReal)
  x12 := fun y => ((D.L (y 1).val : ℝ) : EReal)

theorem rows_eq (f : ℕ → ℕ → ℝ) (n : Fin 16) :
    VecWindow.window (s := S4096x256) (fun y => ((f (y 0).val (y 1).val : ℝ) : EReal)) ![256 * n.val, 0] ![256, 256] (rows_in n) = sqr fun i d => f (256 * n.val + i) d := by
  funext y
  show ((f (256 * n.val + 1 * (y 0).val) (0 + 1 * (y 1).val) : ℝ) : EReal) = ((f (256 * n.val + (y 0).val) (y 1).val : ℝ) : EReal)
  rw [one_mul, one_mul, zero_add]
theorem half_eq (f : ℕ → ℕ → ℝ) (n : Fin 16) :
    VecWindow.window (s := S4096x128) (fun y => ((f (y 0).val (y 1).val : ℝ) : EReal)) ![256 * n.val, 0] ![256, 128] (half_in n) = half fun i d => f (256 * n.val + i) d := by
  funext y
  show ((f (256 * n.val + 1 * (y 0).val) (0 + 1 * (y 1).val) : ℝ) : EReal) = ((f (256 * n.val + (y 0).val) (y 1).val : ℝ) : EReal)
  rw [one_mul, one_mul, zero_add]
theorem chunk_eq (f : ℕ → ℕ → ℝ) (n : Fin 16) :
    VecWindow.window (s := S1x4096x256) (fun y => ((f (y 1).val (y 2).val : ℝ) : EReal)) ![0, 256 * n.val, 0] ![1, 256, 256] (chunk_in n)
      = sq3 fun i d => f (256 * n.val + i) d := by
  funext y
  show ((f (256 * n.val + 1 * (y 1).val) (0 + 1 * (y 2).val) : ℝ) : EReal) = ((f (256 * n.val + (y 1).val) (y 2).val : ℝ) : EReal)
  rw [one_mul, one_mul, zero_add]
theorem state_eq (f : ℕ → ℕ → ℕ → ℝ) (n : Fin 16) :
    VecWindow.window (s := S1x16x256x256) (fun y => ((f (y 1).val (y 2).val (y 3).val : ℝ) : EReal)) ![0, n.val, 0, 0] ![1, 1, 256, 256] (state_in n) = sq4 (f n.val) := by
  funext y
  have h1 : (y 1).val < 1 := (y 1).isLt
  show ((f (n.val + 1 * (y 1).val) (0 + 1 * (y 2).val) (0 + 1 * (y 3).val) : ℝ) : EReal) = ((f n.val (y 2).val (y 3).val : ℝ) : EReal)
  rw [one_mul, one_mul, one_mul, zero_add, zero_add, Nat.lt_one_iff.mp h1, Nat.add_zero]

theorem blk_dr (n : Fin 16) : D.blk.dr n = sqr fun i d => D.dr (256 * n.val + i) d := rows_eq D.dr n
theorem blk_R (n : Fin 16) : D.blk.R n = sqr fun i d => D.R (256 * n.val + i) d := rows_eq D.R n
theorem blk_sf (n : Fin 16) : D.blk.sf n = sq4 (D.sf n.val) := state_eq D.sf n
theorem blk_sb (n : Fin 16) : D.blk.sb n = sq4 (D.sb n.val) := state_eq D.sb n
theorem blk_q (n : Fin 16) : D.blk.q n = sq3 fun i d => D.q (256 * n.val + i) d := chunk_eq D.q n
theorem blk_k (n : Fin 16) : D.blk.k n = sq3 fun i d => D.k (256 * n.val + i) d := chunk_eq D.k n
theorem blk_v (n : Fin 16) : D.blk.v n = sq3 fun i d => D.v (256 * n.val + i) d := chunk_eq D.v n
theorem blk_g (n : Fin 16) : D.blk.g n = sq3 fun i d => D.g (256 * n.val + i) d := chunk_eq D.g n
theorem blk_co (n : Fin 16) : D.blk.co n = half fun i d => D.co (256 * n.val + i) d := half_eq D.co n
theorem blk_si (n : Fin 16) : D.blk.si n = half fun i d => D.si (256 * n.val + i) d := half_eq D.si n
theorem blk_dl : D.blk.dl = two D.L := by
  funext y
  show ((D.L (0 + 1 * (y 1).val) : ℝ) : EReal) = ((D.L (y 1).val : ℝ) : EReal)
  rw [one_mul, zero_add]
theorem blk_dl0 (i : Fin 8) : D.blk.dl0 (ix3 0 i 0) = ((D.L i.val : ℝ) : EReal) := by
  show ((D.L (0 + 1 * i.val) : ℝ) : EReal) = _
  rw [one_mul, zero_add]

theorem blk_lgf : D.blk.lgf = row fun _ => D.a := by rw [Blk.lgf, blk_dl]; exact pay99_eq _
theorem blk_lgb : D.blk.lgb = row fun _ => D.b := by rw [Blk.lgb, blk_dl]; exact pay100_eq _
theorem blk_dmat : D.blk.dmat = sqr D.dec := by rw [Blk.dmat, blk_dl]; exact pay103_eq _
theorem blk_dmatT : D.blk.dmatT = sqr fun i j => D.dec j i := by rw [Blk.dmatT, blk_dl]; exact pay104_eq _
theorem blk_fq : D.blk.fq = sqr fun i _ => D.fq i := by rw [Blk.fq, blk_lgf]; exact pay106_eq _
theorem blk_fk : D.blk.fk = sqr fun i _ => D.fk i := by rw [Blk.fk, blk_lgf]; exact pay107_eq _
theorem blk_bq : D.blk.bq = sqr fun i _ => D.bq i := by rw [Blk.bq, blk_lgb]; exact pay108_eq _
theorem blk_bk : D.blk.bk = sqr fun i _ => D.bk i := by rw [Blk.bk, blk_lgb]; exact pay109_eq _
theorem blk_lamf : D.blk.lamf = row fun _ => D.lamf := by rw [Blk.lamf, blk_lgf]; exact pay110_eq _
theorem blk_lamb : D.blk.lamb = row fun _ => D.lamb := by rw [Blk.lamb, blk_lgb]; exact pay111_eq _

theorem blk_dg (n : Fin 16) : D.blk.dg n = sq3 fun i d => D.dg (256 * n.val + i) d := by
  rw [Blk.dg, blk_R, blk_g, blk_dr, pay16_eq]; rfl
theorem blk_dR (n : Fin 16) : D.blk.dR n = sqr fun i d => D.dR (256 * n.val + i) d := by
  rw [Blk.dR, blk_R, blk_g, blk_dr, pay11_eq, pay12_eq, pay17_eq, pay18_eq, pay112_eq]; rfl

theorem ofNat_val {n : ℕ} (h : n < 16) : (Fin.ofNat 16 n).val = n := Nat.mod_eq_of_lt h

theorem blk_gb : ∀ n, n ≤ 16 → D.blk.gb n = sqr (D.gb n)
  | 0, _ => pay113_eq
  | n + 1, h => by
    rw [Blk.gb, blk_gb n (by omega), blk_lamb, blk_dR, blk_bq, blk_q, pay22_eq, pay35_eq, pay50_eq, ofNat_val (by omega)]; rfl
theorem blk_gf : ∀ j, j ≤ 16 → D.blk.gf j = sqr (D.gf j)
  | 0, _ => pay114_eq
  | j + 1, h => by
    rw [Blk.gf, blk_gf j (by omega), blk_lamf, blk_dR, blk_fq, blk_q, pay51_eq, pay7_eq, ofNat_val (by omega)]; rfl

theorem blk_dq (n : Fin 16) : D.blk.dq n = sq3 fun i d => D.unrot (256 * n.val + i) (D.dqC n.val i) d := by
  rw [Blk.dq, blk_fq, blk_bq, blk_dR, blk_dmat, blk_k, blk_v, blk_sf, blk_sb, blk_co, blk_si, pay28_eq, pay31_eq, pay37_eq, pay44_eq]; rfl
theorem blk_kA (n : Fin 16) : D.blk.kA n = sqr (D.kA n.val) := by
  rw [Blk.kA, blk_bk, blk_v, blk_dmatT, blk_q, blk_dR, blk_gb _ _ (by omega), pay21_eq, pay29_eq, pay41_eq]; rfl
theorem blk_vA (n : Fin 16) : D.blk.vA n = sqr (D.vA n.val) := by
  rw [Blk.vA, blk_bk, blk_k, blk_dmatT, blk_q, blk_dR, blk_gb _ _ (by omega), pay23_eq, pay30_eq, pay42_eq]; rfl
theorem blk_kD0 (n : Fin 16) : D.blk.kD0 n = sq3 (D.kD n.val) := by
  rw [Blk.kD0, blk_fk, blk_v, blk_gf _ _ (by omega), pay54_eq, pay5_eq]; rfl
theorem blk_vD0 (n : Fin 16) : D.blk.vD0 n = sq3 (D.vD n.val) := by
  rw [Blk.vD0, blk_fk, blk_k, blk_gf _ _ (by omega), pay52_eq, pay53_eq, pay6_eq]; rfl

theorem blk_kF (n : Fin 16) : D.blk.kF n = sq3 fun i d => D.unrot (256 * n.val + i) (fun d => D.kA n.val i d + D.kD n.val i d) d * (1 / 16) := by
  rw [Blk.kF]
  split
  · rw [Blk.kA0, blk_kA, pay45_eq, blk_fk, blk_v, blk_gf _ _ (by omega), pay93_eq, blk_co, blk_si, pay95_eq]; rfl
  · rw [blk_kA, blk_kD0, blk_co, blk_si, pay83_eq]
    refine congrArg sq3 (funext fun i => funext fun d => ?_)
    simp only [add_comm (D.kD n.val _ _)]; rfl
theorem blk_vF (n : Fin 16) : D.blk.vF n = sq3 fun i d => D.vA n.val i d + D.vD n.val i d := by
  rw [Blk.vF]
  split
  · rw [Blk.vA0, blk_vA, pay46_eq, blk_fk, blk_k, blk_gf _ _ (by omega), pay94_eq, pay96_eq]; rfl
  · rw [blk_vA, blk_vD0, pay84_eq]
    refine congrArg sq3 (funext fun i => funext fun d => ?_)
    rw [add_comm (D.vD n.val _ _)]

/-- The head's four gradients by row and lane. -/
def dp (s : Fin 4) (t d : ℕ) : ℝ :=
  match s with
  | 0 => D.unrot t (D.dqC (t / 256) (t % 256)) d
  | 1 => D.unrot t (fun d => D.kA (t / 256) (t % 256) d + D.kD (t / 256) (t % 256) d) d * (1 / 16)
  | 2 => D.vA (t / 256) (t % 256) d + D.vD (t / 256) (t % 256) d
  | 3 => D.dg t d

theorem blk_dp (s : Fin 4) (t : Fin 4096) (d : Fin 256) : D.blk.dp (ix3 s t d) = ((D.dp s t.val d.val : ℝ) : EReal) := by
  have e : 256 * (t.val / 256) + t.val % 256 = t.val := Nat.div_add_mod _ _
  show D.blk.dpAt s ⟨t.val / 256, _⟩ (ix3 0 ⟨t.val % 256, _⟩ d) = _
  match s with
  | 0 =>
    rw [show D.blk.dpAt 0 _ = D.blk.dq _ from rfl, blk_dq]
    show ((D.unrot (256 * (t.val / 256) + t.val % 256) _ d.val : ℝ) : EReal) = _
    rw [e]; rfl
  | 1 =>
    rw [show D.blk.dpAt 1 _ = D.blk.kF _ from rfl, blk_kF]
    show ((D.unrot (256 * (t.val / 256) + t.val % 256) _ d.val * (1 / 16) : ℝ) : EReal) = _
    rw [e]; rfl
  | 2 => rw [show D.blk.dpAt 2 _ = D.blk.vF _ from rfl, blk_vF]; rfl
  | 3 =>
    rw [show D.blk.dpAt 3 _ = D.blk.dg _ from rfl, blk_dg]
    show ((D.dg (256 * (t.val / 256) + t.val % 256) d.val : ℝ) : EReal) = _
    rw [e]; rfl

theorem blk_row0A (n : Fin 16) (r : ℕ → ℝ) : D.blk.row0A n (row r) = row fun l => r l + D.row0A n.val l := by
  rw [Blk.row0A, blk_dmat, blk_q, blk_k, blk_v, blk_dR, blk_fq, blk_sf, pay2_eq, pay26_eq, pay22_eq, pay31_eq, pay105_eq, pay34_eq, pay47_eq]; rfl
theorem blk_row0D (n : Fin 16) (r : ℕ → ℝ) : D.blk.row0D n (row r) = row fun l => r l + D.row0D n.val l := by
  rw [Blk.row0D, blk_fk, blk_k, blk_v, blk_gf _ _ (by omega), blk_lamf, blk_sf, pay105_eq, pay55_eq, pay56_eq, pay4_eq]; rfl
theorem blk_row1A (n : Fin 16) (r : ℕ → ℝ) : D.blk.row1A n (row r) = row fun l => r l + D.row1A n.val l := by
  rw [Blk.row1A, blk_dmat, blk_q, blk_k, blk_v, blk_dR, blk_bq, blk_bk, blk_lamb, blk_sb, blk_gb _ _ (by omega), pay3_eq, pay27_eq, pay21_eq, pay22_eq, pay23_eq,
    pay105_eq, pay43_eq, pay48_eq, pay49_eq]; rfl

theorem cleared (y : S8x256.Idx) : k0_pay115 (F := Ideal) y = ((0 : ℝ) : EReal) := by
  obtain ⟨i, j, rfl⟩ : ∃ i j, y = ix2 i j := ⟨_, _, eq_ix2 y⟩
  pointwise [k0_pay115]
  exact EReal.coe_zero.symm

theorem blk_row0 : ∀ n, n ≤ 16 → D.blk.row0 n = row (D.row0 n)
  | 0, _ => funext fun y => cleared ((Rect.unit (s := S8x256) ![0, 0] ![1, 256] row0_in).emb y)
  | n + 1, h => by
    rw [Blk.row0, blk_row0 n (by omega), blk_row0A, blk_row0D, ofNat_val (by omega), ofNat_val (by omega)]; rfl
theorem blk_row1 : ∀ n, n ≤ 16 → D.blk.row1 n = row (D.row1 n)
  | 0, _ => funext fun y => cleared ((Rect.unit (s := S8x256) ![1, 0] ![1, 256] row1_in).emb y)
  | n + 1, h => by
    rw [Blk.row1, blk_row1 n (by omega), blk_row1A, ofNat_val (by omega)]; rfl

/-- The decay gradients' rows at the end. -/
def accR (i l : ℕ) : ℝ := if i = 0 then D.row0 16 l else if i = 1 then D.row1 16 l else 0

theorem blk_acc : D.blk.acc 16 = fun y => ((D.accR (y 0).val (y 1).val : ℝ) : EReal) := by
  funext y
  obtain ⟨i, l, rfl⟩ : ∃ i l, y = ix2 i l := ⟨_, _, eq_ix2 y⟩
  rw [Blk.acc, blk_row0 _ _ le_rfl, blk_row1 _ _ le_rfl]
  show _ = ((D.accR i.val l.val : ℝ) : EReal)
  unfold accR
  by_cases h0 : i.val = 0
  · rw [if_pos h0, VecWindow.put, dif_pos]
    · show ((D.row0 16 (l.val - 0) : ℝ) : EReal) = _
      rw [Nat.sub_zero]
    · intro a
      match a with
      | 0 => exact ⟨Nat.zero_le _, by show i.val < 0 + 1; omega⟩
      | 1 => exact ⟨Nat.zero_le _, by show l.val < 0 + 256; omega⟩
  · rw [if_neg h0, VecWindow.put, dif_neg]
    · by_cases h1 : i.val = 1
      · rw [if_pos h1, VecWindow.put, dif_pos]
        · show ((D.row1 16 (l.val - 0) : ℝ) : EReal) = _
          rw [Nat.sub_zero]
        · intro a
          match a with
          | 0 => exact ⟨by show 1 ≤ i.val; omega, by show i.val < 1 + 1; omega⟩
          | 1 => exact ⟨Nat.zero_le _, by show l.val < 0 + 256; omega⟩
      · rw [if_neg h1, VecWindow.put, dif_neg]
        · exact cleared _
        · intro h
          have h := h 0
          change 1 ≤ i.val ∧ i.val < 1 + 1 at h
          omega
    · intro h
      have h := h 0
      change 0 ≤ i.val ∧ i.val < 0 + 1 at h
      omega

theorem blk_dd (c : grid0.Coords) (i : Fin 8) (l : Fin 128) :
    D.blk.dd c (ix3 0 i l) = ((if l.val = (c 0).val then (∑ d : Fin 256, D.accR i.val d) * sigm (-(D.L i.val)) else 0 : ℝ) : EReal) := by
  rw [Blk.dd, blk_acc]
  exact pay9_at (c 0) D.accR D.L _ D.blk_dl0 i l

end Cert.RetMath.Head

end
-- ==== Proof.RetHost.lean ====
/-
  The retention gradient: what the kernel's host code hands to its call — the rotated projections, the
  retention output and the states before and after each chunk — on finite arguments.
-/
module

public import proofs.«01_k».proof.Proof.RetFrame
public import proofs.«01_k».proof.Proof.RetRef
public import proofs.«01_k».proof.Proof.RetVal
public import Idealize.ShloMosaic.Lib.StableHlo.RunRead
public import Idealize.ShloMosaic.Lib.StableHlo.ReadAt

@[expose] public section

set_option maxRecDepth 16384

noncomputable section

namespace Cert.RetHost

open Cert.RetIdeal Cert.RetIdeal.Gen Idealize.ShloMosaic Idealize.ShloMosaic.TcCoe Cert.Reals Cert.RetMath Cert.RetPay Cert.RetRef Cert.RetStep
open Cert.RetRefIdeal.Read (val_main_v16 val_main_v33 val_main_v69 val_main_v72_0 val_main_v76 val_main_v78 val_main_v122)

variable (m : (l : Loc nD τ sig) → Buf (Elt Ideal) l) (c : Dev nD)

/-! ## The values as operations on the reference's own -/

/-- Rows from row `s` to the start of chunk `n`. -/
def upto : FVec Ideal S16x4096 .f32 :=
  subf (broadcastInDim S16x4096 ![0, 1] bcast_S16x1_S16x4096_0_1 (mulf (broadcastInDim S16x1 ![0] bcast_S16_S16x1_0 (sitofp .f32 (iotaInDim S16 32 0)))
    (broadcastInDim S16x1 ![] bcast_S_S16x1 (constant (F := Ideal) S_ .f32 0x43800000#32))))
    (broadcastInDim S16x4096 ![0, 1] bcast_S1x4096_S16x4096_0_1 (broadcastInDim S1x4096 ![1] bcast_S4096_S1x4096_1 (sitofp .f32 (iotaInDim S4096 32 0))))

/-- A decay over distances, where a mask holds. -/
def weight (keep : (S16x4096.Idx → BitVec 1)) (dist : FVec Ideal S16x4096 .f32)
    (lg : FVec Ideal S4 .f32) : FVec Ideal S4x16x4096 .f32 :=
  select (broadcastInDim S4x16x4096 ![0, 1, 2] bcast_S1x16x4096_S4x16x4096_0_1_2 (broadcastInDim S1x16x4096 ![1, 2] bcast_S16x4096_S1x16x4096_1_2 keep))
    (Host.exp (mulf (broadcastInDim S4x16x4096 ![0, 1, 2] bcast_S1x16x4096_S4x16x4096_0_1_2 (broadcastInDim S1x16x4096 ![1, 2] bcast_S16x4096_S1x16x4096_1_2
        (maximumf dist (broadcastInDim S16x4096 ![] bcast_S_S16x4096 (constant (F := Ideal) S_ .f32 0x00000000#32)))))
      (broadcastInDim S4x16x4096 ![0, 1, 2] bcast_S4x1x1_S4x16x4096_0_1_2 (broadcastInDim S4x1x1 ![0] bcast_S4_S4x1x1_0 lg))))
    (broadcastInDim S4x16x4096 ![] bcast_S_S4x16x4096 (id (constant (F := Ideal) S_ .f32 0x00000000#32 : FVec Ideal S_ .f32)))

/-- The states at the chunks: the weighted products of k's and v's rows. -/
def states (w : FVec Ideal S4x16x4096 .f32) (k v : FVec Ideal S4x4096x256 .f32) :
    FVec Ideal S4x16x256x256 .bf16 :=
  truncf .bf16 (Host.dotGeneral (F := Ideal) dot_S4x16x4096x256_S4x4096x256_S4x16x256x256_2_1_13_2_0_0 none
    (mulf (broadcastInDim S4x16x4096x256 ![0, 1, 2, 3] bcast_S4x1x4096x256_S4x16x4096x256_0_1_2_3 (broadcastInDim S4x1x4096x256 ![0, 2, 3] bcast_S4x4096x256_S4x1x4096x256_0_2_3 k))
      (broadcastInDim S4x16x4096x256 ![0, 1, 2, 3] bcast_S4x16x4096x1_S4x16x4096x256_0_1_2_3 (broadcastInDim S4x16x4096x1 ![0, 1, 2] bcast_S4x16x4096_S4x16x4096x1_0_1_2 w))) v) bitsLt_bf16_f32

theorem V_v123 : V m c main_v123 = shapeCast S4096x1024 (val_main_v122 (F := Ideal) (m (c, main_arg0)) (m (c, main_arg1)) (m (c, main_arg2)) (m (c, main_arg4)))
    shapeCasts_S1x4096x4x256_S4096x1024 := by
  unfold V
  after_reads_simp
  rfl
theorem V_v161 : V m c main_v161 = states (weight (cmpf .ogt upto (broadcastInDim S16x4096 ![] bcast_S_S16x4096 (constant (F := Ideal) S_ .f32 0x00000000#32)))
      (subf upto (broadcastInDim S16x4096 ![] bcast_S_S16x4096 (constant (F := Ideal) S_ .f32 0x3F800000#32)))
      (shapeCast S4 (extractStridedSlice S1x4 ![0, 0] (val_main_v72_0 (F := Ideal) (m (c, main_arg4))) slices_S2x4_S1x4_0_0) shapeCasts_S1x4_S4))
    (val_main_v76 (F := Ideal) (m (c, main_arg1))) (val_main_v78 (F := Ideal) (m (c, main_arg2))) := by
  unfold V
  after_reads_simp
  rfl
theorem V_v185 : V m c main_v185 = states (weight (cmpf .ole upto (broadcastInDim S16x4096 ![] bcast_S_S16x4096 (constant (F := Ideal) S_ .f32 0xC3800000#32)))
      (subf (Host.negf upto) (broadcastInDim S16x4096 ![] bcast_S_S16x4096 (constant (F := Ideal) S_ .f32 0x43800000#32)))
      (shapeCast S4 (extractStridedSlice S1x4 ![1, 0] (val_main_v72_0 (F := Ideal) (m (c, main_arg4))) slices_S2x4_S1x4_1_0) shapeCasts_S1x4_S4))
    (val_main_v76 (F := Ideal) (m (c, main_arg1))) (val_main_v78 (F := Ideal) (m (c, main_arg2))) := by
  unfold V
  after_reads_simp
  rfl
theorem V_v191 : V m c main_v191 = broadcastInDim S4x8x256 ![0, 1, 2] bcast_S4x8x1_S4x8x256_0_1_2 (broadcastInDim S4x8x1 ![0, 1] bcast_S4x8_S4x8x1_0_1
    (concatenate S4x8 1 [⟨S4x2, transpose S4x2 [1, 0] (shapeCast S2x4 (m (c, main_arg4) : FVec Ideal S1x2x4 .f32) shapeCasts_S1x2x4_S2x4) transposes_S2x4_S4x2_1_0⟩,
      ⟨S4x6, broadcastInDim S4x6 ![] bcast_S_S4x6 (constant (F := Ideal) S_ .f32 0x00000000#32)⟩] concatenates_S4x2_S4x6_S4x8_d1)) := by
  unfold V
  after_reads_simp
  rfl
theorem V_v213 : V m c main_v213 = (Host.cos (F := Ideal) (φ := .f32) (val_main_v16 (F := Ideal)) : FVec Ideal S4096x128 .f32) := by
  unfold V
  after_reads_simp
  rfl
theorem V_v214 : V m c main_v214 = (Host.sin (F := Ideal) (φ := .f32) (val_main_v16 (F := Ideal)) : FVec Ideal S4096x128 .f32) := by
  unfold V
  after_reads_simp
  rfl
theorem V_v216 : V m c main_v216 = truncf (F := Ideal) .bf16 (shapeCast S4096x1024 (m (c, main_arg5) : FVec Ideal S1x4096x1024 .f32) shapeCasts_S1x4096x1024_S4096x1024) bitsLt_bf16_f32 := by
  unfold V
  after_reads_simp
  rfl

/-! The stacked projections' four upper slots. -/

theorem v33_reads (k : ℕ) (hk : k = 263) : StableHlo.upto
      (List.flatten [hostOps0 (F := Ideal), hostOps0_1, hostOps0_2, hostOps0_3, hostOps0_4, hostOps0_5, hostOps0_6, hostOps0_7, hostOps0_8,
          hostOps0_9, hostOps0_10, hostOps0_11, hostOps0_12])
      (fun b => m (c, b)) k (Proc.tc.devRef main_v193) = shapeCast S1x4096x1024 (val_main_v33 (F := Ideal) (m (c, main_arg0))) shapeCasts_S1x4096x4x256_S1x4096x1024 := by
  subst hk
  after_reads_simp
  rfl
theorem v69_reads (k : ℕ) (hk : k = 263) : StableHlo.upto
      (List.flatten [hostOps0 (F := Ideal), hostOps0_1, hostOps0_2, hostOps0_3, hostOps0_4, hostOps0_5, hostOps0_6, hostOps0_7, hostOps0_8,
          hostOps0_9, hostOps0_10, hostOps0_11, hostOps0_12])
      (fun b => m (c, b)) k (Proc.tc.devRef main_v194) = shapeCast S1x4096x1024 (val_main_v69 (F := Ideal) (m (c, main_arg1))) shapeCasts_S1x4096x4x256_S1x4096x1024 := by
  subst hk
  after_reads_simp
  rfl
theorem slot4 (x : FVec Ideal S1x4096x1024 .f32) (hx : x = shapeCast S1x4096x1024 (val_main_v33 (F := Ideal) (m (c, main_arg0))) shapeCasts_S1x4096x4x256_S1x4096x1024)
    (t : Fin 4096) (j : Fin 1024) : V m c main_v196 (ix3 4 t j : S8x4096x1024.Idx) = x (ix3 0 t j) := by
  unfold V
  after_reads_at
  refine congrFun ?_ _
  rw [v33_reads m c _ rfl, hx]
theorem slot5 (x : FVec Ideal S1x4096x1024 .f32) (hx : x = shapeCast S1x4096x1024 (val_main_v69 (F := Ideal) (m (c, main_arg1))) shapeCasts_S1x4096x4x256_S1x4096x1024)
    (t : Fin 4096) (j : Fin 1024) : V m c main_v196 (ix3 5 t j : S8x4096x1024.Idx) = x (ix3 0 t j) := by
  unfold V
  after_reads_at
  refine congrFun ?_ _
  rw [v69_reads m c _ rfl, hx]
theorem slot6 (t : Fin 4096) (j : Fin 1024) : V m c main_v196 (ix3 6 t j : S8x4096x1024.Idx) = m (c, main_arg2) (ix3 0 t j : S1x4096x1024.Idx) := by
  unfold V
  after_reads_at
  after_reads_at
theorem slot7 (t : Fin 4096) (j : Fin 1024) : V m c main_v196 (ix3 7 t j : S8x4096x1024.Idx) = m (c, main_arg3) (ix3 0 t j : S1x4096x1024.Idx) := by
  unfold V
  after_reads_at
  after_reads_at

/-! ## On finite arguments -/

/-- A memory whose arguments on device `c` are the problem's. -/
structure At (A : Args) (m : (l : Loc nD τ sig) → Buf (Elt Ideal) l) (c : Dev nD) : Prop where
  q : m (c, main_arg0) = mat A.q
  k : m (c, main_arg1) = mat A.k
  v : m (c, main_arg2) = mat A.v
  g : m (c, main_arg3) = mat A.g
  L : m (c, main_arg4) = lgt A.L
  ct : m (c, main_arg5) = mat A.ct

variable (A : Args) (hA : At A m c)

theorem upto_at (n : Fin 16) (s : Fin 4096) : upto (ix2 n s) = ((((n.val : ℝ) * 256 - s.val : ℝ)) : EReal) := by
  pointwise [upto]
  rw [pos_word n.val (by omega), pos_word s.val s.isLt, lit_256, ← EReal.coe_mul, ← EReal.coe_sub]

theorem states_at (w : FVec Ideal S4x16x4096 .f32) (k v : ℕ → ℕ → ℕ → ℝ) (f : ℕ → ℕ → ℕ → ℝ) (hw : ∀ (h : Fin 4) (n : Fin 16) (s : Fin 4096), w (ix3 h n s) = ((f h n s : ℝ) : EReal))
    (h : Fin 4) (n : Fin 16) (d e : Fin 256) :
    states w (head fun t h d => k h t d) (head fun t h d => v h t d) (ix4 h n d e) = ((∑ s : Fin 4096, k h s d * f h n s * v h s e : ℝ) : EReal) := by
  pointwise [states]
  simp only [hw, head, ← EReal.coe_mul, ← coe_sum]
  rfl

theorem lit_neg_256 : Ideal.ofBits .f32 3279945728#32 = ((-256 : ℝ) : EReal) := by
  simp [Ideal.ofBits, Ideal.ieee, -EReal.coe_mul]; norm_num
include hA in
theorem sf_at (h : Fin 4) (n : Fin 16) (d e : Fin 256) : (V m c main_v161 : FVec Ideal S4x16x256x256 .bf16) (ix4 h n d e) = (((A.hd h).sf n d e : ℝ) : EReal) := by
  rw [V_v161, hA.k, hA.v, hA.L, v76_eq, v78_eq, v72_eq]
  refine states_at _ (A.hk) (A.hv) (A.kf) (fun h n s => ?_) h n d e
  pointwise [weight, upto_at]
  rw [show id (constant (F := Ideal) S_ .f32 0#32) ix0 = ((0 : ℝ) : EReal) from lit_zero, ← EReal.coe_one, ← EReal.coe_zero]
  simp only [two4, ← EReal.coe_sub, max_coe, ← EReal.coe_mul, Ideal.exp_coe, EReal.coe_lt_coe_iff, Args.kf]
  have e : (0 : ℝ) < (n.val : ℝ) * 256 - s.val ↔ s.val < 256 * n.val := by
    rw [sub_pos, mul_comm]; exact_mod_cast Iff.rfl
  by_cases h0 : s.val < 256 * n.val
  · rw [if_pos (e.mpr h0), if_pos h0]
    have : (s.val : ℝ) + 1 ≤ (256 * n.val : ℕ) := by exact_mod_cast h0
    refine congrArg _ (congrArg Real.exp ?_)
    rw [max_eq_left (by push_cast at this; linarith)]
    push_cast
    rw [mul_comm (n.val : ℝ) 256, sub_right_comm]
    rfl
  · rw [if_neg (mt e.mp h0), if_neg h0]
include hA in
theorem sb_at (h : Fin 4) (n : Fin 16) (d e : Fin 256) : (V m c main_v185 : FVec Ideal S4x16x256x256 .bf16) (ix4 h n d e) = (((A.hd h).sb n d e : ℝ) : EReal) := by
  rw [V_v185, hA.k, hA.v, hA.L, v76_eq, v78_eq, v72_eq]
  refine states_at _ (A.hk) (A.hv) (A.kb) (fun h n s => ?_) h n d e
  pointwise [weight, upto_at]
  rw [show id (constant (F := Ideal) S_ .f32 0#32) ix0 = ((0 : ℝ) : EReal) from lit_zero, ← EReal.coe_zero, lit_256, lit_neg_256, ← EReal.coe_neg]
  simp only [two4, ← EReal.coe_sub, max_coe, ← EReal.coe_mul, Ideal.exp_coe, EReal.coe_le_coe_iff, Args.kb]
  have e : (n.val : ℝ) * 256 - s.val ≤ -256 ↔ 256 * n.val + 256 ≤ s.val := by
    rw [← @Nat.cast_le ℝ]; push_cast; constructor <;> intro h <;> linarith
  by_cases h0 : 256 * n.val + 256 ≤ s.val
  · rw [if_pos (e.mpr h0), if_pos h0]
    have : ((256 * n.val + 256 : ℕ) : ℝ) ≤ s.val := by exact_mod_cast h0
    refine congrArg _ (congrArg Real.exp ?_)
    rw [max_eq_left (by push_cast at this; linarith), show -((n.val : ℝ) * 256 - s.val) - 256 = s.val - (256 * n.val + 256 : ℕ) by push_cast; ring]
    rfl
  · rw [if_neg (mt e.mp h0), if_neg h0]
include hA in
theorem dr_at (t : Fin 4096) (j : Fin 1024) : (V m c main_v216 : FVec Ideal S4096x1024 .bf16) (ix2 t j) = ((A.ct t j : ℝ) : EReal) := by
  have e : V m c main_v216 (ix2 t j : S4096x1024.Idx) = m (c, main_arg5) (ix3 0 t j : S1x4096x1024.Idx) := by
    unfold V
    after_reads_at
  exact e.trans (congrFun hA.ct _)
include hA in
theorem R_at (t : Fin 4096) (j : Fin 1024) : (V m c main_v123 : FVec Ideal S4096x1024 .f32) (ix2 t j) = (((A.hd (j.val / 256)).R t (j.val % 256) : ℝ) : EReal) := by
  rw [V_v123, hA.q, hA.k, hA.v, hA.L, v122_eq]
  pointwise []
  rfl
include hA in
theorem L_at (h : Fin 4) (r : Fin 8) (l : Fin 256) : (V m c main_v191 : FVec Ideal S4x8x256 .f32) (ix3 h r l) = ((logit A.L r h : ℝ) : EReal) := by
  rw [V_v191, hA.L]
  pointwise []
  unfold logit
  split <;> rfl
theorem co_at (t : Fin 4096) (j : Fin 128) : (V m c main_v213 : FVec Ideal S4096x128 .f32) (ix2 t j) = ((Real.cos (ang t j) : ℝ) : EReal) := by
  rw [V_v213, v16_eq]
  exact Ideal.cos_coe _
theorem si_at (t : Fin 4096) (j : Fin 128) : (V m c main_v214 : FVec Ideal S4096x128 .f32) (ix2 t j) = ((Real.sin (ang t j) : ℝ) : EReal) := by
  rw [V_v214, v16_eq]
  exact Ideal.sin_coe _
include hA in
theorem q_at (t : Fin 4096) (j : Fin 1024) : V m c main_v196 (ix3 4 t j : S8x4096x1024.Idx) = (((A.hd (j.val / 256)).q t (j.val % 256) : ℝ) : EReal) := by
  rw [slot4 m c _ rfl, hA.q, v33_eq]
  pointwise []
  rfl
include hA in
theorem k_at (t : Fin 4096) (j : Fin 1024) : V m c main_v196 (ix3 5 t j : S8x4096x1024.Idx) = (((A.hd (j.val / 256)).k t (j.val % 256) : ℝ) : EReal) := by
  rw [slot5 m c _ rfl, hA.k, v69_eq]
  pointwise []
  rfl
include hA in
theorem v_at (t : Fin 4096) (j : Fin 1024) : V m c main_v196 (ix3 6 t j : S8x4096x1024.Idx) = ((A.v t j : ℝ) : EReal) :=
  (slot6 m c t j).trans (congrFun hA.v _)
include hA in
theorem g_at (t : Fin 4096) (j : Fin 1024) : V m c main_v196 (ix3 7 t j : S8x4096x1024.Idx) = ((A.g t j : ℝ) : EReal) :=
  (slot7 m c t j).trans (congrFun hA.g _)

/-! ## A point's blocks are its head's numbers -/

theorem idx0 : ∀ t : Fin grid0.N, win0_0.index t = ![0, t.val] := by decide +kernel
theorem idx1 : ∀ t : Fin grid0.N, win0_1.index t = ![0, t.val] := by decide +kernel
theorem idx2 : ∀ t : Fin grid0.N, win0_2.index t = ![t.val, 0, 0, 0] := by decide +kernel
theorem idx3 : ∀ t : Fin grid0.N, win0_3.index t = ![t.val, 0, 0, 0] := by decide +kernel
theorem idx4 : ∀ t : Fin grid0.N, win0_4.index t = ![4, 0, t.val] := by decide +kernel
theorem idx5 : ∀ t : Fin grid0.N, win0_5.index t = ![5, 0, t.val] := by decide +kernel
theorem idx6 : ∀ t : Fin grid0.N, win0_6.index t = ![6, 0, t.val] := by decide +kernel
theorem idx7 : ∀ t : Fin grid0.N, win0_7.index t = ![7, 0, t.val] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![t.val, 0, 0] := by decide +kernel

/-- Lane `d` of point `t`'s head, among all the columns. -/
abbrev col (t : Fin cfg0.N) (d : Fin 256) : Fin 1024 := ⟨t.val * 256 + d.val, by have := t.isLt; have : cfg0.N = 4 := rfl; omega⟩
abbrev headOf (t : Fin cfg0.N) : Fin 4 := ⟨t.val, t.isLt⟩
theorem col_div (t : Fin cfg0.N) (d : Fin 256) : (col t d).val / 256 = t.val := by show (t.val * 256 + d.val) / 256 = _; omega
theorem col_mod (t : Fin cfg0.N) (d : Fin 256) : (col t d).val % 256 = d.val := by show (t.val * 256 + d.val) % 256 = _; omega

variable (t : Fin cfg0.N)

include hA in
theorem blk1 : iblk m c 0 t = (A.hd t.val).blk.x1 := by
  funext (y : S4096x256.Idx)
  obtain ⟨r, d, rfl⟩ : ∃ r d, y = ix2 r d := ⟨_, _, eq_ix2 y⟩
  have e : iblk m c 0 t (ix2 r d : S4096x256.Idx) = V m c main_v216 (ix2 r (col t d) : S4096x1024.Idx) := by
    blk_ext [iblk, idx0 t]
  exact e.trans (dr_at m c A hA _ _)
include hA in
theorem blk2 : iblk m c 1 t = (A.hd t.val).blk.x2 := by
  funext (y : S4096x256.Idx)
  obtain ⟨r, d, rfl⟩ : ∃ r d, y = ix2 r d := ⟨_, _, eq_ix2 y⟩
  have e : iblk m c 1 t (ix2 r d : S4096x256.Idx) = V m c main_v123 (ix2 r (col t d) : S4096x1024.Idx) := by
    blk_ext [iblk, idx1 t]
  refine (e.trans (R_at m c A hA _ _)).trans ?_
  rw [col_div, col_mod]; rfl
include hA in
theorem blk3 : iblk m c 2 t = (A.hd t.val).blk.x3 := by
  funext (y : S1x16x256x256.Idx)
  obtain ⟨u, n, d, e, rfl⟩ : ∃ u n d e, y = ix4 u n d e := ⟨_, _, _, _, eq_ix4 y⟩
  obtain rfl : u = 0 := Subsingleton.elim _ _
  have h : iblk m c 2 t (ix4 0 n d e : S1x16x256x256.Idx) = V m c main_v161 (ix4 (headOf t) n d e : S4x16x256x256.Idx) := by
    blk_ext [iblk, idx2 t]
  exact h.trans (sf_at m c A hA _ _ _ _)
include hA in
theorem blk4 : iblk m c 3 t = (A.hd t.val).blk.x4 := by
  funext (y : S1x16x256x256.Idx)
  obtain ⟨u, n, d, e, rfl⟩ : ∃ u n d e, y = ix4 u n d e := ⟨_, _, _, _, eq_ix4 y⟩
  obtain rfl : u = 0 := Subsingleton.elim _ _
  have h : iblk m c 3 t (ix4 0 n d e : S1x16x256x256.Idx) = V m c main_v185 (ix4 (headOf t) n d e : S4x16x256x256.Idx) := by
    blk_ext [iblk, idx3 t]
  exact h.trans (sb_at m c A hA _ _ _ _)
include hA in
theorem blk5 : iblk m c 4 t = (A.hd t.val).blk.x5 := by
  funext (y : S1x4096x256.Idx)
  obtain ⟨u, r, d, rfl⟩ : ∃ u r d, y = ix3 u r d := ⟨_, _, _, eq_ix3 y⟩
  obtain rfl : u = 0 := Subsingleton.elim _ _
  have e : iblk m c 4 t (ix3 0 r d : S1x4096x256.Idx) = V m c main_v196 (ix3 4 r (col t d) : S8x4096x1024.Idx) := by
    blk_ext [iblk, idx4 t]
  refine (e.trans (q_at m c A hA _ _)).trans ?_
  rw [col_div, col_mod]; rfl
include hA in
theorem blk6 : iblk m c 5 t = (A.hd t.val).blk.x6 := by
  funext (y : S1x4096x256.Idx)
  obtain ⟨u, r, d, rfl⟩ : ∃ u r d, y = ix3 u r d := ⟨_, _, _, eq_ix3 y⟩
  obtain rfl : u = 0 := Subsingleton.elim _ _
  have e : iblk m c 5 t (ix3 0 r d : S1x4096x256.Idx) = V m c main_v196 (ix3 5 r (col t d) : S8x4096x1024.Idx) := by
    blk_ext [iblk, idx5 t]
  refine (e.trans (k_at m c A hA _ _)).trans ?_
  rw [col_div, col_mod]; rfl
include hA in
theorem blk7 : iblk m c 6 t = (A.hd t.val).blk.x7 := by
  funext (y : S1x4096x256.Idx)
  obtain ⟨u, r, d, rfl⟩ : ∃ u r d, y = ix3 u r d := ⟨_, _, _, eq_ix3 y⟩
  obtain rfl : u = 0 := Subsingleton.elim _ _
  have e : iblk m c 6 t (ix3 0 r d : S1x4096x256.Idx) = V m c main_v196 (ix3 6 r (col t d) : S8x4096x1024.Idx) := by
    blk_ext [iblk, idx6 t]
  exact e.trans (v_at m c A hA _ _)
include hA in
theorem blk8 : iblk m c 7 t = (A.hd t.val).blk.x8 := by
  funext (y : S1x4096x256.Idx)
  obtain ⟨u, r, d, rfl⟩ : ∃ u r d, y = ix3 u r d := ⟨_, _, _, eq_ix3 y⟩
  obtain rfl : u = 0 := Subsingleton.elim _ _
  have e : iblk m c 7 t (ix3 0 r d : S1x4096x256.Idx) = V m c main_v196 (ix3 7 r (col t d) : S8x4096x1024.Idx) := by
    blk_ext [iblk, idx7 t]
  exact e.trans (g_at m c A hA _ _)
theorem blk9 : iblk m c 8 t = (A.hd t.val).blk.x10 := by
  funext (y : S4096x128.Idx)
  obtain ⟨r, j, rfl⟩ : ∃ r j, y = ix2 r j := ⟨_, _, eq_ix2 y⟩
  have e : iblk m c 8 t (ix2 r j : S4096x128.Idx) = V m c main_v213 (ix2 r j : S4096x128.Idx) := by
    blk_ext [iblk, idx8 t]
  exact e.trans (co_at m c r j)
theorem blk10 : iblk m c 9 t = (A.hd t.val).blk.x11 := by
  funext (y : S4096x128.Idx)
  obtain ⟨r, j, rfl⟩ : ∃ r j, y = ix2 r j := ⟨_, _, eq_ix2 y⟩
  have e : iblk m c 9 t (ix2 r j : S4096x128.Idx) = V m c main_v214 (ix2 r j : S4096x128.Idx) := by
    blk_ext [iblk, idx9 t]
  exact e.trans (si_at m c r j)
include hA in
theorem blk11 : iblk m c 10 t = (A.hd t.val).blk.x12 := by
  funext (y : S1x8x256.Idx)
  obtain ⟨u, r, l, rfl⟩ : ∃ u r l, y = ix3 u r l := ⟨_, _, _, eq_ix3 y⟩
  obtain rfl : u = 0 := Subsingleton.elim _ _
  have e : iblk m c 10 t (ix3 0 r l : S1x8x256.Idx) = V m c main_v191 (ix3 (headOf t) r l : S4x8x256.Idx) := by
    blk_ext [iblk, idx10 t]
  exact e.trans (L_at m c A hA _ _ _)

include hA in
theorem blkAt_eq : blkAt m c t = (A.hd t.val).blk := by
  unfold blkAt
  rw [blk1 m c A hA, blk2 m c A hA, blk3 m c A hA, blk4 m c A hA, blk5 m c A hA, blk6 m c A hA, blk7 m c A hA, blk8 m c A hA, blk9 m c A, blk10 m c A, blk11 m c A hA]

/-! ## The states are the sums that the chunk forms need -/

theorem saved (h : ℕ) : (A.hd h).Saved where
  sf n hn := by
    funext d e
    show ∑ s : Fin 4096, A.hk h s d * A.kf h n s * A.hv h s e = _
    rw [← rows_sum fun s => A.hk h s d * A.kf h n s * A.hv h s e]
    refine (Finset.sum_subset (Finset.Ico_subset_Ico_right (by omega : 256 * n ≤ 4096)) fun s _ hs => ?_).symm.trans (Finset.sum_congr rfl fun s hs => ?_)
    · rw [Args.kf, if_neg (by simpa using hs), mul_zero, zero_mul]
    · rw [Args.kf, if_pos (Finset.mem_Ico.mp hs).2, mul_comm (A.hk h s d), mul_assoc]; rfl
  sb n hn := by
    funext d e
    show ∑ s : Fin 4096, A.hk h s d * A.kb h n s * A.hv h s e = _
    rw [← rows_sum fun s => A.hk h s d * A.kb h n s * A.hv h s e]
    refine (Finset.sum_subset (Finset.Ico_subset_Ico_left (Nat.zero_le _)) fun s hl hs => ?_).symm.trans (Finset.sum_congr rfl fun s hs => ?_)
    · rw [Args.kb, if_neg fun z => hs (Finset.mem_Ico.mpr ⟨z, (Finset.mem_Ico.mp hl).2⟩), mul_zero, zero_mul]
    · rw [Args.kb, if_pos (Finset.mem_Ico.mp hs).1, mul_comm (A.hk h s d), mul_assoc]; rfl

/-- The chunk forms give the problem's gradients. -/
theorem dp_eq_gp (h : ℕ) (s : Fin 4) (t d : ℕ) (ht : t < 4096) : (A.hd h).dp s t d = gp (A.hd h) s.val t d := by
  have e : 256 * (t / 256) + t % 256 = t := Nat.div_add_mod _ _
  have hn : t / 256 < 16 := by omega
  have hi : t % 256 < 256 := Nat.mod_lt _ (by norm_num)
  match s with
  | 0 =>
    show Head.unrot _ t ((A.hd h).dqC (t / 256) (t % 256)) d = Head.unrot _ t ((A.hd h).dqG t) d
    rw [show (A.hd h).dqC (t / 256) (t % 256) = (A.hd h).dqG t from funext fun d => by rw [(A.hd h).dq_eq (saved A h) _ _ _ hn hi, e]]
  | 1 =>
    show Head.unrot _ t (fun d => (A.hd h).kA (t / 256) (t % 256) d + (A.hd h).kD (t / 256) (t % 256) d) d * (1 / 16) = Head.unrot _ t ((A.hd h).dkG t) d * (1 / 16)
    rw [show (fun d => (A.hd h).kA (t / 256) (t % 256) d + (A.hd h).kD (t / 256) (t % 256) d) = (A.hd h).dkG t from funext fun d => by rw [(A.hd h).dk_eq _ _ _ hn hi, e]]
  | 2 =>
    show (A.hd h).vA (t / 256) (t % 256) d + (A.hd h).vD (t / 256) (t % 256) d = (A.hd h).dvG t d
    rw [(A.hd h).dv_eq _ _ _ hn hi, e]
  | 3 => rfl
end Cert.RetHost

end
-- ==== Proof.RetValue.lean ====
/-
  The retention's kernel: its two result arrays after the run, on finite arguments. Slots 4 to 7 of the stacked gradient are
  tiled by the heads' blocks, the other four keep what the argument held; the decay gradients' array is tiled by the heads.
-/
module

public import proofs.«01_k».proof.Proof.RetHost

@[expose] public section

set_option maxRecDepth 16384

noncomputable section

namespace Cert.RetValue

open Cert.RetIdeal Cert.RetIdeal.Gen Idealize.ShloMosaic Idealize.ShloMosaic.TcCoe Cert.Reals Cert.RetMath Cert.RetPay Cert.RetRef Cert.RetStep Cert.RetHost

variable (m : (ℓ : Loc nD τ sig) → Buf (Elt Ideal) ℓ) (c : Dev nD) (A : Args) (hA : At A m c)

theorem idx11 : ∀ t : Fin grid0.N, win0_11.index t = ![1, 0, t.val] := by decide +kernel
theorem idx12 : ∀ t : Fin grid0.N, win0_12.index t = ![t.val, 0, 0] := by decide +kernel
theorem coord0 : ∀ t : Fin grid0.N, (grid0.coords t 0).val = t.val := by decide +kernel

theorem emb11_0 (t : Fin cfg0.N) (y : S4x4096x256.Idx) : ((win0_11.blk t).view.emb y 0).val = 4 + (y 0).val := by blk_simp [idx11 t]
theorem emb11_1 (t : Fin cfg0.N) (y : S4x4096x256.Idx) : ((win0_11.blk t).view.emb y 1).val = (y 1).val := by blk_simp [idx11 t]
theorem emb11_2 (t : Fin cfg0.N) (y : S4x4096x256.Idx) : ((win0_11.blk t).view.emb y 2).val = t.val * 256 + (y 2).val := by blk_simp [idx11 t]
theorem emb12_0 (t : Fin cfg0.N) (y : S1x8x128.Idx) : ((win0_12.blk t).view.emb y 0).val = t.val := by
  have := (y 0).isLt
  blk_simp [idx12 t]
theorem emb12_1 (t : Fin cfg0.N) (y : S1x8x128.Idx) : ((win0_12.blk t).view.emb y 1).val = (y 1).val := by blk_simp [idx12 t]
theorem emb12_2 (t : Fin cfg0.N) (y : S1x8x128.Idx) : ((win0_12.blk t).view.emb y 2).val = (y 2).val := by blk_simp [idx12 t]

/-- The slots the kernel writes: the gradients of the query, key, value and gate columns. -/
def stacked (i : S8x4096x1024.Idx) : EReal :=
  ((gp (A.hd ((i 2).val / 256)) ((i 0).val - 4) (i 1).val ((i 2).val % 256) : ℝ) : EReal)

/-- The decay gradients' array. -/
def decays (i : S4x8x128.Idx) : EReal :=
  ((if (i 2).val = (i 0).val ∧ (i 1).val < 2 then (if (i 1).val = 0 then (A.hd (i 0).val).dlf else (A.hd (i 0).val).dlb) * sigm (-(logit A.L (i 1).val (i 0).val)) else 0 : ℝ) : EReal)

include hA in
theorem at11 (t : Fin cfg0.N) (y : S4x4096x256.Idx) : (blkAt m c t).dp y = stacked A ((win0_11.blk t).view.emb y) := by
  obtain ⟨s, r, d, rfl⟩ : ∃ s r d, y = ix3 s r d := ⟨_, _, _, eq_ix3 y⟩
  rw [blkAt_eq m c A hA t, Head.blk_dp, dp_eq_gp A _ _ _ _ r.isLt]
  unfold stacked
  rw [emb11_0, emb11_1, emb11_2]
  show ((gp (A.hd t.val) s.val r.val d.val : ℝ) : EReal) = ((gp (A.hd ((t.val * 256 + d.val) / 256)) (4 + s.val - 4) r.val ((t.val * 256 + d.val) % 256) : ℝ) : EReal)
  have e1 : (t.val * 256 + d.val) / 256 = t.val := by omega
  have e2 : (t.val * 256 + d.val) % 256 = d.val := by omega
  rw [e1, e2, Nat.add_sub_cancel_left]

include hA in
theorem out11 : (dats m 0 c).arrAt 11 cfg0.N
    = fun i : S8x4096x1024.Idx => if (i 0).val / 4 = 1 then stacked A i else m ((c.tc : Thread nD τ).loc main_arg6) i := by
  have e : (dats m 0 c).A 11 = m ((c.tc : Thread nD τ).loc main_arg6) := by
    funext (i : S8x4096x1024.Idx)
    change V m c main_v217_0 i = _
    unfold V
    after_reads_at
    rfl
  rw [← e]
  refine (dats m 0 c).arrAt_eq_of_coversWhere 11 (stacked A) (fun β => β (0 : Fin _) = 1) (by decide +kernel) (fun t hf y => ?_) (fun j => Iff.rfl)
  blk_simp
  exact at11 m c A hA t y

include hA in
theorem at12 (t : Fin cfg0.N) (y : S1x8x128.Idx) : (blkAt m c t).dd (grid0.coords t) y = decays A ((win0_12.blk t).view.emb y) := by
  obtain ⟨u, r, l, rfl⟩ : ∃ u r l, y = ix3 u r l := ⟨_, _, _, eq_ix3 y⟩
  obtain rfl : u = 0 := Subsingleton.elim _ _
  rw [blkAt_eq m c A hA t, Head.blk_dd]
  unfold decays
  rw [emb12_0, emb12_1, emb12_2, coord0]
  show ((if l.val = t.val then _ * sigm (-(logit A.L r.val t.val)) else 0 : ℝ) : EReal) = ((if l.val = t.val ∧ r.val < 2 then _ else 0 : ℝ) : EReal)
  congr 1
  by_cases el : l.val = t.val
  · rw [if_pos el]
    by_cases er : r.val < 2
    · rw [if_pos ⟨el, er⟩]
      congr 1
      by_cases e0 : r.val = 0
      · exact (Finset.sum_congr rfl fun d _ => by rw [Head.accR, if_pos e0]).trans (((A.hd t.val).row0_sum (saved A _)).trans (if_pos e0).symm)
      · exact (Finset.sum_congr rfl fun d _ => by rw [Head.accR, if_neg e0, if_pos (by omega)]).trans (((A.hd t.val).row1_sum (saved A _)).trans (if_neg e0).symm)
    · rw [if_neg fun h => er h.2, Finset.sum_eq_zero fun d _ => by rw [Head.accR, if_neg (by omega), if_neg (by omega)], zero_mul]
  · rw [if_neg el, if_neg fun h => el h.1]

include hA in
theorem out12 : (dats m 0 c).arrAt 12 cfg0.N = decays A := by
  refine (dats m 0 c).arrAt_eq_of_covers 12 (decays A) (by decide +kernel) fun t hf y => ?_
  blk_simp
  exact at12 m c A hA t y

end Cert.RetValue

end
-- ==== Proof.RetClaim.lean ====
/-
  The retention's claims: the frames of both kernels from one run, and the value claim that joins the kernel's two arrays to
  the reference's.
-/
module

public import proofs.«01_k».proof.Defs
public import proofs.«01_k».proof.Proof.RetValue
public import Idealize.ShloMosaic.Lib.Pointwise.Select
public import Idealize.ShloMosaic.Lib.Claim
public import Idealize.ShloMosaic.Lib.Quiescent

@[expose] public section

set_option maxRecDepth 16384

noncomputable section

namespace Cert.RetClaim

open Idealize.ShloMosaic Idealize.ShloMosaic.TcCoe Idealize.SL.Sem Cert.Reals Cert.RetMath Cert.RetRef

/-- The predicate's shape relations. -/
theorem preFacts : Cert.Pre_finite3.Facts := ⟨by decide, by decide⟩

instance : Cert.Pre_finite3.Facts := preFacts

/-- The printed kernel and the one read over the reals have one body per call. -/
theorem defs₀_eq [Cert.Ret.Facts] : Cert.Ret.defs₀ (F := Bits) = Cert.RetIdeal.defs₀ (F := Bits) := by
  unfold Cert.Ret.defs₀ Cert.RetIdeal.defs₀
  refine congrArg Defs.onTc ?_
  funext l x
  match l, x with
  | 0, (t, s) => rfl

theorem defs_eq [Cert.Ret.Facts] : Cert.Ret.defs (F := Bits) = Cert.RetIdeal.defs (F := Bits) :=
  congrArg (Pipeline.defs Cert.RetIdeal.pcfgs) defs₀_eq

set_option maxHeartbeats 4000000 in
theorem main_eq [Cert.Ret.Facts] [Cert.RetIdeal.Facts] : Cert.Ret.main (F := Bits) = Cert.RetIdeal.main (F := Bits) := by
  unfold Cert.Ret.main Cert.RetIdeal.main
  rfl

/-- The printed kernel's frame. -/
theorem frame_bits [Cert.Ret.Facts] : Cert.quiescent_Ret := fun m ρ _ => by
  rw [defs_eq, main_eq]
  exact Cert.RetStep.frame_run (F := Bits) m ρ

/-- The kernel's frame over the reals. -/
theorem frame_ideal : Cert.quiescent_RetIdeal := fun m ρ _ => Cert.RetStep.frame_run (F := Ideal) m ρ

/-- The reference leaves its arguments and the counters. -/
theorem frame_ref : Cert.quiescent_RetRefIdeal := fun m ρ _ =>
  (θ_run Cert.RetRefIdeal.defs _ _).mono (fun r h => ⟨fun c => (h c).2.2, sem_eq_zero_of_no_sems (by decide) r.2⟩)
    (Cert.RetRefIdeal.Value.run (F := Ideal) m ρ)

/-- An array of finite values is one of reals, read at natural numbers. -/
theorem exists_mat {x : Cert.RetRefIdeal.S1x4096x1024.Idx → EReal} (h : ∀ i, max (x i) (-(x i)) < ⊤) : ∃ f, x = mat f := by
  obtain ⟨X, hX⟩ := exists_real h
  refine ⟨fun t c => if h : t < 4096 ∧ c < 1024 then X (ix3 0 ⟨t, h.1⟩ ⟨c, h.2⟩) else 0, mat_ext fun t c => ?_⟩
  rw [dif_pos ⟨t.isLt, c.isLt⟩, hX]

theorem exists_lgt {x : Cert.RetRefIdeal.S1x2x4.Idx → EReal} (h : ∀ i, max (x i) (-(x i)) < ⊤) : ∃ f, x = lgt f := by
  obtain ⟨X, hX⟩ := exists_real h
  refine ⟨fun t c => if h : t < 2 ∧ c < 4 then X (ix3 0 ⟨t, h.1⟩ ⟨c, h.2⟩) else 0, ?_⟩
  funext y
  obtain ⟨u, t, c, rfl⟩ : ∃ u t c, y = ix3 u t c := ⟨_, _, _, eq_ix3 y⟩
  obtain rfl : u = 0 := Subsingleton.elim _ _
  show _ = (((if h : t.val < 2 ∧ c.val < 4 then X (ix3 0 ⟨t.val, h.1⟩ ⟨c.val, h.2⟩) else 0 : ℝ)) : EReal)
  rw [dif_pos ⟨t.isLt, c.isLt⟩, hX]

/-- Finite arguments are arrays of reals. -/
theorem exists_args (m : (ℓ : Loc Cert.RetIdeal.nD Cert.RetIdeal.τ Cert.RetIdeal.sig) → Buf (Elt Ideal) ℓ)
    (h : Cert.Pre_RetIdeal_finite3 m) (c : Dev Cert.RetIdeal.nD) : ∃ A : Args, RetHost.At A m c := by
  obtain ⟨h0, h1, h2, h3, h4, h5⟩ := h c
  obtain ⟨q, hq⟩ := exists_mat (x := m ((c.tc : Thread Cert.RetIdeal.nD Cert.RetIdeal.τ).loc Cert.RetIdeal.main_arg0)) fun i => by
    have := congrFun h0 i
    rw [← lit_inf]
    exact (Ideal.cmp_olt_eq_one _ _).mp this
  obtain ⟨k, hk⟩ := exists_mat (x := m ((c.tc : Thread Cert.RetIdeal.nD Cert.RetIdeal.τ).loc Cert.RetIdeal.main_arg1)) fun i => by
    have := congrFun h1 i
    rw [← lit_inf]
    exact (Ideal.cmp_olt_eq_one _ _).mp this
  obtain ⟨v, hv⟩ := exists_mat (x := m ((c.tc : Thread Cert.RetIdeal.nD Cert.RetIdeal.τ).loc Cert.RetIdeal.main_arg2)) fun i => by
    have := congrFun h2 i
    rw [← lit_inf]
    exact (Ideal.cmp_olt_eq_one _ _).mp this
  obtain ⟨g, hg⟩ := exists_mat (x := m ((c.tc : Thread Cert.RetIdeal.nD Cert.RetIdeal.τ).loc Cert.RetIdeal.main_arg3)) fun i => by
    have := congrFun h3 i
    rw [← lit_inf]
    exact (Ideal.cmp_olt_eq_one _ _).mp this
  obtain ⟨L, hL⟩ := exists_lgt (x := m ((c.tc : Thread Cert.RetIdeal.nD Cert.RetIdeal.τ).loc Cert.RetIdeal.main_arg4)) fun i => by
    have := congrFun h4 i
    rw [← lit_inf]
    exact (Ideal.cmp_olt_eq_one _ _).mp this
  obtain ⟨ct, hct⟩ := exists_mat (x := m ((c.tc : Thread Cert.RetIdeal.nD Cert.RetIdeal.τ).loc Cert.RetIdeal.main_arg5)) fun i => by
    have := congrFun h5 i
    rw [← lit_inf]
    exact (Ideal.cmp_olt_eq_one _ _).mp this
  exact ⟨⟨q, k, v, g, L, ct⟩, hq, hk, hv, hg, hL, hct⟩

/-- The kernel's arrays are the reference's. -/
theorem algebraic : Cert.algebraic_RetIdeal_RetRefIdeal_pre_finite3 := by
  intro m g m' g' hpre hagree
  choose A hA using exists_args m hpre
  refine ⟨_, _, RetStep.run_blocks m g, ?_⟩
  refine (θ_run Cert.RetRefIdeal.defs _ _).mono (fun r h c => ?_) (Cert.RetRefIdeal.Value.run m' g')
  obtain ⟨h240, h249, hk⟩ := h c
  obtain ⟨a0, a1, a2, a3, a4, a5, a6⟩ := hagree c
  have A0 := a0.trans (hA c).q
  have A1 := a1.trans (hA c).k
  have A2 := a2.trans (hA c).v
  have A3 := a3.trans (hA c).g
  have A4 := a4.trans (hA c).L
  have A5 := a5.trans (hA c).ct
  refine ⟨?_, ?_, hk⟩
  · refine h240.trans ((Cert.RetRefIdeal.Read.val_main_v240_eq _).trans ?_)
    rw [RetValue.out11 m c (A c) (hA c)]
    show Cert.RetRefIdeal.Read.val_main_v240 (F := Ideal) (m' ((c.tc : Thread Cert.RetRefIdeal.nD Cert.RetRefIdeal.τ).loc Cert.RetRefIdeal.main_arg0)) (m' ((c.tc : Thread Cert.RetRefIdeal.nD Cert.RetRefIdeal.τ).loc Cert.RetRefIdeal.main_arg1)) (m' ((c.tc : Thread Cert.RetRefIdeal.nD Cert.RetRefIdeal.τ).loc Cert.RetRefIdeal.main_arg2)) (m' ((c.tc : Thread Cert.RetRefIdeal.nD Cert.RetRefIdeal.τ).loc Cert.RetRefIdeal.main_arg3)) (m' ((c.tc : Thread Cert.RetRefIdeal.nD Cert.RetRefIdeal.τ).loc Cert.RetRefIdeal.main_arg4)) (m' ((c.tc : Thread Cert.RetRefIdeal.nD Cert.RetRefIdeal.τ).loc Cert.RetRefIdeal.main_arg5)) (m' ((c.tc : Thread Cert.RetRefIdeal.nD Cert.RetRefIdeal.τ).loc Cert.RetRefIdeal.main_arg6)) = _
    rw [A0, A1, A2, A3, A4, A5, a6]
    funext i
    obtain ⟨s, t, l, rfl⟩ : ∃ s t l, i = ix3 s t l := ⟨_, _, _, eq_ix3 i⟩
    refine (dp_at (A c) _ s t l).trans ?_
    by_cases e : s.val < 4
    · exact (if_pos e).trans (if_neg (show ¬ s.val / 4 = 1 by omega)).symm
    · exact (if_neg e).trans (if_pos (show s.val / 4 = 1 by omega)).symm
  · refine h249.trans ((Cert.RetRefIdeal.Read.val_main_v249_eq _).trans ?_)
    rw [RetValue.out12 m c (A c) (hA c)]
    show Cert.RetRefIdeal.Read.val_main_v249 (F := Ideal) (m' ((c.tc : Thread Cert.RetRefIdeal.nD Cert.RetRefIdeal.τ).loc Cert.RetRefIdeal.main_arg0)) (m' ((c.tc : Thread Cert.RetRefIdeal.nD Cert.RetRefIdeal.τ).loc Cert.RetRefIdeal.main_arg1)) (m' ((c.tc : Thread Cert.RetRefIdeal.nD Cert.RetRefIdeal.τ).loc Cert.RetRefIdeal.main_arg2)) (m' ((c.tc : Thread Cert.RetRefIdeal.nD Cert.RetRefIdeal.τ).loc Cert.RetRefIdeal.main_arg3)) (m' ((c.tc : Thread Cert.RetRefIdeal.nD Cert.RetRefIdeal.τ).loc Cert.RetRefIdeal.main_arg4)) (m' ((c.tc : Thread Cert.RetRefIdeal.nD Cert.RetRefIdeal.τ).loc Cert.RetRefIdeal.main_arg5)) = _
    rw [A0, A1, A2, A3, A4, A5]
    funext i
    obtain ⟨h, r, l, rfl⟩ : ∃ h r l, i = ix3 h r l := ⟨_, _, _, eq_ix3 i⟩
    exact dd_at (A c) h r l

end Cert.RetClaim

end
-- ==== Proof.MergeMath.lean ====
/-
  The merge of the two branches, on one row: the branches' products, the gates, the mixture, and the gradients the kernel
  writes. The row's values are extended reals; nothing here asks them to be finite.
-/
module

public import proofs.«01_k».proof.Proof.Reals

@[expose] public section

noncomputable section

namespace Cert.MergeMath

open Idealize.ShloMosaic

/-- One row times a matrix. -/
def lin (x : Fin 1024 → EReal) (w : Fin 1024 → Fin 1024 → EReal) (k : Fin 1024) : EReal := ∑ j, x j * w j k

/-- One row times a matrix's transpose. -/
def linT (x : Fin 1024 → EReal) (w : Fin 1024 → Fin 1024 → EReal) (k : Fin 1024) : EReal := ∑ j, x j * w k j

/-- The gate. -/
def sg (x : EReal) : EReal := Ideal.logistic x

/-- One row of the six token arrays, and the three matrices. -/
structure Row where
  a : Fin 1024 → EReal
  r : Fin 1024 → EReal
  ga : Fin 1024 → EReal
  gb : Fin 1024 → EReal
  x : Fin 1024 → EReal
  ct : Fin 1024 → EReal
  wa : Fin 1024 → Fin 1024 → EReal
  wb : Fin 1024 → Fin 1024 → EReal
  wo : Fin 1024 → Fin 1024 → EReal

namespace Row

variable (R : Row)

def ya : Fin 1024 → EReal := lin R.a R.wa
def yb : Fin 1024 → EReal := lin R.r R.wb
def mix (k : Fin 1024) : EReal := sg (R.ga k) * R.ya k + sg (R.gb k) * R.yb k
def out (k : Fin 1024) : EReal := R.x k + lin R.mix R.wo k
/-- The mixture's gradient. -/
def dmix : Fin 1024 → EReal := linT R.ct R.wo
/-- The gates' gradients, in the order the kernel multiplies. -/
def dga (k : Fin 1024) : EReal := R.dmix k * R.ya k * sg (R.ga k) * (1 - sg (R.ga k))
def dgb (k : Fin 1024) : EReal := R.dmix k * R.yb k * sg (R.gb k) * (1 - sg (R.gb k))
/-- The branches' products' gradients. -/
def dya (k : Fin 1024) : EReal := R.dmix k * sg (R.ga k)
def dyb (k : Fin 1024) : EReal := R.dmix k * sg (R.gb k)
/-- The branches' gradients. -/
def da : Fin 1024 → EReal := linT R.dya R.wa
def dr : Fin 1024 → EReal := linT R.dyb R.wb

end Row

end Cert.MergeMath

end
-- ==== Proof.MergePay.lean ====
/-
  The merge's two kernels: what each stores, at an index of its block, as a function of the blocks it reads.
-/
module

public import proofs.«01_k».proof.Proof.MergeMath
public import proofs.«01_k».proof.Proof.Gen.MergeIdeal.Frame
public import proofs.«01_k».proof.Proof.SguPoint
public import Idealize.ShloMosaic.Lib.Pipeline.ValueKit

@[expose] public section

set_option maxRecDepth 16384

noncomputable section

namespace Cert.MergePay

open Cert.MergeIdeal Cert.MergeIdeal.Gen Idealize.ShloMosaic Cert.Reals Cert.MergeMath

section Payloads

variable (x y : S512x1024.Idx → EReal) (w : S1024x1024.Idx → EReal) (g : S1x512x1024.Idx → EReal)

theorem k0_pay1_at (r : Fin 512) (k : Fin 1024) :
    k0_pay1 (F := Ideal) x w (ix2 r k) = lin (fun j => x (ix2 r j)) (fun j k => w (ix2 j k)) k := by
  pointwise [k0_pay1, lin]

theorem k1_pay9_at (r : Fin 512) (k : Fin 1024) : k1_pay9 (F := Ideal) g (ix2 r k) = sg (g (ix3 0 r k)) := by
  pointwise [k1_pay9, sg]

theorem k1_pay10_at (r : Fin 512) (k : Fin 1024) : k1_pay10 (F := Ideal) g (ix2 r k) = sg (g (ix3 0 r k)) := by
  pointwise [k1_pay10, sg]

theorem k1_pay6_at (r : Fin 512) (k : Fin 1024) :
    k1_pay6 (F := Ideal) x w (ix2 r k) = linT (fun j => x (ix2 r j)) (fun j k => w (ix2 j k)) k := by
  pointwise [k1_pay6, k1_pay5, linT]

theorem k1_pay1_at (s : S512x1024.Idx → EReal) (r : Fin 512) (k : Fin 1024) :
    k1_pay1 (F := Ideal) x y s (ix3 0 r k) = x (ix2 r k) * y (ix2 r k) * s (ix2 r k) * (1 - s (ix2 r k)) := by
  pointwise [k1_pay1]

theorem k1_pay2_at (s : S512x1024.Idx → EReal) (r : Fin 512) (k : Fin 1024) :
    k1_pay2 (F := Ideal) x y s (ix3 0 r k) = x (ix2 r k) * y (ix2 r k) * s (ix2 r k) * (1 - s (ix2 r k)) := by
  pointwise [k1_pay2]

theorem k1_pay3_at (r : Fin 512) (k : Fin 1024) :
    k1_pay3 (F := Ideal) x w (ix2 r k) = linT (fun j => x (ix2 r j)) (fun j k => w (ix2 j k)) k := by
  pointwise [k1_pay3, linT]

theorem k1_pay4_at (r : Fin 512) (k : Fin 1024) :
    k1_pay4 (F := Ideal) x w (ix2 r k) = linT (fun j => x (ix2 r j)) (fun j k => w (ix2 j k)) k := by
  pointwise [k1_pay4, linT]

theorem k1_pay12_at (r : Fin 512) (k : Fin 1024) :
    k1_pay12 (F := Ideal) x w g (ix2 r k) = linT (fun j => x (ix2 r j)) (fun j k => w (ix2 j k)) k * sg (g (ix3 0 r k)) := by
  rw [← k1_pay6_at, ← k1_pay9_at]
  rfl

theorem k1_pay13_at (r : Fin 512) (k : Fin 1024) :
    k1_pay13 (F := Ideal) x w g (ix2 r k) = linT (fun j => x (ix2 r j)) (fun j k => w (ix2 j k)) k * sg (g (ix3 0 r k)) := by
  rw [← k1_pay6_at, ← k1_pay10_at]
  rfl

theorem ld_plane (X : S2x512x1024.Idx → EReal) (s : ℕ) (hs : s < 2) (inb) (r : Fin 512) (k : Fin 1024) :
    View.ld (Val := Elt Ideal) (e' := .bf16) X (Rect.unit (s := S2x512x1024) ![s, 0, 0] S1x512x1024.size inb) (ix3 0 r k : S1x512x1024.Idx)
      = X (ix3 ⟨s, hs⟩ r k) := by
  refine View.ld_unit_apply_of _ _ _ _ _ (ix3 ⟨s, hs⟩ r k : S2x512x1024.Idx) ?_
  intro a
  match a with
  | 0 => rfl
  | 1 => exact (Nat.zero_add _).symm
  | 2 => exact (Nat.zero_add _).symm

end Payloads

/-- A point's blocks in the forward kernel at block row `r`: the row `R`. -/
structure Fwd (R : Row) (r : Fin 512) (x0 x1 : S512x1024.Idx → EReal) (x2 : S2x512x1024.Idx → EReal) (x3 : S512x1024.Idx → EReal)
    (x4 x5 x6 : S1024x1024.Idx → EReal) : Prop where
  a : ∀ k, x0 (ix2 r k) = R.a k
  rr : ∀ k, x1 (ix2 r k) = R.r k
  ga : ∀ k, x2 (ix3 0 r k) = R.ga k
  gb : ∀ k, x2 (ix3 1 r k) = R.gb k
  x : ∀ k, x3 (ix2 r k) = R.x k
  wa : ∀ j k, x4 (ix2 j k) = R.wa j k
  wb : ∀ j k, x5 (ix2 j k) = R.wb j k
  wo : ∀ j k, x6 (ix2 j k) = R.wo j k

namespace Fwd

variable {R : Row} {r : Fin 512} {x0 x1 : S512x1024.Idx → EReal} {x2 : S2x512x1024.Idx → EReal} {x3 : S512x1024.Idx → EReal}
    {x4 x5 x6 : S1024x1024.Idx → EReal} (h : Fwd R r x0 x1 x2 x3 x4 x5 x6) (k : Fin 1024)

include h in
theorem ya : k0_pay1 (F := Ideal) x0 x4 (ix2 r k) = R.ya k := by
  rw [k0_pay1_at]; simp only [h.a, h.wa]; rfl

include h in
theorem yb : k0_pay1 (F := Ideal) x1 x5 (ix2 r k) = R.yb k := by
  rw [k0_pay1_at]; simp only [h.rr, h.wb]; rfl

include h in
theorem out8 : out0_8 (F := Ideal) x0 x1 x2 x3 x4 x5 x6 (ix2 r k) = R.ya k := by
  rw [← h.ya k]
  unfold out0_8
  frame_out
  rfl

include h in
theorem out9 : out0_9 (F := Ideal) x0 x1 x2 x3 x4 x5 x6 (ix2 r k) = R.yb k := by
  rw [← h.yb k]
  unfold out0_9
  frame_out
  rfl

include h in
theorem out7 : out0_7 (F := Ideal) x0 x1 x2 x3 x4 x5 x6 (ix2 r k) = R.out k := by
  have e : ∀ j, k0_pay1 (F := Ideal) x0 x4 (ix2 r j) = R.ya j := h.ya
  have f : ∀ j, k0_pay2 (F := Ideal) x1 x5 (ix2 r j) = R.yb j := h.yb
  unfold out0_7
  frame_out
  pointwise [k0_pay5]
  simp only [e, f, h.x, h.wo, h.ga, h.gb]
  rfl

end Fwd

/-- A point's blocks in the backward kernel at block row `r`: the row `R`. -/
structure Bwd (R : Row) (r : Fin 512) (x0 x1 x2 : S512x1024.Idx → EReal) (x3 : S2x512x1024.Idx → EReal)
    (x4 x5 x6 : S1024x1024.Idx → EReal) : Prop where
  ct : ∀ k, x0 (ix2 r k) = R.ct k
  ya : ∀ k, x1 (ix2 r k) = R.ya k
  yb : ∀ k, x2 (ix2 r k) = R.yb k
  ga : ∀ k, x3 (ix3 0 r k) = R.ga k
  gb : ∀ k, x3 (ix3 1 r k) = R.gb k
  wa : ∀ j k, x4 (ix2 j k) = R.wa j k
  wb : ∀ j k, x5 (ix2 j k) = R.wb j k
  wo : ∀ j k, x6 (ix2 j k) = R.wo j k

namespace Bwd

variable {R : Row} {r : Fin 512} {x0 x1 x2 : S512x1024.Idx → EReal} {x3 : S2x512x1024.Idx → EReal}
    {x4 x5 x6 : S1024x1024.Idx → EReal} (h : Bwd R r x0 x1 x2 x3 x4 x5 x6) (k : Fin 1024)

include h in
theorem dmix : k1_pay6 (F := Ideal) x0 x6 (ix2 r k) = R.dmix k := by
  rw [k1_pay6_at]; simp only [h.ct, h.wo]; rfl

include h in
theorem gateA : k1_pay9 (F := Ideal) (View.ld x3 r1_2) (ix2 r k) = sg (R.ga k) := by
  rw [k1_pay9_at]; exact congrArg sg ((ld_plane x3 0 (by decide) _ r k).trans (h.ga k))

include h in
theorem gateB : k1_pay10 (F := Ideal) (View.ld x3 r1_3) (ix2 r k) = sg (R.gb k) := by
  rw [k1_pay10_at]; exact congrArg sg ((ld_plane x3 1 (by decide) _ r k).trans (h.gb k))

include h in
theorem dya : k1_pay12 (F := Ideal) x0 x6 (View.ld x3 r1_2) (ix2 r k) = R.dya k := by
  unfold Row.dya
  rw [← h.dmix, ← h.gateA]; rfl

include h in
theorem dyb : k1_pay13 (F := Ideal) x0 x6 (View.ld x3 r1_3) (ix2 r k) = R.dyb k := by
  unfold Row.dyb
  rw [← h.dmix, ← h.gateB]; rfl

include h in
theorem out8 : out1_8 (F := Ideal) x0 x1 x2 x3 x4 x5 x6 (ix2 r k) = R.da k := by
  unfold out1_8
  frame_out
  rw [k1_pay3_at]
  simp only [h.wa]
  exact congrArg (fun f => linT f R.wa k) (funext fun j => h.dya j)

include h in
theorem out9 : out1_9 (F := Ideal) x0 x1 x2 x3 x4 x5 x6 (ix2 r k) = R.dr k := by
  unfold out1_9
  frame_out
  rw [k1_pay4_at]
  simp only [h.wb]
  exact congrArg (fun f => linT f R.wb k) (funext fun j => h.dyb j)

include h in
theorem out10 : out1_10 (F := Ideal) x0 x1 x2 x3 x4 x5 x6 (ix2 r k) = R.mix k := by
  unfold Row.mix
  rw [← h.gateA, ← h.gateB, ← h.ya, ← h.yb]
  unfold out1_10
  frame_out
  pointwise [k1_pay11, k1_pay7, k1_pay8]

include h in
theorem out11 : out1_11 (F := Ideal) x0 x1 x2 x3 x4 x5 x6 (ix2 r k) = R.ct k := by
  rw [← h.ct]
  unfold out1_11
  frame_out
  pointwise [k1_pay5]

include h in
theorem out12 : out1_12 (F := Ideal) x0 x1 x2 x3 x4 x5 x6 (ix2 r k) = R.dya k := by
  rw [← h.dya]
  unfold out1_12
  frame_out

include h in
theorem out13 : out1_13 (F := Ideal) x0 x1 x2 x3 x4 x5 x6 (ix2 r k) = R.dyb k := by
  rw [← h.dyb]
  unfold out1_13
  frame_out

include h in
theorem slotA : k1_pay1 (F := Ideal) (k1_pay6 x0 x6) (k1_pay7 x1) (k1_pay9 (View.ld x3 r1_2)) (ix3 0 r k) = R.dga k := by
  rw [k1_pay1_at, h.dmix, h.gateA]
  unfold Row.dga
  rw [← h.ya]
  pointwise [k1_pay7]

include h in
theorem slotB : k1_pay2 (F := Ideal) (k1_pay6 x0 x6) (k1_pay8 x2) (k1_pay10 (View.ld x3 r1_3)) (ix3 0 r k) = R.dgb k := by
  rw [k1_pay2_at, h.dmix, h.gateB]
  unfold Row.dgb
  rw [← h.yb]
  pointwise [k1_pay8]

end Bwd

/-- The pair of slots the backward kernel stores, when its blocks' rows are `R`. -/
theorem out1_7_at {R : Fin 512 → Row} {x0 x1 x2 : S512x1024.Idx → EReal} {x3 : S2x512x1024.Idx → EReal}
    {x4 x5 x6 : S1024x1024.Idx → EReal} (h : ∀ r, Bwd (R r) r x0 x1 x2 x3 x4 x5 x6) (y : S2x512x1024.Idx) :
    out1_7 (F := Ideal) x0 x1 x2 x3 x4 x5 x6 y = if (y 0).val = 0 then (R (y 1)).dga (y 2) else (R (y 1)).dgb (y 2) := by
  unfold out1_7 k1_pay14
  frame_out
  exact Cert.SguPoint.canon_slots _ _ _ _ [] (fun y => if (y 0).val = 0 then (R (y 1)).dga (y 2) else (R (y 1)).dgb (y 2))
    (fun r l => (h r).slotB l) (fun r l => (h r).slotA l) y

end Cert.MergePay

end
-- ==== Proof.MergeHost.lean ====
/-
  The merge's two kernels: the rows of the arguments, the host arrays each kernel reads, and its blocks.
-/
module

public import proofs.«01_k».proof.Proof.MergePay
public import Idealize.ShloMosaic.Lib.StableHlo.ReadAt

@[expose] public section

set_option maxRecDepth 16384

noncomputable section

namespace Cert.MergeHost

open Cert.MergeIdeal Cert.MergeIdeal.Gen Idealize.ShloMosaic Idealize.ShloMosaic.TcCoe Cert.Reals Cert.MergeMath Cert.MergePay

variable (m : (ℓ : Loc nD τ sig) → Buf (Elt Ideal) ℓ) (ρ : Dev nD → PrngReg) (c : Dev nD)

/-- Row `n` of the arguments. -/
def row (n : Fin 4096) : Row where
  a := fun k => m (c, main_arg0) (ix3 0 n k : S1x4096x1024.Idx)
  r := fun k => m (c, main_arg1) (ix3 0 n k : S1x4096x1024.Idx)
  ga := fun k => m (c, main_arg2) (ix3 0 n k : S1x4096x1024.Idx)
  gb := fun k => m (c, main_arg3) (ix3 0 n k : S1x4096x1024.Idx)
  wa := fun j k => m (c, main_arg4) (ix3 0 j k : S1x1024x1024.Idx)
  wb := fun j k => m (c, main_arg5) (ix3 0 j k : S1x1024x1024.Idx)
  wo := fun j k => m (c, main_arg6) (ix3 0 j k : S1x1024x1024.Idx)
  x := fun k => m (c, main_arg7) (ix3 0 n k : S1x4096x1024.Idx)
  ct := fun k => m (c, main_arg8) (ix3 0 n k : S1x4096x1024.Idx)

/-! ## The host arrays -/

theorem rd12 (n : Fin 4096) (k : Fin 1024) : V1 m ρ c main_v12 (ix2 n k : S4096x1024.Idx) = (row m c n).a k := by
  unfold V1 W1
  after_reads_at
  rfl
theorem rd14 (n : Fin 4096) (k : Fin 1024) : V1 m ρ c main_v14 (ix2 n k : S4096x1024.Idx) = (row m c n).r k := by
  unfold V1 W1
  after_reads_at
  rfl
theorem rd4_2 (n : Fin 4096) (k : Fin 1024) : V1 m ρ c main_v4 (ix3 2 n k : S8x4096x1024.Idx) = (row m c n).ga k := by
  unfold V1 W1
  after_reads_at
  after_reads_at
  rfl
theorem rd4_3 (n : Fin 4096) (k : Fin 1024) : V1 m ρ c main_v4 (ix3 3 n k : S8x4096x1024.Idx) = (row m c n).gb k := by
  unfold V1 W1
  after_reads_at
  after_reads_at
  rfl
theorem rd15 (n : Fin 4096) (k : Fin 1024) : V1 m ρ c main_v15 (ix2 n k : S4096x1024.Idx) = (row m c n).x k := by
  unfold V1 W1
  after_reads_at
  rfl
theorem rd6 (n : Fin 1024) (k : Fin 1024) : V1 m ρ c main_v6 (ix2 n k : S1024x1024.Idx) = (row m c 0).wa n k := by
  unfold V1 W1
  after_reads_at
  rfl
theorem rd8 (n : Fin 1024) (k : Fin 1024) : V1 m ρ c main_v8 (ix2 n k : S1024x1024.Idx) = (row m c 0).wb n k := by
  unfold V1 W1
  after_reads_at
  rfl
theorem rd10 (n : Fin 1024) (k : Fin 1024) : V1 m ρ c main_v10 (ix2 n k : S1024x1024.Idx) = (row m c 0).wo n k := by
  unfold V1 W1
  after_reads_at
  rfl

/-- Row `r` of point `t`'s blocks, among all the rows. -/
abbrev tok (t : Fin 8) (r : Fin 512) : Fin 4096 := ⟨t.val * 512 + r.val, by omega⟩

/-! ## The forward kernel -/

theorem idx0_0 : ∀ t : Fin grid0.N, win0_0.index t = ![t.val, 0] := by decide +kernel
theorem idx0_1 : ∀ t : Fin grid0.N, win0_1.index t = ![t.val, 0] := by decide +kernel
theorem idx0_2 : ∀ t : Fin grid0.N, win0_2.index t = ![1, t.val, 0] := by decide +kernel
theorem idx0_3 : ∀ t : Fin grid0.N, win0_3.index t = ![t.val, 0] := by decide +kernel
theorem idx0_4 : ∀ t : Fin grid0.N, win0_4.index t = ![0, 0] := by decide +kernel
theorem idx0_5 : ∀ t : Fin grid0.N, win0_5.index t = ![0, 0] := by decide +kernel
theorem idx0_6 : ∀ t : Fin grid0.N, win0_6.index t = ![0, 0] := by decide +kernel

section
variable (V : (c : Dev nD) → (b : Ref sig .tc) → Buf (Elt Ideal) ((c : Thread nD τ).loc b))

theorem blk0_0 (t : Fin cfg0.N) (r : Fin 512) (k : Fin 1024) :
    iblk0 V c 0 t (ix2 r k : S512x1024.Idx) = V c main_v12 (ix2 (tok t r) k : S4096x1024.Idx) := by
  blk_ext [iblk0, idx0_0 t]
theorem blk0_1 (t : Fin cfg0.N) (r : Fin 512) (k : Fin 1024) :
    iblk0 V c 1 t (ix2 r k : S512x1024.Idx) = V c main_v14 (ix2 (tok t r) k : S4096x1024.Idx) := by
  blk_ext [iblk0, idx0_1 t]
theorem blk0_2_0 (t : Fin cfg0.N) (r : Fin 512) (k : Fin 1024) :
    iblk0 V c 2 t (ix3 0 r k : S2x512x1024.Idx) = V c main_v4 (ix3 2 (tok t r) k : S8x4096x1024.Idx) := by
  blk_ext [iblk0, idx0_2 t]
theorem blk0_2_1 (t : Fin cfg0.N) (r : Fin 512) (k : Fin 1024) :
    iblk0 V c 2 t (ix3 1 r k : S2x512x1024.Idx) = V c main_v4 (ix3 3 (tok t r) k : S8x4096x1024.Idx) := by
  blk_ext [iblk0, idx0_2 t]
theorem blk0_3 (t : Fin cfg0.N) (r : Fin 512) (k : Fin 1024) :
    iblk0 V c 3 t (ix2 r k : S512x1024.Idx) = V c main_v15 (ix2 (tok t r) k : S4096x1024.Idx) := by
  blk_ext [iblk0, idx0_3 t]
theorem blk0_4 (t : Fin cfg0.N) (j k : Fin 1024) :
    iblk0 V c 4 t (ix2 j k : S1024x1024.Idx) = V c main_v6 (ix2 j k : S1024x1024.Idx) := by
  blk_ext [iblk0, idx0_4 t]
theorem blk0_5 (t : Fin cfg0.N) (j k : Fin 1024) :
    iblk0 V c 5 t (ix2 j k : S1024x1024.Idx) = V c main_v8 (ix2 j k : S1024x1024.Idx) := by
  blk_ext [iblk0, idx0_5 t]
theorem blk0_6 (t : Fin cfg0.N) (j k : Fin 1024) :
    iblk0 V c 6 t (ix2 j k : S1024x1024.Idx) = V c main_v10 (ix2 j k : S1024x1024.Idx) := by
  blk_ext [iblk0, idx0_6 t]

end

/-- A point's blocks are the rows of the arguments. -/
theorem fwd (t : Fin cfg0.N) (r : Fin 512) : Fwd (row m c (tok t r)) r (iblk0 (V1 m ρ) c 0 t) (iblk0 (V1 m ρ) c 1 t) (iblk0 (V1 m ρ) c 2 t)
    (iblk0 (V1 m ρ) c 3 t) (iblk0 (V1 m ρ) c 4 t) (iblk0 (V1 m ρ) c 5 t) (iblk0 (V1 m ρ) c 6 t) where
  a k := (blk0_0 c _ t r k).trans (rd12 m ρ c _ k)
  rr k := (blk0_1 c _ t r k).trans (rd14 m ρ c _ k)
  ga k := (blk0_2_0 c _ t r k).trans (rd4_2 m ρ c _ k)
  gb k := (blk0_2_1 c _ t r k).trans (rd4_3 m ρ c _ k)
  x k := (blk0_3 c _ t r k).trans (rd15 m ρ c _ k)
  wa j k := (blk0_4 c _ t j k).trans (rd6 m ρ c j k)
  wb j k := (blk0_5 c _ t j k).trans (rd8 m ρ c j k)
  wo j k := (blk0_6 c _ t j k).trans (rd10 m ρ c j k)

theorem idx0_7 : ∀ t : Fin grid0.N, win0_7.index t = ![t.val, 0] := by decide +kernel
theorem emb0_7_0 (t : Fin cfg0.N) (y : S512x1024.Idx) : (win0_7.blk t).view.emb y 0 = tok t (y 0) := Fin.ext (by blk_simp [idx0_7 t])
theorem emb0_7_1 (t : Fin cfg0.N) (y : S512x1024.Idx) : (win0_7.blk t).view.emb y 1 = y 1 := Fin.ext (by blk_simp [idx0_7 t])
theorem arr0_7 : (dat0 (V1 m ρ) c).arrAt 7 cfg0.N = fun i : S4096x1024.Idx => (row m c (i 0)).out (i 1) := by
  refine (dat0 (V1 m ρ) c).arrAt_eq_of_covers 7 _ (by decide +kernel) fun t hf y => ?_
  blk_simp
  rw [after0_7, emb0_7_0, emb0_7_1]
  obtain ⟨r, k, rfl⟩ : ∃ r k, y = ix2 r k := ⟨_, _, eq_ix2 y⟩
  exact (fwd m ρ c t r).out7 k
theorem idx0_8 : ∀ t : Fin grid0.N, win0_8.index t = ![t.val, 0] := by decide +kernel
theorem emb0_8_0 (t : Fin cfg0.N) (y : S512x1024.Idx) : (win0_8.blk t).view.emb y 0 = tok t (y 0) := Fin.ext (by blk_simp [idx0_8 t])
theorem emb0_8_1 (t : Fin cfg0.N) (y : S512x1024.Idx) : (win0_8.blk t).view.emb y 1 = y 1 := Fin.ext (by blk_simp [idx0_8 t])
theorem arr0_8 : (dat0 (V1 m ρ) c).arrAt 8 cfg0.N = fun i : S4096x1024.Idx => (row m c (i 0)).ya (i 1) := by
  refine (dat0 (V1 m ρ) c).arrAt_eq_of_covers 8 _ (by decide +kernel) fun t hf y => ?_
  blk_simp
  rw [after0_8, emb0_8_0, emb0_8_1]
  obtain ⟨r, k, rfl⟩ : ∃ r k, y = ix2 r k := ⟨_, _, eq_ix2 y⟩
  exact (fwd m ρ c t r).out8 k
theorem idx0_9 : ∀ t : Fin grid0.N, win0_9.index t = ![t.val, 0] := by decide +kernel
theorem emb0_9_0 (t : Fin cfg0.N) (y : S512x1024.Idx) : (win0_9.blk t).view.emb y 0 = tok t (y 0) := Fin.ext (by blk_simp [idx0_9 t])
theorem emb0_9_1 (t : Fin cfg0.N) (y : S512x1024.Idx) : (win0_9.blk t).view.emb y 1 = y 1 := Fin.ext (by blk_simp [idx0_9 t])
theorem arr0_9 : (dat0 (V1 m ρ) c).arrAt 9 cfg0.N = fun i : S4096x1024.Idx => (row m c (i 0)).yb (i 1) := by
  refine (dat0 (V1 m ρ) c).arrAt_eq_of_covers 9 _ (by decide +kernel) fun t hf y => ?_
  blk_simp
  rw [after0_9, emb0_9_0, emb0_9_1]
  obtain ⟨r, k, rfl⟩ : ∃ r k, y = ix2 r k := ⟨_, _, eq_ix2 y⟩
  exact (fwd m ρ c t r).out9 k

/-! ## The backward kernel -/

theorem rd17 (n : Fin 4096) (k : Fin 1024) : V3 m ρ c main_v17 (ix2 n k : S4096x1024.Idx) = (row m c n).ct k := by
  unfold V3 W3
  after_reads_at
  exact congrFun (W2_args m ρ c main_arg8 (by decide)) _
theorem rd16_1 (n : Fin 4096) (k : Fin 1024) : V3 m ρ c main_v16_1 (ix2 n k : S4096x1024.Idx) = (row m c n).ya k :=
  congrFun ((W3_of m ρ c main_v16_1 (by decide)).trans ((W2_arr m ρ c 8).trans (arr0_8 m ρ c))) _
theorem rd16_2 (n : Fin 4096) (k : Fin 1024) : V3 m ρ c main_v16_2 (ix2 n k : S4096x1024.Idx) = (row m c n).yb k :=
  congrFun ((W3_of m ρ c main_v16_2 (by decide)).trans ((W2_arr m ρ c 9).trans (arr0_9 m ρ c))) _

/-- An array the forward kernel does not write, at the backward kernel's entry. -/
theorem kept (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

theorem idx1_0 : ∀ t : Fin grid1.N, win1_0.index t = ![t.val, 0] := by decide +kernel
theorem idx1_1 : ∀ t : Fin grid1.N, win1_1.index t = ![t.val, 0] := by decide +kernel
theorem idx1_2 : ∀ t : Fin grid1.N, win1_2.index t = ![t.val, 0] := by decide +kernel
theorem idx1_3 : ∀ t : Fin grid1.N, win1_3.index t = ![1, t.val, 0] := by decide +kernel
theorem idx1_4 : ∀ t : Fin grid1.N, win1_4.index t = ![0, 0] := by decide +kernel
theorem idx1_5 : ∀ t : Fin grid1.N, win1_5.index t = ![0, 0] := by decide +kernel
theorem idx1_6 : ∀ t : Fin grid1.N, win1_6.index t = ![0, 0] := by decide +kernel

section
variable (V : (c : Dev nD) → (b : Ref sig .tc) → Buf (Elt Ideal) ((c : Thread nD τ).loc b))

theorem blk1_0 (t : Fin cfg1.N) (r : Fin 512) (k : Fin 1024) :
    iblk1 V c 0 t (ix2 r k : S512x1024.Idx) = V c main_v17 (ix2 (tok t r) k : S4096x1024.Idx) := by
  blk_ext [iblk1, idx1_0 t]
theorem blk1_1 (t : Fin cfg1.N) (r : Fin 512) (k : Fin 1024) :
    iblk1 V c 1 t (ix2 r k : S512x1024.Idx) = V c main_v16_1 (ix2 (tok t r) k : S4096x1024.Idx) := by
  blk_ext [iblk1, idx1_1 t]
theorem blk1_2 (t : Fin cfg1.N) (r : Fin 512) (k : Fin 1024) :
    iblk1 V c 2 t (ix2 r k : S512x1024.Idx) = V c main_v16_2 (ix2 (tok t r) k : S4096x1024.Idx) := by
  blk_ext [iblk1, idx1_2 t]
theorem blk1_3_0 (t : Fin cfg1.N) (r : Fin 512) (k : Fin 1024) :
    iblk1 V c 3 t (ix3 0 r k : S2x512x1024.Idx) = V c main_v4 (ix3 2 (tok t r) k : S8x4096x1024.Idx) := by
  blk_ext [iblk1, idx1_3 t]
theorem blk1_3_1 (t : Fin cfg1.N) (r : Fin 512) (k : Fin 1024) :
    iblk1 V c 3 t (ix3 1 r k : S2x512x1024.Idx) = V c main_v4 (ix3 3 (tok t r) k : S8x4096x1024.Idx) := by
  blk_ext [iblk1, idx1_3 t]
theorem blk1_4 (t : Fin cfg1.N) (j k : Fin 1024) :
    iblk1 V c 4 t (ix2 j k : S1024x1024.Idx) = V c main_v6 (ix2 j k : S1024x1024.Idx) := by
  blk_ext [iblk1, idx1_4 t]
theorem blk1_5 (t : Fin cfg1.N) (j k : Fin 1024) :
    iblk1 V c 5 t (ix2 j k : S1024x1024.Idx) = V c main_v8 (ix2 j k : S1024x1024.Idx) := by
  blk_ext [iblk1, idx1_5 t]
theorem blk1_6 (t : Fin cfg1.N) (j k : Fin 1024) :
    iblk1 V c 6 t (ix2 j k : S1024x1024.Idx) = V c main_v10 (ix2 j k : S1024x1024.Idx) := by
  blk_ext [iblk1, idx1_6 t]

end

/-- A point's blocks are the rows of the arguments and of what the forward kernel stored. -/
theorem bwd (t : Fin cfg1.N) (r : Fin 512) : Bwd (row m c (tok t r)) r (iblk1 (V3 m ρ) c 0 t) (iblk1 (V3 m ρ) c 1 t) (iblk1 (V3 m ρ) c 2 t)
    (iblk1 (V3 m ρ) c 3 t) (iblk1 (V3 m ρ) c 4 t) (iblk1 (V3 m ρ) c 5 t) (iblk1 (V3 m ρ) c 6 t) where
  ct k := (blk1_0 c _ t r k).trans (rd17 m ρ c _ k)
  ya k := (blk1_1 c _ t r k).trans (rd16_1 m ρ c _ k)
  yb k := (blk1_2 c _ t r k).trans (rd16_2 m ρ c _ k)
  ga k := (blk1_3_0 c _ t r k).trans ((congrFun (kept m ρ c main_v4 (by decide) (by decide)) _).trans (rd4_2 m ρ c _ k))
  gb k := (blk1_3_1 c _ t r k).trans ((congrFun (kept m ρ c main_v4 (by decide) (by decide)) _).trans (rd4_3 m ρ c _ k))
  wa j k := (blk1_4 c _ t j k).trans ((congrFun (kept m ρ c main_v6 (by decide) (by decide)) _).trans (rd6 m ρ c j k))
  wb j k := (blk1_5 c _ t j k).trans ((congrFun (kept m ρ c main_v8 (by decide) (by decide)) _).trans (rd8 m ρ c j k))
  wo j k := (blk1_6 c _ t j k).trans ((congrFun (kept m ρ c main_v10 (by decide) (by decide)) _).trans (rd10 m ρ c j k))

theorem idx1_8 : ∀ t : Fin grid1.N, win1_8.index t = ![t.val, 0] := by decide +kernel
theorem emb1_8_0 (t : Fin cfg1.N) (y : S512x1024.Idx) : (win1_8.blk t).view.emb y 0 = tok t (y 0) := Fin.ext (by blk_simp [idx1_8 t])
theorem emb1_8_1 (t : Fin cfg1.N) (y : S512x1024.Idx) : (win1_8.blk t).view.emb y 1 = y 1 := Fin.ext (by blk_simp [idx1_8 t])
theorem arr1_8 : (dat1 (V3 m ρ) c).arrAt 8 cfg1.N = fun i : S4096x1024.Idx => (row m c (i 0)).da (i 1) := by
  refine (dat1 (V3 m ρ) c).arrAt_eq_of_covers 8 _ (by decide +kernel) fun t hf y => ?_
  blk_simp
  rw [after1_8, emb1_8_0, emb1_8_1]
  obtain ⟨r, k, rfl⟩ : ∃ r k, y = ix2 r k := ⟨_, _, eq_ix2 y⟩
  exact (bwd m ρ c t r).out8 k
theorem idx1_9 : ∀ t : Fin grid1.N, win1_9.index t = ![t.val, 0] := by decide +kernel
theorem emb1_9_0 (t : Fin cfg1.N) (y : S512x1024.Idx) : (win1_9.blk t).view.emb y 0 = tok t (y 0) := Fin.ext (by blk_simp [idx1_9 t])
theorem emb1_9_1 (t : Fin cfg1.N) (y : S512x1024.Idx) : (win1_9.blk t).view.emb y 1 = y 1 := Fin.ext (by blk_simp [idx1_9 t])
theorem arr1_9 : (dat1 (V3 m ρ) c).arrAt 9 cfg1.N = fun i : S4096x1024.Idx => (row m c (i 0)).dr (i 1) := by
  refine (dat1 (V3 m ρ) c).arrAt_eq_of_covers 9 _ (by decide +kernel) fun t hf y => ?_
  blk_simp
  rw [after1_9, emb1_9_0, emb1_9_1]
  obtain ⟨r, k, rfl⟩ : ∃ r k, y = ix2 r k := ⟨_, _, eq_ix2 y⟩
  exact (bwd m ρ c t r).out9 k
theorem idx1_10 : ∀ t : Fin grid1.N, win1_10.index t = ![t.val, 0] := by decide +kernel
theorem emb1_10_0 (t : Fin cfg1.N) (y : S512x1024.Idx) : (win1_10.blk t).view.emb y 0 = tok t (y 0) := Fin.ext (by blk_simp [idx1_10 t])
theorem emb1_10_1 (t : Fin cfg1.N) (y : S512x1024.Idx) : (win1_10.blk t).view.emb y 1 = y 1 := Fin.ext (by blk_simp [idx1_10 t])
theorem arr1_10 : (dat1 (V3 m ρ) c).arrAt 10 cfg1.N = fun i : S4096x1024.Idx => (row m c (i 0)).mix (i 1) := by
  refine (dat1 (V3 m ρ) c).arrAt_eq_of_covers 10 _ (by decide +kernel) fun t hf y => ?_
  blk_simp
  rw [after1_10, emb1_10_0, emb1_10_1]
  obtain ⟨r, k, rfl⟩ : ∃ r k, y = ix2 r k := ⟨_, _, eq_ix2 y⟩
  exact (bwd m ρ c t r).out10 k
theorem idx1_11 : ∀ t : Fin grid1.N, win1_11.index t = ![t.val, 0] := by decide +kernel
theorem emb1_11_0 (t : Fin cfg1.N) (y : S512x1024.Idx) : (win1_11.blk t).view.emb y 0 = tok t (y 0) := Fin.ext (by blk_simp [idx1_11 t])
theorem emb1_11_1 (t : Fin cfg1.N) (y : S512x1024.Idx) : (win1_11.blk t).view.emb y 1 = y 1 := Fin.ext (by blk_simp [idx1_11 t])
theorem arr1_11 : (dat1 (V3 m ρ) c).arrAt 11 cfg1.N = fun i : S4096x1024.Idx => (row m c (i 0)).ct (i 1) := by
  refine (dat1 (V3 m ρ) c).arrAt_eq_of_covers 11 _ (by decide +kernel) fun t hf y => ?_
  blk_simp
  rw [after1_11, emb1_11_0, emb1_11_1]
  obtain ⟨r, k, rfl⟩ : ∃ r k, y = ix2 r k := ⟨_, _, eq_ix2 y⟩
  exact (bwd m ρ c t r).out11 k
theorem idx1_12 : ∀ t : Fin grid1.N, win1_12.index t = ![t.val, 0] := by decide +kernel
theorem emb1_12_0 (t : Fin cfg1.N) (y : S512x1024.Idx) : (win1_12.blk t).view.emb y 0 = tok t (y 0) := Fin.ext (by blk_simp [idx1_12 t])
theorem emb1_12_1 (t : Fin cfg1.N) (y : S512x1024.Idx) : (win1_12.blk t).view.emb y 1 = y 1 := Fin.ext (by blk_simp [idx1_12 t])
theorem arr1_12 : (dat1 (V3 m ρ) c).arrAt 12 cfg1.N = fun i : S4096x1024.Idx => (row m c (i 0)).dya (i 1) := by
  refine (dat1 (V3 m ρ) c).arrAt_eq_of_covers 12 _ (by decide +kernel) fun t hf y => ?_
  blk_simp
  rw [after1_12, emb1_12_0, emb1_12_1]
  obtain ⟨r, k, rfl⟩ : ∃ r k, y = ix2 r k := ⟨_, _, eq_ix2 y⟩
  exact (bwd m ρ c t r).out12 k
theorem idx1_13 : ∀ t : Fin grid1.N, win1_13.index t = ![t.val, 0] := by decide +kernel
theorem emb1_13_0 (t : Fin cfg1.N) (y : S512x1024.Idx) : (win1_13.blk t).view.emb y 0 = tok t (y 0) := Fin.ext (by blk_simp [idx1_13 t])
theorem emb1_13_1 (t : Fin cfg1.N) (y : S512x1024.Idx) : (win1_13.blk t).view.emb y 1 = y 1 := Fin.ext (by blk_simp [idx1_13 t])
theorem arr1_13 : (dat1 (V3 m ρ) c).arrAt 13 cfg1.N = fun i : S4096x1024.Idx => (row m c (i 0)).dyb (i 1) := by
  refine (dat1 (V3 m ρ) c).arrAt_eq_of_covers 13 _ (by decide +kernel) fun t hf y => ?_
  blk_simp
  rw [after1_13, emb1_13_0, emb1_13_1]
  obtain ⟨r, k, rfl⟩ : ∃ r k, y = ix2 r k := ⟨_, _, eq_ix2 y⟩
  exact (bwd m ρ c t r).out13 k

theorem idx1_7 : ∀ t : Fin grid1.N, win1_7.index t = ![1, t.val, 0] := by decide +kernel
theorem emb1_7_0 (t : Fin cfg1.N) (y : S2x512x1024.Idx) : ((win1_7.blk t).view.emb y 0).val = 2 + (y 0).val := by blk_simp [idx1_7 t]
theorem emb1_7_1 (t : Fin cfg1.N) (y : S2x512x1024.Idx) : (win1_7.blk t).view.emb y 1 = tok t (y 1) := Fin.ext (by blk_simp [idx1_7 t])
theorem emb1_7_2 (t : Fin cfg1.N) (y : S2x512x1024.Idx) : (win1_7.blk t).view.emb y 2 = y 2 := Fin.ext (by blk_simp [idx1_7 t])

/-- The slots the backward kernel writes. -/
def slots (i : S8x4096x1024.Idx) : EReal :=
  if (i 0).val = 2 then (row m c (i 1)).dga (i 2) else (row m c (i 1)).dgb (i 2)

theorem arr1_7 : (dat1 (V3 m ρ) c).arrAt 7 cfg1.N
    = fun i : S8x4096x1024.Idx => if (i 0).val / 2 = 1 then slots m c i else (dat1 (V3 m ρ) c).A 7 i := by
  refine (dat1 (V3 m ρ) c).arrAt_eq_of_coversWhere 7 (slots m c) (fun β => β (0 : Fin _) = 1) (by decide +kernel) (fun t hf y => ?_) (fun j => Iff.rfl)
  blk_simp
  rw [after1_7, out1_7_at (bwd m ρ c t)]
  unfold slots
  rw [emb1_7_0, emb1_7_1, emb1_7_2]
  refine if_congr ?_ rfl rfl
  omega

end Cert.MergeHost

end
-- ==== Proof.MergeRun.lean ====
/-
  The merge's two kernels run to the end: the final memory at the results and at the arguments.
-/
module

public import proofs.«01_k».proof.Proof.MergeHost

@[expose] public section

set_option maxRecDepth 16384

noncomputable section

namespace Cert.MergeRun

open Cert.MergeIdeal Cert.MergeIdeal.Gen Cert.MergeHost Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the results at the last boundary's contents and the arguments as they were: the launch over the
    five segments, its last thread state read at each result and each argument. -/
theorem run : θ_run defs (onTc (τ := τ) (main (F := F))) ⟨m, fun _ => 0, ρ⟩ (fun r => ∀ c : Dev nD,
      r.2.mem ((c.tc : Thread nD τ).loc main_v16_0) = W5 m ρ c (Proc.devRef .tc main_v16_0)
      ∧ r.2.mem ((c.tc : Thread nD τ).loc main_v19) = W5 m ρ c (Proc.devRef .tc main_v19)
      ∧ r.2.mem ((c.tc : Thread nD τ).loc main_v18_1) = W5 m ρ c (Proc.devRef .tc main_v18_1)
      ∧ r.2.mem ((c.tc : Thread nD τ).loc main_v18_2) = W5 m ρ c (Proc.devRef .tc main_v18_2)
      ∧ r.2.mem ((c.tc : Thread nD τ).loc main_v18_3) = W5 m ρ c (Proc.devRef .tc main_v18_3)
      ∧ r.2.mem ((c.tc : Thread nD τ).loc main_v18_4) = W5 m ρ c (Proc.devRef .tc main_v18_4)
      ∧ r.2.mem ((c.tc : Thread nD τ).loc main_v18_5) = W5 m ρ c (Proc.devRef .tc main_v18_5)
      ∧ r.2.mem ((c.tc : Thread nD τ).loc main_v18_6) = W5 m ρ c (Proc.devRef .tc main_v18_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v16_0 (by decide)),
       h c _ (mem_uc main_v19 (by decide)),
       h c _ (mem_uc main_v18_1 (by decide)),
       h c _ (mem_uc main_v18_2 (by decide)),
       h c _ (mem_uc main_v18_3 (by decide)),
       h c _ (mem_uc main_v18_4 (by decide)),
       h c _ (mem_uc main_v18_5 (by decide)),
       h c _ (mem_uc main_v18_6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.MergeRun

end
-- ==== Proof.MergeRef.lean ====
/-
  The merge's reference: its results at an index, as the row functions of `MergeMath`. The derivative multiplies the gates'
  gradients in another order than the kernel; multiplication of extended reals is commutative and associative.
-/
module

public import proofs.«01_k».proof.Proof.MergeMath
public import proofs.«01_k».proof.Proof.Gen.MergeRefIdeal.Read
public import Idealize.ShloMosaic.Lib.Pipeline.ValueKit

@[expose] public section

set_option maxRecDepth 16384

noncomputable section

namespace Cert.MergeRef

open Cert.MergeRefIdeal Cert.MergeRefIdeal.Read Idealize.ShloMosaic Cert.Reals Cert.MergeMath

variable (a r ga gb : S1x4096x1024.Idx → EReal) (wa wb wo : S1x1024x1024.Idx → EReal) (x ct : S1x4096x1024.Idx → EReal)

/-- Row `n` of the arguments. -/
def row (n : Fin 4096) : Row where
  a := fun k => a (ix3 0 n k)
  r := fun k => r (ix3 0 n k)
  ga := fun k => ga (ix3 0 n k)
  gb := fun k => gb (ix3 0 n k)
  wa := fun j k => wa (ix3 0 j k)
  wb := fun j k => wb (ix3 0 j k)
  wo := fun j k => wo (ix3 0 j k)
  x := fun k => x (ix3 0 n k)
  ct := fun k => ct (ix3 0 n k)

/-- The gate, as the host writes it. -/
theorem gate (z : EReal) : Ideal.div 1 (1 + Ideal.exp (-z)) = sg z := rfl

theorem v9_at (n : Fin 4096) (k : Fin 1024) : val_main_v9 (F := Ideal) ga (ix3 0 n k) = sg ((row a r ga gb wa wb wo x ct n).ga k) := by
  pointwise [val_main_v9, val_main_v8, val_main_v7, val_main_v6, val_main_v5, val_main_v4, val_main_cst, val_main_cst_0]
  rfl

theorem v19_at (n : Fin 4096) (k : Fin 1024) : val_main_v19 (F := Ideal) gb (ix3 0 n k) = sg ((row a r ga gb wa wb wo x ct n).gb k) := by
  pointwise [val_main_v19, val_main_v18, val_main_v17, val_main_v16, val_main_v15, val_main_v14, val_main_cst_2, val_main_cst_3]
  rfl

theorem v1_at (n : Fin 4096) (k : Fin 1024) : val_main_v1 (F := Ideal) a wa (ix3 0 n k) = (row a r ga gb wa wb wo x ct n).ya k := by
  pointwise [val_main_v1, val_main_v0]
  rfl

theorem v3_at (n : Fin 4096) (k : Fin 1024) : val_main_v3 (F := Ideal) r wb (ix3 0 n k) = (row a r ga gb wa wb wo x ct n).yb k := by
  pointwise [val_main_v3, val_main_v2]
  rfl

/-- The mixture. -/
theorem v24_at (n : Fin 4096) (k : Fin 1024) : val_main_v24 (F := Ideal) a r ga gb wa wb (ix3 0 n k) = (row a r ga gb wa wb wo x ct n).mix k := by
  pointwise [val_main_v24, val_main_v13, val_main_v23]
  rw [v9_at a r ga gb wa wb wo x ct, v19_at a r ga gb wa wb wo x ct, v1_at a r ga gb wa wb wo x ct, v3_at a r ga gb wa wb wo x ct]
  rfl

/-- The mixture's gradient. -/
theorem v27_at (n : Fin 4096) (k : Fin 1024) : val_main_v27 (F := Ideal) wo ct (ix3 0 n k) = (row a r ga gb wa wb wo x ct n).dmix k := by
  pointwise [val_main_v27, val_main_v25]
  rfl

/-- The gates' gradients. -/
theorem v33_at (n : Fin 4096) (k : Fin 1024) : val_main_v33 (F := Ideal) a ga wa wo ct (ix3 0 n k) = (row a r ga gb wa wb wo x ct n).dga k := by
  pointwise [val_main_v33, val_main_v32, val_main_v12, val_main_v11, val_main_v10, val_main_cst_1]
  rw [v9_at a r ga gb wa wb wo x ct, v1_at a r ga gb wa wb wo x ct, v27_at a r ga gb wa wb wo x ct]
  exact (mul_assoc _ _ _).symm

theorem v30_at (n : Fin 4096) (k : Fin 1024) : val_main_v30 (F := Ideal) r gb wb wo ct (ix3 0 n k) = (row a r ga gb wa wb wo x ct n).dgb k := by
  pointwise [val_main_v30, val_main_v29, val_main_v22, val_main_v21, val_main_v20, val_main_cst_4]
  rw [v19_at a r ga gb wa wb wo x ct, v3_at a r ga gb wa wb wo x ct, v27_at a r ga gb wa wb wo x ct]
  exact (mul_assoc _ _ _).symm

theorem v31_at (n : Fin 4096) (k : Fin 1024) : val_main_v31 (F := Ideal) ga wo ct (ix3 0 n k) = (row a r ga gb wa wb wo x ct n).dya k := by
  pointwise [val_main_v31]
  rw [v9_at a r ga gb wa wb wo x ct, v27_at a r ga gb wa wb wo x ct]
  exact mul_comm _ _

theorem v28_at (n : Fin 4096) (k : Fin 1024) : val_main_v28 (F := Ideal) gb wo ct (ix3 0 n k) = (row a r ga gb wa wb wo x ct n).dyb k := by
  pointwise [val_main_v28]
  rw [v19_at a r ga gb wa wb wo x ct, v27_at a r ga gb wa wb wo x ct]
  exact mul_comm _ _

/-! ## The results -/

theorem v43_at (n : Fin 4096) (k : Fin 1024) : val_main_v43 (F := Ideal) a r ga gb wa wb wo x (ix2 n k) = (row a r ga gb wa wb wo x ct n).out k := by
  pointwise [val_main_v43, val_main_v42, val_main_v41, val_main_v40]
  simp only [v24_at a r ga gb wa wb wo x ct]
  rfl

theorem v45_at (s : Fin 2) (n : Fin 4096) (k : Fin 1024) :
    val_main_v45 (F := Ideal) a r ga gb wa wb wo ct (ix3 s n k) = if s.val = 0 then (row a r ga gb wa wb wo x ct n).dga k else (row a r ga gb wa wb wo x ct n).dgb k := by
  fin_cases s
  · pointwise [val_main_v45, val_main_v44]
    exact v33_at a r ga gb wa wb wo x ct n k
  · pointwise [val_main_v45, val_main_v44]
    exact v30_at a r ga gb wa wb wo x ct n k

theorem v47_at (n : Fin 4096) (k : Fin 1024) : val_main_v47 (F := Ideal) ga wa wo ct (ix2 n k) = (row a r ga gb wa wb wo x ct n).da k := by
  pointwise [val_main_v47, val_main_v46, val_main_v36, val_main_v34]
  simp only [v31_at a r ga gb wa wb wo x ct]
  rfl

theorem v49_at (n : Fin 4096) (k : Fin 1024) : val_main_v49 (F := Ideal) gb wb wo ct (ix2 n k) = (row a r ga gb wa wb wo x ct n).dr k := by
  pointwise [val_main_v49, val_main_v48, val_main_v39, val_main_v37]
  simp only [v28_at a r ga gb wa wb wo x ct]
  rfl

theorem v51_at (n : Fin 4096) (k : Fin 1024) : val_main_v51 (F := Ideal) a r ga gb wa wb (ix2 n k) = (row a r ga gb wa wb wo x ct n).mix k := by
  pointwise [val_main_v51, val_main_v50]
  exact v24_at a r ga gb wa wb wo x ct n k

theorem v53_at (n : Fin 4096) (k : Fin 1024) : val_main_v53 (F := Ideal) ct (ix2 n k) = (row a r ga gb wa wb wo x ct n).ct k := by
  pointwise [val_main_v53, val_main_v52]
  rfl

theorem v55_at (n : Fin 4096) (k : Fin 1024) : val_main_v55 (F := Ideal) ga wo ct (ix2 n k) = (row a r ga gb wa wb wo x ct n).dya k := by
  pointwise [val_main_v55, val_main_v54]
  exact v31_at a r ga gb wa wb wo x ct n k

theorem v57_at (n : Fin 4096) (k : Fin 1024) : val_main_v57 (F := Ideal) gb wo ct (ix2 n k) = (row a r ga gb wa wb wo x ct n).dyb k := by
  pointwise [val_main_v57, val_main_v56]
  exact v28_at a r ga gb wa wb wo x ct n k

end Cert.MergeRef

end
-- ==== Proof.MergeClaim.lean ====
/-
  The merge's claims: the frames, and the value claim that joins the two kernels' eight arrays to the reference's.
-/
module

public import proofs.«01_k».proof.Defs
public import proofs.«01_k».proof.Proof.MergeRun
public import proofs.«01_k».proof.Proof.MergeRef
public import proofs.«01_k».proof.Proof.Gen.Merge.Frame
public import proofs.«01_k».proof.Proof.Gen.MergeRefIdeal.Run
public import Idealize.ShloMosaic.Lib.Claim
public import Idealize.ShloMosaic.Lib.Quiescent

@[expose] public section

set_option maxRecDepth 16384

noncomputable section

namespace Cert.MergeClaim

open Idealize.ShloMosaic Idealize.ShloMosaic.TcCoe Idealize.SL.Sem Cert.Reals Cert.MergeMath

/-- The reference leaves its arguments and the counters. -/
theorem frame_ref : Cert.quiescent_MergeRefIdeal := fun m ρ _ =>
  (θ_run Cert.MergeRefIdeal.defs _ _).mono (fun r h => ⟨fun c => (h c).2.2.2.2.2.2.2.2, sem_eq_zero_of_no_sems (by decide) r.2⟩)
    (Cert.MergeRefIdeal.Value.run (F := Ideal) m ρ)

section Finals

open Cert.MergeIdeal Cert.MergeIdeal.Gen Cert.MergeHost

variable (m : (ℓ : Loc nD τ sig) → Buf (Elt Ideal) ℓ) (ρ : Dev nD → PrngReg) (c : Dev nD)

/-! What the last boundary holds at each result. -/

theorem fin16_0 : W5 m ρ c (Proc.devRef .tc main_v16_0) = fun i : S4096x1024.Idx => (row m c (i 0)).out (i 1) :=
  (W5_of m ρ c main_v16_0 (by decide)).trans ((W4_of m ρ c main_v16_0 (by decide)).trans ((W3_of m ρ c main_v16_0 (by decide)).trans
    ((W2_arr m ρ c 7).trans (arr0_7 m ρ c))))

theorem fin19 (s : Fin 2) (n : Fin 4096) (k : Fin 1024) : W5 m ρ c (Proc.devRef .tc main_v19) (ix3 s n k : S2x4096x1024.Idx)
    = if s.val = 0 then (row m c n).dga k else (row m c n).dgb k := by
  have e : (W4 m ρ c (Proc.devRef .tc main_v18_0) : S8x4096x1024.Idx → EReal)
      = fun i : S8x4096x1024.Idx => if (i 0).val / 2 = 1 then slots m c i else (dat1 (V3 m ρ) c).A 7 i :=
    (W4_arr m ρ c 7).trans (arr1_7 m ρ c)
  fin_cases s
  · unfold W5
    after_reads_at
    refine (congrFun e (ix3 2 n k)).trans ?_
    show (if 2 / 2 = 1 then slots m c (ix3 2 n k) else _) = (row m c n).dga k
    exact (if_pos rfl).trans (if_pos (by rfl))
  · unfold W5
    after_reads_at
    refine (congrFun e (ix3 3 n k)).trans ?_
    show (if 3 / 2 = 1 then (if 3 = 2 then (row m c n).dga k else (row m c n).dgb k) else _) = (row m c n).dgb k
    exact (if_pos rfl).trans (if_neg (by decide))

theorem fin18_1 : W5 m ρ c (Proc.devRef .tc main_v18_1) = fun i : S4096x1024.Idx => (row m c (i 0)).da (i 1) :=
  (W5_of m ρ c main_v18_1 (by decide)).trans ((W4_arr m ρ c 8).trans (arr1_8 m ρ c))

theorem fin18_2 : W5 m ρ c (Proc.devRef .tc main_v18_2) = fun i : S4096x1024.Idx => (row m c (i 0)).dr (i 1) :=
  (W5_of m ρ c main_v18_2 (by decide)).trans ((W4_arr m ρ c 9).trans (arr1_9 m ρ c))

theorem fin18_3 : W5 m ρ c (Proc.devRef .tc main_v18_3) = fun i : S4096x1024.Idx => (row m c (i 0)).mix (i 1) :=
  (W5_of m ρ c main_v18_3 (by decide)).trans ((W4_arr m ρ c 10).trans (arr1_10 m ρ c))

theorem fin18_4 : W5 m ρ c (Proc.devRef .tc main_v18_4) = fun i : S4096x1024.Idx => (row m c (i 0)).ct (i 1) :=
  (W5_of m ρ c main_v18_4 (by decide)).trans ((W4_arr m ρ c 11).trans (arr1_11 m ρ c))

theorem fin18_5 : W5 m ρ c (Proc.devRef .tc main_v18_5) = fun i : S4096x1024.Idx => (row m c (i 0)).dya (i 1) :=
  (W5_of m ρ c main_v18_5 (by decide)).trans ((W4_arr m ρ c 12).trans (arr1_12 m ρ c))

theorem fin18_6 : W5 m ρ c (Proc.devRef .tc main_v18_6) = fun i : S4096x1024.Idx => (row m c (i 0)).dyb (i 1) :=
  (W5_of m ρ c main_v18_6 (by decide)).trans ((W4_arr m ρ c 13).trans (arr1_13 m ρ c))

end Finals

/-- The kernels' arrays are the reference's. -/
theorem algebraic : Cert.algebraic_MergeIdeal_MergeRefIdeal := by
  intro m g m' g' hpre hagree
  refine ⟨_, _, _, _, _, _, _, _, Cert.MergeRun.run m g, ?_⟩
  refine (θ_run Cert.MergeRefIdeal.defs _ _).mono (fun r h c => ?_) (Cert.MergeRefIdeal.Value.run m' g')
  obtain ⟨h43, h45, h47, h49, h51, h53, h55, h57, hk⟩ := h c
  obtain ⟨a0, a1, a2, a3, a4, a5, a6, a7, a8⟩ := hagree c
  refine ⟨?_, ?_, ?_, ?_, ?_, ?_, ?_, ?_, hk⟩
  · refine h43.trans ((Cert.MergeRefIdeal.Read.val_main_v43_eq _ _ _ _ _ _ _ _).trans ?_)
    rw [a0, a1, a2, a3, a4, a5, a6, a7, fin16_0 m g c]
    funext i
    obtain ⟨n, k, rfl⟩ : ∃ n k, i = ix2 n k := ⟨_, _, eq_ix2 i⟩
    exact MergeRef.v43_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k
  · refine h45.trans ((Cert.MergeRefIdeal.Read.val_main_v45_eq _ _ _ _ _ _ _ _).trans ?_)
    rw [a0, a1, a2, a3, a4, a5, a6, a8]
    funext i
    obtain ⟨s, n, k, rfl⟩ : ∃ s n k, i = ix3 s n k := ⟨_, _, _, eq_ix3 i⟩
    exact (MergeRef.v45_at _ _ _ _ _ _ _ _ _ s n k).trans (fin19 m g c s n k).symm
  · refine h47.trans ((Cert.MergeRefIdeal.Read.val_main_v47_eq _ _ _ _).trans ?_)
    rw [a2, a4, a6, a8, fin18_1 m g c]
    funext i
    obtain ⟨n, k, rfl⟩ : ∃ n k, i = ix2 n k := ⟨_, _, eq_ix2 i⟩
    exact MergeRef.v47_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k
  · refine h49.trans ((Cert.MergeRefIdeal.Read.val_main_v49_eq _ _ _ _).trans ?_)
    rw [a3, a5, a6, a8, fin18_2 m g c]
    funext i
    obtain ⟨n, k, rfl⟩ : ∃ n k, i = ix2 n k := ⟨_, _, eq_ix2 i⟩
    exact MergeRef.v49_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k
  · refine h51.trans ((Cert.MergeRefIdeal.Read.val_main_v51_eq _ _ _ _ _ _).trans ?_)
    rw [a0, a1, a2, a3, a4, a5, fin18_3 m g c]
    funext i
    obtain ⟨n, k, rfl⟩ : ∃ n k, i = ix2 n k := ⟨_, _, eq_ix2 i⟩
    exact MergeRef.v51_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k
  · refine h53.trans ((Cert.MergeRefIdeal.Read.val_main_v53_eq _).trans ?_)
    rw [a8, fin18_4 m g c]
    funext i
    obtain ⟨n, k, rfl⟩ : ∃ n k, i = ix2 n k := ⟨_, _, eq_ix2 i⟩
    exact MergeRef.v53_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k
  · refine h55.trans ((Cert.MergeRefIdeal.Read.val_main_v55_eq _ _ _).trans ?_)
    rw [a2, a6, a8, fin18_5 m g c]
    funext i
    obtain ⟨n, k, rfl⟩ : ∃ n k, i = ix2 n k := ⟨_, _, eq_ix2 i⟩
    exact MergeRef.v55_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k
  · refine h57.trans ((Cert.MergeRefIdeal.Read.val_main_v57_eq _ _ _).trans ?_)
    rw [a3, a6, a8, fin18_6 m g c]
    funext i
    obtain ⟨n, k, rfl⟩ : ∃ n k, i = ix2 n k := ⟨_, _, eq_ix2 i⟩
    exact MergeRef.v57_at (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) n k

end Cert.MergeClaim

end
-- ==== Proof.NormMath.lean ====
/-
  The derivative of the norm on one row of reals: the row's gradient and its part of the weight's gradient, from the
  gradient of the normed and weighted row. The kernels' payloads and the references' lines are both read as these.
-/
module

public import proofs.«01_k».proof.Proof.Reals

@[expose] public section

noncomputable section

namespace Cert.NormMath

open Cert.Reals

variable (x n d : Fin 1024 → ℝ)

/-- The normed row times the weight. -/
def normed (l : Fin 1024) : ℝ := x l * rms x * n l

/-- The gradient of the row, as the step writes it. -/
def gradRow (l : Fin 1024) : ℝ :=
  rms x * (d l * n l - x l * rms x * ((∑ k, d k * n k * (x k * rms x)) / 1024))

/-- The row's part of the weight's gradient. -/
def gradWeight (l : Fin 1024) : ℝ := d l * (x l * rms x)

/-- The gradient of the row, as the derivative of the forward lines gives it: through the product with the reciprocal
    root, and through the mean of squares once from each factor. -/
theorem gradRow_eq (l : Fin 1024) :
    d l * n l * rms x
      + x l * ((∑ k, x k * (d k * n k)) * (-1 / 2 * (rms x / meanSq x)) / 1024)
      + ((∑ k, x k * (d k * n k)) * (-1 / 2 * (rms x / meanSq x)) / 1024) * x l
      = gradRow x n d l := by
  have hs : (∑ k, d k * n k * (x k * rms x)) = (∑ k, x k * (d k * n k)) * rms x := by
    rw [Finset.sum_mul]; exact Finset.sum_congr rfl fun k _ => by ring
  unfold gradRow
  rw [hs, rms_div]
  ring

end Cert.NormMath

end
-- ==== Proof.FfnPay.lean ====
/-
  The feed-forward block's input gradient on one block of rows: the accumulator that the body fills chunk by chunk is
  the two whole products, and the stored blocks are the norm's derivative of it, on finite arguments.
-/
module

public import proofs.«01_k».proof.Proof.Gen.FfnIdeal.Value
public import proofs.«01_k».proof.Proof.NormMath
public import Idealize.ShloMosaic.Lib.Pipeline.ValueKit

@[expose] public section

set_option maxRecDepth 16384

noncomputable section

namespace Cert.FfnPay

open Cert.FfnIdeal Cert.FfnIdeal.Gen Idealize.ShloMosaic Idealize.ShloMosaic.TcCoe Cert.Reals Cert.NormMath

/-- The accumulator after the eleven chunks of the hidden axis. -/
def nest (g u : Vec Ideal S512x2816 .bf16) (a b : Vec Ideal S2816x1024 .bf16) : FVec Ideal S512x1024 .f32 :=
  k0_pay22 (F := Ideal) (View.ld g (Rect.unit ![0, 2560] ![512, 256] inb_S512x2816_S512x256_0_2560)) (View.ld a (Rect.unit ![2560, 0] ![256, 1024] inb_S2816x1024_S256x1024_2560_0)) (View.ld u (Rect.unit ![0, 2560] ![512, 256] inb_S512x2816_S512x256_0_2560)) (View.ld b (Rect.unit ![2560, 0] ![256, 1024] inb_S2816x1024_S256x1024_2560_0))
    (k0_pay21
    (k0_pay20 (View.ld g (Rect.unit ![0, 2304] ![512, 256] inb_S512x2816_S512x256_0_2304))) (View.ld a (Rect.unit ![2304, 0] ![256, 1024] inb_S2816x1024_S256x1024_2304_0)) (View.ld u (Rect.unit ![0, 2304] ![512, 256] inb_S512x2816_S512x256_0_2304)) (View.ld b (Rect.unit ![2304, 0] ![256, 1024] inb_S2816x1024_S256x1024_2304_0))
    (k0_pay19 (View.ld g (Rect.unit ![0, 2048] ![512, 256] inb_S512x2816_S512x256_0_2048)) (View.ld a (Rect.unit ![2048, 0] ![256, 1024] inb_S2816x1024_S256x1024_2048_0)) (View.ld u (Rect.unit ![0, 2048] ![512, 256] inb_S512x2816_S512x256_0_2048)) (View.ld b (Rect.unit ![2048, 0] ![256, 1024] inb_S2816x1024_S256x1024_2048_0))
    (k0_pay18
    (k0_pay17 (View.ld g (Rect.unit ![0, 1792] ![512, 256] inb_S512x2816_S512x256_0_1792))) (View.ld a (Rect.unit ![1792, 0] ![256, 1024] inb_S2816x1024_S256x1024_1792_0)) (View.ld u (Rect.unit ![0, 1792] ![512, 256] inb_S512x2816_S512x256_0_1792)) (View.ld b (Rect.unit ![1792, 0] ![256, 1024] inb_S2816x1024_S256x1024_1792_0))
    (k0_pay16 (View.ld g (Rect.unit ![0, 1536] ![512, 256] inb_S512x2816_S512x256_0_1536)) (View.ld a (Rect.unit ![1536, 0] ![256, 1024] inb_S2816x1024_S256x1024_1536_0)) (View.ld u (Rect.unit ![0, 1536] ![512, 256] inb_S512x2816_S512x256_0_1536)) (View.ld b (Rect.unit ![1536, 0] ![256, 1024] inb_S2816x1024_S256x1024_1536_0))
    (k0_pay15
    (k0_pay13 (View.ld g (Rect.unit ![0, 1280] ![512, 256] inb_S512x2816_S512x256_0_1280)))
    (k0_pay14 (View.ld a (Rect.unit ![1280, 0] ![256, 1024] inb_S2816x1024_S256x1024_1280_0))) (constant S512x1024 .f32 0x00000000#32) (View.ld u (Rect.unit ![0, 1280] ![512, 256] inb_S512x2816_S512x256_0_1280)) (View.ld b (Rect.unit ![1280, 0] ![256, 1024] inb_S2816x1024_S256x1024_1280_0))
    (k0_pay12 (View.ld g (Rect.unit ![0, 1024] ![512, 256] inb_S512x2816_S512x256_0_1024)) (View.ld a (Rect.unit ![1024, 0] ![256, 1024] inb_S2816x1024_S256x1024_1024_0)) (View.ld u (Rect.unit ![0, 1024] ![512, 256] inb_S512x2816_S512x256_0_1024)) (View.ld b (Rect.unit ![1024, 0] ![256, 1024] inb_S2816x1024_S256x1024_1024_0))
    (k0_pay11
    (k0_pay10 (View.ld g (Rect.unit ![0, 768] ![512, 256] inb_S512x2816_S512x256_0_768)) (View.ld a (Rect.unit ![768, 0] ![256, 1024] inb_S2816x1024_S256x1024_768_0))) (View.ld u (Rect.unit ![0, 768] ![512, 256] inb_S512x2816_S512x256_0_768)) (View.ld b (Rect.unit ![768, 0] ![256, 1024] inb_S2816x1024_S256x1024_768_0))
    (k0_pay9 (View.ld g (Rect.unit ![0, 512] ![512, 256] inb_S512x2816_S512x256_0_512)) (View.ld a (Rect.unit ![512, 0] ![256, 1024] inb_S2816x1024_S256x1024_512_0)) (View.ld u (Rect.unit ![0, 512] ![512, 256] inb_S512x2816_S512x256_0_512)) (View.ld b (Rect.unit ![512, 0] ![256, 1024] inb_S2816x1024_S256x1024_512_0))
    (k0_pay8
    (k0_pay7 (View.ld g (Rect.unit ![0, 256] ![512, 256] inb_S512x2816_S512x256_0_256)) (View.ld a (Rect.unit ![256, 0] ![256, 1024] inb_S2816x1024_S256x1024_256_0))) (View.ld u (Rect.unit ![0, 256] ![512, 256] inb_S512x2816_S512x256_0_256)) (View.ld b (Rect.unit ![256, 0] ![256, 1024] inb_S2816x1024_S256x1024_256_0))
    (k0_pay6 (View.ld g (Rect.unit ![0, 0] ![512, 256] inb_S512x2816_S512x256_0_0)) (View.ld a (Rect.unit ![0, 0] ![256, 1024] inb_S2816x1024_S256x1024_0_0)) (View.ld u (Rect.unit ![0, 0] ![512, 256] inb_S512x2816_S512x256_0_0)) (View.ld b (Rect.unit ![0, 0] ![256, 1024] inb_S2816x1024_S256x1024_0_0))))))))))))

/-- The chunks of the hidden axis are the whole axis. -/
theorem sum_chunks (f : Fin 2816 → EReal) : ∑ c : Fin 11, ∑ k : Fin 256, f ⟨c.val * 256 + k.val, by omega⟩ = ∑ k, f k :=
  Fin.sum_mul_add_fin 11 256 f

theorem sum_eleven (f : Fin 11 → EReal) : ∑ c, f c = f 0 + f 1 + f 2 + f 3 + f 4 + f 5 + f 6 + f 7 + f 8 + f 9 + f 10 := by
  simp only [Fin.sum_univ_castSucc, Fin.sum_univ_zero, zero_add]; rfl

/-- The accumulator is the two whole products. -/
theorem nest_at (g u : Vec Ideal S512x2816 .bf16) (a b : Vec Ideal S2816x1024 .bf16) (r : Fin 512) (l : Fin 1024) :
    nest g u a b (ix2 r l) = ∑ k : Fin 2816, (g (ix2 r k) * a (ix2 k l) + u (ix2 r k) * b (ix2 k l)) := by
  rw [← sum_chunks, sum_eleven]
  simp only [Finset.sum_add_distrib]
  unfold nest
  pointwise [k0_pay6, k0_pay7, k0_pay8, k0_pay9, k0_pay10, k0_pay11, k0_pay12, k0_pay13, k0_pay14, k0_pay15, k0_pay16, k0_pay17,
    k0_pay18, k0_pay19, k0_pay20, k0_pay21, k0_pay22]

variable (x d : S512x1024.Idx → ℝ) (n : S1x1024.Idx → ℝ)

/-- The stored block: the residual stream's gradient plus the norm's. -/
theorem pay1_real (dy : S512x1024.Idx → EReal) (r : Fin 512) (l : Fin 1024) :
    k0_pay1 (F := Ideal) (fun i => (n i : EReal)) (k0_pay4 fun i => (x i : EReal)) (k0_pay5 fun i => (x i : EReal)) (fun i => (d i : EReal)) dy (ix2 r l)
      = dy (ix2 r l) + ((gradRow (fun k => x (ix2 r k)) (fun k => n (ix2 0 k)) (fun k => d (ix2 r k)) l : ℝ) : EReal) := by
  pointwise [k0_pay1, k0_pay4, k0_pay5]
  simp only [lit_1024, lit_eps, ← EReal.coe_mul, ← coe_sum, div_1024, ← EReal.coe_add, ← EReal.coe_sub, rsqrt_row]
  congr 1

theorem pay1_at (dy : S512x1024.Idx → EReal) (y : S512x1024.Idx) :
    k0_pay1 (F := Ideal) (fun i => (n i : EReal)) (k0_pay4 fun i => (x i : EReal)) (k0_pay5 fun i => (x i : EReal)) (fun i => (d i : EReal)) dy y
      = dy y + ((gradRow (fun k => x (ix2 (y 0) k)) (fun k => n (ix2 0 k)) (fun k => d (ix2 (y 0) k)) (y 1) : ℝ) : EReal) := by
  obtain ⟨r, l, rfl⟩ : ∃ r l, y = ix2 r l := ⟨_, _, eq_ix2 y⟩
  exact pay1_real x d n dy r l

/-- One point's addition to the weight's gradient. -/
theorem pay3_real (a : S1x1024.Idx → EReal) (l : Fin 1024) :
    k0_pay3 (F := Ideal) (k0_pay5 fun i => (x i : EReal)) (fun i => (d i : EReal)) a (ix2 0 l)
      = a (ix2 0 l) + ((∑ r, gradWeight (fun k => x (ix2 r k)) (fun k => d (ix2 r k)) l : ℝ) : EReal) := by
  pointwise [k0_pay3, k0_pay4, k0_pay5]
  simp only [lit_1024, lit_eps, ← EReal.coe_mul, ← coe_sum, div_1024, ← EReal.coe_add, ← EReal.coe_sub, rsqrt_row]
  congr 1

theorem pay3_at (a : S1x1024.Idx → EReal) (y : S1x1024.Idx) :
    k0_pay3 (F := Ideal) (k0_pay5 fun i => (x i : EReal)) (fun i => (d i : EReal)) a y
      = a y + ((∑ r, gradWeight (fun k => x (ix2 r k)) (fun k => d (ix2 r k)) (y 1) : ℝ) : EReal) := by
  obtain ⟨r, l, rfl⟩ : ∃ r l, y = ix2 r l := ⟨_, _, eq_ix2 y⟩
  obtain rfl : r = 0 := Subsingleton.elim _ _
  exact pay3_real x d a l

/-- The accumulator starts at zero. -/
theorem pay2_at (y : S1x1024.Idx) : k0_pay2 (F := Ideal) y = 0 := by
  obtain ⟨p, q, rfl⟩ : ∃ p q, y = ix2 p q := ⟨_, _, eq_ix2 y⟩
  pointwise [k0_pay2]

end Cert.FfnPay

end
-- ==== Proof.FfnValue.lean ====
/-
  The feed-forward block's input gradient: the kernel's two result arrays after the run, on finite arguments (the
  residual stream's gradient is arbitrary). The gradient's blocks tile the array; the weight's gradient is accumulated
  over the eight points and written back after the last.
-/
module

public import proofs.«01_k».proof.Proof.FfnPay
public import Idealize.ShloMosaic.Lib.StableHlo.ReadAt

@[expose] public section

set_option maxRecDepth 16384

noncomputable section

namespace Cert.FfnValue

open Cert.FfnIdeal Cert.FfnIdeal.Gen Idealize.ShloMosaic Idealize.ShloMosaic.TcCoe Cert.Reals Cert.NormMath Cert.FfnPay

/-- The arguments: all but the residual stream's gradient are arrays of reals. -/
structure Args where
  x : S4096x1024.Idx → ℝ
  n : S1x1024.Idx → ℝ
  a : S1x1024x2816.Idx → ℝ
  b : S1x1024x2816.Idx → ℝ
  dy : S4096x1024.Idx → EReal
  g : S4096x2816.Idx → ℝ
  u : S4096x2816.Idx → ℝ

/-- A memory whose arguments are these arrays on device `c`. -/
def Args.At (A : Args) (m : (ℓ : Loc nD τ sig) → Buf (Elt Ideal) ℓ) (c : Dev nD) : Prop :=
  m ((c.tc : Thread nD τ).loc main_arg0) = (fun i => (A.x i : EReal))
  ∧ m ((c.tc : Thread nD τ).loc main_arg1) = (fun i => (A.n i : EReal))
  ∧ m ((c.tc : Thread nD τ).loc main_arg2) = (fun i => (A.a i : EReal))
  ∧ m ((c.tc : Thread nD τ).loc main_arg3) = (fun i => (A.b i : EReal))
  ∧ m ((c.tc : Thread nD τ).loc main_arg4) = A.dy
  ∧ m ((c.tc : Thread nD τ).loc main_arg5) = (fun i => (A.g i : EReal))
  ∧ m ((c.tc : Thread nD τ).loc main_arg6) = (fun i => (A.u i : EReal))

variable (m : (ℓ : Loc nD τ sig) → Buf (Elt Ideal) ℓ) (c : Dev nD) (A : Args) (hA : A.At m c)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel

/-- Row `r` of point `t`'s block, among all the rows. -/
abbrev row (t : Fin cfg0.N) (r : Fin 512) : Fin 4096 := ⟨t.val * 512 + r.val, by have := t.isLt; have : cfg0.N = 8 := rfl; omega⟩

def Args.bx (t : Fin cfg0.N) : S512x1024.Idx → ℝ := fun i => A.x (ix2 (row t (i 0)) (i 1))
def Args.bdy (t : Fin cfg0.N) : S512x1024.Idx → EReal := fun i => A.dy (ix2 (row t (i 0)) (i 1))
def Args.bg (t : Fin cfg0.N) : S512x2816.Idx → ℝ := fun i => A.g (ix2 (row t (i 0)) (i 1))
def Args.bu (t : Fin cfg0.N) : S512x2816.Idx → ℝ := fun i => A.u (ix2 (row t (i 0)) (i 1))
def Args.ta : S2816x1024.Idx → ℝ := fun i => A.a (ix3 0 (i 1) (i 0))
def Args.tb : S2816x1024.Idx → ℝ := fun i => A.b (ix3 0 (i 1) (i 0))

/-- The gradient of the normed and weighted row: through the two projections' weights. -/
def Args.d (r : Fin 4096) (l : Fin 1024) : ℝ := ∑ k, (A.g (ix2 r k) * A.a (ix3 0 l k) + A.u (ix2 r k) * A.b (ix3 0 l k))

/-- The weights lie transposed in the kernel's operands. -/
theorem wa (k : Fin 2816) (l : Fin 1024) :
    V m c main_v4 (ix2 k l : S2816x1024.Idx) = m ((c.tc : Thread nD τ).loc main_arg2) (ix3 0 l k) := by
  unfold V
  after_reads_at

theorem wb (k : Fin 2816) (l : Fin 1024) :
    V m c main_v7 (ix2 k l : S2816x1024.Idx) = m ((c.tc : Thread nD τ).loc main_arg3) (ix3 0 l k) := by
  unfold V
  after_reads_at

include hA in
theorem blk0 (t : Fin cfg0.N) : iblk m c 0 t = A.bdy t := by
  funext i
  have e : iblk m c 0 t i = m ((c.tc : Thread nD τ).loc main_arg4) (ix2 (row t (i 0)) (i 1)) := by
    blk_ext [iblk, V, idx0 t]
  rw [e, hA.2.2.2.2.1]; rfl

include hA in
theorem blk1 (t : Fin cfg0.N) : iblk m c 1 t = (fun i => (A.bx t i : EReal)) := by
  funext i
  have e : iblk m c 1 t i = m ((c.tc : Thread nD τ).loc main_arg0) (ix2 (row t (i 0)) (i 1)) := by
    blk_ext [iblk, V, idx1 t]
  rw [e, hA.1]; rfl

include hA in
theorem blk2 (t : Fin cfg0.N) : iblk m c 2 t = (fun i => (A.bg t i : EReal)) := by
  funext i
  have e : iblk m c 2 t i = m ((c.tc : Thread nD τ).loc main_arg5) (ix2 (row t (i 0)) (i 1)) := by
    blk_ext! [iblk, V, idx2 t]
  rw [e, hA.2.2.2.2.2.1]; rfl

include hA in
theorem blk3 (t : Fin cfg0.N) : iblk m c 3 t = (fun i => (A.bu t i : EReal)) := by
  funext i
  have e : iblk m c 3 t i = m ((c.tc : Thread nD τ).loc main_arg6) (ix2 (row t (i 0)) (i 1)) := by
    blk_ext! [iblk, V, idx3 t]
  rw [e, hA.2.2.2.2.2.2]; rfl

include hA in
theorem blk4 (t : Fin cfg0.N) : iblk m c 4 t = (fun i => (A.n i : EReal)) := by
  funext i
  have e : iblk m c 4 t i = m ((c.tc : Thread nD τ).loc main_arg1) i := by
    blk_ext [iblk, V, idx4 t]
  rw [e, hA.2.1]

include hA in
theorem blk5 (t : Fin cfg0.N) : iblk m c 5 t = (fun i => (A.ta i : EReal)) := by
  funext i
  obtain ⟨k, l, rfl⟩ : ∃ k l, i = ix2 k l := ⟨_, _, eq_ix2 i⟩
  have e : iblk m c 5 t (ix2 k l) = V m c main_v4 (ix2 k l : S2816x1024.Idx) := by
    blk_ext [iblk, idx5 t]
  rw [e, wa, hA.2.2.1]; rfl

include hA in
theorem blk6 (t : Fin cfg0.N) : iblk m c 6 t = (fun i => (A.tb i : EReal)) := by
  funext i
  obtain ⟨k, l, rfl⟩ : ∃ k l, i = ix2 k l := ⟨_, _, eq_ix2 i⟩
  have e : iblk m c 6 t (ix2 k l) = V m c main_v7 (ix2 k l : S2816x1024.Idx) := by
    blk_ext [iblk, idx6 t]
  rw [e, wb, hA.2.2.2.1]; rfl

include hA in
/-- The accumulator of point `t`. -/
theorem acc_eq (t : Fin cfg0.N) : nest (iblk m c 2 t) (iblk m c 3 t) (iblk m c 5 t) (iblk m c 6 t)
    = (fun i => (A.d (row t (i 0)) (i 1) : EReal)) := by
  rw [blk2 m c A hA, blk3 m c A hA, blk5 m c A hA, blk6 m c A hA]
  funext i
  obtain ⟨r, l, rfl⟩ : ∃ r l, i = ix2 r l := ⟨_, _, eq_ix2 i⟩
  refine (nest_at _ _ _ _ r l).trans ?_
  simp only [← EReal.coe_mul, ← EReal.coe_add, ← coe_sum]
  rfl

/-- Where point `t`'s block of the gradient lies. -/
theorem emb7_0 (t : Fin cfg0.N) (y : S512x1024.Idx) : (win0_7.blk t).view.emb y 0 = row t (y 0) :=
  Fin.ext (by blk_simp [idx7 t])
theorem emb7_1 (t : Fin cfg0.N) (y : S512x1024.Idx) : (win0_7.blk t).view.emb y 1 = y 1 :=
  Fin.ext (by blk_simp [idx7 t])

/-- What point `t` stores in the gradient's block. -/
theorem after7 (t : Fin cfg0.N) : (outsAt0 m c t.val t.isLt).1
    = k0_pay1 (iblk m c 4 t) (k0_pay4 (iblk m c 1 t)) (k0_pay5 (iblk m c 1 t)) (nest (iblk m c 2 t) (iblk m c 3 t) (iblk m c 5 t) (iblk m c 6 t))
      (iblk m c 0 t) := by
  by_cases h : t.val % 8 = 0
  · rw [outsAt0_A m c t h]; frame_out; rfl
  · rw [outsAt0_B m c t h]; frame_out; rfl

/-- Row `r` of the arguments. -/
abbrev Args.rowX (r : Fin 4096) : Fin 1024 → ℝ := fun k => A.x (ix2 r k)
abbrev Args.rowN : Fin 1024 → ℝ := fun k => A.n (ix2 0 k)

include hA in
/-- The gradient. -/
theorem out7 : (dats m 0 c).arrAt 7 cfg0.N
    = fun i : S4096x1024.Idx => A.dy (ix2 (i 0) (i 1)) + ((gradRow (A.rowX (i 0)) A.rowN (A.d (i 0)) (i 1) : ℝ) : EReal) := by
  refine (dats m 0 c).arrAt_eq_of_covers 7 _ (by decide +kernel) fun t hf y => ?_
  blk_simp
  change (outsAt0 m c t.val t.isLt).1 y = _
  rw [after7, acc_eq m c A hA, blk0 m c A hA, blk1 m c A hA, blk4 m c A hA]
  refine (pay1_at (A.bx t) (fun i => A.d (row t (i 0)) (i 1)) A.n (A.bdy t) y).trans ?_
  rw [emb7_0, emb7_1]
  rfl

/-- What the accumulator's staging buffer holds after point `t`. -/
theorem stage8 (t : Fin cfg0.N) : (dats m 0 c).after 8 t = (outsAt0 m c t.val t.isLt).2 := rfl

/-- The eight points' rows are all the rows. -/
theorem sum_rows (g : Fin 4096 → ℝ) : ∑ t : Fin cfg0.N, ∑ r : Fin 512, g (row t r) = ∑ r, g r :=
  Fin.sum_mul_add_fin 8 512 g

/-- One point's addition, at a point that resets and at one that does not. -/
theorem stepA (t : Fin cfg0.N) (h : t.val % 8 = 0) : (outsAt0 m c t.val t.isLt).2
    = k0_pay3 (k0_pay5 (iblk m c 1 t)) (nest (iblk m c 2 t) (iblk m c 3 t) (iblk m c 5 t) (iblk m c 6 t)) (k0_pay2 (F := Ideal)) := by
  rw [outsAt0_A m c t h]; frame_out; rfl

theorem stepB (t : Fin cfg0.N) (h : ¬t.val % 8 = 0) : (outsAt0 m c t.val t.isLt).2
    = k0_pay3 (k0_pay5 (iblk m c 1 t)) (nest (iblk m c 2 t) (iblk m c 3 t) (iblk m c 5 t) (iblk m c 6 t))
      (outsAt0 m c (t.val - 1) (Nat.lt_of_le_of_lt (Nat.sub_le _ _) t.isLt)).2 := by
  rw [outsAt0_B m c t h]; frame_out; rfl

include hA in
/-- The weight's gradient, as it is summed over the points. -/
theorem acc8 (j : S1x1024.Idx) : (outsAt0 m c t0_7.val t0_7.isLt).2 j
    = 0 + ∑ t : Fin cfg0.N, ((∑ r, gradWeight (A.rowX (row t r)) (A.d (row t r)) (j 1) : ℝ) : EReal) := by
  refine Pipeline.eq_sum_fin_of_reset_step_apply_last (fun n h => (outsAt0 m c n h).2) 8 (fun _ => 0)
    (fun t j => ((∑ r, gradWeight (A.rowX (row t r)) (A.d (row t r)) (j 1) : ℝ) : EReal))
    (fun t h j => ?_) (fun t h j => ?_) (by decide) t0_7 rfl j
  · refine (congrFun (stepA m c t h) j).trans ?_
    rw [acc_eq m c A hA, blk1 m c A hA]
    refine (pay3_at (A.bx t) (fun i => A.d (row t (i 0)) (i 1)) _ j).trans ?_
    rw [pay2_at]; rfl
  · refine (congrFun (stepB m c t h) j).trans ?_
    rw [acc_eq m c A hA, blk1 m c A hA]
    exact pay3_at (A.bx t) (fun i => A.d (row t (i 0)) (i 1)) _ j

include hA in
/-- The weight's gradient. -/
theorem out8 : (dats m 0 c).arrAt 8 cfg0.N
    = fun i : S1x1024.Idx => ((∑ r, gradWeight (A.rowX r) (A.d r) (i 1) : ℝ) : EReal) := by
  refine (dats m 0 c).arrAt_eq_of_after_last 8 t0_7 (by decide +kernel) _ fun j => ?_
  blk_simp
  rw [stage8, acc8 m c A hA, ← coe_sum, zero_add]
  exact congrArg _ (sum_rows fun r => gradWeight (A.rowX r) (A.d r) (j 1))

end Cert.FfnValue

end
-- ==== Proof.FfnRef.lean ====
/-
  The reference's results for the feed-forward block's input gradient on arrays of reals (the residual stream's gradient
  is arbitrary): each is a row function of `NormMath`.
-/
module

public import proofs.«01_k».proof.Proof.Gen.FfnRefIdeal.Read
public import proofs.«01_k».proof.Proof.NormMath
public import Idealize.ShloMosaic.Lib.Pipeline.ValueKit

@[expose] public section

set_option maxRecDepth 16384

noncomputable section

namespace Cert.FfnRef

open Cert.FfnRefIdeal Cert.FfnRefIdeal.Read Idealize.ShloMosaic Cert.Reals Cert.NormMath

variable (x : S4096x1024.Idx → ℝ) (n : S1x1024.Idx → ℝ) (a b : S1x1024x2816.Idx → ℝ) (dy : S4096x1024.Idx → EReal) (g u : S4096x2816.Idx → ℝ)

theorem v7_real (r : Fin 4096) (z : Fin 1) :
    val_main_v7 (F := Ideal) (fun i => (x i : EReal)) (ix2 r z) = ((meanSq (fun k => x (ix2 r k)) : ℝ) : EReal) := by
  pointwise [val_main_v7, val_main_v6, val_main_v5, val_main_v4, val_main_v3, val_main_v2, val_main_v1, val_main_cst, val_main_cst_0, val_main_cst_1]
  simp only [lit_1024, lit_eps, ← EReal.coe_mul, ← coe_sum, div_1024, ← EReal.coe_add]
  congr 1

theorem v8_real (r : Fin 4096) (z : Fin 1) :
    val_main_v8 (F := Ideal) (fun i => (x i : EReal)) (ix2 r z) = ((rms (fun k => x (ix2 r k)) : ℝ) : EReal) := by
  pointwise [val_main_v8]
  rw [v7_real, rsqrt_meanSq]

/-- The derivative of the reciprocal root. -/
theorem v11_real (r : Fin 4096) (z : Fin 1) :
    val_main_v11 (F := Ideal) (fun i => (x i : EReal)) (ix2 r z)
      = ((-1 / 2 * (rms (fun k => x (ix2 r k)) / meanSq (fun k => x (ix2 r k))) : ℝ) : EReal) := by
  pointwise [val_main_v11, val_main_v10, val_main_v9, val_main_cst_2]
  rw [v8_real, v7_real, div_real (meanSq_pos _).ne', lit_neg_half, ← EReal.coe_mul]

theorem v13_real (r : Fin 4096) (l : Fin 1024) :
    val_main_v13 (F := Ideal) (fun i => (x i : EReal)) (ix2 r l)
      = ((x (ix2 r l) * rms (fun k => x (ix2 r k)) : ℝ) : EReal) := by
  pointwise [val_main_v13, val_main_v12]
  rw [v8_real, ← EReal.coe_mul]

/-- The gradient of the normed and weighted row: through the two projections' weights. -/
def d (r : Fin 4096) (l : Fin 1024) : ℝ := ∑ k, (g (ix2 r k) * a (ix3 0 l k) + u (ix2 r k) * b (ix3 0 l k))

theorem v23_real (r : Fin 4096) (l : Fin 1024) :
    val_main_v23 (F := Ideal) (fun i => (a i : EReal)) (fun i => (b i : EReal)) (fun i => (g i : EReal)) (fun i => (u i : EReal)) (ix2 r l)
      = ((d a b g u r l : ℝ) : EReal) := by
  pointwise [val_main_v23, val_main_v22, val_main_v21, val_main_v19, val_main_v17]
  simp only [← EReal.coe_mul, ← coe_sum, ← EReal.coe_add]
  rw [add_comm, ← Finset.sum_add_distrib]
  rfl

theorem v28_real (r : Fin 4096) (l : Fin 1024) :
    val_main_v28 (F := Ideal) (fun i => (n i : EReal)) (fun i => (a i : EReal)) (fun i => (b i : EReal)) (fun i => (g i : EReal)) (fun i => (u i : EReal)) (ix2 r l)
      = ((d a b g u r l * n (ix2 0 l) : ℝ) : EReal) := by
  pointwise [val_main_v28, val_main_v27, val_main_v14, val_main_v0]
  rw [v23_real, ← EReal.coe_mul]

/-- The gradient of the row. -/
theorem v44_real (r : Fin 4096) (l : Fin 1024) :
    val_main_v44 (F := Ideal) (fun i => (x i : EReal)) (fun i => (n i : EReal)) (fun i => (a i : EReal)) (fun i => (b i : EReal)) dy
        (fun i => (g i : EReal)) (fun i => (u i : EReal)) (ix2 r l)
      = dy (ix2 r l) + ((gradRow (fun k => x (ix2 r k)) (fun k => n (ix2 0 k)) (d a b g u r) l : ℝ) : EReal) := by
  pointwise [val_main_v44, val_main_v43, val_main_v42, val_main_v41, val_main_v40, val_main_v39, val_main_v38, val_main_v37,
    val_main_v36, val_main_v35, val_main_v34, val_main_v33, val_main_v32, val_main_v31, val_main_v30, val_main_cst, val_main_cst_0, val_main_cst_1, val_main_cst_2, val_main_cst_3, val_main_cst_4, val_main_cst_5, val_main_cst_6, val_main_cst_7]
  simp only [v28_real, v11_real, v8_real, lit_1024, ← EReal.coe_mul, ← coe_sum, div_1024, ← EReal.coe_add, Fin.sum_univ_one]
  rw [add_assoc, add_assoc, ← EReal.coe_add, ← EReal.coe_add, ← add_assoc, ← gradRow_eq]

/-- The gradient of the norm's weight. -/
theorem v45_real (z : Fin 1) (l : Fin 1024) :
    val_main_v45 (F := Ideal) (fun i => (x i : EReal)) (fun i => (a i : EReal)) (fun i => (b i : EReal)) (fun i => (g i : EReal)) (fun i => (u i : EReal)) (ix2 z l)
      = ((∑ r : Fin 4096, gradWeight (fun k => x (ix2 r k)) (d a b g u r) l : ℝ) : EReal) := by
  pointwise [val_main_v45, val_main_v29, val_main_v26, val_main_v25, val_main_v24, val_main_cst, val_main_cst_0, val_main_cst_1, val_main_cst_2, val_main_cst_3, val_main_cst_4, val_main_cst_5, val_main_cst_6, val_main_cst_7]
  simp only [v23_real, v13_real, ← EReal.coe_mul, ← coe_sum, ← EReal.coe_add, Fin.sum_univ_one]
  congr 1
  refine Finset.sum_congr rfl fun r _ => ?_
  unfold gradWeight
  ring

end Cert.FfnRef

end
-- ==== Proof.FfnClaim.lean ====
/-
  The claims of the feed-forward block's input gradient: the frames, and the value claim that joins the kernel's two
  arrays to the reference's.
-/
module

public import proofs.«01_k».proof.Defs
public import proofs.«01_k».proof.Proof.FfnValue
public import proofs.«01_k».proof.Proof.FfnRef
public import Idealize.ShloMosaic.Lib.Pointwise.Select
public import Idealize.ShloMosaic.Lib.Claim
public import Idealize.ShloMosaic.Lib.Quiescent

@[expose] public section

set_option maxRecDepth 16384

noncomputable section

namespace Cert.FfnClaim

open Idealize.ShloMosaic Idealize.ShloMosaic.TcCoe Idealize.SL.Sem Cert.Reals Cert.NormMath

/-- The predicate's shape relations. -/
theorem preFacts : Cert.Pre_finite6.Facts := ⟨by decide, by decide, by decide, by decide⟩

instance : Cert.Pre_finite6.Facts := preFacts

/-- The reference leaves its arguments and the counters. -/
theorem frame_ref : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- Finite arguments are arrays of reals. -/
theorem exists_args (m : (ℓ : Loc Cert.FfnIdeal.nD Cert.FfnIdeal.τ Cert.FfnIdeal.sig) → Buf (Elt Ideal) ℓ)
    (h : Cert.Pre_FfnIdeal_finite6 m) (c : Dev Cert.FfnIdeal.nD) : ∃ A : Cert.FfnValue.Args, A.At m c := by
  obtain ⟨h0, h1, h2, h3, h5, h6⟩ := h c
  have r0 := exists_real (x := m ((c.tc : Thread Cert.FfnIdeal.nD Cert.FfnIdeal.τ).loc Cert.FfnIdeal.main_arg0)) fun i => by
    rw [← lit_inf]
    exact (Ideal.cmp_olt_eq_one _ _).mp (congrFun h0 i)
  have r1 := exists_real (x := m ((c.tc : Thread Cert.FfnIdeal.nD Cert.FfnIdeal.τ).loc Cert.FfnIdeal.main_arg1)) fun i => by
    rw [← lit_inf]
    exact (Ideal.cmp_olt_eq_one _ _).mp (congrFun h1 i)
  have r2 := exists_real (x := m ((c.tc : Thread Cert.FfnIdeal.nD Cert.FfnIdeal.τ).loc Cert.FfnIdeal.main_arg2)) fun i => by
    rw [← lit_inf]
    exact (Ideal.cmp_olt_eq_one _ _).mp (congrFun h2 i)
  have r3 := exists_real (x := m ((c.tc : Thread Cert.FfnIdeal.nD Cert.FfnIdeal.τ).loc Cert.FfnIdeal.main_arg3)) fun i => by
    rw [← lit_inf]
    exact (Ideal.cmp_olt_eq_one _ _).mp (congrFun h3 i)
  have r5 := exists_real (x := m ((c.tc : Thread Cert.FfnIdeal.nD Cert.FfnIdeal.τ).loc Cert.FfnIdeal.main_arg5)) fun i => by
    rw [← lit_inf]
    exact (Ideal.cmp_olt_eq_one _ _).mp (congrFun h5 i)
  have r6 := exists_real (x := m ((c.tc : Thread Cert.FfnIdeal.nD Cert.FfnIdeal.τ).loc Cert.FfnIdeal.main_arg6)) fun i => by
    rw [← lit_inf]
    exact (Ideal.cmp_olt_eq_one _ _).mp (congrFun h6 i)
  obtain ⟨X, hX⟩ := r0
  obtain ⟨N, hN⟩ := r1
  obtain ⟨A, hA⟩ := r2
  obtain ⟨B, hB⟩ := r3
  obtain ⟨G, hG⟩ := r5
  obtain ⟨U, hU⟩ := r6
  exact ⟨⟨X, N, A, B, _, G, U⟩, hX, hN, hA, hB, rfl, hG, hU⟩

/-- The kernel's arrays are the reference's. -/
theorem algebraic : Cert.algebraic_FfnIdeal_FfnRefIdeal_pre_finite6 := by
  intro m g m' g' hpre hagree
  choose A hA using exists_args m hpre
  refine ⟨_, _, Cert.FfnIdeal.Value.run_blocks m g, ?_⟩
  refine (θ_run Cert.FfnRefIdeal.defs _ _).mono (fun r h c => ?_) (Cert.FfnRefIdeal.Value.run m' g')
  obtain ⟨h44, h45, hk⟩ := h c
  obtain ⟨a0, a1, a2, a3, a4, a5, a6⟩ := hagree c
  obtain ⟨b0, b1, b2, b3, b4, b5, b6⟩ := hA c
  have A0 := a0.trans b0
  have A1 := a1.trans b1
  have A2 := a2.trans b2
  have A3 := a3.trans b3
  have A4 := a4.trans b4
  have A5 := a5.trans b5
  have A6 := a6.trans b6
  refine ⟨?_, ?_, hk⟩
  · rw [h44, FfnValue.out7 m c (A c) (hA c), Cert.FfnRefIdeal.Read.val_main_v44_eq, A0, A1, A2, A3, A4, A5, A6]
    funext i
    obtain ⟨p, q, rfl⟩ : ∃ p q, i = ix2 p q := ⟨_, _, eq_ix2 i⟩
    exact FfnRef.v44_real _ _ _ _ _ _ _ p q
  · refine h45.trans ((Cert.FfnRefIdeal.Read.val_main_v45_eq _ _ _ _ _).trans ?_)
    rw [FfnValue.out8 m c (A c) (hA c), A0, A2, A3, A5, A6]
    funext i
    obtain ⟨p, q, rfl⟩ : ∃ p q, i = ix2 p q := ⟨_, _, eq_ix2 i⟩
    exact FfnRef.v45_real _ _ _ _ _ p q

end Cert.FfnClaim

end
-- ==== Proof.PrjPay.lean ====
/-
  The projection's input gradient on one block of rows: the accumulator that the body fills slot by slot is the sum over
  the eight column segments, the stored blocks are the norm's derivative of it, and each segment's bias gradient is its
  old contents plus the slot's sum over the rows.
-/
module

public import proofs.«01_k».proof.Proof.Gen.PrjIdeal.Value
public import proofs.«01_k».proof.Proof.NormMath
public import Idealize.ShloMosaic.Lib.Pipeline.ValueKit
public import Idealize.ShloMosaic.Lib.Pipeline.ReadBack

@[expose] public section

set_option maxRecDepth 16384

noncomputable section

namespace Cert.PrjPay

open Cert.PrjIdeal Cert.PrjIdeal.Gen Idealize.ShloMosaic Idealize.ShloMosaic.TcCoe Cert.Reals Cert.NormMath

/-- The accumulator after the eight slots. -/
def nest (g : Vec Ideal S8x512x1024 .bf16) (w : Vec Ideal S8192x1024 .bf16) : FVec Ideal S512x1024 .f32 :=
  k0_pay29 (F := Ideal)
    (k0_pay28 (View.ld g (Rect.unit ![7, 0, 0] ![1, 512, 1024] inb_S8x512x1024_S1x512x1024_7_0_0)) (View.ld w (Rect.unit ![5120, 0] ![1024, 1024] inb_S8192x1024_S1024x1024_5120_0)))
    (k0_pay25
    (k0_pay23 (View.ld g (Rect.unit ![6, 0, 0] ![1, 512, 1024] inb_S8x512x1024_S1x512x1024_6_0_0))) (View.ld w (Rect.unit ![4096, 0] ![1024, 1024] inb_S8192x1024_S1024x1024_4096_0))
    (k0_pay22 (View.ld g (Rect.unit ![5, 0, 0] ![1, 512, 1024] inb_S8x512x1024_S1x512x1024_5_0_0)) (View.ld w (Rect.unit ![3072, 0] ![1024, 1024] inb_S8192x1024_S1024x1024_3072_0))
    (k0_pay19
    (k0_pay17 (View.ld g (Rect.unit ![4, 0, 0] ![1, 512, 1024] inb_S8x512x1024_S1x512x1024_4_0_0))) (View.ld w (Rect.unit ![2048, 0] ![1024, 1024] inb_S8192x1024_S1024x1024_2048_0))
    (k0_pay16 (View.ld g (Rect.unit ![3, 0, 0] ![1, 512, 1024] inb_S8x512x1024_S1x512x1024_3_0_0)) (View.ld w (Rect.unit ![7168, 0] ![1024, 1024] inb_S8192x1024_S1024x1024_7168_0))
    (k0_pay13 (View.ld g (Rect.unit ![2, 0, 0] ![1, 512, 1024] inb_S8x512x1024_S1x512x1024_2_0_0)) (View.ld w (Rect.unit ![6144, 0] ![1024, 1024] inb_S8192x1024_S1024x1024_6144_0))
    (k0_pay10
    (k0_pay7 (View.ld g (Rect.unit ![1, 0, 0] ![1, 512, 1024] inb_S8x512x1024_S1x512x1024_1_0_0))) (View.ld w (Rect.unit ![1024, 0] ![1024, 1024] inb_S8192x1024_S1024x1024_1024_0))
    (k0_pay6 (View.ld g (Rect.unit ![0, 0, 0] ![1, 512, 1024] inb_S8x512x1024_S1x512x1024_0_0_0)) (View.ld w (Rect.unit ![0, 0] ![1024, 1024] inb_S8192x1024_S1024x1024_0_0)))))))))

/-- What the body stores in the bias gradient's block, last store first. -/
def biasPieces (g : Vec Ideal S8x512x1024 .bf16) (old : Vec Ideal S8x1x1024 .f32) : List (View.Piece (Elt Ideal) S8x1x1024 .f32) :=
  [⟨Rect.unit ![5, 0, 0] ![1, 1, 1024] inb_S8x1x1024_S1x1x1024_5_0_0, k0_pay27 (View.ld g (Rect.unit ![7, 0, 0] ![1, 512, 1024] inb_S8x512x1024_S1x512x1024_7_0_0)) (View.ld old (Rect.unit ![5, 0, 0] ![1, 1, 1024] inb_S8x1x1024_S1x1x1024_5_0_0))⟩,
    ⟨Rect.unit ![4, 0, 0] ![1, 1, 1024] inb_S8x1x1024_S1x1x1024_4_0_0, k0_pay24 (k0_pay23 (View.ld g (Rect.unit ![6, 0, 0] ![1, 512, 1024] inb_S8x512x1024_S1x512x1024_6_0_0))) (View.ld old (Rect.unit ![4, 0, 0] ![1, 1, 1024] inb_S8x1x1024_S1x1x1024_4_0_0))⟩,
    ⟨Rect.unit ![3, 0, 0] ![1, 1, 1024] inb_S8x1x1024_S1x1x1024_3_0_0, k0_pay21 (View.ld g (Rect.unit ![5, 0, 0] ![1, 512, 1024] inb_S8x512x1024_S1x512x1024_5_0_0)) (View.ld old (Rect.unit ![3, 0, 0] ![1, 1, 1024] inb_S8x1x1024_S1x1x1024_3_0_0))⟩,
    ⟨Rect.unit ![2, 0, 0] ![1, 1, 1024] inb_S8x1x1024_S1x1x1024_2_0_0, k0_pay18 (View.ld g (Rect.unit ![4, 0, 0] ![1, 512, 1024] inb_S8x512x1024_S1x512x1024_4_0_0)) (View.ld old (Rect.unit ![2, 0, 0] ![1, 1, 1024] inb_S8x1x1024_S1x1x1024_2_0_0))⟩,
    ⟨Rect.unit ![7, 0, 0] ![1, 1, 1024] inb_S8x1x1024_S1x1x1024_7_0_0, k0_pay15 (View.ld g (Rect.unit ![3, 0, 0] ![1, 512, 1024] inb_S8x512x1024_S1x512x1024_3_0_0)) (View.ld old (Rect.unit ![7, 0, 0] ![1, 1, 1024] inb_S8x1x1024_S1x1x1024_7_0_0))⟩,
    ⟨Rect.unit ![6, 0, 0] ![1, 1, 1024] inb_S8x1x1024_S1x1x1024_6_0_0, k0_pay12 (View.ld g (Rect.unit ![2, 0, 0] ![1, 512, 1024] inb_S8x512x1024_S1x512x1024_2_0_0)) (View.ld old (Rect.unit ![6, 0, 0] ![1, 1, 1024] inb_S8x1x1024_S1x1x1024_6_0_0))⟩,
    ⟨Rect.unit ![1, 0, 0] ![1, 1, 1024] inb_S8x1x1024_S1x1x1024_1_0_0, k0_pay9 (k0_pay8 (View.ld g (Rect.unit ![1, 0, 0] ![1, 512, 1024] inb_S8x512x1024_S1x512x1024_1_0_0)) (View.ld old (Rect.unit ![1, 0, 0] ![1, 1, 1024] inb_S8x1x1024_S1x1x1024_1_0_0)))⟩,
    ⟨Rect.unit ![0, 0, 0] ![1, 1, 1024] inb_S8x1x1024_S1x1x1024_0_0_0, k0_pay5 (View.ld g (Rect.unit ![0, 0, 0] ![1, 512, 1024] inb_S8x512x1024_S1x512x1024_0_0_0)) (View.ld old (Rect.unit ![0, 0, 0] ![1, 1, 1024] inb_S8x1x1024_S1x1x1024_0_0_0))⟩]

/-- The slot that holds a column segment. -/
def slot : Fin 8 → Fin 8 := ![0, 1, 4, 5, 6, 7, 2, 3]

theorem sum_eight (f : Fin 8 → EReal) : ∑ c, f c = f 0 + f 1 + f 2 + f 3 + f 4 + f 5 + f 6 + f 7 := by
  simp only [Fin.sum_univ_castSucc, Fin.sum_univ_zero, zero_add]; rfl

theorem reorder (a b c d e f g h : EReal) : a + b + g + h + c + d + e + f = a + b + c + d + e + f + g + h := by
  abel

/-- The accumulator is the sum over the segments. -/
theorem nest_at (g : Vec Ideal S8x512x1024 .bf16) (w : Vec Ideal S8192x1024 .bf16) (r : Fin 512) (l : Fin 1024) :
    nest g w (ix2 r l) = ∑ s : Fin 8, ∑ k : Fin 1024, g (ix3 (slot s) r k) * w (ix2 ⟨s.val * 1024 + l.val, by omega⟩ k) := by
  rw [sum_eight, ← reorder]
  unfold nest
  pointwise [k0_pay4, k0_pay6, k0_pay7, k0_pay10, k0_pay11, k0_pay13, k0_pay14, k0_pay16, k0_pay17, k0_pay19, k0_pay20, k0_pay22,
    k0_pay23, k0_pay25, k0_pay26, k0_pay28, k0_pay29]
  rfl

theorem canon_at (r : Rect S8x1x1024) (p : r.shape.Idx → Elt Ideal .f32) (L : List (View.Piece (Elt Ideal) S8x1x1024 .f32))
    (x : r.shape.Idx) (i : S8x1x1024.Idx) (e : r.emb x = i) : View.canon (⟨r, p⟩ :: L) i = p x := by
  subst e
  exact View.canon_cons_emb r p L x

/-- The store of a segment, read in that segment and outside it. -/
theorem canon_hit (s : ℕ) (hs : s < 8) (inb) (p : S1x1x1024.Idx → EReal) (L : List (View.Piece (Elt Ideal) S8x1x1024 .f32)) (l : Fin 1024) :
    View.canon (⟨Rect.unit ![s, 0, 0] ![1, 1, 1024] inb, p⟩ :: L) (ix3 ⟨s, hs⟩ 0 l) = p (ix3 0 0 l) := by
  have e : (Rect.unit (s := S8x1x1024) ![s, 0, 0] ![1, 1, 1024] inb).emb (ix3 0 0 l : S1x1x1024.Idx) = ix3 ⟨s, hs⟩ 0 l := by
    funext a
    refine Fin.ext ((Rect.idx_unit_val _ _ inb _ a).trans ?_)
    match a with
    | 0 => rfl
    | 1 => rfl
    | 2 => exact Nat.zero_add _
  exact canon_at (Rect.unit (s := S8x1x1024) ![s, 0, 0] ![1, 1, 1024] inb) p L (ix3 0 0 l : S1x1x1024.Idx) (ix3 ⟨s, hs⟩ 0 l) e

theorem outside (s : ℕ) (i : S8x1x1024.Idx) (h : (i 0).val ≠ s)
    (inb : ∀ a, (![s, 0, 0] : Fin 3 → ℕ) a + (![1, 1, 1024] : Fin 3 → ℕ) a ≤ S8x1x1024.size a) :
    i ∉ (Rect.unit (s := S8x1x1024) ![s, 0, 0] ![1, 1, 1024] inb).set := fun hm => by
  have h0 : s ≤ (i 0).val ∧ (i 0).val < s + 1 := Rect.mem_set_unit.mp hm (0 : Fin 3)
  exact h (Nat.le_antisymm (Nat.lt_succ_iff.mp h0.2) h0.1)

theorem canon_miss (s : ℕ) (t : Fin 8) (h : t.val ≠ s) (inb) (p : S1x1x1024.Idx → EReal) (L : List (View.Piece (Elt Ideal) S8x1x1024 .f32)) (l : Fin 1024) :
    View.canon (⟨Rect.unit ![s, 0, 0] ![1, 1, 1024] inb, p⟩ :: L) (ix3 t 0 l) = View.canon L (ix3 t 0 l) :=
  View.canon_cons_of_not_mem _ L (outside s (ix3 t 0 l) h inb)

/-- A segment's bias gradient after the body. -/
theorem bias_at (g : Vec Ideal S8x512x1024 .bf16) (old : Vec Ideal S8x1x1024 .f32) (L : List (View.Piece (Elt Ideal) S8x1x1024 .f32)) (s : Fin 8) (l : Fin 1024) :
    View.canon (biasPieces g old ++ L) (ix3 s 0 l) = old (ix3 s 0 l) + ∑ r : Fin 512, g (ix3 (slot s) r l) := by
  unfold biasPieces
  simp only [List.cons_append, List.nil_append]
  fin_cases s
  all_goals
    simp (disch := decide) only [canon_miss, canon_hit]
    pointwise [k0_pay4, k0_pay5, k0_pay7, k0_pay8, k0_pay9, k0_pay11, k0_pay12, k0_pay14, k0_pay15, k0_pay17, k0_pay18, k0_pay20, k0_pay21, k0_pay23, k0_pay24, k0_pay26, k0_pay27]
    rfl

variable (x d : S512x1024.Idx → ℝ) (n : S1x1024.Idx → ℝ)

/-- The stored block: the residual stream's gradient plus the norm's. -/
theorem pay33_real (dy : S512x1024.Idx → EReal) (r : Fin 512) (l : Fin 1024) :
    k0_pay33 (F := Ideal) (fun i => (n i : EReal)) (fun i => (x i : EReal)) (fun i => (d i : EReal)) dy (ix2 r l)
      = dy (ix2 r l) + ((gradRow (fun k => x (ix2 r k)) (fun k => n (ix2 0 k)) (fun k => d (ix2 r k)) l : ℝ) : EReal) := by
  pointwise [k0_pay33, k0_pay30, k0_pay31]
  simp only [lit_1024, lit_eps, ← EReal.coe_mul, ← coe_sum, div_1024, ← EReal.coe_add, ← EReal.coe_sub, rsqrt_row]
  congr 1

theorem pay33_at (dy : S512x1024.Idx → EReal) (y : S512x1024.Idx) :
    k0_pay33 (F := Ideal) (fun i => (n i : EReal)) (fun i => (x i : EReal)) (fun i => (d i : EReal)) dy y
      = dy y + ((gradRow (fun k => x (ix2 (y 0) k)) (fun k => n (ix2 0 k)) (fun k => d (ix2 (y 0) k)) (y 1) : ℝ) : EReal) := by
  obtain ⟨r, l, rfl⟩ : ∃ r l, y = ix2 r l := ⟨_, _, eq_ix2 y⟩
  exact pay33_real x d n dy r l

/-- The stored block in the narrow float, halved. -/
theorem pay34_at (dy : S512x1024.Idx → EReal) (y : S512x1024.Idx) :
    k0_pay34 (F := Ideal) (fun i => (n i : EReal)) (fun i => (x i : EReal)) (fun i => (d i : EReal)) dy y
      = ((1 / 2 : ℝ) : EReal) * (dy y + ((gradRow (fun k => x (ix2 (y 0) k)) (fun k => n (ix2 0 k)) (fun k => d (ix2 (y 0) k)) (y 1) : ℝ) : EReal)) := by
  obtain ⟨r, l, rfl⟩ : ∃ r l, y = ix2 r l := ⟨_, _, eq_ix2 y⟩
  have h := pay33_real x d n dy r l
  pointwise [k0_pay34]
  rw [h, lit_half]

/-- One point's addition to the weight's gradient. -/
theorem pay1_real (a : S1x1024.Idx → EReal) (l : Fin 1024) :
    k0_pay1 (F := Ideal) (k0_pay32 (fun i => (x i : EReal)) (fun i => (d i : EReal))) a (ix2 0 l)
      = a (ix2 0 l) + ((∑ r, gradWeight (fun k => x (ix2 r k)) (fun k => d (ix2 r k)) l : ℝ) : EReal) := by
  pointwise [k0_pay1, k0_pay32, k0_pay31, k0_pay30]
  simp only [lit_1024, lit_eps, ← EReal.coe_mul, ← coe_sum, div_1024, ← EReal.coe_add, ← EReal.coe_sub, rsqrt_row]
  congr 1

theorem pay1_at (a : S1x1024.Idx → EReal) (y : S1x1024.Idx) :
    k0_pay1 (F := Ideal) (k0_pay32 (fun i => (x i : EReal)) (fun i => (d i : EReal))) a y
      = a y + ((∑ r, gradWeight (fun k => x (ix2 r k)) (fun k => d (ix2 r k)) (y 1) : ℝ) : EReal) := by
  obtain ⟨r, l, rfl⟩ : ∃ r l, y = ix2 r l := ⟨_, _, eq_ix2 y⟩
  obtain rfl : r = 0 := Subsingleton.elim _ _
  exact pay1_real x d a l

/-- The accumulators start at zero. -/
theorem pay2_at (y : S1x1024.Idx) : k0_pay2 (F := Ideal) y = 0 := by
  obtain ⟨p, q, rfl⟩ : ∃ p q, y = ix2 p q := ⟨_, _, eq_ix2 y⟩
  pointwise [k0_pay2]

theorem pay3_at (y : S8x1x1024.Idx) : k0_pay3 (F := Ideal) y = 0 := by
  obtain ⟨p, q, s, rfl⟩ : ∃ p q s, y = ix3 p q s := ⟨_, _, _, eq_ix3 y⟩
  pointwise [k0_pay3]

end Cert.PrjPay

end
-- ==== Proof.PrjValue.lean ====
/-
  The projection's input gradient: the kernel's four result arrays after the run, on finite arguments (the residual
  stream's gradient is arbitrary). The gradient's blocks tile the arrays; the norm weight's and the bias's gradients are
  accumulated over the eight points and written back after the last.
-/
module

public import proofs.«01_k».proof.Proof.PrjPay
public import Idealize.ShloMosaic.Lib.StableHlo.ReadAt

@[expose] public section

set_option maxRecDepth 16384

noncomputable section

namespace Cert.PrjValue

open Cert.PrjIdeal Cert.PrjIdeal.Gen Idealize.ShloMosaic Idealize.ShloMosaic.TcCoe Cert.Reals Cert.NormMath Cert.PrjPay

/-- The arguments: all but the residual stream's gradient are arrays of reals. -/
structure Args where
  x : S4096x1024.Idx → ℝ
  n : S1x1024.Idx → ℝ
  w : S1x1024x8192.Idx → ℝ
  dy : S4096x1024.Idx → EReal
  g : S4096x8192.Idx → ℝ

/-- A memory whose arguments are these arrays on device `c`. -/
def Args.At (A : Args) (m : (ℓ : Loc nD τ sig) → Buf (Elt Ideal) ℓ) (c : Dev nD) : Prop :=
  m ((c.tc : Thread nD τ).loc main_arg0) = (fun i => (A.x i : EReal))
  ∧ m ((c.tc : Thread nD τ).loc main_arg1) = (fun i => (A.n i : EReal))
  ∧ m ((c.tc : Thread nD τ).loc main_arg2) = (fun i => (A.w i : EReal))
  ∧ m ((c.tc : Thread nD τ).loc main_arg4) = A.dy
  ∧ m ((c.tc : Thread nD τ).loc main_arg5) = (fun i => (A.g i : EReal))

variable (m : (ℓ : Loc nD τ sig) → Buf (Elt Ideal) ℓ) (c : Dev nD) (A : Args) (hA : A.At m c)

theorem idx0 : ∀ t : Fin grid0.N, win0_0.index t = ![0, t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel

/-- Row `r` of point `t`'s block, among all the rows. -/
abbrev row (t : Fin cfg0.N) (r : Fin 512) : Fin 4096 := ⟨t.val * 512 + r.val, by have := t.isLt; have : cfg0.N = 8 := rfl; omega⟩

/-- Column `k` of segment `s`, among all the columns. -/
abbrev col (s : Fin 8) (k : Fin 1024) : Fin 8192 := ⟨s.val * 1024 + k.val, by omega⟩

/-- The column segment that a slot holds. -/
def seg : Fin 8 → Fin 8 := ![0, 1, 6, 7, 2, 3, 4, 5]

theorem seg_slot : ∀ s, seg (slot s) = s := by decide

def Args.bx (t : Fin cfg0.N) : S512x1024.Idx → ℝ := fun i => A.x (ix2 (row t (i 0)) (i 1))
def Args.bdy (t : Fin cfg0.N) : S512x1024.Idx → EReal := fun i => A.dy (ix2 (row t (i 0)) (i 1))
def Args.bg (t : Fin cfg0.N) : S8x512x1024.Idx → ℝ := fun i => A.g (ix2 (row t (i 1)) (col (seg (i 0)) (i 2)))
def Args.bw : S8192x1024.Idx → ℝ := fun i => A.w (ix3 0 ⟨(i 0).val % 1024, Nat.mod_lt _ (by decide)⟩
  (col ⟨(i 0).val / 1024, by have : (i 0).val < 8192 := (i 0).isLt; omega⟩ (i 1)))

/-- The gradient of the normed and weighted row: through the projection's weight. -/
def Args.d (r : Fin 4096) (l : Fin 1024) : ℝ := ∑ k, A.g (ix2 r k) * A.w (ix3 0 l k)

theorem at_col (r : Fin 4096) (k : Fin 1024) (s : Fin 8) (q : Fin 8192) (h : q.val = s.val * 1024 + k.val) :
    m ((c.tc : Thread nD τ).loc main_arg5) (ix2 r q) = m ((c.tc : Thread nD τ).loc main_arg5) (ix2 r (col s k)) :=
  congrArg (fun q => m ((c.tc : Thread nD τ).loc main_arg5) (ix2 r q)) (Fin.ext h)

/-- The slots hold the column segments in the step's own order. -/
theorem slots (s : Fin 8) (r : Fin 4096) (k : Fin 1024) :
    V m c main_v27 (ix3 s r k : S8x4096x1024.Idx) = m ((c.tc : Thread nD τ).loc main_arg5) (ix2 r (col (seg s) k)) := by
  unfold V
  match s with
  | 0 => after_reads_at; after_reads_at; exact at_col m c r k _ _ (Nat.zero_add _).symm
  | 1 => after_reads_at; after_reads_at; exact at_col m c r k _ _ rfl
  | 2 => after_reads_at; after_reads_at; exact at_col m c r k _ _ rfl
  | 3 => after_reads_at; after_reads_at; exact at_col m c r k _ _ rfl
  | 4 => after_reads_at; after_reads_at; exact at_col m c r k _ _ rfl
  | 5 => after_reads_at; after_reads_at; exact at_col m c r k _ _ rfl
  | 6 => after_reads_at; after_reads_at; exact at_col m c r k _ _ rfl
  | 7 => after_reads_at; after_reads_at; exact at_col m c r k _ _ rfl

/-- The weight's column segments lie one below the other. -/
theorem weight (q : Fin 8192) (k : Fin 1024) :
    V m c main_v32 (ix2 q k : S8192x1024.Idx) = m ((c.tc : Thread nD τ).loc main_arg2)
      (ix3 0 ⟨q.val % 1024, Nat.mod_lt _ (by decide)⟩ (col ⟨q.val / 1024, by omega⟩ k)) := by
  unfold V
  after_reads_at

include hA in
theorem blk0 (t : Fin cfg0.N) : iblk m c 0 t = (fun i => (A.bg t i : EReal)) := by
  funext i
  obtain ⟨s, r, k, rfl⟩ : ∃ s r k, i = ix3 s r k := ⟨_, _, _, eq_ix3 i⟩
  have e : iblk m c 0 t (ix3 s r k) = V m c main_v27 (ix3 s (row t r) k : S8x4096x1024.Idx) := by
    blk_ext [iblk, idx0 t]
  rw [e, slots, hA.2.2.2.2]; rfl

include hA in
theorem blk1 (t : Fin cfg0.N) : iblk m c 1 t = A.bdy t := by
  funext i
  have e : iblk m c 1 t i = m ((c.tc : Thread nD τ).loc main_arg4) (ix2 (row t (i 0)) (i 1)) := by
    blk_ext [iblk, V, idx1 t]
  rw [e, hA.2.2.2.1]; rfl

include hA in
theorem blk2 (t : Fin cfg0.N) : iblk m c 2 t = (fun i => (A.bx t i : EReal)) := by
  funext i
  have e : iblk m c 2 t i = m ((c.tc : Thread nD τ).loc main_arg0) (ix2 (row t (i 0)) (i 1)) := by
    blk_ext [iblk, V, idx2 t]
  rw [e, hA.1]; rfl

include hA in
theorem blk3 (t : Fin cfg0.N) : iblk m c 3 t = (fun i => (A.n i : EReal)) := by
  funext i
  have e : iblk m c 3 t i = m ((c.tc : Thread nD τ).loc main_arg1) i := by
    blk_ext [iblk, V, idx3 t]
  rw [e, hA.2.1]

include hA in
theorem blk4 (t : Fin cfg0.N) : iblk m c 4 t = (fun i => (A.bw i : EReal)) := by
  funext i
  obtain ⟨q, k, rfl⟩ : ∃ q k, i = ix2 q k := ⟨_, _, eq_ix2 i⟩
  have e : iblk m c 4 t (ix2 q k) = V m c main_v32 (ix2 q k : S8192x1024.Idx) := by
    blk_ext [iblk, idx4 t]
  rw [e, weight, hA.2.2.1]; rfl

/-- The column segments are all the columns. -/
theorem sum_cols (f : Fin 8192 → ℝ) : ∑ s : Fin 8, ∑ k : Fin 1024, f (col s k) = ∑ k, f k :=
  Fin.sum_mul_add_fin 8 1024 f

include hA in
/-- The accumulator of point `t`. -/
theorem acc_eq (t : Fin cfg0.N) : nest (iblk m c 0 t) (iblk m c 4 t)
    = (fun i => (A.d (row t (i 0)) (i 1) : EReal)) := by
  rw [blk0 m c A hA, blk4 m c A hA]
  funext i
  obtain ⟨r, l, rfl⟩ : ∃ r l, i = ix2 r l := ⟨_, _, eq_ix2 i⟩
  refine (nest_at _ _ r l).trans ?_
  simp only [← EReal.coe_mul, ← coe_sum]
  refine congrArg _ ((Finset.sum_congr rfl fun s _ => Finset.sum_congr rfl fun k _ => ?_).trans
    (sum_cols fun k => A.g (ix2 (row t r) k) * A.w (ix3 0 l k)))
  have e0 : (⟨(s.val * 1024 + l.val) % 1024, Nat.mod_lt _ (by decide)⟩ : Fin 1024) = l := Fin.ext (by show (s.val * 1024 + l.val) % 1024 = l.val; omega)
  have e1 : (⟨(s.val * 1024 + l.val) / 1024, by omega⟩ : Fin 8) = s := Fin.ext (by show (s.val * 1024 + l.val) / 1024 = s.val; omega)
  change A.g (ix2 (row t r) (col (seg (slot s)) k)) * A.w (ix3 0 ⟨(s.val * 1024 + l.val) % 1024, _⟩ (col ⟨(s.val * 1024 + l.val) / 1024, _⟩ k)) = _
  rw [seg_slot, e0, e1]

/-- Where point `t`'s blocks of the gradient lie. -/
theorem emb5_0 (t : Fin cfg0.N) (y : S512x1024.Idx) : (win0_5.blk t).view.emb y 0 = row t (y 0) :=
  Fin.ext (by blk_simp [idx5 t])
theorem emb5_1 (t : Fin cfg0.N) (y : S512x1024.Idx) : (win0_5.blk t).view.emb y 1 = y 1 :=
  Fin.ext (by blk_simp [idx5 t])
theorem emb6_0 (t : Fin cfg0.N) (y : S512x1024.Idx) : (win0_6.blk t).view.emb y 0 = row t (y 0) :=
  Fin.ext (by blk_simp [idx6 t])
theorem emb6_1 (t : Fin cfg0.N) (y : S512x1024.Idx) : (win0_6.blk t).view.emb y 1 = y 1 :=
  Fin.ext (by blk_simp [idx6 t])

/-- What point `t` stores in the gradient's blocks. -/
theorem after5 (t : Fin cfg0.N) : (outsAt0 m c t.val t.isLt).1
    = k0_pay33 (iblk m c 3 t) (iblk m c 2 t) (nest (iblk m c 0 t) (iblk m c 4 t)) (iblk m c 1 t) := by
  by_cases h : t.val % 8 = 0
  · rw [outsAt0_A m c t h]; frame_out; rfl
  · rw [outsAt0_B m c t h]; frame_out; rfl

theorem after6 (t : Fin cfg0.N) : (outsAt0 m c t.val t.isLt).2.1
    = k0_pay34 (iblk m c 3 t) (iblk m c 2 t) (nest (iblk m c 0 t) (iblk m c 4 t)) (iblk m c 1 t) := by
  by_cases h : t.val % 8 = 0
  · rw [outsAt0_A m c t h]; frame_out; rfl
  · rw [outsAt0_B m c t h]; frame_out; rfl

/-- Row `r` of the arguments. -/
abbrev Args.rowX (r : Fin 4096) : Fin 1024 → ℝ := fun k => A.x (ix2 r k)
abbrev Args.rowN : Fin 1024 → ℝ := fun k => A.n (ix2 0 k)

include hA in
/-- The gradient. -/
theorem out5 : (dats m 0 c).arrAt 5 cfg0.N
    = fun i : S4096x1024.Idx => A.dy (ix2 (i 0) (i 1)) + ((gradRow (A.rowX (i 0)) A.rowN (A.d (i 0)) (i 1) : ℝ) : EReal) := by
  refine (dats m 0 c).arrAt_eq_of_covers 5 _ (by decide +kernel) fun t hf y => ?_
  blk_simp
  change (outsAt0 m c t.val t.isLt).1 y = _
  rw [after5, acc_eq m c A hA, blk1 m c A hA, blk2 m c A hA, blk3 m c A hA]
  refine (pay33_at (A.bx t) (fun i => A.d (row t (i 0)) (i 1)) A.n (A.bdy t) y).trans ?_
  rw [emb5_0, emb5_1]
  rfl

include hA in
/-- The gradient in the narrow float, halved. -/
theorem out6 : (dats m 0 c).arrAt 6 cfg0.N
    = fun i : S4096x1024.Idx => ((1 / 2 : ℝ) : EReal)
      * (A.dy (ix2 (i 0) (i 1)) + ((gradRow (A.rowX (i 0)) A.rowN (A.d (i 0)) (i 1) : ℝ) : EReal)) := by
  refine (dats m 0 c).arrAt_eq_of_covers 6 _ (by decide +kernel) fun t hf y => ?_
  blk_simp
  change (outsAt0 m c t.val t.isLt).2.1 y = _
  rw [after6, acc_eq m c A hA, blk1 m c A hA, blk2 m c A hA, blk3 m c A hA]
  refine (pay34_at (A.bx t) (fun i => A.d (row t (i 0)) (i 1)) A.n (A.bdy t) y).trans ?_
  rw [emb6_0, emb6_1]
  rfl

/-- What the accumulators' staging buffers hold after point `t`. -/
theorem stage7 (t : Fin cfg0.N) : (dats m 0 c).after 7 t = (outsAt0 m c t.val t.isLt).2.2.1 := rfl
theorem stage8 (t : Fin cfg0.N) : (dats m 0 c).after 8 t = (outsAt0 m c t.val t.isLt).2.2.2 := rfl

/-- The eight points' rows are all the rows. -/
theorem sum_rows (g : Fin 4096 → ℝ) : ∑ t : Fin cfg0.N, ∑ r : Fin 512, g (row t r) = ∑ r, g r :=
  Fin.sum_mul_add_fin 8 512 g

/-- One point's additions, at a point that resets and at one that does not. -/
theorem stepA7 (t : Fin cfg0.N) (h : t.val % 8 = 0) : (outsAt0 m c t.val t.isLt).2.2.1
    = k0_pay1 (k0_pay32 (iblk m c 2 t) (nest (iblk m c 0 t) (iblk m c 4 t))) (k0_pay2 (F := Ideal)) := by
  rw [outsAt0_A m c t h]; frame_out; rfl

theorem stepB7 (t : Fin cfg0.N) (h : ¬t.val % 8 = 0) : (outsAt0 m c t.val t.isLt).2.2.1
    = k0_pay1 (k0_pay32 (iblk m c 2 t) (nest (iblk m c 0 t) (iblk m c 4 t)))
      (outsAt0 m c (t.val - 1) (Nat.lt_of_le_of_lt (Nat.sub_le _ _) t.isLt)).2.2.1 := by
  rw [outsAt0_B m c t h]; frame_out; rfl

theorem stepA8 (t : Fin cfg0.N) (h : t.val % 8 = 0) : (outsAt0 m c t.val t.isLt).2.2.2
    = View.canon (biasPieces (iblk m c 0 t) (k0_pay3 (F := Ideal)) ++ [⟨Rect.unit ![0, 0, 0] ![8, 1, 1024] inb_S8x1x1024_S8x1x1024_0_0_0, k0_pay3 (F := Ideal)⟩]) := by
  rw [outsAt0_A m c t h]; frame_out
  simp (disch := decide) only [↓ View.readCov_skip, ↓ View.readCov_cons_toLoadRect, ↓ View.readCov_fill]
  rfl

theorem stepB8 (t : Fin cfg0.N) (h : ¬t.val % 8 = 0) : (outsAt0 m c t.val t.isLt).2.2.2
    = View.canon (biasPieces (iblk m c 0 t) (outsAt0 m c (t.val - 1) (Nat.lt_of_le_of_lt (Nat.sub_le _ _) t.isLt)).2.2.2 ++ []) := by
  rw [outsAt0_B m c t h]; frame_out; rfl

include hA in
/-- The weight's gradient, as it is summed over the points. -/
theorem acc7 (j : S1x1024.Idx) : (outsAt0 m c t0_7.val t0_7.isLt).2.2.1 j
    = 0 + ∑ t : Fin cfg0.N, ((∑ r, gradWeight (A.rowX (row t r)) (A.d (row t r)) (j 1) : ℝ) : EReal) := by
  refine Pipeline.eq_sum_fin_of_reset_step_apply_last (fun n h => (outsAt0 m c n h).2.2.1) 8 (fun _ => 0)
    (fun t j => ((∑ r, gradWeight (A.rowX (row t r)) (A.d (row t r)) (j 1) : ℝ) : EReal))
    (fun t h j => ?_) (fun t h j => ?_) (by decide) t0_7 rfl j
  · refine (congrFun (stepA7 m c t h) j).trans ?_
    rw [acc_eq m c A hA, blk2 m c A hA]
    refine (pay1_at (A.bx t) (fun i => A.d (row t (i 0)) (i 1)) _ j).trans ?_
    rw [pay2_at]; rfl
  · refine (congrFun (stepB7 m c t h) j).trans ?_
    rw [acc_eq m c A hA, blk2 m c A hA]
    exact pay1_at (A.bx t) (fun i => A.d (row t (i 0)) (i 1)) _ j

include hA in
/-- The bias's gradient, as it is summed over the points. -/
theorem acc8 (j : S8x1x1024.Idx) : (outsAt0 m c t0_7.val t0_7.isLt).2.2.2 j
    = 0 + ∑ t : Fin cfg0.N, ((∑ r, A.g (ix2 (row t r) (col (j 0) (j 2))) : ℝ) : EReal) := by
  refine Pipeline.eq_sum_fin_of_reset_step_apply_last (fun n h => (outsAt0 m c n h).2.2.2) 8 (fun _ => 0)
    (fun t j => ((∑ r, A.g (ix2 (row t r) (col (j 0) (j 2))) : ℝ) : EReal))
    (fun t h j => ?_) (fun t h j => ?_) (by decide) t0_7 rfl j
  all_goals
    obtain ⟨s, z, l, rfl⟩ : ∃ s z l, j = ix3 s z l := ⟨_, _, _, eq_ix3 j⟩
    obtain rfl : z = 0 := Subsingleton.elim _ _
  · refine (congrFun (stepA8 m c t h) _).trans ?_
    rw [blk0 m c A hA]
    refine (bias_at _ _ _ s l).trans (congrArg₂ (· + ·) (pay3_at _) ?_)
    simp only [← coe_sum]
    refine congrArg _ (Finset.sum_congr rfl fun r _ => ?_)
    change A.g (ix2 (row t r) (col (seg (slot s)) l)) = _
    rw [seg_slot]; rfl
  · refine (congrFun (stepB8 m c t h) _).trans ?_
    rw [blk0 m c A hA]
    refine (bias_at _ _ _ s l).trans (congrArg₂ (· + ·) rfl ?_)
    simp only [← coe_sum]
    refine congrArg _ (Finset.sum_congr rfl fun r _ => ?_)
    change A.g (ix2 (row t r) (col (seg (slot s)) l)) = _
    rw [seg_slot]; rfl

include hA in
/-- The weight's gradient. -/
theorem out7 : (dats m 0 c).arrAt 7 cfg0.N
    = fun i : S1x1024.Idx => ((∑ r, gradWeight (A.rowX r) (A.d r) (i 1) : ℝ) : EReal) := by
  refine (dats m 0 c).arrAt_eq_of_after_last 7 t0_7 (by decide +kernel) _ fun j => ?_
  blk_simp
  rw [stage7, acc7 m c A hA, ← coe_sum, zero_add]
  exact congrArg _ (sum_rows fun r => gradWeight (A.rowX r) (A.d r) (j 1))

/-- The bias's gradient. -/
def Args.bias : S8x1x1024.Idx → EReal := fun i => ((∑ r, A.g (ix2 r (col (i 0) (i 2))) : ℝ) : EReal)

include hA in
theorem acc8_eq (j : S8x1x1024.Idx) : (outsAt0 m c t0_7.val t0_7.isLt).2.2.2 j = A.bias j := by
  have h := acc8 m c A hA j
  rw [← coe_sum, zero_add, sum_rows fun r => A.g (ix2 r (col (j 0) (j 2)))] at h
  exact h

include hA in
theorem stage8_eq (j : S8x1x1024.Idx) : (dats m 0 c).after 8 t0_7 j = A.bias j :=
  (congrFun (stage8 m c t0_7) j).trans (acc8_eq m c A hA j)

include hA in
theorem out8 : (dats m 0 c).arrAt 8 cfg0.N = A.bias := by
  refine (dats m 0 c).arrAt_eq_of_after_last 8 t0_7 (by decide +kernel) _ fun j => ?_
  blk_simp
  exact stage8_eq m c A hA j

end Cert.PrjValue

end
-- ==== Proof.PrjRef.lean ====
/-
  The reference's results for the projection's input gradient on arrays of reals (the residual stream's gradient
  is arbitrary): each is a row function of `NormMath`.
-/
module

public import proofs.«01_k».proof.Proof.Gen.PrjRefIdeal.Read
public import proofs.«01_k».proof.Proof.NormMath
public import Idealize.ShloMosaic.Lib.Pipeline.ValueKit

@[expose] public section

set_option maxRecDepth 16384

noncomputable section

namespace Cert.PrjRef

open Cert.PrjRefIdeal Cert.PrjRefIdeal.Read Idealize.ShloMosaic Cert.Reals Cert.NormMath

variable (x : S4096x1024.Idx → ℝ) (n : S1x1024.Idx → ℝ) (w : S1x1024x8192.Idx → ℝ) (dy : S4096x1024.Idx → EReal) (g : S4096x8192.Idx → ℝ)

theorem v7_real (r : Fin 4096) (z : Fin 1) :
    val_main_v7 (F := Ideal) (fun i => (x i : EReal)) (ix2 r z) = ((meanSq (fun k => x (ix2 r k)) : ℝ) : EReal) := by
  pointwise [val_main_v7, val_main_v6, val_main_v5, val_main_v4, val_main_v3, val_main_v2, val_main_v1, val_main_cst, val_main_cst_0, val_main_cst_1]
  simp only [lit_1024, lit_eps, ← EReal.coe_mul, ← coe_sum, div_1024, ← EReal.coe_add]
  congr 1

theorem v8_real (r : Fin 4096) (z : Fin 1) :
    val_main_v8 (F := Ideal) (fun i => (x i : EReal)) (ix2 r z) = ((rms (fun k => x (ix2 r k)) : ℝ) : EReal) := by
  pointwise [val_main_v8]
  rw [v7_real, rsqrt_meanSq]

/-- The derivative of the reciprocal root. -/
theorem v11_real (r : Fin 4096) (z : Fin 1) :
    val_main_v11 (F := Ideal) (fun i => (x i : EReal)) (ix2 r z)
      = ((-1 / 2 * (rms (fun k => x (ix2 r k)) / meanSq (fun k => x (ix2 r k))) : ℝ) : EReal) := by
  pointwise [val_main_v11, val_main_v10, val_main_v9, val_main_cst_2]
  rw [v8_real, v7_real, div_real (meanSq_pos _).ne', lit_neg_half, ← EReal.coe_mul]

theorem v13_real (r : Fin 4096) (l : Fin 1024) :
    val_main_v13 (F := Ideal) (fun i => (x i : EReal)) (ix2 r l)
      = ((x (ix2 r l) * rms (fun k => x (ix2 r k)) : ℝ) : EReal) := by
  pointwise [val_main_v13, val_main_v12]
  rw [v8_real, ← EReal.coe_mul]

/-- The gradient of the normed and weighted row: through the projection's weight. -/
def d (r : Fin 4096) (l : Fin 1024) : ℝ := ∑ k, g (ix2 r k) * w (ix3 0 l k)

theorem v28_real (r : Fin 4096) (l : Fin 1024) :
    val_main_v28 (F := Ideal) (fun i => (w i : EReal)) (fun i => (g i : EReal)) (ix2 r l) = ((d w g r l : ℝ) : EReal) := by
  pointwise [val_main_v28, val_main_v23, val_main_v17]
  simp only [← EReal.coe_mul, ← coe_sum, ← EReal.coe_add]
  rfl

theorem v33_real (r : Fin 4096) (l : Fin 1024) :
    val_main_v33 (F := Ideal) (fun i => (n i : EReal)) (fun i => (w i : EReal)) (fun i => (g i : EReal)) (ix2 r l) = ((d w g r l * n (ix2 0 l) : ℝ) : EReal) := by
  pointwise [val_main_v33, val_main_v32, val_main_v14, val_main_v0]
  rw [v28_real, ← EReal.coe_mul]

/-- The gradient of the row. -/
theorem v49_real (r : Fin 4096) (l : Fin 1024) :
    val_main_v49 (F := Ideal) (fun i => (x i : EReal)) (fun i => (n i : EReal)) (fun i => (w i : EReal)) dy (fun i => (g i : EReal)) (ix2 r l)
      = dy (ix2 r l) + ((gradRow (fun k => x (ix2 r k)) (fun k => n (ix2 0 k)) (d w g r) l : ℝ) : EReal) := by
  pointwise [val_main_v49, val_main_v48, val_main_v47, val_main_v46, val_main_v45, val_main_v44, val_main_v43, val_main_v42,
    val_main_v41, val_main_v40, val_main_v39, val_main_v38, val_main_v37, val_main_v36, val_main_v35, val_main_cst, val_main_cst_0, val_main_cst_1, val_main_cst_10, val_main_cst_2, val_main_cst_3, val_main_cst_4, val_main_cst_5, val_main_cst_6, val_main_cst_7, val_main_cst_8, val_main_cst_9]
  simp only [v33_real, v11_real, v8_real, lit_1024, ← EReal.coe_mul, ← coe_sum, div_1024, ← EReal.coe_add, Fin.sum_univ_one]
  rw [add_assoc, add_assoc, ← EReal.coe_add, ← EReal.coe_add, ← add_assoc, ← gradRow_eq]

/-- The gradient in the narrow float, halved. -/
theorem v53_real (r : Fin 4096) (l : Fin 1024) :
    val_main_v53 (F := Ideal) (fun i => (x i : EReal)) (fun i => (n i : EReal)) (fun i => (w i : EReal)) dy (fun i => (g i : EReal)) (ix2 r l)
      = ((1 / 2 : ℝ) : EReal) * (dy (ix2 r l) + ((gradRow (fun k => x (ix2 r k)) (fun k => n (ix2 0 k)) (d w g r) l : ℝ) : EReal)) := by
  pointwise [val_main_v53, val_main_v52, val_main_v51, val_main_cst, val_main_cst_0, val_main_cst_1, val_main_cst_10, val_main_cst_2, val_main_cst_3, val_main_cst_4, val_main_cst_5, val_main_cst_6, val_main_cst_7, val_main_cst_8, val_main_cst_9]
  rw [v49_real, lit_half]

/-- The gradient of the norm's weight. -/
theorem v50_real (z : Fin 1) (l : Fin 1024) :
    val_main_v50 (F := Ideal) (fun i => (x i : EReal)) (fun i => (w i : EReal)) (fun i => (g i : EReal)) (ix2 z l)
      = ((∑ r : Fin 4096, gradWeight (fun k => x (ix2 r k)) (d w g r) l : ℝ) : EReal) := by
  pointwise [val_main_v50, val_main_v34, val_main_v31, val_main_v30, val_main_v29, val_main_cst, val_main_cst_0, val_main_cst_1, val_main_cst_10, val_main_cst_2, val_main_cst_3, val_main_cst_4, val_main_cst_5, val_main_cst_6, val_main_cst_7, val_main_cst_8, val_main_cst_9]
  simp only [v28_real, v13_real, ← EReal.coe_mul, ← coe_sum, ← EReal.coe_add, Fin.sum_univ_one]
  congr 1
  refine Finset.sum_congr rfl fun r _ => ?_
  unfold gradWeight
  ring

/-- The bias's gradient. -/
theorem v54_real (s : Fin 8) (z : Fin 1) (l : Fin 1024) :
    val_main_v54 (F := Ideal) (fun i => (g i : EReal)) (ix3 s z l)
      = ((∑ r : Fin 4096, g (ix2 r ⟨s.val * 1024 + l.val, by omega⟩) : ℝ) : EReal) := by
  pointwise [val_main_v54, val_main_v27, val_main_v26, val_main_v25, val_main_v24, val_main_cst, val_main_cst_0, val_main_cst_1, val_main_cst_10, val_main_cst_2, val_main_cst_3, val_main_cst_4, val_main_cst_5, val_main_cst_6, val_main_cst_7, val_main_cst_8, val_main_cst_9]
  simp only [← EReal.coe_mul, ← coe_sum, ← EReal.coe_add, Fin.sum_univ_one]

end Cert.PrjRef

end
-- ==== Proof.PrjClaim.lean ====
/-
  The claims of the projection's input gradient: the frames, and the value claim that joins the kernel's four
  arrays to the reference's.
-/
module

public import proofs.«01_k».proof.Defs
public import proofs.«01_k».proof.Proof.PrjValue
public import proofs.«01_k».proof.Proof.PrjRef
public import Idealize.ShloMosaic.Lib.Pointwise.Select
public import Idealize.ShloMosaic.Lib.Claim
public import Idealize.ShloMosaic.Lib.Quiescent

@[expose] public section

set_option maxRecDepth 16384

noncomputable section

namespace Cert.PrjClaim

open Idealize.ShloMosaic Idealize.ShloMosaic.TcCoe Idealize.SL.Sem Cert.Reals Cert.NormMath

/-- The predicate's shape relations. -/
theorem preFacts : Cert.Pre_finite7.Facts := ⟨by decide, by decide, by decide, by decide⟩

instance : Cert.Pre_finite7.Facts := preFacts

/-- The reference leaves its arguments and the counters. -/
theorem frame_ref : Cert.quiescent_PrjRefIdeal := fun m ρ _ =>
  (θ_run Cert.PrjRefIdeal.defs _ _).mono (fun r h => ⟨fun c => (h c).2.2.2.2, sem_eq_zero_of_no_sems (by decide) r.2⟩)
    (Cert.PrjRefIdeal.Value.run (F := Ideal) m ρ)

/-- Finite arguments are arrays of reals. -/
theorem exists_args (m : (ℓ : Loc Cert.PrjIdeal.nD Cert.PrjIdeal.τ Cert.PrjIdeal.sig) → Buf (Elt Ideal) ℓ)
    (h : Cert.Pre_PrjIdeal_finite7 m) (c : Dev Cert.PrjIdeal.nD) : ∃ A : Cert.PrjValue.Args, A.At m c := by
  obtain ⟨h0, h1, h2, h5⟩ := h c
  have r0 := exists_real (x := m ((c.tc : Thread Cert.PrjIdeal.nD Cert.PrjIdeal.τ).loc Cert.PrjIdeal.main_arg0)) fun i => by
    rw [← lit_inf]
    exact (Ideal.cmp_olt_eq_one _ _).mp (congrFun h0 i)
  have r1 := exists_real (x := m ((c.tc : Thread Cert.PrjIdeal.nD Cert.PrjIdeal.τ).loc Cert.PrjIdeal.main_arg1)) fun i => by
    rw [← lit_inf]
    exact (Ideal.cmp_olt_eq_one _ _).mp (congrFun h1 i)
  have r2 := exists_real (x := m ((c.tc : Thread Cert.PrjIdeal.nD Cert.PrjIdeal.τ).loc Cert.PrjIdeal.main_arg2)) fun i => by
    rw [← lit_inf]
    exact (Ideal.cmp_olt_eq_one _ _).mp (congrFun h2 i)
  have r5 := exists_real (x := m ((c.tc : Thread Cert.PrjIdeal.nD Cert.PrjIdeal.τ).loc Cert.PrjIdeal.main_arg5)) fun i => by
    rw [← lit_inf]
    exact (Ideal.cmp_olt_eq_one _ _).mp (congrFun h5 i)
  obtain ⟨X, hX⟩ := r0
  obtain ⟨N, hN⟩ := r1
  obtain ⟨W, hW⟩ := r2
  obtain ⟨G, hG⟩ := r5
  exact ⟨⟨X, N, W, _, G⟩, hX, hN, hW, rfl, hG⟩

/-- The kernel's arrays are the reference's. -/
theorem algebraic : Cert.algebraic_PrjIdeal_PrjRefIdeal_pre_finite7 := by
  intro m g m' g' hpre hagree
  choose A hA using exists_args m hpre
  refine ⟨_, _, _, _, Cert.PrjIdeal.Value.run_blocks m g, ?_⟩
  refine (θ_run Cert.PrjRefIdeal.defs _ _).mono (fun r h c => ?_) (Cert.PrjRefIdeal.Value.run m' g')
  obtain ⟨h49, h53, h50, h54, hk⟩ := h c
  obtain ⟨a0, a1, a2, a3, a4, a5⟩ := hagree c
  obtain ⟨b0, b1, b2, b4, b5⟩ := hA c
  have A0 := a0.trans b0
  have A1 := a1.trans b1
  have A2 := a2.trans b2
  have A4 := a4.trans b4
  have A5 := a5.trans b5
  refine ⟨?_, ?_, ?_, ?_, hk⟩
  · rw [h49, PrjValue.out5 m c (A c) (hA c), Cert.PrjRefIdeal.Read.val_main_v49_eq, A0, A1, A2, A4, A5]
    funext i
    obtain ⟨p, q, rfl⟩ : ∃ p q, i = ix2 p q := ⟨_, _, eq_ix2 i⟩
    exact PrjRef.v49_real _ _ _ _ _ p q
  · rw [h53, PrjValue.out6 m c (A c) (hA c), Cert.PrjRefIdeal.Read.val_main_v53_eq, A0, A1, A2, A4, A5]
    funext i
    obtain ⟨p, q, rfl⟩ : ∃ p q, i = ix2 p q := ⟨_, _, eq_ix2 i⟩
    exact PrjRef.v53_real _ _ _ _ _ p q
  · refine h50.trans ((Cert.PrjRefIdeal.Read.val_main_v50_eq _ _ _).trans ?_)
    rw [PrjValue.out7 m c (A c) (hA c), A0, A2, A5]
    funext i
    obtain ⟨p, q, rfl⟩ : ∃ p q, i = ix2 p q := ⟨_, _, eq_ix2 i⟩
    exact PrjRef.v50_real _ _ _ p q
  · refine h54.trans ((Cert.PrjRefIdeal.Read.val_main_v54_eq _).trans ?_)
    rw [PrjValue.out8 m c (A c) (hA c), A5]
    funext i
    obtain ⟨s, z, l, rfl⟩ : ∃ s z l, i = ix3 s z l := ⟨_, _, _, eq_ix3 i⟩
    exact PrjRef.v54_real _ s z l

end Cert.PrjClaim

end
-- ==== Proof.SgfMath.lean ====
/-
  The gating unit forward: its value, by row and lane, over the extended reals.
-/
module

public import Idealize.ShloMosaic.Lib.Pipeline.ValueKit

@[expose] public section

noncomputable section

namespace Cert.SgfMath

open Idealize.ShloMosaic

/-- The unit's arguments: the two projected halves, the norm's weight and bias, the groups' matrices and biases. -/
structure Fwd where
  pu : ℕ → ℕ → EReal
  pv : ℕ → ℕ → EReal
  gn : ℕ → EReal
  bn : ℕ → EReal
  w : ℕ → ℕ → ℕ → EReal
  b : ℕ → ℕ → EReal

/-- The gate function `x Φ(x)`, with the two programs' constants. -/
def gelu (x : EReal) : EReal :=
  Ideal.ofBits .f32 0x3F000000#32 * x * (1 + Ideal.erf (x * Ideal.ofBits .f32 0x3F3504F3#32))

/-- A row's mean. -/
def mean (f : ℕ → EReal) : EReal := Ideal.div (∑ k : Fin 1024, f k) (Ideal.ofBits .f32 0x44800000#32)

namespace Fwd

variable (D : Fwd)

def ua (R l : ℕ) : EReal := gelu (D.pu R l)
def va (R l : ℕ) : EReal := gelu (D.pv R l)
def xc (R l : ℕ) : EReal := D.va R l - mean (D.va R)
def rstd (R : ℕ) : EReal := Ideal.rsqrt (mean (fun k => D.xc R k * D.xc R k) + Ideal.ofBits .f32 0x358637BD#32)
def vn (R l : ℕ) : EReal := D.xc R l * D.rstd R * D.gn l + D.bn l

/-- The gate mixes the rows of a chunk of 128, by the matrix of the lane's group. -/
def gate (R l : ℕ) : EReal := (∑ k : Fin 128, D.w (l / 256) (R % 128) k * D.vn (R / 128 * 128 + k) l) + D.b (l / 256) (R % 128)

def out (R l : ℕ) : EReal := D.ua R l * D.gate R l

end Fwd

/-- An array read at naturals. -/
def at1 {n : ℕ} (f : Fin n → EReal) (i : ℕ) : EReal := if h : i < n then f ⟨i, h⟩ else 0
def at2 {n k : ℕ} (f : Fin n → Fin k → EReal) (i j : ℕ) : EReal := if h : i < n then at1 (f ⟨i, h⟩) j else 0
def at3 {n k l : ℕ} (f : Fin n → Fin k → Fin l → EReal) (i j p : ℕ) : EReal := if h : i < n then at2 (f ⟨i, h⟩) j p else 0

theorem at1_val {n : ℕ} (f : Fin n → EReal) (i : Fin n) : at1 f i = f i := dif_pos i.isLt
theorem at2_val {n k : ℕ} (f : Fin n → Fin k → EReal) (i : Fin n) (j : Fin k) : at2 f i j = f i j := (dif_pos i.isLt).trans (at1_val _ j)
theorem at3_val {n k l : ℕ} (f : Fin n → Fin k → Fin l → EReal) (i : Fin n) (j : Fin k) (p : Fin l) : at3 f i j p = f i j p :=
  (dif_pos i.isLt).trans (at2_val _ j p)

end Cert.SgfMath

end
-- ==== Proof.SgfPay.lean ====
/-
  The gating unit forward: the payloads on the block of rows that starts at row `o`, and the output block they leave.
-/
module

public import proofs.«01_k».proof.Proof.SgfMath
public import proofs.«01_k».proof.Proof.Gen.SguFwdIdeal.Frame

@[expose] public section

set_option maxRecDepth 16384

noncomputable section

namespace Cert.SgfPay

open Cert.SguFwdIdeal Cert.SguFwdIdeal.Gen Idealize.ShloMosaic Cert.SgfMath

/-- The rows `o …` of an array, and the same under a unit axis. -/
def blk (o : ℕ) (f : ℕ → ℕ → EReal) : S512x1024.Idx → EReal := fun y => f (o + (y 0).val) (y 1).val
def blk1 (o : ℕ) (f : ℕ → ℕ → EReal) : S1x512x1024.Idx → EReal := fun y => f (o + (y 1).val) (y 2).val

/-- One number per row. -/
def col (o : ℕ) (f : ℕ → EReal) : S512x1.Idx → EReal := fun y => f (o + (y 0).val)

/-- A row of weights. -/
def row (f : ℕ → EReal) : S1x1024.Idx → EReal := fun y => f (y 1).val

/-- One group's matrix, and one group's bias. -/
def mat1 (f : ℕ → ℕ → EReal) : S1x128x128.Idx → EReal := fun y => f (y 1).val (y 2).val
def col1 (f : ℕ → EReal) : S1x128x1.Idx → EReal := fun y => f (y 1).val

variable (o : ℕ) (D : Fwd)

theorem pay2_eq : k0_pay2 (F := Ideal) (blk1 o D.pu) = blk o D.ua := by
  funext y
  obtain ⟨r, l, rfl⟩ : ∃ r l, y = ix2 r l := ⟨_, _, eq_ix2 y⟩
  pointwise [k0_pay2]
  rfl

theorem pay3_eq : k0_pay3 (F := Ideal) (blk1 o D.pv) = blk o D.xc := by
  funext y
  obtain ⟨r, l, rfl⟩ : ∃ r l, y = ix2 r l := ⟨_, _, eq_ix2 y⟩
  pointwise [k0_pay3]
  rfl

theorem pay4_eq : k0_pay4 (F := Ideal) (blk1 o D.pv) = col o D.rstd := by
  funext y
  obtain ⟨r, l, rfl⟩ : ∃ r l, y = ix2 r l := ⟨_, _, eq_ix2 y⟩
  unfold k0_pay4
  rw [pay3_eq]
  pointwise
  rfl

theorem pay5_eq : k0_pay5 (F := Ideal) (row D.gn) (row D.bn) (blk o D.xc) (col o D.rstd) = blk o D.vn := by
  funext y
  obtain ⟨r, l, rfl⟩ : ∃ r l, y = ix2 r l := ⟨_, _, eq_ix2 y⟩
  pointwise [k0_pay5]
  rfl

/-- A group's matrix against a tile. -/
theorem mix_at (f d : ℕ → ℕ → EReal) (a b : ℕ) (hs : Shape.Slices S512x1024 ![a, b] S128x256) (x : S128x256.Idx) :
    matmul (F := Ideal) (φ₁ := .bf16) (φ₂ := .bf16) dot_S128x128_S128x256_S128x256_1_0_0_1_n_n none
        (shapeCast S128x128 (mat1 f) shapeCasts_S1x128x128_S128x128)
        (extractStridedSlice S128x256 ![a, b] (blk o d) hs) (constant S128x256 .f32 0x00000000#32) x
      = ∑ k : Fin 128, f (x 0).val k * d (o + (a + k)) (b + (x 1).val) := by
  obtain ⟨r, l, rfl⟩ : ∃ r l, x = ix2 r l := ⟨_, _, eq_ix2 x⟩
  pointwise []
  rfl

/-- One tile of the output: a chunk's rows, a group's lanes. -/
theorem tile (ho : o % 128 = 0) (a b g : ℕ) (ha : a % 128 = 0) (hg : b = 256 * g) (hs hs' : Shape.Slices S512x1024 ![a, b] S128x256) (inb)
    (x : S128x256.Idx) :
    truncf (F := Ideal) (φ := .f32) .bf16 (mulf (F := Ideal) (φ := .f32) (extractStridedSlice S128x256 ![a, b] (blk o D.ua) hs)
        (addf (F := Ideal) (φ := .f32) (matmul (F := Ideal) (φ₁ := .bf16) (φ₂ := .bf16) dot_S128x128_S128x256_S128x256_1_0_0_1_n_n none
          (shapeCast S128x128 (mat1 (D.w g)) shapeCasts_S1x128x128_S128x128)
          (extractStridedSlice S128x256 ![a, b] (blk o D.vn) hs') (constant S128x256 .f32 0x00000000#32))
        (broadcastTo S128x256 (shapeCast S128x1 (col1 (D.b g)) shapeCasts_S1x128x1_S128x1) broadcasts_S128x1_S128x256))) bitsLt_bf16_f32 x
      = blk o D.out ((Rect.unit (s := S512x1024) ![a, b] ![128, 256] inb).emb x) := by
  obtain ⟨p, q, rfl⟩ : ∃ p q, x = ix2 p q := ⟨_, _, eq_ix2 x⟩
  have e0 : ((Rect.unit (s := S512x1024) ![a, b] ![128, 256] inb).emb (ix2 p q) 0).val = a + p.val := Rect.idx_unit_val _ _ inb _ 0
  have e1 : ((Rect.unit (s := S512x1024) ![a, b] ![128, 256] inb).emb (ix2 p q) 1).val = b + q.val := Rect.idx_unit_val _ _ inb _ 1
  rw [truncf_apply, mulf_apply, addf_apply, mix_at]
  pointwise [col1]
  have hp := p.isLt
  have hq := q.isLt
  unfold blk
  rw [e0, e1]
  change D.ua (o + (a + p.val)) (b + q.val) * ((∑ k : Fin 128, D.w g p k * D.vn (o + (a + k)) (b + q)) + D.b g p)
    = D.ua (o + (a + p.val)) (b + q.val) * ((∑ k : Fin 128, D.w ((b + q) / 256) ((o + (a + p)) % 128) k * D.vn ((o + (a + p)) / 128 * 128 + k) (b + q))
      + D.b ((b + q) / 256) ((o + (a + p)) % 128))
  rw [show (b + (q : ℕ)) / 256 = g by omega, show (o + (a + (p : ℕ))) % 128 = p by omega,
    show (o + (a + (p : ℕ))) / 128 * 128 = o + a by omega]
  simp only [Nat.add_assoc]

/-- The output block of a point whose loads are these. -/
theorem out_eq (ho : o % 128 = 0) (x0 : Vec Ideal S2x512x1024 .bf16) (x1 x2 : Vec Ideal S1x1024 .f32) (x3 : Vec Ideal S4x128x128 .bf16)
    (x4 : Vec Ideal S4x128x1 .f32) (hu : View.ld x0 r0_0 = blk1 o D.pu) (hv : View.ld x0 r0_1 = blk1 o D.pv)
    (hg : View.ld x1 r0_2 = row D.gn) (hb : View.ld x2 r0_2 = row D.bn)
    (w0 : View.ld x3 r0_3 = mat1 (D.w 0)) (w1 : View.ld x3 r0_6 = mat1 (D.w 1)) (w2 : View.ld x3 r0_9 = mat1 (D.w 2)) (w3 : View.ld x3 r0_12 = mat1 (D.w 3))
    (b0 : View.ld x4 r0_4 = col1 (D.b 0)) (b1 : View.ld x4 r0_7 = col1 (D.b 1)) (b2 : View.ld x4 r0_10 = col1 (D.b 2)) (b3 : View.ld x4 r0_13 = col1 (D.b 3)) :
    out0_5 (F := Ideal) x0 x1 x2 x3 x4 = blk o D.out := by
  unfold_out out0_5
  rw [hu, hv, hg, hb, w0, w1, w2, w3, b0, b1, b2, b3, pay2_eq, pay3_eq, pay4_eq]
  unfold k0_pay6 k0_pay7 k0_pay8
  rw [pay5_eq]
  funext y
  refine View.canon_apply_of_pieces (Val := Elt Ideal) (e := .bf16) (blk o D.out) _ ?_ y ?_
  · intro p hp
    fin_cases hp
    · exact tile o D ho 384 768 3 rfl rfl slices_S512x1024_o384_768_S128x256 slices_S512x1024_o384_768_S128x256 inb_S512x1024_S128x256_384_768
    · exact tile o D ho 384 512 2 rfl rfl slices_S512x1024_o384_512_S128x256 slices_S512x1024_o384_512_S128x256 inb_S512x1024_S128x256_384_512
    · exact tile o D ho 384 256 1 rfl rfl slices_S512x1024_o384_256_S128x256 slices_S512x1024_o384_256_S128x256 inb_S512x1024_S128x256_384_256
    · exact tile o D ho 384 0 0 rfl rfl slices_S512x1024_o384_0_S128x256 slices_S512x1024_o384_0_S128x256 inb_S512x1024_S128x256_384_0
    · exact tile o D ho 256 768 3 rfl rfl slices_S512x1024_o256_768_S128x256 slices_S512x1024_o256_768_S128x256 inb_S512x1024_S128x256_256_768
    · exact tile o D ho 256 512 2 rfl rfl slices_S512x1024_o256_512_S128x256 slices_S512x1024_o256_512_S128x256 inb_S512x1024_S128x256_256_512
    · exact tile o D ho 256 256 1 rfl rfl slices_S512x1024_o256_256_S128x256 slices_S512x1024_o256_256_S128x256 inb_S512x1024_S128x256_256_256
    · exact tile o D ho 256 0 0 rfl rfl slices_S512x1024_o256_0_S128x256 slices_S512x1024_o256_0_S128x256 inb_S512x1024_S128x256_256_0
    · exact tile o D ho 128 768 3 rfl rfl slices_S512x1024_o128_768_S128x256 slices_S512x1024_o128_768_S128x256 inb_S512x1024_S128x256_128_768
    · exact tile o D ho 128 512 2 rfl rfl slices_S512x1024_o128_512_S128x256 slices_S512x1024_o128_512_S128x256 inb_S512x1024_S128x256_128_512
    · exact tile o D ho 128 256 1 rfl rfl slices_S512x1024_o128_256_S128x256 slices_S512x1024_o128_256_S128x256 inb_S512x1024_S128x256_128_256
    · exact tile o D ho 128 0 0 rfl rfl slices_S512x1024_o128_0_S128x256 slices_S512x1024_o128_0_S128x256 inb_S512x1024_S128x256_128_0
    · exact tile o D ho 0 768 3 rfl rfl slices_S512x1024_o0_768_S128x256 slices_S512x1024_o0_768_S128x256 inb_S512x1024_S128x256_0_768
    · exact tile o D ho 0 512 2 rfl rfl slices_S512x1024_o0_512_S128x256 slices_S512x1024_o0_512_S128x256 inb_S512x1024_S128x256_0_512
    · exact tile o D ho 0 256 1 rfl rfl slices_S512x1024_o0_256_S128x256 slices_S512x1024_o0_256_S128x256 inb_S512x1024_S128x256_0_256
    · exact tile o D ho 0 0 0 rfl rfl slices_S512x1024_o0_0_S128x256 slices_S512x1024_o0_0_S128x256 inb_S512x1024_S128x256_0_0
  · exact cover0_5 _ _ _ _ _ _ _ _ _ _ _ _ _ _ _ _ y

end Cert.SgfPay

end
-- ==== Proof.SgfValue.lean ====
/-
  The gating unit forward: the blocks the kernel's eight points read, and the array they leave.
-/
module

public import proofs.«01_k».proof.Proof.SgfPay
public import proofs.«01_k».proof.Proof.Gen.SguFwdIdeal.Value
public import Idealize.ShloMosaic.Lib.StableHlo.ReadAt

@[expose] public section

set_option maxRecDepth 16384

noncomputable section

namespace Cert.SgfValue

open Cert.SguFwdIdeal Cert.SguFwdIdeal.Gen Idealize.ShloMosaic Idealize.ShloMosaic.TcCoe Cert.SgfMath Cert.SgfPay

/-- A memory whose arguments on device `c` are the unit's, wherever the kernel reads them. -/
structure At (D : Fwd) (m : (ℓ : Loc nD τ sig) → Buf (Elt Ideal) ℓ) (c : Dev nD) : Prop where
  pu : ∀ (r : Fin 4096) (l : Fin 1024), m ((c.tc : Thread nD τ).loc main_arg0) (ix3 0 r ⟨l.val, by omega⟩) = D.pu r l
  pv : ∀ (r : Fin 4096) (l : Fin 1024), m ((c.tc : Thread nD τ).loc main_arg0) (ix3 0 r ⟨1024 + l.val, by omega⟩) = D.pv r l
  gn : ∀ l : Fin 1024, m ((c.tc : Thread nD τ).loc main_arg1) (ix2 0 l) = D.gn l
  bn : ∀ l : Fin 1024, m ((c.tc : Thread nD τ).loc main_arg2) (ix2 0 l) = D.bn l
  w : ∀ (g : Fin 4) (i j : Fin 128), m ((c.tc : Thread nD τ).loc main_arg3) (ix4 0 g i j) = D.w g i j
  b : ∀ (g : Fin 4) (i : Fin 128), m ((c.tc : Thread nD τ).loc main_arg4) (ix3 0 g i) = D.b g i

variable (m : (ℓ : Loc nD τ sig) → Buf (Elt Ideal) ℓ) (c : Dev nD) (D : Fwd) (hD : At D m c)

theorem idx0 : ∀ t : Fin grid0.N, win0_0.index t = ![0, t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0, 0] := by decide +kernel
theorem idx4 : ∀ t : Fin grid0.N, win0_4.index t = ![0, 0, 0] := by decide +kernel
theorem idx5 : ∀ t : Fin grid0.N, win0_5.index t = ![t.val, 0] := by decide +kernel

/-- Row `r` of point `t`'s block, among all the rows. -/
abbrev rowOf (t : Fin cfg0.N) (r : Fin 512) : Fin 4096 := ⟨t.val * 512 + r.val, by have := t.isLt; have : cfg0.N = 8 := rfl; omega⟩

/-- The first two slots of the stacked projection are its first two segments. -/
theorem slot0 (r : Fin 4096) (l : Fin 1024) :
    V m c main_v25 (ix3 0 r l : S8x4096x1024.Idx) = m ((c.tc : Thread nD τ).loc main_arg0) (ix3 0 r ⟨l.val, by omega⟩) := by
  unfold V
  after_reads_at
  after_reads_at

theorem slot1 (r : Fin 4096) (l : Fin 1024) :
    V m c main_v25 (ix3 1 r l : S8x4096x1024.Idx) = m ((c.tc : Thread nD τ).loc main_arg0) (ix3 0 r ⟨1024 + l.val, by omega⟩) := by
  unfold V
  after_reads_at
  after_reads_at

include hD in
theorem ld_pu (t : Fin cfg0.N) : View.ld (iblk m c 0 t) r0_0 = blk1 (t.val * 512) D.pu := by
  funext (y : S1x512x1024.Idx)
  obtain ⟨u, r, l, rfl⟩ : ∃ u r l, y = ix3 u r l := ⟨_, _, _, eq_ix3 y⟩
  obtain rfl : u = 0 := Subsingleton.elim _ _
  have e : iblk m c 0 t (ix3 0 r l : S2x512x1024.Idx) = V m c main_v25 (ix3 0 (rowOf t r) l : S8x4096x1024.Idx) := by
    blk_ext [iblk, idx0 t]
  refine (View.ld_unit_apply_of _ _ _ _ _ (ix3 0 r l : S2x512x1024.Idx) ?_).trans ?_
  · exact Fin.forall_fin_succ.2 ⟨rfl, Fin.forall_fin_two.2 ⟨(Nat.zero_add _).symm, (Nat.zero_add _).symm⟩⟩
  · rw [e, slot0, hD.pu]; rfl

include hD in
theorem ld_pv (t : Fin cfg0.N) : View.ld (iblk m c 0 t) r0_1 = blk1 (t.val * 512) D.pv := by
  funext (y : S1x512x1024.Idx)
  obtain ⟨u, r, l, rfl⟩ : ∃ u r l, y = ix3 u r l := ⟨_, _, _, eq_ix3 y⟩
  obtain rfl : u = 0 := Subsingleton.elim _ _
  have e : iblk m c 0 t (ix3 1 r l : S2x512x1024.Idx) = V m c main_v25 (ix3 1 (rowOf t r) l : S8x4096x1024.Idx) := by
    blk_ext [iblk, idx0 t]
  refine (View.ld_unit_apply_of _ _ _ _ _ (ix3 1 r l : S2x512x1024.Idx) ?_).trans ?_
  · exact Fin.forall_fin_succ.2 ⟨rfl, Fin.forall_fin_two.2 ⟨(Nat.zero_add _).symm, (Nat.zero_add _).symm⟩⟩
  · rw [e, slot1, hD.pv]; rfl

include hD in
theorem ld_gn (t : Fin cfg0.N) : View.ld (iblk m c 1 t) r0_2 = row D.gn := by
  funext (y : S1x1024.Idx)
  obtain ⟨u, l, rfl⟩ : ∃ u l, y = ix2 u l := ⟨_, _, eq_ix2 y⟩
  obtain rfl : u = 0 := Subsingleton.elim _ _
  have e : iblk m c 1 t (ix2 0 l : S1x1024.Idx) = m ((c.tc : Thread nD τ).loc main_arg1) (ix2 0 l) := by
    blk_ext! [iblk, V, idx1 t]
  refine (View.ld_unit_apply_of _ _ _ _ _ (ix2 0 l : S1x1024.Idx) ?_).trans (e.trans (hD.gn l))
  exact Fin.forall_fin_two.2 ⟨rfl, (Nat.zero_add _).symm⟩

include hD in
theorem ld_bn (t : Fin cfg0.N) : View.ld (iblk m c 2 t) r0_2 = row D.bn := by
  funext (y : S1x1024.Idx)
  obtain ⟨u, l, rfl⟩ : ∃ u l, y = ix2 u l := ⟨_, _, eq_ix2 y⟩
  obtain rfl : u = 0 := Subsingleton.elim _ _
  have e : iblk m c 2 t (ix2 0 l : S1x1024.Idx) = m ((c.tc : Thread nD τ).loc main_arg2) (ix2 0 l) := by
    blk_ext! [iblk, V, idx2 t]
  refine (View.ld_unit_apply_of _ _ _ _ _ (ix2 0 l : S1x1024.Idx) ?_).trans (e.trans (hD.bn l))
  exact Fin.forall_fin_two.2 ⟨rfl, (Nat.zero_add _).symm⟩

include hD in
/-- One group's mixing matrix, loaded. -/
theorem ld_w (t : Fin cfg0.N) (g : ℕ) (hg : g < 4) (inb) :
    View.ld (iblk m c 3 t) (Rect.unit ![g, 0, 0] ![1, 128, 128] inb) = mat1 (D.w g) := by
  funext (y : S1x128x128.Idx)
  obtain ⟨u, i, j, rfl⟩ : ∃ u i j, y = ix3 u i j := ⟨_, _, _, eq_ix3 y⟩
  obtain rfl : u = 0 := Subsingleton.elim _ _
  have e (y : S4x128x128.Idx) : iblk m c 3 t y = m ((c.tc : Thread nD τ).loc main_arg3) (ix4 0 (y 0) (y 1) (y 2)) := by
    blk_ext! [iblk, V, idx3 t]
  refine (View.ld_unit_apply_of _ _ _ _ _ (ix3 ⟨g, hg⟩ i j : S4x128x128.Idx) ?_).trans ((e _).trans (hD.w _ _ _))
  exact Fin.forall_fin_succ.2 ⟨rfl, Fin.forall_fin_two.2 ⟨(Nat.zero_add _).symm, (Nat.zero_add _).symm⟩⟩

include hD in
/-- One group's bias, loaded. -/
theorem ld_b (t : Fin cfg0.N) (g : ℕ) (hg : g < 4) (inb) :
    View.ld (iblk m c 4 t) (Rect.unit ![g, 0, 0] ![1, 128, 1] inb) = col1 (D.b g) := by
  funext (y : S1x128x1.Idx)
  obtain ⟨u, i, j, rfl⟩ : ∃ u i j, y = ix3 u i j := ⟨_, _, _, eq_ix3 y⟩
  obtain rfl : u = 0 := Subsingleton.elim _ _
  have e (y : S4x128x1.Idx) : iblk m c 4 t y = m ((c.tc : Thread nD τ).loc main_arg4) (ix3 0 (y 0) (y 1)) := by
    blk_ext! [iblk, V, idx4 t]
  refine (View.ld_unit_apply_of _ _ _ _ _ (ix3 ⟨g, hg⟩ i j : S4x128x1.Idx) ?_).trans ((e _).trans (hD.b _ _))
  exact Fin.forall_fin_succ.2 ⟨rfl, Fin.forall_fin_two.2 ⟨(Nat.zero_add _).symm, (Nat.zero_add _).symm⟩⟩

include hD in
/-- The array after the run. -/
theorem out5 : (dats m 0 c).arrAt 5 cfg0.N = fun i : S4096x1024.Idx => D.out (i 0).val (i 1).val := by
  refine (dats m 0 c).arrAt_eq_of_covers 5 _ (by decide +kernel) fun t hf y => ?_
  blk_simp
  change out0_5 (iblk m c 0 t) (iblk m c 1 t) (iblk m c 2 t) (iblk m c 3 t) (iblk m c 4 t) y = _
  rw [out_eq (t.val * 512) D (by omega) _ _ _ _ _ (ld_pu m c D hD t) (ld_pv m c D hD t) (ld_gn m c D hD t) (ld_bn m c D hD t)
    (ld_w m c D hD t 0 (by decide) _) (ld_w m c D hD t 1 (by decide) _) (ld_w m c D hD t 2 (by decide) _) (ld_w m c D hD t 3 (by decide) _)
    (ld_b m c D hD t 0 (by decide) _) (ld_b m c D hD t 1 (by decide) _) (ld_b m c D hD t 2 (by decide) _) (ld_b m c D hD t 3 (by decide) _)]
  rw [idx5 t]
  exact congrArg (D.out _) (Nat.zero_add _).symm

end Cert.SgfValue

end
-- ==== Proof.SgfRef.lean ====
/-
  The gating unit forward: the reference's value at an index.
-/
module

public import proofs.«01_k».proof.Proof.SgfMath
public import proofs.«01_k».proof.Proof.Gen.SguFwdRefIdeal.Read

@[expose] public section

set_option maxRecDepth 16384

noncomputable section

namespace Cert.SgfRef

open Cert.SguFwdRefIdeal Cert.SguFwdRefIdeal.Read Idealize.ShloMosaic Cert.SgfMath

variable (x0 : S1x4096x8192.Idx → EReal) (x1 x2 : S1x1024.Idx → EReal) (x3 : S1x4x128x128.Idx → EReal) (x4 : S1x4x128.Idx → EReal)

/-- The arguments by row and lane. -/
def args : Fwd where
  pu := at2 fun (r : Fin 4096) (l : Fin 1024) => x0 (ix3 0 r ⟨l.val, by omega⟩)
  pv := at2 fun (r : Fin 4096) (l : Fin 1024) => x0 (ix3 0 r ⟨1024 + l.val, by omega⟩)
  gn := at1 fun l => x1 (ix2 0 l)
  bn := at1 fun l => x2 (ix2 0 l)
  w := at3 fun g i j => x3 (ix4 0 g i j)
  b := at2 fun g i => x4 (ix3 0 g i)

/-- Arrays by row and lane. -/
def full (f : ℕ → ℕ → EReal) : S1x4096x1024.Idx → EReal := fun y => f (y 1).val (y 2).val
def rcol (f : ℕ → EReal) : S1x4096x1.Idx → EReal := fun y => f (y 1).val

theorem full_ext {a : S1x4096x1024.Idx → EReal} {g : ℕ → ℕ → EReal} (h : ∀ (r : Fin 4096) (l : Fin 1024), a (ix3 0 r l) = g r l) : a = full g := by
  funext y
  obtain ⟨u, r, l, rfl⟩ : ∃ u r l, y = ix3 u r l := ⟨_, _, _, eq_ix3 y⟩
  obtain rfl : u = 0 := Subsingleton.elim _ _
  exact h r l

theorem rcol_ext {a : S1x4096x1.Idx → EReal} {g : ℕ → EReal} (h : ∀ (r : Fin 4096), a (ix3 0 r 0) = g r) : a = rcol g := by
  funext y
  obtain ⟨u, r, v, rfl⟩ : ∃ u r v, y = ix3 u r v := ⟨_, _, _, eq_ix3 y⟩
  obtain rfl : u = 0 := Subsingleton.elim _ _
  obtain rfl : v = 0 := Subsingleton.elim _ _
  exact h r

theorem v0_eq : val_main_v0 (F := Ideal) x0 = full (args x0 x1 x2 x3 x4).pu :=
  full_ext fun r l => by
    rw [val_main_v0_apply]
    refine Eq.trans (congrArg x0 ?_) (at2_val (fun (r : Fin 4096) (l : Fin 1024) => x0 (ix3 0 r ⟨l.val, by omega⟩)) r l).symm
    funext a
    match a with | 0 => rfl | 1 => rfl | 2 => rfl

theorem v1_eq : val_main_v1 (F := Ideal) x0 = full (args x0 x1 x2 x3 x4).pv :=
  full_ext fun r l => by
    rw [val_main_v1_apply]
    refine Eq.trans (congrArg x0 ?_) (at2_val (fun (r : Fin 4096) (l : Fin 1024) => x0 (ix3 0 r ⟨1024 + l.val, by omega⟩)) r l).symm
    funext a
    match a with | 0 => rfl | 1 => rfl | 2 => rfl

theorem v9_eq : val_main_v9 (F := Ideal) x0 = full (args x0 x1 x2 x3 x4).ua :=
  full_ext fun r l => by
    pointwise [val_main_v9, val_main_v8, val_main_v7, val_main_v6, val_main_v5, val_main_v4, val_main_v3, val_main_v2, val_main_cst, val_main_cst_0, val_main_cst_1]
    rw [v0_eq x0 x1 x2 x3 x4]
    rfl

theorem v17_eq : val_main_v17 (F := Ideal) x0 = full (args x0 x1 x2 x3 x4).va :=
  full_ext fun r l => by
    pointwise [val_main_v17, val_main_v16, val_main_v15, val_main_v14, val_main_v13, val_main_v12, val_main_v11, val_main_v10, val_main_cst_2, val_main_cst_3, val_main_cst_4]
    rw [v1_eq x0 x1 x2 x3 x4]
    rfl

theorem v25_eq : val_main_v25 (F := Ideal) x0 = rcol fun R => mean ((args x0 x1 x2 x3 x4).va R) :=
  rcol_ext fun r => by
    pointwise [val_main_v25, val_main_v24, val_main_v23, val_main_v22, val_main_cst_5, val_main_cst_6]
    rw [v17_eq x0 x1 x2 x3 x4]
    rfl

theorem v27_eq : val_main_v27 (F := Ideal) x0 = full (args x0 x1 x2 x3 x4).xc :=
  full_ext fun r l => by
    pointwise [val_main_v27, val_main_v26]
    rw [v17_eq x0 x1 x2 x3 x4, v25_eq x0 x1 x2 x3 x4]
    rfl

theorem v34_eq : val_main_v34 (F := Ideal) x0 = full (args x0 x1 x2 x3 x4).xc :=
  full_ext fun r l => by
    pointwise [val_main_v34, val_main_v33]
    rw [v17_eq x0 x1 x2 x3 x4, v25_eq x0 x1 x2 x3 x4]
    rfl

theorem v37_eq : val_main_v37 (F := Ideal) x0 = rcol (args x0 x1 x2 x3 x4).rstd :=
  rcol_ext fun r => by
    pointwise [val_main_v37, val_main_v36, val_main_v35, val_main_v32, val_main_v31, val_main_v30, val_main_v29, val_main_v28, val_main_cst_7, val_main_cst_8, val_main_cst_9]
    rw [v27_eq x0 x1 x2 x3 x4]
    rfl

theorem v45_eq : val_main_v45 (F := Ideal) x0 x1 x2 = full (args x0 x1 x2 x3 x4).vn :=
  full_ext fun r l => by
    pointwise [val_main_v45, val_main_v44, val_main_v43, val_main_v42, val_main_v41, val_main_v40, val_main_v39, val_main_v38, val_main_v18, val_main_v19]
    rw [v34_eq x0 x1 x2 x3 x4, v37_eq x0 x1 x2 x3 x4]
    unfold Fwd.vn
    change _ * _ * _ + _ = _ * _ * at1 (fun l => x1 (ix2 0 l)) l + at1 (fun l => x2 (ix2 0 l)) l
    rw [at1_val, at1_val]
    rfl

/-- The rows cut into chunks, the lanes into groups. -/
theorem v46_at (n : Fin 32) (k : Fin 128) (g : Fin 4) (q : Fin 256) :
    val_main_v46 (F := Ideal) x0 x1 x2 (ix5 0 n k g q) = (args x0 x1 x2 x3 x4).vn (n.val * 128 + k.val) (g.val * 256 + q.val) := by
  pointwise [val_main_v46]
  rw [v45_eq x0 x1 x2 x3 x4]
  rfl

theorem v52_at (n : Fin 32) (k : Fin 128) (g : Fin 4) (q : Fin 256) :
    val_main_v52 (F := Ideal) x0 x1 x2 x3 x4 (ix5 0 n k g q) = (args x0 x1 x2 x3 x4).gate (n.val * 128 + k.val) (g.val * 256 + q.val) := by
  have e : val_main_v48 (F := Ideal) x0 x1 x2 x3 (ix5 0 n k g q)
      = ∑ j : Fin 128, val_main_v46 (F := Ideal) x0 x1 x2 (ix5 0 n j g q) * x3 (ix4 0 g k j) := by
    pointwise [val_main_v48, val_main_v47, val_main_v20]
  have e' : val_main_v51 (F := Ideal) x4 (ix5 0 n k g q) = x4 (ix3 0 g k) := by
    pointwise [val_main_v51, val_main_v50, val_main_v49, val_main_v21]
  rw [val_main_v52_apply, e, e']
  unfold Fwd.gate
  rw [show (g.val * 256 + q.val) / 256 = g.val by omega, show (n.val * 128 + k.val) % 128 = k.val by omega,
    show (n.val * 128 + k.val) / 128 = n.val by omega]
  refine congrArg₂ (fun a b : EReal => a + b) (Finset.sum_congr rfl fun j _ => ?_) (at2_val (fun g i => x4 (ix3 0 g i)) g k).symm
  rw [v46_at x0 x1 x2 x3 x4, mul_comm]
  exact congrArg (fun a : EReal => a * _) (at3_val (fun g i j => x3 (ix4 0 g i j)) g k j).symm

/-- The reference's result. -/
theorem v56_at (r : Fin 4096) (l : Fin 1024) : val_main_v56 (F := Ideal) x0 x1 x2 x3 x4 (ix2 r l) = (args x0 x1 x2 x3 x4).out r l := by
  have e : val_main_v53 (F := Ideal) x0 x1 x2 x3 x4 (ix3 0 r l) = (args x0 x1 x2 x3 x4).gate r l := by
    pointwise [val_main_v53]
    refine (v52_at x0 x1 x2 x3 x4 _ _ _ _).trans ?_
    exact congrArg₂ _ (show r.val / 128 * 128 + r.val % 128 = r.val by omega) (show l.val / 256 * 256 + l.val % 256 = l.val by omega)
  pointwise [val_main_v56, val_main_v55, val_main_v54]
  rw [e, v9_eq x0 x1 x2 x3 x4]
  rfl

end Cert.SgfRef

end
-- ==== Proof.SgfClaim.lean ====
/-
  The gating unit forward: the reference's frame, and the value claim that joins the two programs' results.
-/
module

public import proofs.«01_k».proof.Defs
public import proofs.«01_k».proof.Proof.SgfValue
public import proofs.«01_k».proof.Proof.SgfRef
public import proofs.«01_k».proof.Proof.Gen.SguFwd.Frame
public import proofs.«01_k».proof.Proof.Gen.SguFwdRefIdeal.Run
public import Idealize.ShloMosaic.Lib.Claim
public import Idealize.ShloMosaic.Lib.Quiescent

@[expose] public section

set_option maxRecDepth 16384

noncomputable section

namespace Cert.SgfClaim

open Idealize.ShloMosaic Idealize.ShloMosaic.TcCoe Idealize.SL.Sem Cert.SgfMath

/-- The reference leaves its arguments and the counters. -/
theorem frame_ref : Cert.quiescent_SguFwdRefIdeal := fun m ρ _ =>
  (θ_run Cert.SguFwdRefIdeal.defs _ _).mono (fun r h => ⟨fun c => (h c).2, sem_eq_zero_of_no_sems (by decide) r.2⟩)
    (Cert.SguFwdRefIdeal.Value.run (F := Ideal) m ρ)

/-- Every memory holds some arguments. -/
theorem at_args (m : (ℓ : Loc Cert.SguFwdIdeal.nD Cert.SguFwdIdeal.τ Cert.SguFwdIdeal.sig) → Buf (Elt Ideal) ℓ) (c : Dev Cert.SguFwdIdeal.nD) :
    Cert.SgfValue.At (Cert.SgfRef.args (m (c, Cert.SguFwdIdeal.main_arg0)) (m (c, Cert.SguFwdIdeal.main_arg1)) (m (c, Cert.SguFwdIdeal.main_arg2))
      (m (c, Cert.SguFwdIdeal.main_arg3)) (m (c, Cert.SguFwdIdeal.main_arg4))) m c where
  pu r l := (at2_val (fun (r : Fin 4096) (l : Fin 1024) => (m (c, Cert.SguFwdIdeal.main_arg0) (ix3 0 r ⟨l.val, by omega⟩) : EReal)) r l).symm
  pv r l := (at2_val (fun (r : Fin 4096) (l : Fin 1024) => (m (c, Cert.SguFwdIdeal.main_arg0) (ix3 0 r ⟨1024 + l.val, by omega⟩) : EReal)) r l).symm
  gn l := (at1_val (fun l : Fin 1024 => (m (c, Cert.SguFwdIdeal.main_arg1) (ix2 0 l) : EReal)) l).symm
  bn l := (at1_val (fun l : Fin 1024 => (m (c, Cert.SguFwdIdeal.main_arg2) (ix2 0 l) : EReal)) l).symm
  w g i j := (at3_val (fun (g : Fin 4) (i j : Fin 128) => (m (c, Cert.SguFwdIdeal.main_arg3) (ix4 0 g i j) : EReal)) g i j).symm
  b g i := (at2_val (fun (g : Fin 4) (i : Fin 128) => (m (c, Cert.SguFwdIdeal.main_arg4) (ix3 0 g i) : EReal)) g i).symm

/-- The kernel's array is the reference's. -/
theorem algebraic : Cert.algebraic_SguFwdIdeal_SguFwdRefIdeal := by
  intro m g m' g' hpre hagree
  refine ⟨_, Cert.SguFwdIdeal.Value.run_blocks m g, ?_⟩
  refine (θ_run Cert.SguFwdRefIdeal.defs _ _).mono (fun r h c => ?_) (Cert.SguFwdRefIdeal.Value.run m' g')
  obtain ⟨h56, hk⟩ := h c
  obtain ⟨a0, a1, a2, a3, a4⟩ := hagree c
  refine ⟨?_, hk⟩
  refine h56.trans ((Cert.SguFwdRefIdeal.Read.val_main_v56_eq _ _).trans ?_)
  rw [a0, a1, a2, a3, a4, Cert.SgfValue.out5 m c _ (at_args m c)]
  funext i
  obtain ⟨n, k, rfl⟩ : ∃ n k, i = ix2 n k := ⟨_, _, eq_ix2 i⟩
  exact Cert.SgfRef.v56_at (m (c, Cert.SguFwdIdeal.main_arg0)) (m (c, Cert.SguFwdIdeal.main_arg1)) (m (c, Cert.SguFwdIdeal.main_arg2))
    (m (c, Cert.SguFwdIdeal.main_arg3)) (m (c, Cert.SguFwdIdeal.main_arg4)) n k

end Cert.SgfClaim

end
-- ==== Proof.PfwMath.lean ====
/-
  The projection forward: its two results, by row and lane, over the extended reals.
-/
module

public import proofs.«01_k».proof.Proof.SgfMath

@[expose] public section

noncomputable section

namespace Cert.PfwMath

open Idealize.ShloMosaic Cert.SgfMath

/-- The call's arguments: the residual rows, the norm's weight, the projection's weight and bias, the angles' tables. -/
structure Prj where
  x : ℕ → ℕ → EReal
  n : ℕ → EReal
  w : ℕ → ℕ → EReal
  b : ℕ → EReal
  co : ℕ → ℕ → EReal
  si : ℕ → ℕ → EReal

namespace Prj

variable (D : Prj)

/-- A row's reciprocal root mean square. -/
def rstd (R : ℕ) : EReal := Ideal.rsqrt (mean (fun k => D.x R k * D.x R k) + Ideal.ofBits .f32 0x358637BD#32)

/-- The normed row, the second result. -/
def h (R k : ℕ) : EReal := D.x R k * D.rstd R * D.n k

/-- The projection. -/
def z (R j : ℕ) : EReal := (∑ k : Fin 1024, D.h R k * D.w k j) + D.b j

/-- Segment `s` rotated: each head's 256 lanes are two halves, turned by the row's angles. -/
def rot (s R j : ℕ) : EReal :=
  if j % 256 < 128 then D.z R (s * 1024 + j) * D.co R (j % 256) - D.z R (s * 1024 + (j + 128)) * D.si R (j % 256)
  else D.z R (s * 1024 + j) * D.co R (j % 256 - 128) + D.z R (s * 1024 + (j - 128)) * D.si R (j % 256 - 128)

/-- The slot `s` of the first result: the segments in the call's order, two of them rotated. -/
def out (s R j : ℕ) : EReal :=
  if s < 2 then D.z R (s * 1024 + j)
  else if s < 4 then D.z R ((s + 4) * 1024 + j)
  else if s = 4 then D.rot 2 R j
  else if s = 5 then D.rot 3 R j * Ideal.ofBits .f32 0x3D800000#32
  else D.z R ((s - 2) * 1024 + j)

end Prj

end Cert.PfwMath

end
-- ==== Proof.PfwPay.lean ====
/-
  The projection forward: the payloads on the block of rows that starts at row `o`, and what each store holds.
-/
module

public import proofs.«01_k».proof.Proof.PfwMath
public import proofs.«01_k».proof.Proof.Gen.PrjFwdIdeal.Frame

@[expose] public section

set_option maxRecDepth 16384

noncomputable section

namespace Cert.PfwPay

open Cert.PrjFwdIdeal Cert.PrjFwdIdeal.Gen Idealize.ShloMosaic Cert.SgfMath Cert.PfwMath

/-- The rows `o …` of an array, of a table, and of the stacked slots. -/
def blk (o : ℕ) (f : ℕ → ℕ → EReal) : S512x1024.Idx → EReal := fun y => f (o + (y 0).val) (y 1).val
def tab (o : ℕ) (f : ℕ → ℕ → EReal) : S512x128.Idx → EReal := fun y => f (o + (y 0).val) (y 1).val
def slots (o : ℕ) (f : ℕ → ℕ → ℕ → EReal) : S8x512x1024.Idx → EReal := fun y => f (y 0).val (o + (y 1).val) (y 2).val

/-- A row of weights. -/
def row (f : ℕ → EReal) : S1x1024.Idx → EReal := fun y => f (y 1).val

/-- One segment of the projection's weight, and of its bias. -/
def wseg (s : ℕ) (f : ℕ → ℕ → EReal) : S1024x1024.Idx → EReal := fun y => f (y 0).val (s * 1024 + (y 1).val)
def bseg (s : ℕ) (f : ℕ → EReal) : S1x1x1024.Idx → EReal := fun y => f (s * 1024 + (y 2).val)

variable (o : ℕ) (D : Prj)

theorem pay4_eq : k0_pay4 (F := Ideal) (blk o D.x) (row D.n) = blk o D.h := by
  funext y
  obtain ⟨r, l, rfl⟩ : ∃ r l, y = ix2 r l := ⟨_, _, eq_ix2 y⟩
  pointwise [k0_pay4]
  rfl

/-- One segment of the projection. -/
def zseg (s : ℕ) : S512x1024.Idx → EReal := blk o fun R j => D.z R (s * 1024 + j)

theorem pay20_eq (s : ℕ) : k0_pay20 (F := Ideal) (blk o D.h) (wseg s D.w) (bseg s D.b) = zseg o D s := by
  funext y
  obtain ⟨r, l, rfl⟩ : ∃ r l, y = ix2 r l := ⟨_, _, eq_ix2 y⟩
  pointwise [k0_pay20]
  rfl

/-- A segment stored whole in slot `k`. -/
theorem whole (k s : ℕ) (inb) (hk : D.out k = fun R j => D.z R (s * 1024 + j)) (x : S1x512x1024.Idx) :
    k0_pay2 (F := Ideal) (blk o D.h) (wseg s D.w) (bseg s D.b) x
      = slots o D.out ((Rect.unit (s := S8x512x1024) ![k, 0, 0] ![1, 512, 1024] inb).emb x) := by
  obtain ⟨u, p, q, rfl⟩ : ∃ u p q, x = ix3 u p q := ⟨_, _, _, eq_ix3 x⟩
  obtain rfl : u = 0 := Subsingleton.elim _ _
  have e0 : ((Rect.unit (s := S8x512x1024) ![k, 0, 0] ![1, 512, 1024] inb).emb (ix3 0 p q) 0).val = k + 0 := Rect.idx_unit_val _ _ inb _ 0
  have e1 : ((Rect.unit (s := S8x512x1024) ![k, 0, 0] ![1, 512, 1024] inb).emb (ix3 0 p q) 1).val = 0 + p.val := Rect.idx_unit_val _ _ inb _ 1
  have e2 : ((Rect.unit (s := S8x512x1024) ![k, 0, 0] ![1, 512, 1024] inb).emb (ix3 0 p q) 2).val = 0 + q.val := Rect.idx_unit_val _ _ inb _ 2
  unfold slots
  rw [e0, e1, e2, Nat.add_zero, Nat.zero_add, Nat.zero_add, hk]
  have e : k0_pay2 (F := Ideal) (blk o D.h) (wseg s D.w) (bseg s D.b) = shapeCast S1x512x1024
      (truncf (F := Ideal) (φ := .f32) .bf16 (zseg o D s) bitsLt_bf16_f32) shapeCasts_S512x1024_S1x512x1024 := by
    rw [← pay20_eq]; rfl
  rw [e]
  pointwise []
  rfl

/-- The rotation of a head: two halves of 256 lanes turned by the row's angles. -/
def turn (z : FVec Ideal S512x1024 .f32) (a : ℕ) (hs : Shape.Slices S512x1024 ![0, a] S512x256) (c s : FVec Ideal S512x128 .f32) : FVec Ideal S512x256 .f32 :=
  have v : FVec Ideal S512x256 .f32 := extractStridedSlice S512x256 ![0, a] z hs
  have v1 : FVec Ideal S512x128 .f32 := extractStridedSlice S512x128 ![0, 0] v slices_S512x256_o0_0_S512x128
  have v2 : FVec Ideal S512x128 .f32 := extractStridedSlice S512x128 ![0, 128] v slices_S512x256_o0_128_S512x128
  have c1 : FVec Ideal S512x128 .f32 := shapeCast S512x128 c shapeCasts_S512x128_S512x128
  have s1 : FVec Ideal S512x128 .f32 := shapeCast S512x128 s shapeCasts_S512x128_S512x128
  concatenate S512x256 1 [⟨S512x128, subf (mulf v1 c1) (mulf v2 s1)⟩, ⟨S512x128, addf (mulf v2 c1) (mulf v1 s1)⟩] concatenates_S512x128_S512x128_S512x256_d1

theorem turn_at (s a : ℕ) (ha : a % 256 = 0) (hs) (r : Fin 512) (d : Fin 256) :
    turn (zseg o D s) a hs (tab o D.co) (tab o D.si) (ix2 r d) = D.rot s (o + r) (a + d) := by
  have hd := d.isLt
  have hm : (a + d.val) % 256 = d.val := by omega
  unfold turn Prj.rot
  rw [hm]
  pointwise []
  split
  · next h =>
    change D.z (o + r.val) (s * 1024 + (a + d.val)) * D.co (o + r.val) d.val - D.z (o + r.val) (s * 1024 + (a + (128 + d.val))) * D.si (o + r.val) d.val = _
    rw [show a + (128 + d.val) = a + d.val + 128 by omega]
  · next h =>
    change D.z (o + r.val) (s * 1024 + (a + (128 + (d.val - 128)))) * D.co (o + r.val) (d.val - 128) + D.z (o + r.val) (s * 1024 + (a + (d.val - 128))) * D.si (o + r.val) (d.val - 128) = _
    rw [show a + (128 + (d.val - 128)) = a + d.val by omega, show a + (d.val - 128) = a + d.val - 128 by omega]

/-- A rotated head stored in its lanes of slot 4, and, scaled, of slot 5. -/
theorem head4 (a : ℕ) (ha : a % 256 = 0) (hs) (inb) (x : S1x512x256.Idx) :
    shapeCast S1x512x256 (truncf (F := Ideal) (φ := .f32) .bf16 (turn (zseg o D 2) a hs (tab o D.co) (tab o D.si)) bitsLt_bf16_f32) shapeCasts_S512x256_S1x512x256 x
      = slots o D.out ((Rect.unit (s := S8x512x1024) ![4, 0, a] ![1, 512, 256] inb).emb x) := by
  obtain ⟨u, p, q, rfl⟩ : ∃ u p q, x = ix3 u p q := ⟨_, _, _, eq_ix3 x⟩
  obtain rfl : u = 0 := Subsingleton.elim _ _
  have e1 : ((Rect.unit (s := S8x512x1024) ![4, 0, a] ![1, 512, 256] inb).emb (ix3 0 p q) 1).val = 0 + p.val := Rect.idx_unit_val _ _ inb _ 1
  have e2 : ((Rect.unit (s := S8x512x1024) ![4, 0, a] ![1, 512, 256] inb).emb (ix3 0 p q) 2).val = a + q.val := Rect.idx_unit_val _ _ inb _ 2
  generalize hT : turn (zseg o D 2) a hs (tab o D.co) (tab o D.si) = T
  pointwise []
  rw [← hT]
  unfold slots
  rw [e1, e2, Nat.zero_add]
  exact turn_at o D 2 a ha hs p q

theorem head5 (a : ℕ) (ha : a % 256 = 0) (hs) (inb) (x : S1x512x256.Idx) :
    shapeCast S1x512x256 (truncf (F := Ideal) (φ := .f32) .bf16 (mulf (turn (zseg o D 3) a hs (tab o D.co) (tab o D.si)) (k0_pay28 (F := Ideal))) bitsLt_bf16_f32)
        shapeCasts_S512x256_S1x512x256 x
      = slots o D.out ((Rect.unit (s := S8x512x1024) ![5, 0, a] ![1, 512, 256] inb).emb x) := by
  obtain ⟨u, p, q, rfl⟩ : ∃ u p q, x = ix3 u p q := ⟨_, _, _, eq_ix3 x⟩
  obtain rfl : u = 0 := Subsingleton.elim _ _
  have e1 : ((Rect.unit (s := S8x512x1024) ![5, 0, a] ![1, 512, 256] inb).emb (ix3 0 p q) 1).val = 0 + p.val := Rect.idx_unit_val _ _ inb _ 1
  have e2 : ((Rect.unit (s := S8x512x1024) ![5, 0, a] ![1, 512, 256] inb).emb (ix3 0 p q) 2).val = a + q.val := Rect.idx_unit_val _ _ inb _ 2
  generalize hT : turn (zseg o D 3) a hs (tab o D.co) (tab o D.si) = T
  pointwise [k0_pay28]
  rw [← hT]
  unfold slots
  rw [e1, e2, Nat.zero_add]
  exact congrArg (· * Ideal.ofBits .f32 0x3D800000#32) (turn_at o D 3 a ha hs p q)

end Cert.PfwPay

end
-- ==== Proof.PfwValue.lean ====
/-
  The projection forward: the blocks the kernel's eight points read, and the two arrays they leave.
-/
module

public import proofs.«01_k».proof.Proof.PfwPay
public import proofs.«01_k».proof.Proof.Gen.PrjFwdIdeal.Value
public import Idealize.ShloMosaic.Lib.StableHlo.ReadAt

@[expose] public section

set_option maxRecDepth 16384

noncomputable section

namespace Cert.PfwValue

open Cert.PrjFwdIdeal Cert.PrjFwdIdeal.Gen Idealize.ShloMosaic Idealize.ShloMosaic.TcCoe Cert.SgfMath Cert.PfwMath Cert.PfwPay

/-- A memory whose arguments on device `c` are the call's, and whose angles' tables are the given ones. -/
structure At (D : Prj) (m : (ℓ : Loc nD τ sig) → Buf (Elt Ideal) ℓ) (c : Dev nD) : Prop where
  x : ∀ (r : Fin 4096) (k : Fin 1024), m ((c.tc : Thread nD τ).loc main_arg0) (ix2 r k) = D.x r k
  n : ∀ k : Fin 1024, m ((c.tc : Thread nD τ).loc main_arg1) (ix2 0 k) = D.n k
  w : ∀ (k : Fin 1024) (j : Fin 8192), m ((c.tc : Thread nD τ).loc main_arg2) (ix3 0 k j) = D.w k j
  b : ∀ j : Fin 8192, m ((c.tc : Thread nD τ).loc main_arg3) (ix2 0 j) = D.b j
  co : ∀ (r : Fin 4096) (d : Fin 128), V m c main_v20 (ix2 r d : S4096x128.Idx) = D.co r d
  si : ∀ (r : Fin 4096) (d : Fin 128), V m c main_v21 (ix2 r d : S4096x128.Idx) = D.si r d

variable (m : (ℓ : Loc nD τ sig) → Buf (Elt Ideal) ℓ) (c : Dev nD) (D : Prj) (hD : At D m c)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, t.val, 0] := by decide +kernel
theorem idx7 : ∀ t : Fin grid0.N, win0_7.index t = ![t.val, 0] := by decide +kernel

/-- Row `r` of point `t`'s block, among all the rows. -/
abbrev rowOf (t : Fin cfg0.N) (r : Fin 512) : Fin 4096 := ⟨t.val * 512 + r.val, by have := t.isLt; have : cfg0.N = 8 := rfl; omega⟩

/-- Column `k` of segment `s`, among all the columns. -/
abbrev colOf (s : Fin 8) (k : Fin 1024) : Fin 8192 := ⟨s.val * 1024 + k.val, by omega⟩

/-- The weight's column segments lie one below the other. -/
theorem weight (q : Fin 8192) (k : Fin 1024) :
    V m c main_v22 (ix2 q k : S8192x1024.Idx) = m ((c.tc : Thread nD τ).loc main_arg2)
      (ix3 0 ⟨q.val % 1024, Nat.mod_lt _ (by decide)⟩ (colOf ⟨q.val / 1024, by omega⟩ k)) := by
  unfold V
  after_reads_at

/-- The bias's segments likewise. -/
theorem bias (s : Fin 8) (k : Fin 1024) :
    V m c main_v23 (ix3 s 0 k : S8x1x1024.Idx) = m ((c.tc : Thread nD τ).loc main_arg3) (ix2 0 (colOf s k)) := by
  unfold V
  after_reads_at

include hD in
theorem blk0 (t : Fin cfg0.N) : iblk m c 0 t = blk (t.val * 512) D.x := by
  funext (y : S512x1024.Idx)
  have e : iblk m c 0 t y = m ((c.tc : Thread nD τ).loc main_arg0) (ix2 (rowOf t (y 0)) (y 1)) := by
    blk_ext [iblk, V, idx0 t]
  exact e.trans (hD.x _ _)

include hD in
theorem blk1 (t : Fin cfg0.N) : iblk m c 1 t = row D.n := by
  funext (y : S1x1024.Idx)
  obtain ⟨u, k, rfl⟩ : ∃ u k, y = ix2 u k := ⟨_, _, eq_ix2 y⟩
  obtain rfl : u = 0 := Subsingleton.elim _ _
  have e : iblk m c 1 t (ix2 0 k : S1x1024.Idx) = m ((c.tc : Thread nD τ).loc main_arg1) (ix2 0 k) := by
    blk_ext! [iblk, V, idx1 t]
  exact e.trans (hD.n k)

include hD in
theorem blk4 (t : Fin cfg0.N) : iblk m c 4 t = tab (t.val * 512) D.co := by
  funext (y : S512x128.Idx)
  have e : iblk m c 4 t y = V m c main_v20 (ix2 (rowOf t (y 0)) (y 1) : S4096x128.Idx) := by
    blk_ext [iblk, idx4 t]
  exact e.trans (hD.co _ _)

include hD in
theorem blk5 (t : Fin cfg0.N) : iblk m c 5 t = tab (t.val * 512) D.si := by
  funext (y : S512x128.Idx)
  have e : iblk m c 5 t y = V m c main_v21 (ix2 (rowOf t (y 0)) (y 1) : S4096x128.Idx) := by
    blk_ext [iblk, idx5 t]
  exact e.trans (hD.si _ _)

include hD in
/-- One segment of the weight, loaded. -/
theorem ld_w (t : Fin cfg0.N) (s a : ℕ) (hs : s < 8) (ha : a = s * 1024) (inb) :
    View.ld (iblk m c 2 t) (Rect.unit ![a, 0] ![1024, 1024] inb) = wseg s D.w := by
  funext (y : S1024x1024.Idx)
  obtain ⟨i, j, rfl⟩ : ∃ i j, y = ix2 i j := ⟨_, _, eq_ix2 y⟩
  have e (y : S8192x1024.Idx) : iblk m c 2 t y = V m c main_v22 (ix2 (y 0) (y 1) : S8192x1024.Idx) := by
    blk_ext [iblk, idx2 t]
  refine (View.ld_unit_apply_of _ _ _ _ _ (ix2 ⟨a + i.val, by omega⟩ j : S8192x1024.Idx) ?_).trans ((e _).trans ?_)
  · exact Fin.forall_fin_two.2 ⟨rfl, (Nat.zero_add _).symm⟩
  · refine (weight m c _ _).trans ((hD.w _ _).trans ?_)
    change D.w ((a + i.val) % 1024) ((a + i.val) / 1024 * 1024 + j.val) = D.w i.val (s * 1024 + j.val)
    rw [show (a + i.val) % 1024 = i.val by omega, show (a + i.val) / 1024 = s by omega]

include hD in
/-- One segment of the bias, loaded. -/
theorem ld_b (t : Fin cfg0.N) (s : ℕ) (hs : s < 8) (inb) :
    View.ld (iblk m c 3 t) (Rect.unit ![s, 0, 0] ![1, 1, 1024] inb) = bseg s D.b := by
  funext (y : S1x1x1024.Idx)
  obtain ⟨u, v, j, rfl⟩ : ∃ u v j, y = ix3 u v j := ⟨_, _, _, eq_ix3 y⟩
  obtain rfl : u = 0 := Subsingleton.elim _ _
  obtain rfl : v = 0 := Subsingleton.elim _ _
  have e (s : Fin 8) (j : Fin 1024) : iblk m c 3 t (ix3 s 0 j : S8x1x1024.Idx) = V m c main_v23 (ix3 s 0 j : S8x1x1024.Idx) := by
    blk_ext! [iblk, idx3 t]
  refine (View.ld_unit_apply_of _ _ _ _ _ (ix3 ⟨s, hs⟩ 0 j : S8x1x1024.Idx) ?_).trans ((e _ _).trans ((bias m c _ _).trans (hD.b _)))
  exact Fin.forall_fin_succ.2 ⟨rfl, Fin.forall_fin_two.2 ⟨rfl, (Nat.zero_add _).symm⟩⟩

include hD in
/-- What point `t` stores of the normed rows. -/
theorem after7 (t : Fin cfg0.N) : (outsAt0 m c t).2 = blk (t.val * 512) D.h := by
  unfold outsAt0
  frame_out
  rw [blk0 m c D hD, blk1 m c D hD, pay4_eq]

include hD in
/-- What point `t` stores of the slots. -/
theorem after6 (t : Fin cfg0.N) : (outsAt0 m c t).1 = slots (t.val * 512) D.out := by
  unfold outsAt0
  frame_out
  rw [blk0 m c D hD, blk1 m c D hD, blk4 m c D hD, blk5 m c D hD, pay4_eq]
  rw [ld_w m c D hD t 0 0 (by decide) rfl]
  rw [ld_b m c D hD t 0 (by decide)]
  rw [ld_w m c D hD t 1 1024 (by decide) rfl]
  rw [ld_b m c D hD t 1 (by decide)]
  repeat rw [ld_w m c D hD t 2 2048 (by decide) rfl]
  repeat rw [ld_b m c D hD t 2 (by decide)]
  repeat rw [ld_w m c D hD t 3 3072 (by decide) rfl]
  repeat rw [ld_b m c D hD t 3 (by decide)]
  rw [ld_w m c D hD t 4 4096 (by decide) rfl]
  rw [ld_b m c D hD t 4 (by decide)]
  rw [ld_w m c D hD t 5 5120 (by decide) rfl]
  rw [ld_b m c D hD t 5 (by decide)]
  rw [ld_w m c D hD t 6 6144 (by decide) rfl]
  rw [ld_b m c D hD t 6 (by decide)]
  rw [ld_w m c D hD t 7 7168 (by decide) rfl]
  rw [ld_b m c D hD t 7 (by decide)]
  repeat rw [pay20_eq]
  rw [show k0_pay12 (F := Ideal) (k0_pay11 (blk (t.val * 512) D.h) (wseg 2 D.w)) (bseg 2 D.b) = zseg (t.val * 512) D 2 from pay20_eq _ D 2]
  funext y
  refine View.canon_apply_of_pieces (Val := Elt Ideal) (e := .bf16) (slots (t.val * 512) D.out) _ ?_ y ?_
  · intro p hp
    fin_cases hp
    · exact whole (t.val * 512) D 7 5 inb_S8x512x1024_S1x512x1024_7_0_0 rfl
    · exact whole (t.val * 512) D 6 4 inb_S8x512x1024_S1x512x1024_6_0_0 rfl
    · exact head5 (t.val * 512) D 768 rfl slices_S512x1024_o0_768_S512x256 inb_S8x512x1024_S1x512x256_5_0_768
    · exact head5 (t.val * 512) D 512 rfl slices_S512x1024_o0_512_S512x256 inb_S8x512x1024_S1x512x256_5_0_512
    · exact head5 (t.val * 512) D 256 rfl slices_S512x1024_o0_256_S512x256 inb_S8x512x1024_S1x512x256_5_0_256
    · intro x
      refine Eq.trans ?_ (head5 (t.val * 512) D 0 rfl slices_S512x1024_o0_0_S512x256 inb_S8x512x1024_S1x512x256_5_0_0 x)
      rw [← pay20_eq]; rfl
    · exact head4 (t.val * 512) D 768 rfl slices_S512x1024_o0_768_S512x256 inb_S8x512x1024_S1x512x256_4_0_768
    · intro x
      refine Eq.trans ?_ (head4 (t.val * 512) D 512 rfl slices_S512x1024_o0_512_S512x256 inb_S8x512x1024_S1x512x256_4_0_512 x)
      rw [← pay20_eq]; rfl
    · intro x
      refine Eq.trans ?_ (head4 (t.val * 512) D 256 rfl slices_S512x1024_o0_256_S512x256 inb_S8x512x1024_S1x512x256_4_0_256 x)
      rw [← pay20_eq]; rfl
    · intro x
      refine Eq.trans ?_ (head4 (t.val * 512) D 0 rfl slices_S512x1024_o0_0_S512x256 inb_S8x512x1024_S1x512x256_4_0_0 x)
      rw [← pay20_eq]; rfl
    · exact whole (t.val * 512) D 3 7 inb_S8x512x1024_S1x512x1024_3_0_0 rfl
    · exact whole (t.val * 512) D 2 6 inb_S8x512x1024_S1x512x1024_2_0_0 rfl
    · intro x
      refine Eq.trans ?_ (whole (t.val * 512) D 1 1 inb_S8x512x1024_S1x512x1024_1_0_0 rfl x)
      rw [← pay4_eq]; rfl
    · intro x
      refine Eq.trans ?_ (whole (t.val * 512) D 0 0 inb_S8x512x1024_S1x512x1024_0_0_0 rfl x)
      rw [← pay4_eq]; rfl
  · exact View.cover_of_tiledBy _ ![1, 512, 256] (by sl_kernel_rfl) y

include hD in
/-- The stacked slots after the run. -/
theorem out6 : (dats m 0 c).arrAt 6 cfg0.N = fun i : S8x4096x1024.Idx => D.out (i 0).val (i 1).val (i 2).val := by
  refine (dats m 0 c).arrAt_eq_of_covers 6 _ (by decide +kernel) fun t hf y => ?_
  blk_simp
  rw [after0_6, after6 m c D hD, idx6 t]
  exact congr (congr (congrArg D.out (Nat.zero_add _).symm) rfl) (Nat.zero_add _).symm

include hD in
/-- The normed rows after the run. -/
theorem out7 : (dats m 0 c).arrAt 7 cfg0.N = fun i : S4096x1024.Idx => D.h (i 0).val (i 1).val := by
  refine (dats m 0 c).arrAt_eq_of_covers 7 _ (by decide +kernel) fun t hf y => ?_
  blk_simp
  rw [after0_7, after7 m c D hD, idx7 t]
  exact congrArg (D.h _) (Nat.zero_add _).symm

end Cert.PfwValue

end
-- ==== Proof.PfwRef.lean ====
/-
  The projection forward: the reference's values at an index.
-/
module

public import proofs.«01_k».proof.Proof.PfwMath
public import proofs.«01_k».proof.Proof.Gen.PrjFwdRefIdeal.Read

@[expose] public section

set_option maxRecDepth 16384

noncomputable section

namespace Cert.PfwRef

open Cert.PrjFwdRefIdeal Cert.PrjFwdRefIdeal.Read Idealize.ShloMosaic Cert.SgfMath Cert.PfwMath

variable (x0 : S4096x1024.Idx → EReal) (x1 : S1x1024.Idx → EReal) (x2 : S1x1024x8192.Idx → EReal) (x3 : S1x8192.Idx → EReal)

/-- The arguments by row and lane; the angles' tables are the reference's own. -/
def args : Prj where
  x := at2 fun (r : Fin 4096) (k : Fin 1024) => x0 (ix2 r k)
  n := at1 fun k => x1 (ix2 0 k)
  w := at2 fun (k : Fin 1024) (j : Fin 8192) => x2 (ix3 0 k j)
  b := at1 fun j => x3 (ix2 0 j)
  co := at2 fun (r : Fin 4096) (d : Fin 128) => val_main_v45 (F := Ideal) (ix2 r d)
  si := at2 fun (r : Fin 4096) (d : Fin 128) => val_main_v47 (F := Ideal) (ix2 r d)

theorem v8_at (r : Fin 4096) : val_main_v8 (F := Ideal) x0 (ix2 r 0) = (args x0 x1 x2 x3).rstd r := by
  pointwise [val_main_v8, val_main_v7, val_main_v6, val_main_v5, val_main_v4, val_main_v3, val_main_v2, val_main_v1, val_main_cst, val_main_cst_0, val_main_cst_1]
  unfold Prj.rstd mean
  simp only [args, at2_val]

/-- The normed row. -/
theorem v13_at (r : Fin 4096) (k : Fin 1024) : val_main_v13 (F := Ideal) x0 x1 (ix2 r k) = (args x0 x1 x2 x3).h r k := by
  have e : val_main_v13 (F := Ideal) x0 x1 (ix2 r k) = x0 (ix2 r k) * val_main_v8 (F := Ideal) x0 (ix2 r 0) * x1 (ix2 0 k) := by
    pointwise [val_main_v13, val_main_v12, val_main_v11, val_main_v10, val_main_v9, val_main_v0]
  rw [e, v8_at x0 x1 x2 x3]
  unfold Prj.h
  simp only [args, at2_val, at1_val]

/-- The projection. -/
theorem v19_at (r : Fin 4096) (j : Fin 8192) : val_main_v19 (F := Ideal) x0 x1 x2 x3 (ix2 r j) = (args x0 x1 x2 x3).z r j := by
  have e : val_main_v19 (F := Ideal) x0 x1 x2 x3 (ix2 r j)
      = (∑ k : Fin 1024, val_main_v13 (F := Ideal) x0 x1 (ix2 r k) * x2 (ix3 0 k j)) + x3 (ix2 0 j) := by
    pointwise [val_main_v19, val_main_v18, val_main_v17, val_main_v16, val_main_v15, val_main_v14]
  rw [e]
  unfold Prj.z
  refine congrArg₂ (fun a b : EReal => a + b) (Finset.sum_congr rfl fun k _ => ?_) (at1_val (fun j => x3 (ix2 0 j)) j).symm
  rw [v13_at x0 x1 x2 x3]
  exact congrArg (fun a : EReal => _ * a) (at2_val (fun (k : Fin 1024) (j : Fin 8192) => x2 (ix3 0 k j)) k j).symm

/-- The tables. -/
theorem v45_at (r : Fin 4096) (d : Fin 128) : val_main_v45 (F := Ideal) (ix2 r d) = (args x0 x1 x2 x3).co r d :=
  (at2_val (fun (r : Fin 4096) (d : Fin 128) => val_main_v45 (F := Ideal) (ix2 r d)) r d).symm
theorem v47_at (r : Fin 4096) (d : Fin 128) : val_main_v47 (F := Ideal) (ix2 r d) = (args x0 x1 x2 x3).si r d :=
  (at2_val (fun (r : Fin 4096) (d : Fin 128) => val_main_v47 (F := Ideal) (ix2 r d)) r d).symm

/-- The two rotated segments, by head. -/
theorem v61_at (r : Fin 4096) (g : Fin 4) (d : Fin 256) :
    val_main_v61 (F := Ideal) x0 x1 x2 x3 (ix4 0 r g d) = (args x0 x1 x2 x3).rot 2 r (g.val * 256 + d.val) := by
  unfold Prj.rot
  rw [show (g.val * 256 + d.val) % 256 = d.val by omega]
  pointwise [val_main_v61, val_main_v60, val_main_v59, val_main_v58, val_main_v57, val_main_v56, val_main_v55, val_main_v54, val_main_v53, val_main_v52, val_main_v51,
    val_main_v50, val_main_v49, val_main_v48, val_main_v46, val_main_v28, val_main_v22]
  simp only [v19_at, v45_at x0 x1 x2 x3, v47_at x0 x1 x2 x3]
  split
  · rw [show g.val * 256 + (128 + d.val) = g.val * 256 + d.val + 128 by omega]
  · rw [show g.val * 256 + (128 + (d.val - 128)) = g.val * 256 + d.val by omega, show g.val * 256 + (d.val - 128) = g.val * 256 + d.val - 128 by omega]

theorem v97_at (r : Fin 4096) (g : Fin 4) (d : Fin 256) :
    val_main_v97 (F := Ideal) x0 x1 x2 x3 (ix4 0 r g d) = (args x0 x1 x2 x3).rot 3 r (g.val * 256 + d.val) * Ideal.ofBits .f32 0x3D800000#32 := by
  unfold Prj.rot
  rw [show (g.val * 256 + d.val) % 256 = d.val by omega]
  pointwise [val_main_v97, val_main_v96, val_main_v95, val_main_v94, val_main_v93, val_main_v92, val_main_v91, val_main_v90, val_main_v89, val_main_v88, val_main_v87,
    val_main_v86, val_main_v85, val_main_v84, val_main_v83, val_main_v82, val_main_v80, val_main_v62, val_main_v23, val_main_cst_10,
    show val_main_v79 (F := Ideal) = val_main_v45 (F := Ideal) from rfl, show val_main_v81 (F := Ideal) = val_main_v47 (F := Ideal) from rfl]
  simp only [v19_at, v45_at x0 x1 x2 x3, v47_at x0 x1 x2 x3]
  split
  · rw [show g.val * 256 + (128 + d.val) = g.val * 256 + d.val + 128 by omega]
  · rw [show g.val * 256 + (128 + (d.val - 128)) = g.val * 256 + d.val by omega, show g.val * 256 + (d.val - 128) = g.val * 256 + d.val - 128 by omega]

theorem v98_at (r : Fin 4096) (j : Fin 1024) : val_main_v98 (F := Ideal) x0 x1 x2 x3 (ix2 r j) = (args x0 x1 x2 x3).rot 2 r j := by
  pointwise [val_main_v98]
  refine (v61_at x0 x1 x2 x3 _ _ _).trans ?_
  exact congrArg _ (show j.val / 256 * 256 + j.val % 256 = j.val by omega)

theorem v99_at (r : Fin 4096) (j : Fin 1024) :
    val_main_v99 (F := Ideal) x0 x1 x2 x3 (ix2 r j) = (args x0 x1 x2 x3).rot 3 r j * Ideal.ofBits .f32 0x3D800000#32 := by
  pointwise [val_main_v99]
  refine (v97_at x0 x1 x2 x3 _ _ _).trans ?_
  exact congrArg (fun q => (args x0 x1 x2 x3).rot 3 r q * _) (show j.val / 256 * 256 + j.val % 256 = j.val by omega)

/-- The first result: the slots. -/
theorem v109_at (s : Fin 8) (r : Fin 4096) (j : Fin 1024) : val_main_v109 (F := Ideal) x0 x1 x2 x3 (ix3 s r j) = (args x0 x1 x2 x3).out s r j := by
  match s with
  | 0 =>
    pointwise [val_main_v109, val_main_v108, val_main_v100, val_main_v20]
    rw [v19_at]
    exact congrArg _ (show j.val = 0 * 1024 + j.val by omega)
  | 1 =>
    pointwise [val_main_v109, val_main_v108, val_main_v101, val_main_v21]
    exact v19_at x0 x1 x2 x3 _ _
  | 2 =>
    pointwise [val_main_v109, val_main_v108, val_main_v102, val_main_v26]
    exact v19_at x0 x1 x2 x3 _ _
  | 3 =>
    pointwise [val_main_v109, val_main_v108, val_main_v103, val_main_v27]
    exact v19_at x0 x1 x2 x3 _ _
  | 4 =>
    pointwise [val_main_v109, val_main_v108, val_main_v104]
    exact v98_at x0 x1 x2 x3 r j
  | 5 =>
    pointwise [val_main_v109, val_main_v108, val_main_v105]
    exact v99_at x0 x1 x2 x3 r j
  | 6 =>
    pointwise [val_main_v109, val_main_v108, val_main_v106, val_main_v24]
    exact v19_at x0 x1 x2 x3 _ _
  | 7 =>
    pointwise [val_main_v109, val_main_v108, val_main_v107, val_main_v25]
    exact v19_at x0 x1 x2 x3 _ _

/-- The second: the normed rows. -/
theorem v110_at (r : Fin 4096) (k : Fin 1024) : val_main_v110 (F := Ideal) x0 x1 (ix2 r k) = (args x0 x1 x2 x3).h r k := by
  pointwise [val_main_v110]
  exact v13_at x0 x1 x2 x3 r k

end Cert.PfwRef

end
-- ==== Proof.PfwClaim.lean ====
/-
  The projection forward: the reference's frame, and the value claim that joins the two programs' results.
-/
module

public import proofs.«01_k».proof.Defs
public import proofs.«01_k».proof.Proof.PfwValue
public import proofs.«01_k».proof.Proof.PfwRef
public import proofs.«01_k».proof.Proof.Gen.PrjFwd.Frame
public import proofs.«01_k».proof.Proof.Gen.PrjFwdRefIdeal.Run
public import Idealize.ShloMosaic.Lib.Claim
public import Idealize.ShloMosaic.Lib.Quiescent

@[expose] public section

set_option maxRecDepth 16384

noncomputable section

namespace Cert.PfwClaim

open Idealize.ShloMosaic Idealize.ShloMosaic.TcCoe Idealize.SL.Sem Cert.SgfMath Cert.PfwMath

/-- The reference leaves its arguments and the counters. -/
theorem frame_ref : Cert.quiescent_PrjFwdRefIdeal := fun m ρ _ =>
  (θ_run Cert.PrjFwdRefIdeal.defs _ _).mono (fun r h => ⟨fun c => (h c).2.2, sem_eq_zero_of_no_sems (by decide) r.2⟩)
    (Cert.PrjFwdRefIdeal.Value.run (F := Ideal) m ρ)

/-- The kernel's host code computes the reference's tables. -/
theorem table_cos (m : (ℓ : Loc Cert.PrjFwdIdeal.nD Cert.PrjFwdIdeal.τ Cert.PrjFwdIdeal.sig) → Buf (Elt Ideal) ℓ) (c : Dev Cert.PrjFwdIdeal.nD) :
    Cert.PrjFwdIdeal.Gen.V m c Cert.PrjFwdIdeal.main_v20 = Cert.PrjFwdRefIdeal.Read.val_main_v45 (F := Ideal) := by
  unfold Cert.PrjFwdIdeal.Gen.V
  after_reads_simp
  rfl

theorem table_sin (m : (ℓ : Loc Cert.PrjFwdIdeal.nD Cert.PrjFwdIdeal.τ Cert.PrjFwdIdeal.sig) → Buf (Elt Ideal) ℓ) (c : Dev Cert.PrjFwdIdeal.nD) :
    Cert.PrjFwdIdeal.Gen.V m c Cert.PrjFwdIdeal.main_v21 = Cert.PrjFwdRefIdeal.Read.val_main_v47 (F := Ideal) := by
  unfold Cert.PrjFwdIdeal.Gen.V
  after_reads_simp
  rfl

/-- Every memory holds some arguments. -/
theorem at_args (m : (ℓ : Loc Cert.PrjFwdIdeal.nD Cert.PrjFwdIdeal.τ Cert.PrjFwdIdeal.sig) → Buf (Elt Ideal) ℓ) (c : Dev Cert.PrjFwdIdeal.nD) :
    Cert.PfwValue.At (Cert.PfwRef.args (m (c, Cert.PrjFwdIdeal.main_arg0)) (m (c, Cert.PrjFwdIdeal.main_arg1)) (m (c, Cert.PrjFwdIdeal.main_arg2))
      (m (c, Cert.PrjFwdIdeal.main_arg3))) m c where
  x r k := (at2_val (fun (r : Fin 4096) (k : Fin 1024) => (m (c, Cert.PrjFwdIdeal.main_arg0) (ix2 r k) : EReal)) r k).symm
  n k := (at1_val (fun k : Fin 1024 => (m (c, Cert.PrjFwdIdeal.main_arg1) (ix2 0 k) : EReal)) k).symm
  w k j := (at2_val (fun (k : Fin 1024) (j : Fin 8192) => (m (c, Cert.PrjFwdIdeal.main_arg2) (ix3 0 k j) : EReal)) k j).symm
  b j := (at1_val (fun j : Fin 8192 => (m (c, Cert.PrjFwdIdeal.main_arg3) (ix2 0 j) : EReal)) j).symm
  co r d := (congrFun (table_cos m c) _).trans (Cert.PfwRef.v45_at _ _ _ _ r d)
  si r d := (congrFun (table_sin m c) _).trans (Cert.PfwRef.v47_at _ _ _ _ r d)

/-- The kernel's arrays are the reference's. -/
theorem algebraic : Cert.algebraic_PrjFwdIdeal_PrjFwdRefIdeal := by
  intro m g m' g' hpre hagree
  refine ⟨_, _, Cert.PrjFwdIdeal.Value.run_blocks m g, ?_⟩
  refine (θ_run Cert.PrjFwdRefIdeal.defs _ _).mono (fun r h c => ?_) (Cert.PrjFwdRefIdeal.Value.run m' g')
  obtain ⟨h109, h110, hk⟩ := h c
  obtain ⟨a0, a1, a2, a3⟩ := hagree c
  refine ⟨?_, ?_, hk⟩
  · refine h109.trans ((Cert.PrjFwdRefIdeal.Read.val_main_v109_eq _ _).trans ?_)
    rw [a0, a1, a2, a3, Cert.PfwValue.out6 m c _ (at_args m c)]
    funext i
    obtain ⟨s, n, k, rfl⟩ : ∃ s n k, i = ix3 s n k := ⟨_, _, _, eq_ix3 i⟩
    exact Cert.PfwRef.v109_at (m (c, Cert.PrjFwdIdeal.main_arg0)) (m (c, Cert.PrjFwdIdeal.main_arg1)) (m (c, Cert.PrjFwdIdeal.main_arg2))
      (m (c, Cert.PrjFwdIdeal.main_arg3)) s n k
  · refine h110.trans ((Cert.PrjFwdRefIdeal.Read.val_main_v110_eq _ _).trans ?_)
    rw [a0, a1, Cert.PfwValue.out7 m c _ (at_args m c)]
    funext i
    obtain ⟨n, k, rfl⟩ : ∃ n k, i = ix2 n k := ⟨_, _, eq_ix2 i⟩
    exact Cert.PfwRef.v110_at (m (c, Cert.PrjFwdIdeal.main_arg0)) (m (c, Cert.PrjFwdIdeal.main_arg1)) (m (c, Cert.PrjFwdIdeal.main_arg2))
      (m (c, Cert.PrjFwdIdeal.main_arg3)) n k

end Cert.PfwClaim

end
-- ==== Proof.HidFrame.lean ====
/-
  The frame of the reference of the feed-forward block's forward pass and hidden gradients.
-/
module

public import proofs.«01_k».proof.Defs
public import proofs.«01_k».proof.Proof.Gen.HidRefIdeal.Run
public import Idealize.ShloMosaic.Lib.Claim
public import Idealize.ShloMosaic.Lib.Quiescent

@[expose] public section

set_option maxRecDepth 16384

noncomputable section

namespace Cert.HidFrame

open Idealize.ShloMosaic Idealize.ShloMosaic.TcCoe Idealize.SL.Sem

/-- The reference leaves its arguments and the counters. -/
theorem frame_ref : Cert.quiescent_HidRefIdeal := fun m ρ _ =>
  (θ_run Cert.HidRefIdeal.defs _ _).mono (fun r h => ⟨fun c => (h c).2.2.2.2.2.2.2, sem_eq_zero_of_no_sems (by decide) r.2⟩)
    (Cert.HidRefIdeal.Value.run (F := Ideal) m ρ)

end Cert.HidFrame

end
-- ==== Proof.HidPay.lean ====
/-
  The feed-forward block's two kernels: what each stores, as a function of the blocks it reads. A kernel walks the 2816
  columns in eleven slices of 256 and stores each array slice by slice; the slices are read here as one array.
-/
module

public import proofs.«01_k».proof.Proof.Reals
public import proofs.«01_k».proof.Proof.Gen.HidIdeal.Frame
public import proofs.«01_k».proof.Proof.SguPoint
public import Idealize.ShloMosaic.Lib.Pipeline.ValueKit

@[expose] public section

set_option maxRecDepth 16384

noncomputable section

namespace Cert.HidPay
open Cert.HidIdeal Cert.HidIdeal.Gen Idealize.ShloMosaic Idealize.ShloMosaic.TcCoe Cert.Reals

/-- The blocks of a grid point: token rows, the norm's weight, a matrix with its columns as rows. -/
abbrev BX : Type := S512x1024.Idx → EReal
abbrev BN : Type := S1x1024.Idx → EReal
abbrev BW : Type := S2816x1024.Idx → EReal

/-- The normed rows times a matrix. -/
def pre (x : BX) (n : BN) (w : BW) (r : Fin 512) (f : Fin 2816) : EReal :=
  ∑ k : Fin 1024, k0_pay1 (F := Ideal) x n (ix2 r k) * w (ix2 f k)

/-- The gated value. -/
def act (x : BX) (n : BN) (wg wu : BW) (r : Fin 512) (f : Fin 2816) : EReal :=
  pre x n wg r f * Ideal.logistic (pre x n wg r f) * pre x n wu r f

/-- The block's rows: the residual sum. -/
def res (x : BX) (n : BN) (wg wu wd : BW) (r : Fin 512) (k : Fin 1024) : EReal :=
  x (ix2 r k) + Ideal.ofBits .f32 1056964608#32 * ∑ f : Fin 2816, act x n wg wu r f * wd (ix2 f k)

/-- The gated value's gradient. -/
def hid (x : BX) (w : BW) (r : Fin 512) (f : Fin 2816) : EReal := ∑ k : Fin 1024, x (ix2 r k) * w (ix2 f k)

/-- A block of the wide arrays. -/
abbrev BF : Type := S512x2816.Idx → EReal

/-- The value's gradient. -/
def dup (x : BX) (g : BF) (w : BW) (r : Fin 512) (f : Fin 2816) : EReal :=
  hid x w r f * (g (ix2 r f) * Ideal.logistic (g (ix2 r f)))

/-- The gate's gradient. -/
def dgate (x : BX) (g u : BF) (w : BW) (r : Fin 512) (f : Fin 2816) : EReal :=
  hid x w r f * u (ix2 r f) * (Ideal.logistic (g (ix2 r f)) + g (ix2 r f) * Ideal.logistic (g (ix2 r f))
    - g (ix2 r f) * Ideal.logistic (g (ix2 r f)) * Ideal.logistic (g (ix2 r f)))

/-- A slice's index, among all the columns. -/
theorem emb_col (o : ℕ) (inb : ∀ i : Fin 2, (![0, o] : Fin 2 → ℕ) i + (![512, 256] : Fin 2 → ℕ) i ≤ S512x2816.size i)
    (r : Fin 512) (l : Fin 256) (h : o + (l : ℕ) < 2816) :
    (Rect.unit (s := S512x2816) ![0, o] ![512, 256] inb).emb (ix2 r l) = ix2 r ⟨o + l, h⟩ := by
  refine funext fun i => Fin.ext ?_
  fin_cases i
  · show 0 + 1 * (r : ℕ) = r
    omega
  · show o + 1 * (l : ℕ) = o + l
    omega

/-- Column `l` of the slice that starts at `o`. -/
def col (o : ℕ) (l : Fin 256) (h : o + 256 ≤ 2816) : Fin 2816 := ⟨o + l, by omega⟩

/-- A sum over all columns, slice by slice in the order the kernel adds them. -/
theorem sum_eleven (g : Fin 11 → EReal) : ∑ j, g j = g 0 + g 1 + g 2 + g 3 + g 4 + g 5 + g 6 + g 7 + g 8 + g 9 + g 10 := by
  simp only [Fin.sum_univ_castSucc, Fin.sum_univ_zero, zero_add]
  rfl

theorem sum_cols (f : Fin 2816 → EReal) : ∑ k, f k =
    (∑ l : Fin 256, f ⟨l, by omega⟩)
      + (∑ l, f (col 256 l (by decide)))
      + (∑ l, f (col 512 l (by decide)))
      + (∑ l, f (col 768 l (by decide)))
      + (∑ l, f (col 1024 l (by decide)))
      + (∑ l, f (col 1280 l (by decide)))
      + (∑ l, f (col 1536 l (by decide)))
      + (∑ l, f (col 1792 l (by decide)))
      + (∑ l, f (col 2048 l (by decide)))
      + (∑ l, f (col 2304 l (by decide)))
      + (∑ l, f (col 2560 l (by decide))) := by
  rw [Fin.sum_univ_tiles 11 256 rfl]
  refine (sum_eleven _).trans ?_
  refine congrArg₂ _ (congrArg₂ _ (congrArg₂ _ (congrArg₂ _ (congrArg₂ _ (congrArg₂ _ (congrArg₂ _ (congrArg₂ _ (congrArg₂ _
    (congrArg₂ _ ?_ rfl) rfl) rfl) rfl) rfl) rfl) rfl) rfl) rfl) rfl
  exact Finset.sum_congr rfl fun l _ => congrArg f (Fin.ext (by simp))

/-- A slice that holds `G` on its columns, at an index of the slice. -/
theorem piece_col (G : Fin 512 → Fin 2816 → EReal) (o : ℕ) (ho : o + 256 ≤ 2816)
    (inb : ∀ i : Fin 2, (![0, o] : Fin 2 → ℕ) i + (![512, 256] : Fin 2 → ℕ) i ≤ S512x2816.size i)
    (p : S512x256.Idx → EReal) (h : ∀ r l, p (ix2 r l) = G r (col o l ho)) (q : S512x256.Idx) :
    p q = (fun y : S512x2816.Idx => G (y 0) (y 1)) ((Rect.unit (s := S512x2816) ![0, o] ![512, 256] inb).emb q) := by
  obtain ⟨r, l, rfl⟩ : ∃ r l, q = ix2 r l := ⟨_, _, eq_ix2 q⟩
  rw [h, emb_col o inb r l (by omega)]
  rfl

/-- Eleven stored slices that each hold `G` on their columns are `G`. -/
theorem canon_cols (G : Fin 512 → Fin 2816 → EReal)
    (p0 p1 p2 p3 p4 p5 p6 p7 p8 p9 p10 : S512x256.Idx → EReal)
    (h0 : ∀ r (l : Fin 256), p0 (ix2 r l) = G r ⟨l, by omega⟩)
    (h1 : ∀ r l, p1 (ix2 r l) = G r (col 256 l (by decide)))
    (h2 : ∀ r l, p2 (ix2 r l) = G r (col 512 l (by decide)))
    (h3 : ∀ r l, p3 (ix2 r l) = G r (col 768 l (by decide)))
    (h4 : ∀ r l, p4 (ix2 r l) = G r (col 1024 l (by decide)))
    (h5 : ∀ r l, p5 (ix2 r l) = G r (col 1280 l (by decide)))
    (h6 : ∀ r l, p6 (ix2 r l) = G r (col 1536 l (by decide)))
    (h7 : ∀ r l, p7 (ix2 r l) = G r (col 1792 l (by decide)))
    (h8 : ∀ r l, p8 (ix2 r l) = G r (col 2048 l (by decide)))
    (h9 : ∀ r l, p9 (ix2 r l) = G r (col 2304 l (by decide)))
    (h10 : ∀ r l, p10 (ix2 r l) = G r (col 2560 l (by decide))) :
    View.canon (Val := Elt Ideal) (e := .bf16) (s := S512x2816)
     [⟨Rect.unit ![0, 2560] ![512, 256] inb_S512x2816_S512x256_0_2560, p10⟩,
      ⟨Rect.unit ![0, 2304] ![512, 256] inb_S512x2816_S512x256_0_2304, p9⟩,
      ⟨Rect.unit ![0, 2048] ![512, 256] inb_S512x2816_S512x256_0_2048, p8⟩,
      ⟨Rect.unit ![0, 1792] ![512, 256] inb_S512x2816_S512x256_0_1792, p7⟩,
      ⟨Rect.unit ![0, 1536] ![512, 256] inb_S512x2816_S512x256_0_1536, p6⟩,
      ⟨Rect.unit ![0, 1280] ![512, 256] inb_S512x2816_S512x256_0_1280, p5⟩,
      ⟨Rect.unit ![0, 1024] ![512, 256] inb_S512x2816_S512x256_0_1024, p4⟩,
      ⟨Rect.unit ![0, 768] ![512, 256] inb_S512x2816_S512x256_0_768, p3⟩,
      ⟨Rect.unit ![0, 512] ![512, 256] inb_S512x2816_S512x256_0_512, p2⟩,
      ⟨Rect.unit ![0, 256] ![512, 256] inb_S512x2816_S512x256_0_256, p1⟩,
      ⟨Rect.unit ![0, 0] ![512, 256] inb_S512x2816_S512x256_0_0, p0⟩] =
      fun y => G (y 0) (y 1) := by
  funext y
  refine View.canon_apply_of_pieces (Val := Elt Ideal) (e := .bf16) (fun y : S512x2816.Idx => G (y 0) (y 1)) _ ?_ y ?_
  · intro p hp
    fin_cases hp
    · exact piece_col G 2560 (by decide) inb_S512x2816_S512x256_0_2560 p10 h10
    · exact piece_col G 2304 (by decide) inb_S512x2816_S512x256_0_2304 p9 h9
    · exact piece_col G 2048 (by decide) inb_S512x2816_S512x256_0_2048 p8 h8
    · exact piece_col G 1792 (by decide) inb_S512x2816_S512x256_0_1792 p7 h7
    · exact piece_col G 1536 (by decide) inb_S512x2816_S512x256_0_1536 p6 h6
    · exact piece_col G 1280 (by decide) inb_S512x2816_S512x256_0_1280 p5 h5
    · exact piece_col G 1024 (by decide) inb_S512x2816_S512x256_0_1024 p4 h4
    · exact piece_col G 768 (by decide) inb_S512x2816_S512x256_0_768 p3 h3
    · exact piece_col G 512 (by decide) inb_S512x2816_S512x256_0_512 p2 h2
    · exact piece_col G 256 (by decide) inb_S512x2816_S512x256_0_256 p1 h1
    · exact piece_col G 0 (by decide) inb_S512x2816_S512x256_0_0 p0 (fun r l => (h0 r l).trans (congrArg (G r) (Fin.ext (Nat.zero_add _).symm)))
  · obtain ⟨r, f, rfl⟩ : ∃ r f, y = ix2 r f := ⟨_, _, eq_ix2 y⟩
    simp only [List.exists_mem_cons_iff, Rect.mem_set_unit, Fin.forall_fin_two]
    have := f.isLt
    have := r.isLt
    simp
    omega

variable (V : (c : Dev nD) → (b : Ref sig .tc) → Buf (Elt Ideal) ((c : Thread nD τ).loc b)) (c : Dev nD)

/-- The forward kernel's five outputs after a point: gate, value, gated value, normed rows, residual sum. -/
theorem out6 (t : Fin cfg0.N) : (outsAt0 V c t).2.1 =
    fun y => pre (iblk0 V c 0 t) (iblk0 V c 1 t) (iblk0 V c 2 t) (y 0) (y 1) := by
  unfold outsAt0
  frame_out
  refine canon_cols (pre (iblk0 V c 0 t) (iblk0 V c 1 t) (iblk0 V c 2 t)) _ _ _ _ _ _ _ _ _ _ _ ?_ ?_ ?_ ?_ ?_ ?_ ?_ ?_ ?_ ?_ ?_ <;> intro r l
  all_goals
    pointwise [
    k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65,
    k0_pay66, k0_pay67, k0_pay68, k0_pay69, k0_pay70]
    rfl

theorem out7 (t : Fin cfg0.N) : (outsAt0 V c t).2.2.1 = fun y => pre (iblk0 V c 0 t) (iblk0 V c 1 t) (iblk0 V c 3 t) (y 0) (y 1) := by
  unfold outsAt0
  frame_out
  refine canon_cols (pre (iblk0 V c 0 t) (iblk0 V c 1 t) (iblk0 V c 3 t)) _ _ _ _ _ _ _ _ _ _ _ ?_ ?_ ?_ ?_ ?_ ?_ ?_ ?_ ?_ ?_ ?_ <;> intro r l
  all_goals
    pointwise [
    k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65,
    k0_pay66, k0_pay67, k0_pay68, k0_pay69, k0_pay70]
    rfl

theorem out8 (t : Fin cfg0.N) : (outsAt0 V c t).2.2.2.1 = fun y => act (iblk0 V c 0 t) (iblk0 V c 1 t) (iblk0 V c 2 t) (iblk0 V c 3 t) (y 0) (y 1) := by
  unfold outsAt0
  frame_out
  refine canon_cols (act (iblk0 V c 0 t) (iblk0 V c 1 t) (iblk0 V c 2 t) (iblk0 V c 3 t)) _ _ _ _ _ _ _ _ _ _ _ ?_ ?_ ?_ ?_ ?_ ?_ ?_ ?_ ?_ ?_ ?_ <;> intro r l
  all_goals
    pointwise [
    k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65,
    k0_pay66, k0_pay67, k0_pay68, k0_pay69, k0_pay70]
    rfl

theorem out9 (t : Fin cfg0.N) : (outsAt0 V c t).2.2.2.2 = k0_pay1 (iblk0 V c 0 t) (iblk0 V c 1 t) := by
  unfold outsAt0
  frame_out

theorem out5 (t : Fin cfg0.N) : (outsAt0 V c t).1 = fun y => res (iblk0 V c 0 t) (iblk0 V c 1 t) (iblk0 V c 2 t) (iblk0 V c 3 t) (iblk0 V c 4 t) (y 0) (y 1) := by
  unfold outsAt0
  frame_out
  funext y
  obtain ⟨r, k, rfl⟩ : ∃ r k, y = ix2 r k := ⟨_, _, eq_ix2 y⟩
  show _ = res (iblk0 V c 0 t) (iblk0 V c 1 t) (iblk0 V c 2 t) (iblk0 V c 3 t) (iblk0 V c 4 t) r k
  rw [res, sum_cols]
  pointwise [
    k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65,
    k0_pay66, k0_pay67, k0_pay68, k0_pay69, k0_pay70]
  rfl

/-- The backward kernel's two outputs. -/
theorem bwd4 (x0 : BX) (x1 x2 : BF) (x3 : BW) : out1_4 (F := Ideal) x0 x1 x2 x3 = fun y => dgate x0 x1 x2 x3 (y 0) (y 1) := by
  unfold out1_4
  frame_out
  refine canon_cols (dgate x0 x1 x2 x3) _ _ _ _ _ _ _ _ _ _ _ ?_ ?_ ?_ ?_ ?_ ?_ ?_ ?_ ?_ ?_ ?_ <;> intro r l
  all_goals
    pointwise [
      k1_pay1, k1_pay2, k1_pay3, k1_pay4, k1_pay5, k1_pay6, k1_pay7, k1_pay8, k1_pay9, k1_pay10, k1_pay11, k1_pay12,
      k1_pay13, k1_pay14, k1_pay15, k1_pay16, k1_pay17, k1_pay18, k1_pay19, k1_pay20, k1_pay21, k1_pay22, k1_pay23,
      k1_pay24, k1_pay25, k1_pay26, k1_pay27, k1_pay28, k1_pay29, k1_pay30, k1_pay31, k1_pay32, k1_pay33, k1_pay34,
      k1_pay35, k1_pay36, k1_pay37, k1_pay38, k1_pay39, k1_pay40, k1_pay41, k1_pay42, k1_pay43, k1_pay44, k1_pay45,
      k1_pay46, k1_pay47, k1_pay48, k1_pay49, k1_pay50, k1_pay51, k1_pay52, k1_pay53, k1_pay54, k1_pay55, k1_pay56,
      k1_pay57, k1_pay58, k1_pay59, k1_pay60, k1_pay61, k1_pay62, k1_pay63, k1_pay64, k1_pay65, k1_pay66, k1_pay67,
      k1_pay68, k1_pay69, k1_pay70, k1_pay71, k1_pay72, k1_pay73, k1_pay74, k1_pay75, k1_pay76, k1_pay77, k1_pay78]
    rfl

theorem bwd5 (x0 : BX) (x1 x2 : BF) (x3 : BW) : out1_5 (F := Ideal) x0 x1 x2 x3 = fun y => dup x0 x1 x3 (y 0) (y 1) := by
  unfold out1_5
  frame_out
  refine canon_cols (dup x0 x1 x3) _ _ _ _ _ _ _ _ _ _ _ ?_ ?_ ?_ ?_ ?_ ?_ ?_ ?_ ?_ ?_ ?_ <;> intro r l
  all_goals
    pointwise [
      k1_pay1, k1_pay2, k1_pay3, k1_pay4, k1_pay5, k1_pay6, k1_pay7, k1_pay8, k1_pay9, k1_pay10, k1_pay11, k1_pay12,
      k1_pay13, k1_pay14, k1_pay15, k1_pay16, k1_pay17, k1_pay18, k1_pay19, k1_pay20, k1_pay21, k1_pay22, k1_pay23,
      k1_pay24, k1_pay25, k1_pay26, k1_pay27, k1_pay28, k1_pay29, k1_pay30, k1_pay31, k1_pay32, k1_pay33, k1_pay34,
      k1_pay35, k1_pay36, k1_pay37, k1_pay38, k1_pay39, k1_pay40, k1_pay41, k1_pay42, k1_pay43, k1_pay44, k1_pay45,
      k1_pay46, k1_pay47, k1_pay48, k1_pay49, k1_pay50, k1_pay51, k1_pay52, k1_pay53, k1_pay54, k1_pay55, k1_pay56,
      k1_pay57, k1_pay58, k1_pay59, k1_pay60, k1_pay61, k1_pay62, k1_pay63, k1_pay64, k1_pay65, k1_pay66, k1_pay67,
      k1_pay68, k1_pay69, k1_pay70, k1_pay71, k1_pay72, k1_pay73, k1_pay74, k1_pay75, k1_pay76, k1_pay77, k1_pay78]
    rfl

end Cert.HidPay
end
-- ==== Proof.HidMath.lean ====
/-
  The feed-forward block on one row of extended reals: its norm, the two products, the SiLU gate, the product back and the
  residual sum, and the gradients of the two products' results. Both the kernels and the reference are read as these.
-/
module

public import proofs.«01_k».proof.Proof.Reals

@[expose] public section

noncomputable section

namespace Cert.HidMath

open Idealize.ShloMosaic Cert.Reals

/-- The row, its cotangent, the norm's weight and the three matrices. -/
structure Row where
  x : Fin 1024 → EReal
  n : Fin 1024 → EReal
  wg : Fin 1024 → Fin 2816 → EReal
  wu : Fin 1024 → Fin 2816 → EReal
  wd : Fin 2816 → Fin 1024 → EReal
  ct : Fin 1024 → EReal

namespace Row

variable (R : Row)

/-- The reciprocal root of the row's mean of squares. -/
def root : EReal :=
  Ideal.rsqrt (Ideal.div (∑ j, R.x j * R.x j) (Ideal.ofBits .f32 1149239296#32) + Ideal.ofBits .f32 897988541#32)

/-- The normed and weighted row. -/
def h (k : Fin 1024) : EReal := R.x k * R.root * R.n k

/-- The gate's and the value's products. -/
def g (f : Fin 2816) : EReal := ∑ k, R.h k * R.wg k f
def u (f : Fin 2816) : EReal := ∑ k, R.h k * R.wu k f

/-- The gate. -/
def s (f : Fin 2816) : EReal := Ideal.logistic (R.g f)

/-- The gated value. -/
def a (f : Fin 2816) : EReal := R.g f * R.s f * R.u f

/-- The block's row. -/
def y (k : Fin 1024) : EReal := R.x k + Ideal.ofBits .f32 1056964608#32 * ∑ f, R.a f * R.wd f k

/-- The gated value's gradient. -/
def da (f : Fin 2816) : EReal := ∑ k, R.ct k * R.wd f k

/-- The value's gradient. -/
def du (f : Fin 2816) : EReal := R.da f * (R.g f * R.s f)

/-- The gate's gradient, as the kernel multiplies it. -/
def dg (f : Fin 2816) : EReal := R.da f * R.u f * (R.s f + R.g f * R.s f - R.g f * R.s f * R.s f)

/-- The gate's gradient as the derivative of `g * logistic g` gives it: once from each factor. -/
def dgRef (f : Fin 2816) : EReal :=
  R.da f * R.u f * R.s f + R.g f * (R.da f * R.u f) * (R.s f * (1 - R.s f))

end Row

/-! ## Real entries -/

/-- The extended real is a real. -/
def IsReal (z : EReal) : Prop := ∃ r : ℝ, z = (r : EReal)

theorem IsReal.mul {a b : EReal} : IsReal a → IsReal b → IsReal (a * b) := by
  rintro ⟨a, rfl⟩ ⟨b, rfl⟩
  exact ⟨a * b, (EReal.coe_mul a b).symm⟩

theorem IsReal.sum {n : ℕ} {f : Fin n → EReal} (h : ∀ i, IsReal (f i)) : IsReal (∑ i, f i) := by
  choose r hr using h
  exact ⟨∑ i, r i, by simp only [hr, ← coe_sum]⟩

/-- A row with a finite weight is normed to a row of reals: an infinite entry makes the reciprocal root zero. -/
theorem isReal_h (R : Row) (hn : ∀ k, IsReal (R.n k)) (k : Fin 1024) : IsReal (R.h k) := by
  refine IsReal.mul ?_ (hn k)
  by_cases hx : ∀ j, IsReal (R.x j)
  · choose r hr using hx
    refine IsReal.mul ⟨_, hr k⟩ ?_
    unfold Row.root
    simp only [hr, lit_1024, lit_eps, ← EReal.coe_mul, ← coe_sum, div_1024, ← EReal.coe_add, rsqrt_row]
    exact ⟨_, rfl⟩
  · obtain ⟨j, hj⟩ := not_forall.mp hx
    have hj' : R.x j * R.x j = ⊤ := by
      induction hz : R.x j using EReal.rec with
      | bot => rfl
      | top => rfl
      | coe r => exact absurd ⟨r, hz⟩ hj
    have h0 : ∀ i ∈ (Finset.univ : Finset (Fin 1024)), 0 ≤ R.x i * R.x i := fun i _ => by
      induction R.x i using EReal.rec with
      | bot => exact le_top
      | top => exact le_top
      | coe r => rw [← EReal.coe_mul]; exact_mod_cast mul_self_nonneg r
    have hs : ∑ i, R.x i * R.x i = ⊤ := top_le_iff.mp (hj' ▸ Finset.single_le_sum h0 (Finset.mem_univ j))
    have hr : R.root = 0 := by
      unfold Row.root
      rw [hs, lit_1024, lit_eps, Ideal.div_coe (by norm_num), EReal.top_mul_coe_of_pos (by norm_num), EReal.top_add_coe, Ideal.rsqrt_top]
    exact ⟨0, by rw [hr, mul_zero]; rfl⟩

/-- The two ways of writing the gate's gradient agree for finite weights, matrices and cotangent. -/
theorem dg_eq (R : Row) (hn : ∀ k, IsReal (R.n k)) (hg : ∀ k f, IsReal (R.wg k f)) (hu : ∀ k f, IsReal (R.wu k f))
    (hd : ∀ f k, IsReal (R.wd f k)) (hc : ∀ k, IsReal (R.ct k)) (f : Fin 2816) : R.dgRef f = R.dg f := by
  obtain ⟨G, hG⟩ : IsReal (R.g f) := IsReal.sum fun k => (isReal_h R hn k).mul (hg k f)
  obtain ⟨U, hU⟩ : IsReal (R.u f) := IsReal.sum fun k => (isReal_h R hn k).mul (hu k f)
  obtain ⟨D, hD⟩ : IsReal (R.da f) := IsReal.sum fun k => (hc k).mul (hd f k)
  unfold Row.dgRef Row.dg Row.s
  rw [hG, hU, hD, Ideal.logistic_coe]
  simp only [← EReal.coe_one, ← EReal.coe_mul, ← EReal.coe_add, ← EReal.coe_sub]
  congr 1
  ring

end Cert.HidMath

end
-- ==== Proof.HidHost.lean ====
/-
  The feed-forward block's two kernels on their arrays: what the host code prepares, the blocks a grid point sees, and the
  seven stored arrays, each row by row as the functions of `HidMath`.
-/
module

public import proofs.«01_k».proof.Proof.HidPay
public import proofs.«01_k».proof.Proof.HidMath
public import Idealize.ShloMosaic.Lib.StableHlo.ReadAt

@[expose] public section

set_option maxRecDepth 16384

noncomputable section

namespace Cert.HidHost

open Cert.HidIdeal Cert.HidIdeal.Gen Idealize.ShloMosaic Idealize.ShloMosaic.TcCoe Cert.HidMath Cert.HidPay

variable (m : (ℓ : Loc nD τ sig) → Buf (Elt Ideal) ℓ) (ρ : Dev nD → PrngReg) (c : Dev nD)

/-- Row `n` of the arguments. -/
def row (n : Fin 4096) : Row where
  x := fun k => m (c, main_arg0) (ix2 n k : S4096x1024.Idx)
  n := fun k => m (c, main_arg1) (ix2 0 k : S1x1024.Idx)
  wg := fun k f => m (c, main_arg2) (ix3 0 k f : S1x1024x2816.Idx)
  wu := fun k f => m (c, main_arg3) (ix3 0 k f : S1x1024x2816.Idx)
  wd := fun f k => m (c, main_arg4) (ix3 0 f k : S1x2816x1024.Idx)
  ct := fun k => m (c, main_arg5) (ix2 n k : S4096x1024.Idx)

/-- The block at block row `r` is the row `R`. -/
structure Fwd (R : Row) (r : Fin 512) (x : BX) (n : BN) (wg wu wd : BW) : Prop where
  x : ∀ k, x (ix2 r k) = R.x k
  n : ∀ k, n (ix2 0 k) = R.n k
  wg : ∀ f k, wg (ix2 f k) = R.wg k f
  wu : ∀ f k, wu (ix2 f k) = R.wu k f
  wd : ∀ f k, wd (ix2 f k) = R.wd f k

namespace Fwd

variable {R : Row} {r : Fin 512} {x : BX} {n : BN} {wg wu wd : BW} (h : Fwd R r x n wg wu wd)

include h in
theorem h_eq (k : Fin 1024) : k0_pay1 (F := Ideal) x n (ix2 r k) = R.h k := by
  pointwise [k0_pay1]
  simp only [h.x, h.n]
  rfl

include h in
theorem g_eq (f : Fin 2816) : pre x n wg r f = R.g f := by
  unfold pre Row.g
  simp only [h.h_eq, h.wg]

include h in
theorem u_eq (f : Fin 2816) : pre x n wu r f = R.u f := by
  unfold pre Row.u
  simp only [h.h_eq, h.wu]

include h in
theorem a_eq (f : Fin 2816) : act x n wg wu r f = R.a f := by
  unfold act
  rw [h.g_eq, h.u_eq]
  rfl

include h in
theorem y_eq (k : Fin 1024) : res x n wg wu wd r k = R.y k := by
  unfold res
  simp only [h.a_eq, h.wd, h.x]
  rfl

end Fwd

/-- The backward kernel's block at block row `r` is the row `R` and its saved gate and value. -/
structure Bwd (R : Row) (r : Fin 512) (x : BX) (g u : BF) (wd : BW) : Prop where
  ct : ∀ k, x (ix2 r k) = R.ct k
  g : ∀ f, g (ix2 r f) = R.g f
  u : ∀ f, u (ix2 r f) = R.u f
  wd : ∀ f k, wd (ix2 f k) = R.wd f k

namespace Bwd

variable {R : Row} {r : Fin 512} {x : BX} {g u : BF} {wd : BW} (h : Bwd R r x g u wd)

include h in
theorem da_eq (f : Fin 2816) : hid x wd r f = R.da f := by
  unfold hid Row.da
  simp only [h.ct, h.wd]

include h in
theorem du_eq (f : Fin 2816) : dup x g wd r f = R.du f := by
  unfold dup
  rw [h.da_eq, h.g]
  rfl

include h in
theorem dg_eq (f : Fin 2816) : dgate x g u wd r f = R.dg f := by
  unfold dgate
  rw [h.da_eq, h.g, h.u]
  rfl

end Bwd

/-! ## The host arrays -/

theorem rd0 (n : Fin 4096) (k : Fin 1024) : V1 m ρ c main_arg0 (ix2 n k : S4096x1024.Idx) = (row m c n).x k :=
  congrFun (W1_args m ρ c main_arg0 (by decide)) _
theorem rd1 (k : Fin 1024) : V1 m ρ c main_arg1 (ix2 0 k : S1x1024.Idx) = (row m c 0).n k :=
  congrFun (W1_args m ρ c main_arg1 (by decide)) _
theorem rd2 (f : Fin 2816) (k : Fin 1024) : V1 m ρ c main_v2 (ix2 f k : S2816x1024.Idx) = (row m c 0).wg k f := by
  unfold V1 W1
  after_reads_at
  rfl
theorem rd5 (f : Fin 2816) (k : Fin 1024) : V1 m ρ c main_v5 (ix2 f k : S2816x1024.Idx) = (row m c 0).wu k f := by
  unfold V1 W1
  after_reads_at
  rfl
theorem rd7 (f : Fin 2816) (k : Fin 1024) : V1 m ρ c main_v7 (ix2 f k : S2816x1024.Idx) = (row m c 0).wd f k := by
  unfold V1 W1
  after_reads_at
  rfl

/-- Row `r` of point `t`'s blocks, among all the rows. -/
abbrev tok (t : Fin 8) (r : Fin 512) : Fin 4096 := ⟨t.val * 512 + r.val, by omega⟩

/-! ## The forward kernel -/

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![0, 0] := by decide +kernel
theorem idx0_4 : ∀ t : Fin grid0.N, win0_4.index t = ![0, 0] := by decide +kernel
theorem idx0_5 : ∀ t : Fin grid0.N, win0_5.index t = ![t.val, 0] := by decide +kernel
theorem idx0_6 : ∀ t : Fin grid0.N, win0_6.index t = ![t.val, 0] := by decide +kernel
theorem idx0_7 : ∀ t : Fin grid0.N, win0_7.index t = ![t.val, 0] := by decide +kernel
theorem idx0_8 : ∀ t : Fin grid0.N, win0_8.index t = ![t.val, 0] := by decide +kernel
theorem idx0_9 : ∀ t : Fin grid0.N, win0_9.index t = ![t.val, 0] := by decide +kernel

section
variable (V : (c : Dev nD) → (b : Ref sig .tc) → Buf (Elt Ideal) ((c : Thread nD τ).loc b))

theorem blk0_0 (t : Fin cfg0.N) (r : Fin 512) (k : Fin 1024) :
    iblk0 V c 0 t (ix2 r k : S512x1024.Idx) = V c main_arg0 (ix2 (tok t r) k : S4096x1024.Idx) := by
  blk_ext [iblk0, idx0_0 t]
theorem blk0_1 (t : Fin cfg0.N) (k : Fin 1024) :
    iblk0 V c 1 t (ix2 0 k : S1x1024.Idx) = V c main_arg1 (ix2 0 k : S1x1024.Idx) := by
  blk_ext [iblk0, idx0_1 t]
theorem blk0_2 (t : Fin cfg0.N) (f : Fin 2816) (k : Fin 1024) :
    iblk0 V c 2 t (ix2 f k : S2816x1024.Idx) = V c main_v2 (ix2 f k : S2816x1024.Idx) := by
  blk_ext [iblk0, idx0_2 t]
theorem blk0_3 (t : Fin cfg0.N) (f : Fin 2816) (k : Fin 1024) :
    iblk0 V c 3 t (ix2 f k : S2816x1024.Idx) = V c main_v5 (ix2 f k : S2816x1024.Idx) := by
  blk_ext [iblk0, idx0_3 t]
theorem blk0_4 (t : Fin cfg0.N) (f : Fin 2816) (k : Fin 1024) :
    iblk0 V c 4 t (ix2 f k : S2816x1024.Idx) = V c main_v7 (ix2 f k : S2816x1024.Idx) := by
  blk_ext [iblk0, idx0_4 t]

end

/-- A point's blocks are the rows of the arguments. -/
theorem fwd (t : Fin cfg0.N) (r : Fin 512) : Fwd (row m c (tok t r)) r (iblk0 (V1 m ρ) c 0 t) (iblk0 (V1 m ρ) c 1 t)
    (iblk0 (V1 m ρ) c 2 t) (iblk0 (V1 m ρ) c 3 t) (iblk0 (V1 m ρ) c 4 t) where
  x k := (blk0_0 c _ t r k).trans (rd0 m ρ c _ k)
  n k := (blk0_1 c _ t k).trans (rd1 m ρ c k)
  wg f k := (blk0_2 c _ t f k).trans (rd2 m ρ c f k)
  wu f k := (blk0_3 c _ t f k).trans (rd5 m ρ c f k)
  wd f k := (blk0_4 c _ t f k).trans (rd7 m ρ c f k)

theorem emb0_5_0 (t : Fin cfg0.N) (y : S512x1024.Idx) : (win0_5.blk t).view.emb y 0 = tok t (y 0) := Fin.ext (by blk_simp [idx0_5 t])
theorem emb0_5_1 (t : Fin cfg0.N) (y : S512x1024.Idx) : (win0_5.blk t).view.emb y 1 = y 1 := Fin.ext (by blk_simp [idx0_5 t])
theorem arr0_5 : (dat0 (V1 m ρ) c).arrAt 5 cfg0.N = fun i : S4096x1024.Idx => (row m c (i 0)).y (i 1) := by
  refine (dat0 (V1 m ρ) c).arrAt_eq_of_covers 5 _ (by decide +kernel) fun t hf y => ?_
  blk_simp
  rw [after0_5, emb0_5_0, emb0_5_1]
  obtain ⟨r, k, rfl⟩ : ∃ r k, y = ix2 r k := ⟨_, _, eq_ix2 y⟩
  exact (congrFun (out5 (V1 m ρ) c t) _).trans ((fwd m ρ c t r).y_eq k)
theorem emb0_6_0 (t : Fin cfg0.N) (y : S512x2816.Idx) : (win0_6.blk t).view.emb y 0 = tok t (y 0) := Fin.ext (by blk_simp [idx0_6 t])
theorem emb0_6_1 (t : Fin cfg0.N) (y : S512x2816.Idx) : (win0_6.blk t).view.emb y 1 = y 1 := Fin.ext (by blk_simp [idx0_6 t])
theorem arr0_6 : (dat0 (V1 m ρ) c).arrAt 6 cfg0.N = fun i : S4096x2816.Idx => (row m c (i 0)).g (i 1) := by
  refine (dat0 (V1 m ρ) c).arrAt_eq_of_covers 6 _ (by decide +kernel) fun t hf y => ?_
  blk_simp
  rw [after0_6, emb0_6_0, emb0_6_1]
  obtain ⟨r, k, rfl⟩ : ∃ r k, y = ix2 r k := ⟨_, _, eq_ix2 y⟩
  exact (congrFun (out6 (V1 m ρ) c t) _).trans ((fwd m ρ c t r).g_eq k)
theorem emb0_7_0 (t : Fin cfg0.N) (y : S512x2816.Idx) : (win0_7.blk t).view.emb y 0 = tok t (y 0) := Fin.ext (by blk_simp [idx0_7 t])
theorem emb0_7_1 (t : Fin cfg0.N) (y : S512x2816.Idx) : (win0_7.blk t).view.emb y 1 = y 1 := Fin.ext (by blk_simp [idx0_7 t])
theorem arr0_7 : (dat0 (V1 m ρ) c).arrAt 7 cfg0.N = fun i : S4096x2816.Idx => (row m c (i 0)).u (i 1) := by
  refine (dat0 (V1 m ρ) c).arrAt_eq_of_covers 7 _ (by decide +kernel) fun t hf y => ?_
  blk_simp
  rw [after0_7, emb0_7_0, emb0_7_1]
  obtain ⟨r, k, rfl⟩ : ∃ r k, y = ix2 r k := ⟨_, _, eq_ix2 y⟩
  exact (congrFun (out7 (V1 m ρ) c t) _).trans ((fwd m ρ c t r).u_eq k)
theorem emb0_8_0 (t : Fin cfg0.N) (y : S512x2816.Idx) : (win0_8.blk t).view.emb y 0 = tok t (y 0) := Fin.ext (by blk_simp [idx0_8 t])
theorem emb0_8_1 (t : Fin cfg0.N) (y : S512x2816.Idx) : (win0_8.blk t).view.emb y 1 = y 1 := Fin.ext (by blk_simp [idx0_8 t])
theorem arr0_8 : (dat0 (V1 m ρ) c).arrAt 8 cfg0.N = fun i : S4096x2816.Idx => (row m c (i 0)).a (i 1) := by
  refine (dat0 (V1 m ρ) c).arrAt_eq_of_covers 8 _ (by decide +kernel) fun t hf y => ?_
  blk_simp
  rw [after0_8, emb0_8_0, emb0_8_1]
  obtain ⟨r, k, rfl⟩ : ∃ r k, y = ix2 r k := ⟨_, _, eq_ix2 y⟩
  exact (congrFun (out8 (V1 m ρ) c t) _).trans ((fwd m ρ c t r).a_eq k)
theorem emb0_9_0 (t : Fin cfg0.N) (y : S512x1024.Idx) : (win0_9.blk t).view.emb y 0 = tok t (y 0) := Fin.ext (by blk_simp [idx0_9 t])
theorem emb0_9_1 (t : Fin cfg0.N) (y : S512x1024.Idx) : (win0_9.blk t).view.emb y 1 = y 1 := Fin.ext (by blk_simp [idx0_9 t])
theorem arr0_9 : (dat0 (V1 m ρ) c).arrAt 9 cfg0.N = fun i : S4096x1024.Idx => (row m c (i 0)).h (i 1) := by
  refine (dat0 (V1 m ρ) c).arrAt_eq_of_covers 9 _ (by decide +kernel) fun t hf y => ?_
  blk_simp
  rw [after0_9, emb0_9_0, emb0_9_1]
  obtain ⟨r, k, rfl⟩ : ∃ r k, y = ix2 r k := ⟨_, _, eq_ix2 y⟩
  exact (congrFun (out9 (V1 m ρ) c t) _).trans ((fwd m ρ c t r).h_eq k)

/-! ## The backward kernel -/

theorem rd9 (n : Fin 4096) (k : Fin 1024) : V3 m ρ c main_v9 (ix2 n k : S4096x1024.Idx) = (row m c n).ct k := by
  unfold V3 W3
  after_reads_at
  exact congrFun (W2_args m ρ c main_arg5 (by decide)) _
theorem rd8_1 (n : Fin 4096) (f : Fin 2816) : V3 m ρ c main_v8_1 (ix2 n f : S4096x2816.Idx) = (row m c n).g f :=
  congrFun ((W3_of m ρ c main_v8_1 (by decide)).trans ((W2_arr m ρ c 6).trans (arr0_6 m ρ c))) _
theorem rd8_2 (n : Fin 4096) (f : Fin 2816) : V3 m ρ c main_v8_2 (ix2 n f : S4096x2816.Idx) = (row m c n).u f :=
  congrFun ((W3_of m ρ c main_v8_2 (by decide)).trans ((W2_arr m ρ c 7).trans (arr0_7 m ρ c))) _

/-- An array the forward kernel does not write, at the backward kernel's entry. -/
theorem kept (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

theorem idx1_0 : ∀ t : Fin grid1.N, win1_0.index t = ![t.val, 0] := by decide +kernel
theorem idx1_1 : ∀ t : Fin grid1.N, win1_1.index t = ![t.val, 0] := by decide +kernel
theorem idx1_2 : ∀ t : Fin grid1.N, win1_2.index t = ![t.val, 0] := by decide +kernel
theorem idx1_3 : ∀ t : Fin grid1.N, win1_3.index t = ![0, 0] := by decide +kernel
theorem idx1_4 : ∀ t : Fin grid1.N, win1_4.index t = ![t.val, 0] := by decide +kernel
theorem idx1_5 : ∀ t : Fin grid1.N, win1_5.index t = ![t.val, 0] := by decide +kernel

section
variable (V : (c : Dev nD) → (b : Ref sig .tc) → Buf (Elt Ideal) ((c : Thread nD τ).loc b))

theorem blk1_0 (t : Fin cfg1.N) (r : Fin 512) (k : Fin 1024) :
    iblk1 V c 0 t (ix2 r k : S512x1024.Idx) = V c main_v9 (ix2 (tok t r) k : S4096x1024.Idx) := by
  blk_ext [iblk1, idx1_0 t]
theorem blk1_1 (t : Fin cfg1.N) (r : Fin 512) (k : Fin 2816) :
    iblk1 V c 1 t (ix2 r k : S512x2816.Idx) = V c main_v8_1 (ix2 (tok t r) k : S4096x2816.Idx) := by
  blk_ext [iblk1, idx1_1 t]
theorem blk1_2 (t : Fin cfg1.N) (r : Fin 512) (k : Fin 2816) :
    iblk1 V c 2 t (ix2 r k : S512x2816.Idx) = V c main_v8_2 (ix2 (tok t r) k : S4096x2816.Idx) := by
  blk_ext [iblk1, idx1_2 t]
theorem blk1_3 (t : Fin cfg1.N) (f : Fin 2816) (k : Fin 1024) :
    iblk1 V c 3 t (ix2 f k : S2816x1024.Idx) = V c main_v7 (ix2 f k : S2816x1024.Idx) := by
  blk_ext [iblk1, idx1_3 t]

end

/-- A point's blocks are the rows of the arguments and of what the forward kernel stored. -/
theorem bwd (t : Fin cfg1.N) (r : Fin 512) : Bwd (row m c (tok t r)) r (iblk1 (V3 m ρ) c 0 t) (iblk1 (V3 m ρ) c 1 t)
    (iblk1 (V3 m ρ) c 2 t) (iblk1 (V3 m ρ) c 3 t) where
  ct k := (blk1_0 c _ t r k).trans (rd9 m ρ c _ k)
  g f := (blk1_1 c _ t r f).trans (rd8_1 m ρ c _ f)
  u f := (blk1_2 c _ t r f).trans (rd8_2 m ρ c _ f)
  wd f k := (blk1_3 c _ t f k).trans ((congrFun (kept m ρ c main_v7 (by decide) (by decide)) _).trans (rd7 m ρ c f k))

theorem emb1_4_0 (t : Fin cfg1.N) (y : S512x2816.Idx) : (win1_4.blk t).view.emb y 0 = tok t (y 0) := Fin.ext (by blk_simp [idx1_4 t])
theorem emb1_4_1 (t : Fin cfg1.N) (y : S512x2816.Idx) : (win1_4.blk t).view.emb y 1 = y 1 := Fin.ext (by blk_simp [idx1_4 t])
theorem arr1_4 : (dat1 (V3 m ρ) c).arrAt 4 cfg1.N = fun i : S4096x2816.Idx => (row m c (i 0)).dg (i 1) := by
  refine (dat1 (V3 m ρ) c).arrAt_eq_of_covers 4 _ (by decide +kernel) fun t hf y => ?_
  blk_simp
  rw [after1_4, emb1_4_0, emb1_4_1]
  obtain ⟨r, k, rfl⟩ : ∃ r k, y = ix2 r k := ⟨_, _, eq_ix2 y⟩
  exact (congrFun (bwd4 _ _ _ _) _).trans ((bwd m ρ c t r).dg_eq k)
theorem emb1_5_0 (t : Fin cfg1.N) (y : S512x2816.Idx) : (win1_5.blk t).view.emb y 0 = tok t (y 0) := Fin.ext (by blk_simp [idx1_5 t])
theorem emb1_5_1 (t : Fin cfg1.N) (y : S512x2816.Idx) : (win1_5.blk t).view.emb y 1 = y 1 := Fin.ext (by blk_simp [idx1_5 t])
theorem arr1_5 : (dat1 (V3 m ρ) c).arrAt 5 cfg1.N = fun i : S4096x2816.Idx => (row m c (i 0)).du (i 1) := by
  refine (dat1 (V3 m ρ) c).arrAt_eq_of_covers 5 _ (by decide +kernel) fun t hf y => ?_
  blk_simp
  rw [after1_5, emb1_5_0, emb1_5_1]
  obtain ⟨r, k, rfl⟩ : ∃ r k, y = ix2 r k := ⟨_, _, eq_ix2 y⟩
  exact (congrFun (bwd5 _ _ _ _) _).trans ((bwd m ρ c t r).du_eq k)

/-! ## What the last boundary holds at each result -/

theorem fin8_0 : W4 m ρ c (Proc.devRef .tc main_v8_0) = fun i : S4096x1024.Idx => (row m c (i 0)).y (i 1) :=
  (W4_of m ρ c main_v8_0 (by decide)).trans ((W3_of m ρ c main_v8_0 (by decide)).trans ((W2_arr m ρ c 5).trans (arr0_5 m ρ c)))
theorem fin8_1 : W4 m ρ c (Proc.devRef .tc main_v8_1) = fun i : S4096x2816.Idx => (row m c (i 0)).g (i 1) :=
  (W4_of m ρ c main_v8_1 (by decide)).trans ((W3_of m ρ c main_v8_1 (by decide)).trans ((W2_arr m ρ c 6).trans (arr0_6 m ρ c)))
theorem fin8_2 : W4 m ρ c (Proc.devRef .tc main_v8_2) = fun i : S4096x2816.Idx => (row m c (i 0)).u (i 1) :=
  (W4_of m ρ c main_v8_2 (by decide)).trans ((W3_of m ρ c main_v8_2 (by decide)).trans ((W2_arr m ρ c 7).trans (arr0_7 m ρ c)))
theorem fin8_3 : W4 m ρ c (Proc.devRef .tc main_v8_3) = fun i : S4096x2816.Idx => (row m c (i 0)).a (i 1) :=
  (W4_of m ρ c main_v8_3 (by decide)).trans ((W3_of m ρ c main_v8_3 (by decide)).trans ((W2_arr m ρ c 8).trans (arr0_8 m ρ c)))
theorem fin8_4 : W4 m ρ c (Proc.devRef .tc main_v8_4) = fun i : S4096x1024.Idx => (row m c (i 0)).h (i 1) :=
  (W4_of m ρ c main_v8_4 (by decide)).trans ((W3_of m ρ c main_v8_4 (by decide)).trans ((W2_arr m ρ c 9).trans (arr0_9 m ρ c)))
theorem fin10_0 : W4 m ρ c (Proc.devRef .tc main_v10_0) = fun i : S4096x2816.Idx => (row m c (i 0)).dg (i 1) :=
  (W4_arr m ρ c 4).trans (arr1_4 m ρ c)
theorem fin10_1 : W4 m ρ c (Proc.devRef .tc main_v10_1) = fun i : S4096x2816.Idx => (row m c (i 0)).du (i 1) :=
  (W4_arr m ρ c 5).trans (arr1_5 m ρ c)

end Cert.HidHost

end
-- ==== Proof.HidRun.lean ====
/-
  The feed-forward block's two kernels run to the end: the final memory at the results and at the arguments.
-/
module

public import proofs.«01_k».proof.Proof.HidHost

@[expose] public section

set_option maxRecDepth 16384

noncomputable section

namespace Cert.HidRun

open Cert.HidIdeal Cert.HidIdeal.Gen Cert.HidHost Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the results at the last boundary's contents and the arguments as they were: the launch over the
    four segments, its last thread state read at each result and each argument. -/
theorem run : θ_run defs (onTc (τ := τ) (main (F := F))) ⟨m, fun _ => 0, ρ⟩ (fun r => ∀ c : Dev nD,
      r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_v8_2) = W4 m ρ c (Proc.devRef .tc main_v8_2)
      ∧ r.2.mem ((c.tc : Thread nD τ).loc main_v8_3) = W4 m ρ c (Proc.devRef .tc main_v8_3)
      ∧ r.2.mem ((c.tc : Thread nD τ).loc main_v8_4) = W4 m ρ c (Proc.devRef .tc main_v8_4)
      ∧ r.2.mem ((c.tc : Thread nD τ).loc main_v10_0) = W4 m ρ c (Proc.devRef .tc main_v10_0)
      ∧ r.2.mem ((c.tc : Thread nD τ).loc main_v10_1) = W4 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v8_0 (by decide)),
       h c _ (mem_uc main_v8_1 (by decide)),
       h c _ (mem_uc main_v8_2 (by decide)),
       h c _ (mem_uc main_v8_3 (by decide)),
       h c _ (mem_uc main_v8_4 (by decide)),
       h c _ (mem_uc main_v10_0 (by decide)),
       h c _ (mem_uc main_v10_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.HidRun

end
-- ==== Proof.HidRef.lean ====
/-
  The feed-forward block's reference: its results at an index, as the row functions of `HidMath`.
-/
module

public import proofs.«01_k».proof.Proof.HidMath
public import proofs.«01_k».proof.Proof.Gen.HidRefIdeal.Read
public import Idealize.ShloMosaic.Lib.Pipeline.ValueKit

@[expose] public section

set_option maxRecDepth 16384

noncomputable section

namespace Cert.HidRef

open Cert.HidRefIdeal Cert.HidRefIdeal.Read Idealize.ShloMosaic Cert.Reals Cert.HidMath

variable (x : S4096x1024.Idx → EReal) (n : S1x1024.Idx → EReal) (wg wu : S1x1024x2816.Idx → EReal) (wd : S1x2816x1024.Idx → EReal)
  (ct : S4096x1024.Idx → EReal)

/-- Row `r` of the arguments. -/
def row (r : Fin 4096) : Row where
  x := fun k => x (ix2 r k)
  n := fun k => n (ix2 0 k)
  wg := fun k f => wg (ix3 0 k f)
  wu := fun k f => wu (ix3 0 k f)
  wd := fun f k => wd (ix3 0 f k)
  ct := fun k => ct (ix2 r k)

theorem v8_at (r : Fin 4096) (z : Fin 1) : val_main_v8 (F := Ideal) x (ix2 r z) = (row x n wg wu wd ct r).root := by
  pointwise [val_main_v8, val_main_v7, val_main_v6, val_main_v5, val_main_v4, val_main_v3, val_main_v2, val_main_v1, val_main_cst,
    val_main_cst_0, val_main_cst_1]
  rfl

/-- The normed and weighted row. -/
theorem v13_at (r : Fin 4096) (k : Fin 1024) : val_main_v13 (F := Ideal) x n (ix2 r k) = (row x n wg wu wd ct r).h k := by
  pointwise [val_main_v13, val_main_v12, val_main_v11, val_main_v10, val_main_v9, val_main_v0]
  rw [v8_at x n wg wu wd ct]
  rfl

/-- The gate's and the value's products. -/
theorem v15_at (r : Fin 4096) (f : Fin 2816) : val_main_v15 (F := Ideal) x n wg (ix2 r f) = (row x n wg wu wd ct r).g f := by
  pointwise [val_main_v15, val_main_v14]
  simp only [v13_at x n wg wu wd ct]
  rfl

theorem v17_at (r : Fin 4096) (f : Fin 2816) : val_main_v17 (F := Ideal) x n wu (ix2 r f) = (row x n wg wu wd ct r).u f := by
  pointwise [val_main_v17, val_main_v16]
  simp only [v13_at x n wg wu wd ct]
  rfl

/-- The gate. -/
theorem v18_2_at (r : Fin 4096) (f : Fin 2816) : val_main_v18_2 (F := Ideal) x n wg (ix2 r f) = (row x n wg wu wd ct r).s f := by
  pointwise [val_main_v18_2, val_main_call0_v4, val_main_call0_v3, val_main_call0_v2, val_main_call0_v1, val_main_call0_v0,
    val_main_call0_cst, val_main_call0_cst_0]
  rw [v15_at x n wg wu wd ct]
  rfl

/-- The SiLU, and the gated value. -/
theorem v18_0_at (r : Fin 4096) (f : Fin 2816) : val_main_v18_0 (F := Ideal) x n wg (ix2 r f)
    = (row x n wg wu wd ct r).g f * (row x n wg wu wd ct r).s f := by
  pointwise [val_main_v18_0]
  rw [v15_at x n wg wu wd ct, v18_2_at x n wg wu wd ct]

theorem v19_at (r : Fin 4096) (f : Fin 2816) : val_main_v19 (F := Ideal) x n wg wu (ix2 r f) = (row x n wg wu wd ct r).a f := by
  pointwise [val_main_v19]
  rw [v18_0_at x n wg wu wd ct, v17_at x n wg wu wd ct]
  rfl

/-- The gated value's gradient. -/
theorem v22_at (r : Fin 4096) (f : Fin 2816) : val_main_v22 (F := Ideal) wd ct (ix2 r f) = (row x n wg wu wd ct r).da f := by
  pointwise [val_main_v22, val_main_v20]
  rfl

/-! ## The results -/

theorem v30_at (r : Fin 4096) (k : Fin 1024) : val_main_v30 (F := Ideal) x n wg wu wd (ix2 r k) = (row x n wg wu wd ct r).y k := by
  pointwise [val_main_v30, val_main_v29, val_main_v28, val_main_v27, val_main_v26, val_main_cst_2]
  simp only [v19_at x n wg wu wd ct]
  rfl

theorem v31_at (r : Fin 4096) (f : Fin 2816) : val_main_v31 (F := Ideal) x n wg (ix2 r f) = (row x n wg wu wd ct r).g f := by
  pointwise [val_main_v31]
  exact v15_at x n wg wu wd ct r f

theorem v32_at (r : Fin 4096) (f : Fin 2816) : val_main_v32 (F := Ideal) x n wu (ix2 r f) = (row x n wg wu wd ct r).u f := by
  pointwise [val_main_v32]
  exact v17_at x n wg wu wd ct r f

theorem v33_at (r : Fin 4096) (f : Fin 2816) : val_main_v33 (F := Ideal) x n wg wu (ix2 r f) = (row x n wg wu wd ct r).a f := by
  pointwise [val_main_v33]
  exact v19_at x n wg wu wd ct r f

theorem v34_at (r : Fin 4096) (k : Fin 1024) : val_main_v34 (F := Ideal) x n (ix2 r k) = (row x n wg wu wd ct r).h k := by
  pointwise [val_main_v34]
  exact v13_at x n wg wu wd ct r k

theorem v36_at (r : Fin 4096) (f : Fin 2816) : val_main_v36 (F := Ideal) x n wg wd ct (ix2 r f) = (row x n wg wu wd ct r).du f := by
  pointwise [val_main_v36, val_main_v23]
  rw [v18_0_at x n wg wu wd ct, v22_at x n wg wu wd ct]
  exact mul_comm _ _

theorem v35_at (r : Fin 4096) (f : Fin 2816) : val_main_v35 (F := Ideal) x n wg wu wd ct (ix2 r f) = (row x n wg wu wd ct r).dgRef f := by
  pointwise [val_main_v35, val_main_v25, val_main_call1_v1, val_main_call1_v2, val_main_call1_v0, val_main_v24, val_main_v18_1, val_main_call0_v7,
    val_main_call0_v6, val_main_call0_cst_1]
  rw [v18_2_at x n wg wu wd ct, v15_at x n wg wu wd ct, v17_at x n wg wu wd ct, v22_at x n wg wu wd ct]
  rfl

end Cert.HidRef

end
-- ==== Proof.HidClaim.lean ====
/-
  The claims of the feed-forward block's forward call and of its hidden gradients: the frames, and the value claim that joins
  the two kernels' seven arrays to the reference's.
-/
module

public import proofs.«01_k».proof.Defs
public import proofs.«01_k».proof.Proof.HidFrame
public import proofs.«01_k».proof.Proof.HidRun
public import proofs.«01_k».proof.Proof.HidRef
public import Idealize.ShloMosaic.Lib.Pointwise.Select
public import Idealize.ShloMosaic.Lib.Claim

@[expose] public section

set_option maxRecDepth 16384

noncomputable section

namespace Cert.HidClaim

open Idealize.ShloMosaic Idealize.ShloMosaic.TcCoe Idealize.SL.Sem Cert.Reals Cert.HidMath

/-- The predicate's shape relations. -/
theorem preFacts : Cert.Pre_finite5.Facts := ⟨by decide, by decide, by decide, by decide⟩

instance : Cert.Pre_finite5.Facts := preFacts

/-- An array below infinity in absolute value has real entries. -/
theorem isReal_of_lt {ι : Type} {x : ι → EReal} (h : ∀ i, max (x i) (-x i) < ⊤) (i : ι) : IsReal (x i) := by
  obtain ⟨X, hX⟩ := exists_real h
  exact ⟨X i, congrFun hX i⟩

/-- For a finite weight, matrices and cotangent the two ways of writing the gate's gradient agree. -/
theorem gate (m : (ℓ : Loc Cert.HidIdeal.nD Cert.HidIdeal.τ Cert.HidIdeal.sig) → Buf (Elt Ideal) ℓ)
    (h : Cert.Pre_HidIdeal_finite5 m) (c : Dev Cert.HidIdeal.nD) (r : Fin 4096) (f : Fin 2816) :
    (HidHost.row m c r).dgRef f = (HidHost.row m c r).dg f := by
  obtain ⟨h1, h2, h3, h4, h5⟩ := h c
  have r1 := isReal_of_lt (x := m ((c.tc : Thread Cert.HidIdeal.nD Cert.HidIdeal.τ).loc Cert.HidIdeal.main_arg1)) fun i => by
    rw [← lit_inf]
    exact (Ideal.cmp_olt_eq_one _ _).mp (congrFun h1 i)
  have r2 := isReal_of_lt (x := m ((c.tc : Thread Cert.HidIdeal.nD Cert.HidIdeal.τ).loc Cert.HidIdeal.main_arg2)) fun i => by
    rw [← lit_inf]
    exact (Ideal.cmp_olt_eq_one _ _).mp (congrFun h2 i)
  have r3 := isReal_of_lt (x := m ((c.tc : Thread Cert.HidIdeal.nD Cert.HidIdeal.τ).loc Cert.HidIdeal.main_arg3)) fun i => by
    rw [← lit_inf]
    exact (Ideal.cmp_olt_eq_one _ _).mp (congrFun h3 i)
  have r4 := isReal_of_lt (x := m ((c.tc : Thread Cert.HidIdeal.nD Cert.HidIdeal.τ).loc Cert.HidIdeal.main_arg4)) fun i => by
    rw [← lit_inf]
    exact (Ideal.cmp_olt_eq_one _ _).mp (congrFun h4 i)
  have r5 := isReal_of_lt (x := m ((c.tc : Thread Cert.HidIdeal.nD Cert.HidIdeal.τ).loc Cert.HidIdeal.main_arg5)) fun i => by
    rw [← lit_inf]
    exact (Ideal.cmp_olt_eq_one _ _).mp (congrFun h5 i)
  exact dg_eq _ (fun k => r1 _) (fun k f => r2 _) (fun k f => r3 _) (fun f k => r4 _) (fun k => r5 _) f

/-- The kernels' arrays are the reference's. -/
theorem algebraic : Cert.algebraic_HidIdeal_HidRefIdeal_pre_finite5 := by
  intro m g m' g' hpre hagree
  refine ⟨_, _, _, _, _, _, _, Cert.HidRun.run m g, ?_⟩
  refine (θ_run Cert.HidRefIdeal.defs _ _).mono (fun r h c => ?_) (Cert.HidRefIdeal.Value.run m' g')
  obtain ⟨h30, h31, h32, h33, h34, h35, h36, hk⟩ := h c
  obtain ⟨a0, a1, a2, a3, a4, a5⟩ := hagree c
  refine ⟨?_, ?_, ?_, ?_, ?_, ?_, ?_, hk⟩
  · refine h30.trans ((Cert.HidRefIdeal.Read.val_main_v30_eq _ _ _ _ _).trans ?_)
    rw [a0, a1, a2, a3, a4, HidHost.fin8_0 m g c]
    funext i
    obtain ⟨p, q, rfl⟩ : ∃ p q, i = ix2 p q := ⟨_, _, eq_ix2 i⟩
    exact HidRef.v30_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q
  · refine h31.trans ((Cert.HidRefIdeal.Read.val_main_v31_eq _ _ _).trans ?_)
    rw [a0, a1, a2, HidHost.fin8_1 m g c]
    funext i
    obtain ⟨p, q, rfl⟩ : ∃ p q, i = ix2 p q := ⟨_, _, eq_ix2 i⟩
    exact HidRef.v31_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q
  · refine h32.trans ((Cert.HidRefIdeal.Read.val_main_v32_eq _ _ _).trans ?_)
    rw [a0, a1, a3, HidHost.fin8_2 m g c]
    funext i
    obtain ⟨p, q, rfl⟩ : ∃ p q, i = ix2 p q := ⟨_, _, eq_ix2 i⟩
    exact HidRef.v32_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q
  · refine h33.trans ((Cert.HidRefIdeal.Read.val_main_v33_eq _ _ _ _).trans ?_)
    rw [a0, a1, a2, a3, HidHost.fin8_3 m g c]
    funext i
    obtain ⟨p, q, rfl⟩ : ∃ p q, i = ix2 p q := ⟨_, _, eq_ix2 i⟩
    exact HidRef.v33_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q
  · refine h34.trans ((Cert.HidRefIdeal.Read.val_main_v34_eq _ _).trans ?_)
    rw [a0, a1, HidHost.fin8_4 m g c]
    funext i
    obtain ⟨p, q, rfl⟩ : ∃ p q, i = ix2 p q := ⟨_, _, eq_ix2 i⟩
    exact HidRef.v34_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q
  · refine h35.trans ((Cert.HidRefIdeal.Read.val_main_v35_eq _ _).trans ?_)
    rw [a0, a1, a2, a3, a4, a5, HidHost.fin10_0 m g c]
    funext i
    obtain ⟨p, q, rfl⟩ : ∃ p q, i = ix2 p q := ⟨_, _, eq_ix2 i⟩
    exact (HidRef.v35_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q).trans (gate m hpre c p q)
  · refine h36.trans ((Cert.HidRefIdeal.Read.val_main_v36_eq _ _ _ _ _).trans ?_)
    rw [a0, a1, a2, a4, a5, HidHost.fin10_1 m g c]
    funext i
    obtain ⟨p, q, rfl⟩ : ∃ p q, i = ix2 p q := ⟨_, _, eq_ix2 i⟩
    exact HidRef.v36_at (m (c, Cert.HidIdeal.main_arg0)) (m (c, Cert.HidIdeal.main_arg1)) (m (c, Cert.HidIdeal.main_arg2)) (m (c, Cert.HidIdeal.main_arg3)) (m (c, Cert.HidIdeal.main_arg4)) (m (c, Cert.HidIdeal.main_arg5)) p q

end Cert.HidClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.KernelIdeal.Value
public import proofs.«01_k».proof.Proof.Gen.LossIdeal.Value
public import proofs.«01_k».proof.Proof.Gen.ReferenceIdeal.Value
public import proofs.«01_k».proof.Proof.Gen.LossRefIdeal.Run
public import proofs.«01_k».proof.Proof.Gen.LossRefIdeal.Read
public import proofs.«01_k».proof.Proof.SguFrame
public import proofs.«01_k».proof.Proof.SguClaim
public import proofs.«01_k».proof.Proof.LossClaim
public import proofs.«01_k».proof.Proof.Gen.Ret
public import proofs.«01_k».proof.Proof.Gen.Ret.Skeleton
public import proofs.«01_k».proof.Proof.Gen.Ret.Loops
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Loops
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal.Run
public import proofs.«01_k».proof.Proof.Gen.RetRefIdeal.Read
public import proofs.«01_k».proof.Proof.RetClaim
public import proofs.«01_k».proof.Proof.MergeClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal.Run
public import proofs.«01_k».proof.Proof.Gen.MergeRefIdeal.Read
public import proofs.«01_k».proof.Proof.Gen.MergeRefIdeal
public import proofs.«01_k».proof.Proof.FfnClaim
public import proofs.«01_k».proof.Proof.PrjClaim
public import proofs.«01_k».proof.Proof.SgfClaim
public import proofs.«01_k».proof.Proof.PfwClaim
public import proofs.«01_k».proof.Proof.HidClaim
public import proofs.«01_k».proof.Proof.Gen.Hid
public import proofs.«01_k».proof.Proof.Gen.Hid.Skeleton
public import proofs.«01_k».proof.Proof.Gen.Hid.Launch
public import proofs.«01_k».proof.Proof.Gen.Hid.Points
public import proofs.«01_k».proof.Proof.Gen.Hid.Frame
public import proofs.«01_k».proof.Proof.Gen.HidIdeal
public import proofs.«01_k».proof.Proof.Gen.HidIdeal.Skeleton
public import proofs.«01_k».proof.Proof.Gen.HidIdeal.Launch
public import proofs.«01_k».proof.Proof.Gen.HidIdeal.Points
public import proofs.«01_k».proof.Proof.Gen.HidIdeal.Frame
public import proofs.«01_k».proof.Proof.Gen.HidRefIdeal
public import proofs.«01_k».proof.Proof.Gen.HidRefIdeal.Run
public import proofs.«01_k».proof.Proof.Gen.HidRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnIdeal.Value
public import proofs.«01_k».proof.Proof.Gen.Prj
public import proofs.«01_k».proof.Proof.Gen.Prj.Skeleton
public import proofs.«01_k».proof.Proof.Gen.Prj.Launch
public import proofs.«01_k».proof.Proof.Gen.Prj.Points
public import proofs.«01_k».proof.Proof.Gen.Prj.Frame
public import proofs.«01_k».proof.Proof.Gen.PrjIdeal
public import proofs.«01_k».proof.Proof.Gen.PrjIdeal.Skeleton
public import proofs.«01_k».proof.Proof.Gen.PrjIdeal.Launch
public import proofs.«01_k».proof.Proof.Gen.PrjIdeal.Points
public import proofs.«01_k».proof.Proof.Gen.PrjIdeal.Frame
public import proofs.«01_k».proof.Proof.Gen.PrjRefIdeal
public import proofs.«01_k».proof.Proof.Gen.PrjRefIdeal.Run
public import proofs.«01_k».proof.Proof.Gen.PrjRefIdeal.Read
public import proofs.«01_k».proof.Proof.Gen.PrjIdeal.Value
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.Gen.SguFwdIdeal.Value
public import proofs.«01_k».proof.Proof.Gen.PrjFwd
public import proofs.«01_k».proof.Proof.Gen.PrjFwd.Skeleton
public import proofs.«01_k».proof.Proof.Gen.PrjFwd.Launch
public import proofs.«01_k».proof.Proof.Gen.PrjFwd.Points
public import proofs.«01_k».proof.Proof.Gen.PrjFwd.Frame
public import proofs.«01_k».proof.Proof.Gen.PrjFwdIdeal
public import proofs.«01_k».proof.Proof.Gen.PrjFwdIdeal.Skeleton
public import proofs.«01_k».proof.Proof.Gen.PrjFwdIdeal.Launch
public import proofs.«01_k».proof.Proof.Gen.PrjFwdIdeal.Points
public import proofs.«01_k».proof.Proof.Gen.PrjFwdIdeal.Frame
public import proofs.«01_k».proof.Proof.Gen.PrjFwdRefIdeal
public import proofs.«01_k».proof.Proof.Gen.PrjFwdRefIdeal.Run
public import proofs.«01_k».proof.Proof.Gen.PrjFwdRefIdeal.Read
public import proofs.«01_k».proof.Proof.Gen.PrjFwdIdeal.Value
public import Idealize.ShloMosaic.Adequacy
public import Idealize.ShloMosaic.Init

@[expose] public section

noncomputable section

namespace Cert.Proof

open Idealize.ShloMosaic Idealize.SL.Sem Cert.Kernel

/-- The certificate: each program's frame, the named constants, and the value claims. -/
theorem claim : Cert.Claim :=
  ⟨Cert.Kernel.Gen.facts, Cert.KernelIdeal.Gen.facts, Cert.ReferenceIdeal.Gen.facts, Cert.Loss.Gen.facts, Cert.LossIdeal.Gen.facts,
    Cert.LossRefIdeal.Gen.facts, Cert.Ret.Gen.facts, Cert.RetIdeal.Gen.facts, Cert.RetRefIdeal.Gen.facts,
    Cert.Merge.Gen.facts, Cert.MergeIdeal.Gen.facts, Cert.MergeRefIdeal.Gen.facts,
    Cert.Hid.Gen.facts, Cert.HidIdeal.Gen.facts, Cert.HidRefIdeal.Gen.facts,
    Cert.Ffn.Gen.facts, Cert.FfnIdeal.Gen.facts, Cert.FfnRefIdeal.Gen.facts,
    Cert.Prj.Gen.facts, Cert.PrjIdeal.Gen.facts, Cert.PrjRefIdeal.Gen.facts,
    Cert.SguFwd.Gen.facts, Cert.SguFwdIdeal.Gen.facts, Cert.SguFwdRefIdeal.Gen.facts,
    Cert.PrjFwd.Gen.facts, Cert.PrjFwdIdeal.Gen.facts, Cert.PrjFwdRefIdeal.Gen.facts,
    SguClaim.preFacts, LossClaim.preFacts, RetClaim.preFacts, HidClaim.preFacts, FfnClaim.preFacts, PrjClaim.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Loss.Gen.frame m ρ, fun m ρ _ => Cert.LossIdeal.Gen.frame m ρ,
    fun m ρ _ => Cert.LossIdeal.Gen.frame m ρ, LossClaim.frame_ref, fun m ρ _ => LossClaim.frame_ref m ρ trivial,
    RetClaim.frame_bits, RetClaim.frame_ideal, fun m ρ _ => RetClaim.frame_ideal m ρ trivial, RetClaim.frame_ref,
    fun m ρ _ => RetClaim.frame_ref m ρ trivial,
    fun m ρ _ => Cert.Merge.Gen.frame m ρ, fun m ρ _ => Cert.MergeIdeal.Gen.frame m ρ, MergeClaim.frame_ref,
    fun m ρ _ => Cert.Hid.Gen.frame m ρ, fun m ρ _ => Cert.HidIdeal.Gen.frame m ρ, fun m ρ _ => Cert.HidIdeal.Gen.frame m ρ,
    HidFrame.frame_ref, fun m ρ _ => HidFrame.frame_ref m ρ trivial,
    fun m ρ _ => Cert.Ffn.Gen.frame m ρ, fun m ρ _ => Cert.FfnIdeal.Gen.frame m ρ, fun m ρ _ => Cert.FfnIdeal.Gen.frame m ρ,
    FfnClaim.frame_ref, fun m ρ _ => FfnClaim.frame_ref m ρ trivial,
    fun m ρ _ => Cert.Prj.Gen.frame m ρ, fun m ρ _ => Cert.PrjIdeal.Gen.frame m ρ, fun m ρ _ => Cert.PrjIdeal.Gen.frame m ρ,
    PrjClaim.frame_ref, fun m ρ _ => PrjClaim.frame_ref m ρ trivial,
    fun m ρ _ => Cert.SguFwd.Gen.frame m ρ, fun m ρ _ => Cert.SguFwdIdeal.Gen.frame m ρ, SgfClaim.frame_ref,
    fun m ρ _ => Cert.PrjFwd.Gen.frame m ρ, fun m ρ _ => Cert.PrjFwdIdeal.Gen.frame m ρ, PfwClaim.frame_ref,
    SguFrame.preserves, SguClaim.algebraic, trivial, LossClaim.algebraic, trivial, RetClaim.algebraic, trivial,
    MergeClaim.algebraic, trivial, HidClaim.algebraic, trivial, FfnClaim.algebraic, trivial, PrjClaim.algebraic,
    trivial, SgfClaim.algebraic, trivial, PfwClaim.algebraic⟩

end Cert.Proof

end
